-- ==== Defs.lean ====
def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Dmixed (m : (ℓ : Loc Cert.Dmixed.nD Cert.Dmixed.τ Cert.Dmixed.sig) → Buf (Elt Bits) ℓ) : Prop :=
  True

def Pre_DmixedIdeal (m : (ℓ : Loc Cert.DmixedIdeal.nD Cert.DmixedIdeal.τ Cert.DmixedIdeal.sig) → Buf (Elt Ideal) ℓ) : Prop :=
  True

def Pre_DmixedRefIdeal (m : (ℓ : Loc Cert.DmixedRefIdeal.nD Cert.DmixedRefIdeal.τ Cert.DmixedRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sib (m : (ℓ : Loc Cert.Sib.nD Cert.Sib.τ Cert.Sib.sig) → Buf (Elt Bits) ℓ) : Prop :=
  True

def Pre_SibIdeal (m : (ℓ : Loc Cert.SibIdeal.nD Cert.SibIdeal.τ Cert.SibIdeal.sig) → Buf (Elt Ideal) ℓ) : Prop :=
  True

def Pre_SibRefIdeal (m : (ℓ : Loc Cert.SibRefIdeal.nD Cert.SibRefIdeal.τ Cert.SibRefIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsRefIdeal (m : (ℓ : Loc Cert.ChipsRefIdeal.nD Cert.ChipsRefIdeal.τ Cert.ChipsRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3)
      ∧ r.2.mem ((c.tc : Thread Cert.Dh2.nD Cert.Dh2.τ).loc Cert.Dh2.main_arg4) = m ((c.tc : Thread Cert.Dh2.nD Cert.Dh2.τ).loc Cert.Dh2.main_arg4))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
      ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3)
      ∧ r.2.mem ((c.tc : Thread Cert.Dh2RefIdeal.nD Cert.Dh2RefIdeal.τ).loc Cert.Dh2RefIdeal.main_arg4) = m ((c.tc : Thread Cert.Dh2RefIdeal.nD Cert.Dh2RefIdeal.τ).loc Cert.Dh2RefIdeal.main_arg4))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Dmixed [hDmixed : Cert.Dmixed.Facts] : Prop :=
  ∀ (m : (ℓ : Loc Cert.Dmixed.nD Cert.Dmixed.τ Cert.Dmixed.sig) → Buf (Elt Bits) ℓ) (g : Dev Cert.Dmixed.nD → PrngReg), Pre_Dmixed m →
    θ_run (Cert.Dmixed.defs (F := Bits)) (onTc (τ := Cert.Dmixed.τ) (Cert.Dmixed.main (F := Bits))) ⟨m, fun _ => 0, g⟩ (fun r => (∀ c : Dev Cert.Dmixed.nD,
      r.2.mem ((c.tc : Thread Cert.Dmixed.nD Cert.Dmixed.τ).loc Cert.Dmixed.main_arg0) = m ((c.tc : Thread Cert.Dmixed.nD Cert.Dmixed.τ).loc Cert.Dmixed.main_arg0)
      ∧ r.2.mem ((c.tc : Thread Cert.Dmixed.nD Cert.Dmixed.τ).loc Cert.Dmixed.main_arg1) = m ((c.tc : Thread Cert.Dmixed.nD Cert.Dmixed.τ).loc Cert.Dmixed.main_arg1))
      ∧ r.2.sem = fun _ => 0)

def quiescent_DmixedIdeal [hDmixedIdeal : Cert.DmixedIdeal.Facts] : Prop :=
  ∀ (m : (ℓ : Loc Cert.DmixedIdeal.nD Cert.DmixedIdeal.τ Cert.DmixedIdeal.sig) → Buf (Elt Ideal) ℓ) (g : Dev Cert.DmixedIdeal.nD → PrngReg), Pre_DmixedIdeal m →
    θ_run (Cert.DmixedIdeal.defs (F := Ideal)) (onTc (τ := Cert.DmixedIdeal.τ) (Cert.DmixedIdeal.main (F := Ideal))) ⟨m, fun _ => 0, g⟩ (fun r => (∀ c : Dev Cert.DmixedIdeal.nD,
      r.2.mem ((c.tc : Thread Cert.DmixedIdeal.nD Cert.DmixedIdeal.τ).loc Cert.DmixedIdeal.main_arg0) = m ((c.tc : Thread Cert.DmixedIdeal.nD Cert.DmixedIdeal.τ).loc Cert.DmixedIdeal.main_arg0)
      ∧ r.2.mem ((c.tc : Thread Cert.DmixedIdeal.nD Cert.DmixedIdeal.τ).loc Cert.DmixedIdeal.main_arg1) = m ((c.tc : Thread Cert.DmixedIdeal.nD Cert.DmixedIdeal.τ).loc Cert.DmixedIdeal.main_arg1))
      ∧ r.2.sem = fun _ => 0)

def quiescent_DmixedRefIdeal [hDmixedRefIdeal : Cert.DmixedRefIdeal.Facts] : Prop :=
  ∀ (m : (ℓ : Loc Cert.DmixedRefIdeal.nD Cert.DmixedRefIdeal.τ Cert.DmixedRefIdeal.sig) → Buf (Elt Ideal) ℓ) (g : Dev Cert.DmixedRefIdeal.nD → PrngReg), Pre_DmixedRefIdeal m →
    θ_run (Cert.DmixedRefIdeal.defs (F := Ideal)) (onTc (τ := Cert.DmixedRefIdeal.τ) (Cert.DmixedRefIdeal.main (F := Ideal))) ⟨m, fun _ => 0, g⟩ (fun r => (∀ c : Dev Cert.DmixedRefIdeal.nD,
      r.2.mem ((c.tc : Thread Cert.DmixedRefIdeal.nD Cert.DmixedRefIdeal.τ).loc Cert.DmixedRefIdeal.main_arg0) = m ((c.tc : Thread Cert.DmixedRefIdeal.nD Cert.DmixedRefIdeal.τ).loc Cert.DmixedRefIdeal.main_arg0)
      ∧ r.2.mem ((c.tc : Thread Cert.DmixedRefIdeal.nD Cert.DmixedRefIdeal.τ).loc Cert.DmixedRefIdeal.main_arg1) = m ((c.tc : Thread Cert.DmixedRefIdeal.nD Cert.DmixedRefIdeal.τ).loc Cert.DmixedRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sib [hSib : Cert.Sib.Facts] : Prop :=
  ∀ (m : (ℓ : Loc Cert.Sib.nD Cert.Sib.τ Cert.Sib.sig) → Buf (Elt Bits) ℓ) (g : Dev Cert.Sib.nD → PrngReg), Pre_Sib m →
    θ_run (Cert.Sib.defs (F := Bits)) (onTc (τ := Cert.Sib.τ) (Cert.Sib.main (F := Bits))) ⟨m, fun _ => 0, g⟩ (fun r => (∀ c : Dev Cert.Sib.nD,
      r.2.mem ((c.tc : Thread Cert.Sib.nD Cert.Sib.τ).loc Cert.Sib.main_arg0) = m ((c.tc : Thread Cert.Sib.nD Cert.Sib.τ).loc Cert.Sib.main_arg0)
      ∧ r.2.mem ((c.tc : Thread Cert.Sib.nD Cert.Sib.τ).loc Cert.Sib.main_arg1) = m ((c.tc : Thread Cert.Sib.nD Cert.Sib.τ).loc Cert.Sib.main_arg1))
      ∧ r.2.sem = fun _ => 0)

def quiescent_SibIdeal [hSibIdeal : Cert.SibIdeal.Facts] : Prop :=
  ∀ (m : (ℓ : Loc Cert.SibIdeal.nD Cert.SibIdeal.τ Cert.SibIdeal.sig) → Buf (Elt Ideal) ℓ) (g : Dev Cert.SibIdeal.nD → PrngReg), Pre_SibIdeal m →
    θ_run (Cert.SibIdeal.defs (F := Ideal)) (onTc (τ := Cert.SibIdeal.τ) (Cert.SibIdeal.main (F := Ideal))) ⟨m, fun _ => 0, g⟩ (fun r => (∀ c : Dev Cert.SibIdeal.nD,
      r.2.mem ((c.tc : Thread Cert.SibIdeal.nD Cert.SibIdeal.τ).loc Cert.SibIdeal.main_arg0) = m ((c.tc : Thread Cert.SibIdeal.nD Cert.SibIdeal.τ).loc Cert.SibIdeal.main_arg0)
      ∧ r.2.mem ((c.tc : Thread Cert.SibIdeal.nD Cert.SibIdeal.τ).loc Cert.SibIdeal.main_arg1) = m ((c.tc : Thread Cert.SibIdeal.nD Cert.SibIdeal.τ).loc Cert.SibIdeal.main_arg1))
      ∧ r.2.sem = fun _ => 0)

def quiescent_SibRefIdeal [hSibRefIdeal : Cert.SibRefIdeal.Facts] : Prop :=
  ∀ (m : (ℓ : Loc Cert.SibRefIdeal.nD Cert.SibRefIdeal.τ Cert.SibRefIdeal.sig) → Buf (Elt Ideal) ℓ) (g : Dev Cert.SibRefIdeal.nD → PrngReg), Pre_SibRefIdeal m →
    θ_run (Cert.SibRefIdeal.defs (F := Ideal)) (onTc (τ := Cert.SibRefIdeal.τ) (Cert.SibRefIdeal.main (F := Ideal))) ⟨m, fun _ => 0, g⟩ (fun r => (∀ c : Dev Cert.SibRefIdeal.nD,
      r.2.mem ((c.tc : Thread Cert.SibRefIdeal.nD Cert.SibRefIdeal.τ).loc Cert.SibRefIdeal.main_arg0) = m ((c.tc : Thread Cert.SibRefIdeal.nD Cert.SibRefIdeal.τ).loc Cert.SibRefIdeal.main_arg0)
      ∧ r.2.mem ((c.tc : Thread Cert.SibRefIdeal.nD Cert.SibRefIdeal.τ).loc Cert.SibRefIdeal.main_arg1) = m ((c.tc : Thread Cert.SibRefIdeal.nD Cert.SibRefIdeal.τ).loc Cert.SibRefIdeal.main_arg1))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0)
      ∧ r.2.mem ((c.tc : Thread Cert.Chips.nD Cert.Chips.τ).loc Cert.Chips.main_arg1) = m ((c.tc : Thread Cert.Chips.nD Cert.Chips.τ).loc Cert.Chips.main_arg1)
      ∧ r.2.mem ((c.tc : Thread Cert.Chips.nD Cert.Chips.τ).loc Cert.Chips.main_arg2) = m ((c.tc : Thread Cert.Chips.nD Cert.Chips.τ).loc Cert.Chips.main_arg2))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
      ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
      ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2))
      ∧ r.2.sem = fun _ => 0)

def quiescent_ChipsRefIdeal [hChipsRefIdeal : Cert.ChipsRefIdeal.Facts] : Prop :=
  ∀ (m : (ℓ : Loc Cert.ChipsRefIdeal.nD Cert.ChipsRefIdeal.τ Cert.ChipsRefIdeal.sig) → Buf (Elt Ideal) ℓ) (g : Dev Cert.ChipsRefIdeal.nD → PrngReg), Pre_ChipsRefIdeal m →
    θ_run (Cert.ChipsRefIdeal.defs (F := Ideal)) (onTc (τ := Cert.ChipsRefIdeal.τ) (Cert.ChipsRefIdeal.main (F := Ideal))) ⟨m, fun _ => 0, g⟩ (fun r => (∀ c : Dev Cert.ChipsRefIdeal.nD,
      r.2.mem ((c.tc : Thread Cert.ChipsRefIdeal.nD Cert.ChipsRefIdeal.τ).loc Cert.ChipsRefIdeal.main_arg0) = m ((c.tc : Thread Cert.ChipsRefIdeal.nD Cert.ChipsRefIdeal.τ).loc Cert.ChipsRefIdeal.main_arg0)
      ∧ r.2.mem ((c.tc : Thread Cert.ChipsRefIdeal.nD Cert.ChipsRefIdeal.τ).loc Cert.ChipsRefIdeal.main_arg1) = m ((c.tc : Thread Cert.ChipsRefIdeal.nD Cert.ChipsRefIdeal.τ).loc Cert.ChipsRefIdeal.main_arg1)
      ∧ r.2.mem ((c.tc : Thread Cert.ChipsRefIdeal.nD Cert.ChipsRefIdeal.τ).loc Cert.ChipsRefIdeal.main_arg2) = m ((c.tc : Thread Cert.ChipsRefIdeal.nD Cert.ChipsRefIdeal.τ).loc Cert.ChipsRefIdeal.main_arg2))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0))
      ∧ r.2.sem = fun _ => 0)

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v6)) (v1 : (c : Dev Cert.DactIdeal.nD) → Buf (Elt Ideal) ((c.tc : Thread Cert.DactIdeal.nD Cert.DactIdeal.τ).loc Cert.DactIdeal.main_v7)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v6) = v0 c
          ∧ r.2.mem ((c.tc : Thread Cert.DactIdeal.nD Cert.DactIdeal.τ).loc Cert.DactIdeal.main_v7) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v20) = v0 c
          ∧ r.2.mem ((c.tc : Thread Cert.DactRefIdeal.nD Cert.DactRefIdeal.τ).loc Cert.DactRefIdeal.main_v22) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)) (v2 : (c : Dev Cert.DownIdeal.nD) → Buf (Elt Ideal) ((c.tc : Thread Cert.DownIdeal.nD Cert.DownIdeal.τ).loc Cert.DownIdeal.main_v5_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_v5_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v60) = v0 c
          ∧ r.2.mem ((c.tc : Thread Cert.DownRefIdeal.nD Cert.DownRefIdeal.τ).loc Cert.DownRefIdeal.main_v61) = v1 c
          ∧ r.2.mem ((c.tc : Thread Cert.DownRefIdeal.nD Cert.DownRefIdeal.τ).loc Cert.DownRefIdeal.main_v31) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)
      ∧ m' ((c.tc : Thread Cert.Dh2RefIdeal.nD Cert.Dh2RefIdeal.τ).loc Cert.Dh2RefIdeal.main_arg4) = m ((c.tc : Thread Cert.Dh2Ideal.nD Cert.Dh2Ideal.τ).loc Cert.Dh2Ideal.main_arg4)) →
    ∃ (v0 : (c : Dev Cert.Dh2Ideal.nD) → Buf (Elt Ideal) ((c.tc : Thread Cert.Dh2Ideal.nD Cert.Dh2Ideal.τ).loc Cert.Dh2Ideal.main_v5_0)) (v1 : (c : Dev Cert.Dh2Ideal.nD) → Buf (Elt Ideal) ((c.tc : Thread Cert.Dh2Ideal.nD Cert.Dh2Ideal.τ).loc Cert.Dh2Ideal.main_v5_1)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v5_0) = v0 c
          ∧ r.2.mem ((c.tc : Thread Cert.Dh2Ideal.nD Cert.Dh2Ideal.τ).loc Cert.Dh2Ideal.main_v5_1) = v1 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3)
          ∧ r.2.mem ((c.tc : Thread Cert.Dh2Ideal.nD Cert.Dh2Ideal.τ).loc Cert.Dh2Ideal.main_arg4) = m ((c.tc : Thread Cert.Dh2Ideal.nD Cert.Dh2Ideal.τ).loc Cert.Dh2Ideal.main_arg4))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v48) = v0 c
          ∧ r.2.mem ((c.tc : Thread Cert.Dh2RefIdeal.nD Cert.Dh2RefIdeal.τ).loc Cert.Dh2RefIdeal.main_v46) = v1 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3)
          ∧ r.2.mem ((c.tc : Thread Cert.Dh2RefIdeal.nD Cert.Dh2RefIdeal.τ).loc Cert.Dh2RefIdeal.main_arg4) = m' ((c.tc : Thread Cert.Dh2RefIdeal.nD Cert.Dh2RefIdeal.τ).loc Cert.Dh2RefIdeal.main_arg4))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)) →
    ∃ (v0 : (c : Dev Cert.Dh1Ideal.nD) → Buf (Elt Ideal) ((c.tc : Thread Cert.Dh1Ideal.nD Cert.Dh1Ideal.τ).loc Cert.Dh1Ideal.main_v5_0)) (v1 : (c : Dev Cert.Dh1Ideal.nD) → Buf (Elt Ideal) ((c.tc : Thread Cert.Dh1Ideal.nD Cert.Dh1Ideal.τ).loc Cert.Dh1Ideal.main_v5_1)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v5_0) = v0 c
          ∧ r.2.mem ((c.tc : Thread Cert.Dh1Ideal.nD Cert.Dh1Ideal.τ).loc Cert.Dh1Ideal.main_v5_1) = v1 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v47) = v0 c
          ∧ r.2.mem ((c.tc : Thread Cert.Dh1RefIdeal.nD Cert.Dh1RefIdeal.τ).loc Cert.Dh1RefIdeal.main_v46) = v1 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4))

def preserves_Mixer_MixerIdeal : Prop :=
  IdealRules.named_const.Statement Cert.MixerIdeal.κ "cube" .f32 0x3D372713#32 ((8943 / 200000 : ℝ) : EReal)
  ∧ IdealRules.named_const.Statement Cert.MixerIdeal.κ "slope" .f32 0x3E095D4F#32 ((26829 / 200000 : ℝ) : EReal)

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v12_0)) (v1 : (c : Dev Cert.MixerIdeal.nD) → Buf (Elt Ideal) ((c.tc : Thread Cert.MixerIdeal.nD Cert.MixerIdeal.τ).loc Cert.MixerIdeal.main_v12_1)) (v2 : (c : Dev Cert.MixerIdeal.nD) → Buf (Elt Ideal) ((c.tc : Thread Cert.MixerIdeal.nD Cert.MixerIdeal.τ).loc Cert.MixerIdeal.main_v12_2)) (v3 : (c : Dev Cert.MixerIdeal.nD) → Buf (Elt Ideal) ((c.tc : Thread Cert.MixerIdeal.nD Cert.MixerIdeal.τ).loc Cert.MixerIdeal.main_v12_3)) (v4 : (c : Dev Cert.MixerIdeal.nD) → Buf (Elt Ideal) ((c.tc : Thread Cert.MixerIdeal.nD Cert.MixerIdeal.τ).loc Cert.MixerIdeal.main_v12_4)) (v5 : (c : Dev Cert.MixerIdeal.nD) → Buf (Elt Ideal) ((c.tc : Thread Cert.MixerIdeal.nD Cert.MixerIdeal.τ).loc Cert.MixerIdeal.main_v12_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v12_0) = v0 c
          ∧ r.2.mem ((c.tc : Thread Cert.MixerIdeal.nD Cert.MixerIdeal.τ).loc Cert.MixerIdeal.main_v12_1) = v1 c
          ∧ r.2.mem ((c.tc : Thread Cert.MixerIdeal.nD Cert.MixerIdeal.τ).loc Cert.MixerIdeal.main_v12_2) = v2 c
          ∧ r.2.mem ((c.tc : Thread Cert.MixerIdeal.nD Cert.MixerIdeal.τ).loc Cert.MixerIdeal.main_v12_3) = v3 c
          ∧ r.2.mem ((c.tc : Thread Cert.MixerIdeal.nD Cert.MixerIdeal.τ).loc Cert.MixerIdeal.main_v12_4) = v4 c
          ∧ r.2.mem ((c.tc : Thread Cert.MixerIdeal.nD Cert.MixerIdeal.τ).loc Cert.MixerIdeal.main_v12_5) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v344) = v0 c
          ∧ r.2.mem ((c.tc : Thread Cert.MixerRefIdeal.nD Cert.MixerRefIdeal.τ).loc Cert.MixerRefIdeal.main_v345) = v1 c
          ∧ r.2.mem ((c.tc : Thread Cert.MixerRefIdeal.nD Cert.MixerRefIdeal.τ).loc Cert.MixerRefIdeal.main_v347) = v2 c
          ∧ r.2.mem ((c.tc : Thread Cert.MixerRefIdeal.nD Cert.MixerRefIdeal.τ).loc Cert.MixerRefIdeal.main_v307) = v3 c
          ∧ r.2.mem ((c.tc : Thread Cert.MixerRefIdeal.nD Cert.MixerRefIdeal.τ).loc Cert.MixerRefIdeal.main_v348) = v4 c
          ∧ r.2.mem ((c.tc : Thread Cert.MixerRefIdeal.nD Cert.MixerRefIdeal.τ).loc Cert.MixerRefIdeal.main_v269) = v5 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v15) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_v21) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Mix_MixIdeal : Prop :=
  IdealRules.named_const.Statement Cert.MixIdeal.κ "cube" .f32 0x3D372713#32 ((8943 / 200000 : ℝ) : EReal)

def algebraic_MixIdeal_MixRefIdeal_pre_mix_finite [hMixIdeal : Cert.MixIdeal.Facts] [hMixRefIdeal : Cert.MixRefIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v11)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v11) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v159) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Dmixed_DmixedIdeal : Prop :=
  True

def algebraic_DmixedIdeal_DmixedRefIdeal [hDmixedIdeal : Cert.DmixedIdeal.Facts] [hDmixedRefIdeal : Cert.DmixedRefIdeal.Facts] : Prop :=
  ∀ (m : (ℓ : Loc Cert.DmixedIdeal.nD Cert.DmixedIdeal.τ Cert.DmixedIdeal.sig) → Buf (Elt Ideal) ℓ) (g : Dev Cert.DmixedIdeal.nD → PrngReg)
    (m' : (ℓ : Loc Cert.DmixedRefIdeal.nD Cert.DmixedRefIdeal.τ Cert.DmixedRefIdeal.sig) → Buf (Elt Ideal) ℓ) (g' : Dev Cert.DmixedRefIdeal.nD → PrngReg), Pre_DmixedIdeal m →
    (∀ c : Dev Cert.DmixedIdeal.nD,
      m' ((c.tc : Thread Cert.DmixedRefIdeal.nD Cert.DmixedRefIdeal.τ).loc Cert.DmixedRefIdeal.main_arg0) = m ((c.tc : Thread Cert.DmixedIdeal.nD Cert.DmixedIdeal.τ).loc Cert.DmixedIdeal.main_arg0)
      ∧ m' ((c.tc : Thread Cert.DmixedRefIdeal.nD Cert.DmixedRefIdeal.τ).loc Cert.DmixedRefIdeal.main_arg1) = m ((c.tc : Thread Cert.DmixedIdeal.nD Cert.DmixedIdeal.τ).loc Cert.DmixedIdeal.main_arg1)) →
    ∃ (v0 : (c : Dev Cert.DmixedIdeal.nD) → Buf (Elt Ideal) ((c.tc : Thread Cert.DmixedIdeal.nD Cert.DmixedIdeal.τ).loc Cert.DmixedIdeal.main_v2)),
      θ_run (Cert.DmixedIdeal.defs (F := Ideal)) (onTc (τ := Cert.DmixedIdeal.τ) (Cert.DmixedIdeal.main (F := Ideal))) ⟨m, fun _ => 0, g⟩ (fun r => ∀ c : Dev Cert.DmixedIdeal.nD,
          r.2.mem ((c.tc : Thread Cert.DmixedIdeal.nD Cert.DmixedIdeal.τ).loc Cert.DmixedIdeal.main_v2) = v0 c
          ∧ r.2.mem ((c.tc : Thread Cert.DmixedIdeal.nD Cert.DmixedIdeal.τ).loc Cert.DmixedIdeal.main_arg0) = m ((c.tc : Thread Cert.DmixedIdeal.nD Cert.DmixedIdeal.τ).loc Cert.DmixedIdeal.main_arg0)
          ∧ r.2.mem ((c.tc : Thread Cert.DmixedIdeal.nD Cert.DmixedIdeal.τ).loc Cert.DmixedIdeal.main_arg1) = m ((c.tc : Thread Cert.DmixedIdeal.nD Cert.DmixedIdeal.τ).loc Cert.DmixedIdeal.main_arg1))
      ∧ θ_run (Cert.DmixedRefIdeal.defs (F := Ideal)) (onTc (τ := Cert.DmixedRefIdeal.τ) (Cert.DmixedRefIdeal.main (F := Ideal))) ⟨m', fun _ => 0, g'⟩ (fun r => ∀ c : Dev Cert.DmixedRefIdeal.nD,
          r.2.mem ((c.tc : Thread Cert.DmixedRefIdeal.nD Cert.DmixedRefIdeal.τ).loc Cert.DmixedRefIdeal.main_v5) = v0 c
          ∧ r.2.mem ((c.tc : Thread Cert.DmixedRefIdeal.nD Cert.DmixedRefIdeal.τ).loc Cert.DmixedRefIdeal.main_arg0) = m' ((c.tc : Thread Cert.DmixedRefIdeal.nD Cert.DmixedRefIdeal.τ).loc Cert.DmixedRefIdeal.main_arg0)
          ∧ r.2.mem ((c.tc : Thread Cert.DmixedRefIdeal.nD Cert.DmixedRefIdeal.τ).loc Cert.DmixedRefIdeal.main_arg1) = m' ((c.tc : Thread Cert.DmixedRefIdeal.nD Cert.DmixedRefIdeal.τ).loc Cert.DmixedRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v8) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)) (v3 : (c : Dev Cert.AdamIdeal.nD) → Buf (Elt Ideal) ((c.tc : Thread Cert.AdamIdeal.nD Cert.AdamIdeal.τ).loc Cert.AdamIdeal.main_v3_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_v3_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_v27) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sib_SibIdeal : Prop :=
  True

def algebraic_SibIdeal_SibRefIdeal [hSibIdeal : Cert.SibIdeal.Facts] [hSibRefIdeal : Cert.SibRefIdeal.Facts] : Prop :=
  ∀ (m : (ℓ : Loc Cert.SibIdeal.nD Cert.SibIdeal.τ Cert.SibIdeal.sig) → Buf (Elt Ideal) ℓ) (g : Dev Cert.SibIdeal.nD → PrngReg)
    (m' : (ℓ : Loc Cert.SibRefIdeal.nD Cert.SibRefIdeal.τ Cert.SibRefIdeal.sig) → Buf (Elt Ideal) ℓ) (g' : Dev Cert.SibRefIdeal.nD → PrngReg), Pre_SibIdeal m →
    (∀ c : Dev Cert.SibIdeal.nD,
      m' ((c.tc : Thread Cert.SibRefIdeal.nD Cert.SibRefIdeal.τ).loc Cert.SibRefIdeal.main_arg0) = m ((c.tc : Thread Cert.SibIdeal.nD Cert.SibIdeal.τ).loc Cert.SibIdeal.main_arg0)
      ∧ m' ((c.tc : Thread Cert.SibRefIdeal.nD Cert.SibRefIdeal.τ).loc Cert.SibRefIdeal.main_arg1) = m ((c.tc : Thread Cert.SibIdeal.nD Cert.SibIdeal.τ).loc Cert.SibIdeal.main_arg1)) →
    ∃ (v0 : (c : Dev Cert.SibIdeal.nD) → Buf (Elt Ideal) ((c.tc : Thread Cert.SibIdeal.nD Cert.SibIdeal.τ).loc Cert.SibIdeal.main_v1)),
      θ_run (Cert.SibIdeal.defs (F := Ideal)) (onTc (τ := Cert.SibIdeal.τ) (Cert.SibIdeal.main (F := Ideal))) ⟨m, fun _ => 0, g⟩ (fun r => ∀ c : Dev Cert.SibIdeal.nD,
          r.2.mem ((c.tc : Thread Cert.SibIdeal.nD Cert.SibIdeal.τ).loc Cert.SibIdeal.main_v1) = v0 c
          ∧ r.2.mem ((c.tc : Thread Cert.SibIdeal.nD Cert.SibIdeal.τ).loc Cert.SibIdeal.main_arg0) = m ((c.tc : Thread Cert.SibIdeal.nD Cert.SibIdeal.τ).loc Cert.SibIdeal.main_arg0)
          ∧ r.2.mem ((c.tc : Thread Cert.SibIdeal.nD Cert.SibIdeal.τ).loc Cert.SibIdeal.main_arg1) = m ((c.tc : Thread Cert.SibIdeal.nD Cert.SibIdeal.τ).loc Cert.SibIdeal.main_arg1))
      ∧ θ_run (Cert.SibRefIdeal.defs (F := Ideal)) (onTc (τ := Cert.SibRefIdeal.τ) (Cert.SibRefIdeal.main (F := Ideal))) ⟨m', fun _ => 0, g'⟩ (fun r => ∀ c : Dev Cert.SibRefIdeal.nD,
          r.2.mem ((c.tc : Thread Cert.SibRefIdeal.nD Cert.SibRefIdeal.τ).loc Cert.SibRefIdeal.main_v6) = v0 c
          ∧ r.2.mem ((c.tc : Thread Cert.SibRefIdeal.nD Cert.SibRefIdeal.τ).loc Cert.SibRefIdeal.main_arg0) = m' ((c.tc : Thread Cert.SibRefIdeal.nD Cert.SibRefIdeal.τ).loc Cert.SibRefIdeal.main_arg0)
          ∧ r.2.mem ((c.tc : Thread Cert.SibRefIdeal.nD Cert.SibRefIdeal.τ).loc Cert.SibRefIdeal.main_arg1) = m' ((c.tc : Thread Cert.SibRefIdeal.nD Cert.SibRefIdeal.τ).loc Cert.SibRefIdeal.main_arg1))

def preserves_Chips_ChipsIdeal : Prop :=
  True

def algebraic_ChipsIdeal_ChipsRefIdeal [hChipsIdeal : Cert.ChipsIdeal.Facts] [hChipsRefIdeal : Cert.ChipsRefIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsRefIdeal.nD Cert.ChipsRefIdeal.τ Cert.ChipsRefIdeal.sig) → Buf (Elt Ideal) ℓ) (g' : Dev Cert.ChipsRefIdeal.nD → PrngReg), Pre_ChipsIdeal m →
    (∀ c : Dev Cert.ChipsIdeal.nD,
      m' ((c.tc : Thread Cert.ChipsRefIdeal.nD Cert.ChipsRefIdeal.τ).loc Cert.ChipsRefIdeal.main_arg0) = m ((c.tc : Thread Cert.ChipsIdeal.nD Cert.ChipsIdeal.τ).loc Cert.ChipsIdeal.main_arg0)
      ∧ m' ((c.tc : Thread Cert.ChipsRefIdeal.nD Cert.ChipsRefIdeal.τ).loc Cert.ChipsRefIdeal.main_arg1) = m ((c.tc : Thread Cert.ChipsIdeal.nD Cert.ChipsIdeal.τ).loc Cert.ChipsIdeal.main_arg1)
      ∧ m' ((c.tc : Thread Cert.ChipsRefIdeal.nD Cert.ChipsRefIdeal.τ).loc Cert.ChipsRefIdeal.main_arg2) = m ((c.tc : Thread Cert.ChipsIdeal.nD Cert.ChipsIdeal.τ).loc Cert.ChipsIdeal.main_arg2)) →
    ∃ (v0 : (c : Dev Cert.ChipsIdeal.nD) → Buf (Elt Ideal) ((c.tc : Thread Cert.ChipsIdeal.nD Cert.ChipsIdeal.τ).loc Cert.ChipsIdeal.main_v2)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v2) = v0 c
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0)
          ∧ r.2.mem ((c.tc : Thread Cert.ChipsIdeal.nD Cert.ChipsIdeal.τ).loc Cert.ChipsIdeal.main_arg1) = m ((c.tc : Thread Cert.ChipsIdeal.nD Cert.ChipsIdeal.τ).loc Cert.ChipsIdeal.main_arg1)
          ∧ r.2.mem ((c.tc : Thread Cert.ChipsIdeal.nD Cert.ChipsIdeal.τ).loc Cert.ChipsIdeal.main_arg2) = m ((c.tc : Thread Cert.ChipsIdeal.nD Cert.ChipsIdeal.τ).loc Cert.ChipsIdeal.main_arg2))
      ∧ θ_run (Cert.ChipsRefIdeal.defs (F := Ideal)) (onTc (τ := Cert.ChipsRefIdeal.τ) (Cert.ChipsRefIdeal.main (F := Ideal))) ⟨m', fun _ => 0, g'⟩ (fun r => ∀ c : Dev Cert.ChipsRefIdeal.nD,
          r.2.mem ((c.tc : Thread Cert.ChipsRefIdeal.nD Cert.ChipsRefIdeal.τ).loc Cert.ChipsRefIdeal.main_v9) = v0 c
          ∧ r.2.mem ((c.tc : Thread Cert.ChipsRefIdeal.nD Cert.ChipsRefIdeal.τ).loc Cert.ChipsRefIdeal.main_arg0) = m' ((c.tc : Thread Cert.ChipsRefIdeal.nD Cert.ChipsRefIdeal.τ).loc Cert.ChipsRefIdeal.main_arg0)
          ∧ r.2.mem ((c.tc : Thread Cert.ChipsRefIdeal.nD Cert.ChipsRefIdeal.τ).loc Cert.ChipsRefIdeal.main_arg1) = m' ((c.tc : Thread Cert.ChipsRefIdeal.nD Cert.ChipsRefIdeal.τ).loc Cert.ChipsRefIdeal.main_arg1)
          ∧ r.2.mem ((c.tc : Thread Cert.ChipsRefIdeal.nD Cert.ChipsRefIdeal.τ).loc Cert.ChipsRefIdeal.main_arg2) = m' ((c.tc : Thread Cert.ChipsRefIdeal.nD Cert.ChipsRefIdeal.τ).loc Cert.ChipsRefIdeal.main_arg2))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)) →
    ∃ (v0 : (c : Dev Cert.PackIdeal.nD) → Buf (Elt Ideal) ((c.tc : Thread Cert.PackIdeal.nD Cert.PackIdeal.τ).loc Cert.PackIdeal.main_v3)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v3) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v1) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0))

def Claim : Prop :=
  ∃ (hDact : Cert.Dact.Facts) (hDactIdeal : Cert.DactIdeal.Facts) (hDactRefIdeal : Cert.DactRefIdeal.Facts) (hDown : Cert.Down.Facts) (hDownIdeal : Cert.DownIdeal.Facts) (hDownRefIdeal : Cert.DownRefIdeal.Facts) (hDh2 : Cert.Dh2.Facts) (hDh2Ideal : Cert.Dh2Ideal.Facts) (hDh2RefIdeal : Cert.Dh2RefIdeal.Facts) (hDh1 : Cert.Dh1.Facts) (hDh1Ideal : Cert.Dh1Ideal.Facts) (hDh1RefIdeal : Cert.Dh1RefIdeal.Facts) (hMixer : Cert.Mixer.Facts) (hMixerIdeal : Cert.MixerIdeal.Facts) (hMixerRefIdeal : Cert.MixerRefIdeal.Facts) (hNorm : Cert.Norm.Facts) (hNormIdeal : Cert.NormIdeal.Facts) (hNormRefIdeal : Cert.NormRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hDmixed : Cert.Dmixed.Facts) (hDmixedIdeal : Cert.DmixedIdeal.Facts) (hDmixedRefIdeal : Cert.DmixedRefIdeal.Facts) (hDw : Cert.Dw.Facts) (hDwIdeal : Cert.DwIdeal.Facts) (hDwRefIdeal : Cert.DwRefIdeal.Facts) (hAdam : Cert.Adam.Facts) (hAdamIdeal : Cert.AdamIdeal.Facts) (hAdamRefIdeal : Cert.AdamRefIdeal.Facts) (hSib : Cert.Sib.Facts) (hSibIdeal : Cert.SibIdeal.Facts) (hSibRefIdeal : Cert.SibRefIdeal.Facts) (hChips : Cert.Chips.Facts) (hChipsIdeal : Cert.ChipsIdeal.Facts) (hChipsRefIdeal : Cert.ChipsRefIdeal.Facts) (hPack : Cert.Pack.Facts) (hPackIdeal : Cert.PackIdeal.Facts) (hPackRefIdeal : Cert.PackRefIdeal.Facts) (hPre_mixer_finite : Cert.Pre_mixer_finite.Facts) (hPre_mix_finite : Cert.Pre_mix_finite.Facts),
    quiescent_Dact (hDact := hDact)
    ∧ quiescent_DactIdeal (hDactIdeal := hDactIdeal)
    ∧ quiescent_DactRefIdeal (hDactRefIdeal := hDactRefIdeal)
    ∧ quiescent_Down (hDown := hDown)
    ∧ quiescent_DownIdeal (hDownIdeal := hDownIdeal)
    ∧ quiescent_DownRefIdeal (hDownRefIdeal := hDownRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Norm (hNorm := hNorm)
    ∧ quiescent_NormIdeal (hNormIdeal := hNormIdeal)
    ∧ quiescent_NormRefIdeal (hNormRefIdeal := hNormRefIdeal)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Proj (hProj := hProj)
    ∧ quiescent_ProjIdeal (hProjIdeal := hProjIdeal)
    ∧ quiescent_ProjRefIdeal (hProjRefIdeal := hProjRefIdeal)
    ∧ quiescent_Dmixed (hDmixed := hDmixed)
    ∧ quiescent_DmixedIdeal (hDmixedIdeal := hDmixedIdeal)
    ∧ quiescent_DmixedRefIdeal (hDmixedRefIdeal := hDmixedRefIdeal)
    ∧ quiescent_Dw (hDw := hDw)
    ∧ quiescent_DwIdeal (hDwIdeal := hDwIdeal)
    ∧ quiescent_DwRefIdeal (hDwRefIdeal := hDwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sib (hSib := hSib)
    ∧ quiescent_SibIdeal (hSibIdeal := hSibIdeal)
    ∧ quiescent_SibRefIdeal (hSibRefIdeal := hSibRefIdeal)
    ∧ quiescent_Chips (hChips := hChips)
    ∧ quiescent_ChipsIdeal (hChipsIdeal := hChipsIdeal)
    ∧ quiescent_ChipsRefIdeal (hChipsRefIdeal := hChipsRefIdeal)
    ∧ quiescent_Pack (hPack := hPack)
    ∧ quiescent_PackIdeal (hPackIdeal := hPackIdeal)
    ∧ quiescent_PackRefIdeal (hPackRefIdeal := hPackRefIdeal)
    ∧ preserves_Dact_DactIdeal
    ∧ algebraic_DactIdeal_DactRefIdeal (hDactIdeal := hDactIdeal) (hDactRefIdeal := hDactRefIdeal)
    ∧ preserves_Down_DownIdeal
    ∧ algebraic_DownIdeal_DownRefIdeal (hDownIdeal := hDownIdeal) (hDownRefIdeal := hDownRefIdeal)
    ∧ preserves_Dh2_Dh2Ideal
    ∧ algebraic_Dh2Ideal_Dh2RefIdeal (hDh2Ideal := hDh2Ideal) (hDh2RefIdeal := hDh2RefIdeal)
    ∧ preserves_Dh1_Dh1Ideal
    ∧ algebraic_Dh1Ideal_Dh1RefIdeal (hDh1Ideal := hDh1Ideal) (hDh1RefIdeal := hDh1RefIdeal)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Norm_NormIdeal
    ∧ algebraic_NormIdeal_NormRefIdeal (hNormIdeal := hNormIdeal) (hNormRefIdeal := hNormRefIdeal)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal_pre_mix_finite (hMixIdeal := hMixIdeal) (hMixRefIdeal := hMixRefIdeal) (hPre_mix_finite := hPre_mix_finite)
    ∧ preserves_Proj_ProjIdeal
    ∧ algebraic_ProjIdeal_ProjRefIdeal (hProjIdeal := hProjIdeal) (hProjRefIdeal := hProjRefIdeal)
    ∧ preserves_Dmixed_DmixedIdeal
    ∧ algebraic_DmixedIdeal_DmixedRefIdeal (hDmixedIdeal := hDmixedIdeal) (hDmixedRefIdeal := hDmixedRefIdeal)
    ∧ preserves_Dw_DwIdeal
    ∧ algebraic_DwIdeal_DwRefIdeal (hDwIdeal := hDwIdeal) (hDwRefIdeal := hDwRefIdeal)
    ∧ preserves_Adam_AdamIdeal
    ∧ algebraic_AdamIdeal_AdamRefIdeal (hAdamIdeal := hAdamIdeal) (hAdamRefIdeal := hAdamRefIdeal)
    ∧ preserves_Sib_SibIdeal
    ∧ algebraic_SibIdeal_SibRefIdeal (hSibIdeal := hSibIdeal) (hSibRefIdeal := hSibRefIdeal)
    ∧ preserves_Chips_ChipsIdeal
    ∧ algebraic_ChipsIdeal_ChipsRefIdeal (hChipsIdeal := hChipsIdeal) (hChipsRefIdeal := hChipsRefIdeal)
    ∧ preserves_Pack_PackIdeal
    ∧ algebraic_PackIdeal_PackRefIdeal (hPackIdeal := hPackIdeal) (hPackRefIdeal := hPackRefIdeal)
-- ==== Pre_mix_finite.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .f32) (main_arg1 : FVec F S1x8x128x128 .f32) (main_arg2 : FVec F S1x8x128 .f32) (main_arg3 : FVec F S1x1024 .f32) (main_arg4 : FVec F S1x4x256x256 .f32) (main_arg5 : FVec F S1x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  main_v3
-- ==== Pre_mixer_finite.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S1x4x256x256 .f32) (main_arg5 : FVec F S1x1024 .f32) (main_arg6 : FVec F S4096x2048 .bf16) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x4x256x256 .f32 := Host.absf main_arg4
  let main_cst_6 : FVec F S_ .f32 := constant S_ .f32 0x7F800000#32
  let main_v20 : FVec F S1x4x256x256 .f32 := broadcastInDim S1x4x256x256 ![] bcast_S_S1x4x256x256 main_cst_6
  let main_v21 : IVec S1x4x256x256 1 := cmpf .olt main_v19 main_v20
  let main_c_7 : IVec S_ 1 := constantI S_ 1 1#1
  let main_v22 : IVec S_ 1 := (fun x v => Host.reduce IntOp.andi x v reducesTo_S1x4x256x256_S_d0_1_2_3 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4096x2048 .bf16 := Host.absf main_arg6
  let main_cst_10 : FVec F S_ .bf16 := constant S_ .bf16 0x7F80#16
  let main_v30 : FVec F S4096x2048 .bf16 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x3072 .f32) (main_arg1 : FVec F S1x8x128x128 .f32) (main_arg2 : FVec F S1x8x128 .f32) (main_arg3 : FVec F S1x1024 .f32) (main_arg4 : FVec F S1x4x256x256 .f32) (main_arg5 : FVec F S1x1024 .f32) (main_arg6 : FVec F S4096x2048 .bf16) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S1x8x128x128 .f32 := Host.absf main_arg1
  let main_cst_0 : FVec F S_ .f32 := constant S_ .f32 0x7F800000#32
  let main_v5 : FVec F S1x8x128x128 .f32 := broadcastInDim S1x8x128x128 ![] bcast_S_S1x8x128x128 main_cst_0
  let main_v6 : IVec S1x8x128x128 1 := cmpf .olt main_v4 main_v5
  let main_c_1 : IVec S_ 1 := constantI S_ 1 1#1
  let main_v7 : IVec S_ 1 := (fun x v => Host.reduce IntOp.andi x v reducesTo_S1x8x128x128_S_d0_1_2_3 h_S_) main_v6 main_c_1
  let main_v8 : IVec S_ 1 := andi main_v3 main_v7
  let main_v9 : FVec F S1x8x128 .f32 := Host.absf main_arg2
  let main_cst_2 : FVec F S_ .f32 := constant S_ .f32 0x7F800000#32
  let main_v10 : FVec F S1x8x128 .f32 := broadcastInDim S1x8x128 ![] bcast_S_S1x8x128 main_cst_2
  let main_v11 : IVec S1x8x128 1 := cmpf .olt main_v9 main_v10
  let main_c_3 : IVec S_ 1 := constantI S_ 1 1#1
  let main_v12 : IVec S_ 1 := (fun x v => Host.reduce IntOp.andi x v reducesTo_S1x8x128_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Dact.lean ====
abbrev S4096x2048 : Shape := ⟨2, ![4096, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S8192x2048 : Shape := ⟨2, ![8192, 2048]⟩
abbrev S4096x8192 : Shape := ⟨2, ![4096, 8192]⟩
abbrev S1024x2048 : Shape := ⟨2, ![1024, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S1024x512 : Shape := ⟨2, ![1024, 512]⟩
abbrev S2048x2048 : Shape := ⟨2, ![2048, 2048]⟩
abbrev S512x2048 : Shape := ⟨2, ![512, 2048]⟩

abbrev nBuf : Space → Nat
  | .hbm => 12
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S1x2048x8192, .f32⟩
  | .hbm, ⟨2, _⟩ => ⟨S1x8192x2048, .f32⟩
  | .hbm, ⟨3, _⟩ => ⟨S4096x2048, .bf16⟩
  | .hbm, ⟨4, _⟩ => ⟨S2048x8192, .f32⟩
  | .hbm, ⟨5, _⟩ => ⟨S2048x8192, .bf16⟩
  | .hbm, ⟨6, _⟩ => ⟨S2048x4x2048, .bf16⟩
  | .hbm, ⟨7, _⟩ => ⟨S4x2048x2048, .bf16⟩
  | .hbm, ⟨8, _⟩ => ⟨S8192x2048, .f32⟩
  | .hbm, ⟨9, _⟩ => ⟨S8192x2048, .bf16⟩
  | .hbm, ⟨10, _⟩ => ⟨S4096x8192, .bf16⟩
  | .hbm, ⟨11, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S2048x2048, .bf16⟩
  | .local _ .vmem, ⟨9, _⟩ => ⟨S2048x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== DactRefIdeal.lean ====
abbrev S4096x2048 : Shape := ⟨2, ![4096, 2048]⟩
abbrev S1x2048x8192 : Shape := ⟨3, ![1, 2048, 8192]⟩
abbrev S1x8192x2048 : Shape := ⟨3, ![1, 8192, 2048]⟩
abbrev S1x4096x2048 : Shape := ⟨3, ![1, 4096, 2048]⟩
abbrev S2048x8192 : Shape := ⟨2, ![2048, 8192]⟩
abbrev S1x4096x8192 : Shape := ⟨3, ![1, 4096, 8192]⟩
abbrev S_ : Shape := ⟨0, ![]⟩
abbrev S8192x2048 : Shape := ⟨2, ![8192, 2048]⟩
abbrev S4096x8192 : Shape := ⟨2, ![4096, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x8192, .f32⟩
  | .hbm, ⟨2, _⟩ => ⟨S1x8192x2048, .f32⟩
  | .hbm, ⟨3, _⟩ => ⟨S4096x2048, .bf16⟩
  | .hbm, ⟨4, _⟩ => ⟨S4096x2048, .f32⟩
  | .hbm, ⟨5, _⟩ => ⟨S1x4096x2048, .f32⟩
  | .hbm, ⟨6, _⟩ => ⟨S2048x8192, .f32⟩
  | .hbm, ⟨7, _⟩ => ⟨S1x4096x8192, .f32⟩
  | .hbm, ⟨8, _⟩ => ⟨S_, .f32⟩
  | .hbm, ⟨9, _⟩ => ⟨S1x4096x8192, .f32⟩
  | .hbm, ⟨10, _⟩ => ⟨S1x4096x8192, .f32⟩
  | .hbm, ⟨11, _⟩ => ⟨S_, .f32⟩
  | .hbm, ⟨12, _⟩ => ⟨S1x4096x8192, .f32⟩
  | .hbm, ⟨13, _⟩ => ⟨S1x4096x8192, .i1⟩
  | .hbm, ⟨14, _⟩ => ⟨S_, .f32⟩
  | .hbm, ⟨15, _⟩ => ⟨S1x4096x8192, .f32⟩
  | .hbm, ⟨16, _⟩ => ⟨S1x4096x8192, .f32⟩
  | .hbm, ⟨17, _⟩ => ⟨S_, .f32⟩
  | .hbm, ⟨18, _⟩ => ⟨S1x4096x8192, .f32⟩
  | .hbm, ⟨19, _⟩ => ⟨S1x4096x8192, .f32⟩
  | .hbm, ⟨20, _⟩ => ⟨S8192x2048, .f32⟩
  | .hbm, ⟨21, _⟩ => ⟨S1x4096x2048, .f32⟩
  | .hbm, ⟨22, _⟩ => ⟨S4096x2048, .f32⟩
  | .hbm, ⟨23, _⟩ => ⟨S1x4096x2048, .f32⟩
  | .hbm, ⟨24, _⟩ => ⟨S1x4096x8192, .f32⟩
  | .hbm, ⟨25, _⟩ => ⟨S1x4096x8192, .f32⟩
  | .hbm, ⟨26, _⟩ => ⟨S_, .f32⟩
  | .hbm, ⟨27, _⟩ => ⟨S1x4096x8192, .f32⟩
  | .hbm, ⟨28, _⟩ => ⟨S1x4096x8192, .f32⟩
  | .hbm, ⟨29, _⟩ => ⟨S4096x8192, .f32⟩
  | .hbm, ⟨30, _⟩ => ⟨S4096x8192, .bf16⟩
  | .hbm, ⟨31, _⟩ => ⟨S4096x8192, .f32⟩
  | .hbm, ⟨32, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Down.lean ====
abbrev S4096x8192 : Shape := ⟨2, ![4096, 8192]⟩
abbrev S1x8192x2048 : Shape := ⟨3, ![1, 8192, 2048]⟩
abbrev S1x4096x2048 : Shape := ⟨3, ![1, 4096, 2048]⟩
abbrev S2048 : Shape := ⟨1, ![2048]⟩
abbrev S8192x2048 : Shape := ⟨2, ![8192, 2048]⟩
abbrev S4096x2048 : Shape := ⟨2, ![4096, 2048]⟩
abbrev S1x2048 : Shape := ⟨2, ![1, 2048]⟩
abbrev S512x2048 : Shape := ⟨2, ![512, 2048]⟩
abbrev S2048x2048 : Shape := ⟨2, ![2048, 2048]⟩
abbrev S512x512 : Shape := ⟨2, ![512, 512]⟩
abbrev S2048x512 : Shape := ⟨2, ![2048, 512]⟩
abbrev S256x2048 : Shape := ⟨2, ![256, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 14
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .f32⟩
  | .hbm, ⟨2, _⟩ => ⟨S1x4096x2048, .f32⟩
  | .hbm, ⟨3, _⟩ => ⟨S1x4096x2048, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S4096x2048, .f32⟩
  | .hbm, ⟨8, _⟩ => ⟨S4096x2048, .f32⟩
  | .hbm, ⟨9, _⟩ => ⟨S1x2048, .f32⟩
  | .hbm, ⟨10, _⟩ => ⟨S4096x2048, .bf16⟩
  | .hbm, ⟨11, _⟩ => ⟨S1x2048, .f32⟩
  | .hbm, ⟨12, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v11 : BitVec 1 := Scalar.cmpi .eq arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DownRefIdeal.lean ====
abbrev S4096x8192 : Shape := ⟨2, ![4096, 8192]⟩
abbrev S1x8192x2048 : Shape := ⟨3, ![1, 8192, 2048]⟩
abbrev S1x4096x2048 : Shape := ⟨3, ![1, 4096, 2048]⟩
abbrev S2048 : Shape := ⟨1, ![2048]⟩
abbrev S1x4096x8192 : Shape := ⟨3, ![1, 4096, 8192]⟩
abbrev S8192x2048 : Shape := ⟨2, ![8192, 2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S1x2048 : Shape := ⟨2, ![1, 2048]⟩
abbrev S4096 : Shape := ⟨1, ![4096]⟩
abbrev S4096x2048 : Shape := ⟨2, ![4096, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1x8192x2048, .f32⟩
  | .hbm, ⟨2, _⟩ => ⟨S1x4096x2048, .f32⟩
  | .hbm, ⟨3, _⟩ => ⟨S1x4096x2048, .f32⟩
  | .hbm, ⟨4, _⟩ => ⟨S2048, .f32⟩
  | .hbm, ⟨5, _⟩ => ⟨S4096x8192, .f32⟩
  | .hbm, ⟨6, _⟩ => ⟨S1x4096x8192, .f32⟩
  | .hbm, ⟨7, _⟩ => ⟨S8192x2048, .f32⟩
  | .hbm, ⟨8, _⟩ => ⟨S1x4096x2048, .f32⟩
  | .hbm, ⟨9, _⟩ => ⟨S1x4096x2048, .f32⟩
  | .hbm, ⟨10, _⟩ => ⟨S1x4096x2048, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x2048, .f32⟩
  | .hbm, ⟨26, _⟩ => ⟨S1x4096x2048, .f32⟩
  | .hbm, ⟨27, _⟩ => ⟨S1x1x2048, .f32⟩
  | .hbm, ⟨28, _⟩ => ⟨S1x4096x2048, .f32⟩
  | .hbm, ⟨29, _⟩ => ⟨S1x4096x2048, .f32⟩
  | .hbm, ⟨30, _⟩ => ⟨S1x4096x2048, .f32⟩
  | .hbm, ⟨31, _⟩ => ⟨S1x4096x2048, .f32⟩
  | .hbm, ⟨32, _⟩ => ⟨S_, .f32⟩
  | .hbm, ⟨33, _⟩ => ⟨S1x4096x2048, .f32⟩
  | .hbm, ⟨34, _⟩ => ⟨S1x4096x2048, .f32⟩
  | .hbm, ⟨35, _⟩ => ⟨S_, .f32⟩
  | .hbm, ⟨36, _⟩ => ⟨S1x4096, .f32⟩
  | .hbm, ⟨37, _⟩ => ⟨S_, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x4096, .f32⟩
  | .hbm, ⟨51, _⟩ => ⟨S_, .f32⟩
  | .hbm, ⟨52, _⟩ => ⟨S1x4096, .f32⟩
  | .hbm, ⟨53, _⟩ => ⟨S1x4096, .f32⟩
  | .hbm, ⟨54, _⟩ => ⟨S1x4096x2048, .f32⟩
  | .hbm, ⟨55, _⟩ => ⟨S1x4096x2048, .f32⟩
  | .hbm, ⟨56, _⟩ => ⟨S1x4096x2048, .f32⟩
  | .hbm, ⟨57, _⟩ => ⟨S_, .f32⟩
  | .hbm, ⟨58, _⟩ => ⟨S1x2048, .f32⟩
  | .hbm, ⟨59, _⟩ => ⟨S1x1x2048, .f32⟩
  | .hbm, ⟨60, _⟩ => ⟨S1x4096x2048, .f32⟩
  | .hbm, ⟨61, _⟩ => ⟨S1x4096x2048, .f32⟩
  | .hbm, ⟨62, _⟩ => ⟨S_, .f32⟩
  | .hbm, ⟨63, _⟩ => ⟨S2048, .f32⟩
  | .hbm, ⟨64, _⟩ => ⟨S1x4096x2048, .f32⟩
  | .hbm, ⟨65, _⟩ => ⟨S_, .f32⟩
  | .hbm, ⟨66, _⟩ => ⟨S1x4096, .f32⟩
  | .hbm, ⟨67, _⟩ => ⟨S1x4096x1, .f32⟩
  | .hbm, ⟨68, _⟩ => ⟨S1x4096x2048, .f32⟩
  | .hbm, ⟨69, _⟩ => ⟨S1x4096x2048, .f32⟩
  | .hbm, ⟨70, _⟩ => ⟨S1x4096x1, .f32⟩
  | .hbm, ⟨71, _⟩ => ⟨S_, .f32⟩
  | .hbm, ⟨72, _⟩ => ⟨S1x4096x1, .f32⟩
  | .hbm, ⟨73, _⟩ => ⟨S1x4096x1, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S1x4096x2048, .f32⟩
  | .hbm, ⟨78, _⟩ => ⟨S1x4096x2048, .f32⟩
  | .hbm, ⟨79, _⟩ => ⟨S1x4096x2048, .f32⟩
  | .hbm, ⟨80, _⟩ => ⟨S1x4096x2048, .f32⟩
  | .hbm, ⟨81, _⟩ => ⟨S1x4096x2048, .f32⟩
  | .hbm, ⟨82, _⟩ => ⟨S4096x2048, .f32⟩
  | .hbm, ⟨83, _⟩ => ⟨S4096x2048, .bf16⟩
  | .hbm, ⟨84, _⟩ => ⟨S1x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_cst_16 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Dh2.lean ====
abbrev S4096x8192 : Shape := ⟨2, ![4096, 8192]⟩
abbrev S1x2048x8192 : Shape := ⟨3, ![1, 2048, 8192]⟩
abbrev S1x4096x2048 : Shape := ⟨3, ![1, 4096, 2048]⟩
abbrev S4096x2048 : Shape := ⟨2, ![4096, 2048]⟩
abbrev S1x2048 : Shape := ⟨2, ![1, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S512x2048 : Shape := ⟨2, ![512, 2048]⟩
abbrev S1x2048x2048 : Shape := ⟨3, ![1, 2048, 2048]⟩
abbrev S512x512 : Shape := ⟨2, ![512, 512]⟩
abbrev S1x512x2048 : Shape := ⟨3, ![1, 512, 2048]⟩
abbrev S256x2048 : Shape := ⟨2, ![256, 2048]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S1x2048x8192, .f32⟩
  | .hbm, ⟨2, _⟩ => ⟨S1x4096x2048, .f32⟩
  | .hbm, ⟨3, _⟩ => ⟨S4096x2048, .bf16⟩
  | .hbm, ⟨4, _⟩ => ⟨S1x2048, .f32⟩
  | .hbm, ⟨5, _⟩ => ⟨S2048x8192, .f32⟩
  | .hbm, ⟨6, _⟩ => ⟨S2048x8192, .bf16⟩
  | .hbm, ⟨7, _⟩ => ⟨S2048x4x2048, .bf16⟩
  | .hbm, ⟨8, _⟩ => ⟨S4x2048x2048, .bf16⟩
  | .hbm, ⟨9, _⟩ => ⟨S4096x2048, .f32⟩
  | .hbm, ⟨10, _⟩ => ⟨S4096x2048, .bf16⟩
  | .hbm, ⟨11, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Dh2RefIdeal.lean ====
abbrev S4096x8192 : Shape := ⟨2, ![4096, 8192]⟩
abbrev S1x2048x8192 : Shape := ⟨3, ![1, 2048, 8192]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x8192 : Shape := ⟨2, ![2048, 8192]⟩
abbrev S1x4096x8192 : Shape := ⟨3, ![1, 4096, 8192]⟩
abbrev S4096 : Shape := ⟨1, ![4096]⟩

abbrev nBuf : Space → Nat
  | .hbm => 63
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1x2048x8192, .f32⟩
  | .hbm, ⟨2, _⟩ => ⟨S1x4096x2048, .f32⟩
  | .hbm, ⟨3, _⟩ => ⟨S4096x2048, .bf16⟩
  | .hbm, ⟨4, _⟩ => ⟨S1x2048, .f32⟩
  | .hbm, ⟨5, _⟩ => ⟨S2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S2048x8192, .f32⟩
  | .hbm, ⟨27, _⟩ => ⟨S1x4096x8192, .f32⟩
  | .hbm, ⟨28, _⟩ => ⟨S4096x2048, .f32⟩
  | .hbm, ⟨29, _⟩ => ⟨S1x4096x2048, .f32⟩
  | .hbm, ⟨30, _⟩ => ⟨S4096x8192, .f32⟩
  | .hbm, ⟨31, _⟩ => ⟨S1x4096x8192, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x4096x2048, .f32⟩
  | .hbm, ⟨38, _⟩ => ⟨S1x4096x2048, .f32⟩
  | .hbm, ⟨39, _⟩ => ⟨S_, .f32⟩
  | .hbm, ⟨40, _⟩ => ⟨S2048, .f32⟩
  | .hbm, ⟨41, _⟩ => ⟨S1x4096x2048, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S1x4096x2048, .f32⟩
  | .hbm, ⟨46, _⟩ => ⟨S1x4096x2048, .f32⟩
  | .hbm, ⟨47, _⟩ => ⟨S1x4096x2048, .f32⟩
  | .hbm, ⟨48, _⟩ => ⟨S1x4096x1, .f32⟩
  | .hbm, ⟨49, _⟩ => ⟨S_, .f32⟩
  | .hbm, ⟨50, _⟩ => ⟨S1x4096x1, .f32⟩
  | .hbm, ⟨51, _⟩ => ⟨S1x4096x1, .f32⟩
  | .hbm, ⟨52, _⟩ => ⟨S_, .f32⟩
  | .hbm, ⟨53, _⟩ => ⟨S4096, .f32⟩
  | .hbm, ⟨54, _⟩ => ⟨S1x4096, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x2048, .f32⟩
  | .hbm, ⟨61, _⟩ => ⟨S4096x2048, .f32⟩
  | .hbm, ⟨62, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== Dh1.lean ====
abbrev S4096x3072 : Shape := ⟨2, ![4096, 3072]⟩
abbrev S1x2048x3072 : Shape := ⟨3, ![1, 2048, 3072]⟩
abbrev S1x4096x2048 : Shape := ⟨3, ![1, 4096, 2048]⟩
abbrev S4096x2048 : Shape := ⟨2, ![4096, 2048]⟩
abbrev S1x2048 : Shape := ⟨2, ![1, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S512x768 : Shape := ⟨2, ![512, 768]⟩
abbrev S1x2048x768 : Shape := ⟨3, ![1, 2048, 768]⟩
abbrev S512x2048 : Shape := ⟨2, ![512, 2048]⟩
abbrev S512x512 : Shape := ⟨2, ![512, 512]⟩
abbrev S1x512x768 : Shape := ⟨3, ![1, 512, 768]⟩
abbrev S256x768 : Shape := ⟨2, ![256, 768]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 12
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1x2048x3072, .f32⟩
  | .hbm, ⟨2, _⟩ => ⟨S1x4096x2048, .f32⟩
  | .hbm, ⟨3, _⟩ => ⟨S4096x2048, .bf16⟩
  | .hbm, ⟨4, _⟩ => ⟨S1x2048, .f32⟩
  | .hbm, ⟨5, _⟩ => ⟨S2048x3072, .f32⟩
  | .hbm, ⟨6, _⟩ => ⟨S2048x3072, .bf16⟩
  | .hbm, ⟨7, _⟩ => ⟨S2048x4x768, .bf16⟩
  | .hbm, ⟨8, _⟩ => ⟨S4x2048x768, .bf16⟩
  | .hbm, ⟨9, _⟩ => ⟨S4096x2048, .f32⟩
  | .hbm, ⟨10, _⟩ => ⟨S4096x2048, .f32⟩
  | .hbm, ⟨11, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v0 : BitVec 1 := Scalar.cmpi .eq arg1 c3_i32
  let v7 : BitVec 32 := Scalar.extui v0
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c0_i32_4 : BitVec 32 := 0#32
  let v10 : BitVec 1 := Scalar.cmpi .eq arg0 c0_i32_4
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Dh1RefIdeal.lean ====
abbrev S4096x3072 : Shape := ⟨2, ![4096, 3072]⟩
abbrev S1x2048x3072 : Shape := ⟨3, ![1, 2048, 3072]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S2048x3072 : Shape := ⟨2, ![2048, 3072]⟩
abbrev S1x4096x3072 : Shape := ⟨3, ![1, 4096, 3072]⟩
abbrev S4096 : Shape := ⟨1, ![4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1x2048x3072, .f32⟩
  | .hbm, ⟨2, _⟩ => ⟨S1x4096x2048, .f32⟩
  | .hbm, ⟨3, _⟩ => ⟨S4096x2048, .bf16⟩
  | .hbm, ⟨4, _⟩ => ⟨S1x2048, .f32⟩
  | .hbm, ⟨5, _⟩ => ⟨S2048, .f32⟩
  | .hbm, ⟨6, _⟩ => ⟨S1x4096x2048, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S2048x3072, .f32⟩
  | .hbm, ⟨27, _⟩ => ⟨S1x4096x3072, .f32⟩
  | .hbm, ⟨28, _⟩ => ⟨S4096x2048, .f32⟩
  | .hbm, ⟨29, _⟩ => ⟨S1x4096x2048, .f32⟩
  | .hbm, ⟨30, _⟩ => ⟨S4096x3072, .f32⟩
  | .hbm, ⟨31, _⟩ => ⟨S1x4096x3072, .f32⟩
  | .hbm, ⟨32, _⟩ => ⟨S1x4096x2048, .f32⟩
  | .hbm, ⟨33, _⟩ => ⟨S1x4096x2048, .f32⟩
  | .hbm, ⟨34, _⟩ => ⟨S_, .f32⟩
  | .hbm, ⟨35, _⟩ => ⟨S1x2048, .f32⟩
  | .hbm, ⟨36, _⟩ => ⟨S1x1x2048, .f32⟩
  | .hbm, ⟨37, _⟩ => ⟨S1x4096x2048, .f32⟩
  | .hbm, ⟨38, _⟩ => ⟨S1x4096x2048, .f32⟩
  | .hbm, ⟨39, _⟩ => ⟨S_, .f32⟩
  | .hbm, ⟨40, _⟩ => ⟨S2048, .f32⟩
  | .hbm, ⟨41, _⟩ => ⟨S1x4096x2048, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S1x4096x2048, .f32⟩
  | .hbm, ⟨46, _⟩ => ⟨S1x4096x2048, .f32⟩
  | .hbm, ⟨47, _⟩ => ⟨S1x4096x2048, .f32⟩
  | .hbm, ⟨48, _⟩ => ⟨S1x4096x1, .f32⟩
  | .hbm, ⟨49, _⟩ => ⟨S_, .f32⟩
  | .hbm, ⟨50, _⟩ => ⟨S1x4096x1, .f32⟩
  | .hbm, ⟨51, _⟩ => ⟨S1x4096x1, .f32⟩
  | .hbm, ⟨52, _⟩ => ⟨S_, .f32⟩
  | .hbm, ⟨53, _⟩ => ⟨S4096, .f32⟩
  | .hbm, ⟨54, _⟩ => ⟨S1x4096, .f32⟩
  | .hbm, ⟨55, _⟩ => ⟨S1x4096x2048, .f32⟩
  | .hbm, ⟨56, _⟩ => ⟨S1x4096x2048, .f32⟩
  | .hbm, ⟨57, _⟩ => ⟨S1x4096x2048, .f32⟩
  | .hbm, ⟨58, _⟩ => ⟨S1x4096x2048, .f32⟩
  | .hbm, ⟨59, _⟩ => ⟨S1x4096x2048, .f32⟩
  | .hbm, ⟨60, _⟩ => ⟨S1x2048, .f32⟩
  | .hbm, ⟨61, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Mixer.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S4096x2048 : Shape := ⟨2, ![4096, 2048]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S4x256x256 : Shape := ⟨3, ![4, 256, 256]⟩
abbrev S512x1024 : Shape := ⟨2, ![512, 1024]⟩
abbrev S16x1024 : Shape := ⟨2, ![16, 1024]⟩
abbrev S512x3072 : Shape := ⟨2, ![512, 3072]⟩
abbrev S1x128 : Shape := ⟨2, ![1, 128]⟩
abbrev S128 : Shape := ⟨1, ![128]⟩
abbrev S128x1 : Shape := ⟨2, ![128, 1]⟩
abbrev S512x1 : Shape := ⟨2, ![512, 1]⟩
abbrev S16x1 : Shape := ⟨2, ![16, 1]⟩
abbrev S1x256x256 : Shape := ⟨3, ![1, 256, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩
abbrev S256 : Shape := ⟨1, ![256]⟩
abbrev S1x128x1 : Shape := ⟨3, ![1, 128, 1]⟩

abbrev nBuf : Space → Nat
  | .hbm => 38
  | .vmem => 28
  | .smem => 0
  | _ => 0

abbrev bufTy : (tb : Table) → Fin (tcTables nBuf tb) → BufTy
  | .hbm, ⟨0, _⟩ => ⟨S4096x3072, .f32⟩
  | .hbm, ⟨1, _⟩ => ⟨S1x8x128x128, .f32⟩
  | .hbm, ⟨2, _⟩ => ⟨S1x8x128, .f32⟩
  | .hbm, ⟨3, _⟩ => ⟨S1x1024, .f32⟩
  | .hbm, ⟨4, _⟩ => ⟨S1x4x256x256, .f32⟩
  | .hbm, ⟨5, _⟩ => ⟨S1x1024, .f32⟩
  | .hbm, ⟨6, _⟩ => ⟨S4096x2048, .bf16⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S8x128x128, .f32⟩
  | .hbm, ⟨20, _⟩ => ⟨S_, .f32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128x128, .bf16⟩
  | .hbm, ⟨26, _⟩ => ⟨S8x128x128, .bf16⟩
  | .hbm, ⟨27, _⟩ => ⟨S8x128, .f32⟩
  | .hbm, ⟨28, _⟩ => ⟨S8x128x1, .f32⟩
  | .hbm, ⟨29, _⟩ => ⟨S8x128x128, .f32⟩
  | .hbm, ⟨30, _⟩ => ⟨S4x256x256, .f32⟩
  | .hbm, ⟨31, _⟩ => ⟨S4x256x256, .bf16⟩
  | .hbm, ⟨32, _⟩ => ⟨S4096x3072, .bf16⟩
  | .hbm, ⟨33, _⟩ => ⟨S8x128x128, .f32⟩
  | .hbm, ⟨34, _⟩ => ⟨S8x128x1, .f32⟩
  | .hbm, ⟨35, _⟩ => ⟨S1x1024, .f32⟩
  | .hbm, ⟨36, _⟩ => ⟨S4x256x256, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S16x1024, .bf16⟩
  | .local _ .vmem, ⟨13, _⟩ => ⟨S16x1024, .bf16⟩
  | .local _ .vmem, ⟨14, _⟩ => ⟨S8x128x128, .bf16⟩
  | .local _ .vmem, ⟨15, _⟩ => ⟨S8x128x128, .bf16⟩
  | .local _ .vmem, ⟨16, _⟩ => ⟨S8x128x128, .f32⟩
  | .local _ .vmem, ⟨17, _⟩ => ⟨S1x1024, .f32⟩
  | .local _ .vmem, ⟨18, _⟩ => ⟨S4x256x256, .bf16⟩
  | .local _ .vmem, ⟨19, _⟩ => ⟨S1x1024, .f32⟩
  | .local _ .vmem, ⟨20, _⟩ => ⟨S512x3072, .bf16⟩
  | .local _ .vmem, ⟨21, _⟩ => ⟨S512x3072, .bf16⟩
  | .local _ .vmem, ⟨22, _⟩ => ⟨S8x128x128, .f32⟩
  | .local _ .vmem, ⟨23, _⟩ => ⟨S8x128x1, .f32⟩
  | .local _ .vmem, ⟨24, _⟩ => ⟨S1x1024, .f32⟩
  | .local _ .vmem, ⟨25, _⟩ => ⟨S4x256x256, .f32⟩
  | .local _ .vmem, ⟨26, _⟩ => ⟨S1x1024, .f32⟩
  | .local _ .vmem, ⟨27, _⟩ => ⟨S8x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev main_v12_4 : Ref sig .tc := ⟨.hbm, 36, rfl⟩
abbrev main_v12_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![8], ![false]⟩

def k0_mult1 : BitVec 32 :=
  let c0_i32_11 : BitVec 32 := 0#32
  let c128_i32 : BitVec 32 := 128#32
  let v11 : BitVec 32 := Scalar.muli c0_i32_11 c128_i32
  v11
def k0_off1 (c0_i32_11 : BitVec 32) : Fin 2 → Nat :=
  let c128_i32 : BitVec 32 := 128#32
  let v11 : BitVec 32 := Scalar.muli c0_i32_11 c128_i32
  let v12 : BitVec 32 := v11
  let v13 : Index := Scalar.indexCast v12
  let c0_12 : Index := 0#32
  ![v13.toNat, 0]
def k0_off2 (c0_i32_11 : BitVec 32) : Fin 2 → Nat :=
  let c128_i32 : BitVec 32 := 128#32
  let v11 : BitVec 32 := Scalar.muli c0_i32_11 c128_i32
  let v12 : BitVec 32 := v11
  let v136 : Index := Scalar.indexCast v12
  let c0_61 : Index := 0#32
  ![v136.toNat, 0]
def k0_off3 (c0_i32_11 : BitVec 32) : Fin 2 → Nat :=
  let c128_i32 : BitVec 32 := 128#32
  let v11 : BitVec 32 := Scalar.muli c0_i32_11 c128_i32
  let v12 : BitVec 32 := v11
  let v142 : Index := Scalar.indexCast v12
  let c1024 : Index := 1024#32
  ![v142.toNat, 1024]
def k0_mult2 : BitVec 32 :=
  let c1_i32 : BitVec 32 := 1#32
  let c128_i32_62 : BitVec 32 := 128#32
  let v146 : BitVec 32 := Scalar.muli c1_i32 c128_i32_62
  v146
def k0_mult3 : BitVec 32 :=
  let c2_i32 : BitVec 32 := 2#32
  let c128_i32_115 : BitVec 32 := 128#32
  let v281 : BitVec 32 := Scalar.muli c2_i32 c128_i32_115
  v281
def k0_mult4 : BitVec 32 :=
  let c3_i32 : BitVec 32 := 3#32
  let c128_i32_168 : BitVec 32 := 128#32
  let v416 : BitVec 32 := Scalar.muli c3_i32 c128_i32_168
  v416
def k0_mult5 : BitVec 32 :=
  let c0_i32_230 : BitVec 32 := 0#32
  let c128_i32_231 : BitVec 32 := 128#32
  let v558 : BitVec 32 := Scalar.muli c0_i32_230 c128_i32_231
  v558
def k0_off4 (c0_i32_230 : BitVec 32) : Fin 2 → Nat :=
  let c128_i32_231 : BitVec 32 := 128#32
  let v558 : BitVec 32 := Scalar.muli c0_i32_230 c128_i32_231
  let v559 : BitVec 32 := v558
  let v560 : Index := Scalar.indexCast v559
  let c128_232 : Index := 128#32
  ![v560.toNat, 128]
def k0_off5 (c0_i32_230 : BitVec 32) : Fin 2 → Nat :=
  let c128_i32_231 : BitVec 32 := 128#32
  let v558 : BitVec 32 := Scalar.muli c0_i32_230 c128_i32_231
  let v559 : BitVec 32 := v558
  let v683 : Index := Scalar.indexCast v559
  let c128_282 : Index := 128#32
  ![v683.toNat, 128]
def k0_off6 (c0_i32_230 : BitVec 32) : Fin 2 → Nat :=
  let c128_i32_231 : BitVec 32 := 128#32
  let v558 : BitVec 32 := Scalar.muli c0_i32_230 c128_i32_231
  let v559 : BitVec 32 := v558
  let v689 : Index := Scalar.indexCast v559
  let c1152 : Index := 1152#32
  ![v689.toNat, 1152]
def k0_mult6 : BitVec 32 :=
  let c1_i32_283 : BitVec 32 := 1#32
  let c128_i32_284 : BitVec 32 := 128#32
  let v693 : BitVec 32 := Scalar.muli c1_i32_283 c128_i32_284
  v693
def k0_mult7 : BitVec 32 :=
  let c2_i32_337 : BitVec 32 := 2#32
  let c128_i32_338 : BitVec 32 := 128#32
  let v828 : BitVec 32 := Scalar.muli c2_i32_337 c128_i32_338
  v828
def k0_mult8 : BitVec 32 :=
  let c3_i32_391 : BitVec 32 := 3#32
  let c128_i32_392 : BitVec 32 := 128#32
  let v963 : BitVec 32 := Scalar.muli c3_i32_391 c128_i32_392
  v963
def k0_mult9 : BitVec 32 :=
  let c0_i32_455 : BitVec 32 := 0#32
  let c128_i32_456 : BitVec 32 := 128#32
  let v1105 : BitVec 32 := Scalar.muli c0_i32_455 c128_i32_456
  v1105
def k0_off7 (c0_i32_455 : BitVec 32) : Fin 2 → Nat :=
  let c128_i32_456 : BitVec 32 := 128#32
  let v1105 : BitVec 32 := Scalar.muli c0_i32_455 c128_i32_456
  let v1106 : BitVec 32 := v1105
  let v1107 : Index := Scalar.indexCast v1106
  let c256_457 : Index := 256#32
  ![v1107.toNat, 256]
def k0_off8 (c0_i32_455 : BitVec 32) : Fin 2 → Nat :=
  let c128_i32_456 : BitVec 32 := 128#32
  let v1105 : BitVec 32 := Scalar.muli c0_i32_455 c128_i32_456
  let v1106 : BitVec 32 := v1105
  let v1230 : Index := Scalar.indexCast v1106
  let c256_507 : Index := 256#32
  ![v1230.toNat, 256]
def k0_off9 (c0_i32_455 : BitVec 32) : Fin 2 → Nat :=
  let c128_i32_456 : BitVec 32 := 128#32
  let v1105 : BitVec 32 := Scalar.muli c0_i32_455 c128_i32_456
  let v1106 : BitVec 32 := v1105
  let v1236 : Index := Scalar.indexCast v1106
  let c1280 : Index := 1280#32
  ![v1236.toNat, 1280]
def k0_mult10 : BitVec 32 :=
  let c1_i32_508 : BitVec 32 := 1#32
  let c128_i32_509 : BitVec 32 := 128#32
  let v1240 : BitVec 32 := Scalar.muli c1_i32_508 c128_i32_509
  v1240
def k0_mult11 : BitVec 32 :=
  let c2_i32_562 : BitVec 32 := 2#32
  let c128_i32_563 : BitVec 32 := 128#32
  let v1375 : BitVec 32 := Scalar.muli c2_i32_562 c128_i32_563
  v1375
def k0_mult12 : BitVec 32 :=
  let c3_i32_616 : BitVec 32 := 3#32
  let c128_i32_617 : BitVec 32 := 128#32
  let v1510 : BitVec 32 := Scalar.muli c3_i32_616 c128_i32_617
  v1510
def k0_mult13 : BitVec 32 :=
  let c0_i32_680 : BitVec 32 := 0#32
  let c128_i32_681 : BitVec 32 := 128#32
  let v1652 : BitVec 32 := Scalar.muli c0_i32_680 c128_i32_681
  v1652
def k0_off10 (c0_i32_680 : BitVec 32) : Fin 2 → Nat :=
  let c128_i32_681 : BitVec 32 := 128#32
  let v1652 : BitVec 32 := Scalar.muli c0_i32_680 c128_i32_681
  let v1653 : BitVec 32 := v1652
  let v1654 : Index := Scalar.indexCast v1653
  let c384_682 : Index := 384#32
  ![v1654.toNat, 384]
def k0_off11 (c0_i32_680 : BitVec 32) : Fin 2 → Nat :=
  let c128_i32_681 : BitVec 32 := 128#32
  let v1652 : BitVec 32 := Scalar.muli c0_i32_680 c128_i32_681
  let v1653 : BitVec 32 := v1652
  let v1777 : Index := Scalar.indexCast v1653
  let c384_732 : Index := 384#32
  ![v1777.toNat, 384]
def k0_off12 (c0_i32_680 : BitVec 32) : Fin 2 → Nat :=
  let c128_i32_681 : BitVec 32 := 128#32
  let v1652 : BitVec 32 := Scalar.muli c0_i32_680 c128_i32_681
  let v1653 : BitVec 32 := v1652
  let v1783 : Index := Scalar.indexCast v1653
  let c1408 : Index := 1408#32
  ![v1783.toNat, 1408]
def k0_mult14 : BitVec 32 :=
  let c1_i32_733 : BitVec 32 := 1#32
  let c128_i32_734 : BitVec 32 := 128#32
  let v1787 : BitVec 32 := Scalar.muli c1_i32_733 c128_i32_734
  v1787
def k0_mult15 : BitVec 32 :=
  let c2_i32_787 : BitVec 32 := 2#32
  let c128_i32_788 : BitVec 32 := 128#32
  let v1922 : BitVec 32 := Scalar.muli c2_i32_787 c128_i32_788
  v1922
def k0_mult16 : BitVec 32 :=
  let c3_i32_841 : BitVec 32 := 3#32
  let c128_i32_842 : BitVec 32 := 128#32
  let v2057 : BitVec 32 := Scalar.muli c3_i32_841 c128_i32_842
  v2057
def k0_mult17 : BitVec 32 :=
  let c0_i32_905 : BitVec 32 := 0#32
  let c128_i32_906 : BitVec 32 := 128#32
  let v2199 : BitVec 32 := Scalar.muli c0_i32_905 c128_i32_906
  v2199
def k0_off13 (c0_i32_905 : BitVec 32) : Fin 2 → Nat :=
  let c128_i32_906 : BitVec 32 := 128#32
  let v2199 : BitVec 32 := Scalar.muli c0_i32_905 c128_i32_906
  let v2200 : BitVec 32 := v2199
  let v2201 : Index := Scalar.indexCast v2200
  let c512_907 : Index := 512#32
  ![v2201.toNat, 512]
def k0_off14 (c0_i32_905 : BitVec 32) : Fin 2 → Nat :=
  let c128_i32_906 : BitVec 32 := 128#32
  let v2199 : BitVec 32 := Scalar.muli c0_i32_905 c128_i32_906
  let v2200 : BitVec 32 := v2199
  let v2324 : Index := Scalar.indexCast v2200
  let c512_957 : Index := 512#32
  ![v2324.toNat, 512]
def k0_off15 (c0_i32_905 : BitVec 32) : Fin 2 → Nat :=
  let c128_i32_906 : BitVec 32 := 128#32
  let v2199 : BitVec 32 := Scalar.muli c0_i32_905 c128_i32_906
  let v2200 : BitVec 32 := v2199
  let v2330 : Index := Scalar.indexCast v2200
  let c1536 : Index := 1536#32
  ![v2330.toNat, 1536]
def k0_mult18 : BitVec 32 :=
  let c1_i32_958 : BitVec 32 := 1#32
  let c128_i32_959 : BitVec 32 := 128#32
  let v2334 : BitVec 32 := Scalar.muli c1_i32_958 c128_i32_959
  v2334
def k0_mult19 : BitVec 32 :=
  let c2_i32_1012 : BitVec 32 := 2#32
  let c128_i32_1013 : BitVec 32 := 128#32
  let v2469 : BitVec 32 := Scalar.muli c2_i32_1012 c128_i32_1013
  v2469
def k0_mult20 : BitVec 32 :=
  let c3_i32_1066 : BitVec 32 := 3#32
  let c128_i32_1067 : BitVec 32 := 128#32
  let v2604 : BitVec 32 := Scalar.muli c3_i32_1066 c128_i32_1067
  v2604
def k0_mult21 : BitVec 32 :=
  let c0_i32_1130 : BitVec 32 := 0#32
  let c128_i32_1131 : BitVec 32 := 128#32
  let v2746 : BitVec 32 := Scalar.muli c0_i32_1130 c128_i32_1131
  v2746
def k0_off16 (c0_i32_1130 : BitVec 32) : Fin 2 → Nat :=
  let c128_i32_1131 : BitVec 32 := 128#32
  let v2746 : BitVec 32 := Scalar.muli c0_i32_1130 c128_i32_1131
  let v2747 : BitVec 32 := v2746
  let v2748 : Index := Scalar.indexCast v2747
  let c640_1132 : Index := 640#32
  ![v2748.toNat, 640]
def k0_off17 (c0_i32_1130 : BitVec 32) : Fin 2 → Nat :=
  let c128_i32_1131 : BitVec 32 := 128#32
  let v2746 : BitVec 32 := Scalar.muli c0_i32_1130 c128_i32_1131
  let v2747 : BitVec 32 := v2746
  let v2871 : Index := Scalar.indexCast v2747
  let c640_1182 : Index := 640#32
  ![v2871.toNat, 640]
def k0_off18 (c0_i32_1130 : BitVec 32) : Fin 2 → Nat :=
  let c128_i32_1131 : BitVec 32 := 128#32
  let v2746 : BitVec 32 := Scalar.muli c0_i32_1130 c128_i32_1131
  let v2747 : BitVec 32 := v2746
  let v2877 : Index := Scalar.indexCast v2747
  let c1664 : Index := 1664#32
  ![v2877.toNat, 1664]
def k0_mult22 : BitVec 32 :=
  let c1_i32_1183 : BitVec 32 := 1#32
  let c128_i32_1184 : BitVec 32 := 128#32
  let v2881 : BitVec 32 := Scalar.muli c1_i32_1183 c128_i32_1184
  v2881
def k0_mult23 : BitVec 32 :=
  let c2_i32_1237 : BitVec 32 := 2#32
  let c128_i32_1238 : BitVec 32 := 128#32
  let v3016 : BitVec 32 := Scalar.muli c2_i32_1237 c128_i32_1238
  v3016
def k0_mult24 : BitVec 32 :=
  let c3_i32_1291 : BitVec 32 := 3#32
  let c128_i32_1292 : BitVec 32 := 128#32
  let v3151 : BitVec 32 := Scalar.muli c3_i32_1291 c128_i32_1292
  v3151
def k0_mult25 : BitVec 32 :=
  let c0_i32_1355 : BitVec 32 := 0#32
  let c128_i32_1356 : BitVec 32 := 128#32
  let v3293 : BitVec 32 := Scalar.muli c0_i32_1355 c128_i32_1356
  v3293
def k0_off19 (c0_i32_1355 : BitVec 32) : Fin 2 → Nat :=
  let c128_i32_1356 : BitVec 32 := 128#32
  let v3293 : BitVec 32 := Scalar.muli c0_i32_1355 c128_i32_1356
  let v3294 : BitVec 32 := v3293
  let v3295 : Index := Scalar.indexCast v3294
  let c768_1357 : Index := 768#32
  ![v3295.toNat, 768]
def k0_off20 (c0_i32_1355 : BitVec 32) : Fin 2 → Nat :=
  let c128_i32_1356 : BitVec 32 := 128#32
  let v3293 : BitVec 32 := Scalar.muli c0_i32_1355 c128_i32_1356
  let v3294 : BitVec 32 := v3293
  let v3418 : Index := Scalar.indexCast v3294
  let c768_1407 : Index := 768#32
  ![v3418.toNat, 768]
def k0_off21 (c0_i32_1355 : BitVec 32) : Fin 2 → Nat :=
  let c128_i32_1356 : BitVec 32 := 128#32
  let v3293 : BitVec 32 := Scalar.muli c0_i32_1355 c128_i32_1356
  let v3294 : BitVec 32 := v3293
  let v3424 : Index := Scalar.indexCast v3294
  let c1792 : Index := 1792#32
  ![v3424.toNat, 1792]
def k0_mult26 : BitVec 32 :=
  let c1_i32_1408 : BitVec 32 := 1#32
  let c128_i32_1409 : BitVec 32 := 128#32
  let v3428 : BitVec 32 := Scalar.muli c1_i32_1408 c128_i32_1409
  v3428
def k0_mult27 : BitVec 32 :=
  let c2_i32_1462 : BitVec 32 := 2#32
  let c128_i32_1463 : BitVec 32 := 128#32
  let v3563 : BitVec 32 := Scalar.muli c2_i32_1462 c128_i32_1463
  v3563
def k0_mult28 : BitVec 32 :=
  let c3_i32_1516 : BitVec 32 := 3#32
  let c128_i32_1517 : BitVec 32 := 128#32
  let v3698 : BitVec 32 := Scalar.muli c3_i32_1516 c128_i32_1517
  v3698
def k0_mult29 : BitVec 32 :=
  let c0_i32_1580 : BitVec 32 := 0#32
  let c128_i32_1581 : BitVec 32 := 128#32
  let v3840 : BitVec 32 := Scalar.muli c0_i32_1580 c128_i32_1581
  v3840
def k0_off22 (c0_i32_1580 : BitVec 32) : Fin 2 → Nat :=
  let c128_i32_1581 : BitVec 32 := 128#32
  let v3840 : BitVec 32 := Scalar.muli c0_i32_1580 c128_i32_1581
  let v3841 : BitVec 32 := v3840
  let v3842 : Index := Scalar.indexCast v3841
  let c896_1582 : Index := 896#32
  ![v3842.toNat, 896]
def k0_off23 (c0_i32_1580 : BitVec 32) : Fin 2 → Nat :=
  let c128_i32_1581 : BitVec 32 := 128#32
  let v3840 : BitVec 32 := Scalar.muli c0_i32_1580 c128_i32_1581
  let v3841 : BitVec 32 := v3840
  let v3965 : Index := Scalar.indexCast v3841
  let c896_1632 : Index := 896#32
  ![v3965.toNat, 896]
def k0_off24 (c0_i32_1580 : BitVec 32) : Fin 2 → Nat :=
  let c128_i32_1581 : BitVec 32 := 128#32
  let v3840 : BitVec 32 := Scalar.muli c0_i32_1580 c128_i32_1581
  let v3841 : BitVec 32 := v3840
  let v3971 : Index := Scalar.indexCast v3841
  let c1920 : Index := 1920#32
  ![v3971.toNat, 1920]
def k0_mult30 : BitVec 32 :=
  let c1_i32_1633 : BitVec 32 := 1#32
  let c128_i32_1634 : BitVec 32 := 128#32
  let v3975 : BitVec 32 := Scalar.muli c1_i32_1633 c128_i32_1634
  v3975
def k0_mult31 : BitVec 32 :=
  let c2_i32_1687 : BitVec 32 := 2#32
  let c128_i32_1688 : BitVec 32 := 128#32
  let v4110 : BitVec 32 := Scalar.muli c2_i32_1687 c128_i32_1688
  v4110
def k0_mult32 : BitVec 32 :=
  let c3_i32_1741 : BitVec 32 := 3#32
  let c128_i32_1742 : BitVec 32 := 128#32
  let v4245 : BitVec 32 := Scalar.muli c3_i32_1741 c128_i32_1742
  v4245
def k0_cond2 (i : grid0.Coords) : BitVec 1 :=
  let arg0 : BitVec 32 := BitVec.ofNat 32 (i 0).val
  let c7_i32 : BitVec 32 := 7#32
  let v0 : BitVec 1 := Scalar.cmpi .eq arg0 c7_i32
  let v4749 : BitVec 32 := Scalar.extui v0
  let c0_i32_1980 : BitVec 32 := 0#32
  let v4750 : BitVec 1 := Scalar.cmpi .ne v4749 c0_i32_1980
  v4750

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c1_i32_0 : BitVec 32 := 1#32
  let c0_i32 : BitVec 32 := 0#32
  ![v2.toNat, c1_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== MixerIdeal.lean ====
variable {F : FTy → Type} [FloatOps F] [Named F]
def κ : String → Option EReal := fun
  | "cube" => some ((8943 / 200000 : ℝ) : EReal)
  | "slope" => some ((26829 / 200000 : ℝ) : EReal)
  | _ => none
-- ==== MixerRefIdeal.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S4096x2048 : Shape := ⟨2, ![4096, 2048]⟩
abbrev S1x4096x3072 : Shape := ⟨3, ![1, 4096, 3072]⟩
abbrev S1x4096x2048 : Shape := ⟨3, ![1, 4096, 2048]⟩
abbrev S1x4096x1024 : Shape := ⟨3, ![1, 4096, 1024]⟩
abbrev S_ : Shape := ⟨0, ![]⟩
abbrev S8x128x128 : Shape := ⟨3, ![8, 128, 128]⟩
abbrev S8x128 : Shape := ⟨2, ![8, 128]⟩
abbrev S1024 : Shape := ⟨1, ![1024]⟩
abbrev S1x4096x8x128 : Shape := ⟨4, ![1, 4096, 8, 128]⟩
abbrev S1x4096x8 : Shape := ⟨3, ![1, 4096, 8]⟩
abbrev S1x4096x8x1 : Shape := ⟨4, ![1, 4096, 8, 1]⟩
abbrev S1x1x8x128 : Shape := ⟨4, ![1, 1, 8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4x256x256 : Shape := ⟨3, ![4, 256, 256]⟩
abbrev S1x4096x4x256 : Shape := ⟨4, ![1, 4096, 4, 256]⟩
abbrev S1x1x4x256 : Shape := ⟨4, ![1, 1, 4, 256]⟩
abbrev S1x4097x4x256 : Shape := ⟨4, ![1, 4097, 4, 256]⟩
abbrev S4096 : Shape := ⟨1, ![4096]⟩
abbrev S1x4097x1x256 : Shape := ⟨4, ![1, 4097, 1, 256]⟩
abbrev S1x4097x256 : Shape := ⟨3, ![1, 4097, 256]⟩
abbrev S1x1x256 : Shape := ⟨3, ![1, 1, 256]⟩
abbrev S1x4095x256 : Shape := ⟨3, ![1, 4095, 256]⟩
abbrev S1x4096x256 : Shape := ⟨3, ![1, 4096, 256]⟩
abbrev S1x4096x1 : Shape := ⟨3, ![1, 4096, 1]⟩
abbrev S1x4096x1x256 : Shape := ⟨4, ![1, 4096, 1, 256]⟩
abbrev S1x3x256 : Shape := ⟨3, ![1, 3, 256]⟩
abbrev S1x4093x256 : Shape := ⟨3, ![1, 4093, 256]⟩
abbrev S1x7x256 : Shape := ⟨3, ![1, 7, 256]⟩
abbrev S1x4089x256 : Shape := ⟨3, ![1, 4089, 256]⟩
abbrev S1x15x256 : Shape := ⟨3, ![1, 15, 256]⟩
abbrev S1x4081x256 : Shape := ⟨3, ![1, 4081, 256]⟩
abbrev S4x256x1x4096 : Shape := ⟨4, ![4, 256, 1, 4096]⟩
abbrev S1x1x1024 : Shape := ⟨3, ![1, 1, 1024]⟩
abbrev S4x1x4096x256 : Shape := ⟨4, ![4, 1, 4096, 256]⟩
abbrev S1x128x8 : Shape := ⟨3, ![1, 128, 8]⟩
abbrev S4096x8 : Shape := ⟨2, ![4096, 8]⟩
abbrev S8x128x1 : Shape := ⟨3, ![8, 128, 1]⟩

abbrev nBuf : Space → Nat
  | .hbm => 449
  | .vmem => 0
  | .smem => 0
  | _ => 0

abbrev hbmTy0_0 (i : Nat) : BufTy := match i % 128 with
  | 0 => ⟨S4096x3072, .f32⟩
  | 1 => ⟨S1x8x128x128, .f32⟩
  | 2 => ⟨S1x8x128, .f32⟩
  | 3 => ⟨S1x1024, .f32⟩
  | 4 => ⟨S1x4x256x256, .f32⟩
  | 5 => ⟨S1x1024, .f32⟩
  | 6 => ⟨S4096x2048, .bf16⟩
  | 7 => ⟨S1x4096x3072, .f32⟩
  | 8 => ⟨S4096x2048, .f32⟩
  | 9 => ⟨S1x4096x2048, .f32⟩
  | 10 => ⟨S1x4096x1024, .f32⟩
  | 11 => ⟨S1x4096x1024, .f32⟩
  | 12 => ⟨S1x4096x1024, .f32⟩
  | 13 => ⟨S1x4096x1024, .f32⟩
  | 14 => ⟨S_, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S_, .f32⟩
  | 21 => ⟨S1x4096x1024, .f32⟩
  | 22 => ⟨S1x4096x1024, .f32⟩
  | 23 => ⟨S1x4096x1024, .f32⟩
  | 24 => ⟨S_, .f32⟩
  | 25 => ⟨S1x4096x1024, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S1x4096x1024, .f32⟩
  | 42 => ⟨S1x4096x1024, .f32⟩
  | 43 => ⟨S1x4096x1024, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S_, .f32⟩
  | 50 => ⟨S1x4096x1024, .f32⟩
  | 51 => ⟨S1x4096x1024, .f32⟩
  | 52 => ⟨S_, .f32⟩
  | 53 => ⟨S1x4096x1024, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x1024, .f32⟩
  | 60 => ⟨S_, .f32⟩
  | 61 => ⟨S1x4096x1024, .f32⟩
  | 62 => ⟨S1x4096x1024, .f32⟩
  | 63 => ⟨S_, .f32⟩
  | 64 => ⟨S1x4096x1024, .f32⟩
  | 65 => ⟨S1x4096x1024, .f32⟩
  | 66 => ⟨S1x4096x1024, .f32⟩
  | 67 => ⟨S_, .f32⟩
  | 68 => ⟨S1x4096x1024, .f32⟩
  | 69 => ⟨S1x4096x1024, .f32⟩
  | 70 => ⟨S_, .f32⟩
  | 71 => ⟨S1x4096x1024, .f32⟩
  | 72 => ⟨S1x4096x1024, .f32⟩
  | 73 => ⟨S1x4096x1024, .f32⟩
  | 74 => ⟨S1x4096x1024, .f32⟩
  | 75 => ⟨S8x128x128, .f32⟩
  | 76 => ⟨S8x128, .f32⟩
  | 77 => ⟨S1024, .f32⟩
  | 78 => ⟨S1x4096x8x128, .f32⟩
  | 79 => ⟨S8x128, .f32⟩
  | 80 => ⟨S1x4096x8x128, .f32⟩
  | 81 => ⟨S_, .f32⟩
  | 82 => ⟨S1x4096x8, .f32⟩
  | 83 => ⟨S1x4096x8x1, .f32⟩
  | 84 => ⟨S_, .f32⟩
  | 85 => ⟨S1x4096x8x1, .f32⟩
  | 86 => ⟨S1x4096x8x1, .f32⟩
  | 87 => ⟨S_, .f32⟩
  | 88 => ⟨S1x4096x8x1, .f32⟩
  | 89 => ⟨S1x4096x8x1, .f32⟩
  | 90 => ⟨S1x4096x8x1, .f32⟩
  | 91 => ⟨S1x4096x8x1, .f32⟩
  | 92 => ⟨S_, .f32⟩
  | 93 => ⟨S1x4096x8x1, .f32⟩
  | 94 => ⟨S1x4096x8x1, .f32⟩
  | 95 => ⟨S1x4096x8x128, .f32⟩
  | 96 => ⟨S1x4096x8x128, .f32⟩
  | 97 => ⟨S1x1x8x128, .f32⟩
  | 98 => ⟨S1x4096x8x128, .f32⟩
  | 99 => ⟨S1x4096x8x128, .f32⟩
  | 100 => ⟨S1x32x128x8x128, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .f32⟩
  | 114 => ⟨S8x128x128, .f32⟩
  | 115 => ⟨S8x128x128, .i1⟩
  | 116 => ⟨S8x128x128, .f32⟩
  | 117 => ⟨S_, .f32⟩
  | 118 => ⟨S8x128x128, .f32⟩
  | 119 => ⟨S8x1x32x128x128, .f32⟩
  | 120 => ⟨S1x32x128x8x128, .f32⟩
  | 121 => ⟨S128x8, .f32⟩
  | 122 => ⟨S1x1x128x8x1, .f32⟩
  | 123 => ⟨S1x32x128x8x128, .f32⟩
  | 124 => ⟨S1x32x128x8x128, .f32⟩
  | 125 => ⟨S1x4096x1024, .f32⟩
  | 126 => ⟨S1x4096x1024, .f32⟩
  | 127 => ⟨S4x256x256, .f32⟩
  | _ => ⟨S4096x3072, .f32⟩

abbrev hbmTy0_1 (i : Nat) : BufTy := match i % 128 with
  | 0 => ⟨S1024, .f32⟩
  | 1 => ⟨S1x4096x4x256, .f32⟩
  | 2 => ⟨S_, .f32⟩
  | 3 => ⟨S_, .f32⟩
  | 4 => ⟨S1x4096x4x256, .f32⟩
  | 5 => ⟨S1x1x4x256, .f32⟩
  | 6 => ⟨S_, .f32⟩
  | 7 => ⟨S1x1x4x256, .f32⟩
  | 8 => ⟨S1x4097x4x256, .f32⟩
  | 9 => ⟨S_, .f32⟩
  | 10 => ⟨S1x1x4x256, .f32⟩
  | 11 => ⟨S4096, .i32⟩
  | 12 => ⟨S1x4097x1x256, .f32⟩
  | 13 => ⟨S1x4097x256, .f32⟩
  | 14 => ⟨S_, .f32⟩
  | 15 => ⟨S1x1x256, .f32⟩
  | 16 => ⟨S1x4095x256, .f32⟩
  | 17 => ⟨S1x4096x256, .f32⟩
  | 18 => ⟨S_, .f32⟩
  | 19 => ⟨S1x1x256, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S1x4096x1, .f32⟩
  | 28 => ⟨S1x4096x256, .f32⟩
  | 29 => ⟨S1x4096x256, .f32⟩
  | 30 => ⟨S1x4096x256, .f32⟩
  | 31 => ⟨S1x4096x256, .f32⟩
  | 32 => ⟨S1x4096x1x256, .f32⟩
  | 33 => ⟨S1x4096x256, .f32⟩
  | 34 => ⟨S1x4096x256, .f32⟩
  | 35 => ⟨S1x4097x1x256, .f32⟩
  | 36 => ⟨S1x4097x256, .f32⟩
  | 37 => ⟨S_, .f32⟩
  | 38 => ⟨S1x3x256, .f32⟩
  | 39 => ⟨S1x4093x256, .f32⟩
  | 40 => ⟨S1x4096x256, .f32⟩
  | 41 => ⟨S_, .f32⟩
  | 42 => ⟨S1x3x256, .f32⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S4096, .f32⟩
  | 50 => ⟨S1x4096x1, .f32⟩
  | 51 => ⟨S1x4096x256, .f32⟩
  | 52 => ⟨S1x4096x256, .f32⟩
  | 53 => ⟨S1x4096x256, .f32⟩
  | 54 => ⟨S1x4096x256, .f32⟩
  | 55 => ⟨S1x4096x1x256, .f32⟩
  | 56 => ⟨S1x4096x256, .f32⟩
  | 57 => ⟨S1x4096x256, .f32⟩
  | 58 => ⟨S1x4097x1x256, .f32⟩
  | 59 => ⟨S1x4097x256, .f32⟩
  | 60 => ⟨S_, .f32⟩
  | 61 => ⟨S1x7x256, .f32⟩
  | 62 => ⟨S1x4089x256, .f32⟩
  | 63 => ⟨S1x4096x256, .f32⟩
  | 64 => ⟨S_, .f32⟩
  | 65 => ⟨S1x7x256, .f32⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S4096, .f32⟩
  | 73 => ⟨S1x4096x1, .f32⟩
  | 74 => ⟨S1x4096x256, .f32⟩
  | 75 => ⟨S1x4096x256, .f32⟩
  | 76 => ⟨S1x4096x256, .f32⟩
  | 77 => ⟨S1x4096x256, .f32⟩
  | 78 => ⟨S1x4096x1x256, .f32⟩
  | 79 => ⟨S1x4096x256, .f32⟩
  | 80 => ⟨S1x4096x256, .f32⟩
  | 81 => ⟨S1x4097x1x256, .f32⟩
  | 82 => ⟨S1x4097x256, .f32⟩
  | 83 => ⟨S_, .f32⟩
  | 84 => ⟨S1x15x256, .f32⟩
  | 85 => ⟨S1x4081x256, .f32⟩
  | 86 => ⟨S1x4096x256, .f32⟩
  | 87 => ⟨S_, .f32⟩
  | 88 => ⟨S1x15x256, .f32⟩
  | 89 => ⟨S_, .i32⟩
  | 90 => ⟨S4096, .i32⟩
  | 91 => ⟨S4096, .i32⟩
  | 92 => ⟨S_, .i32⟩
  | 93 => ⟨S4096, .i32⟩
  | 94 => ⟨S4096, .i32⟩
  | 95 => ⟨S4096, .f32⟩
  | 96 => ⟨S1x4096x1, .f32⟩
  | 97 => ⟨S1x4096x256, .f32⟩
  | 98 => ⟨S1x4096x256, .f32⟩
  | 99 => ⟨S1x4096x256, .f32⟩
  | 100 => ⟨S1x4096x256, .f32⟩
  | 101 => ⟨S1x4096x1x256, .f32⟩
  | 102 => ⟨S1x4096x256, .f32⟩
  | 103 => ⟨S1x4096x256, .f32⟩
  | 104 => ⟨S1x4096x1x256, .f32⟩
  | 105 => ⟨S1x4096x1x256, .f32⟩
  | 106 => ⟨S1x4096x1x256, .f32⟩
  | 107 => ⟨S1x4096x1x256, .f32⟩
  | 108 => ⟨S1x4096x4x256, .f32⟩
  | 109 => ⟨S4x256x1x4096, .f32⟩
  | 110 => ⟨S1x4096x4x256, .f32⟩
  | 111 => ⟨S1x4096x1024, .f32⟩
  | 112 => ⟨S1x1x1024, .f32⟩
  | 113 => ⟨S1x4096x1024, .f32⟩
  | 114 => ⟨S1x4096x1024, .f32⟩
  | 115 => ⟨S1x4096x2048, .f32⟩
  | 116 => ⟨S1x4096x1024, .f32⟩
  | 117 => ⟨S1x4096x1024, .f32⟩
  | 118 => ⟨S1x4096x1024, .f32⟩
  | 119 => ⟨S_, .f32⟩
  | 120 => ⟨S1x1024, .f32⟩
  | 121 => ⟨S1x1x1024, .f32⟩
  | 122 => ⟨S1x4096x1024, .f32⟩
  | 123 => ⟨S1x4096x1024, .f32⟩
  | 124 => ⟨S_, .f32⟩
  | 125 => ⟨S1024, .f32⟩
  | 126 => ⟨S1x4096x4x256, .f32⟩
  | 127 => ⟨S4x256x1x4096, .f32⟩
  | _ => ⟨S4096x3072, .f32⟩

abbrev hbmTy0_2 (i : Nat) : BufTy := match i % 128 with
  | 0 => ⟨S4x1x4096x256, .f32⟩
  | 1 => ⟨S1x4096x4x256, .f32⟩
  | 2 => ⟨S4x256x256, .f32⟩
  | 3 => ⟨S4x256x256, .f32⟩
  | 4 => ⟨S1x4096x1x256, .f32⟩
  | 5 => ⟨S1x4096x256, .f32⟩
  | 6 => ⟨S1x4096x1x256, .f32⟩
  | 7 => ⟨S1x4096x256, .f32⟩
  | 8 => ⟨S1x4096x1x256, .f32⟩
  | 9 => ⟨S1x4096x256, .f32⟩
  | 10 => ⟨S1x4096x1x256, .f32⟩
  | 11 => ⟨S1x4096x256, .f32⟩
  | 12 => ⟨S1x4096x256, .f32⟩
  | 13 => ⟨S1x4096x1x256, .f32⟩
  | 14 => ⟨S_, .f32⟩
  | 15 => ⟨S1x4096x4x256, .f32⟩
  | 16 => ⟨S1x4096x256, .f32⟩
  | 17 => ⟨S1x4096x256, .f32⟩
  | 18 => ⟨S1x4096x256, .f32⟩
  | 19 => ⟨S_, .f32⟩
  | 20 => ⟨S1x4097x256, .f32⟩
  | 21 => ⟨S1x15x256, .f32⟩
  | 22 => ⟨S1x4081x256, .f32⟩
  | 23 => ⟨S_, .f32⟩
  | 24 => ⟨S1x4097x256, .f32⟩
  | 25 => ⟨S1x4097x256, .f32⟩
  | 26 => ⟨S1x4097x1x256, .f32⟩
  | 27 => ⟨S_, .f32⟩
  | 28 => ⟨S1x4097x4x256, .f32⟩
  | 29 => ⟨S1x4096x256, .f32⟩
  | 30 => ⟨S1x4096x1x256, .f32⟩
  | 31 => ⟨S_, .f32⟩
  | 32 => ⟨S1x4096x4x256, .f32⟩
  | 33 => ⟨S1x4096x4x256, .f32⟩
  | 34 => ⟨S1x4096x256, .f32⟩
  | 35 => ⟨S1x4096x256, .f32⟩
  | 36 => ⟨S1x4096x256, .f32⟩
  | 37 => ⟨S_, .f32⟩
  | 38 => ⟨S1x4097x256, .f32⟩
  | 39 => ⟨S1x7x256, .f32⟩
  | 40 => ⟨S1x4089x256, .f32⟩
  | 41 => ⟨S_, .f32⟩
  | 42 => ⟨S1x4097x256, .f32⟩
  | 43 => ⟨S1x4097x256, .f32⟩
  | 44 => ⟨S1x4097x1x256, .f32⟩
  | 45 => ⟨S_, .f32⟩
  | 46 => ⟨S1x4097x4x256, .f32⟩
  | 47 => ⟨S1x4097x4x256, .f32⟩
  | 48 => ⟨S1x4096x256, .f32⟩
  | 49 => ⟨S1x4096x1x256, .f32⟩
  | 50 => ⟨S_, .f32⟩
  | 51 => ⟨S1x4096x4x256, .f32⟩
  | 52 => ⟨S1x4096x4x256, .f32⟩
  | 53 => ⟨S1x4096x256, .f32⟩
  | 54 => ⟨S1x4096x256, .f32⟩
  | 55 => ⟨S1x4096x256, .f32⟩
  | 56 => ⟨S_, .f32⟩
  | 57 => ⟨S1x4097x256, .f32⟩
  | 58 => ⟨S1x3x256, .f32⟩
  | 59 => ⟨S1x4093x256, .f32⟩
  | 60 => ⟨S_, .f32⟩
  | 61 => ⟨S1x4097x256, .f32⟩
  | 62 => ⟨S1x4097x256, .f32⟩
  | 63 => ⟨S1x4097x1x256, .f32⟩
  | 64 => ⟨S_, .f32⟩
  | 65 => ⟨S1x4097x4x256, .f32⟩
  | 66 => ⟨S1x4097x4x256, .f32⟩
  | 67 => ⟨S1x4096x256, .f32⟩
  | 68 => ⟨S1x4096x1x256, .f32⟩
  | 69 => ⟨S_, .f32⟩
  | 70 => ⟨S1x4096x4x256, .f32⟩
  | 71 => ⟨S1x4096x4x256, .f32⟩
  | 72 => ⟨S1x4096x256, .f32⟩
  | 73 => ⟨S1x4096x256, .f32⟩
  | 74 => ⟨S1x4096x256, .f32⟩
  | 75 => ⟨S_, .f32⟩
  | 76 => ⟨S1x4097x256, .f32⟩
  | 77 => ⟨S1x1x256, .f32⟩
  | 78 => ⟨S1x4095x256, .f32⟩
  | 79 => ⟨S_, .f32⟩
  | 80 => ⟨S1x4097x256, .f32⟩
  | 81 => ⟨S1x4097x256, .f32⟩
  | 82 => ⟨S1x4097x1x256, .f32⟩
  | 83 => ⟨S_, .f32⟩
  | 84 => ⟨S1x4097x4x256, .f32⟩
  | 85 => ⟨S1x4097x4x256, .f32⟩
  | 86 => ⟨S1x1x4x256, .f32⟩
  | 87 => ⟨S1x4096x4x256, .f32⟩
  | 88 => ⟨S_, .f32⟩
  | 89 => ⟨S_, .f32⟩
  | 90 => ⟨S1x4096x4x256, .f32⟩
  | 91 => ⟨S1x4096x4x256, .f32⟩
  | 92 => ⟨S1x4096x1024, .f32⟩
  | 93 => ⟨S1x1024, .f32⟩
  | 94 => ⟨S1x4x256x256, .f32⟩
  | 95 => ⟨S1x4096x1024, .f32⟩
  | 96 => ⟨S1x4096x1024, .f32⟩
  | 97 => ⟨S1x32x128x8x128, .f32⟩
  | 98 => ⟨S_, .f32⟩
  | 99 => ⟨S1x128x8, .f32⟩
  | 100 => ⟨S1x1x128x8x1, .f32⟩
  | 101 => ⟨S_, .f32⟩
  | 102 => ⟨S128x8, .f32⟩
  | 103 => ⟨S8x128, .f32⟩
  | 104 => ⟨S8x1x32x128x128, .f32⟩
  | 105 => ⟨S8x128x128, .f32⟩
  | 106 => ⟨S8x1x32x128x128, .f32⟩
  | 107 => ⟨S1x32x128x8x128, .f32⟩
  | 108 => ⟨S_, .f32⟩
  | 109 => ⟨S8x128x128, .f32⟩
  | 110 => ⟨S8x128x128, .f32⟩
  | 111 => ⟨S1x4096x8x128, .f32⟩
  | 112 => ⟨S1x4096x8x128, .f32⟩
  | 113 => ⟨S_, .f32⟩
  | 114 => ⟨S1x8x128, .f32⟩
  | 115 => ⟨S1x1x8x128, .f32⟩
  | 116 => ⟨S1x4096x8x128, .f32⟩
  | 117 => ⟨S1x4096x8x128, .f32⟩
  | 118 => ⟨S_, .f32⟩
  | 119 => ⟨S8x128, .f32⟩
  | 120 => ⟨S1x4096x8x128, .f32⟩
  | 121 => ⟨S_, .f32⟩
  | 122 => ⟨S1x4096x8, .f32⟩
  | 123 => ⟨S1x4096x8x1, .f32⟩
  | 124 => ⟨S1x4096x8x128, .f32⟩
  | 125 => ⟨S1x4096x8x128, .f32⟩
  | 126 => ⟨S1x4096x8x1, .f32⟩
  | 127 => ⟨S_, .f32⟩
  | _ => ⟨S4096x3072, .f32⟩

abbrev hbmTy0_3 (i : Nat) : BufTy := match i % 128 with
  | 0 => ⟨S1x4096x8x1, .f32⟩
  | 1 => ⟨S1x4096x8x1, .f32⟩
  | 2 => ⟨S_, .f32⟩
  | 3 => ⟨S4096x8, .f32⟩
  | 4 => ⟨S1x4096x8, .f32⟩
  | 5 => ⟨S1x4096x8x128, .f32⟩
  | 6 => ⟨S1x4096x8x128, .f32⟩
  | 7 => ⟨S1x4096x8x128, .f32⟩
  | 8 => ⟨S1x4096x8x128, .f32⟩
  | 9 => ⟨S1x4096x8x128, .f32⟩
  | 10 => ⟨S1024, .f32⟩
  | 11 => ⟨S1x4096x1024, .f32⟩
  | 12 => ⟨S1x1024, .f32⟩
  | 13 => ⟨S1x8x128, .f32⟩
  | 14 => ⟨S1x8x128x128, .f32⟩
  | 15 => ⟨S_, .f32⟩
  | 16 => ⟨S1x4096x3072, .f32⟩
  | 17 => ⟨S1x4096x1024, .f32⟩
  | 18 => ⟨S1x4096x1024, .f32⟩
  | 19 => ⟨S_, .f32⟩
  | 20 => ⟨S1x4096x1024, .f32⟩
  | 21 => ⟨S1x4096x1024, .f32⟩
  | 22 => ⟨S1x4096x1024, .f32⟩
  | 23 => ⟨S_, .f32⟩
  | 24 => ⟨S1x4096x1024, .f32⟩
  | 25 => ⟨S1x4096x1024, .f32⟩
  | 26 => ⟨S1x4096x1024, .f32⟩
  | 27 => ⟨S_, .f32⟩
  | 28 => ⟨S1x4096x1024, .f32⟩
  | 29 => ⟨S1x4096x1024, .f32⟩
  | 30 => ⟨S_, .f32⟩
  | 31 => ⟨S1x4096x1024, .f32⟩
  | 32 => ⟨S1x4096x1024, .f32⟩
  | 33 => ⟨S1x4096x1024, .f32⟩
  | 34 => ⟨S1x4096x1024, .f32⟩
  | 35 => ⟨S_, .f32⟩
  | 36 => ⟨S1x4096x3072, .f32⟩
  | 37 => ⟨S1x4096x3072, .f32⟩
  | 38 => ⟨S1x4096x1024, .f32⟩
  | 39 => ⟨S1x4096x1024, .f32⟩
  | 40 => ⟨S_, .f32⟩
  | 41 => ⟨S1x4096x1024, .f32⟩
  | 42 => ⟨S1x4096x1024, .f32⟩
  | 43 => ⟨S1x4096x1024, .f32⟩
  | 44 => ⟨S_, .f32⟩
  | 45 => ⟨S1x4096x1024, .f32⟩
  | 46 => ⟨S1x4096x1024, .f32⟩
  | 47 => ⟨S1x4096x1024, .f32⟩
  | 48 => ⟨S_, .f32⟩
  | 49 => ⟨S1x4096x1024, .f32⟩
  | 50 => ⟨S1x4096x1024, .f32⟩
  | 51 => ⟨S_, .f32⟩
  | 52 => ⟨S1x4096x1024, .f32⟩
  | 53 => ⟨S1x4096x1024, .f32⟩
  | 54 => ⟨S1x4096x1024, .f32⟩
  | 55 => ⟨S1x4096x1024, .f32⟩
  | 56 => ⟨S_, .f32⟩
  | 57 => ⟨S1x4096x3072, .f32⟩
  | 58 => ⟨S1x4096x3072, .f32⟩
  | 59 => ⟨S4096x3072, .f32⟩
  | 60 => ⟨S4096x3072, .bf16⟩
  | 61 => ⟨S8x128x128, .f32⟩
  | 62 => ⟨S8x128, .f32⟩
  | 63 => ⟨S8x128x1, .f32⟩
  | 64 => ⟨S4x256x256, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_15 : Ref sig .tc := ⟨.hbm, 81, rfl⟩
abbrev main_v58 : Ref sig .tc := ⟨.hbm, 82, rfl⟩
abbrev main_v59 : Ref sig .tc := ⟨.hbm, 83, rfl⟩
abbrev main_cst_16 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c : Ref sig .tc := ⟨.hbm, 101, rfl⟩
abbrev main_v74 : Ref sig .tc := ⟨.hbm, 102, rfl⟩
abbrev main_call0_v0 : Ref sig .tc := ⟨.hbm, 103, rfl⟩
abbrev main_call0_c : Ref sig .tc := ⟨.hbm, 104, rfl⟩
abbrev main_call0_v1 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_c_0 : Ref sig .tc := ⟨.hbm, 109, rfl⟩
abbrev main_call0_v5 : Ref sig .tc := ⟨.hbm, 110, rfl⟩
abbrev main_v75 : Ref sig .tc := ⟨.hbm, 111, rfl⟩
abbrev main_v76 : Ref sig .tc := ⟨.hbm, 112, rfl⟩
abbrev main_cst_19 : Ref sig .tc := ⟨.hbm, 113, rfl⟩
abbrev main_v77 : Ref sig .tc := ⟨.hbm, 114, rfl⟩
abbrev main_v78_1 : Ref sig .tc := ⟨.hbm, 115, rfl⟩
abbrev main_v78_0 : Ref sig .tc := ⟨.hbm, 116, rfl⟩
abbrev main_call1_cst : Ref sig .tc := ⟨.hbm, 117, rfl⟩
abbrev main_v78_2 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_call2_call0_cst : Ref sig .tc := ⟨.hbm, 130, rfl⟩
abbrev main_call2_call0_v0 : Ref sig .tc := ⟨.hbm, 131, rfl⟩
abbrev main_v90 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_22 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_cst_23 : Ref sig .tc := ⟨.hbm, 146, rfl⟩
abbrev main_v101 : Ref sig .tc := ⟨.hbm, 147, rfl⟩
abbrev main_c_24 : Ref sig .tc := ⟨.hbm, 148, rfl⟩
abbrev main_v102 : Ref sig .tc := ⟨.hbm, 149, rfl⟩
abbrev main_v103 : Ref sig .tc := ⟨.hbm, 150, rfl⟩
abbrev main_c_25 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_26 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_c_28 : Ref sig .tc := ⟨.hbm, 171, rfl⟩
abbrev main_v121 : Ref sig .tc := ⟨.hbm, 172, rfl⟩
abbrev main_v122 : Ref sig .tc := ⟨.hbm, 173, rfl⟩
abbrev main_c_29 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_30 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_31 : Ref sig .tc := ⟨.hbm, 192, rfl⟩
abbrev main_v139 : Ref sig .tc := ⟨.hbm, 193, rfl⟩
abbrev main_c_32 : Ref sig .tc := ⟨.hbm, 194, rfl⟩
abbrev main_v140 : Ref sig .tc := ⟨.hbm, 195, rfl⟩
abbrev main_v141 : Ref sig .tc := ⟨.hbm, 196, rfl⟩
abbrev main_c_33 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_cst_34 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_35 : Ref sig .tc := ⟨.hbm, 215, rfl⟩
abbrev main_v158 : Ref sig .tc := ⟨.hbm, 216, rfl⟩
abbrev main_c_36 : Ref sig .tc := ⟨.hbm, 217, rfl⟩
abbrev main_v159 : Ref sig .tc := ⟨.hbm, 218, rfl⟩
abbrev main_v160 : Ref sig .tc := ⟨.hbm, 219, rfl⟩
abbrev main_c_37 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_38 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_39 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_cst_40 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_41 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_42 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_43 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_cst_44 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_cst_45 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_cst_46 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_47 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_cst_48 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_cst_49 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_cst_50 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_cst_51 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_cst_52 : Ref sig .tc := ⟨.hbm, 325, rfl⟩
abbrev main_v251 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_cst_53 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_cst_54 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_cst_55 : Ref sig .tc := ⟨.hbm, 339, rfl⟩
abbrev main_v262 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_call3_call0_cst : Ref sig .tc := ⟨.hbm, 344, rfl⟩
abbrev main_call3_call0_v0 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_cst_56 : Ref sig .tc := ⟨.hbm, 354, rfl⟩
abbrev main_v274 : Ref sig .tc := ⟨.hbm, 355, rfl⟩
abbrev main_v275 : Ref sig .tc := ⟨.hbm, 356, rfl⟩
abbrev main_cst_57 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_v281 : Ref sig .tc := ⟨.hbm, 363, rfl⟩
abbrev main_call4_cst : Ref sig .tc := ⟨.hbm, 364, rfl⟩
abbrev main_call4_v0 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_cst_58 : Ref sig .tc := ⟨.hbm, 369, rfl⟩
abbrev main_v285 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_cst_59 : Ref sig .tc := ⟨.hbm, 374, rfl⟩
abbrev main_v289 : Ref sig .tc := ⟨.hbm, 375, rfl⟩
abbrev main_v290 : Ref sig .tc := ⟨.hbm, 376, rfl⟩
abbrev main_cst_60 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_cst_61 : Ref sig .tc := ⟨.hbm, 383, rfl⟩
abbrev main_v296 : Ref sig .tc := ⟨.hbm, 384, rfl⟩
abbrev main_v297 : Ref sig .tc := ⟨.hbm, 385, rfl⟩
abbrev main_cst_62 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_cst_63 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_cst_64 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_cst_65 : Ref sig .tc := ⟨.hbm, 407, rfl⟩
abbrev main_v316 : Ref sig .tc := ⟨.hbm, 408, rfl⟩
abbrev main_v317 : Ref sig .tc := ⟨.hbm, 409, rfl⟩
abbrev main_v318 : Ref sig .tc := ⟨.hbm, 410, rfl⟩
abbrev main_cst_66 : Ref sig .tc := ⟨.hbm, 411, rfl⟩
abbrev main_v319 : Ref sig .tc := ⟨.hbm, 412, rfl⟩
abbrev main_v320 : Ref sig .tc := ⟨.hbm, 413, rfl⟩
abbrev main_cst_67 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩
abbrev main_cst_68 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_cst_69 : Ref sig .tc := ⟨.hbm, 424, rfl⟩
abbrev main_v329 : Ref sig .tc := ⟨.hbm, 425, rfl⟩
abbrev main_v330 : Ref sig .tc := ⟨.hbm, 426, rfl⟩
abbrev main_v331 : Ref sig .tc := ⟨.hbm, 427, rfl⟩
abbrev main_cst_70 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_cst_71 : Ref sig .tc := ⟨.hbm, 432, rfl⟩
abbrev main_v335 : Ref sig .tc := ⟨.hbm, 433, rfl⟩
abbrev main_v336 : Ref sig .tc := ⟨.hbm, 434, rfl⟩
abbrev main_cst_72 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_cst_73 : Ref sig .tc := ⟨.hbm, 440, rfl⟩
abbrev main_v341 : Ref sig .tc := ⟨.hbm, 441, rfl⟩
abbrev main_v342 : Ref sig .tc := ⟨.hbm, 442, rfl⟩
abbrev main_v343 : Ref sig .tc := ⟨.hbm, 443, rfl⟩
abbrev main_v344 : Ref sig .tc := ⟨.hbm, 444, rfl⟩
abbrev main_v345 : Ref sig .tc := ⟨.hbm, 445, rfl⟩
abbrev main_v346 : Ref sig .tc := ⟨.hbm, 446, rfl⟩
abbrev main_v347 : Ref sig .tc := ⟨.hbm, 447, rfl⟩
abbrev main_v348 : Ref sig .tc := ⟨.hbm, 448, rfl⟩

abbrev nD : Nat := 1
abbrev τ : Topo := Topo.v7x

variable {F : FTy → Type} [FloatOps F]
-- ==== Norm.lean ====
abbrev S1x4096x2048 : Shape := ⟨3, ![1, 4096, 2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S1x4096x2048 : Shape := ⟨3, ![1, 4096, 2048]⟩
abbrev S1x2048 : Shape := ⟨2, ![1, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x2048, .f32⟩
  | .hbm, ⟨2, _⟩ => ⟨S2048, .f32⟩
  | .hbm, ⟨3, _⟩ => ⟨S1x4096x2048, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x2048, .f32⟩
  | .hbm, ⟨15, _⟩ => ⟨S1x4096x2048, .f32⟩
  | .hbm, ⟨16, _⟩ => ⟨S1x1x2048, .f32⟩
  | .hbm, ⟨17, _⟩ => ⟨S1x4096x2048, .f32⟩
  | .hbm, ⟨18, _⟩ => ⟨S1x4096x2048, .f32⟩
  | .hbm, ⟨19, _⟩ => ⟨S4096x2048, .f32⟩
  | .hbm, ⟨20, _⟩ => ⟨S4096x2048, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Out.lean ====
abbrev S4096x2048 : Shape := ⟨2, ![4096, 2048]⟩
abbrev S1x2048x2048 : Shape := ⟨3, ![1, 2048, 2048]⟩
abbrev S1x4096x2048 : Shape := ⟨3, ![1, 4096, 2048]⟩
abbrev S1x2048 : Shape := ⟨2, ![1, 2048]⟩
abbrev S2048x2048 : Shape := ⟨2, ![2048, 2048]⟩
abbrev S256x2048 : Shape := ⟨2, ![256, 2048]⟩
abbrev S2048x512 : Shape := ⟨2, ![2048, 512]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S4096x2048, .f32⟩
  | .hbm, ⟨7, _⟩ => ⟨S4096x2048, .f32⟩
  | .hbm, ⟨8, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S4096x2048 : Shape := ⟨2, ![4096, 2048]⟩
abbrev S1x2048x2048 : Shape := ⟨3, ![1, 2048, 2048]⟩
abbrev S1x4096x2048 : Shape := ⟨3, ![1, 4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩
abbrev S1x4096 : Shape := ⟨2, ![1, 4096]⟩
abbrev S1x4096x1 : Shape := ⟨3, ![1, 4096, 1]⟩
abbrev S1x1x2048 : Shape := ⟨3, ![1, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S1x4096x2048, .f32⟩
  | .hbm, ⟨3, _⟩ => ⟨S1x2048, .f32⟩
  | .hbm, ⟨4, _⟩ => ⟨S4096x2048, .f32⟩
  | .hbm, ⟨5, _⟩ => ⟨S1x4096x2048, .f32⟩
  | .hbm, ⟨6, _⟩ => ⟨S2048x2048, .f32⟩
  | .hbm, ⟨7, _⟩ => ⟨S1x4096x2048, .f32⟩
  | .hbm, ⟨8, _⟩ => ⟨S1x4096x2048, .f32⟩
  | .hbm, ⟨9, _⟩ => ⟨S2048, .f32⟩
  | .hbm, ⟨10, _⟩ => ⟨S1x4096x2048, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x2048, .f32⟩
  | .hbm, ⟨22, _⟩ => ⟨S1x4096x2048, .f32⟩
  | .hbm, ⟨23, _⟩ => ⟨S1x1x2048, .f32⟩
  | .hbm, ⟨24, _⟩ => ⟨S1x4096x2048, .f32⟩
  | .hbm, ⟨25, _⟩ => ⟨S1x4096x2048, .f32⟩
  | .hbm, ⟨26, _⟩ => ⟨S4096x2048, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Mix.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S8x128x1 : Shape := ⟨3, ![8, 128, 1]⟩
abbrev S4x256x256 : Shape := ⟨3, ![4, 256, 256]⟩
abbrev S4096x2048 : Shape := ⟨2, ![4096, 2048]⟩
abbrev S512x1024 : Shape := ⟨2, ![512, 1024]⟩
abbrev S16x1024 : Shape := ⟨2, ![16, 1024]⟩
abbrev S512x2048 : Shape := ⟨2, ![512, 2048]⟩
abbrev S1x128 : Shape := ⟨2, ![1, 128]⟩
abbrev S128 : Shape := ⟨1, ![128]⟩
abbrev S128x1 : Shape := ⟨2, ![128, 1]⟩
abbrev S512x256 : Shape := ⟨2, ![512, 256]⟩
abbrev S16x256 : Shape := ⟨2, ![16, 256]⟩
abbrev S528x256 : Shape := ⟨2, ![528, 256]⟩
abbrev S512x1 : Shape := ⟨2, ![512, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 31
  | .vmem => 15
  | .smem => 0
  | _ => 0

abbrev bufTy : (tb : Table) → Fin (tcTables nBuf tb) → BufTy
  | .hbm, ⟨0, _⟩ => ⟨S4096x3072, .f32⟩
  | .hbm, ⟨1, _⟩ => ⟨S1x8x128x128, .f32⟩
  | .hbm, ⟨2, _⟩ => ⟨S1x8x128, .f32⟩
  | .hbm, ⟨3, _⟩ => ⟨S1x1024, .f32⟩
  | .hbm, ⟨4, _⟩ => ⟨S1x4x256x256, .f32⟩
  | .hbm, ⟨5, _⟩ => ⟨S1x1024, .f32⟩
  | .hbm, ⟨6, _⟩ => ⟨S_, .i1⟩
  | .hbm, ⟨7, _⟩ => ⟨S128x128, .i1⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .i1⟩
  | .hbm, ⟨15, _⟩ => ⟨S128x128, .i1⟩
  | .hbm, ⟨16, _⟩ => ⟨S128x128, .i1⟩
  | .hbm, ⟨17, _⟩ => ⟨S1x128x128, .i1⟩
  | .hbm, ⟨18, _⟩ => ⟨S8x128x128, .f32⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x128, .bf16⟩
  | .hbm, ⟨25, _⟩ => ⟨S8x128, .f32⟩
  | .hbm, ⟨26, _⟩ => ⟨S8x128x1, .f32⟩
  | .hbm, ⟨27, _⟩ => ⟨S8x128x128, .f32⟩
  | .hbm, ⟨28, _⟩ => ⟨S4x256x256, .f32⟩
  | .hbm, ⟨29, _⟩ => ⟨S4x256x256, .bf16⟩
  | .hbm, ⟨30, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S8x128x128, .bf16⟩
  | .local _ .vmem, ⟨9, _⟩ => ⟨S8x128x128, .f32⟩
  | .local _ .vmem, ⟨10, _⟩ => ⟨S1x1024, .f32⟩
  | .local _ .vmem, ⟨11, _⟩ => ⟨S4x256x256, .bf16⟩
  | .local _ .vmem, ⟨12, _⟩ => ⟨S1x1024, .f32⟩
  | .local _ .vmem, ⟨13, _⟩ => ⟨S512x2048, .bf16⟩
  | .local _ .vmem, ⟨14, _⟩ => ⟨S512x2048, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c128_i32 : BitVec 32 := 128#32
  let v5 : BitVec 32 := Scalar.muli c0_i32 c128_i32
  v5
def k0_off1 (c0_i32 : BitVec 32) : Fin 2 → Nat :=
  let c128_i32 : BitVec 32 := 128#32
  let v5 : BitVec 32 := Scalar.muli c0_i32 c128_i32
  let v6 : BitVec 32 := v5
  let v7 : Index := Scalar.indexCast v6
  let c0_7 : Index := 0#32
  ![v7.toNat, 0]
def k0_off2 (c0_i32 : BitVec 32) : Fin 2 → Nat :=
  let c128_i32 : BitVec 32 := 128#32
  let v5 : BitVec 32 := Scalar.muli c0_i32 c128_i32
  let v6 : BitVec 32 := v5
  let v54 : Index := Scalar.indexCast v6
  let c0_20 : Index := 0#32
  ![v54.toNat, 0]
def k0_mult2 : BitVec 32 :=
  let c1_i32 : BitVec 32 := 1#32
  let c128_i32_21 : BitVec 32 := 128#32
  let v58 : BitVec 32 := Scalar.muli c1_i32 c128_i32_21
  v58
def k0_mult3 : BitVec 32 :=
  let c2_i32 : BitVec 32 := 2#32
  let c128_i32_37 : BitVec 32 := 128#32
  let v111 : BitVec 32 := Scalar.muli c2_i32 c128_i32_37
  v111
def k0_mult4 : BitVec 32 :=
  let c3_i32 : BitVec 32 := 3#32
  let c128_i32_53 : BitVec 32 := 128#32
  let v164 : BitVec 32 := Scalar.muli c3_i32 c128_i32_53
  v164
def k0_mult5 : BitVec 32 :=
  let c0_i32_75 : BitVec 32 := 0#32
  let c128_i32_76 : BitVec 32 := 128#32
  let v222 : BitVec 32 := Scalar.muli c0_i32_75 c128_i32_76
  v222
def k0_off3 (c0_i32_75 : BitVec 32) : Fin 2 → Nat :=
  let c128_i32_76 : BitVec 32 := 128#32
  let v222 : BitVec 32 := Scalar.muli c0_i32_75 c128_i32_76
  let v223 : BitVec 32 := v222
  let v224 : Index := Scalar.indexCast v223
  let c128_77 : Index := 128#32
  ![v224.toNat, 128]
def k0_off4 (c0_i32_75 : BitVec 32) : Fin 2 → Nat :=
  let c128_i32_76 : BitVec 32 := 128#32
  let v222 : BitVec 32 := Scalar.muli c0_i32_75 c128_i32_76
  let v223 : BitVec 32 := v222
  let v271 : Index := Scalar.indexCast v223
  let c128_91 : Index := 128#32
  ![v271.toNat, 128]
def k0_mult6 : BitVec 32 :=
  let c1_i32_92 : BitVec 32 := 1#32
  let c128_i32_93 : BitVec 32 := 128#32
  let v275 : BitVec 32 := Scalar.muli c1_i32_92 c128_i32_93
  v275
def k0_mult7 : BitVec 32 :=
  let c2_i32_109 : BitVec 32 := 2#32
  let c128_i32_110 : BitVec 32 := 128#32
  let v328 : BitVec 32 := Scalar.muli c2_i32_109 c128_i32_110
  v328
def k0_mult8 : BitVec 32 :=
  let c3_i32_126 : BitVec 32 := 3#32
  let c128_i32_127 : BitVec 32 := 128#32
  let v381 : BitVec 32 := Scalar.muli c3_i32_126 c128_i32_127
  v381
def k0_mult9 : BitVec 32 :=
  let c0_i32_150 : BitVec 32 := 0#32
  let c128_i32_151 : BitVec 32 := 128#32
  let v439 : BitVec 32 := Scalar.muli c0_i32_150 c128_i32_151
  v439
def k0_off5 (c0_i32_150 : BitVec 32) : Fin 2 → Nat :=
  let c128_i32_151 : BitVec 32 := 128#32
  let v439 : BitVec 32 := Scalar.muli c0_i32_150 c128_i32_151
  let v440 : BitVec 32 := v439
  let v441 : Index := Scalar.indexCast v440
  let c256_152 : Index := 256#32
  ![v441.toNat, 256]
def k0_off6 (c0_i32_150 : BitVec 32) : Fin 2 → Nat :=
  let c128_i32_151 : BitVec 32 := 128#32
  let v439 : BitVec 32 := Scalar.muli c0_i32_150 c128_i32_151
  let v440 : BitVec 32 := v439
  let v488 : Index := Scalar.indexCast v440
  let c256_166 : Index := 256#32
  ![v488.toNat, 256]
def k0_mult10 : BitVec 32 :=
  let c1_i32_167 : BitVec 32 := 1#32
  let c128_i32_168 : BitVec 32 := 128#32
  let v492 : BitVec 32 := Scalar.muli c1_i32_167 c128_i32_168
  v492
def k0_mult11 : BitVec 32 :=
  let c2_i32_184 : BitVec 32 := 2#32
  let c128_i32_185 : BitVec 32 := 128#32
  let v545 : BitVec 32 := Scalar.muli c2_i32_184 c128_i32_185
  v545
def k0_mult12 : BitVec 32 :=
  let c3_i32_201 : BitVec 32 := 3#32
  let c128_i32_202 : BitVec 32 := 128#32
  let v598 : BitVec 32 := Scalar.muli c3_i32_201 c128_i32_202
  v598
def k0_mult13 : BitVec 32 :=
  let c0_i32_225 : BitVec 32 := 0#32
  let c128_i32_226 : BitVec 32 := 128#32
  let v656 : BitVec 32 := Scalar.muli c0_i32_225 c128_i32_226
  v656
def k0_off7 (c0_i32_225 : BitVec 32) : Fin 2 → Nat :=
  let c128_i32_226 : BitVec 32 := 128#32
  let v656 : BitVec 32 := Scalar.muli c0_i32_225 c128_i32_226
  let v657 : BitVec 32 := v656
  let v658 : Index := Scalar.indexCast v657
  let c384_227 : Index := 384#32
  ![v658.toNat, 384]
def k0_off8 (c0_i32_225 : BitVec 32) : Fin 2 → Nat :=
  let c128_i32_226 : BitVec 32 := 128#32
  let v656 : BitVec 32 := Scalar.muli c0_i32_225 c128_i32_226
  let v657 : BitVec 32 := v656
  let v705 : Index := Scalar.indexCast v657
  let c384_241 : Index := 384#32
  ![v705.toNat, 384]
def k0_mult14 : BitVec 32 :=
  let c1_i32_242 : BitVec 32 := 1#32
  let c128_i32_243 : BitVec 32 := 128#32
  let v709 : BitVec 32 := Scalar.muli c1_i32_242 c128_i32_243
  v709
def k0_mult15 : BitVec 32 :=
  let c2_i32_259 : BitVec 32 := 2#32
  let c128_i32_260 : BitVec 32 := 128#32
  let v762 : BitVec 32 := Scalar.muli c2_i32_259 c128_i32_260
  v762
def k0_mult16 : BitVec 32 :=
  let c3_i32_276 : BitVec 32 := 3#32
  let c128_i32_277 : BitVec 32 := 128#32
  let v815 : BitVec 32 := Scalar.muli c3_i32_276 c128_i32_277
  v815
def k0_mult17 : BitVec 32 :=
  let c0_i32_300 : BitVec 32 := 0#32
  let c128_i32_301 : BitVec 32 := 128#32
  let v873 : BitVec 32 := Scalar.muli c0_i32_300 c128_i32_301
  v873
def k0_off9 (c0_i32_300 : BitVec 32) : Fin 2 → Nat :=
  let c128_i32_301 : BitVec 32 := 128#32
  let v873 : BitVec 32 := Scalar.muli c0_i32_300 c128_i32_301
  let v874 : BitVec 32 := v873
  let v875 : Index := Scalar.indexCast v874
  let c512_302 : Index := 512#32
  ![v875.toNat, 512]
def k0_off10 (c0_i32_300 : BitVec 32) : Fin 2 → Nat :=
  let c128_i32_301 : BitVec 32 := 128#32
  let v873 : BitVec 32 := Scalar.muli c0_i32_300 c128_i32_301
  let v874 : BitVec 32 := v873
  let v922 : Index := Scalar.indexCast v874
  let c512_316 : Index := 512#32
  ![v922.toNat, 512]
def k0_mult18 : BitVec 32 :=
  let c1_i32_317 : BitVec 32 := 1#32
  let c128_i32_318 : BitVec 32 := 128#32
  let v926 : BitVec 32 := Scalar.muli c1_i32_317 c128_i32_318
  v926
def k0_mult19 : BitVec 32 :=
  let c2_i32_334 : BitVec 32 := 2#32
  let c128_i32_335 : BitVec 32 := 128#32
  let v979 : BitVec 32 := Scalar.muli c2_i32_334 c128_i32_335
  v979
def k0_mult20 : BitVec 32 :=
  let c3_i32_351 : BitVec 32 := 3#32
  let c128_i32_352 : BitVec 32 := 128#32
  let v1032 : BitVec 32 := Scalar.muli c3_i32_351 c128_i32_352
  v1032
def k0_mult21 : BitVec 32 :=
  let c0_i32_375 : BitVec 32 := 0#32
  let c128_i32_376 : BitVec 32 := 128#32
  let v1090 : BitVec 32 := Scalar.muli c0_i32_375 c128_i32_376
  v1090
def k0_off11 (c0_i32_375 : BitVec 32) : Fin 2 → Nat :=
  let c128_i32_376 : BitVec 32 := 128#32
  let v1090 : BitVec 32 := Scalar.muli c0_i32_375 c128_i32_376
  let v1091 : BitVec 32 := v1090
  let v1092 : Index := Scalar.indexCast v1091
  let c640_377 : Index := 640#32
  ![v1092.toNat, 640]
def k0_off12 (c0_i32_375 : BitVec 32) : Fin 2 → Nat :=
  let c128_i32_376 : BitVec 32 := 128#32
  let v1090 : BitVec 32 := Scalar.muli c0_i32_375 c128_i32_376
  let v1091 : BitVec 32 := v1090
  let v1139 : Index := Scalar.indexCast v1091
  let c640_391 : Index := 640#32
  ![v1139.toNat, 640]
def k0_mult22 : BitVec 32 :=
  let c1_i32_392 : BitVec 32 := 1#32
  let c128_i32_393 : BitVec 32 := 128#32
  let v1143 : BitVec 32 := Scalar.muli c1_i32_392 c128_i32_393
  v1143
def k0_mult23 : BitVec 32 :=
  let c2_i32_409 : BitVec 32 := 2#32
  let c128_i32_410 : BitVec 32 := 128#32
  let v1196 : BitVec 32 := Scalar.muli c2_i32_409 c128_i32_410
  v1196
def k0_mult24 : BitVec 32 :=
  let c3_i32_426 : BitVec 32 := 3#32
  let c128_i32_427 : BitVec 32 := 128#32
  let v1249 : BitVec 32 := Scalar.muli c3_i32_426 c128_i32_427
  v1249
def k0_mult25 : BitVec 32 :=
  let c0_i32_450 : BitVec 32 := 0#32
  let c128_i32_451 : BitVec 32 := 128#32
  let v1307 : BitVec 32 := Scalar.muli c0_i32_450 c128_i32_451
  v1307
def k0_off13 (c0_i32_450 : BitVec 32) : Fin 2 → Nat :=
  let c128_i32_451 : BitVec 32 := 128#32
  let v1307 : BitVec 32 := Scalar.muli c0_i32_450 c128_i32_451
  let v1308 : BitVec 32 := v1307
  let v1309 : Index := Scalar.indexCast v1308
  let c768_452 : Index := 768#32
  ![v1309.toNat, 768]
def k0_off14 (c0_i32_450 : BitVec 32) : Fin 2 → Nat :=
  let c128_i32_451 : BitVec 32 := 128#32
  let v1307 : BitVec 32 := Scalar.muli c0_i32_450 c128_i32_451
  let v1308 : BitVec 32 := v1307
  let v1356 : Index := Scalar.indexCast v1308
  let c768_466 : Index := 768#32
  ![v1356.toNat, 768]
def k0_mult26 : BitVec 32 :=
  let c1_i32_467 : BitVec 32 := 1#32
  let c128_i32_468 : BitVec 32 := 128#32
  let v1360 : BitVec 32 := Scalar.muli c1_i32_467 c128_i32_468
  v1360
def k0_mult27 : BitVec 32 :=
  let c2_i32_484 : BitVec 32 := 2#32
  let c128_i32_485 : BitVec 32 := 128#32
  let v1413 : BitVec 32 := Scalar.muli c2_i32_484 c128_i32_485
  v1413
def k0_mult28 : BitVec 32 :=
  let c3_i32_501 : BitVec 32 := 3#32
  let c128_i32_502 : BitVec 32 := 128#32
  let v1466 : BitVec 32 := Scalar.muli c3_i32_501 c128_i32_502
  v1466
def k0_mult29 : BitVec 32 :=
  let c0_i32_525 : BitVec 32 := 0#32
  let c128_i32_526 : BitVec 32 := 128#32
  let v1524 : BitVec 32 := Scalar.muli c0_i32_525 c128_i32_526
  v1524
def k0_off15 (c0_i32_525 : BitVec 32) : Fin 2 → Nat :=
  let c128_i32_526 : BitVec 32 := 128#32
  let v1524 : BitVec 32 := Scalar.muli c0_i32_525 c128_i32_526
  let v1525 : BitVec 32 := v1524
  let v1526 : Index := Scalar.indexCast v1525
  let c896_527 : Index := 896#32
  ![v1526.toNat, 896]
def k0_off16 (c0_i32_525 : BitVec 32) : Fin 2 → Nat :=
  let c128_i32_526 : BitVec 32 := 128#32
  let v1524 : BitVec 32 := Scalar.muli c0_i32_525 c128_i32_526
  let v1525 : BitVec 32 := v1524
  let v1573 : Index := Scalar.indexCast v1525
  let c896_541 : Index := 896#32
  ![v1573.toNat, 896]
def k0_mult30 : BitVec 32 :=
  let c1_i32_542 : BitVec 32 := 1#32
  let c128_i32_543 : BitVec 32 := 128#32
  let v1577 : BitVec 32 := Scalar.muli c1_i32_542 c128_i32_543
  v1577
def k0_mult31 : BitVec 32 :=
  let c2_i32_559 : BitVec 32 := 2#32
  let c128_i32_560 : BitVec 32 := 128#32
  let v1630 : BitVec 32 := Scalar.muli c2_i32_559 c128_i32_560
  v1630
def k0_mult32 : BitVec 32 :=
  let c3_i32_576 : BitVec 32 := 3#32
  let c128_i32_577 : BitVec 32 := 128#32
  let v1683 : BitVec 32 := Scalar.muli c3_i32_576 c128_i32_577
  v1683
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixIdeal.lean ====
variable {F : FTy → Type} [FloatOps F] [Named F]
def κ : String → Option EReal := fun
  | "cube" => some ((8943 / 200000 : ℝ) : EReal)
  | _ => none
-- ==== MixRefIdeal.lean ====
abbrev S4096x3072 : Shape := ⟨2, ![4096, 3072]⟩
abbrev S1x8x128x128 : Shape := ⟨4, ![1, 8, 128, 128]⟩
abbrev S1x8x128 : Shape := ⟨3, ![1, 8, 128]⟩
abbrev S1x1024 : Shape := ⟨2, ![1, 1024]⟩
abbrev S1x4x256x256 : Shape := ⟨4, ![1, 4, 256, 256]⟩
abbrev S1x4096x3072 : Shape := ⟨3, ![1, 4096, 3072]⟩
abbrev S1x4096x1024 : Shape := ⟨3, ![1, 4096, 1024]⟩
abbrev S_ : Shape := ⟨0, ![]⟩
abbrev S8x128x128 : Shape := ⟨3, ![8, 128, 128]⟩
abbrev S8x128 : Shape := ⟨2, ![8, 128]⟩
abbrev S1024 : Shape := ⟨1, ![1024]⟩
abbrev S1x4096x8x128 : Shape := ⟨4, ![1, 4096, 8, 128]⟩
abbrev S1x4096x8 : Shape := ⟨3, ![1, 4096, 8]⟩
abbrev S1x4096x8x1 : Shape := ⟨4, ![1, 4096, 8, 1]⟩
abbrev S1x1x8x128 : Shape := ⟨4, ![1, 1, 8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4x256x256 : Shape := ⟨3, ![4, 256, 256]⟩
abbrev S1x4096x4x256 : Shape := ⟨4, ![1, 4096, 4, 256]⟩
abbrev S1x1x4x256 : Shape := ⟨4, ![1, 1, 4, 256]⟩
abbrev S1x4097x4x256 : Shape := ⟨4, ![1, 4097, 4, 256]⟩
abbrev S4096 : Shape := ⟨1, ![4096]⟩
abbrev S1x4097x1x256 : Shape := ⟨4, ![1, 4097, 1, 256]⟩
abbrev S1x4097x256 : Shape := ⟨3, ![1, 4097, 256]⟩
abbrev S1x1x256 : Shape := ⟨3, ![1, 1, 256]⟩
abbrev S1x4095x256 : Shape := ⟨3, ![1, 4095, 256]⟩
abbrev S1x4096x256 : Shape := ⟨3, ![1, 4096, 256]⟩
abbrev S1x4096x1 : Shape := ⟨3, ![1, 4096, 1]⟩
abbrev S1x4096x1x256 : Shape := ⟨4, ![1, 4096, 1, 256]⟩
abbrev S1x3x256 : Shape := ⟨3, ![1, 3, 256]⟩
abbrev S1x4093x256 : Shape := ⟨3, ![1, 4093, 256]⟩
abbrev S1x7x256 : Shape := ⟨3, ![1, 7, 256]⟩
abbrev S1x4089x256 : Shape := ⟨3, ![1, 4089, 256]⟩
abbrev S1x15x256 : Shape := ⟨3, ![1, 15, 256]⟩
abbrev S1x4081x256 : Shape := ⟨3, ![1, 4081, 256]⟩
abbrev S4x256x1x4096 : Shape := ⟨4, ![4, 256, 1, 4096]⟩
abbrev S1x1x1024 : Shape := ⟨3, ![1, 1, 1024]⟩
abbrev S1x4096x2048 : Shape := ⟨3, ![1, 4096, 2048]⟩
abbrev S4096x2048 : Shape := ⟨2, ![4096, 2048]⟩

abbrev nBuf : Space → Nat
  | .hbm => 205
  | .vmem => 0
  | .smem => 0
  | _ => 0

abbrev hbmTy0_0 (i : Nat) : BufTy := match i % 128 with
  | 0 => ⟨S4096x3072, .f32⟩
  | 1 => ⟨S1x8x128x128, .f32⟩
  | 2 => ⟨S1x8x128, .f32⟩
  | 3 => ⟨S1x1024, .f32⟩
  | 4 => ⟨S1x4x256x256, .f32⟩
  | 5 => ⟨S1x1024, .f32⟩
  | 6 => ⟨S1x4096x3072, .f32⟩
  | 7 => ⟨S1x4096x1024, .f32⟩
  | 8 => ⟨S1x4096x1024, .f32⟩
  | 9 => ⟨S1x4096x1024, .f32⟩
  | 10 => ⟨S_, .f32⟩
  | 11 => ⟨S1x4096x1024, .f32⟩
  | 12 => ⟨S1x4096x1024, .f32⟩
  | 13 => ⟨S_, .f32⟩
  | 14 => ⟨S1x4096x1024, .f32⟩
  | 15 => ⟨S1x4096x1024, .f32⟩
  | 16 => ⟨S1x4096x1024, .f32⟩
  | 17 => ⟨S_, .f32⟩
  | 18 => ⟨S1x4096x1024, .f32⟩
  | 19 => ⟨S1x4096x1024, .f32⟩
  | 20 => ⟨S1x4096x1024, .f32⟩
  | 21 => ⟨S_, .f32⟩
  | 22 => ⟨S1x4096x1024, .f32⟩
  | 23 => ⟨S1x4096x1024, .f32⟩
  | 24 => ⟨S_, .f32⟩
  | 25 => ⟨S1x4096x1024, .f32⟩
  | 26 => ⟨S1x4096x1024, .f32⟩
  | 27 => ⟨S1x4096x1024, .f32⟩
  | 28 => ⟨S1x4096x1024, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S_, .f32⟩
  | 35 => ⟨S1x4096x1024, .f32⟩
  | 36 => ⟨S1x4096x1024, .f32⟩
  | 37 => ⟨S1x4096x1024, .f32⟩
  | 38 => ⟨S_, .f32⟩
  | 39 => ⟨S1x4096x1024, .f32⟩
  | 40 => ⟨S1x4096x1024, .f32⟩
  | 41 => ⟨S1x4096x1024, .f32⟩
  | 42 => ⟨S_, .f32⟩
  | 43 => ⟨S1x4096x1024, .f32⟩
  | 44 => ⟨S1x4096x1024, .f32⟩
  | 45 => ⟨S_, .f32⟩
  | 46 => ⟨S1x4096x1024, .f32⟩
  | 47 => ⟨S1x4096x1024, .f32⟩
  | 48 => ⟨S1x4096x1024, .f32⟩
  | 49 => ⟨S1x4096x1024, .f32⟩
  | 50 => ⟨S8x128x128, .f32⟩
  | 51 => ⟨S8x128, .f32⟩
  | 52 => ⟨S1024, .f32⟩
  | 53 => ⟨S1x4096x8x128, .f32⟩
  | 54 => ⟨S8x128, .f32⟩
  | 55 => ⟨S1x4096x8x128, .f32⟩
  | 56 => ⟨S_, .f32⟩
  | 57 => ⟨S1x4096x8, .f32⟩
  | 58 => ⟨S1x4096x8x1, .f32⟩
  | 59 => ⟨S_, .f32⟩
  | 60 => ⟨S1x4096x8x1, .f32⟩
  | 61 => ⟨S1x4096x8x1, .f32⟩
  | 62 => ⟨S_, .f32⟩
  | 63 => ⟨S1x4096x8x1, .f32⟩
  | 64 => ⟨S1x4096x8x1, .f32⟩
  | 65 => ⟨S1x4096x8x1, .f32⟩
  | 66 => ⟨S1x4096x8x128, .f32⟩
  | 67 => ⟨S1x4096x8x128, .f32⟩
  | 68 => ⟨S1x1x8x128, .f32⟩
  | 69 => ⟨S1x4096x8x128, .f32⟩
  | 70 => ⟨S1x4096x8x128, .f32⟩
  | 71 => ⟨S1x32x128x8x128, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .f32⟩
  | 85 => ⟨S8x128x128, .f32⟩
  | 86 => ⟨S8x128x128, .i1⟩
  | 87 => ⟨S8x128x128, .f32⟩
  | 88 => ⟨S8x1x32x128x128, .f32⟩
  | 89 => ⟨S1x32x128x8x128, .f32⟩
  | 90 => ⟨S128x8, .f32⟩
  | 91 => ⟨S1x1x128x8x1, .f32⟩
  | 92 => ⟨S1x32x128x8x128, .f32⟩
  | 93 => ⟨S1x32x128x8x128, .f32⟩
  | 94 => ⟨S1x4096x1024, .f32⟩
  | 95 => ⟨S1x4096x1024, .f32⟩
  | 96 => ⟨S4x256x256, .f32⟩
  | 97 => ⟨S1024, .f32⟩
  | 98 => ⟨S1x4096x4x256, .f32⟩
  | 99 => ⟨S_, .f32⟩
  | 100 => ⟨S_, .f32⟩
  | 101 => ⟨S1x4096x4x256, .f32⟩
  | 102 => ⟨S1x1x4x256, .f32⟩
  | 103 => ⟨S_, .f32⟩
  | 104 => ⟨S1x1x4x256, .f32⟩
  | 105 => ⟨S1x4097x4x256, .f32⟩
  | 106 => ⟨S4096, .i32⟩
  | 107 => ⟨S1x4097x1x256, .f32⟩
  | 108 => ⟨S1x4097x256, .f32⟩
  | 109 => ⟨S_, .f32⟩
  | 110 => ⟨S1x1x256, .f32⟩
  | 111 => ⟨S1x4095x256, .f32⟩
  | 112 => ⟨S1x4096x256, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S4096, .f32⟩
  | 120 => ⟨S1x4096x1, .f32⟩
  | 121 => ⟨S1x4096x256, .f32⟩
  | 122 => ⟨S1x4096x256, .f32⟩
  | 123 => ⟨S1x4096x256, .f32⟩
  | 124 => ⟨S1x4096x256, .f32⟩
  | 125 => ⟨S1x4096x1x256, .f32⟩
  | 126 => ⟨S1x4096x256, .f32⟩
  | 127 => ⟨S1x4096x256, .f32⟩
  | _ => ⟨S4096x3072, .f32⟩

abbrev hbmTy0_1 (i : Nat) : BufTy := match i % 128 with
  | 0 => ⟨S1x4097x1x256, .f32⟩
  | 1 => ⟨S1x4097x256, .f32⟩
  | 2 => ⟨S_, .f32⟩
  | 3 => ⟨S1x3x256, .f32⟩
  | 4 => ⟨S1x4093x256, .f32⟩
  | 5 => ⟨S1x4096x256, .f32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S4096, .f32⟩
  | 13 => ⟨S1x4096x1, .f32⟩
  | 14 => ⟨S1x4096x256, .f32⟩
  | 15 => ⟨S1x4096x256, .f32⟩
  | 16 => ⟨S1x4096x256, .f32⟩
  | 17 => ⟨S1x4096x256, .f32⟩
  | 18 => ⟨S1x4096x1x256, .f32⟩
  | 19 => ⟨S1x4096x256, .f32⟩
  | 20 => ⟨S1x4096x256, .f32⟩
  | 21 => ⟨S1x4097x1x256, .f32⟩
  | 22 => ⟨S1x4097x256, .f32⟩
  | 23 => ⟨S_, .f32⟩
  | 24 => ⟨S1x7x256, .f32⟩
  | 25 => ⟨S1x4089x256, .f32⟩
  | 26 => ⟨S1x4096x256, .f32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .f32⟩
  | 34 => ⟨S1x4096x1, .f32⟩
  | 35 => ⟨S1x4096x256, .f32⟩
  | 36 => ⟨S1x4096x256, .f32⟩
  | 37 => ⟨S1x4096x256, .f32⟩
  | 38 => ⟨S1x4096x256, .f32⟩
  | 39 => ⟨S1x4096x1x256, .f32⟩
  | 40 => ⟨S1x4096x256, .f32⟩
  | 41 => ⟨S1x4096x256, .f32⟩
  | 42 => ⟨S1x4097x1x256, .f32⟩
  | 43 => ⟨S1x4097x256, .f32⟩
  | 44 => ⟨S_, .f32⟩
  | 45 => ⟨S1x15x256, .f32⟩
  | 46 => ⟨S1x4081x256, .f32⟩
  | 47 => ⟨S1x4096x256, .f32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096, .f32⟩
  | 55 => ⟨S1x4096x1, .f32⟩
  | 56 => ⟨S1x4096x256, .f32⟩
  | 57 => ⟨S1x4096x256, .f32⟩
  | 58 => ⟨S1x4096x256, .f32⟩
  | 59 => ⟨S1x4096x256, .f32⟩
  | 60 => ⟨S1x4096x1x256, .f32⟩
  | 61 => ⟨S1x4096x256, .f32⟩
  | 62 => ⟨S1x4096x256, .f32⟩
  | 63 => ⟨S1x4096x1x256, .f32⟩
  | 64 => ⟨S1x4096x1x256, .f32⟩
  | 65 => ⟨S1x4096x1x256, .f32⟩
  | 66 => ⟨S1x4096x1x256, .f32⟩
  | 67 => ⟨S1x4096x4x256, .f32⟩
  | 68 => ⟨S4x256x1x4096, .f32⟩
  | 69 => ⟨S1x4096x4x256, .f32⟩
  | 70 => ⟨S1x4096x1024, .f32⟩
  | 71 => ⟨S1x1x1024, .f32⟩
  | 72 => ⟨S1x4096x1024, .f32⟩
  | 73 => ⟨S1x4096x1024, .f32⟩
  | 74 => ⟨S1x4096x2048, .f32⟩
  | 75 => ⟨S4096x2048, .f32⟩
  | 76 => ⟨S4096x2048, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c : Ref sig .tc := ⟨.hbm, 72, rfl⟩
abbrev main_v53 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_call1_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call2_call0_cst : Ref sig .tc := ⟨.hbm, 99, rfl⟩
abbrev main_call2_call0_v0 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_14 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_15 : Ref sig .tc := ⟨.hbm, 113, rfl⟩
abbrev main_v79 : Ref sig .tc := ⟨.hbm, 114, rfl⟩
abbrev main_v80 : Ref sig .tc := ⟨.hbm, 115, rfl⟩
abbrev main_c_16 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_17 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_18 : Ref sig .tc := ⟨.hbm, 134, rfl⟩
abbrev main_v97 : Ref sig .tc := ⟨.hbm, 135, rfl⟩
abbrev main_v98 : Ref sig .tc := ⟨.hbm, 136, rfl⟩
abbrev main_c_19 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_20 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_c_21 : Ref sig .tc := ⟨.hbm, 155, rfl⟩
abbrev main_v115 : Ref sig .tc := ⟨.hbm, 156, rfl⟩
abbrev main_v116 : Ref sig .tc := ⟨.hbm, 157, rfl⟩
abbrev main_c_22 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_23 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_24 : Ref sig .tc := ⟨.hbm, 176, rfl⟩
abbrev main_v133 : Ref sig .tc := ⟨.hbm, 177, rfl⟩
abbrev main_v134 : Ref sig .tc := ⟨.hbm, 178, rfl⟩
abbrev main_c_25 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩

abbrev nD : Nat := 1
abbrev τ : Topo := Topo.v7x

variable {F : FTy → Type} [FloatOps F]
-- ==== Proj.lean ====
abbrev S4096x2048 : Shape := ⟨2, ![4096, 2048]⟩
abbrev S1x2048x3072 : Shape := ⟨3, ![1, 2048, 3072]⟩
abbrev S2048x3072 : Shape := ⟨2, ![2048, 3072]⟩
abbrev S2048x4x768 : Shape := ⟨3, ![2048, 4, 768]⟩
abbrev S4x2048x768 : Shape := ⟨3, ![4, 2048, 768]⟩
abbrev S4096x3072 : Shape := ⟨2, ![4096, 3072]⟩
abbrev S512x2048 : Shape := ⟨2, ![512, 2048]⟩
abbrev S1x2048x768 : Shape := ⟨3, ![1, 2048, 768]⟩
abbrev S512x768 : Shape := ⟨2, ![512, 768]⟩
abbrev S1x2048x256 : Shape := ⟨3, ![1, 2048, 256]⟩
abbrev S2048x256 : Shape := ⟨2, ![2048, 256]⟩
abbrev S512x256 : Shape := ⟨2, ![512, 256]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1x2048x3072, .f32⟩
  | .hbm, ⟨2, _⟩ => ⟨S2048x3072, .f32⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S4096x3072, .f32⟩
  | .local _ .vmem, ⟨0, _⟩ => ⟨S512x2048, .bf16⟩
  | .local _ .vmem, ⟨1, _⟩ => ⟨S512x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x768, .f32⟩
  | .local _ .vmem, ⟨5, _⟩ => ⟨S512x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S4096x2048 : Shape := ⟨2, ![4096, 2048]⟩
abbrev S1x2048x3072 : Shape := ⟨3, ![1, 2048, 3072]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x3072, .f32⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dmixed.lean ====
abbrev S4096x2048 : Shape := ⟨2, ![4096, 2048]⟩
abbrev S1x2048x2048 : Shape := ⟨3, ![1, 2048, 2048]⟩
abbrev S2048x2048 : Shape := ⟨2, ![2048, 2048]⟩
abbrev S256x2048 : Shape := ⟨2, ![256, 2048]⟩
abbrev S512x2048 : Shape := ⟨2, ![512, 2048]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DmixedRefIdeal.lean ====
abbrev S4096x2048 : Shape := ⟨2, ![4096, 2048]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x2048, .f32⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dw.lean ====
abbrev S4096x2048 : Shape := ⟨2, ![4096, 2048]⟩
abbrev S4096x8192 : Shape := ⟨2, ![4096, 8192]⟩
abbrev S4x2048x2048 : Shape := ⟨3, ![4, 2048, 2048]⟩
abbrev S4096x512 : Shape := ⟨2, ![4096, 512]⟩
abbrev S1x512x2048 : Shape := ⟨3, ![1, 512, 2048]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S4096x2048, .bf16⟩
  | .local _ .vmem, ⟨4, _⟩ => ⟨S1x512x2048, .bf16⟩
  | .local _ .vmem, ⟨5, _⟩ => ⟨S1x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Adam.lean ====
abbrev S1x2048x2048 : Shape := ⟨3, ![1, 2048, 2048]⟩
abbrev S2048x2048 : Shape := ⟨2, ![2048, 2048]⟩
abbrev S128x2048 : Shape := ⟨2, ![128, 2048]⟩

abbrev nBuf : Space → Nat
  | .hbm => 11
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S1x2048x2048, .f32⟩
  | .hbm, ⟨4, _⟩ => ⟨S1x2048x2048, .f32⟩
  | .hbm, ⟨5, _⟩ => ⟨S_, .f32⟩
  | .hbm, ⟨6, _⟩ => ⟨S1x2048x2048, .f32⟩
  | .hbm, ⟨7, _⟩ => ⟨S1x2048x2048, .f32⟩
  | .hbm, ⟨8, _⟩ => ⟨S_, .f32⟩
  | .hbm, ⟨9, _⟩ => ⟨S1x2048x2048, .f32⟩
  | .hbm, ⟨10, _⟩ => ⟨S1x2048x2048, .f32⟩
  | .hbm, ⟨11, _⟩ => ⟨S1x2048x2048, .f32⟩
  | .hbm, ⟨12, _⟩ => ⟨S_, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S_, .f32⟩
  | .hbm, ⟨17, _⟩ => ⟨S1x2048x2048, .f32⟩
  | .hbm, ⟨18, _⟩ => ⟨S1x2048x2048, .f32⟩
  | .hbm, ⟨19, _⟩ => ⟨S1x2048x2048, .f32⟩
  | .hbm, ⟨20, _⟩ => ⟨S_, .f32⟩
  | .hbm, ⟨21, _⟩ => ⟨S1x2048x2048, .f32⟩
  | .hbm, ⟨22, _⟩ => ⟨S1x2048x2048, .f32⟩
  | .hbm, ⟨23, _⟩ => ⟨S_, .f32⟩
  | .hbm, ⟨24, _⟩ => ⟨S1x2048x2048, .f32⟩
  | .hbm, ⟨25, _⟩ => ⟨S1x2048x2048, .f32⟩
  | .hbm, ⟨26, _⟩ => ⟨S1x2048x2048, .f32⟩
  | .hbm, ⟨27, _⟩ => ⟨S_, .f32⟩
  | .hbm, ⟨28, _⟩ => ⟨S1x2048x2048, .f32⟩
  | .hbm, ⟨29, _⟩ => ⟨S1x2048x2048, .f32⟩
  | .hbm, ⟨30, _⟩ => ⟨S1x2048x2048, .f32⟩
  | .hbm, ⟨31, _⟩ => ⟨S_, .f32⟩
  | .hbm, ⟨32, _⟩ => ⟨S1x2048x2048, .f32⟩
  | .hbm, ⟨33, _⟩ => ⟨S1x2048x2048, .f32⟩
  | .hbm, ⟨34, _⟩ => ⟨S1x2048x2048, .f32⟩
  | .hbm, ⟨35, _⟩ => ⟨S_, .f32⟩
  | .hbm, ⟨36, _⟩ => ⟨S1x2048x2048, .f32⟩
  | .hbm, ⟨37, _⟩ => ⟨S1x2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Sib.lean ====
abbrev S4x2x1024x2048 : Shape := ⟨4, ![4, 2, 1024, 2048]⟩
abbrev S4x1024x2048 : Shape := ⟨3, ![4, 1024, 2048]⟩
abbrev S1x1x256x2048 : Shape := ⟨4, ![1, 1, 256, 2048]⟩
abbrev S1x256x2048 : Shape := ⟨3, ![1, 256, 2048]⟩
abbrev S256x2048 : Shape := ⟨2, ![256, 2048]⟩
abbrev S3x1024x2048 : Shape := ⟨3, ![3, 1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4x2x1024x2048, .bf16⟩
  | .hbm, ⟨1, _⟩ => ⟨S4x1024x2048, .bf16⟩
  | .hbm, ⟨2, _⟩ => ⟨S4x1024x2048, .bf16⟩
  | .hbm, ⟨3, _⟩ => ⟨S3x1024x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | _, _ => ⟨S4x2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  ![v10.toNat, c0_i32_4.toNat, arg1.toNat, c0_i32_5.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![v10.toNat, arg1.toNat, c0_i32_4.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SibRefIdeal.lean ====
abbrev S4x2x1024x2048 : Shape := ⟨4, ![4, 2, 1024, 2048]⟩
abbrev S4x1024x2048 : Shape := ⟨3, ![4, 1024, 2048]⟩
abbrev S3x1x1024x2048 : Shape := ⟨4, ![3, 1, 1024, 2048]⟩
abbrev S3x1024x2048 : Shape := ⟨3, ![3, 1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2x1024x2048, .bf16⟩
  | .hbm, ⟨1, _⟩ => ⟨S4x1024x2048, .bf16⟩
  | .hbm, ⟨2, _⟩ => ⟨S3x1x1024x2048, .bf16⟩
  | .hbm, ⟨3, _⟩ => ⟨S3x1024x2048, .bf16⟩
  | .hbm, ⟨4, _⟩ => ⟨S3x1024x2048, .f32⟩
  | .hbm, ⟨5, _⟩ => ⟨S3x1024x2048, .bf16⟩
  | .hbm, ⟨6, _⟩ => ⟨S3x1024x2048, .f32⟩
  | .hbm, ⟨7, _⟩ => ⟨S3x1024x2048, .f32⟩
  | .hbm, ⟨8, _⟩ => ⟨S3x1024x2048, .bf16⟩
  | _, _ => ⟨S4x2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Chips.lean ====
abbrev S4x2x1024x2048 : Shape := ⟨4, ![4, 2, 1024, 2048]⟩
abbrev S4x1024x2048 : Shape := ⟨3, ![4, 1024, 2048]⟩
abbrev S3x1024x2048 : Shape := ⟨3, ![3, 1024, 2048]⟩
abbrev S2x1024x2048 : Shape := ⟨3, ![2, 1024, 2048]⟩
abbrev S1x1x256x2048 : Shape := ⟨4, ![1, 1, 256, 2048]⟩
abbrev S1x256x2048 : Shape := ⟨3, ![1, 256, 2048]⟩
abbrev S3x256x2048 : Shape := ⟨3, ![3, 256, 2048]⟩
abbrev S256x2048 : Shape := ⟨2, ![256, 2048]⟩
abbrev S1x1024x2048 : Shape := ⟨3, ![1, 1024, 2048]⟩
abbrev S1024x2048 : Shape := ⟨2, ![1024, 2048]⟩

abbrev nBuf : Space → Nat
  | .hbm => 6
  | .vmem => 8
  | .smem => 0
  | _ => 0

abbrev bufTy : (tb : Table) → Fin (tcTables nBuf tb) → BufTy
  | .hbm, ⟨0, _⟩ => ⟨S4x2x1024x2048, .bf16⟩
  | .hbm, ⟨1, _⟩ => ⟨S4x1024x2048, .bf16⟩
  | .hbm, ⟨2, _⟩ => ⟨S3x1024x2048, .bf16⟩
  | .hbm, ⟨3, _⟩ => ⟨S2x1024x2048, .f32⟩
  | .hbm, ⟨4, _⟩ => ⟨S1x1024x2048, .f32⟩
  | .hbm, ⟨5, _⟩ => ⟨S1024x2048, .f32⟩
  | .local _ .vmem, ⟨0, _⟩ => ⟨S1x1x256x2048, .bf16⟩
  | .local _ .vmem, ⟨1, _⟩ => ⟨S1x1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S3x256x2048, .bf16⟩
  | .local _ .vmem, ⟨5, _⟩ => ⟨S3x256x2048, .bf16⟩
  | .local _ .vmem, ⟨6, _⟩ => ⟨S1x256x2048, .f32⟩
  | .local _ .vmem, ⟨7, _⟩ => ⟨S1x256x2048, .f32⟩
  | _, _ => ⟨S4x2x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ChipsRefIdeal.lean ====
abbrev S4x2x1024x2048 : Shape := ⟨4, ![4, 2, 1024, 2048]⟩
abbrev S4x1024x2048 : Shape := ⟨3, ![4, 1024, 2048]⟩
abbrev S3x1024x2048 : Shape := ⟨3, ![3, 1024, 2048]⟩
abbrev S1x1x1024x2048 : Shape := ⟨4, ![1, 1, 1024, 2048]⟩
abbrev S1024x2048 : Shape := ⟨2, ![1024, 2048]⟩
abbrev S1x1024x2048 : Shape := ⟨3, ![1, 1024, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2x1024x2048, .bf16⟩
  | .hbm, ⟨1, _⟩ => ⟨S4x1024x2048, .bf16⟩
  | .hbm, ⟨2, _⟩ => ⟨S3x1024x2048, .bf16⟩
  | .hbm, ⟨3, _⟩ => ⟨S1x1x1024x2048, .bf16⟩
  | .hbm, ⟨4, _⟩ => ⟨S1024x2048, .bf16⟩
  | .hbm, ⟨5, _⟩ => ⟨S1024x2048, .f32⟩
  | .hbm, ⟨6, _⟩ => ⟨S1x1024x2048, .bf16⟩
  | .hbm, ⟨7, _⟩ => ⟨S1024x2048, .bf16⟩
  | .hbm, ⟨8, _⟩ => ⟨S1024x2048, .f32⟩
  | .hbm, ⟨9, _⟩ => ⟨S1024x2048, .f32⟩
  | .hbm, ⟨10, _⟩ => ⟨S3x1024x2048, .f32⟩
  | .hbm, ⟨11, _⟩ => ⟨S_, .f32⟩
  | .hbm, ⟨12, _⟩ => ⟨S1024x2048, .f32⟩
  | .hbm, ⟨13, _⟩ => ⟨S1024x2048, .f32⟩
  | _, _ => ⟨S4x2x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Pack.lean ====
abbrev S1x2048x2048 : Shape := ⟨3, ![1, 2048, 2048]⟩
abbrev S2048x2048 : Shape := ⟨2, ![2048, 2048]⟩
abbrev S4x2048x2048 : Shape := ⟨3, ![4, 2048, 2048]⟩
abbrev S256x2048 : Shape := ⟨2, ![256, 2048]⟩
abbrev S1x256x2048 : Shape := ⟨3, ![1, 256, 2048]⟩

abbrev nBuf : Space → Nat
  | .hbm => 5
  | .vmem => 4
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S4x2048x2048, .bf16⟩
  | .hbm, ⟨3, _⟩ => ⟨S1x2048x2048, .bf16⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x256x2048, .bf16⟩
  | .local _ .vmem, ⟨3, _⟩ => ⟨S1x256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackRefIdeal.lean ====
abbrev S1x2048x2048 : Shape := ⟨3, ![1, 2048, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.DactArrays.lean ====
module

public import proofs.«01_k».proof.Proof.Gen.DactIdeal.Frame
public import proofs.«01_k».proof.Proof.Gen.DactRefIdeal.Run
public import proofs.«01_k».proof.Proof.Gen.DactRefIdeal.Read
public import Idealize.ShloMosaic.Lib.Pipeline.ValueKit

@[expose] public section

set_option maxRecDepth 16384

noncomputable section

namespace Cert.DactIdeal.Sound

open Cert.DactIdeal Cert.DactIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Where the windows of the first call stand at a grid point. -/
theorem idx0 : ∀ t : Fin cfg0.N, win0_0.index t = ![t.val % 4, 0] ∧ win0_1.index t = ![t.val / 4, 0, 0]
    ∧ win0_2.index t = ![t.val % 4, t.val / 4] :=
  (by decide +kernel : ∀ t : Fin grid0.N, _)

/-- Where the windows of the second call stand at a grid point. -/
theorem idx1 : ∀ t : Fin cfg1.N, win1_0.index t = ![t.val % 4, 0] ∧ win1_1.index t = ![t.val / 4, 0]
    ∧ win1_2.index t = ![t.val % 4, t.val / 4] ∧ win1_3.index t = ![t.val % 4, t.val / 4] :=
  (by decide +kernel : ∀ t : Fin grid1.N, _)

/-- The activation at one place: the square of the positive part of a row of the input times a column of the weights,
    the weights' columns standing in four groups. -/
def actAt (h : S4096x2048.Idx → EReal) (w : S4x2048x2048.Idx → EReal) (i : S4096x8192.Idx) : EReal :=
  max (∑ k : Fin 2048, h (ix2 (i 0) k) * w (ix3 ⟨(i 1).val / 2048, by have := (i 1).isLt; simp at this; omega⟩ k ⟨(i 1).val % 2048, by omega⟩)) 0
  * max (∑ k : Fin 2048, h (ix2 (i 0) k) * w (ix3 ⟨(i 1).val / 2048, by have := (i 1).isLt; simp at this; omega⟩ k ⟨(i 1).val % 2048, by omega⟩)) 0

/-- The gradient before the activation at one place: the cotangent's row times a row of the down projection, times twice
    the root of the activation. -/
def dactAt (d : S4096x2048.Idx → EReal) (w : S8192x2048.Idx → EReal) (a : S4096x8192.Idx → EReal) (i : S4096x8192.Idx) : EReal :=
  (∑ k : Fin 2048, d (ix2 (i 0) k) * w (ix2 (i 1) k)) * (Ideal.ofBits .f32 0x40000000#32 * Ideal.sqrt (a i))

/-- The first call leaves the activation in its result. -/
theorem up_array (c : Dev nD) : (dat0 V c).arrAt 2 cfg0.N = actAt (V c main_arg0) (V c main_v3) := by
  refine (dat0 V c).arrAt_eq_of_covers 2 _ (by decide +kernel) fun t hf y => ?_
  obtain ⟨e0, e1, e2⟩ := idx0 t
  blk_simp
  rw [after0_2]
  unfold out0_2
  canon_tiles x h
  all_goals unfold_payloads
  all_goals pointwise [actAt]
  all_goals blk_point [iblk0, e0, e1, e2]

/-- The second call leaves the gradient before the activation in its result. -/
theorem dact_array (c : Dev nD) : (dat1 V c).arrAt 3 cfg1.N = dactAt (V c main_arg3) (V c main_v5) (V c main_v6) := by
  refine (dat1 V c).arrAt_eq_of_covers 3 _ (by decide +kernel) fun t hf y => ?_
  obtain ⟨e0, e1, e2, e3⟩ := idx1 t
  blk_simp
  rw [after1_3]
  unfold out1_3
  canon_tiles x h
  all_goals unfold_payloads
  all_goals pointwise [dactAt]
  all_goals blk_point [iblk1, e0, e1, e2, e3]

end Cert.DactIdeal.Sound
end
-- ==== Proof.UpDact.lean ====
module

public import proofs.«01_k».proof.Defs
public import proofs.«01_k».proof.Proof.DactArrays
public import proofs.«01_k».proof.Proof.Gen.DactRefIdeal
public import Idealize.ShloMosaic.Lib.StableHlo.ReadAt

@[expose] public section

set_option maxRecDepth 16384

noncomputable section

namespace Cert.DactIdeal.Sound

open Cert.DactIdeal Cert.DactIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run with its two results -/

variable (m : (ℓ : Loc nD τ sig) → Buf (Elt Ideal) ℓ) (ρ : Dev nD → PrngReg)

/-- What the program leaves in its first result: the first call's array over what the host prepared. -/
theorem act_end (c : Dev nD) : W3 m ρ c (Proc.devRef .tc main_v6) = actAt (V1 m ρ c main_arg0) (V1 m ρ c main_v3) :=
  ((W3_of m ρ c main_v6 (by decide)).trans (W2_arr m ρ c 2)).trans (up_array (V1 m ρ) c)

/-- What the program leaves in its second result: the second call's array, over the first call's result. -/
theorem da_end (c : Dev nD) : W3 m ρ c (Proc.devRef .tc main_v7)
    = dactAt (V1 m ρ c main_arg3) (V1 m ρ c main_v5) (actAt (V1 m ρ c main_arg0) (V1 m ρ c main_v3)) := by
  refine ((W3_arr m ρ c 3).trans (dact_array (V2 m ρ) c)).trans ?_
  have h3 : V2 m ρ c main_arg3 = V1 m ρ c main_arg3 := W2_of m ρ c main_arg3 (by decide)
  have h5 : V2 m ρ c main_v5 = V1 m ρ c main_v5 := W2_of m ρ c main_v5 (by decide)
  have h6 : V2 m ρ c main_v6 = actAt (V1 m ρ c main_arg0) (V1 m ρ c main_v3) :=
    (W2_arr m ρ c 2).trans (up_array (V1 m ρ) c)
  rw [h3, h5, h6]

-- the launch theorem's implicit arguments are found by unifying its conclusion with this one
set_option backward.isDefEq.respectTransparency.types false in
/-- Every run ends with the two results at their last boundary contents and the arguments unchanged. -/
theorem run_ends : θ_run defs (onTc (τ := τ) (main (F := Ideal))) ⟨m, fun _ => 0, ρ⟩ (fun r => ∀ c : Dev nD,
      r.2.mem ((c.tc : Thread nD τ).loc main_v6) = W3 m ρ c (Proc.devRef .tc main_v6)
      ∧ r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => (fun c =>
      ⟨h c _ (mem_uc main_v6 (by decide)), h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩))

/-! ## The host's preparation of the weights -/

/-- The up projection as the kernel takes it: group `g` holds columns `2048 g` up to `2048 g + 2047`. -/
theorem wup_read (c : Dev nD) (g : Fin 4) (k j : Fin 2048) : V1 m ρ c main_v3 (ix3 g k j)
    = m ((c : Thread nD τ).loc main_arg1) (ix3 (0 : Fin 1) k (⟨g.val * 2048 + j.val, by omega⟩ : Fin 8192)) := by
  change StableHlo.after hostOps0 (W0 m ρ c) (Proc.devRef .tc main_v3) _ = _
  after_reads_at

/-- The down projection as the kernel takes it. -/
theorem wdown_read (c : Dev nD) (k : Fin 8192) (j : Fin 2048) : V1 m ρ c main_v5 (ix2 k j)
    = m ((c : Thread nD τ).loc main_arg2) (ix3 (0 : Fin 1) k j) := by
  change StableHlo.after hostOps0 (W0 m ρ c) (Proc.devRef .tc main_v5) _ = _
  after_reads_at

/-! ## The tie to the reference -/

/-- The root of the square of a positive part is the positive part. -/
theorem sqrt_sq (z : EReal) : Ideal.sqrt (max z 0 * max z 0) = max z 0 := by
  induction z with
  | bot => rw [max_eq_right bot_le, mul_zero, ← EReal.coe_zero, Ideal.sqrt_coe]; simp
  | top => rw [max_eq_left le_top, EReal.top_mul_top, Ideal.sqrt_top]
  | coe r =>
    rw [show (max (r : EReal) 0) = ((max r 0 : ℝ) : EReal) from (EReal.coe_strictMono.monotone.map_max (a := r) (b := 0)).symm, ← EReal.coe_mul, Ideal.sqrt_coe,
      if_neg (not_lt.mpr (mul_self_nonneg _)), Real.sqrt_mul_self (le_max_right _ _)]

/-- Masking by the sign of the activation's argument changes nothing: the factor is zero already where it is not positive. -/
theorem mask_mul (p w z : EReal) : (if 0 < z then p * (w * max z 0) else 0) = p * (w * max z 0) := by
  split
  · rfl
  · rw [max_eq_right (not_lt.mp ‹_›), mul_zero, mul_zero]

/-- One place of the pre-activation: a row of the input times a column of the prepared weights. -/
def preAt (h : S4096x2048.Idx → EReal) (w : S4x2048x2048.Idx → EReal) (i : Fin 4096) (j : Fin 8192) : EReal :=
  ∑ k : Fin 2048, h (ix2 i k) * w (ix3 (⟨j.val / 2048, by omega⟩ : Fin 4) k (⟨j.val % 2048, by omega⟩ : Fin 2048))

open Cert.DactRefIdeal.Read in
/-- The reference's pre-activation at one place is the row of the input times the prepared weights' column. -/
theorem pre_tie (c : Dev nD) (i : Fin 4096) (j : Fin 8192) (y : Cert.DactRefIdeal.S1x4096x8192.Idx)
    (hy : y = ix3 (0 : Fin 1) i j) :
    val_main_v3 (F := Ideal) (m ((c : Thread nD τ).loc main_arg0)) (m ((c : Thread nD τ).loc main_arg1)) y
    = preAt (V1 m ρ c main_arg0) (V1 m ρ c main_v3) i j := by
  have hA : V1 m ρ c main_arg0 = m ((c : Thread nD τ).loc main_arg0) := W1_args m ρ c main_arg0 (by decide)
  unfold preAt
  rw [hy, hA, val_main_v3_apply]
  refine Finset.sum_congr rfl fun k _ => ?_
  rw [wup_read]
  simp only [val_main_v0_apply, val_main_v1_apply, val_main_v2_apply]
  pointwise
  refine Ideal.mul_congr ?_ ?_ <;> congr 1 <;> funext a <;> fin_cases a <;> apply Fin.ext <;> simp <;> omega

open Cert.DactRefIdeal.Read in
/-- The reference's first result is the activation. -/
theorem act_tie (c : Dev nD) : actAt (V1 m ρ c main_arg0) (V1 m ρ c main_v3)
    = val_main_v20 (F := Ideal) (m ((c : Thread nD τ).loc main_arg0)) (m ((c : Thread nD τ).loc main_arg1)) := by
  funext i
  idx_vars i
  simp only [val_main_v20_apply, val_main_v19_apply, val_main_v8_apply, val_main_v4_apply, val_main_call0_v0_apply, val_main_call0_cst_apply]
  rw [pre_tie m ρ c i0 i1 _ (by funext a; fin_cases a <;> apply Fin.ext <;> simp <;> omega)]
  pointwise [actAt, preAt]

open Cert.DactRefIdeal.Read in
/-- The reference's second result is the gradient before the activation. -/
theorem da_tie (c : Dev nD) : dactAt (V1 m ρ c main_arg3) (V1 m ρ c main_v5) (actAt (V1 m ρ c main_arg0) (V1 m ρ c main_v3))
    = val_main_v22 (F := Ideal) (m ((c : Thread nD τ).loc main_arg0)) (m ((c : Thread nD τ).loc main_arg1))
        (m ((c : Thread nD τ).loc main_arg2)) (m ((c : Thread nD τ).loc main_arg3)) := by
  funext i
  idx_vars i
  have hA : V1 m ρ c main_arg3 = m ((c : Thread nD τ).loc main_arg3) := W1_args m ρ c main_arg3 (by decide)
  simp only [val_main_v22_apply, val_main_v21_apply, val_main_v18_apply, val_main_v6_apply, val_main_v16_apply, val_main_v17_apply, val_main_cst_2_apply, val_main_v15_apply, val_main_v14_apply, val_main_v13_apply, val_main_v11_apply, val_main_v10_apply, val_main_v9_apply, val_main_cst_1_apply, val_main_v5_apply, val_main_cst_apply, val_main_v4_apply, val_main_call0_v0_apply, val_main_call0_cst_apply]
  unfold dactAt
  rw [hA]
  pointwise [actAt, sqrt_sq]
  rw [pre_tie m ρ c i0 i1 _ (by funext a; fin_cases a <;> apply Fin.ext <;> simp <;> omega), mask_mul]
  unfold preAt
  refine Ideal.mul_congr (Finset.sum_congr rfl fun k _ => ?_) rfl
  rw [wdown_read]
  refine Ideal.mul_congr ?_ ?_ <;> congr 1 <;> funext a <;> fin_cases a <;> apply Fin.ext <;> simp <;> omega

/-! ## The claims -/

/-- The reference runs to its end, leaves its arguments as they were and has no counter that could stand above zero. -/
theorem reference_frame : Cert.quiescent_DactRefIdeal (hDactRefIdeal := Cert.DactRefIdeal.Gen.facts) := fun m ρ _ =>
  (θ_run Cert.DactRefIdeal.defs _ _).mono
    (fun r h => ⟨fun c => (h c).2.2, Idealize.ShloMosaic.sem_eq_zero_of_no_sems (by decide) r.2⟩)
    (Cert.DactRefIdeal.Value.run (F := Ideal) m ρ)

/-- The two calls and the reference's lines end with equal results, whatever the arguments. -/
theorem algebraic : Cert.algebraic_DactIdeal_DactRefIdeal (hDactIdeal := Cert.DactIdeal.Gen.facts)
    (hDactRefIdeal := Cert.DactRefIdeal.Gen.facts) := by
  intro m ρ m' ρ' _ hagree
  refine ⟨fun c => W3 m ρ c (Proc.devRef .tc main_v6), fun c => W3 m ρ c (Proc.devRef .tc main_v7), run_ends m ρ, ?_⟩
  refine (θ_run Cert.DactRefIdeal.defs _ _).mono (fun r h c => ?_) (Cert.DactRefIdeal.Value.run (F := Ideal) m' ρ')
  obtain ⟨h0, h1, h2, h3⟩ := hagree c
  refine ⟨(h c).1.trans ?_, (h c).2.1.trans ?_, (h c).2.2⟩
  · rw [Cert.DactRefIdeal.Read.val_main_v20_eq, h0, h1]
    exact (act_tie m ρ c).symm.trans (act_end m ρ c).symm
  · rw [Cert.DactRefIdeal.Read.val_main_v22_eq, h0, h1, h2, h3]
    exact (da_tie m ρ c).symm.trans (da_end m ρ c).symm

end Cert.DactIdeal.Sound
end
-- ==== Proof.Pieces.lean ====
module

public import Idealize.ShloMosaic.Lib.Pipeline.ValueKit
public import Idealize.ShloMosaic.Lib.Pipeline.ReadBack

@[expose] public section

set_option maxRecDepth 16384

noncomputable section

namespace Cert.Pieces

open Idealize.ShloMosaic

variable {sig : RefSig} {κ : Kind} {sp : Space} {s : Shape} {e : EltTy} {Val : EltTy → Type}

/-- A load of a box that several stores of parts of one array cover between them reads that array there.
The tree says which store holds which half of the box. -/
theorem readCov_of_pieces [∀ e, Nonempty (Val e)] (G : s.Idx → Val e) (tree : LoadRect.Cov) (v : View sig κ sp s e)
    (L : List (View.Piece Val s e)) (r : Rect s) (h : View.PiecesOf G L)
    (hc : LoadRect.covChk (L.map Sigma.fst) r.toLoadRect tree = true) : v.readCov L r.toLoadRect = View.ld G r := by
  rw [View.readCov_eq_canon v L r.toLoadRect (LoadRect.cover_of_covChk L _ tree hc)]
  funext j
  simpa using View.canon_append_of_piecesOf G [] L h _ (LoadRect.cover_of_covChk L _ tree hc j)

end Cert.Pieces
end
-- ==== Proof.NormGrad.lean ====
module

public import Idealize.ShloMosaic.Lib.Pipeline.ValueKit

@[expose] public section

noncomputable section

/-! The gradient of a root-mean-square norm's row, as the kernel writes it and as the chain rule writes it. -/

namespace Cert.NormGrad

open Idealize.ShloMosaic

/-- The constant 2048. -/
theorem lit_2048 : Ideal.ofBits .f32 0x45000000#32 = ((2048 : ℝ) : EReal) := by
  simp [Ideal.ofBits, Ideal.ieee]
  rw [← EReal.coe_mul]
  norm_num

/-- The constant minus one half. -/
theorem lit_neg_half : Ideal.ofBits .f32 0xBF000000#32 = ((-(1 / 2) : ℝ) : EReal) := by
  simp [Ideal.ofBits, Ideal.ieee]
  rw [← EReal.coe_mul]
  norm_num

/-- The constant added under the root is a positive real. -/
theorem lit_eps : ∃ e : ℝ, 0 < e ∧ Ideal.ofBits .f32 0x358637BD#32 = (e : EReal) := by
  refine ⟨_, ?_, by simp only [Ideal.ofBits, Ideal.ieee]; rfl⟩
  simp

/-- Multiplying by a nonnegative real passes through a finite sum of extended reals. -/
theorem mul_sum (n : ℕ) (r : ℝ) (hr : 0 ≤ r) (f : Fin n → EReal) : ∑ j, (r : EReal) * f j = (r : EReal) * ∑ j, f j := by
  classical
  induction (Finset.univ : Finset (Fin n)) using Finset.induction_on with
  | empty => simp
  | insert a s ha ih =>
    rw [Finset.sum_insert ha, Finset.sum_insert ha, ih,
      EReal.left_distrib_of_nonneg_of_ne_top (EReal.coe_nonneg.mpr hr) (EReal.coe_ne_top r)]

/-- The sum of reals is a real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A square sum with a term that is not a real is infinite. -/
theorem sum_sq_top (n : ℕ) (x : Fin n → EReal) (h : ¬∀ k, ∃ y : ℝ, x k = (y : EReal)) : ∑ k, x k * x k = ⊤ := by
  obtain ⟨k, hk⟩ := not_forall.mp h
  have hsq : ∀ z : EReal, 0 ≤ z * z := fun z => by
    rcases le_total 0 z with h | h
    · exact mul_nonneg h h
    · rw [← neg_mul_neg]; exact mul_nonneg (EReal.neg_nonneg.mpr h) (EReal.neg_nonneg.mpr h)
  have h1 : x k * x k = ⊤ := by
    cases hx : x k with
    | bot => rfl
    | top => rfl
    | coe r => exact absurd ⟨r, hx⟩ hk
  exact top_le_iff.mp (h1 ▸ Finset.single_le_sum (f := fun k => x k * x k) (fun i _ => hsq _) (Finset.mem_univ k))

/-- A real times a real times an extended real, doubled, from its half. -/
theorem half_twice (y a : ℝ) (ha : 0 < a) (s : EReal) :
    (y : EReal) * (s * (((-(1 / 2)) * a : ℝ) : EReal)) + (s * (((-(1 / 2)) * a : ℝ) : EReal)) * (y : EReal)
    = -((y : EReal) * (s * (a : EReal))) := by
  have hn : (-(1 / 2)) * a < 0 := by linarith
  cases s with
  | coe s => norm_cast; ring
  | top =>
    rw [EReal.top_mul_coe_of_neg hn, EReal.top_mul_coe_of_pos ha]
    rcases lt_trichotomy y 0 with h | h | h
    · rw [EReal.coe_mul_bot_of_neg h, EReal.bot_mul_coe_of_neg h, EReal.coe_mul_top_of_neg h]; rfl
    · simp [h]
    · rw [EReal.coe_mul_bot_of_pos h, EReal.bot_mul_coe_of_pos h, EReal.coe_mul_top_of_pos h]; rfl
  | bot =>
    rw [EReal.bot_mul_coe_of_neg hn, EReal.bot_mul_coe_of_pos ha]
    rcases lt_trichotomy y 0 with h | h | h
    · rw [EReal.coe_mul_top_of_neg h, EReal.top_mul_coe_of_neg h, EReal.coe_mul_bot_of_neg h]; rfl
    · simp [h]
    · rw [EReal.coe_mul_top_of_pos h, EReal.top_mul_coe_of_pos h, EReal.coe_mul_bot_of_pos h]; rfl

/-- The row's gradient as the kernel writes it is the chain rule's, whatever extended reals stand in it:
    `x` the row, `d` the scaled cotangent, `rs` the residual's cotangent. -/
theorem norm_grad {n : ℕ} {N : ℝ} (x d : Fin n → EReal) (rs : EReal) (j : Fin n) (e : EReal) (he : ∃ e' : ℝ, 0 < e' ∧ e = (e' : EReal)) (ms r s : EReal)
    (hms : ms = Ideal.div (∑ k, x k * x k) (N : EReal) + e) (hr : r = Ideal.rsqrt ms)
    (hs : s = Ideal.div ((∑ k, x k * d k) * (((-(1 / 2) : ℝ) : EReal) * Ideal.div r ms)) (N : EReal)) (hN : 0 < N := by norm_num) :
    rs + r * (d j - (x j * r) * Ideal.div (∑ k, d k * (x k * r)) (N : EReal))
    = ((rs + d j * r) + x j * s) + s * x j := by
  obtain ⟨e', he', rfl⟩ := he
  have h20 : N ≠ 0 := hN.ne'
  by_cases hfin : ∀ k, ∃ y : ℝ, x k = (y : EReal)
  · choose y hy using hfin
    have hM : ∃ M : ℝ, 0 < M ∧ ms = (M : EReal) := by
      refine ⟨(∑ k, y k * y k) * (1 / N) + e', ?_, ?_⟩
      · have : 0 ≤ ∑ k, y k * y k := Finset.sum_nonneg fun k _ => mul_self_nonneg _
        positivity
      · rw [hms, Ideal.div_coe h20]
        rw [show ∑ k, x k * x k = ((∑ k, y k * y k : ℝ) : EReal) by
          rw [coe_sum]; exact Finset.sum_congr rfl fun k _ => by rw [hy, EReal.coe_mul], ← EReal.coe_mul, ← EReal.coe_add]
    obtain ⟨M, hM0, rfl⟩ := hM
    have hr' : r = (((Real.sqrt M)⁻¹ : ℝ) : EReal) := by
      rw [hr, Ideal.rsqrt_coe, if_neg (not_lt.mpr hM0.le), if_neg hM0.ne']
    set ρ : ℝ := (Real.sqrt M)⁻¹ with hρ
    have hρ0 : 0 < ρ := inv_pos.mpr (Real.sqrt_pos.mpr hM0)
    have hsum : ∑ k, d k * (x k * (ρ : EReal)) = (ρ : EReal) * ∑ k, x k * d k := by
      rw [← mul_sum _ _ hρ0.le]
      exact Finset.sum_congr rfl fun k _ => by rw [mul_comm (x k) (ρ : EReal), mul_left_comm, mul_comm (d k)]
    rw [hr'] at hs ⊢
    rw [hsum]
    generalize hS : ∑ k, x k * d k = S at hs
    have hs' : s = S * (((-(1 / 2)) * (ρ * M⁻¹ * (1 / N)) : ℝ) : EReal) := by
      rw [hs, Ideal.div_coe h20, Ideal.div_coe hM0.ne', ← EReal.coe_mul, ← EReal.coe_mul, mul_assoc, ← EReal.coe_mul]
      congr 2
      ring
    have hMr : M⁻¹ = ρ * ρ := by
      rw [hρ, ← mul_inv, Real.mul_self_sqrt hM0.le]
    have hP : (ρ : EReal) * ((x j * (ρ : EReal)) * Ideal.div ((ρ : EReal) * S) (N : EReal))
        = x j * (S * ((ρ * M⁻¹ * (1 / N) : ℝ) : EReal)) := by
      rw [Ideal.div_coe h20, hMr]
      push_cast
      ac_rfl
    rw [sub_eq_add_neg, EReal.left_distrib_of_nonneg_of_ne_top (EReal.coe_nonneg.mpr hρ0.le) (EReal.coe_ne_top ρ),
      mul_neg, hP, hs', hy j, ← half_twice _ _ (by positivity), mul_comm (d j)]
    abel
  · have htop : ms = ⊤ := by
      rw [hms, sum_sq_top _ _ hfin, Ideal.div_coe h20, EReal.top_mul_coe_of_pos (by positivity)]
      rfl
    have hr0 : r = 0 := by rw [hr, htop, Ideal.rsqrt_top]
    have hs0 : s = 0 := by
      rw [hs, hr0, htop, Ideal.div_coe h20]
      simp [Ideal.div]
    rw [hr0, hs0]
    simp

/-- The reciprocal root mean square of a row. -/
def rms (x : Fin 2048 → EReal) : EReal :=
  Ideal.rsqrt (Ideal.div (∑ k : Fin 2048, x k * x k) (Ideal.ofBits .f32 0x45000000#32) + Ideal.ofBits .f32 0x358637BD#32)

/-- One place of a row's gradient as the kernel writes it: `d` is the cotangent's row, `g` the gain, `rs` what is added. -/
def dxRow (d x g : Fin 2048 → EReal) (rs : EReal) (j : Fin 2048) : EReal :=
  rs + rms x * (d j * g j - (x j * rms x) * Ideal.div (∑ k : Fin 2048, d k * g k * (x k * rms x)) (Ideal.ofBits .f32 0x45000000#32))

/-- A sum over 512 rows, taken in four blocks of 128. -/
theorem sum_rows (f : Fin 512 → EReal) : ∑ r, f r = (∑ q : Fin 128, f ⟨q.val, by omega⟩) + (∑ q : Fin 128, f ⟨128 + q.val, by omega⟩)
    + (∑ q : Fin 128, f ⟨256 + q.val, by omega⟩) + ∑ q : Fin 128, f ⟨384 + q.val, by omega⟩ := by
  rw [Fin.sum_univ_add (a := 384) (b := 128) f, Fin.sum_univ_add (a := 256) (b := 128) fun i => f (Fin.castAdd 128 i),
    Fin.sum_univ_add (a := 128) (b := 128) fun i => f (Fin.castAdd 128 (Fin.castAdd 128 i))]
  rfl

/-- A number that grows by one term at each of eight steps, the first from nothing, ends at the sum of the terms. -/
theorem eight_steps (a : (n : ℕ) → n < 8 → EReal) (f : Fin 8 → EReal) (h0 : a 0 (by omega) = 0 + f 0)
    (hs : ∀ n (h : n + 1 < 8), a (n + 1) h = a n (by omega) + f ⟨n + 1, h⟩) : a 7 (by omega) = ∑ q, f q := by
  rw [hs 6 (by omega), hs 5 (by omega), hs 4 (by omega), hs 3 (by omega), hs 2 (by omega), hs 1 (by omega), hs 0 (by omega), h0, zero_add,
    Fin.sum_univ_eight]
  rfl

/-- A reduction on the host along axes of length one keeps the one element that drops to the place. -/
theorem reduce_unit {s t : Shape} {axes : List (Fin s.rank)} (h : s.ReducesTo axes t) (x : s.Idx → EReal) (init : EReal) (j : t.Idx)
    (i : s.Idx) (hi : h.drop i = j) (hu : ∀ i', h.drop i' = j → i' = i) : Ideal.hostReduceAdd h x init j = init + x i := by
  unfold Ideal.hostReduceAdd
  rw [show (Finset.univ.filter fun i => h.drop i = j) = {i} from by
    ext i'
    simp only [Finset.mem_filter, Finset.mem_univ, true_and, Finset.mem_singleton]
    exact ⟨hu i', fun e => e ▸ hi⟩, Finset.sum_singleton]

/-- A reduction on the host sums the elements that drop to the place, here listed by `e`. -/
theorem reduce_over {s t : Shape} {axes : List (Fin s.rank)} {n : ℕ} (h : s.ReducesTo axes t) (x : s.Idx → EReal) (init : EReal) (j : t.Idx)
    (e : Fin n → s.Idx) (he : Function.Injective e) (hi : ∀ k, h.drop (e k) = j) (hu : ∀ i', h.drop i' = j → ∃ k, e k = i') :
    Ideal.hostReduceAdd h x init j = init + ∑ k, x (e k) := by
  unfold Ideal.hostReduceAdd
  rw [show (Finset.univ.filter fun i => h.drop i = j) = Finset.univ.map ⟨e, he⟩ from by
    ext i'
    simp only [Finset.mem_filter, Finset.mem_univ, true_and, Finset.mem_map, Function.Embedding.coeFn_mk]
    exact ⟨hu i', fun ⟨k, hk⟩ => hk ▸ hi k⟩, Finset.sum_map]
  rfl

end Cert.NormGrad
end
-- ==== Proof.DownArrays.lean ====
module

public import proofs.«01_k».proof.Proof.Gen.DownIdeal.Value
public import Idealize.ShloMosaic.Lib.Pipeline.ValueKit
public import Idealize.ShloMosaic.Lib.Pipeline.ReadBack
public import proofs.«01_k».proof.Proof.Pieces
public import proofs.«01_k».proof.Proof.NormGrad

@[expose] public section

set_option maxRecDepth 16384

noncomputable section

namespace Cert.DownIdeal.Sound

open Cert.NormGrad Cert.DownIdeal Cert.DownIdeal.Gen Cert.DownIdeal.Value Idealize.ShloMosaic Idealize.ShloMosaic.TcCoe Idealize.SL.Sem

variable (m : (ℓ : Loc nD τ sig) → Buf (Elt Ideal) ℓ)

/-- One place of a tile's product: row `r` of the one block times column `j` of the other. -/
def part (a : S512x2048.Idx → EReal) (b : S2048x2048.Idx → EReal) (r : Fin 512) (j : Fin 2048) : EReal :=
  ∑ k : Fin 2048, a (ix2 r k) * b (ix2 k j)

/-- The same at an index. -/
def partAt (a : S512x2048.Idx → EReal) (b : S2048x2048.Idx → EReal) (y : S512x2048.Idx) : EReal := part a b (y 0) (y 1)

/-- At the first point of a tile the running sum is that point's product. -/
theorem acc_A (c : Dev nD) (t : Fin cfg0.N) (h0 : t.val % 4 = 0) (h1 : t.val % 4 ≤ 2) (h2 : ¬t.val % 4 = 3)
    (y : S512x2048.Idx) : (outsAt0 m c t.val t.isLt).2.2.2 y = part (iblk m c 0 t) (iblk m c 1 t) (y 0) (y 1) := by
  rw [outsAt0_A m c t h0 h1 h2]
  frame_open
  simp (disch := decide) only [↓ View.readCov_skip, ↓ View.readCov_cons_toLoadRect, ↓ View.readCov_fill]
  frame_out
  change _ = partAt (iblk m c 0 t) (iblk m c 1 t) y
  rw [← List.singleton_append (l := [_]), ← List.cons_append, ← List.cons_append, ← List.cons_append]
  refine View.canon_append_of_piecesOf (Val := Elt Ideal) (e := .f32) (partAt (iblk m c 0 t) (iblk m c 1 t)) _ _ ?_ y ?_
  on_goal 2 => exact View.cover_of_tiledL _ ![512, 512] rfl y
  refine ⟨fun x => ?_, fun x => ?_, fun x => ?_, fun x => ?_, trivial⟩
  all_goals unfold_payloads
  all_goals pointwise [partAt, part]
  all_goals blk_point [iblk]

/-- At the second and third point of a tile the running sum grows by that point's product. -/
theorem acc_B (c : Dev nD) (t : Fin cfg0.N) (h0 : ¬t.val % 4 = 0) (h1 : t.val % 4 ≤ 2) (h2 : ¬t.val % 4 = 3)
    (y : S512x2048.Idx) : (outsAt0 m c t.val t.isLt).2.2.2 y
      = (outsAt0 m c (t.val - 1) (by omega)).2.2.2 y + part (iblk m c 0 t) (iblk m c 1 t) (y 0) (y 1) := by
  rw [outsAt0_B m c t h0 h1 h2]
  frame_out
  simp only [read_unread_whole]
  generalize (outsAt0 m c (t.val - 1) _).2.2.2 = P
  canon_tiles x h
  all_goals unfold_payloads
  all_goals pointwise [part]
  all_goals blk_point [iblk]

/-- The running sum after the last point, from the sum before it. -/
def grown (P : S512x2048.Idx → EReal) (a : S512x2048.Idx → EReal) (b : S2048x2048.Idx → EReal) (y : S512x2048.Idx) : EReal :=
  P y + part a b (y 0) (y 1)

/-- One place of the error: the normed row times the gain, less the target. -/
def errAt (x g s : Fin 2048 → EReal) (j : Fin 2048) : EReal := x j * rms x * g j - s j

/-- One place of the cotangent of the normed row times the gain: the error over the row's length. -/
def dyAt (x g s : Fin 2048 → EReal) (j : Fin 2048) : EReal := errAt x g s j * Ideal.ofBits .f32 0x3A000000#32

/-- One place of the row's gradient. -/
def lossRow (x g s : Fin 2048 → EReal) (j : Fin 2048) : EReal :=
  rms x * (dyAt x g s j * g j - x j * rms x * Ideal.div (∑ k : Fin 2048, dyAt x g s k * g k * (x k * rms x)) (Ideal.ofBits .f32 0x45000000#32))

/-- The rows the norm reads: what came in plus the product. -/
def rowOf (d x : S512x2048.Idx → EReal) (r : Fin 512) (k : Fin 2048) : EReal := x (ix2 r k) + d (ix2 r k)

/-- One place of what a tile adds to the gradient of the gain. -/
def dgAt (d x s : S512x2048.Idx → EReal) (g : S1x2048.Idx → EReal) (j : Fin 2048) : EReal :=
  ∑ r : Fin 512, dyAt (rowOf d x r) (fun k => g (ix2 0 k)) (fun k => s (ix2 r k)) j * (rowOf d x r j * rms (rowOf d x r))

/-- One place of what a tile adds to the squared error. -/
def sqAt (d x s : S512x2048.Idx → EReal) (g : S1x2048.Idx → EReal) (j : Fin 2048) : EReal :=
  ∑ r : Fin 512, errAt (rowOf d x r) (fun k => g (ix2 0 k)) (fun k => s (ix2 r k)) j * errAt (rowOf d x r) (fun k => g (ix2 0 k)) (fun k => s (ix2 r k)) j

/-- The eight stores of the last point are parts of the grown running sum. -/
theorem grown_pieces (P a : S512x2048.Idx → EReal) (b : S2048x2048.Idx → EReal) : View.PiecesOf (Val := Elt Ideal) (e := .f32) (grown P a b)
    [⟨Rect.unit ![256, 1536] ![256, 512] inb_S512x2048_S256x512_256_1536, k0_pay39 (F := Ideal) (k0_pay38 (F := Ideal) (View.ld (Val := Elt Ideal) (e' := .bf16) a (Rect.unit ![256, 0] ![256, 2048] inb_S512x2048_S256x2048_256_0)) (View.ld (Val := Elt Ideal) (e' := .f32) P (Rect.unit ![256, 1536] ![256, 512] inb_S512x2048_S256x512_256_1536)) (View.ld (Val := Elt Ideal) (e' := .bf16) b (Rect.unit ![0, 1536] ![2048, 512] inb_S2048x2048_S2048x512_0_1536)))⟩,
      ⟨Rect.unit ![256, 1024] ![256, 512] inb_S512x2048_S256x512_256_1024, k0_pay37 (F := Ideal) (View.ld (Val := Elt Ideal) (e' := .bf16) a (Rect.unit ![256, 0] ![256, 2048] inb_S512x2048_S256x2048_256_0)) (View.ld (Val := Elt Ideal) (e' := .f32) P (Rect.unit ![256, 1024] ![256, 512] inb_S512x2048_S256x512_256_1024)) (View.ld (Val := Elt Ideal) (e' := .bf16) b (Rect.unit ![0, 1024] ![2048, 512] inb_S2048x2048_S2048x512_0_1024))⟩,
      ⟨Rect.unit ![256, 512] ![256, 512] inb_S512x2048_S256x512_256_512, k0_pay36 (F := Ideal) (View.ld (Val := Elt Ideal) (e' := .bf16) a (Rect.unit ![256, 0] ![256, 2048] inb_S512x2048_S256x2048_256_0)) (View.ld (Val := Elt Ideal) (e' := .f32) P (Rect.unit ![256, 512] ![256, 512] inb_S512x2048_S256x512_256_512)) (View.ld (Val := Elt Ideal) (e' := .bf16) b (Rect.unit ![0, 512] ![2048, 512] inb_S2048x2048_S2048x512_0_512))⟩,
      ⟨Rect.unit ![256, 0] ![256, 512] inb_S512x2048_S256x512_256_0, k0_pay35 (F := Ideal) (View.ld (Val := Elt Ideal) (e' := .bf16) a (Rect.unit ![256, 0] ![256, 2048] inb_S512x2048_S256x2048_256_0)) (View.ld (Val := Elt Ideal) (e' := .f32) P (Rect.unit ![256, 0] ![256, 512] inb_S512x2048_S256x512_256_0)) (View.ld (Val := Elt Ideal) (e' := .bf16) b (Rect.unit ![0, 0] ![2048, 512] inb_S2048x2048_S2048x512_0_0))⟩,
      ⟨Rect.unit ![0, 1536] ![256, 512] inb_S512x2048_S256x512_0_1536, k0_pay16 (F := Ideal) (View.ld (Val := Elt Ideal) (e' := .bf16) a (Rect.unit ![0, 0] ![256, 2048] inb_S512x2048_S256x2048_0_0)) (View.ld (Val := Elt Ideal) (e' := .f32) P (Rect.unit ![0, 1536] ![256, 512] inb_S512x2048_S256x512_0_1536)) (View.ld (Val := Elt Ideal) (e' := .bf16) b (Rect.unit ![0, 1536] ![2048, 512] inb_S2048x2048_S2048x512_0_1536))⟩,
      ⟨Rect.unit ![0, 1024] ![256, 512] inb_S512x2048_S256x512_0_1024, k0_pay15 (F := Ideal) (View.ld (Val := Elt Ideal) (e' := .bf16) a (Rect.unit ![0, 0] ![256, 2048] inb_S512x2048_S256x2048_0_0)) (View.ld (Val := Elt Ideal) (e' := .f32) P (Rect.unit ![0, 1024] ![256, 512] inb_S512x2048_S256x512_0_1024)) (View.ld (Val := Elt Ideal) (e' := .bf16) b (Rect.unit ![0, 1024] ![2048, 512] inb_S2048x2048_S2048x512_0_1024))⟩,
      ⟨Rect.unit ![0, 512] ![256, 512] inb_S512x2048_S256x512_0_512, k0_pay14 (F := Ideal) (View.ld (Val := Elt Ideal) (e' := .bf16) a (Rect.unit ![0, 0] ![256, 2048] inb_S512x2048_S256x2048_0_0)) (View.ld (Val := Elt Ideal) (e' := .f32) P (Rect.unit ![0, 512] ![256, 512] inb_S512x2048_S256x512_0_512)) (View.ld (Val := Elt Ideal) (e' := .bf16) b (Rect.unit ![0, 512] ![2048, 512] inb_S2048x2048_S2048x512_0_512))⟩,
      ⟨Rect.unit ![0, 0] ![256, 512] inb_S512x2048_S256x512_0_0, k0_pay13 (F := Ideal) (View.ld (Val := Elt Ideal) (e' := .bf16) a (Rect.unit ![0, 0] ![256, 2048] inb_S512x2048_S256x2048_0_0)) (View.ld (Val := Elt Ideal) (e' := .f32) P (Rect.unit ![0, 0] ![256, 512] inb_S512x2048_S256x512_0_0)) (View.ld (Val := Elt Ideal) (e' := .bf16) b (Rect.unit ![0, 0] ![2048, 512] inb_S2048x2048_S2048x512_0_0))⟩] := by
  refine ⟨fun x => ?_, fun x => ?_, fun x => ?_, fun x => ?_, fun x => ?_, fun x => ?_, fun x => ?_, fun x => ?_, trivial⟩ <;> unfold_payloads <;>
    pointwise [grown, part] <;> blk_point

/-- What the four stores of half of the rows leave for a load of 128 of them. -/
theorem readCov_grown (P a : S512x2048.Idx → EReal) (b : S2048x2048.Idx → EReal) (v : View sig Kind.tc Space.vmem S512x2048 EltTy.f32) (L)
    (r : Rect S512x2048) (h : View.PiecesOf (Val := Elt Ideal) (grown P a b) L) (hc : LoadRect.covChk (L.map Sigma.fst) r.toLoadRect
      (.split 1 1024 (.split 1 512 (.leaf 3) (.leaf 2)) (.split 1 512 (.leaf 1) (.leaf 0))) = true) :
    v.readCov L r.toLoadRect = View.ld (grown P a b) r :=
  Pieces.readCov_of_pieces (Val := Elt Ideal) (grown P a b) _ v L r h hc

/-- At the last point of a tile the rows' gradient is stored. -/
theorem dx_block (c : Dev nD) (t : Fin cfg0.N) (h2 : t.val % 4 = 3) (y : S512x2048.Idx) : (outsAt0 m c t.val t.isLt).1 y
      = lossRow (rowOf (grown (outsAt0 m c (t.val - 1) (by omega)).2.2.2 (iblk m c 0 t) (iblk m c 1 t)) (iblk m c 2 t) (y 0)) (fun k => iblk m c 4 t (ix2 0 k)) (fun k => iblk m c 3 t (ix2 (y 0) k)) (y 1) := by
  by_cases h3 : t.val < 4
  on_goal 1 => rw [outsAt0_C m c t (by omega) (by omega) h2 h3]
  on_goal 2 => rw [outsAt0_D m c t (by omega) (by omega) h2 h3]
  all_goals
    frame_open
    simp (disch := decide) only [↓ View.readCov_skip, ↓ View.readCov_cons_toLoadRect, ↓ View.readCov_fill]
    frame_out
    simp only [read_unread_whole]
    generalize (outsAt0 m c (t.val - 1) _).2.2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    canon_tiles x h
    all_goals unfold_payloads
    all_goals pointwise [lossRow, dyAt, errAt, rowOf, rms]
    all_goals blk_point [iblk]

/-- At the last point of a tile the gain's gradient grows by that tile's part, from nothing at the first tile. -/
theorem dg_step (c : Dev nD) (t : Fin cfg0.N) (h2 : t.val % 4 = 3) (y : S1x2048.Idx) : (outsAt0 m c t.val t.isLt).2.1 y
      = (if t.val < 4 then 0 else (outsAt0 m c (t.val - 1) (by omega)).2.1 y)
        + dgAt (grown (outsAt0 m c (t.val - 1) (by omega)).2.2.2 (iblk m c 0 t) (iblk m c 1 t)) (iblk m c 2 t) (iblk m c 3 t) (iblk m c 4 t) (y 1) := by
  by_cases h3 : t.val < 4
  on_goal 1 => rw [outsAt0_C m c t (by omega) (by omega) h2 h3, if_pos h3]
  on_goal 2 => rw [outsAt0_D m c t (by omega) (by omega) h2 h3, if_neg h3]
  all_goals
    frame_open
    simp (disch := decide) only [↓ View.readCov_skip, ↓ View.readCov_cons_toLoadRect, ↓ View.readCov_fill]
    frame_out
    simp only [read_unread_whole]
    generalize (outsAt0 m c (t.val - 1) _).2.2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    unfold_payloads
    pointwise [dgAt, dyAt, errAt, rowOf, rms]
    rw [sum_rows]
    try simp only [add_assoc]

/-- At the last point of a tile the squared error grows by that tile's part, from nothing at the first tile. -/
theorem sq_step (c : Dev nD) (t : Fin cfg0.N) (h2 : t.val % 4 = 3) (y : S1x2048.Idx) : (outsAt0 m c t.val t.isLt).2.2.1 y
      = (if t.val < 4 then 0 else (outsAt0 m c (t.val - 1) (by omega)).2.2.1 y)
        + sqAt (grown (outsAt0 m c (t.val - 1) (by omega)).2.2.2 (iblk m c 0 t) (iblk m c 1 t)) (iblk m c 2 t) (iblk m c 3 t) (iblk m c 4 t) (y 1) := by
  by_cases h3 : t.val < 4
  on_goal 1 => rw [outsAt0_C m c t (by omega) (by omega) h2 h3, if_pos h3]
  on_goal 2 => rw [outsAt0_D m c t (by omega) (by omega) h2 h3, if_neg h3]
  all_goals
    frame_open
    simp (disch := decide) only [↓ View.readCov_skip, ↓ View.readCov_cons_toLoadRect, ↓ View.readCov_fill]
    frame_out
    simp only [read_unread_whole]
    generalize (outsAt0 m c (t.val - 1) _).2.2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    unfold_payloads
    pointwise [sqAt, dyAt, errAt, rowOf, rms]
    rw [sum_rows]
    try simp only [add_assoc]

end Cert.DownIdeal.Sound
end
-- ==== Proof.DownSums.lean ====
module

public import proofs.«01_k».proof.Proof.DownArrays

@[expose] public section

set_option maxRecDepth 16384

noncomputable section

namespace Cert.DownIdeal.Sound

open Cert.NormGrad Cert.DownIdeal Cert.DownIdeal.Gen Cert.DownIdeal.Value Idealize.ShloMosaic Idealize.ShloMosaic.TcCoe Idealize.SL.Sem

variable (m : (ℓ : Loc nD τ sig) → Buf (Elt Ideal) ℓ)

/-- At the first three points of a tile both sums over the rows are carried. -/
theorem carry (c : Dev nD) (t : Fin cfg0.N) (ht : 0 < t.val) (h2 : ¬t.val % 4 = 3) (y : S1x2048.Idx) :
    (outsAt0 m c t.val t.isLt).2.1 y = (outsAt0 m c (t.val - 1) (by omega)).2.1 y
    ∧ (outsAt0 m c t.val t.isLt).2.2.1 y = (outsAt0 m c (t.val - 1) (by omega)).2.2.1 y := by
  by_cases h0 : t.val % 4 = 0
  on_goal 1 => rw [outsAt0_A m c t h0 (by omega) h2]
  on_goal 2 => rw [outsAt0_B m c t h0 (by omega) h2]
  all_goals exact ⟨rfl, rfl⟩

/-- The grid has 32 points. -/
theorem lt_32 (t : Fin cfg0.N) : t.val < 32 := lt_of_lt_of_eq t.isLt N_0

/-- Where the windows stand at a grid point. -/
theorem idx : ∀ t : Fin cfg0.N, win0_0.index t = ![t.val / 4, t.val % 4] ∧ win0_1.index t = ![t.val % 4, 0]
    ∧ win0_2.index t = ![t.val / 4, 0] ∧ win0_3.index t = ![t.val / 4, 0] ∧ win0_4.index t = ![0, 0] ∧ win0_5.index t = ![t.val / 4, 0] :=
  (by decide +kernel : ∀ t : Fin grid0.N, _)

/-- The activation's row times a column of the down projection, the 8192 terms in four groups. -/
def yAt (a : S4096x8192.Idx → EReal) (w : S8192x2048.Idx → EReal) (r : Fin 4096) (j : Fin 2048) (q : Fin 4) : EReal :=
  ∑ k : Fin 2048, a (ix2 r ⟨q.val * 2048 + k.val, by omega⟩) * w (ix2 ⟨q.val * 2048 + k.val, by omega⟩ j)

/-- The rows before the last norm. -/
def lastRow (a : S4096x8192.Idx → EReal) (w : S8192x2048.Idx → EReal) (x : S4096x2048.Idx → EReal) (r : Fin 4096) (j : Fin 2048) : EReal :=
  x (ix2 r j) + ∑ q : Fin 4, yAt a w r j q

/-- Three equal rows give equal values. -/
theorem congr_three {A B C D : Type} (f : A → B → C → D) {a a' : A} {b b' : B} {c c' : C} (ha : a = a') (hb : b = b') (hc : c = c') :
    f a b c = f a' b' c' := by
  subst ha hb hc
  rfl

/-- One point's part of the product. -/
theorem part_eq (c : Dev nD) (t : Fin cfg0.N) (r : Fin 512) (j : Fin 2048) (R : Fin 4096) (q : Fin 4) (hR : R.val = t.val / 4 * 512 + r.val)
    (hq : q.val = t.val % 4) : part (iblk m c 0 t) (iblk m c 1 t) r j = yAt (V m c main_arg0) (V m c main_v1) R j q := by
  obtain ⟨e0, e1, -⟩ := idx t
  pointwise [part, yAt]
  blk_point [iblk, e0, e1]

/-- After the last point of a tile the running sum holds the four groups' sum. -/
theorem grown_eq (c : Dev nD) (t : Fin cfg0.N) (h2 : t.val % 4 = 3) (r : Fin 512) (j : Fin 2048) (R : Fin 4096) (hR : R.val = t.val / 4 * 512 + r.val) :
    grown (outsAt0 m c (t.val - 1) (by omega)).2.2.2 (iblk m c 0 t) (iblk m c 1 t) (ix2 r j) = ∑ q, yAt (V m c main_arg0) (V m c main_v1) R j q := by
  have hN := lt_32 t
  have at0 : (outsAt0 m c (t.val - 3) (by omega)).2.2.2 (ix2 r j)
      = yAt (V m c main_arg0) (V m c main_v1) R j 0 := (acc_A m c ⟨t.val - 3, by omega⟩ (by simp; omega) (by simp; omega) (by simp; omega) (ix2 r j)).trans
    (part_eq m c _ _ _ R 0 (by simp; omega) (by simp; omega))
  have at1 : (outsAt0 m c (t.val - 2) (by omega)).2.2.2 (ix2 r j)
      = (outsAt0 m c (t.val - 2 - 1) (by omega)).2.2.2 (ix2 r j) + yAt (V m c main_arg0) (V m c main_v1) R j 1 := (acc_B m c ⟨t.val - 2, by omega⟩ (by simp; omega) (by simp; omega) (by simp; omega) (ix2 r j)).trans
    (congrArg (_ + ·) (part_eq m c _ _ _ R 1 (by simp; omega) (by simp; omega)))
  have at2 : (outsAt0 m c (t.val - 1) (by omega)).2.2.2 (ix2 r j)
      = (outsAt0 m c (t.val - 1 - 1) (by omega)).2.2.2 (ix2 r j) + yAt (V m c main_arg0) (V m c main_v1) R j 2 := (acc_B m c ⟨t.val - 1, by omega⟩ (by simp; omega) (by simp; omega) (by simp; omega) (ix2 r j)).trans
    (congrArg (_ + ·) (part_eq m c _ _ _ R 2 (by simp; omega) (by simp; omega)))
  refine (congrArg (_ + ·) (part_eq m c t _ _ R 3 (by simp; omega) (by simp; omega))).trans ?_
  rw [Fin.sum_univ_four, ← at0]
  simp only [Nat.sub_sub, Nat.reduceAdd] at at1 at2
  exact congrArg (· + _) (at2.trans (congrArg (· + _) at1))

/-- At the last point of a tile the rows that the norm reads are the arrays' rows. -/
theorem row_eq (c : Dev nD) (t : Fin cfg0.N) (h2 : t.val % 4 = 3) (r : Fin 512) (R : Fin 4096) (hR : R.val = t.val / 4 * 512 + r.val) :
    rowOf (grown (outsAt0 m c (t.val - 1) (by omega)).2.2.2 (iblk m c 0 t) (iblk m c 1 t)) (iblk m c 2 t) r
      = lastRow (V m c main_arg0) (V m c main_v1) (V m c main_v2) R := by
  funext k
  obtain ⟨-, -, e2, -⟩ := idx t
  unfold rowOf lastRow
  rw [grown_eq m c t h2 r k R hR]
  refine congrArg (· + _) ?_
  pointwise
  blk_point [iblk, e2, hR]

/-- At the last point of a tile the gain and the targets are the arrays'. -/
theorem gain_eq (c : Dev nD) (t : Fin cfg0.N) : (fun k => iblk m c 4 t (ix2 0 k)) = fun k => V m c main_v4 (ix2 0 k) := by
  funext k
  obtain ⟨-, -, -, -, e4, -⟩ := idx t
  pointwise
  blk_point [iblk, e4]

/-- At the last point of a tile the targets are the arrays'. -/
theorem target_eq (c : Dev nD) (t : Fin cfg0.N) (r : Fin 512) (R : Fin 4096) (hR : R.val = t.val / 4 * 512 + r.val) :
    (fun k => iblk m c 3 t (ix2 r k)) = fun k => V m c main_v3 (ix2 R k) := by
  funext k
  obtain ⟨-, -, -, e3, -⟩ := idx t
  pointwise
  blk_point [iblk, e3, hR]

/-- A row's gradient, the gain's gradient and the squared error in terms of the arrays. -/
def dxOf (a : S4096x8192.Idx → EReal) (w : S8192x2048.Idx → EReal) (x s : S4096x2048.Idx → EReal) (g : S1x2048.Idx → EReal)
    (i : S4096x2048.Idx) : EReal :=
  lossRow (lastRow a w x (i 0)) (fun k => g (ix2 0 k)) (fun k => s (ix2 (i 0) k)) (i 1)

/-- One row's term of the gain's gradient. -/
def dgTerm (a : S4096x8192.Idx → EReal) (w : S8192x2048.Idx → EReal) (x s : S4096x2048.Idx → EReal) (g : S1x2048.Idx → EReal)
    (j : Fin 2048) (r : Fin 4096) : EReal :=
  dyAt (lastRow a w x r) (fun k => g (ix2 0 k)) (fun k => s (ix2 r k)) j * (lastRow a w x r j * rms (lastRow a w x r))

/-- One row's term of the squared error. -/
def sqTerm (a : S4096x8192.Idx → EReal) (w : S8192x2048.Idx → EReal) (x s : S4096x2048.Idx → EReal) (g : S1x2048.Idx → EReal)
    (j : Fin 2048) (r : Fin 4096) : EReal :=
  errAt (lastRow a w x r) (fun k => g (ix2 0 k)) (fun k => s (ix2 r k)) j * errAt (lastRow a w x r) (fun k => g (ix2 0 k)) (fun k => s (ix2 r k)) j

/-- The call leaves the gradient of the rows in its first result. -/
theorem dx_array (c : Dev nD) : (dats m 0 c).arrAt 5 cfg0.N
    = dxOf (V m c main_arg0) (V m c main_v1) (V m c main_v2) (V m c main_v3) (V m c main_v4) := by
  refine (dats m 0 c).arrAt_eq_of_covers 5 _ (by decide +kernel) fun t hf y => ?_
  have h2 : t.val % 4 = 3 := by
    revert hf; exact (by decide +kernel : ∀ t : Fin grid0.N, (cfg0.win 5).flush t = true → t.val % 4 = 3) t
  have hN := lt_32 t
  obtain ⟨-, -, -, -, -, e5⟩ := idx t
  blk_simp
  rw [after0_5]
  refine (dx_block m c t h2 y).trans ?_
  refine Eq.trans (congr_three (fun x g s => lossRow x g s (y 1))
    (row_eq m c t h2 (y 0) ⟨t.val / 4 * 512 + (y 0).val, by have := (y 0).isLt; simp at this; omega⟩ rfl) (gain_eq m c t)
    (target_eq m c t (y 0) ⟨t.val / 4 * 512 + (y 0).val, by have := (y 0).isLt; simp at this; omega⟩ rfl)) ?_
  have hi : (win0_5.blk t).view.emb y = ix2 (⟨t.val / 4 * 512 + (y 0).val, by have := (y 0).isLt; simp at this; omega⟩ : Fin 4096) (y 1) := by
    blk_point [e5]
  exact (congrArg (dxOf (V m c main_arg0) (V m c main_v1) (V m c main_v2) (V m c main_v3) (V m c main_v4)) hi).symm

/-- The last point of the grid. -/
def tLast : Fin cfg0.N := ⟨31, lt_of_lt_of_eq (by omega) N_0.symm⟩

/-- The terms of one tile's rows, summed. -/
def tileSum (f : Fin 4096 → EReal) (q : Fin 8) : EReal := ∑ r : Fin 512, f ⟨q.val * 512 + r.val, by omega⟩

/-- What the last point of a tile adds to the gain's gradient and to the squared error, in terms of the arrays. -/
theorem tile_eq (c : Dev nD) (t : Fin cfg0.N) (h2 : t.val % 4 = 3) (j : Fin 2048) (q : Fin 8) (hq : q.val = t.val / 4) :
    dgAt (grown (outsAt0 m c (t.val - 1) (by omega)).2.2.2 (iblk m c 0 t) (iblk m c 1 t)) (iblk m c 2 t) (iblk m c 3 t) (iblk m c 4 t) j
      = tileSum (dgTerm (V m c main_arg0) (V m c main_v1) (V m c main_v2) (V m c main_v3) (V m c main_v4) j) q
    ∧ sqAt (grown (outsAt0 m c (t.val - 1) (by omega)).2.2.2 (iblk m c 0 t) (iblk m c 1 t)) (iblk m c 2 t) (iblk m c 3 t) (iblk m c 4 t) j
      = tileSum (sqTerm (V m c main_arg0) (V m c main_v1) (V m c main_v2) (V m c main_v3) (V m c main_v4) j) q := by
  have hN := lt_32 t
  unfold dgAt sqAt tileSum
  constructor
  · refine Finset.sum_congr rfl fun r _ => ?_
    exact congr_three (fun x g s => dyAt x g s j * (x j * rms x)) (row_eq m c t h2 r ⟨q.val * 512 + r.val, by omega⟩ (by simp [hq]))
      (gain_eq m c t) (target_eq m c t r ⟨q.val * 512 + r.val, by omega⟩ (by simp [hq]))
  · refine Finset.sum_congr rfl fun r _ => ?_
    exact congr_three (fun x g s => errAt x g s j * errAt x g s j) (row_eq m c t h2 r ⟨q.val * 512 + r.val, by omega⟩ (by simp [hq]))
      (gain_eq m c t) (target_eq m c t r ⟨q.val * 512 + r.val, by omega⟩ (by simp [hq]))

set_option maxHeartbeats 2000000 in
/-- After the last point both sums hold what the eight tiles add. -/
theorem last (c : Dev nD) (y : S1x2048.Idx) :
    (outsAt0 m c (4 * 7 + 3) (lt_of_lt_of_eq (by omega) N_0.symm)).2.1 y
      = ∑ q, tileSum (dgTerm (V m c main_arg0) (V m c main_v1) (V m c main_v2) (V m c main_v3) (V m c main_v4) (y 1)) q
    ∧ (outsAt0 m c (4 * 7 + 3) (lt_of_lt_of_eq (by omega) N_0.symm)).2.2.1 y
      = ∑ q, tileSum (sqTerm (V m c main_arg0) (V m c main_v1) (V m c main_v2) (V m c main_v3) (V m c main_v4) (y 1)) q := by
  have back : ∀ n (h : n + 1 < 8), (outsAt0 m c (4 * n + 6) (lt_of_lt_of_eq (by omega) N_0.symm)).2.1 y
        = (outsAt0 m c (4 * n + 3) (lt_of_lt_of_eq (by omega) N_0.symm)).2.1 y
      ∧ (outsAt0 m c (4 * n + 6) (lt_of_lt_of_eq (by omega) N_0.symm)).2.2.1 y
        = (outsAt0 m c (4 * n + 3) (lt_of_lt_of_eq (by omega) N_0.symm)).2.2.1 y := fun n h => by
    have s6 := carry m c ⟨4 * n + 6, lt_of_lt_of_eq (by omega) N_0.symm⟩ (by dsimp only; omega) (by dsimp only; omega) y
    have s5 := carry m c ⟨4 * n + 5, lt_of_lt_of_eq (by omega) N_0.symm⟩ (by dsimp only; omega) (by dsimp only; omega) y
    have s4 := carry m c ⟨4 * n + 4, lt_of_lt_of_eq (by omega) N_0.symm⟩ (by dsimp only; omega) (by dsimp only; omega) y
    exact ⟨s6.1.trans (s5.1.trans s4.1), s6.2.trans (s5.2.trans s4.2)⟩
  constructor
  · refine eight_steps (fun n h => (outsAt0 m c (4 * n + 3) (lt_of_lt_of_eq (by omega) N_0.symm)).2.1 y)
      (tileSum (dgTerm (V m c main_arg0) (V m c main_v1) (V m c main_v2) (V m c main_v3) (V m c main_v4) (y 1))) ?_ fun n h => ?_
    · refine (dg_step m c ⟨4 * 0 + 3, lt_of_lt_of_eq (by omega) N_0.symm⟩ (by simp) y).trans ?_
      rw [if_pos (by dsimp only; omega)]
      exact congrArg (0 + ·) (tile_eq m c ⟨4 * 0 + 3, lt_of_lt_of_eq (by omega) N_0.symm⟩ (by simp) (y 1) 0 (by simp)).1
    · refine (dg_step m c ⟨4 * (n + 1) + 3, lt_of_lt_of_eq (by omega) N_0.symm⟩ (by dsimp only; omega) y).trans ?_
      rw [if_neg (by dsimp only; omega)]
      exact congrArg₂ (· + ·) (back n h).1
        (tile_eq m c ⟨4 * (n + 1) + 3, lt_of_lt_of_eq (by omega) N_0.symm⟩ (by dsimp only; omega) (y 1) ⟨n + 1, h⟩ (by dsimp only; omega)).1
  · refine eight_steps (fun n h => (outsAt0 m c (4 * n + 3) (lt_of_lt_of_eq (by omega) N_0.symm)).2.2.1 y)
      (tileSum (sqTerm (V m c main_arg0) (V m c main_v1) (V m c main_v2) (V m c main_v3) (V m c main_v4) (y 1))) ?_ fun n h => ?_
    · refine (sq_step m c ⟨4 * 0 + 3, lt_of_lt_of_eq (by omega) N_0.symm⟩ (by simp) y).trans ?_
      rw [if_pos (by dsimp only; omega)]
      exact congrArg (0 + ·) (tile_eq m c ⟨4 * 0 + 3, lt_of_lt_of_eq (by omega) N_0.symm⟩ (by simp) (y 1) 0 (by simp)).2
    · refine (sq_step m c ⟨4 * (n + 1) + 3, lt_of_lt_of_eq (by omega) N_0.symm⟩ (by dsimp only; omega) y).trans ?_
      rw [if_neg (by dsimp only; omega)]
      exact congrArg₂ (· + ·) (back n h).2
        (tile_eq m c ⟨4 * (n + 1) + 3, lt_of_lt_of_eq (by omega) N_0.symm⟩ (by dsimp only; omega) (y 1) ⟨n + 1, h⟩ (by dsimp only; omega)).2

/-- The tiles' sums together are the sum over all rows. -/
theorem tiles_sum (f : Fin 4096 → EReal) : ∑ q, tileSum f q = ∑ r, f r := Fin.sum_mul_add_fin 8 512 f

/-- The call leaves the gradient of the gain in its second result. -/
theorem dg_array (c : Dev nD) : (dats m 0 c).arrAt 6 cfg0.N
    = fun i => ∑ r, dgTerm (V m c main_arg0) (V m c main_v1) (V m c main_v2) (V m c main_v3) (V m c main_v4) (i 1) r := by
  refine (dats m 0 c).arrAt_eq_of_after_last 6 tLast (by decide +kernel) _ fun y => ?_
  blk_simp
  rw [after0_6]
  refine Eq.trans (last m c y).1 ?_
  exact tiles_sum (dgTerm (V m c main_arg0) (V m c main_v1) (V m c main_v2) (V m c main_v3) (V m c main_v4) (y 1))

/-- The call leaves the squared error of each column in its third result. -/
theorem sq_array (c : Dev nD) : (dats m 0 c).arrAt 7 cfg0.N
    = fun i => ∑ r, sqTerm (V m c main_arg0) (V m c main_v1) (V m c main_v2) (V m c main_v3) (V m c main_v4) (i 1) r := by
  refine (dats m 0 c).arrAt_eq_of_after_last 7 tLast (by decide +kernel) _ fun y => ?_
  blk_simp
  rw [after0_7]
  refine Eq.trans (last m c y).2 ?_
  exact tiles_sum (sqTerm (V m c main_arg0) (V m c main_v1) (V m c main_v2) (V m c main_v3) (V m c main_v4) (y 1))

end Cert.DownIdeal.Sound
end
-- ==== Proof.Down.lean ====
module

public import proofs.«01_k».proof.Defs
public import proofs.«01_k».proof.Proof.DownSums
public import proofs.«01_k».proof.Proof.Gen.DownRefIdeal
public import proofs.«01_k».proof.Proof.Gen.DownRefIdeal.Run
public import proofs.«01_k».proof.Proof.Gen.DownRefIdeal.Read
public import Idealize.ShloMosaic.Lib.StableHlo.ReadAt

@[expose] public section

set_option maxRecDepth 16384

noncomputable section

namespace Cert.DownIdeal.Sound

open Cert.NormGrad Cert.DownIdeal Cert.DownIdeal.Gen Cert.DownIdeal.Value Idealize.ShloMosaic Idealize.ShloMosaic.TcCoe Idealize.SL.Sem

variable (m : (ℓ : Loc nD τ sig) → Buf (Elt Ideal) ℓ)

/-! ## What the host prepares -/

/-- The down projection as the kernel takes it. -/
theorem w_read (c : Dev nD) (k : Fin 8192) (j : Fin 2048) : V m c main_v1 (ix2 k j)
    = m ((c : Thread nD τ).loc main_arg1) (ix3 (0 : Fin 1) k j) := by
  unfold V
  after_reads_at

/-- The rows the product is added to. -/
theorem x_read (c : Dev nD) (i : Fin 4096) (j : Fin 2048) : V m c main_v2 (ix2 i j)
    = m ((c : Thread nD τ).loc main_arg2) (ix3 (0 : Fin 1) i j) := by
  unfold V
  after_reads_at

/-- The target rows. -/
theorem s_read (c : Dev nD) (i : Fin 4096) (j : Fin 2048) : V m c main_v3 (ix2 i j)
    = m ((c : Thread nD τ).loc main_arg3) (ix3 (0 : Fin 1) i j) := by
  unfold V
  after_reads_at

/-- The gain. -/
theorem g_read (c : Dev nD) (j : Fin 2048) : V m c main_v4 (ix2 (0 : Fin 1) j)
    = m ((c : Thread nD τ).loc main_arg4) (ix1 j) := by
  unfold V
  after_reads_at

/-! ## The tie to the reference -/

/-- A row before the last norm, as the reference computes it. -/
def refRow (a : S4096x8192.Idx → EReal) (w : S1x8192x2048.Idx → EReal) (x : S1x4096x2048.Idx → EReal) (i : Fin 4096) (j : Fin 2048) : EReal :=
  x (ix3 (0 : Fin 1) i j) + ∑ l : Fin 8192, a (ix2 i l) * w (ix3 (0 : Fin 1) l j)

/-- The kernel's product in four groups is the product over all columns. -/
theorem row_same (c : Dev nD) (a : S4096x8192.Idx → EReal) (i : Fin 4096) : lastRow a (V m c main_v1) (V m c main_v2) i
    = refRow a (m ((c : Thread nD τ).loc main_arg1)) (m ((c : Thread nD τ).loc main_arg2)) i := by
  funext j
  unfold lastRow yAt refRow
  refine congrArg₂ (· + ·) (x_read m c i j) ?_
  refine Eq.trans ?_ (Fin.sum_mul_add_fin 4 2048 fun l : Fin 8192 =>
    a (ix2 i l) * (m ((c : Thread nD τ).loc main_arg1) : S1x8192x2048.Idx → EReal) (ix3 (0 : Fin 1) l j))
  refine Finset.sum_congr rfl fun q _ => Finset.sum_congr rfl fun k _ => ?_
  rw [w_read]

open Cert.DownRefIdeal.Read in
/-- The reference's row at one place. -/
theorem row_tie (a : S4096x8192.Idx → EReal) (w : S1x8192x2048.Idx → EReal) (x : S1x4096x2048.Idx → EReal) (i : Fin 4096) (j : Fin 2048) (y : S1x4096x2048.Idx) (hy : y = ix3 (0 : Fin 1) i j) :
    val_main_v4 (F := Ideal) a w x y = refRow a w x i j := by
  subst hy
  simp only [val_main_v4_apply, val_main_v3_apply, val_main_v2_apply, val_main_v1_apply, val_main_v0_apply]
  pointwise
  unfold refRow
  refine congrArg (_ + ·) (Finset.sum_congr rfl fun k _ => ?_)
  refine Ideal.mul_congr ?_ ?_
  · refine congrArg a ?_; funext a; fin_cases a <;> rfl
  · refine congrArg w ?_; funext a; fin_cases a <;> apply Fin.ext <;> simp <;> omega

open Cert.DownRefIdeal.Read in
/-- The reference's mean square of a row, with the constant added. -/
theorem ms_tie (a : S4096x8192.Idx → EReal) (w : S1x8192x2048.Idx → EReal) (x : S1x4096x2048.Idx → EReal) (i : Fin 4096) (y : Cert.DownRefIdeal.S1x4096x1.Idx) (hy : y = ix3 (0 : Fin 1) i (0 : Fin 1)) :
    val_main_v11 (F := Ideal) a w x y = Ideal.div (∑ k : Fin 2048, refRow a w x i k * refRow a w x i k)
      (Ideal.ofBits .f32 0x45000000#32) + Ideal.ofBits .f32 0x358637BD#32 := by
  subst hy
  have e : ∀ k, idx_main_v6 (idx_main_v7 (ix3 (0 : Fin 1) i (0 : Fin 1))) k = ix3 (0 : Fin 1) i k := fun k => by
    funext a; fin_cases a <;> rfl
  simp only [val_main_v11_apply, val_main_v10_apply, val_main_v9_apply, val_main_v8_apply, val_main_v7_apply,
    val_main_v6_apply, val_main_v5_apply, val_main_cst_apply, val_main_cst_0_apply, val_main_cst_1_apply, e, row_tie a w x i _ _ rfl]
  pointwise

open Cert.DownRefIdeal.Read in
/-- The reference's root factor of a row. -/
theorem rms_tie (a : S4096x8192.Idx → EReal) (w : S1x8192x2048.Idx → EReal) (x : S1x4096x2048.Idx → EReal) (i : Fin 4096) (y : Cert.DownRefIdeal.S1x4096x1.Idx) (hy : y = ix3 (0 : Fin 1) i (0 : Fin 1)) :
    val_main_v12 (F := Ideal) a w x y = rms (refRow a w x i) := by
  rw [val_main_v12_apply, ms_tie a w x i y hy]
  unfold rms
  pointwise

open Cert.DownRefIdeal.Read in
/-- The reference's error at one place. -/
theorem err_tie (a : S4096x8192.Idx → EReal) (w : S1x8192x2048.Idx → EReal) (x : S1x4096x2048.Idx → EReal) (s : S1x4096x2048.Idx → EReal) (g : S2048.Idx → EReal) (i : Fin 4096) (j : Fin 2048) (y : S1x4096x2048.Idx) (hy : y = ix3 (0 : Fin 1) i j) :
    val_main_v21 (F := Ideal) a w x s g y = errAt (refRow a w x i) (fun k => g (ix1 k)) (fun k => s (ix3 (0 : Fin 1) i k)) j := by
  subst hy
  rw [val_main_v21_apply, val_main_v20_apply, val_main_v19_apply, val_main_v18_apply, val_main_v17_apply, val_main_v16_apply,
    row_tie a w x i j _ rfl, rms_tie a w x i _ (by funext a; fin_cases a <;> rfl)]
  pointwise
  unfold errAt
  refine congrArg (fun z => _ * z - _) (congrArg g ?_)
  funext a; fin_cases a <;> rfl

/-- The reference's factors of the loss are the kernel's one factor. -/
theorem loss_factor (e : EReal) : Ideal.div (Ideal.ofBits .f32 0x3F000000#32) (Ideal.ofBits .f32 0x45000000#32)
    * (Ideal.ofBits .f32 0x40000000#32 * e) = e * Ideal.ofBits .f32 0x3A000000#32 := by
  have h2 : Ideal.ofBits .f32 0x3F000000#32 = ((1 / 2 : ℝ) : EReal) := by
    simp [Ideal.ofBits, Ideal.ieee]; rw [← EReal.coe_mul]; norm_num
  have h3 : Ideal.ofBits .f32 0x40000000#32 = ((2 : ℝ) : EReal) := by
    simp [Ideal.ofBits, Ideal.ieee]; rw [← EReal.coe_mul]; norm_num
  have h4 : Ideal.ofBits .f32 0x3A000000#32 = ((1 / 2048 : ℝ) : EReal) := by
    simp [Ideal.ofBits, Ideal.ieee]; rw [← EReal.coe_mul]; norm_num
  rw [h2, h3, h4, lit_2048, Ideal.div_coe (by norm_num), ← mul_assoc, ← EReal.coe_mul, ← EReal.coe_mul, mul_comm]
  norm_num

open Cert.DownRefIdeal.Read in
/-- The reference's cotangent of the normed row at one place. -/
theorem dy_tie (a : S4096x8192.Idx → EReal) (w : S1x8192x2048.Idx → EReal) (x : S1x4096x2048.Idx → EReal) (s : S1x4096x2048.Idx → EReal) (g : S2048.Idx → EReal) (i : Fin 4096) (j : Fin 2048) (y : S1x4096x2048.Idx) (hy : y = ix3 (0 : Fin 1) i j) :
    val_main_v37 (F := Ideal) a w x s g y = dyAt (refRow a w x i) (fun k => g (ix1 k)) (fun k => s (ix3 (0 : Fin 1) i k)) j := by
  rw [val_main_v37_apply, val_main_v36_apply, val_main_v35_apply, val_main_v34_apply, val_main_v33_apply, val_main_v32_apply,
    val_main_v24_apply, val_main_v23_apply, val_main_cst_3_apply, val_main_cst_9_apply, val_main_cst_10_apply, val_main_cst_11_apply,
    err_tie a w x s g i j y hy]
  pointwise
  unfold dyAt
  exact loss_factor _

open Cert.DownRefIdeal.Read in
/-- The gain as the reference spreads it. -/
theorem gain_tie (g : S2048.Idx → EReal) (i : Fin 4096) (j : Fin 2048) (y : S1x4096x2048.Idx) (hy : y = ix3 (0 : Fin 1) i j) :
    val_main_v41 (F := Ideal) g y = g (ix1 j) := by
  subst hy
  rw [val_main_v41_apply, val_main_v18_apply]
  refine congrArg g ?_
  funext a; fin_cases a <;> rfl

open Cert.DownRefIdeal.Read in
/-- The reference's sum along a row of the scaled cotangent times the row. -/
theorem dot_tie (a : S4096x8192.Idx → EReal) (w : S1x8192x2048.Idx → EReal) (x : S1x4096x2048.Idx → EReal) (s : S1x4096x2048.Idx → EReal) (g : S2048.Idx → EReal) (i : Fin 4096) (y : Cert.DownRefIdeal.S1x4096x1.Idx) (hy : y = ix3 (0 : Fin 1) i (0 : Fin 1)) :
    val_main_v46 (F := Ideal) a w x s g y = ∑ k : Fin 2048, refRow a w x i k
      * (dyAt (refRow a w x i) (fun k => g (ix1 k)) (fun k => s (ix3 (0 : Fin 1) i k)) k * g (ix1 k)) := by
  subst hy
  have e : ∀ k, idx_main_v45 (idx_main_v46 (ix3 (0 : Fin 1) i (0 : Fin 1))) k = ix3 (0 : Fin 1) i k := fun k => by
    funext a; fin_cases a <;> apply Fin.ext <;> simp <;> omega
  simp only [val_main_v46_apply, val_main_v45_apply, val_main_v44_apply, val_main_cst_14_apply, val_main_v42_apply, e,
    row_tie a w x i _ _ rfl, dy_tie a w x s g i _ _ rfl, gain_tie g i _ _ rfl]
  pointwise

open Cert.DownRefIdeal.Read in
/-- The reference's factor that carries the gradient through the mean square. -/
theorem coef_tie (a : S4096x8192.Idx → EReal) (w : S1x8192x2048.Idx → EReal) (x : S1x4096x2048.Idx → EReal) (s : S1x4096x2048.Idx → EReal) (g : S2048.Idx → EReal) (i : Fin 4096) (j : Fin 2048) (y : S1x4096x2048.Idx) (hy : y = ix3 (0 : Fin 1) i j) :
    val_main_v54 (F := Ideal) a w x s g y = Ideal.div ((∑ k : Fin 2048, refRow a w x i k
        * (dyAt (refRow a w x i) (fun k => g (ix1 k)) (fun k => s (ix3 (0 : Fin 1) i k)) k * g (ix1 k)))
      * (Ideal.ofBits .f32 0xBF000000#32 * Ideal.div (val_main_v12 (F := Ideal) a w x (ix3 (0 : Fin 1) i (0 : Fin 1)))
        (val_main_v11 (F := Ideal) a w x (ix3 (0 : Fin 1) i (0 : Fin 1))))) (Ideal.ofBits .f32 0x45000000#32) := by
  subst hy
  rw [val_main_v54_apply, val_main_v53_apply]
  unfold val_main_v52
  refine (reduce_unit _ _ _ _ (ix3 (0 : Fin 1) i (0 : Fin 1)) ?_ ?_).trans ?_
  · funext b; fin_cases b; rfl
  · intro i' h
    idx_vars i'
    have := congrArg Fin.val (congrFun h 0)
    funext b
    fin_cases b
    · exact Subsingleton.elim (α := Fin 1) _ _
    · exact Fin.ext this
    · exact Subsingleton.elim (α := Fin 1) _ _
  · rw [val_main_v51_apply, val_main_v50_apply, val_main_v49_apply, val_main_v15_apply, val_main_v14_apply, val_main_v13_apply,
      val_main_cst_2_apply, val_main_cst_15_apply, val_main_cst_16_apply, dot_tie a w x s g i _ rfl]
    pointwise

open Cert.DownRefIdeal.Read in
/-- The reference's gradient of the rows at one place. -/
theorem dx_tie (a : S4096x8192.Idx → EReal) (w : S1x8192x2048.Idx → EReal) (x : S1x4096x2048.Idx → EReal) (s : S1x4096x2048.Idx → EReal) (g : S2048.Idx → EReal) (i : Fin 4096) (j : Fin 2048) : val_main_v60 (F := Ideal) a w x s g (ix2 i j)
    = lossRow (refRow a w x i) (fun k => g (ix1 k)) (fun k => s (ix3 (0 : Fin 1) i k)) j := by
  have hy : idx_main_v59 (ix2 i j) = ix3 (0 : Fin 1) i j := by funext a; fin_cases a <;> apply Fin.ext <;> simp <;> omega
  have h47 : idx_main_v47 (ix3 (0 : Fin 1) i j) = ix3 (0 : Fin 1) i (0 : Fin 1) := by funext a; fin_cases a <;> rfl
  rw [val_main_v60_apply, val_main_v59_apply, hy, val_main_v58_apply, val_main_v57_apply, val_main_v56_apply, val_main_v55_apply,
    coef_tie a w x s g i j _ rfl, val_main_v48_apply, val_main_v47_apply, val_main_v42_apply, h47,
    row_tie a w x i j _ rfl, dy_tie a w x s g i j _ rfl, gain_tie g i j _ rfl]
  pointwise
  refine Eq.trans ?_ ((norm_grad (refRow a w x i) (fun k => dyAt (refRow a w x i) (fun k => g (ix1 k)) (fun k => s (ix3 (0 : Fin 1) i k)) k * g (ix1 k))
    0 j _ lit_eps (val_main_v11 (F := Ideal) a w x (ix3 (0 : Fin 1) i (0 : Fin 1))) (val_main_v12 (F := Ideal) a w x (ix3 (0 : Fin 1) i (0 : Fin 1))) _ ?_ ?_
    (by rw [← lit_2048, ← lit_neg_half])).symm.trans ?_)
  · rw [zero_add]
  · rw [ms_tie a w x i _ rfl, lit_2048]
  · rw [val_main_v12_apply]; pointwise
  · unfold lossRow
    rw [rms_tie a w x i _ rfl, lit_2048, zero_add]

open Cert.DownRefIdeal.Read in
/-- The reference's gradient of the gain at one place. -/
theorem dg_tie (a : S4096x8192.Idx → EReal) (w : S1x8192x2048.Idx → EReal) (x : S1x4096x2048.Idx → EReal) (s : S1x4096x2048.Idx → EReal) (g : S2048.Idx → EReal) (u : Fin 1) (j : Fin 2048) : val_main_v61 (F := Ideal) a w x s g (ix2 u j)
    = ∑ r : Fin 4096, dyAt (refRow a w x r) (fun k => g (ix1 k)) (fun k => s (ix3 (0 : Fin 1) r k)) j * (refRow a w x r j * rms (refRow a w x r)) := by
  rw [val_main_v61_apply]
  unfold val_main_v43
  refine (reduce_unit _ _ _ _ (ix3 (0 : Fin 1) (0 : Fin 1) j) ?_ ?_).trans ?_
  · funext b; fin_cases b; rfl
  · intro i' h
    idx_vars i'
    have := congrArg Fin.val (congrFun h 0)
    funext b
    fin_cases b
    · exact Subsingleton.elim (α := Fin 1) _ _
    · exact Subsingleton.elim (α := Fin 1) _ _
    · exact Fin.ext this
  · simp only [val_main_v40_apply, val_main_v39_apply, val_main_v38_apply, val_main_v17_apply, val_main_v16_apply, val_main_cst_12_apply, val_main_cst_13_apply]
    pointwise
    refine Finset.sum_congr rfl fun r _ => ?_
    rw [row_tie a w x r j _ (by funext a; fin_cases a <;> apply Fin.ext <;> simp <;> omega), dy_tie a w x s g r j _ (by funext a; fin_cases a <;> apply Fin.ext <;> simp <;> omega),
      rms_tie a w x r _ (by funext a; fin_cases a <;> apply Fin.ext <;> simp <;> omega), mul_comm]

open Cert.DownRefIdeal.Read in
/-- The reference's squared error at one place. -/
theorem sq_tie (a : S4096x8192.Idx → EReal) (w : S1x8192x2048.Idx → EReal) (x : S1x4096x2048.Idx → EReal) (s : S1x4096x2048.Idx → EReal) (g : S2048.Idx → EReal) (u : Fin 1) (j : Fin 2048) : val_main_v31 (F := Ideal) a w x s g (ix2 u j)
    = ∑ r : Fin 4096, errAt (refRow a w x r) (fun k => g (ix1 k)) (fun k => s (ix3 (0 : Fin 1) r k)) j
      * errAt (refRow a w x r) (fun k => g (ix1 k)) (fun k => s (ix3 (0 : Fin 1) r k)) j := by
  rw [val_main_v31_apply]
  unfold val_main_v30
  refine (reduce_over _ _ _ _ (fun r : Fin 4096 => ix3 (0 : Fin 1) r j) ?_ ?_ ?_).trans ?_
  · intro r r' h
    exact congrFun h 1
  · intro r; funext b; fin_cases b; rfl
  · intro i' h
    refine ⟨i' 1, ?_⟩
    idx_vars i'
    have := congrArg Fin.val (congrFun h 0)
    funext b
    fin_cases b
    · exact Subsingleton.elim (α := Fin 1) _ _
    · rfl
    · exact Fin.ext this.symm
  · simp only [val_main_v22_apply, err_tie a w x s g _ j _ rfl, val_main_cst_8_apply]
    pointwise

/-! ## The claims -/

/-- The reference runs to its end, leaves its arguments as they were and has no counter that could stand above zero. -/
theorem reference_frame : Cert.quiescent_DownRefIdeal (hDownRefIdeal := Cert.DownRefIdeal.Gen.facts) := fun m ρ _ =>
  (θ_run Cert.DownRefIdeal.defs _ _).mono
    (fun r h => ⟨fun c => (h c).2.2.2, Idealize.ShloMosaic.sem_eq_zero_of_no_sems (by decide) r.2⟩)
    (Cert.DownRefIdeal.Value.run (F := Ideal) m ρ)

/-- The gain's row on both sides. -/
theorem gain_same (c : Dev nD) : (fun k => V m c main_v4 (ix2 (0 : Fin 1) k)) = fun k : Fin 2048 => m ((c : Thread nD τ).loc main_arg4) (ix1 k) :=
  funext fun k => g_read m c k

/-- A target row on both sides. -/
theorem target_same (c : Dev nD) (i : Fin 4096) : (fun k => V m c main_v3 (ix2 i k))
    = fun k : Fin 2048 => m ((c : Thread nD τ).loc main_arg3) (ix3 (0 : Fin 1) i k) :=
  funext fun k => s_read m c i k

/-- The call's first result is the gradient of the rows. -/
theorem dx_end (c : Dev nD) : G5 m c = Cert.DownRefIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (final5 m c).symm.trans ((dx_array m c).trans ?_)
  funext i
  idx_vars i
  refine Eq.trans ?_ (dx_tie _ _ _ _ _ i0 i1).symm
  exact congr_three (fun x g s => lossRow x g s i1) (row_same m c (m ((c : Thread nD τ).loc main_arg0)) i0) (gain_same m c) (target_same m c i0)

/-- The call's second result is the gradient of the gain. -/
theorem dg_end (c : Dev nD) : G6 m c = Cert.DownRefIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (final6 m c).symm.trans ((dg_array m c).trans ?_)
  funext i
  idx_vars i
  refine Eq.trans ?_ (dg_tie _ _ _ _ _ i0 i1).symm
  refine Finset.sum_congr rfl fun r _ => ?_
  exact congr_three (fun x g s => dyAt x g s i1 * (x i1 * rms x)) (row_same m c (m ((c : Thread nD τ).loc main_arg0)) r) (gain_same m c) (target_same m c r)

/-- The call's third result is the squared error summed over the rows. -/
theorem sq_end (c : Dev nD) : G7 m c = Cert.DownRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (final7 m c).symm.trans ((sq_array m c).trans ?_)
  funext i
  idx_vars i
  refine Eq.trans ?_ (sq_tie _ _ _ _ _ i0 i1).symm
  refine Finset.sum_congr rfl fun r _ => ?_
  exact congr_three (fun x g s => errAt x g s i1 * errAt x g s i1) (row_same m c (m ((c : Thread nD τ).loc main_arg0)) r) (gain_same m c) (target_same m c r)

/-- The call and the reference's lines end with equal results, whatever the arguments. -/
theorem algebraic : Cert.algebraic_DownIdeal_DownRefIdeal (hDownIdeal := Cert.DownIdeal.Gen.facts)
    (hDownRefIdeal := Cert.DownRefIdeal.Gen.facts) := by
  intro m ρ m' ρ' _ hagree
  refine ⟨fun c => G5 m c, fun c => G6 m c, fun c => G7 m c, run m ρ, ?_⟩
  refine (θ_run Cert.DownRefIdeal.defs _ _).mono (fun r h c => ?_) (Cert.DownRefIdeal.Value.run (F := Ideal) m' ρ')
  obtain ⟨h0, h1, h2, h3, h4⟩ := hagree c
  refine ⟨(h c).1.trans ?_, (h c).2.1.trans ?_, (h c).2.2.1.trans ?_, (h c).2.2.2⟩
  · rw [Cert.DownRefIdeal.Read.val_main_v60_eq, h0, h1, h2, h3, h4]
    exact (dx_end m c).symm
  · rw [Cert.DownRefIdeal.Read.val_main_v61_eq, h0, h1, h2, h3, h4]
    exact (dg_end m c).symm
  · rw [Cert.DownRefIdeal.Read.val_main_v31_eq, h0, h1, h2, h3, h4]
    exact (sq_end m c).symm

end Cert.DownIdeal.Sound
end
-- ==== Proof.Dh2Arrays.lean ====
module

public import proofs.«01_k».proof.Proof.Gen.Dh2Ideal.Value
public import Idealize.ShloMosaic.Lib.Pipeline.ValueKit
public import Idealize.ShloMosaic.Lib.Pipeline.ReadBack
public import proofs.«01_k».proof.Proof.Pieces
public import proofs.«01_k».proof.Proof.NormGrad

@[expose] public section

set_option maxRecDepth 16384

noncomputable section

namespace Cert.Dh2Ideal.Sound

open Cert.NormGrad Cert.Dh2Ideal Cert.Dh2Ideal.Gen Cert.Dh2Ideal.Value Idealize.ShloMosaic Idealize.ShloMosaic.TcCoe Idealize.SL.Sem

variable (m : (ℓ : Loc nD τ sig) → Buf (Elt Ideal) ℓ)

/-- One place of a tile's product: row `r` of the one block times row `j` of the other. -/
def part (a : S512x2048.Idx → EReal) (b : S1x2048x2048.Idx → EReal) (r : Fin 512) (j : Fin 2048) : EReal :=
  ∑ k : Fin 2048, a (ix2 r k) * b (ix3 (0 : Fin 1) j k)

/-- The same at an index. -/
def partAt (a : S512x2048.Idx → EReal) (b : S1x2048x2048.Idx → EReal) (y : S512x2048.Idx) : EReal := part a b (y 0) (y 1)

/-- At the first point of a tile the running sum is that point's product. -/
theorem acc_A (c : Dev nD) (t : Fin cfg0.N) (h0 : t.val % 4 = 0) (h1 : t.val % 4 ≤ 2) (h2 : ¬t.val % 4 = 3)
    (y : S512x2048.Idx) : (outsAt0 m c t.val t.isLt).2.2 y = part (iblk m c 0 t) (iblk m c 1 t) (y 0) (y 1) := by
  rw [outsAt0_A m c t h0 h1 h2]
  frame_open
  simp (disch := decide) only [↓ View.readCov_skip, ↓ View.readCov_cons_toLoadRect, ↓ View.readCov_fill]
  frame_out
  change _ = partAt (iblk m c 0 t) (iblk m c 1 t) y
  rw [← List.singleton_append (l := [_]), ← List.cons_append, ← List.cons_append, ← List.cons_append]
  refine View.canon_append_of_piecesOf (Val := Elt Ideal) (e := .f32) (partAt (iblk m c 0 t) (iblk m c 1 t)) _ _ ?_ y ?_
  on_goal 2 => exact View.cover_of_tiledL _ ![512, 512] rfl y
  refine ⟨fun x => ?_, fun x => ?_, fun x => ?_, fun x => ?_, trivial⟩
  all_goals unfold_payloads
  all_goals pointwise [partAt, part]
  all_goals blk_point [iblk]

/-- At the second and third point of a tile the running sum grows by that point's product. -/
theorem acc_B (c : Dev nD) (t : Fin cfg0.N) (h0 : ¬t.val % 4 = 0) (h1 : t.val % 4 ≤ 2) (h2 : ¬t.val % 4 = 3)
    (y : S512x2048.Idx) : (outsAt0 m c t.val t.isLt).2.2 y
      = (outsAt0 m c (t.val - 1) (by omega)).2.2 y + part (iblk m c 0 t) (iblk m c 1 t) (y 0) (y 1) := by
  rw [outsAt0_B m c t h0 h1 h2]
  frame_out
  simp only [read_unread_whole]
  generalize (outsAt0 m c (t.val - 1) _).2.2 = P
  canon_tiles x h
  all_goals unfold_payloads
  all_goals pointwise [part]
  all_goals blk_point [iblk]

/-- The running sum after the last point, from the sum before it. -/
def grown (P : S512x2048.Idx → EReal) (a : S512x2048.Idx → EReal) (b : S1x2048x2048.Idx → EReal) (y : S512x2048.Idx) : EReal :=
  P y + part a b (y 0) (y 1)

/-- One place of what a tile adds to the gradient of the gain. -/
def dgAt (d x : S512x2048.Idx → EReal) (j : Fin 2048) : EReal :=
  ∑ r : Fin 512, d (ix2 r j) * (x (ix2 r j) * rms fun k => x (ix2 r k))

/-- The eight stores of the last point are parts of the grown running sum. -/
theorem grown_pieces (P a : S512x2048.Idx → EReal) (b : S1x2048x2048.Idx → EReal) : View.PiecesOf (Val := Elt Ideal) (e := .f32) (grown P a b)
    [⟨Rect.unit ![256, 1536] ![256, 512] inb_S512x2048_S256x512_256_1536, k0_pay33 (F := Ideal) (View.ld (Val := Elt Ideal) (e' := .bf16) a (Rect.unit ![256, 0] ![256, 2048] inb_S512x2048_S256x2048_256_0)) (View.ld (Val := Elt Ideal) (e' := .f32) P (Rect.unit ![256, 1536] ![256, 512] inb_S512x2048_S256x512_256_1536)) (View.ld (Val := Elt Ideal) (e' := .bf16) b (Rect.unit ![0, 1536, 0] ![1, 512, 2048] inb_S1x2048x2048_S1x512x2048_0_1536_0))⟩,
      ⟨Rect.unit ![256, 1024] ![256, 512] inb_S512x2048_S256x512_256_1024, k0_pay32 (F := Ideal) (View.ld (Val := Elt Ideal) (e' := .bf16) a (Rect.unit ![256, 0] ![256, 2048] inb_S512x2048_S256x2048_256_0)) (View.ld (Val := Elt Ideal) (e' := .f32) P (Rect.unit ![256, 1024] ![256, 512] inb_S512x2048_S256x512_256_1024)) (View.ld (Val := Elt Ideal) (e' := .bf16) b (Rect.unit ![0, 1024, 0] ![1, 512, 2048] inb_S1x2048x2048_S1x512x2048_0_1024_0))⟩,
      ⟨Rect.unit ![256, 512] ![256, 512] inb_S512x2048_S256x512_256_512, k0_pay31 (F := Ideal) (View.ld (Val := Elt Ideal) (e' := .bf16) a (Rect.unit ![256, 0] ![256, 2048] inb_S512x2048_S256x2048_256_0)) (View.ld (Val := Elt Ideal) (e' := .f32) P (Rect.unit ![256, 512] ![256, 512] inb_S512x2048_S256x512_256_512)) (View.ld (Val := Elt Ideal) (e' := .bf16) b (Rect.unit ![0, 512, 0] ![1, 512, 2048] inb_S1x2048x2048_S1x512x2048_0_512_0))⟩,
      ⟨Rect.unit ![256, 0] ![256, 512] inb_S512x2048_S256x512_256_0, k0_pay30 (F := Ideal) (View.ld (Val := Elt Ideal) (e' := .bf16) a (Rect.unit ![256, 0] ![256, 2048] inb_S512x2048_S256x2048_256_0)) (View.ld (Val := Elt Ideal) (e' := .f32) P (Rect.unit ![256, 0] ![256, 512] inb_S512x2048_S256x512_256_0)) (View.ld (Val := Elt Ideal) (e' := .bf16) b (Rect.unit ![0, 0, 0] ![1, 512, 2048] inb_S1x2048x2048_S1x512x2048_0_0_0))⟩,
      ⟨Rect.unit ![0, 1536] ![256, 512] inb_S512x2048_S256x512_0_1536, k0_pay13 (F := Ideal) (View.ld (Val := Elt Ideal) (e' := .bf16) a (Rect.unit ![0, 0] ![256, 2048] inb_S512x2048_S256x2048_0_0)) (View.ld (Val := Elt Ideal) (e' := .f32) P (Rect.unit ![0, 1536] ![256, 512] inb_S512x2048_S256x512_0_1536)) (View.ld (Val := Elt Ideal) (e' := .bf16) b (Rect.unit ![0, 1536, 0] ![1, 512, 2048] inb_S1x2048x2048_S1x512x2048_0_1536_0))⟩,
      ⟨Rect.unit ![0, 1024] ![256, 512] inb_S512x2048_S256x512_0_1024, k0_pay12 (F := Ideal) (k0_pay11 (View.ld (Val := Elt Ideal) (e' := .bf16) a (Rect.unit ![0, 0] ![256, 2048] inb_S512x2048_S256x2048_0_0)) (View.ld (Val := Elt Ideal) (e' := .f32) P (Rect.unit ![0, 1024] ![256, 512] inb_S512x2048_S256x512_0_1024)) (View.ld (Val := Elt Ideal) (e' := .bf16) b (Rect.unit ![0, 1024, 0] ![1, 512, 2048] inb_S1x2048x2048_S1x512x2048_0_1024_0)))⟩,
      ⟨Rect.unit ![0, 512] ![256, 512] inb_S512x2048_S256x512_0_512, k0_pay10 (F := Ideal) (View.ld (Val := Elt Ideal) (e' := .bf16) a (Rect.unit ![0, 0] ![256, 2048] inb_S512x2048_S256x2048_0_0)) (View.ld (Val := Elt Ideal) (e' := .f32) P (Rect.unit ![0, 512] ![256, 512] inb_S512x2048_S256x512_0_512)) (View.ld (Val := Elt Ideal) (e' := .bf16) b (Rect.unit ![0, 512, 0] ![1, 512, 2048] inb_S1x2048x2048_S1x512x2048_0_512_0))⟩,
      ⟨Rect.unit ![0, 0] ![256, 512] inb_S512x2048_S256x512_0_0, k0_pay9 (F := Ideal) (View.ld (Val := Elt Ideal) (e' := .bf16) a (Rect.unit ![0, 0] ![256, 2048] inb_S512x2048_S256x2048_0_0)) (View.ld (Val := Elt Ideal) (e' := .f32) P (Rect.unit ![0, 0] ![256, 512] inb_S512x2048_S256x512_0_0)) (View.ld (Val := Elt Ideal) (e' := .bf16) b (Rect.unit ![0, 0, 0] ![1, 512, 2048] inb_S1x2048x2048_S1x512x2048_0_0_0))⟩] := by
  refine ⟨fun x => ?_, fun x => ?_, fun x => ?_, fun x => ?_, fun x => ?_, fun x => ?_, fun x => ?_, fun x => ?_, trivial⟩ <;> unfold_payloads <;>
    pointwise [grown, part] <;> blk_point

/-- What the four stores of half of the rows leave for a load of 128 of them. -/
theorem readCov_grown (P a : S512x2048.Idx → EReal) (b : S1x2048x2048.Idx → EReal) (v : View sig Kind.tc Space.vmem S512x2048 EltTy.f32) (L)
    (r : Rect S512x2048) (h : View.PiecesOf (Val := Elt Ideal) (grown P a b) L) (hc : LoadRect.covChk (L.map Sigma.fst) r.toLoadRect
      (.split 1 1024 (.split 1 512 (.leaf 3) (.leaf 2)) (.split 1 512 (.leaf 1) (.leaf 0))) = true) :
    v.readCov L r.toLoadRect = View.ld (grown P a b) r :=
  Pieces.readCov_of_pieces (Val := Elt Ideal) (grown P a b) _ v L r h hc

/-- At the last point of a tile the rows' gradient is stored. -/
theorem dx_block (c : Dev nD) (t : Fin cfg0.N) (h2 : t.val % 4 = 3) (y : S512x2048.Idx) : (outsAt0 m c t.val t.isLt).1 y
      = dxRow (fun k => grown (outsAt0 m c (t.val - 1) (by omega)).2.2 (iblk m c 0 t) (iblk m c 1 t) (ix2 (y 0) k))
          (fun k => iblk m c 2 t (ix2 (y 0) k)) (fun k => iblk m c 4 t (ix2 0 k)) (iblk m c 3 t y) (y 1) := by
  by_cases h3 : t.val < 4
  on_goal 1 => rw [outsAt0_C m c t (by omega) (by omega) h2 h3]
  on_goal 2 => rw [outsAt0_D m c t (by omega) (by omega) h2 h3]
  all_goals
    frame_open
    simp (disch := decide) only [↓ View.readCov_skip, ↓ View.readCov_cons_toLoadRect, ↓ View.readCov_fill]
    frame_out
    simp only [read_unread_whole]
    generalize (outsAt0 m c (t.val - 1) _).2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    canon_tiles x h
    all_goals unfold_payloads
    all_goals pointwise [dxRow, rms]
    all_goals blk_point [iblk]

/-- At the last point of a tile the gain's gradient grows by that tile's part, from nothing at the first tile. -/
theorem dg_step (c : Dev nD) (t : Fin cfg0.N) (h2 : t.val % 4 = 3) (y : S1x2048.Idx) : (outsAt0 m c t.val t.isLt).2.1 y
      = (if t.val < 4 then 0 else (outsAt0 m c (t.val - 1) (by omega)).2.1 y)
        + dgAt (grown (outsAt0 m c (t.val - 1) (by omega)).2.2 (iblk m c 0 t) (iblk m c 1 t)) (iblk m c 2 t) (y 1) := by
  by_cases h3 : t.val < 4
  on_goal 1 => rw [outsAt0_C m c t (by omega) (by omega) h2 h3, if_pos h3]
  on_goal 2 => rw [outsAt0_D m c t (by omega) (by omega) h2 h3, if_neg h3]
  all_goals
    frame_open
    simp (disch := decide) only [↓ View.readCov_skip, ↓ View.readCov_cons_toLoadRect, ↓ View.readCov_fill]
    frame_out
    simp only [read_unread_whole]
    generalize (outsAt0 m c (t.val - 1) _).2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    unfold_payloads
    pointwise [dgAt, rms]
    rw [sum_rows]
    try simp only [add_assoc]

end Cert.Dh2Ideal.Sound
end
-- ==== Proof.Dh2Sums.lean ====
module

public import proofs.«01_k».proof.Proof.Dh2Arrays

@[expose] public section

set_option maxRecDepth 16384

noncomputable section

namespace Cert.Dh2Ideal.Sound

open Cert.NormGrad Cert.Dh2Ideal Cert.Dh2Ideal.Gen Cert.Dh2Ideal.Value Idealize.ShloMosaic Idealize.ShloMosaic.TcCoe Idealize.SL.Sem

variable (m : (ℓ : Loc nD τ sig) → Buf (Elt Ideal) ℓ)

/-- At the first three points of a tile the gain's gradient is carried. -/
theorem dg_carry (c : Dev nD) (t : Fin cfg0.N) (ht : 0 < t.val) (h2 : ¬t.val % 4 = 3) (y : S1x2048.Idx) :
    (outsAt0 m c t.val t.isLt).2.1 y = (outsAt0 m c (t.val - 1) (by omega)).2.1 y := by
  by_cases h0 : t.val % 4 = 0
  on_goal 1 => rw [outsAt0_A m c t h0 (by omega) h2]
  on_goal 2 => rw [outsAt0_B m c t h0 (by omega) h2]
  all_goals rfl

/-- The grid has 32 points. -/
theorem lt_32 (t : Fin cfg0.N) : t.val < 32 := lt_of_lt_of_eq t.isLt N_0

/-- Where the windows stand at a grid point. -/
theorem idx : ∀ t : Fin cfg0.N, win0_0.index t = ![t.val / 4, t.val % 4] ∧ win0_1.index t = ![t.val % 4, 0, 0]
    ∧ win0_2.index t = ![t.val / 4, 0] ∧ win0_3.index t = ![t.val / 4, 0] ∧ win0_4.index t = ![0, 0] ∧ win0_5.index t = ![t.val / 4, 0] :=
  (by decide +kernel : ∀ t : Fin grid0.N, _)

/-- One place of one of the four parts of the product: row `r` of the cotangent times row `j` of a group of the weights' columns. -/
def groupAt (a : S4096x8192.Idx → EReal) (w : S4x2048x2048.Idx → EReal) (r : Fin 4096) (j : Fin 2048) (q : Fin 4) : EReal :=
  ∑ k : Fin 2048, a (ix2 r ⟨q.val * 2048 + k.val, by omega⟩) * w (ix3 q j k)

/-- One place of the product, the sum of the four. -/
def dhAt (a : S4096x8192.Idx → EReal) (w : S4x2048x2048.Idx → EReal) (r : Fin 4096) (j : Fin 2048) : EReal :=
  ∑ q : Fin 4, groupAt a w r j q

/-- One point's part of the product. -/
theorem part_eq (c : Dev nD) (t : Fin cfg0.N) (r : Fin 512) (j : Fin 2048) (R : Fin 4096) (q : Fin 4) (hR : R.val = t.val / 4 * 512 + r.val)
    (hq : q.val = t.val % 4) : part (iblk m c 0 t) (iblk m c 1 t) r j = groupAt (V m c main_arg0) (V m c main_v3) R j q := by
  obtain ⟨e0, e1, e2, e3, e4, e5⟩ := idx t
  pointwise [part, groupAt]
  blk_point [iblk, e0, e1]

/-- The running sum after the last point of a tile is the product of the tile's rows. -/
theorem grown_eq (c : Dev nD) (t : Fin cfg0.N) (h2 : t.val % 4 = 3) (r : Fin 512) (j : Fin 2048) (R : Fin 4096) (hR : R.val = t.val / 4 * 512 + r.val) :
    grown (outsAt0 m c (t.val - 1) (by omega)).2.2 (iblk m c 0 t) (iblk m c 1 t) (ix2 r j) = dhAt (V m c main_arg0) (V m c main_v3) R j := by
  have hN := lt_32 t
  have a0 : (outsAt0 m c (t.val - 3) (by omega)).2.2 (ix2 r j) = groupAt (V m c main_arg0) (V m c main_v3) R j 0 := (acc_A m c ⟨t.val - 3, by omega⟩ (by simp; omega) (by simp; omega) (by simp; omega) (ix2 r j)).trans
    (part_eq m c _ _ _ R 0 (by simp; omega) (by simp; omega))
  have a1 : (outsAt0 m c (t.val - 2) (by omega)).2.2 (ix2 r j) = (outsAt0 m c (t.val - 2 - 1) (by omega)).2.2 (ix2 r j) + groupAt (V m c main_arg0) (V m c main_v3) R j 1 := (acc_B m c ⟨t.val - 2, by omega⟩ (by simp; omega) (by simp; omega) (by simp; omega) (ix2 r j)).trans
    (congrArg (_ + ·) (part_eq m c _ _ _ R 1 (by simp; omega) (by simp; omega)))
  have a2 : (outsAt0 m c (t.val - 1) (by omega)).2.2 (ix2 r j) = (outsAt0 m c (t.val - 1 - 1) (by omega)).2.2 (ix2 r j) + groupAt (V m c main_arg0) (V m c main_v3) R j 2 := (acc_B m c ⟨t.val - 1, by omega⟩ (by simp; omega) (by simp; omega) (by simp; omega) (ix2 r j)).trans
    (congrArg (_ + ·) (part_eq m c _ _ _ R 2 (by simp; omega) (by simp; omega)))
  refine (congrArg (_ + ·) (part_eq m c t _ _ R 3 (by simp; omega) (by simp; omega))).trans ?_
  unfold dhAt
  rw [Fin.sum_univ_four, ← a0]
  simp only [Nat.sub_sub, Nat.reduceAdd] at a1 a2
  exact congrArg (· + _) (a2.trans (congrArg (· + _) a1))

/-- The gradient of the rows, as an array. -/
def dxOf (a : S4096x8192.Idx → EReal) (w : S4x2048x2048.Idx → EReal) (x rs : S4096x2048.Idx → EReal) (g : S1x2048.Idx → EReal)
    (i : S4096x2048.Idx) : EReal :=
  dxRow (dhAt a w (i 0)) (fun k => x (ix2 (i 0) k)) (fun k => g (ix2 0 k)) (rs (ix2 (i 0) (i 1))) (i 1)

/-- The gradient of the gain, as an array. -/
def dgOf (a : S4096x8192.Idx → EReal) (w : S4x2048x2048.Idx → EReal) (x : S4096x2048.Idx → EReal) (i : S1x2048.Idx) : EReal :=
  ∑ r : Fin 4096, dhAt a w r (i 1) * (x (ix2 r (i 1)) * rms fun k => x (ix2 r k))

/-- The call leaves the gradient of the rows in its first result. -/
theorem dx_array (c : Dev nD) : (dats m 0 c).arrAt 5 cfg0.N
    = dxOf (V m c main_arg0) (V m c main_v3) (V m c main_v4) (V m c main_arg3) (V m c main_arg4) := by
  refine (dats m 0 c).arrAt_eq_of_covers 5 _ (by decide +kernel) fun t hf y => ?_
  have h2 : t.val % 4 = 3 := by
    revert hf; exact (by decide +kernel : ∀ t : Fin grid0.N, (cfg0.win 5).flush t = true → t.val % 4 = 3) t
  have hN := lt_32 t
  obtain ⟨e0, e1, e2, e3, e4, e5⟩ := idx t
  blk_simp
  rw [after0_5]
  refine (dx_block m c t h2 y).trans ?_
  have hd : (fun k => grown (outsAt0 m c (t.val - 1) (lt_of_le_of_lt (Nat.sub_le _ _) t.isLt)).2.2 (iblk m c 0 t) (iblk m c 1 t) (ix2 (y 0) k))
      = dhAt (V m c main_arg0) (V m c main_v3) ⟨t.val / 4 * 512 + (y 0).val, by have := (y 0).isLt; simp at this; omega⟩ :=
    funext fun k => grown_eq m c t h2 _ _ _ rfl
  rw [hd]
  pointwise [dxOf, dxRow, rms]
  blk_point [iblk, e0, e1, e2, e3, e4, e5]

/-- The last point of the grid. -/
def tLast : Fin cfg0.N := ⟨31, lt_of_lt_of_eq (by omega) N_0.symm⟩

/-- What tile `q` adds to the gradient of the gain. -/
def tileAt (a : S4096x8192.Idx → EReal) (w : S4x2048x2048.Idx → EReal) (x : S4096x2048.Idx → EReal) (j : Fin 2048) (q : Fin 8) : EReal :=
  ∑ r : Fin 512, dhAt a w ⟨q.val * 512 + r.val, by omega⟩ j
    * (x (ix2 (⟨q.val * 512 + r.val, by omega⟩ : Fin 4096) j) * rms fun k => x (ix2 (⟨q.val * 512 + r.val, by omega⟩ : Fin 4096) k))

/-- What the last point of a tile adds, in terms of the arrays. -/
theorem dg_tile (c : Dev nD) (t : Fin cfg0.N) (h2 : t.val % 4 = 3) (j : Fin 2048) (q : Fin 8) (hq : q.val = t.val / 4) :
    dgAt (grown (outsAt0 m c (t.val - 1) (by omega)).2.2 (iblk m c 0 t) (iblk m c 1 t)) (iblk m c 2 t) j
    = tileAt (V m c main_arg0) (V m c main_v3) (V m c main_v4) j q := by
  have hN := lt_32 t
  obtain ⟨e0, e1, e2, e3, e4, e5⟩ := idx t
  unfold dgAt tileAt
  refine Finset.sum_congr rfl fun r _ => ?_
  rw [grown_eq m c t h2 r j ⟨q.val * 512 + r.val, by omega⟩ (by simp [hq])]
  pointwise [rms]
  blk_point [iblk, e2]

/-- After the last point the gain's gradient is the sum of what the eight tiles add. -/
theorem dg_last (c : Dev nD) (y : S1x2048.Idx) : (outsAt0 m c (4 * 7 + 3) (lt_of_lt_of_eq (by omega) N_0.symm)).2.1 y
    = ∑ q, tileAt (V m c main_arg0) (V m c main_v3) (V m c main_v4) (y 1) q := by
  refine eight_steps (fun n h => (outsAt0 m c (4 * n + 3) (lt_of_lt_of_eq (by omega) N_0.symm)).2.1 y)
    (tileAt (V m c main_arg0) (V m c main_v3) (V m c main_v4) (y 1)) ?_ fun n h => ?_
  · refine (dg_step m c ⟨4 * 0 + 3, lt_of_lt_of_eq (by omega) N_0.symm⟩ (by simp) y).trans ?_
    rw [if_pos (by dsimp only; omega)]
    exact congrArg (0 + ·) (dg_tile m c ⟨4 * 0 + 3, lt_of_lt_of_eq (by omega) N_0.symm⟩ (by simp) (y 1) 0 (by simp))
  · refine (dg_step m c ⟨4 * (n + 1) + 3, lt_of_lt_of_eq (by omega) N_0.symm⟩ (by dsimp only; omega) y).trans ?_
    rw [if_neg (by dsimp only; omega)]
    refine congrArg₂ (· + ·) ?_ (dg_tile m c ⟨4 * (n + 1) + 3, lt_of_lt_of_eq (by omega) N_0.symm⟩ (by dsimp only; omega) (y 1) ⟨n + 1, h⟩ (by dsimp only; omega))
    refine (dg_carry m c ⟨4 * n + 6, lt_of_lt_of_eq (by omega) N_0.symm⟩ (by dsimp only; omega) (by dsimp only; omega) y).trans ?_
    refine (dg_carry m c ⟨4 * n + 5, lt_of_lt_of_eq (by omega) N_0.symm⟩ (by dsimp only; omega) (by dsimp only; omega) y).trans ?_
    exact dg_carry m c ⟨4 * n + 4, lt_of_lt_of_eq (by omega) N_0.symm⟩ (by dsimp only; omega) (by dsimp only; omega) y

/-- The tiles' parts together are the sum over all rows. -/
theorem tiles_sum (a : S4096x8192.Idx → EReal) (w : S4x2048x2048.Idx → EReal) (x : S4096x2048.Idx → EReal) (i : S1x2048.Idx) :
    ∑ q, tileAt a w x (i 1) q = dgOf a w x i :=
  Fin.sum_mul_add_fin 8 512 fun r : Fin 4096 => dhAt a w r (i 1) * (x (ix2 r (i 1)) * rms fun k => x (ix2 r k))

/-- The call leaves the gradient of the gain in its second result. -/
theorem dg_array (c : Dev nD) : (dats m 0 c).arrAt 6 cfg0.N
    = dgOf (V m c main_arg0) (V m c main_v3) (V m c main_v4) := by
  refine (dats m 0 c).arrAt_eq_of_after_last 6 tLast (by decide +kernel) _ fun y => ?_
  blk_simp
  rw [after0_6]
  refine Eq.trans (dg_last m c y) ?_
  exact tiles_sum (V m c main_arg0) (V m c main_v3) (V m c main_v4) y

end Cert.Dh2Ideal.Sound
end
-- ==== Proof.Dh2.lean ====
module

public import proofs.«01_k».proof.Defs
public import proofs.«01_k».proof.Proof.Dh2Sums
public import proofs.«01_k».proof.Proof.Gen.Dh2RefIdeal
public import proofs.«01_k».proof.Proof.Gen.Dh2RefIdeal.Run
public import proofs.«01_k».proof.Proof.Gen.Dh2RefIdeal.Read
public import Idealize.ShloMosaic.Lib.StableHlo.ReadAt

@[expose] public section

set_option maxRecDepth 16384

noncomputable section

namespace Cert.Dh2Ideal.Sound

open Cert.NormGrad Cert.Dh2Ideal Cert.Dh2Ideal.Gen Cert.Dh2Ideal.Value Idealize.ShloMosaic Idealize.ShloMosaic.TcCoe Idealize.SL.Sem

variable (m : (ℓ : Loc nD τ sig) → Buf (Elt Ideal) ℓ)

/-! ## What the host prepares -/

/-- The weights as the kernel takes them: group `g` holds columns `2048 g` up to `2048 g + 2047`. -/
theorem w_read (c : Dev nD) (g : Fin 4) (k j : Fin 2048) : V m c main_v3 (ix3 g k j)
    = m ((c : Thread nD τ).loc main_arg1) (ix3 (0 : Fin 1) k (⟨g.val * 2048 + j.val, by omega⟩ : Fin 8192)) := by
  unfold V
  after_reads_at

/-- The rows as the kernel takes them. -/
theorem x_read (c : Dev nD) (i : Fin 4096) (j : Fin 2048) : V m c main_v4 (ix2 i j)
    = m ((c : Thread nD τ).loc main_arg2) (ix3 (0 : Fin 1) i j) := by
  unfold V
  after_reads_at

/-! ## The tie to the reference -/

/-- The product of the cotangent and the transposed weights at one place, over all columns. -/
def refDh (a : S4096x8192.Idx → EReal) (w : S1x2048x8192.Idx → EReal) (i : Fin 4096) (j : Fin 2048) : EReal :=
  ∑ l : Fin 8192, a (ix2 i l) * w (ix3 (0 : Fin 1) j l)

/-- The kernel's product in four groups is the product over all columns. -/
theorem dhAt_eq (c : Dev nD) (a : S4096x8192.Idx → EReal) (i : Fin 4096) (j : Fin 2048) :
    dhAt a (V m c main_v3) i j = refDh a (m ((c : Thread nD τ).loc main_arg1)) i j := by
  unfold dhAt groupAt refDh
  refine Eq.trans ?_ (Fin.sum_mul_add_fin 4 2048 fun l : Fin 8192 =>
    a (ix2 i l) * (m ((c : Thread nD τ).loc main_arg1) : S1x2048x8192.Idx → EReal) (ix3 (0 : Fin 1) j l))
  refine Finset.sum_congr rfl fun q _ => Finset.sum_congr rfl fun k _ => ?_
  rw [w_read]

open Cert.Dh2RefIdeal.Read in
/-- The reference's product at one place. -/
theorem dh_tie (a : S4096x8192.Idx → EReal) (w : S1x2048x8192.Idx → EReal) (i : Fin 4096) (j : Fin 2048) (y : S1x4096x2048.Idx)
    (hy : y = ix3 (0 : Fin 1) i j) : val_main_v23 (F := Ideal) a w y = refDh a w i j := by
  subst hy
  simp only [val_main_v23_apply, val_main_v22_apply, val_main_v21_apply, val_main_v17_apply]
  unfold refDh
  refine Finset.sum_congr rfl fun k _ => ?_
  refine Ideal.mul_congr ?_ ?_
  · refine congrArg a ?_; funext a; fin_cases a <;> rfl
  · refine congrArg w ?_; funext a; fin_cases a <;> apply Fin.ext <;> simp <;> omega

open Cert.Dh2RefIdeal.Read in
/-- The reference's mean square of a row, with the constant added. -/
theorem ms_tie (x : S1x4096x2048.Idx → EReal) (i : Fin 4096) (y : Cert.Dh2RefIdeal.S1x4096x1.Idx) (hy : y = ix3 (0 : Fin 1) i (0 : Fin 1)) :
    val_main_v7 (F := Ideal) x y = Ideal.div (∑ k : Fin 2048, x (ix3 (0 : Fin 1) i k) * x (ix3 (0 : Fin 1) i k))
      (Ideal.ofBits .f32 0x45000000#32) + Ideal.ofBits .f32 0x358637BD#32 := by
  subst hy
  have e : ∀ k, idx_main_v2 (idx_main_v3 (ix3 (0 : Fin 1) i (0 : Fin 1))) k = ix3 (0 : Fin 1) i k := fun k => by
    funext a; fin_cases a <;> rfl
  simp only [val_main_v7_apply, val_main_v6_apply, val_main_v5_apply, val_main_v4_apply, val_main_v3_apply,
    val_main_v2_apply, val_main_v1_apply, val_main_cst_apply, val_main_cst_0_apply, val_main_cst_1_apply, e]
  pointwise

open Cert.Dh2RefIdeal.Read in
/-- The reference's root factor of a row. -/
theorem rms_tie (x : S1x4096x2048.Idx → EReal) (i : Fin 4096) (y : Cert.Dh2RefIdeal.S1x4096x1.Idx) (hy : y = ix3 (0 : Fin 1) i (0 : Fin 1)) :
    val_main_v8 (F := Ideal) x y = rms fun k => x (ix3 (0 : Fin 1) i k) := by
  rw [val_main_v8_apply, ms_tie x i y hy]
  unfold rms
  pointwise

open Cert.Dh2RefIdeal.Read in
/-- The reference's sum along a row of the scaled cotangent times the row. -/
theorem dot_tie (a : S4096x8192.Idx → EReal) (w : S1x2048x8192.Idx → EReal) (x : S1x4096x2048.Idx → EReal) (g : S1x2048.Idx → EReal)
    (i : Fin 4096) (y : Cert.Dh2RefIdeal.S1x4096x1.Idx) (hy : y = ix3 (0 : Fin 1) i (0 : Fin 1)) : val_main_v32 (F := Ideal) a w x g y
    = ∑ k : Fin 2048, x (ix3 (0 : Fin 1) i k) * (refDh a w i k * g (ix2 (0 : Fin 1) k)) := by
  subst hy
  simp only [val_main_v32_apply, val_main_v31_apply, val_main_v30_apply, val_main_cst_5_apply, val_main_v28_apply, val_main_v27_apply, val_main_v14_apply, val_main_v0_apply]
  pointwise
  refine Finset.sum_congr rfl fun k _ => ?_
  rw [dh_tie a w i k _ (by funext a; fin_cases a <;> apply Fin.ext <;> simp <;> omega)]
  refine Ideal.mul_congr ?_ (Ideal.mul_congr rfl ?_) <;> refine congrArg _ ?_ <;> funext a <;> fin_cases a <;> apply Fin.ext <;> simp <;> omega

open Cert.Dh2RefIdeal.Read in
/-- The reference's factor that carries the gradient through the mean square. -/
theorem coef_tie (a : S4096x8192.Idx → EReal) (w : S1x2048x8192.Idx → EReal) (x : S1x4096x2048.Idx → EReal) (g : S1x2048.Idx → EReal)
    (i : Fin 4096) (j : Fin 2048) (y : S1x4096x2048.Idx) (hy : y = ix3 (0 : Fin 1) i j) : val_main_v41 (F := Ideal) a w x g y
    = Ideal.div ((∑ k : Fin 2048, x (ix3 (0 : Fin 1) i k) * (refDh a w i k * g (ix2 (0 : Fin 1) k)))
      * (Ideal.ofBits .f32 0xBF000000#32 * Ideal.div (val_main_v8 (F := Ideal) x (ix3 (0 : Fin 1) i (0 : Fin 1)))
        (val_main_v7 (F := Ideal) x (ix3 (0 : Fin 1) i (0 : Fin 1))))) (Ideal.ofBits .f32 0x45000000#32) := by
  subst hy
  rw [val_main_v41_apply, val_main_v40_apply]
  unfold val_main_v39
  refine (reduce_unit _ _ _ _ (ix3 (0 : Fin 1) i (0 : Fin 1)) ?_ ?_).trans ?_
  · funext b; fin_cases b; rfl
  · intro i' h
    idx_vars i'
    have := congrArg Fin.val (congrFun h 0)
    funext b
    fin_cases b
    · exact Subsingleton.elim (α := Fin 1) _ _
    · exact Fin.ext this
    · exact Subsingleton.elim (α := Fin 1) _ _
  · rw [val_main_v38_apply, val_main_v37_apply, val_main_v36_apply, val_main_v11_apply, val_main_v10_apply, val_main_v9_apply,
      val_main_cst_2_apply, val_main_cst_6_apply, val_main_cst_7_apply, dot_tie a w x g i _ rfl]
    pointwise

open Cert.Dh2RefIdeal.Read in
/-- The reference's gradient of the rows at one place. -/
theorem dx_tie (a : S4096x8192.Idx → EReal) (w : S1x2048x8192.Idx → EReal) (x : S1x4096x2048.Idx → EReal) (rs : S4096x2048.Idx → EReal)
    (g : S1x2048.Idx → EReal) (i : Fin 4096) (j : Fin 2048) : val_main_v48 (F := Ideal) a w x rs g (ix2 i j)
    = dxRow (refDh a w i) (fun k => x (ix3 (0 : Fin 1) i k)) (fun k => g (ix2 (0 : Fin 1) k)) (rs (ix2 i j)) j := by
  have hy : idx_main_v47 (ix2 i j) = ix3 (0 : Fin 1) i j := by funext a; fin_cases a <;> apply Fin.ext <;> simp <;> omega
  have h33 : idx_main_v33 (ix3 (0 : Fin 1) i j) = ix3 (0 : Fin 1) i (0 : Fin 1) := by funext a; fin_cases a <;> rfl
  have h20 : idx_main_v20 (ix3 (0 : Fin 1) i j) = ix2 i j := by funext a; fin_cases a <;> rfl
  have h27 : idx_main_v0 (idx_main_v14 (idx_main_v27 (ix3 (0 : Fin 1) i j))) = ix2 (0 : Fin 1) j := by
    funext a; fin_cases a <;> apply Fin.ext <;> simp <;> omega
  rw [val_main_v48_apply, val_main_v47_apply, hy, val_main_v45_apply, val_main_v44_apply, val_main_v43_apply, val_main_v42_apply,
    coef_tie a w x g i j _ rfl, val_main_v35_apply, val_main_v34_apply, val_main_v33_apply, val_main_v28_apply, val_main_v27_apply,
    val_main_v14_apply, val_main_v0_apply, val_main_v20_apply, val_main_v19_apply, dh_tie a w i j _ rfl, h33, h20, h27]
  pointwise
  refine (norm_grad (fun k => x (ix3 (0 : Fin 1) i k)) (fun k => refDh a w i k * g (ix2 (0 : Fin 1) k)) (rs (ix2 i j)) j _ lit_eps
    (val_main_v7 (F := Ideal) x (ix3 (0 : Fin 1) i (0 : Fin 1))) (val_main_v8 (F := Ideal) x (ix3 (0 : Fin 1) i (0 : Fin 1))) _ ?_ ?_
    (by rw [← lit_2048, ← lit_neg_half])).symm.trans ?_
  · rw [ms_tie x i _ rfl, lit_2048]
  · rw [val_main_v8_apply]; pointwise
  · unfold dxRow
    rw [rms_tie x i _ rfl, lit_2048]

open Cert.Dh2RefIdeal.Read in
/-- The reference's gradient of the gain at one place. -/
theorem dg_tie (a : S4096x8192.Idx → EReal) (w : S1x2048x8192.Idx → EReal) (x : S1x4096x2048.Idx → EReal) (u : Fin 1) (j : Fin 2048) :
    val_main_v46 (F := Ideal) a w x (ix2 u j)
    = ∑ r : Fin 4096, refDh a w r j * (x (ix3 (0 : Fin 1) r j) * rms fun k => x (ix3 (0 : Fin 1) r k)) := by
  rw [val_main_v46_apply]
  unfold val_main_v29
  refine (reduce_unit _ _ _ _ (ix3 (0 : Fin 1) (0 : Fin 1) j) ?_ ?_).trans ?_
  · funext b; fin_cases b; rfl
  · intro i' h
    idx_vars i'
    have := congrArg Fin.val (congrFun h 0)
    funext b
    fin_cases b
    · exact Subsingleton.elim (α := Fin 1) _ _
    · exact Subsingleton.elim (α := Fin 1) _ _
    · exact Fin.ext this
  · simp only [val_main_v26_apply, val_main_v25_apply, val_main_v24_apply, val_main_v13_apply, val_main_v12_apply, val_main_cst_3_apply, val_main_cst_4_apply]
    pointwise
    refine Finset.sum_congr rfl fun r _ => ?_
    rw [dh_tie a w r j _ (by funext a; fin_cases a <;> apply Fin.ext <;> simp <;> omega),
      rms_tie x r _ (by funext a; fin_cases a <;> apply Fin.ext <;> simp <;> omega), mul_comm]
    refine Ideal.mul_congr rfl (Ideal.mul_congr (congrArg x ?_) rfl)
    funext a; fin_cases a <;> apply Fin.ext <;> simp <;> omega

/-! ## The claims -/

/-- The reference runs to its end, leaves its arguments as they were and has no counter that could stand above zero. -/
theorem reference_frame : Cert.quiescent_Dh2RefIdeal (hDh2RefIdeal := Cert.Dh2RefIdeal.Gen.facts) := fun m ρ _ =>
  (θ_run Cert.Dh2RefIdeal.defs _ _).mono
    (fun r h => ⟨fun c => (h c).2.2, Idealize.ShloMosaic.sem_eq_zero_of_no_sems (by decide) r.2⟩)
    (Cert.Dh2RefIdeal.Value.run (F := Ideal) m ρ)

/-- The call's first result is the gradient of the rows. -/
theorem dx_end (c : Dev nD) : G5 m c = Cert.Dh2RefIdeal.Read.val_main_v48 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (final5 m c).symm.trans ((dx_array m c).trans ?_)
  funext i
  idx_vars i
  refine Eq.trans ?_ (dx_tie _ _ _ _ _ i0 i1).symm
  refine (congrArg (fun f => dxRow f (fun k => V m c main_v4 (ix2 i0 k)) (fun k => V m c main_arg4 (ix2 0 k)) (V m c main_arg3 (ix2 i0 i1)) i1)
    (funext fun j => dhAt_eq m c (m ((c : Thread nD τ).loc main_arg0)) i0 j)).trans ?_
  exact congrArg (fun f => dxRow (refDh (m ((c : Thread nD τ).loc main_arg0)) (m ((c : Thread nD τ).loc main_arg1)) i0) f
    (fun k => m ((c : Thread nD τ).loc main_arg4) (ix2 0 k)) (m ((c : Thread nD τ).loc main_arg3) (ix2 i0 i1)) i1)
    (funext fun k => x_read m c i0 k)

/-- The call's second result is the gradient of the gain. -/
theorem dg_end (c : Dev nD) : G6 m c = Cert.Dh2RefIdeal.Read.val_main_v46 (F := Ideal) (m ((c : Thread nD τ).loc main_arg0))
    (m ((c : Thread nD τ).loc main_arg1)) (m ((c : Thread nD τ).loc main_arg2)) := by
  refine (final6 m c).symm.trans ((dg_array m c).trans ?_)
  funext i
  idx_vars i
  refine Eq.trans ?_ (dg_tie _ _ _ i0 i1).symm
  unfold dgOf
  refine Finset.sum_congr rfl fun r _ => ?_
  exact Ideal.mul_congr (dhAt_eq m c (m ((c : Thread nD τ).loc main_arg0)) r i1)
    (Ideal.mul_congr (x_read m c r i1) (congrArg rms (funext fun k => x_read m c r k)))

/-- The call and the reference's lines end with equal results, whatever the arguments. -/
theorem algebraic : Cert.algebraic_Dh2Ideal_Dh2RefIdeal (hDh2Ideal := Cert.Dh2Ideal.Gen.facts)
    (hDh2RefIdeal := Cert.Dh2RefIdeal.Gen.facts) := by
  intro m ρ m' ρ' _ hagree
  refine ⟨fun c => G5 m c, fun c => G6 m c, run m ρ, ?_⟩
  refine (θ_run Cert.Dh2RefIdeal.defs _ _).mono (fun r h c => ?_) (Cert.Dh2RefIdeal.Value.run (F := Ideal) m' ρ')
  obtain ⟨h0, h1, h2, h3, h4⟩ := hagree c
  refine ⟨(h c).1.trans ?_, (h c).2.1.trans ?_, (h c).2.2⟩
  · rw [Cert.Dh2RefIdeal.Read.val_main_v48_eq, h0, h1, h2, h3, h4]
    exact (dx_end m c).symm
  · rw [Cert.Dh2RefIdeal.Read.val_main_v46_eq, h0, h1, h2]
    exact (dg_end m c).symm

end Cert.Dh2Ideal.Sound
end
-- ==== Proof.Dh1Arrays.lean ====
module

public import proofs.«01_k».proof.Proof.Gen.Dh1Ideal.Value
public import Idealize.ShloMosaic.Lib.Pipeline.ValueKit
public import Idealize.ShloMosaic.Lib.Pipeline.ReadBack
public import proofs.«01_k».proof.Proof.Pieces
public import proofs.«01_k».proof.Proof.NormGrad

@[expose] public section

set_option maxRecDepth 16384

noncomputable section

namespace Cert.Dh1Ideal.Sound

open Cert.NormGrad Cert.Dh1Ideal Cert.Dh1Ideal.Gen Cert.Dh1Ideal.Value Idealize.ShloMosaic Idealize.ShloMosaic.TcCoe Idealize.SL.Sem

variable (m : (ℓ : Loc nD τ sig) → Buf (Elt Ideal) ℓ)

/-- One place of a tile's product: row `r` of the one block times row `j` of the other. -/
def part (a : S512x768.Idx → EReal) (b : S1x2048x768.Idx → EReal) (r : Fin 512) (j : Fin 2048) : EReal :=
  ∑ k : Fin 768, a (ix2 r k) * b (ix3 (0 : Fin 1) j k)

/-- The same at an index. -/
def partAt (a : S512x768.Idx → EReal) (b : S1x2048x768.Idx → EReal) (y : S512x2048.Idx) : EReal := part a b (y 0) (y 1)

/-- At the first point of a tile the running sum is that point's product. -/
theorem acc_A (c : Dev nD) (t : Fin cfg0.N) (h0 : t.val % 4 = 0) (h1 : t.val % 4 ≤ 2) (h2 : ¬t.val % 4 = 3)
    (y : S512x2048.Idx) : (outsAt0 m c t.val t.isLt).2.2 y = part (iblk m c 0 t) (iblk m c 1 t) (y 0) (y 1) := by
  rw [outsAt0_A m c t h0 h1 h2]
  frame_open
  simp (disch := decide) only [↓ View.readCov_skip, ↓ View.readCov_cons_toLoadRect, ↓ View.readCov_fill]
  frame_out
  change _ = partAt (iblk m c 0 t) (iblk m c 1 t) y
  rw [← List.singleton_append (l := [_]), ← List.cons_append, ← List.cons_append, ← List.cons_append]
  refine View.canon_append_of_piecesOf (Val := Elt Ideal) (e := .f32) (partAt (iblk m c 0 t) (iblk m c 1 t)) _ _ ?_ y ?_
  on_goal 2 => exact View.cover_of_tiledL _ ![512, 512] rfl y
  refine ⟨fun x => ?_, fun x => ?_, fun x => ?_, fun x => ?_, trivial⟩
  all_goals unfold_payloads
  all_goals pointwise [partAt, part]
  all_goals blk_point [iblk]

/-- At the second and third point of a tile the running sum grows by that point's product. -/
theorem acc_B (c : Dev nD) (t : Fin cfg0.N) (h0 : ¬t.val % 4 = 0) (h1 : t.val % 4 ≤ 2) (h2 : ¬t.val % 4 = 3)
    (y : S512x2048.Idx) : (outsAt0 m c t.val t.isLt).2.2 y
      = (outsAt0 m c (t.val - 1) (by omega)).2.2 y + part (iblk m c 0 t) (iblk m c 1 t) (y 0) (y 1) := by
  rw [outsAt0_B m c t h0 h1 h2]
  frame_out
  simp only [read_unread_whole]
  generalize (outsAt0 m c (t.val - 1) _).2.2 = P
  canon_tiles x h
  all_goals unfold_payloads
  all_goals pointwise [part]
  all_goals blk_point [iblk]

/-- The running sum after the last point, from the sum before it. -/
def grown (P : S512x2048.Idx → EReal) (a : S512x768.Idx → EReal) (b : S1x2048x768.Idx → EReal) (y : S512x2048.Idx) : EReal :=
  P y + part a b (y 0) (y 1)

/-- One place of what a tile adds to the gradient of the gain. -/
def dgAt (d x : S512x2048.Idx → EReal) (j : Fin 2048) : EReal :=
  ∑ r : Fin 512, d (ix2 r j) * (x (ix2 r j) * rms fun k => x (ix2 r k))

/-- The eight stores of the last point are parts of the grown running sum. -/
theorem grown_pieces (P : S512x2048.Idx → EReal) (a : S512x768.Idx → EReal) (b : S1x2048x768.Idx → EReal) : View.PiecesOf (Val := Elt Ideal) (e := .f32) (grown P a b)
    [⟨Rect.unit ![256, 1536] ![256, 512] inb_S512x2048_S256x512_256_1536, k0_pay34 (F := Ideal) (View.ld (Val := Elt Ideal) (e' := .bf16) a (Rect.unit ![256, 0] ![256, 768] inb_S512x768_S256x768_256_0)) (View.ld (Val := Elt Ideal) (e' := .f32) P (Rect.unit ![256, 1536] ![256, 512] inb_S512x2048_S256x512_256_1536)) (View.ld (Val := Elt Ideal) (e' := .bf16) b (Rect.unit ![0, 1536, 0] ![1, 512, 768] inb_S1x2048x768_S1x512x768_0_1536_0))⟩,
      ⟨Rect.unit ![256, 1024] ![256, 512] inb_S512x2048_S256x512_256_1024, k0_pay33 (F := Ideal) (View.ld (Val := Elt Ideal) (e' := .bf16) a (Rect.unit ![256, 0] ![256, 768] inb_S512x768_S256x768_256_0)) (View.ld (Val := Elt Ideal) (e' := .f32) P (Rect.unit ![256, 1024] ![256, 512] inb_S512x2048_S256x512_256_1024)) (View.ld (Val := Elt Ideal) (e' := .bf16) b (Rect.unit ![0, 1024, 0] ![1, 512, 768] inb_S1x2048x768_S1x512x768_0_1024_0))⟩,
      ⟨Rect.unit ![256, 512] ![256, 512] inb_S512x2048_S256x512_256_512, k0_pay32 (F := Ideal) (View.ld (Val := Elt Ideal) (e' := .bf16) a (Rect.unit ![256, 0] ![256, 768] inb_S512x768_S256x768_256_0)) (View.ld (Val := Elt Ideal) (e' := .f32) P (Rect.unit ![256, 512] ![256, 512] inb_S512x2048_S256x512_256_512)) (View.ld (Val := Elt Ideal) (e' := .bf16) b (Rect.unit ![0, 512, 0] ![1, 512, 768] inb_S1x2048x768_S1x512x768_0_512_0))⟩,
      ⟨Rect.unit ![256, 0] ![256, 512] inb_S512x2048_S256x512_256_0, k0_pay31 (F := Ideal) (View.ld (Val := Elt Ideal) (e' := .bf16) a (Rect.unit ![256, 0] ![256, 768] inb_S512x768_S256x768_256_0)) (View.ld (Val := Elt Ideal) (e' := .f32) P (Rect.unit ![256, 0] ![256, 512] inb_S512x2048_S256x512_256_0)) (View.ld (Val := Elt Ideal) (e' := .bf16) b (Rect.unit ![0, 0, 0] ![1, 512, 768] inb_S1x2048x768_S1x512x768_0_0_0))⟩,
      ⟨Rect.unit ![0, 1536] ![256, 512] inb_S512x2048_S256x512_0_1536, k0_pay13 (F := Ideal) (View.ld (Val := Elt Ideal) (e' := .bf16) a (Rect.unit ![0, 0] ![256, 768] inb_S512x768_S256x768_0_0)) (View.ld (Val := Elt Ideal) (e' := .f32) P (Rect.unit ![0, 1536] ![256, 512] inb_S512x2048_S256x512_0_1536)) (View.ld (Val := Elt Ideal) (e' := .bf16) b (Rect.unit ![0, 1536, 0] ![1, 512, 768] inb_S1x2048x768_S1x512x768_0_1536_0))⟩,
      ⟨Rect.unit ![0, 1024] ![256, 512] inb_S512x2048_S256x512_0_1024, k0_pay12 (F := Ideal) (k0_pay11 (View.ld (Val := Elt Ideal) (e' := .bf16) a (Rect.unit ![0, 0] ![256, 768] inb_S512x768_S256x768_0_0)) (View.ld (Val := Elt Ideal) (e' := .f32) P (Rect.unit ![0, 1024] ![256, 512] inb_S512x2048_S256x512_0_1024)) (View.ld (Val := Elt Ideal) (e' := .bf16) b (Rect.unit ![0, 1024, 0] ![1, 512, 768] inb_S1x2048x768_S1x512x768_0_1024_0)))⟩,
      ⟨Rect.unit ![0, 512] ![256, 512] inb_S512x2048_S256x512_0_512, k0_pay10 (F := Ideal) (View.ld (Val := Elt Ideal) (e' := .bf16) a (Rect.unit ![0, 0] ![256, 768] inb_S512x768_S256x768_0_0)) (View.ld (Val := Elt Ideal) (e' := .f32) P (Rect.unit ![0, 512] ![256, 512] inb_S512x2048_S256x512_0_512)) (View.ld (Val := Elt Ideal) (e' := .bf16) b (Rect.unit ![0, 512, 0] ![1, 512, 768] inb_S1x2048x768_S1x512x768_0_512_0))⟩,
      ⟨Rect.unit ![0, 0] ![256, 512] inb_S512x2048_S256x512_0_0, k0_pay9 (F := Ideal) (View.ld (Val := Elt Ideal) (e' := .bf16) a (Rect.unit ![0, 0] ![256, 768] inb_S512x768_S256x768_0_0)) (View.ld (Val := Elt Ideal) (e' := .f32) P (Rect.unit ![0, 0] ![256, 512] inb_S512x2048_S256x512_0_0)) (View.ld (Val := Elt Ideal) (e' := .bf16) b (Rect.unit ![0, 0, 0] ![1, 512, 768] inb_S1x2048x768_S1x512x768_0_0_0))⟩] := by
  refine ⟨fun x => ?_, fun x => ?_, fun x => ?_, fun x => ?_, fun x => ?_, fun x => ?_, fun x => ?_, fun x => ?_, trivial⟩ <;> unfold_payloads <;>
    pointwise [grown, part] <;> blk_point

/-- What the four stores of half of the rows leave for a load of 128 of them. -/
theorem readCov_grown (P : S512x2048.Idx → EReal) (a : S512x768.Idx → EReal) (b : S1x2048x768.Idx → EReal) (v : View sig Kind.tc Space.vmem S512x2048 EltTy.f32) (L)
    (r : Rect S512x2048) (h : View.PiecesOf (Val := Elt Ideal) (grown P a b) L) (hc : LoadRect.covChk (L.map Sigma.fst) r.toLoadRect
      (.split 1 1024 (.split 1 512 (.leaf 3) (.leaf 2)) (.split 1 512 (.leaf 1) (.leaf 0))) = true) :
    v.readCov L r.toLoadRect = View.ld (grown P a b) r :=
  Pieces.readCov_of_pieces (Val := Elt Ideal) (grown P a b) _ v L r h hc

/-- At the last point of a tile the rows' gradient is stored. -/
theorem dx_block (c : Dev nD) (t : Fin cfg0.N) (h2 : t.val % 4 = 3) (y : S512x2048.Idx) : (outsAt0 m c t.val t.isLt).1 y
      = dxRow (fun k => grown (outsAt0 m c (t.val - 1) (by omega)).2.2 (iblk m c 0 t) (iblk m c 1 t) (ix2 (y 0) k))
          (fun k => iblk m c 2 t (ix2 (y 0) k)) (fun k => iblk m c 4 t (ix2 0 k)) (iblk m c 3 t y) (y 1) := by
  by_cases h3 : t.val < 4
  on_goal 1 => rw [outsAt0_C m c t (by omega) (by omega) h2 h3]
  on_goal 2 => rw [outsAt0_D m c t (by omega) (by omega) h2 h3]
  all_goals
    frame_open
    simp (disch := decide) only [↓ View.readCov_skip, ↓ View.readCov_cons_toLoadRect, ↓ View.readCov_fill]
    frame_out
    simp only [read_unread_whole]
    generalize (outsAt0 m c (t.val - 1) _).2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    canon_tiles x h
    all_goals unfold_payloads
    all_goals pointwise [dxRow, rms]
    all_goals blk_point [iblk]

/-- At the last point of a tile the gain's gradient grows by that tile's part, from nothing at the first tile. -/
theorem dg_step (c : Dev nD) (t : Fin cfg0.N) (h2 : t.val % 4 = 3) (y : S1x2048.Idx) : (outsAt0 m c t.val t.isLt).2.1 y
      = (if t.val < 4 then 0 else (outsAt0 m c (t.val - 1) (by omega)).2.1 y)
        + dgAt (grown (outsAt0 m c (t.val - 1) (by omega)).2.2 (iblk m c 0 t) (iblk m c 1 t)) (iblk m c 2 t) (y 1) := by
  by_cases h3 : t.val < 4
  on_goal 1 => rw [outsAt0_C m c t (by omega) (by omega) h2 h3, if_pos h3]
  on_goal 2 => rw [outsAt0_D m c t (by omega) (by omega) h2 h3, if_neg h3]
  all_goals
    frame_open
    simp (disch := decide) only [↓ View.readCov_skip, ↓ View.readCov_cons_toLoadRect, ↓ View.readCov_fill]
    frame_out
    simp only [read_unread_whole]
    generalize (outsAt0 m c (t.val - 1) _).2.2 = P
    have H := grown_pieces P (iblk m c 0 t) (iblk m c 1 t)
    rw [readCov_grown _ _ _ _ _ (Rect.unit ![0, 0] ![128, 2048] inb_S512x2048_S128x2048_0_0) H.2.2.2.2 rfl,
      readCov_grown _ _ _ _ _ (Rect.unit ![128, 0] ![128, 2048] inb_S512x2048_S128x2048_128_0) H.2.2.2.2 rfl,
      readCov_grown _ _ _ _ _ (Rect.unit ![256, 0] ![128, 2048] inb_S512x2048_S128x2048_256_0) H rfl,
      readCov_grown _ _ _ _ _ (Rect.unit ![384, 0] ![128, 2048] inb_S512x2048_S128x2048_384_0) H rfl]
    clear H
    generalize grown P (iblk m c 0 t) (iblk m c 1 t) = d
    unfold_payloads
    pointwise [dgAt, rms]
    rw [sum_rows]
    try simp only [add_assoc]

end Cert.Dh1Ideal.Sound
end
-- ==== Proof.Dh1Sums.lean ====
module

public import proofs.«01_k».proof.Proof.Dh1Arrays

@[expose] public section

set_option maxRecDepth 16384

noncomputable section

namespace Cert.Dh1Ideal.Sound

open Cert.NormGrad Cert.Dh1Ideal Cert.Dh1Ideal.Gen Cert.Dh1Ideal.Value Idealize.ShloMosaic Idealize.ShloMosaic.TcCoe Idealize.SL.Sem

variable (m : (ℓ : Loc nD τ sig) → Buf (Elt Ideal) ℓ)

/-- At the first three points of a tile the gain's gradient is carried. -/
theorem dg_carry (c : Dev nD) (t : Fin cfg0.N) (ht : 0 < t.val) (h2 : ¬t.val % 4 = 3) (y : S1x2048.Idx) :
    (outsAt0 m c t.val t.isLt).2.1 y = (outsAt0 m c (t.val - 1) (by omega)).2.1 y := by
  by_cases h0 : t.val % 4 = 0
  on_goal 1 => rw [outsAt0_A m c t h0 (by omega) h2]
  on_goal 2 => rw [outsAt0_B m c t h0 (by omega) h2]
  all_goals rfl

/-- The grid has 32 points. -/
theorem lt_32 (t : Fin cfg0.N) : t.val < 32 := lt_of_lt_of_eq t.isLt N_0

/-- Where the windows stand at a grid point. -/
theorem idx : ∀ t : Fin cfg0.N, win0_0.index t = ![t.val / 4, t.val % 4] ∧ win0_1.index t = ![t.val % 4, 0, 0]
    ∧ win0_2.index t = ![t.val / 4, 0] ∧ win0_3.index t = ![t.val / 4, 0] ∧ win0_4.index t = ![0, 0] ∧ win0_5.index t = ![t.val / 4, 0] :=
  (by decide +kernel : ∀ t : Fin grid0.N, _)

/-- One place of one of the four parts of the product: row `r` of the cotangent times row `j` of a group of the weights' columns. -/
def groupAt (a : S4096x3072.Idx → EReal) (w : S4x2048x768.Idx → EReal) (r : Fin 4096) (j : Fin 2048) (q : Fin 4) : EReal :=
  ∑ k : Fin 768, a (ix2 r ⟨q.val * 768 + k.val, by omega⟩) * w (ix3 q j k)

/-- One place of the product, the sum of the four. -/
def dhAt (a : S4096x3072.Idx → EReal) (w : S4x2048x768.Idx → EReal) (r : Fin 4096) (j : Fin 2048) : EReal :=
  ∑ q : Fin 4, groupAt a w r j q

/-- One point's part of the product. -/
theorem part_eq (c : Dev nD) (t : Fin cfg0.N) (r : Fin 512) (j : Fin 2048) (R : Fin 4096) (q : Fin 4) (hR : R.val = t.val / 4 * 512 + r.val)
    (hq : q.val = t.val % 4) : part (iblk m c 0 t) (iblk m c 1 t) r j = groupAt (V m c main_arg0) (V m c main_v3) R j q := by
  obtain ⟨e0, e1, e2, e3, e4, e5⟩ := idx t
  pointwise [part, groupAt]
  blk_point [iblk, e0, e1]

/-- The running sum after the last point of a tile is the product of the tile's rows. -/
theorem grown_eq (c : Dev nD) (t : Fin cfg0.N) (h2 : t.val % 4 = 3) (r : Fin 512) (j : Fin 2048) (R : Fin 4096) (hR : R.val = t.val / 4 * 512 + r.val) :
    grown (outsAt0 m c (t.val - 1) (by omega)).2.2 (iblk m c 0 t) (iblk m c 1 t) (ix2 r j) = dhAt (V m c main_arg0) (V m c main_v3) R j := by
  have hN := lt_32 t
  have a0 : (outsAt0 m c (t.val - 3) (by omega)).2.2 (ix2 r j) = groupAt (V m c main_arg0) (V m c main_v3) R j 0 := (acc_A m c ⟨t.val - 3, by omega⟩ (by simp; omega) (by simp; omega) (by simp; omega) (ix2 r j)).trans
    (part_eq m c _ _ _ R 0 (by simp; omega) (by simp; omega))
  have a1 : (outsAt0 m c (t.val - 2) (by omega)).2.2 (ix2 r j) = (outsAt0 m c (t.val - 2 - 1) (by omega)).2.2 (ix2 r j) + groupAt (V m c main_arg0) (V m c main_v3) R j 1 := (acc_B m c ⟨t.val - 2, by omega⟩ (by simp; omega) (by simp; omega) (by simp; omega) (ix2 r j)).trans
    (congrArg (_ + ·) (part_eq m c _ _ _ R 1 (by simp; omega) (by simp; omega)))
  have a2 : (outsAt0 m c (t.val - 1) (by omega)).2.2 (ix2 r j) = (outsAt0 m c (t.val - 1 - 1) (by omega)).2.2 (ix2 r j) + groupAt (V m c main_arg0) (V m c main_v3) R j 2 := (acc_B m c ⟨t.val - 1, by omega⟩ (by simp; omega) (by simp; omega) (by simp; omega) (ix2 r j)).trans
    (congrArg (_ + ·) (part_eq m c _ _ _ R 2 (by simp; omega) (by simp; omega)))
  refine (congrArg (_ + ·) (part_eq m c t _ _ R 3 (by simp; omega) (by simp; omega))).trans ?_
  unfold dhAt
  rw [Fin.sum_univ_four, ← a0]
  simp only [Nat.sub_sub, Nat.reduceAdd] at a1 a2
  exact congrArg (· + _) (a2.trans (congrArg (· + _) a1))

/-- The gradient of the rows, as an array. -/
def dxOf (a : S4096x3072.Idx → EReal) (w : S4x2048x768.Idx → EReal) (x rs : S4096x2048.Idx → EReal) (g : S1x2048.Idx → EReal)
    (i : S4096x2048.Idx) : EReal :=
  dxRow (dhAt a w (i 0)) (fun k => x (ix2 (i 0) k)) (fun k => g (ix2 0 k)) (rs (ix2 (i 0) (i 1))) (i 1)

/-- The gradient of the gain, as an array. -/
def dgOf (a : S4096x3072.Idx → EReal) (w : S4x2048x768.Idx → EReal) (x : S4096x2048.Idx → EReal) (i : S1x2048.Idx) : EReal :=
  ∑ r : Fin 4096, dhAt a w r (i 1) * (x (ix2 r (i 1)) * rms fun k => x (ix2 r k))

/-- The call leaves the gradient of the rows in its first result. -/
theorem dx_array (c : Dev nD) : (dats m 0 c).arrAt 5 cfg0.N
    = dxOf (V m c main_arg0) (V m c main_v3) (V m c main_v4) (V m c main_arg3) (V m c main_arg4) := by
  refine (dats m 0 c).arrAt_eq_of_covers 5 _ (by decide +kernel) fun t hf y => ?_
  have h2 : t.val % 4 = 3 := by
    revert hf; exact (by decide +kernel : ∀ t : Fin grid0.N, (cfg0.win 5).flush t = true → t.val % 4 = 3) t
  have hN := lt_32 t
  obtain ⟨e0, e1, e2, e3, e4, e5⟩ := idx t
  blk_simp
  rw [after0_5]
  refine (dx_block m c t h2 y).trans ?_
  have hd : (fun k => grown (outsAt0 m c (t.val - 1) (lt_of_le_of_lt (Nat.sub_le _ _) t.isLt)).2.2 (iblk m c 0 t) (iblk m c 1 t) (ix2 (y 0) k))
      = dhAt (V m c main_arg0) (V m c main_v3) ⟨t.val / 4 * 512 + (y 0).val, by have := (y 0).isLt; simp at this; omega⟩ :=
    funext fun k => grown_eq m c t h2 _ _ _ rfl
  rw [hd]
  pointwise [dxOf, dxRow, rms]
  blk_point [iblk, e0, e1, e2, e3, e4, e5]

/-- The last point of the grid. -/
def tLast : Fin cfg0.N := ⟨31, lt_of_lt_of_eq (by omega) N_0.symm⟩

/-- What tile `q` adds to the gradient of the gain. -/
def tileAt (a : S4096x3072.Idx → EReal) (w : S4x2048x768.Idx → EReal) (x : S4096x2048.Idx → EReal) (j : Fin 2048) (q : Fin 8) : EReal :=
  ∑ r : Fin 512, dhAt a w ⟨q.val * 512 + r.val, by omega⟩ j
    * (x (ix2 (⟨q.val * 512 + r.val, by omega⟩ : Fin 4096) j) * rms fun k => x (ix2 (⟨q.val * 512 + r.val, by omega⟩ : Fin 4096) k))

/-- What the last point of a tile adds, in terms of the arrays. -/
theorem dg_tile (c : Dev nD) (t : Fin cfg0.N) (h2 : t.val % 4 = 3) (j : Fin 2048) (q : Fin 8) (hq : q.val = t.val / 4) :
    dgAt (grown (outsAt0 m c (t.val - 1) (by omega)).2.2 (iblk m c 0 t) (iblk m c 1 t)) (iblk m c 2 t) j
    = tileAt (V m c main_arg0) (V m c main_v3) (V m c main_v4) j q := by
  have hN := lt_32 t
  obtain ⟨e0, e1, e2, e3, e4, e5⟩ := idx t
  unfold dgAt tileAt
  refine Finset.sum_congr rfl fun r _ => ?_
  rw [grown_eq m c t h2 r j ⟨q.val * 512 + r.val, by omega⟩ (by simp [hq])]
  pointwise [rms]
  blk_point [iblk, e2]

/-- After the last point the gain's gradient is the sum of what the eight tiles add. -/
theorem dg_last (c : Dev nD) (y : S1x2048.Idx) : (outsAt0 m c (4 * 7 + 3) (lt_of_lt_of_eq (by omega) N_0.symm)).2.1 y
    = ∑ q, tileAt (V m c main_arg0) (V m c main_v3) (V m c main_v4) (y 1) q := by
  refine eight_steps (fun n h => (outsAt0 m c (4 * n + 3) (lt_of_lt_of_eq (by omega) N_0.symm)).2.1 y)
    (tileAt (V m c main_arg0) (V m c main_v3) (V m c main_v4) (y 1)) ?_ fun n h => ?_
  · refine (dg_step m c ⟨4 * 0 + 3, lt_of_lt_of_eq (by omega) N_0.symm⟩ (by simp) y).trans ?_
    rw [if_pos (by dsimp only; omega)]
    exact congrArg (0 + ·) (dg_tile m c ⟨4 * 0 + 3, lt_of_lt_of_eq (by omega) N_0.symm⟩ (by simp) (y 1) 0 (by simp))
  · refine (dg_step m c ⟨4 * (n + 1) + 3, lt_of_lt_of_eq (by omega) N_0.symm⟩ (by dsimp only; omega) y).trans ?_
    rw [if_neg (by dsimp only; omega)]
    refine congrArg₂ (· + ·) ?_ (dg_tile m c ⟨4 * (n + 1) + 3, lt_of_lt_of_eq (by omega) N_0.symm⟩ (by dsimp only; omega) (y 1) ⟨n + 1, h⟩ (by dsimp only; omega))
    refine (dg_carry m c ⟨4 * n + 6, lt_of_lt_of_eq (by omega) N_0.symm⟩ (by dsimp only; omega) (by dsimp only; omega) y).trans ?_
    refine (dg_carry m c ⟨4 * n + 5, lt_of_lt_of_eq (by omega) N_0.symm⟩ (by dsimp only; omega) (by dsimp only; omega) y).trans ?_
    exact dg_carry m c ⟨4 * n + 4, lt_of_lt_of_eq (by omega) N_0.symm⟩ (by dsimp only; omega) (by dsimp only; omega) y

/-- The tiles' parts together are the sum over all rows. -/
theorem tiles_sum (a : S4096x3072.Idx → EReal) (w : S4x2048x768.Idx → EReal) (x : S4096x2048.Idx → EReal) (i : S1x2048.Idx) :
    ∑ q, tileAt a w x (i 1) q = dgOf a w x i :=
  Fin.sum_mul_add_fin 8 512 fun r : Fin 4096 => dhAt a w r (i 1) * (x (ix2 r (i 1)) * rms fun k => x (ix2 r k))

/-- The call leaves the gradient of the gain in its second result. -/
theorem dg_array (c : Dev nD) : (dats m 0 c).arrAt 6 cfg0.N
    = dgOf (V m c main_arg0) (V m c main_v3) (V m c main_v4) := by
  refine (dats m 0 c).arrAt_eq_of_after_last 6 tLast (by decide +kernel) _ fun y => ?_
  blk_simp
  rw [after0_6]
  refine Eq.trans (dg_last m c y) ?_
  exact tiles_sum (V m c main_arg0) (V m c main_v3) (V m c main_v4) y

end Cert.Dh1Ideal.Sound
end
-- ==== Proof.Dh1.lean ====
module

public import proofs.«01_k».proof.Defs
public import proofs.«01_k».proof.Proof.Dh1Sums
public import proofs.«01_k».proof.Proof.Gen.Dh1RefIdeal
public import proofs.«01_k».proof.Proof.Gen.Dh1RefIdeal.Run
public import proofs.«01_k».proof.Proof.Gen.Dh1RefIdeal.Read
public import Idealize.ShloMosaic.Lib.StableHlo.ReadAt

@[expose] public section

set_option maxRecDepth 16384

noncomputable section

namespace Cert.Dh1Ideal.Sound

open Cert.NormGrad Cert.Dh1Ideal Cert.Dh1Ideal.Gen Cert.Dh1Ideal.Value Idealize.ShloMosaic Idealize.ShloMosaic.TcCoe Idealize.SL.Sem

variable (m : (ℓ : Loc nD τ sig) → Buf (Elt Ideal) ℓ)

/-! ## What the host prepares -/

/-- The weights as the kernel takes them: group `g` holds columns `768 g` up to `768 g + 767`. -/
theorem w_read (c : Dev nD) (g : Fin 4) (k : Fin 2048) (j : Fin 768) : V m c main_v3 (ix3 g k j)
    = m ((c : Thread nD τ).loc main_arg1) (ix3 (0 : Fin 1) k (⟨g.val * 768 + j.val, by omega⟩ : Fin 3072)) := by
  unfold V
  after_reads_at

/-- The rows as the kernel takes them. -/
theorem x_read (c : Dev nD) (i : Fin 4096) (j : Fin 2048) : V m c main_v4 (ix2 i j)
    = m ((c : Thread nD τ).loc main_arg2) (ix3 (0 : Fin 1) i j) := by
  unfold V
  after_reads_at

/-! ## The tie to the reference -/

/-- The product of the cotangent and the transposed weights at one place, over all columns. -/
def refDh (a : S4096x3072.Idx → EReal) (w : S1x2048x3072.Idx → EReal) (i : Fin 4096) (j : Fin 2048) : EReal :=
  ∑ l : Fin 3072, a (ix2 i l) * w (ix3 (0 : Fin 1) j l)

/-- The kernel's product in four groups is the product over all columns. -/
theorem dhAt_eq (c : Dev nD) (a : S4096x3072.Idx → EReal) (i : Fin 4096) (j : Fin 2048) :
    dhAt a (V m c main_v3) i j = refDh a (m ((c : Thread nD τ).loc main_arg1)) i j := by
  unfold dhAt groupAt refDh
  refine Eq.trans ?_ (Fin.sum_mul_add_fin 4 768 fun l : Fin 3072 =>
    a (ix2 i l) * (m ((c : Thread nD τ).loc main_arg1) : S1x2048x3072.Idx → EReal) (ix3 (0 : Fin 1) j l))
  refine Finset.sum_congr rfl fun q _ => Finset.sum_congr rfl fun k _ => ?_
  rw [w_read]

open Cert.Dh1RefIdeal.Read in
/-- The reference's product at one place. -/
theorem dh_tie (a : S4096x3072.Idx → EReal) (w : S1x2048x3072.Idx → EReal) (i : Fin 4096) (j : Fin 2048) (y : S1x4096x2048.Idx)
    (hy : y = ix3 (0 : Fin 1) i j) : val_main_v23 (F := Ideal) a w y = refDh a w i j := by
  subst hy
  simp only [val_main_v23_apply, val_main_v22_apply, val_main_v21_apply, val_main_v17_apply]
  unfold refDh
  refine Finset.sum_congr rfl fun k _ => ?_
  refine Ideal.mul_congr ?_ ?_
  · refine congrArg a ?_; funext a; fin_cases a <;> rfl
  · refine congrArg w ?_; funext a; fin_cases a <;> apply Fin.ext <;> simp <;> omega

open Cert.Dh1RefIdeal.Read in
/-- The reference's mean square of a row, with the constant added. -/
theorem ms_tie (x : S1x4096x2048.Idx → EReal) (i : Fin 4096) (y : Cert.Dh1RefIdeal.S1x4096x1.Idx) (hy : y = ix3 (0 : Fin 1) i (0 : Fin 1)) :
    val_main_v7 (F := Ideal) x y = Ideal.div (∑ k : Fin 2048, x (ix3 (0 : Fin 1) i k) * x (ix3 (0 : Fin 1) i k))
      (Ideal.ofBits .f32 0x45000000#32) + Ideal.ofBits .f32 0x358637BD#32 := by
  subst hy
  have e : ∀ k, idx_main_v2 (idx_main_v3 (ix3 (0 : Fin 1) i (0 : Fin 1))) k = ix3 (0 : Fin 1) i k := fun k => by
    funext a; fin_cases a <;> rfl
  simp only [val_main_v7_apply, val_main_v6_apply, val_main_v5_apply, val_main_v4_apply, val_main_v3_apply,
    val_main_v2_apply, val_main_v1_apply, val_main_cst_apply, val_main_cst_0_apply, val_main_cst_1_apply, e]
  pointwise

open Cert.Dh1RefIdeal.Read in
/-- The reference's root factor of a row. -/
theorem rms_tie (x : S1x4096x2048.Idx → EReal) (i : Fin 4096) (y : Cert.Dh1RefIdeal.S1x4096x1.Idx) (hy : y = ix3 (0 : Fin 1) i (0 : Fin 1)) :
    val_main_v8 (F := Ideal) x y = rms fun k => x (ix3 (0 : Fin 1) i k) := by
  rw [val_main_v8_apply, ms_tie x i y hy]
  unfold rms
  pointwise

open Cert.Dh1RefIdeal.Read in
/-- The reference's sum along a row of the scaled cotangent times the row. -/
theorem dot_tie (a : S4096x3072.Idx → EReal) (w : S1x2048x3072.Idx → EReal) (x : S1x4096x2048.Idx → EReal) (g : S1x2048.Idx → EReal)
    (i : Fin 4096) (y : Cert.Dh1RefIdeal.S1x4096x1.Idx) (hy : y = ix3 (0 : Fin 1) i (0 : Fin 1)) : val_main_v32 (F := Ideal) a w x g y
    = ∑ k : Fin 2048, x (ix3 (0 : Fin 1) i k) * (refDh a w i k * g (ix2 (0 : Fin 1) k)) := by
  subst hy
  simp only [val_main_v32_apply, val_main_v31_apply, val_main_v30_apply, val_main_cst_5_apply, val_main_v28_apply, val_main_v27_apply, val_main_v14_apply, val_main_v0_apply]
  pointwise
  refine Finset.sum_congr rfl fun k _ => ?_
  rw [dh_tie a w i k _ (by funext a; fin_cases a <;> apply Fin.ext <;> simp <;> omega)]
  refine Ideal.mul_congr ?_ (Ideal.mul_congr rfl ?_) <;> refine congrArg _ ?_ <;> funext a <;> fin_cases a <;> apply Fin.ext <;> simp <;> omega

open Cert.Dh1RefIdeal.Read in
/-- The reference's factor that carries the gradient through the mean square. -/
theorem coef_tie (a : S4096x3072.Idx → EReal) (w : S1x2048x3072.Idx → EReal) (x : S1x4096x2048.Idx → EReal) (g : S1x2048.Idx → EReal)
    (i : Fin 4096) (j : Fin 2048) (y : S1x4096x2048.Idx) (hy : y = ix3 (0 : Fin 1) i j) : val_main_v41 (F := Ideal) a w x g y
    = Ideal.div ((∑ k : Fin 2048, x (ix3 (0 : Fin 1) i k) * (refDh a w i k * g (ix2 (0 : Fin 1) k)))
      * (Ideal.ofBits .f32 0xBF000000#32 * Ideal.div (val_main_v8 (F := Ideal) x (ix3 (0 : Fin 1) i (0 : Fin 1)))
        (val_main_v7 (F := Ideal) x (ix3 (0 : Fin 1) i (0 : Fin 1))))) (Ideal.ofBits .f32 0x45000000#32) := by
  subst hy
  rw [val_main_v41_apply, val_main_v40_apply]
  unfold val_main_v39
  refine (reduce_unit _ _ _ _ (ix3 (0 : Fin 1) i (0 : Fin 1)) ?_ ?_).trans ?_
  · funext b; fin_cases b; rfl
  · intro i' h
    idx_vars i'
    have := congrArg Fin.val (congrFun h 0)
    funext b
    fin_cases b
    · exact Subsingleton.elim (α := Fin 1) _ _
    · exact Fin.ext this
    · exact Subsingleton.elim (α := Fin 1) _ _
  · rw [val_main_v38_apply, val_main_v37_apply, val_main_v36_apply, val_main_v11_apply, val_main_v10_apply, val_main_v9_apply,
      val_main_cst_2_apply, val_main_cst_6_apply, val_main_cst_7_apply, dot_tie a w x g i _ rfl]
    pointwise

open Cert.Dh1RefIdeal.Read in
/-- The reference's gradient of the rows at one place. -/
theorem dx_tie (a : S4096x3072.Idx → EReal) (w : S1x2048x3072.Idx → EReal) (x : S1x4096x2048.Idx → EReal) (rs : S4096x2048.Idx → EReal)
    (g : S1x2048.Idx → EReal) (i : Fin 4096) (j : Fin 2048) : val_main_v47 (F := Ideal) a w x rs g (ix2 i j)
    = dxRow (refDh a w i) (fun k => x (ix3 (0 : Fin 1) i k)) (fun k => g (ix2 (0 : Fin 1) k)) (rs (ix2 i j)) j := by
  have hy : idx_main_v47 (ix2 i j) = ix3 (0 : Fin 1) i j := by funext a; fin_cases a <;> apply Fin.ext <;> simp <;> omega
  have h33 : idx_main_v33 (ix3 (0 : Fin 1) i j) = ix3 (0 : Fin 1) i (0 : Fin 1) := by funext a; fin_cases a <;> rfl
  have h20 : idx_main_v20 (ix3 (0 : Fin 1) i j) = ix2 i j := by funext a; fin_cases a <;> rfl
  have h27 : idx_main_v0 (idx_main_v14 (idx_main_v27 (ix3 (0 : Fin 1) i j))) = ix2 (0 : Fin 1) j := by
    funext a; fin_cases a <;> apply Fin.ext <;> simp <;> omega
  rw [val_main_v47_apply, hy, val_main_v45_apply, val_main_v44_apply, val_main_v43_apply, val_main_v42_apply,
    coef_tie a w x g i j _ rfl, val_main_v35_apply, val_main_v34_apply, val_main_v33_apply, val_main_v28_apply, val_main_v27_apply,
    val_main_v14_apply, val_main_v0_apply, val_main_v20_apply, val_main_v19_apply, dh_tie a w i j _ rfl, h33, h20, h27]
  pointwise
  refine (norm_grad (fun k => x (ix3 (0 : Fin 1) i k)) (fun k => refDh a w i k * g (ix2 (0 : Fin 1) k)) (rs (ix2 i j)) j _ lit_eps
    (val_main_v7 (F := Ideal) x (ix3 (0 : Fin 1) i (0 : Fin 1))) (val_main_v8 (F := Ideal) x (ix3 (0 : Fin 1) i (0 : Fin 1))) _ ?_ ?_
    (by rw [← lit_2048, ← lit_neg_half])).symm.trans ?_
  · rw [ms_tie x i _ rfl, lit_2048]
  · rw [val_main_v8_apply]; pointwise
  · unfold dxRow
    rw [rms_tie x i _ rfl, lit_2048]

open Cert.Dh1RefIdeal.Read in
/-- The reference's gradient of the gain at one place. -/
theorem dg_tie (a : S4096x3072.Idx → EReal) (w : S1x2048x3072.Idx → EReal) (x : S1x4096x2048.Idx → EReal) (u : Fin 1) (j : Fin 2048) :
    val_main_v46 (F := Ideal) a w x (ix2 u j)
    = ∑ r : Fin 4096, refDh a w r j * (x (ix3 (0 : Fin 1) r j) * rms fun k => x (ix3 (0 : Fin 1) r k)) := by
  rw [val_main_v46_apply]
  unfold val_main_v29
  refine (reduce_unit _ _ _ _ (ix3 (0 : Fin 1) (0 : Fin 1) j) ?_ ?_).trans ?_
  · funext b; fin_cases b; rfl
  · intro i' h
    idx_vars i'
    have := congrArg Fin.val (congrFun h 0)
    funext b
    fin_cases b
    · exact Subsingleton.elim (α := Fin 1) _ _
    · exact Subsingleton.elim (α := Fin 1) _ _
    · exact Fin.ext this
  · simp only [val_main_v26_apply, val_main_v25_apply, val_main_v24_apply, val_main_v13_apply, val_main_v12_apply, val_main_cst_3_apply, val_main_cst_4_apply]
    pointwise
    refine Finset.sum_congr rfl fun r _ => ?_
    rw [dh_tie a w r j _ (by funext a; fin_cases a <;> apply Fin.ext <;> simp <;> omega),
      rms_tie x r _ (by funext a; fin_cases a <;> apply Fin.ext <;> simp <;> omega), mul_comm]
    refine Ideal.mul_congr rfl (Ideal.mul_congr (congrArg x ?_) rfl)
    funext a; fin_cases a <;> apply Fin.ext <;> simp <;> omega

/-! ## The claims -/

/-- The reference runs to its end, leaves its arguments as they were and has no counter that could stand above zero. -/
theorem reference_frame : Cert.quiescent_Dh1RefIdeal (hDh1RefIdeal := Cert.Dh1RefIdeal.Gen.facts) := fun m ρ _ =>
  (θ_run Cert.Dh1RefIdeal.defs _ _).mono
    (fun r h => ⟨fun c => (h c).2.2, Idealize.ShloMosaic.sem_eq_zero_of_no_sems (by decide) r.2⟩)
    (Cert.Dh1RefIdeal.Value.run (F := Ideal) m ρ)

/-- The call's first result is the gradient of the rows. -/
theorem dx_end (c : Dev nD) : G5 m c = Cert.Dh1RefIdeal.Read.val_main_v47 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (final5 m c).symm.trans ((dx_array m c).trans ?_)
  funext i
  idx_vars i
  refine Eq.trans ?_ (dx_tie _ _ _ _ _ i0 i1).symm
  refine (congrArg (fun f => dxRow f (fun k => V m c main_v4 (ix2 i0 k)) (fun k => V m c main_arg4 (ix2 0 k)) (V m c main_arg3 (ix2 i0 i1)) i1)
    (funext fun j => dhAt_eq m c (m ((c : Thread nD τ).loc main_arg0)) i0 j)).trans ?_
  exact congrArg (fun f => dxRow (refDh (m ((c : Thread nD τ).loc main_arg0)) (m ((c : Thread nD τ).loc main_arg1)) i0) f
    (fun k => m ((c : Thread nD τ).loc main_arg4) (ix2 0 k)) (m ((c : Thread nD τ).loc main_arg3) (ix2 i0 i1)) i1)
    (funext fun k => x_read m c i0 k)

/-- The call's second result is the gradient of the gain. -/
theorem dg_end (c : Dev nD) : G6 m c = Cert.Dh1RefIdeal.Read.val_main_v46 (F := Ideal) (m ((c : Thread nD τ).loc main_arg0))
    (m ((c : Thread nD τ).loc main_arg1)) (m ((c : Thread nD τ).loc main_arg2)) := by
  refine (final6 m c).symm.trans ((dg_array m c).trans ?_)
  funext i
  idx_vars i
  refine Eq.trans ?_ (dg_tie _ _ _ i0 i1).symm
  unfold dgOf
  refine Finset.sum_congr rfl fun r _ => ?_
  exact Ideal.mul_congr (dhAt_eq m c (m ((c : Thread nD τ).loc main_arg0)) r i1)
    (Ideal.mul_congr (x_read m c r i1) (congrArg rms (funext fun k => x_read m c r k)))

/-- The call and the reference's lines end with equal results, whatever the arguments. -/
theorem algebraic : Cert.algebraic_Dh1Ideal_Dh1RefIdeal (hDh1Ideal := Cert.Dh1Ideal.Gen.facts)
    (hDh1RefIdeal := Cert.Dh1RefIdeal.Gen.facts) := by
  intro m ρ m' ρ' _ hagree
  refine ⟨fun c => G5 m c, fun c => G6 m c, run m ρ, ?_⟩
  refine (θ_run Cert.Dh1RefIdeal.defs _ _).mono (fun r h c => ?_) (Cert.Dh1RefIdeal.Value.run (F := Ideal) m' ρ')
  obtain ⟨h0, h1, h2, h3, h4⟩ := hagree c
  refine ⟨(h c).1.trans ?_, (h c).2.1.trans ?_, (h c).2.2⟩
  · rw [Cert.Dh1RefIdeal.Read.val_main_v47_eq, h0, h1, h2, h3, h4]
    exact (dx_end m c).symm
  · rw [Cert.Dh1RefIdeal.Read.val_main_v46_eq, h0, h1, h2]
    exact (dg_end m c).symm

end Cert.Dh1Ideal.Sound
end
-- ==== Proof.MixerRun.lean ====
module

public import proofs.«01_k».proof.Proof.Gen.MixerIdeal.Frame
public import Idealize.ShloMosaic.Lib.Pipeline.ValueKit

/-! The run of the mixer's backward call with each result named as the array its window has written. -/

@[expose] public section

noncomputable section

namespace Cert.MixerIdeal.Sound

open Cert.MixerIdeal Cert.MixerIdeal.Gen Idealize.ShloMosaic Idealize.ShloMosaic.TcCoe Idealize.SL.Sem

variable (m : (ℓ : Loc nD τ sig) → Buf (Elt Ideal) ℓ) (ρ : Dev nD → PrngReg)

/-- The array that output window `w` has written when the grid is done. -/
abbrev out (c : Dev nD) (w : Fin 19) := (dats (F := Ideal) m 0 c).arrAt w cfg0.N

/-- An argument that no window stages is left as it was. -/
theorem kept_rest {r : PUnit × MemSt nD τ sig (Elt Ideal)}
    (h : Pipeline.FramePost cfgs (dats m) 0 (V m) r) (c : Dev nD) :
    r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg4) = m ((c : Thread nD τ).loc main_arg4) :=
  ⟨((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg4 (Pipeline.mem_restRefs_of main_arg4 (by decide) (by decide))).trans (V_main_arg4 m c)⟩

/-- An argument that an input window stages is left as it was. -/
theorem kept_staged {r : PUnit × MemSt nD τ sig (Elt Ideal)}
    (h : Pipeline.FramePost cfgs (dats m) 0 (V m) r) (c : Dev nD) :
    r.2.mem ((c : Thread nD τ).loc main_arg0) = m ((c : Thread nD τ).loc main_arg0)
    ∧ r.2.mem ((c : Thread nD τ).loc main_arg3) = m ((c : Thread nD τ).loc main_arg3)
    ∧ r.2.mem ((c : Thread nD τ).loc main_arg5) = m ((c : Thread nD τ).loc main_arg5)
    ∧ r.2.mem ((c : Thread nD τ).loc main_arg6) = m ((c : Thread nD τ).loc main_arg6) :=
  ⟨((h c).1 3).trans (((dats m 0 c).arrAt_in 3 rfl _).trans ((A_eq m c 3).trans (V_main_arg0 m c))),
   ((h c).1 10).trans (((dats m 0 c).arrAt_in 10 rfl _).trans ((A_eq m c 10).trans (V_main_arg3 m c))),
   ((h c).1 12).trans (((dats m 0 c).arrAt_in 12 rfl _).trans ((A_eq m c 12).trans (V_main_arg5 m c))),
   ((h c).1 6).trans (((dats m 0 c).arrAt_in 6 rfl _).trans ((A_eq m c 6).trans (V_main_arg6 m c)))⟩

/-- After the run each result buffer holds what its window has written, and the arguments are unchanged. -/
theorem run : θ_run defs (onTc (τ := τ) (main (F := Ideal))) ⟨m, fun _ => 0, ρ⟩ fun r => ∀ c : Dev nD,
      r.2.mem ((c : Thread nD τ).loc main_v12_0) = out m c 13
      ∧ r.2.mem ((c : Thread nD τ).loc main_v12_1) = out m c 14
      ∧ r.2.mem ((c : Thread nD τ).loc main_v12_2) = out m c 15
      ∧ r.2.mem ((c : Thread nD τ).loc main_v12_3) = out m c 16
      ∧ r.2.mem ((c : Thread nD τ).loc main_v12_4) = out m c 17
      ∧ r.2.mem ((c : Thread nD τ).loc main_v12_5) = out m c 18
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨a0, a3, a5, a6⟩ := kept_staged m h c
    obtain ⟨a1, a2, a4⟩ := kept_rest m h c
    exact ⟨(h c).1 13, (h c).1 14, (h c).1 15, (h c).1 16, (h c).1 17, (h c).1 18, a0, a1, a2, a3, a4, a5, a6⟩)
    (run_main m ρ)

end Cert.MixerIdeal.Sound
-- ==== Proof.MixerTile.lean ====
module

public import proofs.«01_k».proof.Proof.MixerRun

/-! The mathematics of one tile of the mixer's backward call, over plain functions: a tile is 128 tokens of one head's
128 lanes. -/

@[expose] public section

noncomputable section

namespace Cert.Mixer

open Idealize.ShloMosaic Cert.MixerIdeal

/-- A function of a row and a lane of a tile. -/
abbrev Tile := Fin 128 → Fin 128 → EReal

/-- The tangent inside the activation. -/
def gtanh (x : EReal) : EReal :=
  Ideal.tanh (Ideal.ofBits .f32 0x3F4C422A#32 * (x + (Named.named (F := Ideal) κ "cube" (φ := .f32) 0x3D372713#32 * x) * (x * x)))

/-- The activation. -/
def gelu (x : EReal) : EReal :=
  (Ideal.ofBits .f32 0x3F000000#32 * x) * (Ideal.ofBits .f32 0x3F800000#32 + gtanh x)

/-- The activation's slope. -/
def dgelu (x : EReal) : EReal :=
  Ideal.ofBits .f32 0x3F000000#32 * (Ideal.ofBits .f32 0x3F800000#32 + gtanh x)
  + (Ideal.ofBits .f32 0x3F000000#32 * x) * (Ideal.ofBits .f32 0x3F800000#32 - gtanh x * gtanh x)
    * (Ideal.ofBits .f32 0x3F4C422A#32 * (Ideal.ofBits .f32 0x3F800000#32
      + Named.named (F := Ideal) κ "slope" (φ := .f32) 0x3E095D4F#32 * (x * x)))

/-- The reciprocal root mean square of a row. -/
def rv (vp : Tile) (s : Fin 128) : EReal :=
  Ideal.rsqrt (Ideal.div (∑ k : Fin 128, gelu (vp s k) * gelu (vp s k)) (Ideal.ofBits .f32 0x43000000#32)
    + Ideal.ofBits .f32 0x358637BD#32)

/-- The normalised activation. -/
def vn (vp : Tile) (s d : Fin 128) : EReal := gelu (vp s d) * rv vp s

/-- The same times the gain. -/
def vh (vp : Tile) (gv : Fin 128 → EReal) (s d : Fin 128) : EReal := vn vp s d * gv d

/-- The cotangent of the mixed rows. -/
def dmx (up doa : Tile) (t d : Fin 128) : EReal := doa t d * gelu (up t d)

/-- The mixed rows: a product over the tokens of the tile, and the bias. -/
def mixed (vp w b : Tile) (gv : Fin 128 → EReal) (t d : Fin 128) : EReal := (∑ s : Fin 128, w t s * vh vp gv s d) + b t d

/-- The cotangent of the normalised rows. -/
def dvh (up doa wT : Tile) (s d : Fin 128) : EReal := ∑ t : Fin 128, wT s t * dmx up doa t d

/-- What a tile adds to the gradient of the mixing weights. -/
def dws (up vp doa : Tile) (gv : Fin 128 → EReal) (t s : Fin 128) : EReal := ∑ d : Fin 128, dmx up doa t d * vh vp gv s d

/-- What a tile adds to the gradient of the gain. -/
def dgv (up vp doa wT : Tile) (d : Fin 128) : EReal := ∑ s : Fin 128, dvh up doa wT s d * vn vp s d

/-- The gradient of the activation's own argument in the gate. -/
def dup (up vp doa w b : Tile) (gv : Fin 128 → EReal) (t d : Fin 128) : EReal :=
  doa t d * mixed vp w b gv t d * dgelu (up t d)

/-- The gradient that passes the normalisation and the activation. -/
def dvp (up vp doa wT : Tile) (gv : Fin 128 → EReal) (s d : Fin 128) : EReal :=
  rv vp s * (dvh up doa wT s d * gv d - vn vp s d * Ideal.div (∑ k : Fin 128, dvh up doa wT s k * gv k * vn vp s k)
    (Ideal.ofBits .f32 0x43000000#32)) * dgelu (vp s d)

end Cert.Mixer
end
-- ==== Proof.MixerBlock.lean ====
module

public import proofs.«01_k».proof.Proof.MixerTile

/-! The tiles of a block of 512 rows, and what a block adds to each sum. -/

@[expose] public section

noncomputable section

namespace Cert.Mixer

open Idealize.ShloMosaic Cert.MixerIdeal

/-- The tile of chunk `q` and of the head of column `j`. -/
def tile (a : S512x1024.Idx → EReal) (q : Fin 4) (j : Fin 1024) : Tile := fun r d =>
  a (ix2 ⟨128 * q.val + r.val, by omega⟩ ⟨128 * (j.val / 128) + d.val, by omega⟩)

/-- A head's slice of an array of weights. -/
def head (w : S8x128x128.Idx → EReal) (j : Fin 1024) : Tile := fun r d => w (ix3 ⟨j.val / 128, by omega⟩ r d)

/-- A head's slice of a row of gains. -/
def lanes (g : S1x1024.Idx → EReal) (j : Fin 1024) : Fin 128 → EReal := fun d => g (ix2 0 ⟨128 * (j.val / 128) + d.val, by omega⟩)

/-- What a chunk of a block adds to the gradient of the gain. -/
def gvAt (up vp doa : S512x1024.Idx → EReal) (wT : S8x128x128.Idx → EReal) (j : Fin 1024) (q : Fin 4) : EReal :=
  dgv (tile up q j) (tile vp q j) (tile doa q j) (head wT j) ⟨j.val % 128, by omega⟩

/-- The gate's gradient at a place of a block. -/
def upAt (up vp doa : S512x1024.Idx → EReal) (w b : S8x128x128.Idx → EReal) (g : S1x1024.Idx → EReal)
    (r : Fin 512) (j : Fin 1024) : EReal :=
  dup (tile up ⟨r.val / 128, by omega⟩ j) (tile vp ⟨r.val / 128, by omega⟩ j) (tile doa ⟨r.val / 128, by omega⟩ j)
    (head w j) (head b j) (lanes g j) ⟨r.val % 128, by omega⟩ ⟨j.val % 128, by omega⟩

/-- The mixed half's gradient at a place of a block. -/
def vpAt (up vp doa : S512x1024.Idx → EReal) (wT : S8x128x128.Idx → EReal) (g : S1x1024.Idx → EReal)
    (r : Fin 512) (j : Fin 1024) : EReal :=
  dvp (tile up ⟨r.val / 128, by omega⟩ j) (tile vp ⟨r.val / 128, by omega⟩ j) (tile doa ⟨r.val / 128, by omega⟩ j)
    (head wT j) (lanes g j) ⟨r.val % 128, by omega⟩ ⟨j.val % 128, by omega⟩

end Cert.Mixer
end
-- ==== Proof.MixerSum.lean ====
module

public import proofs.«01_k».proof.Proof.MixerBlock

/-! What a block of 512 rows adds to the sums that are kept for a head. -/

@[expose] public section

noncomputable section

namespace Cert.Mixer

open Idealize.ShloMosaic Cert.MixerIdeal

/-- The first column of a head. -/
def col (h : Fin 8) : Fin 1024 := ⟨128 * h.val, by omega⟩

/-- What a chunk of a block adds to the gradient of a head's mixing weights. -/
def wsAt (up vp doa : S512x1024.Idx → EReal) (g : S1x1024.Idx → EReal) (h : Fin 8) (r s : Fin 128) (q : Fin 4) : EReal :=
  dws (tile up q (col h)) (tile vp q (col h)) (tile doa q (col h)) (lanes g (col h)) r s

/-- What a chunk of a block adds to the summed cotangent of a head's mixed rows. -/
def bsAt (up doa : S512x1024.Idx → EReal) (h : Fin 8) (r d : Fin 128) (q : Fin 4) : EReal :=
  dmx (tile up q (col h)) (tile doa q (col h)) r d

/-- Four chunks added one after the other. -/
def grow (p : EReal) (f : Fin 4 → EReal) : EReal := p + f 0 + f 1 + f 2 + f 3

/-- The place of a triangular array: what lies above the diagonal is zero. -/
def lower (r s : Fin 128) (x : EReal) : EReal := if s.val ≤ r.val then x else 0

end Cert.Mixer
end
-- ==== Proof.MixerVec.lean ====
module

public import proofs.«01_k».proof.Proof.MixerSum
public import Idealize.ShloMosaic.Lib.Pipeline.ReadBack

/-! The chains of vector operations that a chunk goes through, as functions of a row and a lane, and a buffer that is
stored piece by piece, read once all pieces stand. -/

@[expose] public section

set_option maxRecDepth 16384
set_option maxHeartbeats 4000000

noncomputable section

namespace Cert.Mixer

open Cert.MixerIdeal Idealize.ShloMosaic Idealize.ShloMosaic.TcCoe

/-- A store is an overlay on what stood before. -/
theorem canon_mk {S : Shape} {e : EltTy} {Val : EltTy → Type} [∀ e, Nonempty (Val e)] (r : Rect S) (v : r.shape.Idx → Val e)
    (L : List (View.Piece Val S e)) : View.canon (⟨r, v⟩ :: L) = r.overlay (View.canon L) v := rfl

/-- A store at a place hides the store that stood there. -/
theorem overlay_over {S : Shape} {α : Type} (r : Rect S) (X : S.Idx → α) (v w : r.shape.Idx → α) :
    r.overlay (r.overlay X w) v = r.overlay X v := by
  funext y
  simp only [Rect.overlay]
  cases preimage? r.emb y <;> rfl

/-- Where the last stores cover, the earlier ones do not matter. -/
theorem canon_front {S : Shape} {e : EltTy} {Val : EltTy → Type} [∀ e, Nonempty (Val e)] (n : ℕ) (y : S.Idx) :
    ∀ L : List (View.Piece Val S e), (∃ p ∈ L.take n, y ∈ p.1.set) → View.canon L y = View.canon (L.take n) y := by
  induction n with
  | zero => rintro L ⟨p, hp, -⟩; simp at hp
  | succ n ih =>
    rintro (_ | ⟨q, L⟩) ⟨p, hp, hy⟩
    · simp at hp
    · by_cases hq : y ∈ q.1.set
      · simp only [List.take_succ_cons, View.canon_cons, Rect.overlay]
        cases h : preimage? q.1.emb y with
        | some i => rfl
        | none =>
          obtain ⟨x, rfl⟩ := q.1.exists_idx_of_mem hq
          exact absurd (h.symm.trans (preimage?_emb q.1.emb x)) (by simp)
      · rw [List.take_succ_cons, View.canon_cons_of_not_mem _ _ hq, View.canon_cons_of_not_mem _ _ hq]
        rw [List.take_succ_cons] at hp
        rcases List.mem_cons.mp hp with rfl | hp
        · exact absurd hy hq
        · exact ih L ⟨p, hp, hy⟩

/-- A vector of 128 rows and lanes. -/
abbrev Vec := S128x128.Idx → EReal

/-- A vector by row and lane. -/
def tl (A : Vec) : Tile := fun r d => A (ix2 r d)

/-- The activation of a vector. -/
def geluV (A : Vec) : Vec := fun x => gelu (A x)

/-- The normalised activation of a vector. -/
def vnV (A : Vec) : Vec := fun x => vn (tl A) (x 0) (x 1)

/-- The cotangent of the mixed rows, a vector. -/
def dmxV (A D : Vec) : Vec := fun x => dmx (tl A) (tl D) (x 0) (x 1)

/-- What a chunk adds to the gradient of the mixing weights, a vector. -/
def dwsV (A B D : Vec) (g : S1x128.Idx → EReal) : Vec := fun x => dws (tl A) (tl B) (tl D) (fun d => g (ix2 0 d)) (x 0) (x 1)

/-- What a chunk adds to the gradient of the gain, a vector. -/
def dgvV (A B D W : Vec) : S128.Idx → EReal := fun x => dgv (tl A) (tl B) (tl D) (tl W) (x 0)

/-- The activation's operations. -/
theorem gelu_vec (A : FVec Ideal S128x128 .f32) :
    mulf (mulf (broadcast S128x128 (FloatOps.ofBits (F := Ideal) FTy.f32 1056964608#32)) A)
      (addf (broadcast S128x128 (FloatOps.ofBits (F := Ideal) FTy.f32 1065353216#32)) (tanh (mulf (broadcast S128x128 (FloatOps.ofBits (F := Ideal) FTy.f32 1061962282#32))
        (addf A (mulf (mulf (broadcast S128x128 (Named.named (F := Ideal) κ "cube" (φ := .f32) 1027024659#32)) A) (mulf A A)))))) = geluV A := by
  funext x
  pointwise [geluV, gelu, gtanh]

/-- The normalisation's operations. -/
theorem vn_vec (B : FVec Ideal S128x128 .f32) (h1 : S128x128.Reduces [1] S128) (h2) (h3) (h4 : S128.ShapeCasts S128x1) (h5 : S128x1.Broadcasts S128x128) :
    mulf (geluV B) (broadcastTo S128x128 (rsqrt (addf (divf
        (shapeCast S128x1 (multiReduction (F := Ideal) (φ := .f32) FKind.add [1] S128 (mulf (geluV B) (geluV B)) (0#32) h1 h2 h3) h4)
        (broadcast S128x1 (FloatOps.ofBits (F := Ideal) FTy.f32 1124073472#32))) (broadcast S128x1 (FloatOps.ofBits (F := Ideal) FTy.f32 897988541#32)))) h5) = vnV B := by
  funext x
  pointwise [vnV, vn, rv, tl, geluV]

/-- The operations of the cotangent of the mixed rows. -/
theorem dmx_vec (A : FVec Ideal S128x128 .f32) (D : FVec Ideal S128x128 .bf16) (hb) :
    mulf (extf FTy.f32 D hb) (geluV A) = dmxV A D := by
  funext x
  pointwise [dmxV, dmx, tl, geluV]

/-- The operations of a chunk's part of the gradient of the mixing weights. -/
theorem dws_vec (A B : FVec Ideal S128x128 .f32) (D : FVec Ideal S128x128 .bf16) (g : FVec Ideal S1x128 .f32) (hb : FTy.bits .bf16 < FTy.bits .f32) (h5 : S1x128.Broadcasts S128x128) :
    matmul dot_S128x128_S128x128_S128x128_1_1_0_0_n_n none (truncf (F := Ideal) (φ := .f32) FTy.bf16 (dmxV A D) hb)
      (truncf (F := Ideal) (φ := .f32) FTy.bf16 (mulf (vnV B) (broadcastTo S128x128 g h5)) hb) (constant S128x128 FTy.f32 0#32) = dwsV A B D g := by
  funext x
  pointwise [dwsV, dws, vh, vnV, dmxV]

/-- The operations of a chunk's part of the gradient of the gain. -/
theorem dgv_vec (A B : FVec Ideal S128x128 .f32) (D W : FVec Ideal S128x128 .bf16) (hb : FTy.bits .bf16 < FTy.bits .f32) (h1 : S128x128.Reduces [0] S128) (h2) (h3) :
    multiReduction (F := Ideal) (φ := .f32) FKind.add [0] S128 (mulf
      (matmul dot_S128x128_S128x128_S128x128_1_0_0_1_n_n none W (truncf (F := Ideal) (φ := .f32) FTy.bf16 (dmxV A D) hb) (constant S128x128 FTy.f32 0#32))
      (vnV B)) (0#32) h1 h2 h3 = dgvV A B D W := by
  funext x
  pointwise [dgvV, dgv, dvh, vnV, dmxV, tl]

/-- A sum kept for a head with a further term. -/
theorem keep_head (P : FVec Ideal S1x128x128 .f32) (C : FVec Ideal S128x128 .f32) (h : S1x128x128.ShapeCasts S128x128) (h' : S128x128.ShapeCasts S1x128x128) :
    shapeCast S1x128x128 (addf (shapeCast S128x128 P h) C) h' = fun x => P x + C (ix2 (x 1) (x 2)) := by
  funext x
  pointwise

/-- A row of sums laid as an array of one row. -/
theorem row_cast (C : FVec Ideal S128 .f32) (h : S128.ShapeCasts S1x128) : shapeCast S1x128 C h = fun x => C (ix1 (x 1)) := by
  funext x
  pointwise

/-- The kernel's comparison of a row with a lane. -/
theorem sge_test (a b : Fin 128) : IntOp.cmpi .sge (BitVec.ofNat 32 a.val) (BitVec.ofNat 32 b.val) = if b.val ≤ a.val then 1#1 else 0#1 := by
  revert a b
  decide +kernel

/-- The kernel's mask on a head's square of sums. -/
theorem mask_head (V : S1x128x128.Idx → EReal) (hi : S128x128.Iotas .tc 32 [0]) (hi' : S128x128.Iotas .tc 32 [1]) (h : S1x128x128.ShapeCasts S128x128)
    (h' : S128x128.ShapeCasts S1x128x128) :
    shapeCast S1x128x128 (select (cmpi .sge (iota .tc S128x128 32 [0] hi) (iota .tc S128x128 32 [1] hi')) (shapeCast S128x128 V h)
      (broadcast S128x128 (FloatOps.ofBits (F := Ideal) FTy.f32 0#32))) h' = fun x => lower (x 1) (x 2) (V x) := by
  funext x
  pointwise [lower]
  refine (congrArg (Scalar.select · (V x) 0) (sge_test (x 1) (x 2))).trans ?_
  by_cases hh : (x 2).val ≤ (x 1).val
  · rw [if_pos hh, if_pos hh]; rfl
  · rw [if_neg hh, if_neg hh]; rfl

/-- The triangular place, part by part. -/
theorem lower_congr {r s r' s' : Fin 128} {a b : EReal} (hr : r'.val = r.val) (hs : s'.val = s.val) (h : a = b) : lower r s a = lower r' s' b := by
  rw [h, Fin.ext hr, Fin.ext hs]

/-- A load of a fill of zeros. -/
theorem ld_zero {S : Shape} (r : Rect S) (x : r.shape.Idx) :
    View.ld (Val := Elt Ideal) (e' := .f32) (broadcast S (FloatOps.ofBits (F := Ideal) .f32 0#32)) r x = 0 := by
  show Ideal.ofBits .f32 0#32 = 0
  simp [Ideal.ofBits, Ideal.ieee]

/-- Four chunks added, term by term. -/
theorem grow_congr {p p' a0 a1 a2 a3 : EReal} {f : Fin 4 → EReal} (hp : p = p') (h0 : a0 = f 0) (h1 : a1 = f 1) (h2 : a2 = f 2) (h3 : a3 = f 3) :
    p + a0 + a1 + a2 + a3 = grow p' f := by
  rw [hp, h0, h1, h2, h3, grow]

/-- A load of a chunk of a head is its tile. -/
theorem tl_ld (a : S512x1024.Idx → EReal) {o p : ℕ} (inb) (q : Fin 4) (j : Fin 1024) (ho : o = 128 * q.val) (hp : p = 128 * (j.val / 128)) :
    tl (View.ld (Val := Elt Ideal) (e' := .f32) a (Rect.unit ![o, p] ![128, 128] inb)) = tile a q j := by
  funext r d
  refine congrArg a (funext fun b => ?_)
  subst ho hp
  fin_cases b <;> apply Fin.ext <;> simp

/-- The same of sixteen-bit rows. -/
theorem tl_ld' (a : S512x1024.Idx → EReal) {o p : ℕ} (inb) (q : Fin 4) (j : Fin 1024) (ho : o = 128 * q.val) (hp : p = 128 * (j.val / 128)) :
    tl (View.ld (Val := Elt Ideal) (e' := .bf16) a (Rect.unit ![o, p] ![128, 128] inb)) = tile a q j := tl_ld a inb q j ho hp

/-- A head's weights laid as a square. -/
theorem head_cast (V : S1x128x128.Idx → EReal) (hs : S1x128x128.ShapeCasts S128x128) (r d : Fin 128) :
    shapeCast S128x128 V hs (ix2 r d) = V (ix3 (0 : Fin 1) r d) := by
  pointwise

/-- A load of a head's weights is its slice. -/
theorem tl_head (a : S8x128x128.Idx → EReal) {o : ℕ} (inb) (hs : S1x128x128.ShapeCasts S128x128) (j : Fin 1024) (ho : o = j.val / 128) :
    tl (shapeCast S128x128 (View.ld (Val := Elt Ideal) (e' := .bf16) a (Rect.unit ![o, 0, 0] ![1, 128, 128] inb)) hs) = head a j := by
  funext r d
  refine (head_cast _ hs r d).trans (congrArg a (funext fun b => ?_))
  subst ho
  fin_cases b <;> apply Fin.ext <;> simp

/-- A load of a head's gains is its lanes. -/
theorem ld_lanes (a : S1x1024.Idx → EReal) {p : ℕ} (inb) (j : Fin 1024) (hp : p = 128 * (j.val / 128)) :
    (fun d : Fin 128 => View.ld (Val := Elt Ideal) (e' := .f32) a (Rect.unit ![0, p] ![1, 128] inb) (ix2 (0 : Fin 1) d)) = lanes a j := by
  funext d
  refine congrArg a (funext fun b => ?_)
  subst hp
  fin_cases b <;> apply Fin.ext <;> simp

/-- A chunk's part of the summed cotangent, as the kernel's operations. -/
theorem bs_chunk (up doa : S512x1024.Idx → EReal) {o p : ℕ} (inb inb') {r' d' : Fin 128} (q : Fin 4) (h : Fin 8) (r d : Fin 128)
    (ho : o = 128 * q.val) (hp : p = 128 * h.val) (hr : r.val = r'.val) (hd : d.val = d'.val) :
    dmxV (View.ld (Val := Elt Ideal) (e' := .f32) up (Rect.unit ![o, p] ![128, 128] inb))
      (View.ld (Val := Elt Ideal) (e' := .bf16) doa (Rect.unit ![o, p] ![128, 128] inb')) (ix2 r' d') = bsAt up doa h r d q := by
  obtain rfl := Fin.ext hr
  obtain rfl := Fin.ext hd
  have hj : p = 128 * ((col h).val / 128) := by simp only [col]; omega
  show dmx (tl _) (tl _) r d = dmx _ _ r d
  rw [tl_ld up inb q (col h) ho hj, tl_ld' doa inb' q (col h) ho hj]

/-- A chunk's part of the gradient of the mixing weights, as the kernel's operations. -/
theorem ws_chunk (up vp doa : S512x1024.Idx → EReal) (g : S1x1024.Idx → EReal) {o p : ℕ} (inb inb' inb'' inbg) {r' s' : Fin 128}
    (hb : FTy.bits .bf16 < FTy.bits .f32) (h1 : S128x128.Reduces [1] S128) (h2) (h3) (h4 : S128.ShapeCasts S128x1) (h5 : S128x1.Broadcasts S128x128)
    (h6 : S1x128.Broadcasts S128x128) (q : Fin 4) (h : Fin 8) (r s : Fin 128)
    (ho : o = 128 * q.val) (hp : p = 128 * h.val) (hr : r.val = r'.val) (hd : s.val = s'.val) :
    matmul dot_S128x128_S128x128_S128x128_1_1_0_0_n_n none
      (truncf (F := Ideal) (φ := .f32) FTy.bf16 (dmxV (View.ld (Val := Elt Ideal) (e' := .f32) up (Rect.unit ![o, p] ![128, 128] inb))
        (View.ld (Val := Elt Ideal) (e' := .bf16) doa (Rect.unit ![o, p] ![128, 128] inb'))) hb)
      (truncf (F := Ideal) (φ := .f32) FTy.bf16 (mulf (mulf (geluV (View.ld (Val := Elt Ideal) (e' := .f32) vp (Rect.unit ![o, p] ![128, 128] inb''))) (broadcastTo S128x128 (rsqrt (addf (divf
        (shapeCast S128x1 (multiReduction (F := Ideal) (φ := .f32) FKind.add [1] S128 (mulf (geluV (View.ld (Val := Elt Ideal) (e' := .f32) vp (Rect.unit ![o, p] ![128, 128] inb''))) (geluV (View.ld (Val := Elt Ideal) (e' := .f32) vp (Rect.unit ![o, p] ![128, 128] inb'')))) (0#32) h1 h2 h3) h4)
        (broadcast S128x1 (FloatOps.ofBits (F := Ideal) FTy.f32 1124073472#32))) (broadcast S128x1 (FloatOps.ofBits (F := Ideal) FTy.f32 897988541#32)))) h5))
        (broadcastTo S128x128 (View.ld (Val := Elt Ideal) (e' := .f32) g (Rect.unit ![0, p] ![1, 128] inbg)) h6)) hb)
      (constant S128x128 FTy.f32 0#32) (ix2 r' s') = wsAt up vp doa g h r s q := by
  obtain rfl := Fin.ext hr
  obtain rfl := Fin.ext hd
  have hj : p = 128 * ((col h).val / 128) := by simp only [col]; omega
  rw [vn_vec, dws_vec]
  show dws (tl _) (tl _) (tl _) _ r s = dws _ _ _ _ r s
  rw [tl_ld up inb q (col h) ho hj, tl_ld vp inb'' q (col h) ho hj, tl_ld' doa inb' q (col h) ho hj]
  exact congrArg (fun l => dws _ _ _ l r s) (ld_lanes g inbg (col h) hj)

/-- A chunk's part of the gradient of the gain, as the kernel's operations. -/
theorem gv_chunk (up vp doa : S512x1024.Idx → EReal) (wT : S8x128x128.Idx → EReal) {o p k : ℕ} (inb inb' inb'' inbw) {d' : Fin 128}
    (hb : FTy.bits .bf16 < FTy.bits .f32) (h1 : S128x128.Reduces [1] S128) (h2) (h3) (h4 : S128.ShapeCasts S128x1) (h5 : S128x1.Broadcasts S128x128)
    (h7 : S128x128.Reduces [0] S128) (h8) (h9) (h6 : S1x128x128.ShapeCasts S128x128) (q : Fin 4) (j : Fin 1024)
    (ho : o = 128 * q.val) (hp : p = 128 * k) (hj : j.val = 128 * k + d'.val) :
    multiReduction (F := Ideal) (φ := .f32) FKind.add [0] S128 (mulf
      (matmul (φ₁ := .bf16) (φ₂ := .bf16) dot_S128x128_S128x128_S128x128_1_0_0_1_n_n none
        (shapeCast S128x128 (View.ld (Val := Elt Ideal) (e' := .bf16) wT (Rect.unit ![k, 0, 0] ![1, 128, 128] inbw)) h6)
        (truncf (F := Ideal) (φ := .f32) FTy.bf16 (dmxV (View.ld (Val := Elt Ideal) (e' := .f32) up (Rect.unit ![o, p] ![128, 128] inb))
          (View.ld (Val := Elt Ideal) (e' := .bf16) doa (Rect.unit ![o, p] ![128, 128] inb'))) hb) (constant S128x128 FTy.f32 0#32))
      (mulf (geluV (View.ld (Val := Elt Ideal) (e' := .f32) vp (Rect.unit ![o, p] ![128, 128] inb''))) (broadcastTo S128x128 (rsqrt (addf (divf
        (shapeCast S128x1 (multiReduction (F := Ideal) (φ := .f32) FKind.add [1] S128 (mulf (geluV (View.ld (Val := Elt Ideal) (e' := .f32) vp (Rect.unit ![o, p] ![128, 128] inb''))) (geluV (View.ld (Val := Elt Ideal) (e' := .f32) vp (Rect.unit ![o, p] ![128, 128] inb'')))) (0#32) h1 h2 h3) h4)
        (broadcast S128x1 (FloatOps.ofBits (F := Ideal) FTy.f32 1124073472#32))) (broadcast S128x1 (FloatOps.ofBits (F := Ideal) FTy.f32 897988541#32)))) h5))) (0#32) h7 h8 h9 (ix1 d')
      = gvAt up vp doa wT j q := by
  have hd := d'.isLt
  have hk : k = j.val / 128 := by omega
  have hj' : p = 128 * (j.val / 128) := by omega
  have e : d' = (⟨j.val % 128, Nat.mod_lt _ (by omega)⟩ : Fin 128) := Fin.ext (by show d'.val = j.val % 128; omega)
  rw [vn_vec, dgv_vec]
  show dgv (tl _) (tl _) (tl _) (tl _) d' = dgv _ _ _ _ _
  rw [tl_ld up inb q j ho hj', tl_ld vp inb'' q j ho hj', tl_ld' doa inb' q j ho hj', e]
  exact congrArg (fun l => dgv _ _ _ l _) (tl_head wT inbw h6 j hk)

end Cert.Mixer
end
-- ==== Proof.MixerPool.lean ====
module

public import proofs.«01_k».proof.Proof.MixerSum
public import Idealize.ShloMosaic.Lib.KernelVsHost

/-! The pooling half of the mixer's backward call: sums over a window of rows of a block with its neighbour's rows beside
it, as the kernel takes them by doubling a rotated array, and as sums over the window. -/

@[expose] public section

set_option maxRecDepth 16384
set_option maxHeartbeats 4000000

noncomputable section

namespace Cert.Mixer

open Cert.MixerIdeal Idealize.ShloMosaic Idealize.ShloMosaic.TcCoe

/-- A block's rows with sixteen more. -/
abbrev Ext := FVec Ideal S528x256 .f32

/-- The rows with the rows rotated by some places added. -/
abbrev roll (k : BitVec 32) (hr : S528x256.Rotates 0 none) (E : Ext) : Ext := addf E (dynamicRotate 0 k none E hr)

/-- One over the number of rows a window of `w` holds at row `n`. -/
def invc (n w : ℕ) : EReal := Ideal.div 1 ((min (n + 1) w : ℕ) : ℝ)

/-- Rotated by 1 and added: row `n` gains row `n - 1`. -/
theorem down1 (hr : S528x256.Rotates 0 none) (E : Ext) (n : Fin 528) (d : Fin 256) (h : 1 ≤ n.val) :
    roll 1#32 hr E (ix2 n d) = E (ix2 n d) + E (ix2 (⟨n.val - 1, by omega⟩ : Fin 528) d) := by
  refine congrArg (E (ix2 n d) + ·) (dynamicRotate_apply 0 1#32 E _ _ _ fun b => ?_)
  have hn := n.isLt
  fin_cases b
  · show n.val - 1 = (n.val + 528 - 1 % 528) % 528
    omega
  · rfl

/-- Rotated the other way by 1 and added: row `n` gains row `n + 1`. -/
theorem up1 (hr : S528x256.Rotates 0 none) (E : Ext) (n : Fin 528) (d : Fin 256) (h : n.val + 1 < 528) :
    roll 527#32 hr E (ix2 n d) = E (ix2 n d) + E (ix2 (⟨n.val + 1, h⟩ : Fin 528) d) := by
  refine congrArg (E (ix2 n d) + ·) (dynamicRotate_apply 0 527#32 E _ _ _ fun b => ?_)
  have hn := n.isLt
  fin_cases b
  · show n.val + 1 = (n.val + 528 - 527 % 528) % 528
    omega
  · rfl

/-- Rotated by 2 and added: row `n` gains row `n - 2`. -/
theorem down2 (hr : S528x256.Rotates 0 none) (E : Ext) (n : Fin 528) (d : Fin 256) (h : 2 ≤ n.val) :
    roll 2#32 hr E (ix2 n d) = E (ix2 n d) + E (ix2 (⟨n.val - 2, by omega⟩ : Fin 528) d) := by
  refine congrArg (E (ix2 n d) + ·) (dynamicRotate_apply 0 2#32 E _ _ _ fun b => ?_)
  have hn := n.isLt
  fin_cases b
  · show n.val - 2 = (n.val + 528 - 2 % 528) % 528
    omega
  · rfl

/-- Rotated the other way by 2 and added: row `n` gains row `n + 2`. -/
theorem up2 (hr : S528x256.Rotates 0 none) (E : Ext) (n : Fin 528) (d : Fin 256) (h : n.val + 2 < 528) :
    roll 526#32 hr E (ix2 n d) = E (ix2 n d) + E (ix2 (⟨n.val + 2, h⟩ : Fin 528) d) := by
  refine congrArg (E (ix2 n d) + ·) (dynamicRotate_apply 0 526#32 E _ _ _ fun b => ?_)
  have hn := n.isLt
  fin_cases b
  · show n.val + 2 = (n.val + 528 - 526 % 528) % 528
    omega
  · rfl

/-- Rotated by 4 and added: row `n` gains row `n - 4`. -/
theorem down4 (hr : S528x256.Rotates 0 none) (E : Ext) (n : Fin 528) (d : Fin 256) (h : 4 ≤ n.val) :
    roll 4#32 hr E (ix2 n d) = E (ix2 n d) + E (ix2 (⟨n.val - 4, by omega⟩ : Fin 528) d) := by
  refine congrArg (E (ix2 n d) + ·) (dynamicRotate_apply 0 4#32 E _ _ _ fun b => ?_)
  have hn := n.isLt
  fin_cases b
  · show n.val - 4 = (n.val + 528 - 4 % 528) % 528
    omega
  · rfl

/-- Rotated the other way by 4 and added: row `n` gains row `n + 4`. -/
theorem up4 (hr : S528x256.Rotates 0 none) (E : Ext) (n : Fin 528) (d : Fin 256) (h : n.val + 4 < 528) :
    roll 524#32 hr E (ix2 n d) = E (ix2 n d) + E (ix2 (⟨n.val + 4, h⟩ : Fin 528) d) := by
  refine congrArg (E (ix2 n d) + ·) (dynamicRotate_apply 0 524#32 E _ _ _ fun b => ?_)
  have hn := n.isLt
  fin_cases b
  · show n.val + 4 = (n.val + 528 - 524 % 528) % 528
    omega
  · rfl

/-- Rotated by 8 and added: row `n` gains row `n - 8`. -/
theorem down8 (hr : S528x256.Rotates 0 none) (E : Ext) (n : Fin 528) (d : Fin 256) (h : 8 ≤ n.val) :
    roll 8#32 hr E (ix2 n d) = E (ix2 n d) + E (ix2 (⟨n.val - 8, by omega⟩ : Fin 528) d) := by
  refine congrArg (E (ix2 n d) + ·) (dynamicRotate_apply 0 8#32 E _ _ _ fun b => ?_)
  have hn := n.isLt
  fin_cases b
  · show n.val - 8 = (n.val + 528 - 8 % 528) % 528
    omega
  · rfl

/-- Rotated the other way by 8 and added: row `n` gains row `n + 8`. -/
theorem up8 (hr : S528x256.Rotates 0 none) (E : Ext) (n : Fin 528) (d : Fin 256) (h : n.val + 8 < 528) :
    roll 520#32 hr E (ix2 n d) = E (ix2 n d) + E (ix2 (⟨n.val + 8, h⟩ : Fin 528) d) := by
  refine congrArg (E (ix2 n d) + ·) (dynamicRotate_apply 0 520#32 E _ _ _ fun b => ?_)
  have hn := n.isLt
  fin_cases b
  · show n.val + 8 = (n.val + 528 - 520 % 528) % 528
    omega
  · rfl

/-- The sum over a window of 2 rows that ends at row `n`. -/
theorem sum_down2 (hr : S528x256.Rotates 0 none) (E : Ext) (n : Fin 528) (d : Fin 256) (h : 1 ≤ n.val) : (roll 1#32 hr E) (ix2 n d)
    = ∑ k : Fin 2, E (ix2 (⟨n.val - k.val, by omega⟩ : Fin 528) d) := by
  rw [down1 _ _ _ _ (by omega), Fin.sum_univ_two]
  rfl

/-- The sum over a window of 2 rows that starts at row `n`. -/
theorem sum_up2 (hr : S528x256.Rotates 0 none) (E : Ext) (n : Fin 528) (d : Fin 256) (h : n.val + 1 < 528) : (roll 527#32 hr E) (ix2 n d)
    = ∑ k : Fin 2, E (ix2 (⟨n.val + k.val, by omega⟩ : Fin 528) d) := by
  rw [up1 _ _ _ _ (by omega), Fin.sum_univ_two]
  rfl

/-- The sum over a window of 4 rows that ends at row `n`. -/
theorem sum_down4 (hr : S528x256.Rotates 0 none) (E : Ext) (n : Fin 528) (d : Fin 256) (h : 3 ≤ n.val) : (roll 2#32 hr (roll 1#32 hr E)) (ix2 n d)
    = ∑ k : Fin 4, E (ix2 (⟨n.val - k.val, by omega⟩ : Fin 528) d) := by
  rw [down2 _ _ _ _ (by omega), sum_down2 _ _ _ _ (by omega), sum_down2 _ _ _ _ (by simp only []; omega)]
  refine Eq.trans ?_ (Fin.sum_univ_add (a := 2) (b := 2) fun k : Fin 4 => E (ix2 (⟨n.val - k.val, by omega⟩ : Fin 528) d)).symm
  refine congrArg₂ (· + ·) rfl (Finset.sum_congr rfl fun k _ => ?_)
  exact congrArg (fun n => E (ix2 n d)) (Fin.ext (by simp; omega))

/-- The sum over a window of 4 rows that starts at row `n`. -/
theorem sum_up4 (hr : S528x256.Rotates 0 none) (E : Ext) (n : Fin 528) (d : Fin 256) (h : n.val + 3 < 528) : (roll 526#32 hr (roll 527#32 hr E)) (ix2 n d)
    = ∑ k : Fin 4, E (ix2 (⟨n.val + k.val, by omega⟩ : Fin 528) d) := by
  rw [up2 _ _ _ _ (by omega), sum_up2 _ _ _ _ (by omega), sum_up2 _ _ _ _ (by simp only []; omega)]
  refine Eq.trans ?_ (Fin.sum_univ_add (a := 2) (b := 2) fun k : Fin 4 => E (ix2 (⟨n.val + k.val, by omega⟩ : Fin 528) d)).symm
  refine congrArg₂ (· + ·) rfl (Finset.sum_congr rfl fun k _ => ?_)
  exact congrArg (fun n => E (ix2 n d)) (Fin.ext (by simp; omega))

/-- The sum over a window of 8 rows that ends at row `n`. -/
theorem sum_down8 (hr : S528x256.Rotates 0 none) (E : Ext) (n : Fin 528) (d : Fin 256) (h : 7 ≤ n.val) : (roll 4#32 hr (roll 2#32 hr (roll 1#32 hr E))) (ix2 n d)
    = ∑ k : Fin 8, E (ix2 (⟨n.val - k.val, by omega⟩ : Fin 528) d) := by
  rw [down4 _ _ _ _ (by omega), sum_down4 _ _ _ _ (by omega), sum_down4 _ _ _ _ (by simp only []; omega)]
  refine Eq.trans ?_ (Fin.sum_univ_add (a := 4) (b := 4) fun k : Fin 8 => E (ix2 (⟨n.val - k.val, by omega⟩ : Fin 528) d)).symm
  refine congrArg₂ (· + ·) rfl (Finset.sum_congr rfl fun k _ => ?_)
  exact congrArg (fun n => E (ix2 n d)) (Fin.ext (by simp; omega))

/-- The sum over a window of 8 rows that starts at row `n`. -/
theorem sum_up8 (hr : S528x256.Rotates 0 none) (E : Ext) (n : Fin 528) (d : Fin 256) (h : n.val + 7 < 528) : (roll 524#32 hr (roll 526#32 hr (roll 527#32 hr E))) (ix2 n d)
    = ∑ k : Fin 8, E (ix2 (⟨n.val + k.val, by omega⟩ : Fin 528) d) := by
  rw [up4 _ _ _ _ (by omega), sum_up4 _ _ _ _ (by omega), sum_up4 _ _ _ _ (by simp only []; omega)]
  refine Eq.trans ?_ (Fin.sum_univ_add (a := 4) (b := 4) fun k : Fin 8 => E (ix2 (⟨n.val + k.val, by omega⟩ : Fin 528) d)).symm
  refine congrArg₂ (· + ·) rfl (Finset.sum_congr rfl fun k _ => ?_)
  exact congrArg (fun n => E (ix2 n d)) (Fin.ext (by simp; omega))

/-- The sum over a window of 16 rows that ends at row `n`. -/
theorem sum_down16 (hr : S528x256.Rotates 0 none) (E : Ext) (n : Fin 528) (d : Fin 256) (h : 15 ≤ n.val) : (roll 8#32 hr (roll 4#32 hr (roll 2#32 hr (roll 1#32 hr E)))) (ix2 n d)
    = ∑ k : Fin 16, E (ix2 (⟨n.val - k.val, by omega⟩ : Fin 528) d) := by
  rw [down8 _ _ _ _ (by omega), sum_down8 _ _ _ _ (by omega), sum_down8 _ _ _ _ (by simp only []; omega)]
  refine Eq.trans ?_ (Fin.sum_univ_add (a := 8) (b := 8) fun k : Fin 16 => E (ix2 (⟨n.val - k.val, by omega⟩ : Fin 528) d)).symm
  refine congrArg₂ (· + ·) rfl (Finset.sum_congr rfl fun k _ => ?_)
  exact congrArg (fun n => E (ix2 n d)) (Fin.ext (by simp; omega))

/-- The sum over a window of 16 rows that starts at row `n`. -/
theorem sum_up16 (hr : S528x256.Rotates 0 none) (E : Ext) (n : Fin 528) (d : Fin 256) (h : n.val + 15 < 528) : (roll 520#32 hr (roll 524#32 hr (roll 526#32 hr (roll 527#32 hr E)))) (ix2 n d)
    = ∑ k : Fin 16, E (ix2 (⟨n.val + k.val, by omega⟩ : Fin 528) d) := by
  rw [up8 _ _ _ _ (by omega), sum_up8 _ _ _ _ (by omega), sum_up8 _ _ _ _ (by simp only []; omega)]
  refine Eq.trans ?_ (Fin.sum_univ_add (a := 8) (b := 8) fun k : Fin 16 => E (ix2 (⟨n.val + k.val, by omega⟩ : Fin 528) d)).symm
  refine congrArg₂ (· + ·) rfl (Finset.sum_congr rfl fun k _ => ?_)
  exact congrArg (fun n => E (ix2 n d)) (Fin.ext (by simp; omega))

/-- The kernel's count of the rows in a window, as a number. -/
theorem count_int (i r w : ℕ) (hi : i < 9) (hr : r < 512) (hw : w < 17) :
    (IntOp.minsi (IntOp.addi (IntOp.addi (IntOp.muli (BitVec.ofNat 32 i) 512#32) (BitVec.ofNat 32 r)) 1#32) (BitVec.ofNat 32 w)).toInt
      = ((min (512 * i + r + 1) w : ℕ) : ℤ) := by
  have e : IntOp.addi (IntOp.addi (IntOp.muli (BitVec.ofNat 32 i) 512#32) (BitVec.ofNat 32 r)) 1#32 = BitVec.ofNat 32 (512 * i + r + 1) := by
    unfold IntOp.addi IntOp.muli
    apply BitVec.eq_of_toNat_eq
    simp [BitVec.toNat_add, BitVec.toNat_mul, BitVec.toNat_ofNat]
    omega
  rw [e]
  have h1 : (BitVec.ofNat 32 (512 * i + r + 1)).toInt = ((512 * i + r + 1 : ℕ) : ℤ) := by
    rw [BitVec.toInt_eq_toNat_of_lt] <;> simp only [BitVec.toNat_ofNat] <;> omega
  have h2 : (BitVec.ofNat 32 w).toInt = (w : ℤ) := by
    rw [BitVec.toInt_eq_toNat_of_lt] <;> simp only [BitVec.toNat_ofNat] <;> omega
  unfold IntOp.minsi
  split <;> rename_i h <;> simp only [BitVec.sle, BitVec.slt, h1, h2, decide_eq_true_eq] at h <;> simp only [h1, h2] <;> omega

/-- The kernel's reciprocal of the count at a row of the block. -/
theorem inv_block (hi0 : S512x1.Iotas .tc 32 [0]) (hb : S512x1.Broadcasts S512x256) (i w : ℕ) (hi : i < 9) (hw : w < 17) (x : S512x256.Idx) :
    broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 w))))) hb x = invc (512 * i + (x 0).val) w := by
  pointwise
  exact congrArg (fun n : ℤ => Ideal.div 1 (((n : ℝ)) : EReal)) (count_int i (x 0).val w hi (x 0).isLt hw)

/-- The same at a row of the neighbour that follows. -/
theorem inv_next (hi0 : S16x1.Iotas .tc 32 [0]) (hb : S16x1.Broadcasts S16x256) (i w : ℕ) (hi : i < 8) (hw : w < 17) (x : S16x256.Idx) :
    broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi0)) (broadcast S16x1 1#32)) (broadcast S16x1 (BitVec.ofNat 32 w))))) hb x = invc (512 * (i + 1) + (x 0).val) w := by
  pointwise
  have e : Scalar.addi (BitVec.ofNat 32 i) 1#32 = BitVec.ofNat 32 (i + 1) := by
    unfold Scalar.addi IntOp.addi
    apply BitVec.eq_of_toNat_eq
    simp [BitVec.toNat_add, BitVec.toNat_ofNat]
  rw [e]
  exact congrArg (fun n : ℤ => Ideal.div 1 (((n : ℝ)) : EReal)) (count_int (i + 1) (x 0).val w (by omega) (lt_trans (x 0).isLt (by show (16 : ℕ) < 512; omega)) hw)

/-- The block's rows with the following ones beneath. -/
theorem beneath (hc : Shape.Concatenates [S512x256, S16x256] S528x256 0) (A : S512x256.Idx → EReal) (B : S16x256.Idx → EReal) (n : Fin 528) (d : Fin 256) :
    concatenate S528x256 0 [⟨S512x256, A⟩, ⟨S16x256, B⟩] hc (ix2 n d)
      = if h : n.val < 512 then A (ix2 (⟨n.val, h⟩ : Fin 512) d) else B (ix2 (⟨(n.val - 512) % 16, Nat.mod_lt _ (by omega)⟩ : Fin 16) d) := by
  pointwise
  split
  · rfl
  · exact congrArg (fun k => B (ix2 k d)) (Fin.ext (by simp; omega))

/-- The block's rows with the preceding ones on top. -/
theorem onTop (hc : Shape.Concatenates [S16x256, S512x256] S528x256 0) (A : S16x256.Idx → EReal) (B : S512x256.Idx → EReal) (n : Fin 528) (d : Fin 256) :
    concatenate S528x256 0 [⟨S16x256, A⟩, ⟨S512x256, B⟩] hc (ix2 n d)
      = if h : 16 ≤ n.val then B (ix2 (⟨n.val - 16, by omega⟩ : Fin 512) d) else A (ix2 (⟨n.val % 16, Nat.mod_lt _ (by omega)⟩ : Fin 16) d) := by
  pointwise
  by_cases h : n.val < 16
  · rw [dif_pos h, dif_neg (by omega)]
    exact congrArg (fun k => A (ix2 k d)) (Fin.ext (by simp; omega))
  · rw [dif_neg h, dif_pos (by omega)]

/-- A slice of a window sum less the row itself. -/
theorem peel_up (hs : S528x256.Slices ![0, 0] S512x256) (ht : FTy.bits .bf16 < FTy.bits .f32) (hc : S512x256.ShapeCasts S512x256) (W : Ext)
    (D : FVec Ideal S512x256 .f32) (x : S512x256.Idx) :
    shapeCast S512x256 (truncf .bf16 (subf (extractStridedSlice S512x256 ![0, 0] W hs) D) ht) hc x
      = W (ix2 (n0 := 528) (n1 := 256) (⟨(x 0).val, lt_trans (x 0).isLt (by show (512 : ℕ) < 528; omega)⟩ : Fin 528) (x 1)) - D x := by
  pointwise

/-- A slice of a window sum times the reciprocal count less the row itself. -/
theorem peel_down (hs : S528x256.Slices ![16, 0] S512x256) (W : Ext) (I Z : FVec Ideal S512x256 .f32) (x : S512x256.Idx) :
    subf (mulf (extractStridedSlice S512x256 ![16, 0] W hs) I) Z x
      = W (ix2 (n0 := 528) (n1 := 256) (⟨16 + (x 0).val, by have h : (x 0).val < 512 := (x 0).isLt; omega⟩ : Fin 528) (x 1)) * I x - Z x := by
  pointwise

/-- The gradient of the pooled argument at a place of a block: the sum over the windows that hold the row, less the row's own. -/
def dzOf (i w : ℕ) (D : S512x256.Idx → EReal) (Dh : S16x256.Idx → EReal) (r : Fin 512) (a : Fin 256) : EReal :=
  (∑ k : Fin w, if h : r.val + k.val < 512 then D (ix2 (⟨r.val + k.val, h⟩ : Fin 512) a) * invc (512 * i + (r.val + k.val)) w
    else if i = 7 then 0 else Dh (ix2 (⟨(r.val + k.val - 512) % 16, Nat.mod_lt _ (by omega)⟩ : Fin 16) a)
      * invc (512 * (i + 1) + (r.val + k.val - 512) % 16) w) - D (ix2 r a)

/-- The mean over a window of rows, less the row itself. -/
def poolOf (i w : ℕ) (Z : S512x256.Idx → EReal) (Zh : S16x256.Idx → EReal) (r : Fin 512) (a : Fin 256) : EReal :=
  (∑ k : Fin w, if k.val ≤ r.val then Z (ix2 (⟨r.val - k.val, by omega⟩ : Fin 512) a)
    else if 0 < i then Zh (ix2 (⟨(16 + r.val - k.val) % 16, Nat.mod_lt _ (by omega)⟩ : Fin 16) a) else 0) * invc (512 * i + r.val) w - Z (ix2 r a)

/-- The kernel's test for the last block. -/
theorem last_test (i : ℕ) (hi : i < 8) (x y : FVec Ideal S16x256 .f32) :
    Scalar.select (Scalar.cmpi CmpIPredicate.eq (BitVec.ofNat 32 i) 7#32) x y = if i = 7 then x else y := by
  interval_cases i <;> rfl

/-- The kernel's test for a block that is not the first. -/
theorem first_test (i : ℕ) (hi : i < 8) (x y : FVec Ideal S16x256 .f32) :
    Scalar.select (Scalar.cmpi CmpIPredicate.sgt (BitVec.ofNat 32 i) 0#32) x y = if 0 < i then x else y := by
  interval_cases i <;> rfl

/-- What the kernel stores for a pool of window 2. -/
theorem dz_window2 (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8)
    (D : FVec Ideal S512x256 .f32) (Dh : FVec Ideal S16x256 .f32) (x : S512x256.Idx) :
    shapeCast S512x256 (truncf .bf16 (subf (extractStridedSlice S512x256 ![0, 0]
      (roll 527#32 hr (concatenate S528x256 0 [⟨S512x256, mulf D (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb)⟩, ⟨S16x256, Scalar.select (Scalar.cmpi CmpIPredicate.eq (BitVec.ofNat 32 i) 7#32) (broadcast S16x256 (FloatOps.ofBits (F := Ideal) FTy.f32 0#32)) (mulf Dh (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 2))))) hb1))⟩] hc : FVec Ideal S528x256 .f32)) hs) D) ht) hsc x = dzOf i 2 D Dh (x 0) (x 1) := by
  have hx : (x 0).val < 512 := (x 0).isLt
  refine (peel_up hs ht hsc _ D x).trans ?_
  refine (congrArg (· - D x) (sum_up2 hr _ _ (x 1) (by show (x 0).val + 1 < 528; omega))).trans ?_
  unfold dzOf
  refine congrArg₂ (· - ·) (Finset.sum_congr rfl fun k _ => ?_) (congrArg D (by funext a; fin_cases a <;> rfl))
  refine (beneath hc _ _ _ (x 1)).trans ?_
  refine dite_congr rfl (fun h => ?_) fun h => ?_
  · exact congrArg (_ * ·) (inv_block hi0 hb i 2 (by omega) (by omega) _)
  · rw [last_test i hi]
    by_cases h7 : i = 7
    · rw [if_pos h7, if_pos h7]
      pointwise
    · rw [if_neg h7, if_neg h7]
      exact congrArg (_ * ·) (inv_next hi1 hb1 i 2 hi (by omega) _)

/-- What the kernel pools with window 2. -/
theorem pool_window2 (hr : S528x256.Rotates 0 none) (hi0 : S512x1.Iotas .tc 32 [0]) (hb : S512x1.Broadcasts S512x256)
    (hc : Shape.Concatenates [S16x256, S512x256] S528x256 0) (hs : S528x256.Slices ![16, 0] S512x256) (i : ℕ) (hi : i < 8)
    (Z : FVec Ideal S512x256 .f32) (Zh : FVec Ideal S16x256 .f32) :
    subf (mulf (extractStridedSlice S512x256 ![16, 0]
      (roll 1#32 hr (concatenate S528x256 0 [⟨S16x256, Scalar.select (Scalar.cmpi CmpIPredicate.sgt (BitVec.ofNat 32 i) 0#32) Zh (broadcast S16x256 (FloatOps.ofBits (F := Ideal) FTy.f32 0#32))⟩, ⟨S512x256, Z⟩] hc : FVec Ideal S528x256 .f32)) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb)) Z = fun x => poolOf i 2 Z Zh (x 0) (x 1) := by
  funext x
  have hx : (x 0).val < 512 := (x 0).isLt
  refine (peel_down hs _ _ Z x).trans ?_
  refine (congrArg₂ (fun a b => a * b - Z x) (sum_down2 hr _ _ (x 1) (by show 1 ≤ 16 + (x 0).val; omega))
    (inv_block hi0 hb i 2 (by omega) (by omega) x)).trans ?_
  unfold poolOf
  refine congrArg₂ (· - ·) (congrArg (· * _) (Finset.sum_congr rfl fun k _ => ?_)) (congrArg Z (by funext a; fin_cases a <;> rfl))
  have hk := k.isLt
  refine (onTop hc _ _ _ (x 1)).trans ?_
  rw [first_test i hi]
  by_cases h : k.val ≤ (x 0).val
  · rw [if_pos h, dif_pos (by show 16 ≤ 16 + (x 0).val - k.val; omega)]
    exact congrArg (fun r => Z (ix2 r (x 1))) (Fin.ext (by show 16 + (x 0).val - k.val - 16 = _; simp; omega))
  · rw [if_neg h, dif_neg (by show ¬16 ≤ 16 + (x 0).val - k.val; omega)]
    by_cases h0 : 0 < i
    · rw [if_pos h0, if_pos h0]
    · rw [if_neg h0, if_neg h0]
      pointwise

/-- What the kernel stores for a pool of window 4. -/
theorem dz_window4 (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8)
    (D : FVec Ideal S512x256 .f32) (Dh : FVec Ideal S16x256 .f32) (x : S512x256.Idx) :
    shapeCast S512x256 (truncf .bf16 (subf (extractStridedSlice S512x256 ![0, 0]
      (roll 526#32 hr (roll 527#32 hr (concatenate S528x256 0 [⟨S512x256, mulf D (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb)⟩, ⟨S16x256, Scalar.select (Scalar.cmpi CmpIPredicate.eq (BitVec.ofNat 32 i) 7#32) (broadcast S16x256 (FloatOps.ofBits (F := Ideal) FTy.f32 0#32)) (mulf Dh (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 4))))) hb1))⟩] hc : FVec Ideal S528x256 .f32))) hs) D) ht) hsc x = dzOf i 4 D Dh (x 0) (x 1) := by
  have hx : (x 0).val < 512 := (x 0).isLt
  refine (peel_up hs ht hsc _ D x).trans ?_
  refine (congrArg (· - D x) (sum_up4 hr _ _ (x 1) (by show (x 0).val + 3 < 528; omega))).trans ?_
  unfold dzOf
  refine congrArg₂ (· - ·) (Finset.sum_congr rfl fun k _ => ?_) (congrArg D (by funext a; fin_cases a <;> rfl))
  refine (beneath hc _ _ _ (x 1)).trans ?_
  refine dite_congr rfl (fun h => ?_) fun h => ?_
  · exact congrArg (_ * ·) (inv_block hi0 hb i 4 (by omega) (by omega) _)
  · rw [last_test i hi]
    by_cases h7 : i = 7
    · rw [if_pos h7, if_pos h7]
      pointwise
    · rw [if_neg h7, if_neg h7]
      exact congrArg (_ * ·) (inv_next hi1 hb1 i 4 hi (by omega) _)

/-- What the kernel pools with window 4. -/
theorem pool_window4 (hr : S528x256.Rotates 0 none) (hi0 : S512x1.Iotas .tc 32 [0]) (hb : S512x1.Broadcasts S512x256)
    (hc : Shape.Concatenates [S16x256, S512x256] S528x256 0) (hs : S528x256.Slices ![16, 0] S512x256) (i : ℕ) (hi : i < 8)
    (Z : FVec Ideal S512x256 .f32) (Zh : FVec Ideal S16x256 .f32) :
    subf (mulf (extractStridedSlice S512x256 ![16, 0]
      (roll 2#32 hr (roll 1#32 hr (concatenate S528x256 0 [⟨S16x256, Scalar.select (Scalar.cmpi CmpIPredicate.sgt (BitVec.ofNat 32 i) 0#32) Zh (broadcast S16x256 (FloatOps.ofBits (F := Ideal) FTy.f32 0#32))⟩, ⟨S512x256, Z⟩] hc : FVec Ideal S528x256 .f32))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb)) Z = fun x => poolOf i 4 Z Zh (x 0) (x 1) := by
  funext x
  have hx : (x 0).val < 512 := (x 0).isLt
  refine (peel_down hs _ _ Z x).trans ?_
  refine (congrArg₂ (fun a b => a * b - Z x) (sum_down4 hr _ _ (x 1) (by show 3 ≤ 16 + (x 0).val; omega))
    (inv_block hi0 hb i 4 (by omega) (by omega) x)).trans ?_
  unfold poolOf
  refine congrArg₂ (· - ·) (congrArg (· * _) (Finset.sum_congr rfl fun k _ => ?_)) (congrArg Z (by funext a; fin_cases a <;> rfl))
  have hk := k.isLt
  refine (onTop hc _ _ _ (x 1)).trans ?_
  rw [first_test i hi]
  by_cases h : k.val ≤ (x 0).val
  · rw [if_pos h, dif_pos (by show 16 ≤ 16 + (x 0).val - k.val; omega)]
    exact congrArg (fun r => Z (ix2 r (x 1))) (Fin.ext (by show 16 + (x 0).val - k.val - 16 = _; simp; omega))
  · rw [if_neg h, dif_neg (by show ¬16 ≤ 16 + (x 0).val - k.val; omega)]
    by_cases h0 : 0 < i
    · rw [if_pos h0, if_pos h0]
    · rw [if_neg h0, if_neg h0]
      pointwise

/-- What the kernel stores for a pool of window 8. -/
theorem dz_window8 (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8)
    (D : FVec Ideal S512x256 .f32) (Dh : FVec Ideal S16x256 .f32) (x : S512x256.Idx) :
    shapeCast S512x256 (truncf .bf16 (subf (extractStridedSlice S512x256 ![0, 0]
      (roll 524#32 hr (roll 526#32 hr (roll 527#32 hr (concatenate S528x256 0 [⟨S512x256, mulf D (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb)⟩, ⟨S16x256, Scalar.select (Scalar.cmpi CmpIPredicate.eq (BitVec.ofNat 32 i) 7#32) (broadcast S16x256 (FloatOps.ofBits (F := Ideal) FTy.f32 0#32)) (mulf Dh (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 8))))) hb1))⟩] hc : FVec Ideal S528x256 .f32)))) hs) D) ht) hsc x = dzOf i 8 D Dh (x 0) (x 1) := by
  have hx : (x 0).val < 512 := (x 0).isLt
  refine (peel_up hs ht hsc _ D x).trans ?_
  refine (congrArg (· - D x) (sum_up8 hr _ _ (x 1) (by show (x 0).val + 7 < 528; omega))).trans ?_
  unfold dzOf
  refine congrArg₂ (· - ·) (Finset.sum_congr rfl fun k _ => ?_) (congrArg D (by funext a; fin_cases a <;> rfl))
  refine (beneath hc _ _ _ (x 1)).trans ?_
  refine dite_congr rfl (fun h => ?_) fun h => ?_
  · exact congrArg (_ * ·) (inv_block hi0 hb i 8 (by omega) (by omega) _)
  · rw [last_test i hi]
    by_cases h7 : i = 7
    · rw [if_pos h7, if_pos h7]
      pointwise
    · rw [if_neg h7, if_neg h7]
      exact congrArg (_ * ·) (inv_next hi1 hb1 i 8 hi (by omega) _)

/-- What the kernel pools with window 8. -/
theorem pool_window8 (hr : S528x256.Rotates 0 none) (hi0 : S512x1.Iotas .tc 32 [0]) (hb : S512x1.Broadcasts S512x256)
    (hc : Shape.Concatenates [S16x256, S512x256] S528x256 0) (hs : S528x256.Slices ![16, 0] S512x256) (i : ℕ) (hi : i < 8)
    (Z : FVec Ideal S512x256 .f32) (Zh : FVec Ideal S16x256 .f32) :
    subf (mulf (extractStridedSlice S512x256 ![16, 0]
      (roll 4#32 hr (roll 2#32 hr (roll 1#32 hr (concatenate S528x256 0 [⟨S16x256, Scalar.select (Scalar.cmpi CmpIPredicate.sgt (BitVec.ofNat 32 i) 0#32) Zh (broadcast S16x256 (FloatOps.ofBits (F := Ideal) FTy.f32 0#32))⟩, ⟨S512x256, Z⟩] hc : FVec Ideal S528x256 .f32)))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb)) Z = fun x => poolOf i 8 Z Zh (x 0) (x 1) := by
  funext x
  have hx : (x 0).val < 512 := (x 0).isLt
  refine (peel_down hs _ _ Z x).trans ?_
  refine (congrArg₂ (fun a b => a * b - Z x) (sum_down8 hr _ _ (x 1) (by show 7 ≤ 16 + (x 0).val; omega))
    (inv_block hi0 hb i 8 (by omega) (by omega) x)).trans ?_
  unfold poolOf
  refine congrArg₂ (· - ·) (congrArg (· * _) (Finset.sum_congr rfl fun k _ => ?_)) (congrArg Z (by funext a; fin_cases a <;> rfl))
  have hk := k.isLt
  refine (onTop hc _ _ _ (x 1)).trans ?_
  rw [first_test i hi]
  by_cases h : k.val ≤ (x 0).val
  · rw [if_pos h, dif_pos (by show 16 ≤ 16 + (x 0).val - k.val; omega)]
    exact congrArg (fun r => Z (ix2 r (x 1))) (Fin.ext (by show 16 + (x 0).val - k.val - 16 = _; simp; omega))
  · rw [if_neg h, dif_neg (by show ¬16 ≤ 16 + (x 0).val - k.val; omega)]
    by_cases h0 : 0 < i
    · rw [if_pos h0, if_pos h0]
    · rw [if_neg h0, if_neg h0]
      pointwise

/-- What the kernel stores for a pool of window 16. -/
theorem dz_window16 (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8)
    (D : FVec Ideal S512x256 .f32) (Dh : FVec Ideal S16x256 .f32) (x : S512x256.Idx) :
    shapeCast S512x256 (truncf .bf16 (subf (extractStridedSlice S512x256 ![0, 0]
      (roll 520#32 hr (roll 524#32 hr (roll 526#32 hr (roll 527#32 hr (concatenate S528x256 0 [⟨S512x256, mulf D (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb)⟩, ⟨S16x256, Scalar.select (Scalar.cmpi CmpIPredicate.eq (BitVec.ofNat 32 i) 7#32) (broadcast S16x256 (FloatOps.ofBits (F := Ideal) FTy.f32 0#32)) (mulf Dh (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 16))))) hb1))⟩] hc : FVec Ideal S528x256 .f32))))) hs) D) ht) hsc x = dzOf i 16 D Dh (x 0) (x 1) := by
  have hx : (x 0).val < 512 := (x 0).isLt
  refine (peel_up hs ht hsc _ D x).trans ?_
  refine (congrArg (· - D x) (sum_up16 hr _ _ (x 1) (by show (x 0).val + 15 < 528; omega))).trans ?_
  unfold dzOf
  refine congrArg₂ (· - ·) (Finset.sum_congr rfl fun k _ => ?_) (congrArg D (by funext a; fin_cases a <;> rfl))
  refine (beneath hc _ _ _ (x 1)).trans ?_
  refine dite_congr rfl (fun h => ?_) fun h => ?_
  · exact congrArg (_ * ·) (inv_block hi0 hb i 16 (by omega) (by omega) _)
  · rw [last_test i hi]
    by_cases h7 : i = 7
    · rw [if_pos h7, if_pos h7]
      pointwise
    · rw [if_neg h7, if_neg h7]
      exact congrArg (_ * ·) (inv_next hi1 hb1 i 16 hi (by omega) _)

/-- What the kernel pools with window 16. -/
theorem pool_window16 (hr : S528x256.Rotates 0 none) (hi0 : S512x1.Iotas .tc 32 [0]) (hb : S512x1.Broadcasts S512x256)
    (hc : Shape.Concatenates [S16x256, S512x256] S528x256 0) (hs : S528x256.Slices ![16, 0] S512x256) (i : ℕ) (hi : i < 8)
    (Z : FVec Ideal S512x256 .f32) (Zh : FVec Ideal S16x256 .f32) :
    subf (mulf (extractStridedSlice S512x256 ![16, 0]
      (roll 8#32 hr (roll 4#32 hr (roll 2#32 hr (roll 1#32 hr (concatenate S528x256 0 [⟨S16x256, Scalar.select (Scalar.cmpi CmpIPredicate.sgt (BitVec.ofNat 32 i) 0#32) Zh (broadcast S16x256 (FloatOps.ofBits (F := Ideal) FTy.f32 0#32))⟩, ⟨S512x256, Z⟩] hc : FVec Ideal S528x256 .f32))))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb)) Z = fun x => poolOf i 16 Z Zh (x 0) (x 1) := by
  funext x
  have hx : (x 0).val < 512 := (x 0).isLt
  refine (peel_down hs _ _ Z x).trans ?_
  refine (congrArg₂ (fun a b => a * b - Z x) (sum_down16 hr _ _ (x 1) (by show 15 ≤ 16 + (x 0).val; omega))
    (inv_block hi0 hb i 16 (by omega) (by omega) x)).trans ?_
  unfold poolOf
  refine congrArg₂ (· - ·) (congrArg (· * _) (Finset.sum_congr rfl fun k _ => ?_)) (congrArg Z (by funext a; fin_cases a <;> rfl))
  have hk := k.isLt
  refine (onTop hc _ _ _ (x 1)).trans ?_
  rw [first_test i hi]
  by_cases h : k.val ≤ (x 0).val
  · rw [if_pos h, dif_pos (by show 16 ≤ 16 + (x 0).val - k.val; omega)]
    exact congrArg (fun r => Z (ix2 r (x 1))) (Fin.ext (by show 16 + (x 0).val - k.val - 16 = _; simp; omega))
  · rw [if_neg h, dif_neg (by show ¬16 ≤ 16 + (x 0).val - k.val; omega)]
    by_cases h0 : 0 < i
    · rw [if_pos h0, if_pos h0]
    · rw [if_neg h0, if_neg h0]
      pointwise

end Cert.Mixer
end
-- ==== Proof.MixerPoolVec.lean ====
module

public import proofs.«01_k».proof.Proof.MixerVec
public import proofs.«01_k».proof.Proof.MixerPool

/-! The chains of vector operations of the pooling half, for a group of columns, as sums. -/

@[expose] public section

set_option maxRecDepth 16384
set_option maxHeartbeats 4000000

noncomputable section

namespace Cert.Mixer

open Cert.MixerIdeal Idealize.ShloMosaic Idealize.ShloMosaic.TcCoe

/-- The columns of a group. -/
def cols (a : S512x1024.Idx → EReal) (g : Fin 4) : S512x256.Idx → EReal := fun x =>
  a (ix2 (n0 := 512) (n1 := 1024) (x 0) ⟨256 * g.val + (x 1).val, by have h : (x 1).val < 256 := (x 1).isLt; omega⟩)

/-- The columns of a group in a neighbour's rows. -/
def cols16 (a : S16x1024.Idx → EReal) (g : Fin 4) : S16x256.Idx → EReal := fun x =>
  a (ix2 (n0 := 16) (n1 := 1024) (x 0) ⟨256 * g.val + (x 1).val, by have h : (x 1).val < 256 := (x 1).isLt; omega⟩)

/-- A group's scales. -/
def scaleOf (sc : S1x1024.Idx → EReal) (g : Fin 4) (b : Fin 256) : EReal := sc (ix2 (0 : Fin 1) ⟨256 * g.val + b.val, by omega⟩)

/-- A group's window. -/
def win (g : Fin 4) : ℕ := 2 ^ (g.val + 1)

/-- The pooled rows of a group. -/
def pooledOf (i : ℕ) (g : Fin 4) (z : S512x1024.Idx → EReal) (zh : S16x1024.Idx → EReal) (r : Fin 512) (a : Fin 256) : EReal :=
  poolOf i (win g) (cols z g) (cols16 zh g) r a

/-- What a block adds to the gradient of a group's pooling weights. -/
def wpAt (i : ℕ) (z : S512x1024.Idx → EReal) (zh : S16x1024.Idx → EReal) (dob : S512x1024.Idx → EReal) (sc : S1x1024.Idx → EReal)
    (g : Fin 4) (a b : Fin 256) : EReal :=
  ∑ r : Fin 512, pooledOf i g z zh r a * (cols dob g (ix2 r b) * scaleOf sc g b)

/-- What a block adds to the gradient of a pooling scale. -/
def scAt (i : ℕ) (z : S512x1024.Idx → EReal) (zh : S16x1024.Idx → EReal) (dob : S512x1024.Idx → EReal) (wp : S4x256x256.Idx → EReal)
    (g : Fin 4) (b : Fin 256) : EReal :=
  ∑ r : Fin 512, cols dob g (ix2 r b) * ∑ a : Fin 256, pooledOf i g z zh r a * wp (ix3 g a b)

/-- The gradient of the pooled rows of a group. -/
def dpoOf (dob : S512x1024.Idx → EReal) (sc : S1x1024.Idx → EReal) (wp : S4x256x256.Idx → EReal) (g : Fin 4) : S512x256.Idx → EReal := fun x =>
  ∑ b : Fin 256, (cols dob g (ix2 (n0 := 512) (n1 := 256) (x 0) b) * scaleOf sc g b) * wp (ix3 (n0 := 4) (n1 := 256) (n2 := 256) g (x 1) b)

/-- The same in a neighbour's rows. -/
def dpohOf (dob : S16x1024.Idx → EReal) (sc : S1x1024.Idx → EReal) (wp : S4x256x256.Idx → EReal) (g : Fin 4) : S16x256.Idx → EReal := fun x =>
  ∑ b : Fin 256, (cols16 dob g (ix2 (n0 := 16) (n1 := 256) (x 0) b) * scaleOf sc g b) * wp (ix3 (n0 := 4) (n1 := 256) (n2 := 256) g (x 1) b)

/-- The gradient of the pooled argument of a group. -/
def zAt (i : ℕ) (dob : S512x1024.Idx → EReal) (dobh : S16x1024.Idx → EReal) (sc : S1x1024.Idx → EReal) (wp : S4x256x256.Idx → EReal)
    (g : Fin 4) (r : Fin 512) (a : Fin 256) : EReal :=
  dzOf i (win g) (dpoOf dob sc wp g) (dpohOf dobh sc wp g) r a

/-- A load of a group's columns. -/
theorem ld_cols (a : S512x1024.Idx → EReal) {p : ℕ} (inb) (g : Fin 4) (hp : p = 256 * g.val) :
    View.ld (Val := Elt Ideal) (e' := .f32) a (Rect.unit ![0, p] ![512, 256] inb) = cols a g := by
  funext x
  refine congrArg a (funext fun b => ?_)
  subst hp
  fin_cases b <;> apply Fin.ext <;> simp

/-- The same of sixteen-bit rows. -/
theorem ld_cols' (a : S512x1024.Idx → EReal) {p : ℕ} (inb) (g : Fin 4) (hp : p = 256 * g.val) :
    View.ld (Val := Elt Ideal) (e' := .bf16) a (Rect.unit ![0, p] ![512, 256] inb) = cols a g := ld_cols a inb g hp

/-- A load of a group's columns in a neighbour's rows. -/
theorem ld_cols16 (a : S16x1024.Idx → EReal) {p : ℕ} (inb) (g : Fin 4) (hp : p = 256 * g.val) :
    View.ld (Val := Elt Ideal) (e' := .f32) a (Rect.unit ![0, p] ![16, 256] inb) = cols16 a g := by
  funext x
  refine congrArg a (funext fun b => ?_)
  subst hp
  fin_cases b <;> apply Fin.ext <;> simp

/-- The same of sixteen-bit rows. -/
theorem ld_cols16' (a : S16x1024.Idx → EReal) {p : ℕ} (inb) (g : Fin 4) (hp : p = 256 * g.val) :
    View.ld (Val := Elt Ideal) (e' := .bf16) a (Rect.unit ![0, p] ![16, 256] inb) = cols16 a g := ld_cols16 a inb g hp

/-- A load of a group's scales. -/
theorem ld_scale (a : S1x1024.Idx → EReal) {p : ℕ} (inb) (g : Fin 4) (hp : p = 256 * g.val) (b : Fin 256) :
    View.ld (Val := Elt Ideal) (e' := .f32) a (Rect.unit ![0, p] ![1, 256] inb) (ix2 (0 : Fin 1) b) = scaleOf a g b := by
  refine congrArg a (funext fun b => ?_)
  subst hp
  fin_cases b <;> apply Fin.ext <;> simp

/-- A group's weights laid as a square. -/
theorem group_cast (V : S1x256x256.Idx → EReal) (hs : S1x256x256.ShapeCasts S256x256) (r d : Fin 256) :
    shapeCast S256x256 V hs (ix2 r d) = V (ix3 (0 : Fin 1) r d) := by
  pointwise

/-- A load of a group's weights. -/
theorem ld_group (a : S4x256x256.Idx → EReal) {o : ℕ} (inb) (hs : S1x256x256.ShapeCasts S256x256) (g : Fin 4) (ho : o = g.val) (r d : Fin 256) :
    shapeCast S256x256 (View.ld (Val := Elt Ideal) (e' := .bf16) a (Rect.unit ![o, 0, 0] ![1, 256, 256] inb)) hs (ix2 r d) = a (ix3 g r d) := by
  refine (group_cast _ hs r d).trans (congrArg a (funext fun b => ?_))
  subst ho
  fin_cases b <;> apply Fin.ext <;> simp

/-- The product that adds to the gradient of a group's pooling weights. -/
theorem wp_vec (Q : FVec Ideal S512x256 .f32) (D : FVec Ideal S512x256 .bf16) (T : FVec Ideal S1x256 .f32) (hb : FTy.bits .bf16 < FTy.bits .f32)
    (h5 : S1x256.Broadcasts S512x256) (a b : Fin 256) :
    matmul (φ₁ := .bf16) (φ₂ := .bf16) dot_S512x256_S512x256_S256x256_0_0_1_1_n_n none (truncf (F := Ideal) (φ := .f32) FTy.bf16 Q hb)
      (truncf (F := Ideal) (φ := .f32) FTy.bf16 (mulf (extf FTy.f32 D hb) (broadcastTo S512x256 T h5)) hb) (constant S256x256 FTy.f32 0#32) (ix2 a b)
      = ∑ r : Fin 512, Q (ix2 r a) * (D (ix2 r b) * T (ix2 (0 : Fin 1) b)) := by
  pointwise

/-- The sum that adds to the gradient of a pooling scale. -/
theorem sc_vec (Q : FVec Ideal S512x256 .f32) (D : FVec Ideal S512x256 .bf16) (W : FVec Ideal S256x256 .bf16) (hb : FTy.bits .bf16 < FTy.bits .f32)
    (h1 : S512x256.Reduces [0] S256) (h2) (h3) (b : Fin 256) :
    multiReduction (F := Ideal) (φ := .f32) FKind.add [0] S256 (mulf (extf FTy.f32 D hb)
      (matmul (φ₁ := .bf16) (φ₂ := .bf16) dot_S512x256_S256x256_S512x256_1_0_0_1_n_n none (truncf (F := Ideal) (φ := .f32) FTy.bf16 Q hb) W
        (constant S512x256 FTy.f32 0#32))) (0#32) h1 h2 h3 (ix1 b)
      = ∑ r : Fin 512, D (ix2 r b) * ∑ a : Fin 256, Q (ix2 r a) * W (ix2 a b) := by
  pointwise

/-- The product that is the gradient of the pooled rows. -/
theorem dpo_vec (D : FVec Ideal S512x256 .bf16) (T : FVec Ideal S1x256 .f32) (W : FVec Ideal S256x256 .bf16) (hb : FTy.bits .bf16 < FTy.bits .f32)
    (h5 : S1x256.Broadcasts S512x256) (r : Fin 512) (a : Fin 256) :
    matmul (φ₁ := .bf16) (φ₂ := .bf16) dot_S512x256_S256x256_S512x256_1_1_0_0_n_n none
      (truncf (F := Ideal) (φ := .f32) FTy.bf16 (mulf (extf FTy.f32 D hb) (broadcastTo S512x256 T h5)) hb) W (constant S512x256 FTy.f32 0#32) (ix2 r a)
      = ∑ b : Fin 256, (D (ix2 r b) * T (ix2 (0 : Fin 1) b)) * W (ix2 a b) := by
  pointwise

/-- The same in a neighbour's rows. -/
theorem dpoh_vec (D : FVec Ideal S16x256 .bf16) (T : FVec Ideal S1x256 .f32) (W : FVec Ideal S256x256 .bf16) (hb : FTy.bits .bf16 < FTy.bits .f32)
    (h5 : S1x256.Broadcasts S16x256) (r : Fin 16) (a : Fin 256) :
    matmul (φ₁ := .bf16) (φ₂ := .bf16) dot_S16x256_S256x256_S16x256_1_1_0_0_n_n none
      (truncf (F := Ideal) (φ := .f32) FTy.bf16 (mulf (extf FTy.f32 D hb) (broadcastTo S16x256 T h5)) hb) W (constant S16x256 FTy.f32 0#32) (ix2 r a)
      = ∑ b : Fin 256, (D (ix2 r b) * T (ix2 (0 : Fin 1) b)) * W (ix2 a b) := by
  pointwise

/-- A sum kept for a group with a further term. -/
theorem keep_group (P : FVec Ideal S1x256x256 .f32) (C : FVec Ideal S256x256 .f32) (h : S1x256x256.ShapeCasts S256x256) (h' : S256x256.ShapeCasts S1x256x256)
    (x : S1x256x256.Idx) : shapeCast S1x256x256 (addf (shapeCast S256x256 P h) C) h' x = P x + C (ix2 (x 1) (x 2)) := by
  pointwise

/-- A row of sums with a further term. -/
theorem keep_row (P : FVec Ideal S1x256 .f32) (C : FVec Ideal S256 .f32) (h : S256.ShapeCasts S1x256) (h' : S1x256.ShapeCasts S1x256) (x : S1x256.Idx) :
    shapeCast S1x256 (addf P (shapeCast S1x256 C h)) h' x = P x + C (ix1 (x 1)) := by
  pointwise

/-- The gradient of the pooled rows, as the kernel's operations. -/
theorem dpo_ld (dob : S512x1024.Idx → EReal) (sc : S1x1024.Idx → EReal) (wp : S4x256x256.Idx → EReal) {p o : ℕ} (inb inbs inbw)
    (hb : FTy.bits .bf16 < FTy.bits .f32) (h5 : S1x256.Broadcasts S512x256) (hs : S1x256x256.ShapeCasts S256x256) (g : Fin 4) (ho : o = g.val) (hp : p = 256 * g.val) :
    matmul (φ₁ := .bf16) (φ₂ := .bf16) dot_S512x256_S256x256_S512x256_1_1_0_0_n_n none
      (truncf (F := Ideal) (φ := .f32) FTy.bf16 (mulf (extf FTy.f32 (View.ld (Val := Elt Ideal) (e' := .bf16) dob (Rect.unit ![0, p] ![512, 256] inb)) hb) (broadcastTo S512x256 (View.ld (Val := Elt Ideal) (e' := .f32) sc (Rect.unit ![0, p] ![1, 256] inbs)) h5)) hb)
      (shapeCast S256x256 (View.ld (Val := Elt Ideal) (e' := .bf16) wp (Rect.unit ![o, 0, 0] ![1, 256, 256] inbw)) hs) (constant S512x256 FTy.f32 0#32) = dpoOf dob sc wp g := by
  funext x
  obtain ⟨r, a, rfl⟩ : ∃ r a, x = ix2 (n0 := 512) (n1 := 256) r a := ⟨x 0, x 1, by funext b; fin_cases b <;> rfl⟩
  refine (dpo_vec _ _ _ hb h5 r a).trans (Finset.sum_congr rfl fun b _ => ?_)
  rw [ld_scale sc inbs g hp b, ld_group wp inbw hs g ho a b, ld_cols' dob inb g hp]
  rfl

/-- The same in a neighbour's rows. -/
theorem dpoh_ld (dob : S16x1024.Idx → EReal) (sc : S1x1024.Idx → EReal) (wp : S4x256x256.Idx → EReal) {p o : ℕ} (inb inbs inbw)
    (hb : FTy.bits .bf16 < FTy.bits .f32) (h5 : S1x256.Broadcasts S16x256) (hs : S1x256x256.ShapeCasts S256x256) (g : Fin 4) (ho : o = g.val) (hp : p = 256 * g.val) :
    matmul (φ₁ := .bf16) (φ₂ := .bf16) dot_S16x256_S256x256_S16x256_1_1_0_0_n_n none
      (truncf (F := Ideal) (φ := .f32) FTy.bf16 (mulf (extf FTy.f32 (View.ld (Val := Elt Ideal) (e' := .bf16) dob (Rect.unit ![0, p] ![16, 256] inb)) hb) (broadcastTo S16x256 (View.ld (Val := Elt Ideal) (e' := .f32) sc (Rect.unit ![0, p] ![1, 256] inbs)) h5)) hb)
      (shapeCast S256x256 (View.ld (Val := Elt Ideal) (e' := .bf16) wp (Rect.unit ![o, 0, 0] ![1, 256, 256] inbw)) hs) (constant S16x256 FTy.f32 0#32) = dpohOf dob sc wp g := by
  funext x
  obtain ⟨r, a, rfl⟩ : ∃ r a, x = ix2 (n0 := 16) (n1 := 256) r a := ⟨x 0, x 1, by funext b; fin_cases b <;> rfl⟩
  refine (dpoh_vec _ _ _ hb h5 r a).trans (Finset.sum_congr rfl fun b _ => ?_)
  rw [ld_scale sc inbs g hp b, ld_group wp inbw hs g ho a b, ld_cols16' dob inb g hp]
  rfl

/-- A block's part of the gradient of the pooling weights, as the kernel's operations, with window 2. -/
theorem wp_chunk2 (z z' : S512x1024.Idx → EReal) (zh zh' : S16x1024.Idx → EReal) (hz : z' = z) (hzh : zh' = zh) (dob : S512x1024.Idx → EReal)
    (sc : S1x1024.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbs) (hb : FTy.bits .bf16 < FTy.bits .f32)
    (h5 : S1x256.Broadcasts S512x256) {a' b' : Fin 256} (g : Fin 4) (a b : Fin 256) (hg : g.val = 0) (ha : a.val = a'.val) (hd : b.val = b'.val) :
    matmul (φ₁ := .bf16) (φ₂ := .bf16) dot_S512x256_S512x256_S256x256_0_0_1_1_n_n none (truncf (F := Ideal) (φ := .f32) FTy.bf16 (subf (mulf (extractStridedSlice S512x256 ![16, 0]
        (roll 1#32 hr (concatenate S528x256 0 [⟨S16x256, Scalar.select (Scalar.cmpi CmpIPredicate.sgt (BitVec.ofNat 32 i) 0#32) (View.ld (Val := Elt Ideal) (e' := .f32) zh' (Rect.unit ![0, 0] ![16, 256] inbh)) (broadcast S16x256 (FloatOps.ofBits (F := Ideal) FTy.f32 0#32))⟩, ⟨S512x256, (View.ld (Val := Elt Ideal) (e' := .f32) z' (Rect.unit ![0, 0] ![512, 256] inb))⟩] hc : FVec Ideal S528x256 .f32)) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb1)) (View.ld (Val := Elt Ideal) (e' := .f32) z (Rect.unit ![0, 0] ![512, 256] inb))) hb)
      (truncf (F := Ideal) (φ := .f32) FTy.bf16 (mulf (extf FTy.f32 (View.ld (Val := Elt Ideal) (e' := .bf16) dob (Rect.unit ![0, 0] ![512, 256] inbd)) hb) (broadcastTo S512x256 (View.ld (Val := Elt Ideal) (e' := .f32) sc (Rect.unit ![0, 0] ![1, 256] inbs)) h5)) hb)
      (constant S256x256 FTy.f32 0#32) (ix2 a' b') = wpAt i z zh dob sc g a b := by
  subst hz hzh
  obtain rfl := Fin.ext ha
  obtain rfl := Fin.ext hd
  obtain rfl : g = 0 := Fin.ext hg
  refine (wp_vec _ _ _ hb h5 a b).trans (Finset.sum_congr rfl fun r _ => ?_)
  rw [ld_scale sc inbs 0 rfl b, ld_cols' dob inbd 0 rfl, pool_window2 hr hi0 hb1 hc hs i hi, ld_cols z' inb 0 rfl, ld_cols16 zh' inbh 0 rfl]
  rfl

/-- A block's part of the gradient of the pooling scales, as the kernel's operations, with window 2. -/
theorem sc_chunk2 (z z' : S512x1024.Idx → EReal) (zh zh' : S16x1024.Idx → EReal) (hz : z' = z) (hzh : zh' = zh) (dob : S512x1024.Idx → EReal)
    (wp : S4x256x256.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbw) (hb : FTy.bits .bf16 < FTy.bits .f32)
    (h1 : S512x256.Reduces [0] S256) (h2) (h3) (h6 : S1x256x256.ShapeCasts S256x256) {b' : Fin 256} (g : Fin 4) (b : Fin 256) (hg : g.val = 0) (hd : b.val = b'.val) :
    multiReduction (F := Ideal) (φ := .f32) FKind.add [0] S256 (mulf (extf FTy.f32 (View.ld (Val := Elt Ideal) (e' := .bf16) dob (Rect.unit ![0, 0] ![512, 256] inbd)) hb)
      (matmul (φ₁ := .bf16) (φ₂ := .bf16) dot_S512x256_S256x256_S512x256_1_0_0_1_n_n none (truncf (F := Ideal) (φ := .f32) FTy.bf16 (subf (mulf (extractStridedSlice S512x256 ![16, 0]
        (roll 1#32 hr (concatenate S528x256 0 [⟨S16x256, Scalar.select (Scalar.cmpi CmpIPredicate.sgt (BitVec.ofNat 32 i) 0#32) (View.ld (Val := Elt Ideal) (e' := .f32) zh' (Rect.unit ![0, 0] ![16, 256] inbh)) (broadcast S16x256 (FloatOps.ofBits (F := Ideal) FTy.f32 0#32))⟩, ⟨S512x256, (View.ld (Val := Elt Ideal) (e' := .f32) z' (Rect.unit ![0, 0] ![512, 256] inb))⟩] hc : FVec Ideal S528x256 .f32)) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb1)) (View.ld (Val := Elt Ideal) (e' := .f32) z (Rect.unit ![0, 0] ![512, 256] inb))) hb)
        (shapeCast S256x256 (View.ld (Val := Elt Ideal) (e' := .bf16) wp (Rect.unit ![0, 0, 0] ![1, 256, 256] inbw)) h6) (constant S512x256 FTy.f32 0#32))) (0#32) h1 h2 h3 (ix1 b') = scAt i z zh dob wp g b := by
  subst hz hzh
  obtain rfl := Fin.ext hd
  obtain rfl : g = 0 := Fin.ext hg
  refine (sc_vec _ _ _ hb h1 h2 h3 b).trans (Finset.sum_congr rfl fun r _ => congrArg₂ (· * ·) ?_ (Finset.sum_congr rfl fun a _ => congrArg₂ (· * ·) ?_ ?_))
  · rw [ld_cols' dob inbd 0 rfl]
  · rw [pool_window2 hr hi0 hb1 hc hs i hi, ld_cols z' inb 0 rfl, ld_cols16 zh' inbh 0 rfl]
    rfl
  · exact ld_group wp inbw h6 0 rfl a b

/-- The gradient of the pooled argument, as the kernel's operations, with window 2. -/
theorem z_chunk2 (dob dob' : S512x1024.Idx → EReal) (dobh dobh' : S16x1024.Idx → EReal) (sc sc' : S1x1024.Idx → EReal) (wp wp' : S4x256x256.Idx → EReal)
    (e1 : dob' = dob) (e2 : dobh' = dobh) (e3 : sc' = sc) (e4 : wp' = wp)
    (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8) (inbd inbe inbs inbw)
    (h5 : S1x256.Broadcasts S512x256) (h5' : S1x256.Broadcasts S16x256) (h6 : S1x256x256.ShapeCasts S256x256)
    (x : S512x256.Idx) (g : Fin 4) (hg : g.val = 0) (r : Fin 512) (a : Fin 256) (h0 : r.val = (x 0).val) (h1 : a.val = (x 1).val) :
    shapeCast S512x256 (truncf .bf16 (subf (extractStridedSlice S512x256 ![0, 0]
      (roll 527#32 hr (concatenate S528x256 0 [⟨S512x256, mulf (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob' (Rect.unit ![0, 0] ![512, 256] inbd)) ht) (broadcastTo S512x256 (View.ld (Val := Elt Ideal) (e' := .f32) sc' (Rect.unit ![0, 0] ![1, 256] inbs)) h5)) ht) (shapeCast S256x256 (View.ld (Val := Elt Ideal) (e' := .bf16) wp' (Rect.unit ![0, 0, 0] ![1, 256, 256] inbw)) h6) (constant S512x256 FTy.f32 0#32)) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb)⟩, ⟨S16x256, Scalar.select (Scalar.cmpi CmpIPredicate.eq (BitVec.ofNat 32 i) 7#32) (broadcast S16x256 (FloatOps.ofBits (F := Ideal) FTy.f32 0#32)) (mulf (matmul (φ₁ := .bf16) (φ₂ := .bf16) dot_S16x256_S256x256_S16x256_1_1_0_0_n_n none (truncf (F := Ideal) (φ := .f32) FTy.bf16 (mulf (extf FTy.f32 (View.ld (Val := Elt Ideal) (e' := .bf16) dobh' (Rect.unit ![0, 0] ![16, 256] inbe)) ht) (broadcastTo S16x256 (View.ld (Val := Elt Ideal) (e' := .f32) sc' (Rect.unit ![0, 0] ![1, 256] inbs)) h5')) ht) (shapeCast S256x256 (View.ld (Val := Elt Ideal) (e' := .bf16) wp' (Rect.unit ![0, 0, 0] ![1, 256, 256] inbw)) h6) (constant S16x256 FTy.f32 0#32)) (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 2))))) hb1))⟩] hc : FVec Ideal S528x256 .f32)) hs) (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob (Rect.unit ![0, 0] ![512, 256] inbd)) ht) (broadcastTo S512x256 (View.ld (Val := Elt Ideal) (e' := .f32) sc (Rect.unit ![0, 0] ![1, 256] inbs)) h5)) ht) (shapeCast S256x256 (View.ld (Val := Elt Ideal) (e' := .bf16) wp (Rect.unit ![0, 0, 0] ![1, 256, 256] inbw)) h6) (constant S512x256 FTy.f32 0#32))) ht) hsc x = zAt i dob dobh sc wp g r a := by
  subst e1 e2 e3 e4
  obtain rfl : g = 0 := Fin.ext hg
  refine (dz_window2 hr hi0 hi1 hb hb1 hc hs ht hsc i hi _ _ x).trans ?_
  rw [dpo_ld dob' sc' wp' inbd inbs inbw ht h5 h6 0 rfl rfl, dpoh_ld dobh' sc' wp' inbe inbs inbw ht h5' h6 0 rfl rfl]
  exact congrArg₂ (dzOf i 2 _ _) (Fin.ext h0.symm) (Fin.ext h1.symm)

/-- A block's part of the gradient of the pooling weights, as the kernel's operations, with window 4. -/
theorem wp_chunk4 (z z' : S512x1024.Idx → EReal) (zh zh' : S16x1024.Idx → EReal) (hz : z' = z) (hzh : zh' = zh) (dob : S512x1024.Idx → EReal)
    (sc : S1x1024.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbs) (hb : FTy.bits .bf16 < FTy.bits .f32)
    (h5 : S1x256.Broadcasts S512x256) {a' b' : Fin 256} (g : Fin 4) (a b : Fin 256) (hg : g.val = 1) (ha : a.val = a'.val) (hd : b.val = b'.val) :
    matmul (φ₁ := .bf16) (φ₂ := .bf16) dot_S512x256_S512x256_S256x256_0_0_1_1_n_n none (truncf (F := Ideal) (φ := .f32) FTy.bf16 (subf (mulf (extractStridedSlice S512x256 ![16, 0]
        (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 256] ![16, 256] inbh)) (broadcast S16x256 (FloatOps.ofBits (F := Ideal) FTy.f32 0#32))⟩, ⟨S512x256, (View.ld (Val := Elt Ideal) (e' := .f32) z' (Rect.unit ![0, 256] ![512, 256] inb))⟩] hc : FVec Ideal S528x256 .f32))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb1)) (View.ld (Val := Elt Ideal) (e' := .f32) z (Rect.unit ![0, 256] ![512, 256] inb))) hb)
      (truncf (F := Ideal) (φ := .f32) FTy.bf16 (mulf (extf FTy.f32 (View.ld (Val := Elt Ideal) (e' := .bf16) dob (Rect.unit ![0, 256] ![512, 256] inbd)) hb) (broadcastTo S512x256 (View.ld (Val := Elt Ideal) (e' := .f32) sc (Rect.unit ![0, 256] ![1, 256] inbs)) h5)) hb)
      (constant S256x256 FTy.f32 0#32) (ix2 a' b') = wpAt i z zh dob sc g a b := by
  subst hz hzh
  obtain rfl := Fin.ext ha
  obtain rfl := Fin.ext hd
  obtain rfl : g = 1 := Fin.ext hg
  refine (wp_vec _ _ _ hb h5 a b).trans (Finset.sum_congr rfl fun r _ => ?_)
  rw [ld_scale sc inbs 1 rfl b, ld_cols' dob inbd 1 rfl, pool_window4 hr hi0 hb1 hc hs i hi, ld_cols z' inb 1 rfl, ld_cols16 zh' inbh 1 rfl]
  rfl

/-- A block's part of the gradient of the pooling scales, as the kernel's operations, with window 4. -/
theorem sc_chunk4 (z z' : S512x1024.Idx → EReal) (zh zh' : S16x1024.Idx → EReal) (hz : z' = z) (hzh : zh' = zh) (dob : S512x1024.Idx → EReal)
    (wp : S4x256x256.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbw) (hb : FTy.bits .bf16 < FTy.bits .f32)
    (h1 : S512x256.Reduces [0] S256) (h2) (h3) (h6 : S1x256x256.ShapeCasts S256x256) {b' : Fin 256} (g : Fin 4) (b : Fin 256) (hg : g.val = 1) (hd : b.val = b'.val) :
    multiReduction (F := Ideal) (φ := .f32) FKind.add [0] S256 (mulf (extf FTy.f32 (View.ld (Val := Elt Ideal) (e' := .bf16) dob (Rect.unit ![0, 256] ![512, 256] inbd)) hb)
      (matmul (φ₁ := .bf16) (φ₂ := .bf16) dot_S512x256_S256x256_S512x256_1_0_0_1_n_n none (truncf (F := Ideal) (φ := .f32) FTy.bf16 (subf (mulf (extractStridedSlice S512x256 ![16, 0]
        (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 256] ![16, 256] inbh)) (broadcast S16x256 (FloatOps.ofBits (F := Ideal) FTy.f32 0#32))⟩, ⟨S512x256, (View.ld (Val := Elt Ideal) (e' := .f32) z' (Rect.unit ![0, 256] ![512, 256] inb))⟩] hc : FVec Ideal S528x256 .f32))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb1)) (View.ld (Val := Elt Ideal) (e' := .f32) z (Rect.unit ![0, 256] ![512, 256] inb))) hb)
        (shapeCast S256x256 (View.ld (Val := Elt Ideal) (e' := .bf16) wp (Rect.unit ![1, 0, 0] ![1, 256, 256] inbw)) h6) (constant S512x256 FTy.f32 0#32))) (0#32) h1 h2 h3 (ix1 b') = scAt i z zh dob wp g b := by
  subst hz hzh
  obtain rfl := Fin.ext hd
  obtain rfl : g = 1 := Fin.ext hg
  refine (sc_vec _ _ _ hb h1 h2 h3 b).trans (Finset.sum_congr rfl fun r _ => congrArg₂ (· * ·) ?_ (Finset.sum_congr rfl fun a _ => congrArg₂ (· * ·) ?_ ?_))
  · rw [ld_cols' dob inbd 1 rfl]
  · rw [pool_window4 hr hi0 hb1 hc hs i hi, ld_cols z' inb 1 rfl, ld_cols16 zh' inbh 1 rfl]
    rfl
  · exact ld_group wp inbw h6 1 rfl a b

/-- The gradient of the pooled argument, as the kernel's operations, with window 4. -/
theorem z_chunk4 (dob dob' : S512x1024.Idx → EReal) (dobh dobh' : S16x1024.Idx → EReal) (sc sc' : S1x1024.Idx → EReal) (wp wp' : S4x256x256.Idx → EReal)
    (e1 : dob' = dob) (e2 : dobh' = dobh) (e3 : sc' = sc) (e4 : wp' = wp)
    (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8) (inbd inbe inbs inbw)
    (h5 : S1x256.Broadcasts S512x256) (h5' : S1x256.Broadcasts S16x256) (h6 : S1x256x256.ShapeCasts S256x256)
    (x : S512x256.Idx) (g : Fin 4) (hg : g.val = 1) (r : Fin 512) (a : Fin 256) (h0 : r.val = (x 0).val) (h1 : a.val = (x 1).val) :
    shapeCast S512x256 (truncf .bf16 (subf (extractStridedSlice S512x256 ![0, 0]
      (roll 526#32 hr (roll 527#32 hr (concatenate S528x256 0 [⟨S512x256, mulf (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob' (Rect.unit ![0, 256] ![512, 256] inbd)) ht) (broadcastTo S512x256 (View.ld (Val := Elt Ideal) (e' := .f32) sc' (Rect.unit ![0, 256] ![1, 256] inbs)) h5)) ht) (shapeCast S256x256 (View.ld (Val := Elt Ideal) (e' := .bf16) wp' (Rect.unit ![1, 0, 0] ![1, 256, 256] inbw)) h6) (constant S512x256 FTy.f32 0#32)) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb)⟩, ⟨S16x256, Scalar.select (Scalar.cmpi CmpIPredicate.eq (BitVec.ofNat 32 i) 7#32) (broadcast S16x256 (FloatOps.ofBits (F := Ideal) FTy.f32 0#32)) (mulf (matmul (φ₁ := .bf16) (φ₂ := .bf16) dot_S16x256_S256x256_S16x256_1_1_0_0_n_n none (truncf (F := Ideal) (φ := .f32) FTy.bf16 (mulf (extf FTy.f32 (View.ld (Val := Elt Ideal) (e' := .bf16) dobh' (Rect.unit ![0, 256] ![16, 256] inbe)) ht) (broadcastTo S16x256 (View.ld (Val := Elt Ideal) (e' := .f32) sc' (Rect.unit ![0, 256] ![1, 256] inbs)) h5')) ht) (shapeCast S256x256 (View.ld (Val := Elt Ideal) (e' := .bf16) wp' (Rect.unit ![1, 0, 0] ![1, 256, 256] inbw)) h6) (constant S16x256 FTy.f32 0#32)) (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 4))))) hb1))⟩] hc : FVec Ideal S528x256 .f32))) hs) (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob (Rect.unit ![0, 256] ![512, 256] inbd)) ht) (broadcastTo S512x256 (View.ld (Val := Elt Ideal) (e' := .f32) sc (Rect.unit ![0, 256] ![1, 256] inbs)) h5)) ht) (shapeCast S256x256 (View.ld (Val := Elt Ideal) (e' := .bf16) wp (Rect.unit ![1, 0, 0] ![1, 256, 256] inbw)) h6) (constant S512x256 FTy.f32 0#32))) ht) hsc x = zAt i dob dobh sc wp g r a := by
  subst e1 e2 e3 e4
  obtain rfl : g = 1 := Fin.ext hg
  refine (dz_window4 hr hi0 hi1 hb hb1 hc hs ht hsc i hi _ _ x).trans ?_
  rw [dpo_ld dob' sc' wp' inbd inbs inbw ht h5 h6 1 rfl rfl, dpoh_ld dobh' sc' wp' inbe inbs inbw ht h5' h6 1 rfl rfl]
  exact congrArg₂ (dzOf i 4 _ _) (Fin.ext h0.symm) (Fin.ext h1.symm)

/-- A block's part of the gradient of the pooling weights, as the kernel's operations, with window 8. -/
theorem wp_chunk8 (z z' : S512x1024.Idx → EReal) (zh zh' : S16x1024.Idx → EReal) (hz : z' = z) (hzh : zh' = zh) (dob : S512x1024.Idx → EReal)
    (sc : S1x1024.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbs) (hb : FTy.bits .bf16 < FTy.bits .f32)
    (h5 : S1x256.Broadcasts S512x256) {a' b' : Fin 256} (g : Fin 4) (a b : Fin 256) (hg : g.val = 2) (ha : a.val = a'.val) (hd : b.val = b'.val) :
    matmul (φ₁ := .bf16) (φ₂ := .bf16) dot_S512x256_S512x256_S256x256_0_0_1_1_n_n none (truncf (F := Ideal) (φ := .f32) FTy.bf16 (subf (mulf (extractStridedSlice S512x256 ![16, 0]
        (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 512] ![16, 256] inbh)) (broadcast S16x256 (FloatOps.ofBits (F := Ideal) FTy.f32 0#32))⟩, ⟨S512x256, (View.ld (Val := Elt Ideal) (e' := .f32) z' (Rect.unit ![0, 512] ![512, 256] inb))⟩] hc : FVec Ideal S528x256 .f32)))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb1)) (View.ld (Val := Elt Ideal) (e' := .f32) z (Rect.unit ![0, 512] ![512, 256] inb))) hb)
      (truncf (F := Ideal) (φ := .f32) FTy.bf16 (mulf (extf FTy.f32 (View.ld (Val := Elt Ideal) (e' := .bf16) dob (Rect.unit ![0, 512] ![512, 256] inbd)) hb) (broadcastTo S512x256 (View.ld (Val := Elt Ideal) (e' := .f32) sc (Rect.unit ![0, 512] ![1, 256] inbs)) h5)) hb)
      (constant S256x256 FTy.f32 0#32) (ix2 a' b') = wpAt i z zh dob sc g a b := by
  subst hz hzh
  obtain rfl := Fin.ext ha
  obtain rfl := Fin.ext hd
  obtain rfl : g = 2 := Fin.ext hg
  refine (wp_vec _ _ _ hb h5 a b).trans (Finset.sum_congr rfl fun r _ => ?_)
  rw [ld_scale sc inbs 2 rfl b, ld_cols' dob inbd 2 rfl, pool_window8 hr hi0 hb1 hc hs i hi, ld_cols z' inb 2 rfl, ld_cols16 zh' inbh 2 rfl]
  rfl

/-- A block's part of the gradient of the pooling scales, as the kernel's operations, with window 8. -/
theorem sc_chunk8 (z z' : S512x1024.Idx → EReal) (zh zh' : S16x1024.Idx → EReal) (hz : z' = z) (hzh : zh' = zh) (dob : S512x1024.Idx → EReal)
    (wp : S4x256x256.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbw) (hb : FTy.bits .bf16 < FTy.bits .f32)
    (h1 : S512x256.Reduces [0] S256) (h2) (h3) (h6 : S1x256x256.ShapeCasts S256x256) {b' : Fin 256} (g : Fin 4) (b : Fin 256) (hg : g.val = 2) (hd : b.val = b'.val) :
    multiReduction (F := Ideal) (φ := .f32) FKind.add [0] S256 (mulf (extf FTy.f32 (View.ld (Val := Elt Ideal) (e' := .bf16) dob (Rect.unit ![0, 512] ![512, 256] inbd)) hb)
      (matmul (φ₁ := .bf16) (φ₂ := .bf16) dot_S512x256_S256x256_S512x256_1_0_0_1_n_n none (truncf (F := Ideal) (φ := .f32) FTy.bf16 (subf (mulf (extractStridedSlice S512x256 ![16, 0]
        (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 512] ![16, 256] inbh)) (broadcast S16x256 (FloatOps.ofBits (F := Ideal) FTy.f32 0#32))⟩, ⟨S512x256, (View.ld (Val := Elt Ideal) (e' := .f32) z' (Rect.unit ![0, 512] ![512, 256] inb))⟩] hc : FVec Ideal S528x256 .f32)))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb1)) (View.ld (Val := Elt Ideal) (e' := .f32) z (Rect.unit ![0, 512] ![512, 256] inb))) hb)
        (shapeCast S256x256 (View.ld (Val := Elt Ideal) (e' := .bf16) wp (Rect.unit ![2, 0, 0] ![1, 256, 256] inbw)) h6) (constant S512x256 FTy.f32 0#32))) (0#32) h1 h2 h3 (ix1 b') = scAt i z zh dob wp g b := by
  subst hz hzh
  obtain rfl := Fin.ext hd
  obtain rfl : g = 2 := Fin.ext hg
  refine (sc_vec _ _ _ hb h1 h2 h3 b).trans (Finset.sum_congr rfl fun r _ => congrArg₂ (· * ·) ?_ (Finset.sum_congr rfl fun a _ => congrArg₂ (· * ·) ?_ ?_))
  · rw [ld_cols' dob inbd 2 rfl]
  · rw [pool_window8 hr hi0 hb1 hc hs i hi, ld_cols z' inb 2 rfl, ld_cols16 zh' inbh 2 rfl]
    rfl
  · exact ld_group wp inbw h6 2 rfl a b

/-- The gradient of the pooled argument, as the kernel's operations, with window 8. -/
theorem z_chunk8 (dob dob' : S512x1024.Idx → EReal) (dobh dobh' : S16x1024.Idx → EReal) (sc sc' : S1x1024.Idx → EReal) (wp wp' : S4x256x256.Idx → EReal)
    (e1 : dob' = dob) (e2 : dobh' = dobh) (e3 : sc' = sc) (e4 : wp' = wp)
    (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8) (inbd inbe inbs inbw)
    (h5 : S1x256.Broadcasts S512x256) (h5' : S1x256.Broadcasts S16x256) (h6 : S1x256x256.ShapeCasts S256x256)
    (x : S512x256.Idx) (g : Fin 4) (hg : g.val = 2) (r : Fin 512) (a : Fin 256) (h0 : r.val = (x 0).val) (h1 : a.val = (x 1).val) :
    shapeCast S512x256 (truncf .bf16 (subf (extractStridedSlice S512x256 ![0, 0]
      (roll 524#32 hr (roll 526#32 hr (roll 527#32 hr (concatenate S528x256 0 [⟨S512x256, mulf (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob' (Rect.unit ![0, 512] ![512, 256] inbd)) ht) (broadcastTo S512x256 (View.ld (Val := Elt Ideal) (e' := .f32) sc' (Rect.unit ![0, 512] ![1, 256] inbs)) h5)) ht) (shapeCast S256x256 (View.ld (Val := Elt Ideal) (e' := .bf16) wp' (Rect.unit ![2, 0, 0] ![1, 256, 256] inbw)) h6) (constant S512x256 FTy.f32 0#32)) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb)⟩, ⟨S16x256, Scalar.select (Scalar.cmpi CmpIPredicate.eq (BitVec.ofNat 32 i) 7#32) (broadcast S16x256 (FloatOps.ofBits (F := Ideal) FTy.f32 0#32)) (mulf (matmul (φ₁ := .bf16) (φ₂ := .bf16) dot_S16x256_S256x256_S16x256_1_1_0_0_n_n none (truncf (F := Ideal) (φ := .f32) FTy.bf16 (mulf (extf FTy.f32 (View.ld (Val := Elt Ideal) (e' := .bf16) dobh' (Rect.unit ![0, 512] ![16, 256] inbe)) ht) (broadcastTo S16x256 (View.ld (Val := Elt Ideal) (e' := .f32) sc' (Rect.unit ![0, 512] ![1, 256] inbs)) h5')) ht) (shapeCast S256x256 (View.ld (Val := Elt Ideal) (e' := .bf16) wp' (Rect.unit ![2, 0, 0] ![1, 256, 256] inbw)) h6) (constant S16x256 FTy.f32 0#32)) (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 8))))) hb1))⟩] hc : FVec Ideal S528x256 .f32)))) hs) (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob (Rect.unit ![0, 512] ![512, 256] inbd)) ht) (broadcastTo S512x256 (View.ld (Val := Elt Ideal) (e' := .f32) sc (Rect.unit ![0, 512] ![1, 256] inbs)) h5)) ht) (shapeCast S256x256 (View.ld (Val := Elt Ideal) (e' := .bf16) wp (Rect.unit ![2, 0, 0] ![1, 256, 256] inbw)) h6) (constant S512x256 FTy.f32 0#32))) ht) hsc x = zAt i dob dobh sc wp g r a := by
  subst e1 e2 e3 e4
  obtain rfl : g = 2 := Fin.ext hg
  refine (dz_window8 hr hi0 hi1 hb hb1 hc hs ht hsc i hi _ _ x).trans ?_
  rw [dpo_ld dob' sc' wp' inbd inbs inbw ht h5 h6 2 rfl rfl, dpoh_ld dobh' sc' wp' inbe inbs inbw ht h5' h6 2 rfl rfl]
  exact congrArg₂ (dzOf i 8 _ _) (Fin.ext h0.symm) (Fin.ext h1.symm)

/-- A block's part of the gradient of the pooling weights, as the kernel's operations, with window 16. -/
theorem wp_chunk16 (z z' : S512x1024.Idx → EReal) (zh zh' : S16x1024.Idx → EReal) (hz : z' = z) (hzh : zh' = zh) (dob : S512x1024.Idx → EReal)
    (sc : S1x1024.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbs) (hb : FTy.bits .bf16 < FTy.bits .f32)
    (h5 : S1x256.Broadcasts S512x256) {a' b' : Fin 256} (g : Fin 4) (a b : Fin 256) (hg : g.val = 3) (ha : a.val = a'.val) (hd : b.val = b'.val) :
    matmul (φ₁ := .bf16) (φ₂ := .bf16) dot_S512x256_S512x256_S256x256_0_0_1_1_n_n none (truncf (F := Ideal) (φ := .f32) FTy.bf16 (subf (mulf (extractStridedSlice S512x256 ![16, 0]
        (roll 8#32 hr (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 768] ![16, 256] inbh)) (broadcast S16x256 (FloatOps.ofBits (F := Ideal) FTy.f32 0#32))⟩, ⟨S512x256, (View.ld (Val := Elt Ideal) (e' := .f32) z' (Rect.unit ![0, 768] ![512, 256] inb))⟩] hc : FVec Ideal S528x256 .f32))))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb1)) (View.ld (Val := Elt Ideal) (e' := .f32) z (Rect.unit ![0, 768] ![512, 256] inb))) hb)
      (truncf (F := Ideal) (φ := .f32) FTy.bf16 (mulf (extf FTy.f32 (View.ld (Val := Elt Ideal) (e' := .bf16) dob (Rect.unit ![0, 768] ![512, 256] inbd)) hb) (broadcastTo S512x256 (View.ld (Val := Elt Ideal) (e' := .f32) sc (Rect.unit ![0, 768] ![1, 256] inbs)) h5)) hb)
      (constant S256x256 FTy.f32 0#32) (ix2 a' b') = wpAt i z zh dob sc g a b := by
  subst hz hzh
  obtain rfl := Fin.ext ha
  obtain rfl := Fin.ext hd
  obtain rfl : g = 3 := Fin.ext hg
  refine (wp_vec _ _ _ hb h5 a b).trans (Finset.sum_congr rfl fun r _ => ?_)
  rw [ld_scale sc inbs 3 rfl b, ld_cols' dob inbd 3 rfl, pool_window16 hr hi0 hb1 hc hs i hi, ld_cols z' inb 3 rfl, ld_cols16 zh' inbh 3 rfl]
  rfl

/-- A block's part of the gradient of the pooling scales, as the kernel's operations, with window 16. -/
theorem sc_chunk16 (z z' : S512x1024.Idx → EReal) (zh zh' : S16x1024.Idx → EReal) (hz : z' = z) (hzh : zh' = zh) (dob : S512x1024.Idx → EReal)
    (wp : S4x256x256.Idx → EReal) (hr : S528x256.Rotates 0 none) (hi0 : S512x1.Iotas .tc 32 [0]) (hb1 : S512x1.Broadcasts S512x256)
    (hc : Shape.Concatenates [S16x256, S512x256] S528x256 0) (hs : S528x256.Slices ![16, 0] S512x256) (i : ℕ) (hi : i < 8) (inb inbh inbd inbw) (hb : FTy.bits .bf16 < FTy.bits .f32)
    (h1 : S512x256.Reduces [0] S256) (h2) (h3) (h6 : S1x256x256.ShapeCasts S256x256) {b' : Fin 256} (g : Fin 4) (b : Fin 256) (hg : g.val = 3) (hd : b.val = b'.val) :
    multiReduction (F := Ideal) (φ := .f32) FKind.add [0] S256 (mulf (extf FTy.f32 (View.ld (Val := Elt Ideal) (e' := .bf16) dob (Rect.unit ![0, 768] ![512, 256] inbd)) hb)
      (matmul (φ₁ := .bf16) (φ₂ := .bf16) dot_S512x256_S256x256_S512x256_1_0_0_1_n_n none (truncf (F := Ideal) (φ := .f32) FTy.bf16 (subf (mulf (extractStridedSlice S512x256 ![16, 0]
        (roll 8#32 hr (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 768] ![16, 256] inbh)) (broadcast S16x256 (FloatOps.ofBits (F := Ideal) FTy.f32 0#32))⟩, ⟨S512x256, (View.ld (Val := Elt Ideal) (e' := .f32) z' (Rect.unit ![0, 768] ![512, 256] inb))⟩] hc : FVec Ideal S528x256 .f32))))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb1)) (View.ld (Val := Elt Ideal) (e' := .f32) z (Rect.unit ![0, 768] ![512, 256] inb))) hb)
        (shapeCast S256x256 (View.ld (Val := Elt Ideal) (e' := .bf16) wp (Rect.unit ![3, 0, 0] ![1, 256, 256] inbw)) h6) (constant S512x256 FTy.f32 0#32))) (0#32) h1 h2 h3 (ix1 b') = scAt i z zh dob wp g b := by
  subst hz hzh
  obtain rfl := Fin.ext hd
  obtain rfl : g = 3 := Fin.ext hg
  refine (sc_vec _ _ _ hb h1 h2 h3 b).trans (Finset.sum_congr rfl fun r _ => congrArg₂ (· * ·) ?_ (Finset.sum_congr rfl fun a _ => congrArg₂ (· * ·) ?_ ?_))
  · rw [ld_cols' dob inbd 3 rfl]
  · rw [pool_window16 hr hi0 hb1 hc hs i hi, ld_cols z' inb 3 rfl, ld_cols16 zh' inbh 3 rfl]
    rfl
  · exact ld_group wp inbw h6 3 rfl a b

/-- The gradient of the pooled argument, as the kernel's operations, with window 16. -/
theorem z_chunk16 (dob dob' : S512x1024.Idx → EReal) (dobh dobh' : S16x1024.Idx → EReal) (sc sc' : S1x1024.Idx → EReal) (wp wp' : S4x256x256.Idx → EReal)
    (e1 : dob' = dob) (e2 : dobh' = dobh) (e3 : sc' = sc) (e4 : wp' = wp)
    (hr : S528x256.Rotates 0 none) (hi0 : S512x1.Iotas .tc 32 [0]) (hi1 : S16x1.Iotas .tc 32 [0]) (hb : S512x1.Broadcasts S512x256)
    (hb1 : S16x1.Broadcasts S16x256) (hc : Shape.Concatenates [S512x256, S16x256] S528x256 0) (hs : S528x256.Slices ![0, 0] S512x256)
    (ht : FTy.bits .bf16 < FTy.bits .f32) (hsc : S512x256.ShapeCasts S512x256) (i : ℕ) (hi : i < 8) (inbd inbe inbs inbw)
    (h5 : S1x256.Broadcasts S512x256) (h5' : S1x256.Broadcasts S16x256) (h6 : S1x256x256.ShapeCasts S256x256)
    (x : S512x256.Idx) (g : Fin 4) (hg : g.val = 3) (r : Fin 512) (a : Fin 256) (h0 : r.val = (x 0).val) (h1 : a.val = (x 1).val) :
    shapeCast S512x256 (truncf .bf16 (subf (extractStridedSlice S512x256 ![0, 0]
      (roll 520#32 hr (roll 524#32 hr (roll 526#32 hr (roll 527#32 hr (concatenate S528x256 0 [⟨S512x256, mulf (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob' (Rect.unit ![0, 768] ![512, 256] inbd)) ht) (broadcastTo S512x256 (View.ld (Val := Elt Ideal) (e' := .f32) sc' (Rect.unit ![0, 768] ![1, 256] inbs)) h5)) ht) (shapeCast S256x256 (View.ld (Val := Elt Ideal) (e' := .bf16) wp' (Rect.unit ![3, 0, 0] ![1, 256, 256] inbw)) h6) (constant S512x256 FTy.f32 0#32)) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb)⟩, ⟨S16x256, Scalar.select (Scalar.cmpi CmpIPredicate.eq (BitVec.ofNat 32 i) 7#32) (broadcast S16x256 (FloatOps.ofBits (F := Ideal) FTy.f32 0#32)) (mulf (matmul (φ₁ := .bf16) (φ₂ := .bf16) dot_S16x256_S256x256_S16x256_1_1_0_0_n_n none (truncf (F := Ideal) (φ := .f32) FTy.bf16 (mulf (extf FTy.f32 (View.ld (Val := Elt Ideal) (e' := .bf16) dobh' (Rect.unit ![0, 768] ![16, 256] inbe)) ht) (broadcastTo S16x256 (View.ld (Val := Elt Ideal) (e' := .f32) sc' (Rect.unit ![0, 768] ![1, 256] inbs)) h5')) ht) (shapeCast S256x256 (View.ld (Val := Elt Ideal) (e' := .bf16) wp' (Rect.unit ![3, 0, 0] ![1, 256, 256] inbw)) h6) (constant S16x256 FTy.f32 0#32)) (broadcastTo S16x256 (divf (broadcast S16x1 (FloatOps.ofBits (F := Ideal) FTy.f32 1065353216#32)) (sitofp (F := Ideal) FTy.f32 (minsi (addi (addi (broadcast S16x1 (Scalar.muli (Scalar.addi (BitVec.ofNat 32 i) 1#32) 512#32)) (iota Kind.tc S16x1 32 [0] hi1)) (broadcast S16x1 1#32)) (broadcast S16x1 (BitVec.ofNat 32 16))))) hb1))⟩] hc : FVec Ideal S528x256 .f32))))) hs) (matmul (φ₁ := .bf16) (φ₂ := .bf16) dot_S512x256_S256x256_S512x256_1_1_0_0_n_n none (truncf (F := Ideal) (φ := .f32) FTy.bf16 (mulf (extf FTy.f32 (View.ld (Val := Elt Ideal) (e' := .bf16) dob (Rect.unit ![0, 768] ![512, 256] inbd)) ht) (broadcastTo S512x256 (View.ld (Val := Elt Ideal) (e' := .f32) sc (Rect.unit ![0, 768] ![1, 256] inbs)) h5)) ht) (shapeCast S256x256 (View.ld (Val := Elt Ideal) (e' := .bf16) wp (Rect.unit ![3, 0, 0] ![1, 256, 256] inbw)) h6) (constant S512x256 FTy.f32 0#32))) ht) hsc x = zAt i dob dobh sc wp g r a := by
  subst e1 e2 e3 e4
  obtain rfl : g = 3 := Fin.ext hg
  refine (dz_window16 hr hi0 hi1 hb hb1 hc hs ht hsc i hi _ _ x).trans ?_
  rw [dpo_ld dob' sc' wp' inbd inbs inbw ht h5 h6 3 rfl rfl, dpoh_ld dobh' sc' wp' inbe inbs inbw ht h5' h6 3 rfl rfl]
  exact congrArg₂ (dzOf i 16 _ _) (Fin.ext h0.symm) (Fin.ext h1.symm)

end Cert.Mixer
end
-- ==== Proof.MixerSpec.lean ====
module

public import proofs.«01_k».proof.Proof.MixerSum
public import proofs.«01_k».proof.Proof.MixerPoolVec
public import proofs.«01_k».proof.Proof.NormGrad

/-! What the mixer's backward call computes, over whole arrays: the tokens are 4096, cut into 32 chunks of 128 by the gate;
`p` holds the three thirds of the projected rows, `dm` the two halves of the cotangent. -/

@[expose] public section

noncomputable section

namespace Cert.Mixer

open Idealize.ShloMosaic Cert.MixerIdeal

/-- An array of tokens and lanes. -/
abbrev Rows := Fin 4096 → Fin 1024 → EReal

/-- A third of the projected rows. -/
def third (p : S4096x3072.Idx → EReal) (k : Fin 3) : Rows := fun T j => p (ix2 T ⟨1024 * k.val + j.val, by omega⟩)

/-- A half of the cotangent. -/
def half (dm : S4096x2048.Idx → EReal) (k : Fin 2) : Rows := fun T j => dm (ix2 T ⟨1024 * k.val + j.val, by omega⟩)

/-- The tile of chunk `n` and head `h`. -/
def chunk (f : Rows) (n : Fin 32) (h : Fin 8) : Tile := fun r d => f ⟨n.val * 128 + r.val, by omega⟩ ⟨128 * h.val + d.val, by omega⟩

/-- A head's slice of the gains. -/
def gains (g : S1x1024.Idx → EReal) (h : Fin 8) : Fin 128 → EReal := fun d => g (ix2 0 ⟨128 * h.val + d.val, by omega⟩)

/-- A head's weights. -/
def slab (w : S8x128x128.Idx → EReal) (h : Fin 8) : Tile := fun r d => w (ix3 h r d)

/-- The head of a column. -/
def headOf (j : Fin 1024) : Fin 8 := ⟨j.val / 128, by omega⟩

/-- The lane of a column within its head. -/
def laneOf (j : Fin 1024) : Fin 128 := ⟨j.val % 128, by omega⟩

/-- The chunk of a token. -/
def chunkOf (T : Fin 4096) : Fin 32 := ⟨T.val / 128, by omega⟩

/-- The place of a token within its chunk. -/
def rowOf (T : Fin 4096) : Fin 128 := ⟨T.val % 128, by omega⟩

/-- The gradient of the gate's own argument. -/
def duA (p : S4096x3072.Idx → EReal) (dm : S4096x2048.Idx → EReal) (w b : S8x128x128.Idx → EReal) (g : S1x1024.Idx → EReal) : Rows := fun T j =>
  dup (chunk (third p 0) (chunkOf T) (headOf j)) (chunk (third p 1) (chunkOf T) (headOf j)) (chunk (half dm 0) (chunkOf T) (headOf j))
    (slab w (headOf j)) (slab b (headOf j)) (gains g (headOf j)) (rowOf T) (laneOf j)

/-- The gradient of the mixed argument. -/
def dvA (p : S4096x3072.Idx → EReal) (dm : S4096x2048.Idx → EReal) (wT : S8x128x128.Idx → EReal) (g : S1x1024.Idx → EReal) : Rows := fun T j =>
  dvp (chunk (third p 0) (chunkOf T) (headOf j)) (chunk (third p 1) (chunkOf T) (headOf j)) (chunk (half dm 0) (chunkOf T) (headOf j))
    (slab wT (headOf j)) (gains g (headOf j)) (rowOf T) (laneOf j)

/-- What chunk `n` adds to the gradient of the mixing weights. -/
def wsPart (p : S4096x3072.Idx → EReal) (dm : S4096x2048.Idx → EReal) (g : S1x1024.Idx → EReal) (h : Fin 8) (r s : Fin 128) (n : Fin 32) : EReal :=
  dws (chunk (third p 0) n h) (chunk (third p 1) n h) (chunk (half dm 0) n h) (gains g h) r s

/-- What chunk `n` adds to the summed cotangent of the mixed rows. -/
def bsPart (p : S4096x3072.Idx → EReal) (dm : S4096x2048.Idx → EReal) (h : Fin 8) (r d : Fin 128) (n : Fin 32) : EReal :=
  dmx (chunk (third p 0) n h) (chunk (half dm 0) n h) r d

/-- What chunk `n` adds to the gradient of the gain. -/
def gvPart (p : S4096x3072.Idx → EReal) (dm : S4096x2048.Idx → EReal) (wT : S8x128x128.Idx → EReal) (j : Fin 1024) (n : Fin 32) : EReal :=
  dgv (chunk (third p 0) n (headOf j)) (chunk (third p 1) n (headOf j)) (chunk (half dm 0) n (headOf j)) (slab wT (headOf j)) (laneOf j)

/-- The gradient of the mixing weights. -/
def wsArr (p : S4096x3072.Idx → EReal) (dm : S4096x2048.Idx → EReal) (g : S1x1024.Idx → EReal) (i : S8x128x128.Idx) : EReal :=
  lower (i 1) (i 2) (∑ n, wsPart p dm g (i 0) (i 1) (i 2) n)

/-- The gradient of the biases. -/
def bsArr (p : S4096x3072.Idx → EReal) (dm : S4096x2048.Idx → EReal) (i : S8x128x1.Idx) : EReal := ∑ d, ∑ n, bsPart p dm (i 0) (i 1) d n

/-- The gradient of the gain. -/
def gvArr (p : S4096x3072.Idx → EReal) (dm : S4096x2048.Idx → EReal) (wT : S8x128x128.Idx → EReal) (i : S1x1024.Idx) : EReal :=
  ∑ n, gvPart p dm wT (i 1) n

/-- A group's lane. -/
def lane (g : Fin 4) (a : Fin 256) : Fin 1024 := ⟨256 * g.val + a.val, by omega⟩

/-- The pooled rows. -/
def pooledA (z : Rows) (g : Fin 4) (T : Fin 4096) (a : Fin 256) : EReal :=
  (∑ k : Fin (win g), if k.val ≤ T.val then z ⟨T.val - k.val, by omega⟩ (lane g a) else 0) * invc T.val (win g) - z T (lane g a)

/-- The gradient of the pooled rows. -/
def dpoA (dob : Rows) (sc : S1x1024.Idx → EReal) (wp : S4x256x256.Idx → EReal) (g : Fin 4) (T : Fin 4096) (a : Fin 256) : EReal :=
  ∑ b : Fin 256, dob T (lane g b) * scaleOf sc g b * wp (ix3 g a b)

/-- The gradient of the pooled argument. -/
def dzA (dob : Rows) (sc : S1x1024.Idx → EReal) (wp : S4x256x256.Idx → EReal) (g : Fin 4) (T : Fin 4096) (a : Fin 256) : EReal :=
  (∑ k : Fin (win g), if h : T.val + k.val < 4096 then dpoA dob sc wp g ⟨T.val + k.val, h⟩ a * invc (T.val + k.val) (win g) else 0) - dpoA dob sc wp g T a

/-- What a token adds to the gradient of the pooling weights. -/
def wpPart (z dob : Rows) (sc : S1x1024.Idx → EReal) (g : Fin 4) (a b : Fin 256) (T : Fin 4096) : EReal :=
  pooledA z g T a * (dob T (lane g b) * scaleOf sc g b)

/-- What a token adds to the gradient of a pooling scale. -/
def scPart (z dob : Rows) (wp : S4x256x256.Idx → EReal) (g : Fin 4) (b : Fin 256) (T : Fin 4096) : EReal :=
  dob T (lane g b) * ∑ a : Fin 256, pooledA z g T a * wp (ix3 g a b)

/-- The gradient of the pooling weights. -/
def wpArr (p : S4096x3072.Idx → EReal) (dm : S4096x2048.Idx → EReal) (sc : S1x1024.Idx → EReal) (i : S4x256x256.Idx) : EReal :=
  ∑ T, wpPart (third p 2) (half dm 1) sc (i 0) (i 1) (i 2) T

/-- The group of a column. -/
def groupOf (j : Fin 1024) : Fin 4 := ⟨j.val / 256, by omega⟩

/-- The lane of a column within its group. -/
def inGroup (j : Fin 1024) : Fin 256 := ⟨j.val % 256, by omega⟩

/-- The gradient of the pooling scales. -/
def scArr (p : S4096x3072.Idx → EReal) (dm : S4096x2048.Idx → EReal) (wp : S4x256x256.Idx → EReal) (i : S1x1024.Idx) : EReal :=
  ∑ T, scPart (third p 2) (half dm 1) wp (groupOf (i 1)) (inGroup (i 1)) T

/-- The gradient of the projected rows, by thirds. -/
def projArr (p : S4096x3072.Idx → EReal) (dm : S4096x2048.Idx → EReal) (w wT b : S8x128x128.Idx → EReal) (g sc : S1x1024.Idx → EReal)
    (wp : S4x256x256.Idx → EReal) (i : S4096x3072.Idx) : EReal :=
  if hu : (i 1).val < 1024 then duA p dm w b g (i 0) ⟨(i 1).val, hu⟩
  else if hv : (i 1).val < 2048 then dvA p dm wT g (i 0) ⟨(i 1).val - 1024, by omega⟩
  else dzA (half dm 1) sc wp (groupOf ⟨(i 1).val - 2048, by have h : (i 1).val < 3072 := (i 1).isLt; omega⟩) (i 0)
    (inGroup ⟨(i 1).val - 2048, by have h : (i 1).val < 3072 := (i 1).isLt; omega⟩)

/-- Four chunks added one after the other are their sum added. -/
theorem grow_eq (p : EReal) (f : Fin 4 → EReal) : grow p f = p + ∑ q, f q := by
  unfold grow
  rw [Fin.sum_univ_four]
  simp only [add_assoc]

end Cert.Mixer
end
-- ==== Proof.MixerTies.lean ====
module

public import proofs.«01_k».proof.Proof.MixerSpec

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- Where the windows stand at a grid point. -/
theorem idx : ∀ t : Fin cfg0.N, win0_0.index t = ![t.val, 0] ∧ win0_1.index t = ![t.val, 1] ∧ win0_2.index t = ![t.val, 2]
    ∧ win0_3.index t = ![32 * t.val - 1, 2] ∧ win0_4.index t = ![t.val, 0] ∧ win0_5.index t = ![t.val, 1]
    ∧ win0_6.index t = ![min (32 * (t.val + 1)) 255, 1] ∧ win0_7.index t = ![0, 0, 0] ∧ win0_8.index t = ![0, 0, 0]
    ∧ win0_9.index t = ![0, 0, 0] ∧ win0_10.index t = ![0, 0] ∧ win0_11.index t = ![0, 0, 0] ∧ win0_12.index t = ![0, 0]
    ∧ win0_13.index t = ![t.val, 0] ∧ (grid0.coords t 0).val = t.val :=
  (by decide +kernel : ∀ t : Fin grid0.N, _)

/-- The grid has 8 points. -/
theorem lt_8 (t : Fin cfg0.N) : t.val < 8 := lt_of_lt_of_eq t.isLt N_0

/-- A chunk of the block's gates. -/
theorem tile_u (c : Dev nD) (t : Fin cfg0.N) (q : Fin 4) (j : Fin 1024) :
    tile (iblk m c 0 t) q j = chunk (third (V m c main_arg0) 0) ⟨t.val * 4 + q.val, by have := lt_8 t; omega⟩ (headOf j) := by
  have hN := lt_8 t
  obtain ⟨e0, e1, e2, e3, e4, e5, e6, e7, e8, e9, e10, e11, e12, e13, e14⟩ := idx t
  funext r d
  simp only [tile, chunk, third, headOf]
  blk_point [iblk, e0]

/-- A chunk of the block's mixed rows. -/
theorem tile_v (c : Dev nD) (t : Fin cfg0.N) (q : Fin 4) (j : Fin 1024) :
    tile (iblk m c 1 t) q j = chunk (third (V m c main_arg0) 1) ⟨t.val * 4 + q.val, by have := lt_8 t; omega⟩ (headOf j) := by
  have hN := lt_8 t
  obtain ⟨e0, e1, e2, e3, e4, e5, e6, e7, e8, e9, e10, e11, e12, e13, e14⟩ := idx t
  funext r d
  simp only [tile, chunk, third, headOf]
  blk_point [iblk, e1]

/-- A chunk of the block's cotangents. -/
theorem tile_d (c : Dev nD) (t : Fin cfg0.N) (q : Fin 4) (j : Fin 1024) :
    tile (iblk m c 4 t) q j = chunk (half (V m c main_arg6) 0) ⟨t.val * 4 + q.val, by have := lt_8 t; omega⟩ (headOf j) := by
  have hN := lt_8 t
  obtain ⟨e0, e1, e2, e3, e4, e5, e6, e7, e8, e9, e10, e11, e12, e13, e14⟩ := idx t
  funext r d
  simp only [tile, chunk, half, headOf]
  blk_point [iblk, e4]

/-- The arrays staged whole: the weights, -/
theorem whole_w (c : Dev nD) (t : Fin cfg0.N) : iblk m c 7 t = V m c main_v5 := by
  obtain ⟨e0, e1, e2, e3, e4, e5, e6, e7, e8, e9, e10, e11, e12, e13, e14⟩ := idx t
  funext y
  blk_point [iblk, e7]

/-- their transposes, -/
theorem whole_wT (c : Dev nD) (t : Fin cfg0.N) : iblk m c 8 t = V m c main_v6 := by
  obtain ⟨e0, e1, e2, e3, e4, e5, e6, e7, e8, e9, e10, e11, e12, e13, e14⟩ := idx t
  funext y
  blk_point [iblk, e8]

/-- the biases, -/
theorem whole_b (c : Dev nD) (t : Fin cfg0.N) : iblk m c 9 t = V m c main_v9 := by
  obtain ⟨e0, e1, e2, e3, e4, e5, e6, e7, e8, e9, e10, e11, e12, e13, e14⟩ := idx t
  funext y
  blk_point [iblk, e9]

/-- the gains, -/
theorem whole_g (c : Dev nD) (t : Fin cfg0.N) : iblk m c 10 t = V m c main_arg3 := by
  obtain ⟨e0, e1, e2, e3, e4, e5, e6, e7, e8, e9, e10, e11, e12, e13, e14⟩ := idx t
  funext y
  blk_point [iblk, e10]

/-- the pooling weights, -/
theorem whole_wp (c : Dev nD) (t : Fin cfg0.N) : iblk m c 11 t = V m c main_v11 := by
  obtain ⟨e0, e1, e2, e3, e4, e5, e6, e7, e8, e9, e10, e11, e12, e13, e14⟩ := idx t
  funext y
  blk_point [iblk, e11]

/-- and the pooling scales. -/
theorem whole_sc (c : Dev nD) (t : Fin cfg0.N) : iblk m c 12 t = V m c main_arg5 := by
  obtain ⟨e0, e1, e2, e3, e4, e5, e6, e7, e8, e9, e10, e11, e12, e13, e14⟩ := idx t
  funext y
  blk_point [iblk, e12]

/-- A place of the block's pooled argument. -/
theorem at_z (c : Dev nD) (t : Fin cfg0.N) (r : Fin 512) (j : Fin 1024) (T : Fin 4096) (hT : T.val = t.val * 512 + r.val) :
    iblk m c 2 t (ix2 r j) = third (V m c main_arg0) 2 T j := by
  obtain ⟨e0, e1, e2, e3, e4, e5, e6, e7, e8, e9, e10, e11, e12, e13, e14⟩ := idx t
  unfold third
  blk_point [iblk, e2]

/-- A place of the sixteen rows before the block. -/
theorem at_zh (c : Dev nD) (t : Fin cfg0.N) (ht : 0 < t.val) (r : Fin 16) (j : Fin 1024) (T : Fin 4096) (hT : T.val + 16 = t.val * 512 + r.val) :
    iblk m c 3 t (ix2 r j) = third (V m c main_arg0) 2 T j := by
  obtain ⟨e0, e1, e2, e3, e4, e5, e6, e7, e8, e9, e10, e11, e12, e13, e14⟩ := idx t
  unfold third
  blk_point [iblk, e3]

/-- A place of the block's pooled cotangent. -/
theorem at_d (c : Dev nD) (t : Fin cfg0.N) (r : Fin 512) (j : Fin 1024) (T : Fin 4096) (hT : T.val = t.val * 512 + r.val) :
    iblk m c 5 t (ix2 r j) = half (V m c main_arg6) 1 T j := by
  obtain ⟨e0, e1, e2, e3, e4, e5, e6, e7, e8, e9, e10, e11, e12, e13, e14⟩ := idx t
  unfold half
  blk_point [iblk, e5]

/-- A place of the sixteen rows after the block. -/
theorem at_dh (c : Dev nD) (t : Fin cfg0.N) (ht : t.val < 7) (r : Fin 16) (j : Fin 1024) (T : Fin 4096) (hT : T.val = (t.val + 1) * 512 + r.val) :
    iblk m c 6 t (ix2 r j) = half (V m c main_arg6) 1 T j := by
  obtain ⟨e0, e1, e2, e3, e4, e5, e6, e7, e8, e9, e10, e11, e12, e13, e14⟩ := idx t
  unfold half
  blk_point [iblk, e6]

/-- A block's pooled rows are the array's. -/
theorem pooled_eq (c : Dev nD) (t : Fin cfg0.N) (g : Fin 4) (r : Fin 512) (a : Fin 256) (T : Fin 4096) (hT : T.val = t.val * 512 + r.val) :
    pooledOf (grid0.coords t 0).val g (iblk m c 2 t) (iblk m c 3 t) r a = pooledA (third (V m c main_arg0) 2) g T a := by
  have hN := lt_8 t
  have hw : win g ≤ 16 := by unfold win; fin_cases g <;> simp
  have hi : (grid0.coords t 0).val = t.val := (idx t).2.2.2.2.2.2.2.2.2.2.2.2.2.2
  rw [hi]
  unfold pooledOf poolOf pooledA
  refine congrArg₂ (· - ·) (congrArg₂ (· * ·) (Finset.sum_congr rfl fun k _ => ?_) (congrArg (invc · _) (by omega))) (at_z m c t r (lane g a) T hT)
  have hk := k.isLt
  by_cases h : k.val ≤ r.val
  · rw [if_pos h, if_pos (by omega)]
    exact at_z m c t ⟨r.val - k.val, by omega⟩ (lane g a) ⟨T.val - k.val, by omega⟩ (by simp only; omega)
  · rw [if_neg h]
    by_cases ht : 0 < t.val
    · rw [if_pos ht, if_pos (by omega)]
      refine at_zh m c t ht ⟨(16 + r.val - k.val) % 16, Nat.mod_lt _ (by omega)⟩ (lane g a) ⟨T.val - k.val, by omega⟩ ?_
      simp only
      omega
    · rw [if_neg ht, if_neg (by omega)]

/-- A block's pooled cotangents are the array's, -/
theorem dpo_eq (c : Dev nD) (t : Fin cfg0.N) (g : Fin 4) (r : Fin 512) (a : Fin 256) (T : Fin 4096) (hT : T.val = t.val * 512 + r.val) :
    dpoOf (iblk m c 5 t) (iblk m c 12 t) (iblk m c 11 t) g (ix2 r a) = dpoA (half (V m c main_arg6) 1) (V m c main_arg5) (V m c main_v11) g T a := by
  rw [whole_sc, whole_wp]
  unfold dpoOf dpoA
  refine Finset.sum_congr rfl fun b _ => congrArg (· * _) (congrArg (· * _) ?_)
  exact at_d m c t r (lane g b) T hT

/-- and so are those of the sixteen rows after it. -/
theorem dpoh_eq (c : Dev nD) (t : Fin cfg0.N) (ht : t.val < 7) (g : Fin 4) (r : Fin 16) (a : Fin 256) (T : Fin 4096) (hT : T.val = (t.val + 1) * 512 + r.val) :
    dpohOf (iblk m c 6 t) (iblk m c 12 t) (iblk m c 11 t) g (ix2 r a) = dpoA (half (V m c main_arg6) 1) (V m c main_arg5) (V m c main_v11) g T a := by
  rw [whole_sc, whole_wp]
  unfold dpohOf dpoA
  refine Finset.sum_congr rfl fun b _ => congrArg (· * _) (congrArg (· * _) ?_)
  exact at_dh m c t ht r (lane g b) T hT

/-- A block's gradient of the pooled argument is the array's. -/
theorem dz_eq (c : Dev nD) (t : Fin cfg0.N) (g : Fin 4) (r : Fin 512) (a : Fin 256) (T : Fin 4096) (hT : T.val = t.val * 512 + r.val) :
    zAt (grid0.coords t 0).val (iblk m c 5 t) (iblk m c 6 t) (iblk m c 12 t) (iblk m c 11 t) g r a
    = dzA (half (V m c main_arg6) 1) (V m c main_arg5) (V m c main_v11) g T a := by
  have hN := lt_8 t
  have hw : win g ≤ 16 := by unfold win; fin_cases g <;> simp
  have hi : (grid0.coords t 0).val = t.val := (idx t).2.2.2.2.2.2.2.2.2.2.2.2.2.2
  rw [hi]
  unfold zAt dzOf dzA
  refine congrArg₂ (· - ·) (Finset.sum_congr rfl fun k _ => ?_) (dpo_eq m c t g r a T hT)
  have hk := k.isLt
  by_cases h : r.val + k.val < 512
  · rw [dif_pos h, dif_pos (by omega)]
    refine congrArg₂ (· * ·) (dpo_eq m c t g ⟨r.val + k.val, h⟩ a ⟨T.val + k.val, by omega⟩ (by simp only; omega)) (congrArg (invc · _) (by omega))
  · rw [dif_neg h]
    by_cases ht : t.val = 7
    · rw [if_pos ht, dif_neg (by omega)]
    · rw [if_neg ht, dif_pos (by omega)]
      refine congrArg₂ (· * ·) (dpoh_eq m c t (by omega) g ⟨(r.val + k.val - 512) % 16, Nat.mod_lt _ (by omega)⟩ a ⟨T.val + k.val, by omega⟩ ?_)
        (congrArg (invc · _) ?_)
      all_goals
        try simp only
        omega

/-- A sum over a head's chunks in the block, in terms of the arrays. -/
theorem ws_eq (c : Dev nD) (t : Fin cfg0.N) (h : Fin 8) (r s : Fin 128) (q : Fin 4) :
    wsAt (iblk m c 0 t) (iblk m c 1 t) (iblk m c 4 t) (iblk m c 10 t) h r s q
    = wsPart (V m c main_arg0) (V m c main_arg6) (V m c main_arg3) h r s ⟨t.val * 4 + q.val, by have := lt_8 t; omega⟩ := by
  have hh : headOf (col h) = h := Fin.ext (by simp only [headOf, col]; omega)
  unfold wsAt wsPart
  rw [tile_u, tile_v, tile_d, whole_g, hh]
  refine congrArg (dws _ _ _ · r s) (funext fun d => ?_)
  unfold lanes gains col
  refine congrArg _ (congrArg (ix2 0) (Fin.ext ?_))
  simp only
  omega

/-- The same for the biases. -/
theorem bs_eq (c : Dev nD) (t : Fin cfg0.N) (h : Fin 8) (r d : Fin 128) (q : Fin 4) :
    bsAt (iblk m c 0 t) (iblk m c 4 t) h r d q = bsPart (V m c main_arg0) (V m c main_arg6) h r d ⟨t.val * 4 + q.val, by have := lt_8 t; omega⟩ := by
  have hh : headOf (col h) = h := Fin.ext (by simp only [headOf, col]; omega)
  unfold bsAt bsPart
  rw [tile_u, tile_d, hh]

/-- The same for the gain. -/
theorem gv_eq (c : Dev nD) (t : Fin cfg0.N) (j : Fin 1024) (q : Fin 4) :
    gvAt (iblk m c 0 t) (iblk m c 1 t) (iblk m c 4 t) (iblk m c 8 t) j q
    = gvPart (V m c main_arg0) (V m c main_arg6) (V m c main_v6) j ⟨t.val * 4 + q.val, by have := lt_8 t; omega⟩ := by
  unfold gvAt gvPart
  rw [tile_u, tile_v, tile_d, whole_wT]
  rfl

/-- The same for the pooling weights, over the block's tokens. -/
theorem wp_eq (c : Dev nD) (t : Fin cfg0.N) (g : Fin 4) (a b : Fin 256) :
    wpAt (grid0.coords t 0).val (iblk m c 2 t) (iblk m c 3 t) (iblk m c 5 t) (iblk m c 12 t) g a b
    = ∑ r : Fin 512, wpPart (third (V m c main_arg0) 2) (half (V m c main_arg6) 1) (V m c main_arg5) g a b ⟨t.val * 512 + r.val, by have := lt_8 t; omega⟩ := by
  rw [whole_sc]
  unfold wpAt wpPart
  refine Finset.sum_congr rfl fun r _ => congrArg₂ (· * ·) (pooled_eq m c t g r a _ rfl) (congrArg (· * _) ?_)
  exact at_d m c t r (lane g b) _ rfl

/-- The same for the pooling scales. -/
theorem sc_eq (c : Dev nD) (t : Fin cfg0.N) (g : Fin 4) (b : Fin 256) :
    scAt (grid0.coords t 0).val (iblk m c 2 t) (iblk m c 3 t) (iblk m c 5 t) (iblk m c 11 t) g b
    = ∑ r : Fin 512, scPart (third (V m c main_arg0) 2) (half (V m c main_arg6) 1) (V m c main_v11) g b ⟨t.val * 512 + r.val, by have := lt_8 t; omega⟩ := by
  rw [whole_wp]
  unfold scAt scPart
  refine Finset.sum_congr rfl fun r _ => congrArg₂ (· * ·) ?_ (Finset.sum_congr rfl fun a _ => congrArg (· * _) (pooled_eq m c t g r a _ rfl))
  exact at_d m c t r (lane g b) _ rfl

end Cert.MixerIdeal.Sound
end
-- ==== Proof.MixerGateU.lean ====
module

public import proofs.«01_k».proof.Proof.MixerBlock
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- Each point stores the gate's gradient in the first third of its block. -/
theorem gate_u (c : Dev nD) (t : Fin cfg0.N) (y : S512x3072.Idx) (hu : (y 1).val < 1024) :
    (outsAt0 m c t.val t.isLt).1 y = upAt (iblk m c 0 t) (iblk m c 1 t) (iblk m c 4 t) (iblk m c 7 t) (iblk m c 9 t) (iblk m c 10 t) (y 0) ⟨(y 1).val, hu⟩ := by
  obtain ⟨L, hA, hB, hC, hL⟩ : ∃ L : EReal,
      (∀ (_ : t.val % 8 = 0) (_ : ¬t.val % 8 = 7), (outsAt0 m c t.val t.isLt).1 y = L)
      ∧ (∀ (_ : ¬t.val % 8 = 0) (_ : ¬t.val % 8 = 7), (outsAt0 m c t.val t.isLt).1 y = L)
      ∧ (∀ (_ : ¬t.val % 8 = 0) (_ : t.val % 8 = 7), (outsAt0 m c t.val t.isLt).1 y = L)
      ∧ L = upAt (iblk m c 0 t) (iblk m c 1 t) (iblk m c 4 t) (iblk m c 7 t) (iblk m c 9 t) (iblk m c 10 t) (y 0) ⟨(y 1).val, hu⟩ := by
    refine ⟨?L, fun h0 h1 => ?_, fun h0 h1 => ?_, fun h0 h1 => ?_, ?_⟩
    case refine_1 =>
      rw [outsAt0_A m c t h0 h1]
      frame_out
      rfl
    case refine_2 =>
      rw [outsAt0_B m c t h0 h1]
      frame_out
    case refine_3 =>
      rw [outsAt0_C m c t h0 h1]
      frame_out
    canon_tiles x h using (View.cover_of_tiledBy _ ![128, 128] (by sl_kernel_rfl) y)
    all_goals
      first
        | (exfalso; omega)
        | (unfold_payloads
           simp only [read_unread_whole]
           pointwise [upAt, dup, mixed, vh, vn, rv, gelu, dgelu, gtanh, tile, head, lanes]
           blk_point [iblk])
  rcases Nat.lt_or_ge 0 (t.val % 8) with h | h
  · rcases eq_or_ne (t.val % 8) 7 with h' | h'
    · exact (hC (by omega) h').trans hL
    · exact (hB (by omega) h').trans hL
  · exact (hA (by omega) (by omega)).trans hL

end Cert.MixerIdeal.Sound
end
-- ==== Proof.MixerGateV.lean ====
module

public import proofs.«01_k».proof.Proof.MixerBlock
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- Each point stores the mixed half's gradient in the second third of its block. -/
theorem gate_v (c : Dev nD) (t : Fin cfg0.N) (y : S512x3072.Idx) (hl : 1024 ≤ (y 1).val) (hu : (y 1).val < 2048) :
    (outsAt0 m c t.val t.isLt).1 y = vpAt (iblk m c 0 t) (iblk m c 1 t) (iblk m c 4 t) (iblk m c 8 t) (iblk m c 10 t) (y 0) ⟨(y 1).val - 1024, by omega⟩ := by
  obtain ⟨L, hA, hB, hC, hL⟩ : ∃ L : EReal,
      (∀ (_ : t.val % 8 = 0) (_ : ¬t.val % 8 = 7), (outsAt0 m c t.val t.isLt).1 y = L)
      ∧ (∀ (_ : ¬t.val % 8 = 0) (_ : ¬t.val % 8 = 7), (outsAt0 m c t.val t.isLt).1 y = L)
      ∧ (∀ (_ : ¬t.val % 8 = 0) (_ : t.val % 8 = 7), (outsAt0 m c t.val t.isLt).1 y = L)
      ∧ L = vpAt (iblk m c 0 t) (iblk m c 1 t) (iblk m c 4 t) (iblk m c 8 t) (iblk m c 10 t) (y 0) ⟨(y 1).val - 1024, by omega⟩ := by
    refine ⟨?L, fun h0 h1 => ?_, fun h0 h1 => ?_, fun h0 h1 => ?_, ?_⟩
    case refine_1 =>
      rw [outsAt0_A m c t h0 h1]
      frame_out
      rfl
    case refine_2 =>
      rw [outsAt0_B m c t h0 h1]
      frame_out
    case refine_3 =>
      rw [outsAt0_C m c t h0 h1]
      frame_out
    canon_tiles x h using (View.cover_of_tiledBy _ ![128, 128] (by sl_kernel_rfl) y)
    all_goals
      first
        | (exfalso; omega)
        | (unfold_payloads
           simp only [read_unread_whole]
           pointwise [vpAt, dvp, dvh, dmx, vn, rv, gelu, dgelu, gtanh, tile, head, lanes]
           blk_point [iblk])
  rcases Nat.lt_or_ge 0 (t.val % 8) with h | h
  · rcases eq_or_ne (t.val % 8) 7 with h' | h'
    · exact (hC (by omega) h').trans hL
    · exact (hB (by omega) h').trans hL
  · exact (hA (by omega) (by omega)).trans hL

end Cert.MixerIdeal.Sound
end
-- ==== Proof.MixerGateZ.lean ====
module

public import proofs.«01_k».proof.Proof.MixerPoolVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the last third of the block is the gradient of the pooled argument. -/
theorem z_A (c : Dev nD) (t : Fin cfg0.N) (h0 : t.val % 8 = 0) (h1 : ¬t.val % 8 = 7) (y : S512x3072.Idx) (hl : 2048 ≤ (y 1).val) :
    (outsAt0 m c t.val t.isLt).1 y = zAt (grid0.coords t 0).val (iblk m c 5 t) (iblk m c 6 t) (iblk m c 12 t) (iblk m c 11 t)
      (⟨((y 1).val - 2048) / 256, by have h : (y 1).val < 3072 := (y 1).isLt; omega⟩ : Fin 4) (y 0) (⟨(y 1).val % 256, Nat.mod_lt _ (by omega)⟩ : Fin 256) := by
  rw [outsAt0_A m c t h0 h1]
  frame_out
  clear h0 h1
  canon_tiles x h using (View.cover_of_tiledBy _ ![128, 128] (by sl_kernel_rfl) y)
  on_goal 1 =>
    unfold_payloads
    try dsimp only
    refine z_chunk16 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 3
      omega
    · show (y 1).val % 256 = (x 1).val
      omega
  on_goal 1 =>
    unfold_payloads
    try dsimp only
    refine z_chunk8 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 2
      omega
    · show (y 1).val % 256 = (x 1).val
      omega
  on_goal 1 =>
    unfold_payloads
    try dsimp only
    refine z_chunk4 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 1
      omega
    · show (y 1).val % 256 = (x 1).val
      omega
  on_goal 1 =>
    unfold_payloads
    try dsimp only
    refine z_chunk2 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 0
      omega
    · show (y 1).val % 256 = (x 1).val
      omega
  all_goals
    exfalso
    omega

/-- At a point between the last third of the block is the gradient of the pooled argument. -/
theorem z_B (c : Dev nD) (t : Fin cfg0.N) (h0 : ¬t.val % 8 = 0) (h1 : ¬t.val % 8 = 7) (y : S512x3072.Idx) (hl : 2048 ≤ (y 1).val) :
    (outsAt0 m c t.val t.isLt).1 y = zAt (grid0.coords t 0).val (iblk m c 5 t) (iblk m c 6 t) (iblk m c 12 t) (iblk m c 11 t)
      (⟨((y 1).val - 2048) / 256, by have h : (y 1).val < 3072 := (y 1).isLt; omega⟩ : Fin 4) (y 0) (⟨(y 1).val % 256, Nat.mod_lt _ (by omega)⟩ : Fin 256) := by
  rw [outsAt0_B m c t h0 h1]
  frame_out
  clear h0 h1
  canon_tiles x h using (View.cover_of_tiledBy _ ![128, 128] (by sl_kernel_rfl) y)
  on_goal 1 =>
    unfold_payloads
    try dsimp only
    refine z_chunk16 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 3
      omega
    · show (y 1).val % 256 = (x 1).val
      omega
  on_goal 1 =>
    unfold_payloads
    try dsimp only
    refine z_chunk8 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 2
      omega
    · show (y 1).val % 256 = (x 1).val
      omega
  on_goal 1 =>
    unfold_payloads
    try dsimp only
    refine z_chunk4 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 1
      omega
    · show (y 1).val % 256 = (x 1).val
      omega
  on_goal 1 =>
    unfold_payloads
    try dsimp only
    refine z_chunk2 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 0
      omega
    · show (y 1).val % 256 = (x 1).val
      omega
  all_goals
    exfalso
    omega

/-- At the last point the last third of the block is the gradient of the pooled argument. -/
theorem z_C (c : Dev nD) (t : Fin cfg0.N) (h0 : ¬t.val % 8 = 0) (h1 : t.val % 8 = 7) (y : S512x3072.Idx) (hl : 2048 ≤ (y 1).val) :
    (outsAt0 m c t.val t.isLt).1 y = zAt (grid0.coords t 0).val (iblk m c 5 t) (iblk m c 6 t) (iblk m c 12 t) (iblk m c 11 t)
      (⟨((y 1).val - 2048) / 256, by have h : (y 1).val < 3072 := (y 1).isLt; omega⟩ : Fin 4) (y 0) (⟨(y 1).val % 256, Nat.mod_lt _ (by omega)⟩ : Fin 256) := by
  rw [outsAt0_C m c t h0 h1]
  frame_out
  clear h0 h1
  canon_tiles x h using (View.cover_of_tiledBy _ ![128, 128] (by sl_kernel_rfl) y)
  on_goal 1 =>
    unfold_payloads
    try dsimp only
    refine z_chunk16 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 3
      omega
    · show (y 1).val % 256 = (x 1).val
      omega
  on_goal 1 =>
    unfold_payloads
    try dsimp only
    refine z_chunk8 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 2
      omega
    · show (y 1).val % 256 = (x 1).val
      omega
  on_goal 1 =>
    unfold_payloads
    try dsimp only
    refine z_chunk4 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 1
      omega
    · show (y 1).val % 256 = (x 1).val
      omega
  on_goal 1 =>
    unfold_payloads
    try dsimp only
    refine z_chunk2 _ _ _ _ _ _ _ _ (by first | exact Memref.IsWhole.read_unread _ _ | rfl) (by first | exact Memref.IsWhole.read_unread _ _ | rfl) (by first | exact Memref.IsWhole.read_unread _ _ | rfl) (by first | exact Memref.IsWhole.read_unread _ _ | rfl) _ _ _ _ _ _ _ _ _ _ (grid0.coords t 0).isLt _ _ _ _ _ _ _ x _ ?_ _ _ h0 ?_
    · show ((y 1).val - 2048) / 256 = 0
      omega
    · show (y 1).val % 256 = (x 1).val
      omega
  all_goals
    exfalso
    omega

end Cert.MixerIdeal.Sound
end
-- ==== Proof.MixerGv.lean ====
module

public import proofs.«01_k».proof.Proof.MixerVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the gradient of the gain grows by the block's four chunks. -/
theorem gv_A (c : Dev nD) (t : Fin cfg0.N) (h0 : t.val % 8 = 0) (h1 : ¬t.val % 8 = 7) (y : S1x1024.Idx) :
    (outsAt0 m c t.val t.isLt).2.2.2.1 y = grow 0 (gvAt (iblk m c 0 t) (iblk m c 1 t) (iblk m c 4 t) (iblk m c 8 t) (y 1)) := by
  rw [outsAt0_A m c t h0 h1]
  frame_out
  simp (disch := decide) only [↓ View.readCov_skip, ↓ View.readCov_cons_toLoadRect, ↓ View.readCov_fill]
  simp only [canon_mk, overlay_over]; simp only [← canon_mk]
  refine (canon_front 8 y _ (View.cover_of_tiledBy _ ![1, 128] (by sl_kernel_rfl) y)).trans ?_
  simp only [List.take_succ_cons, List.take_zero]
  canon_tiles x h
  all_goals
    unfold_payloads
    dsimp only
    skip
    simp only [gelu_vec, dmx_vec, row_cast, shapeCast_self]
    exact grow_congr (ld_zero _ _) (gv_chunk _ _ _ _ _ _ _ _ _ _ _ _ _ _ _ _ _ _ 0 (y 1) rfl (by omega) (by omega)) (gv_chunk _ _ _ _ _ _ _ _ _ _ _ _ _ _ _ _ _ _ 1 (y 1) rfl (by omega) (by omega)) (gv_chunk _ _ _ _ _ _ _ _ _ _ _ _ _ _ _ _ _ _ 2 (y 1) rfl (by omega) (by omega)) (gv_chunk _ _ _ _ _ _ _ _ _ _ _ _ _ _ _ _ _ _ 3 (y 1) rfl (by omega) (by omega))

/-- At a point between the gradient of the gain grows by the block's four chunks. -/
theorem gv_B (c : Dev nD) (t : Fin cfg0.N) (h0 : ¬t.val % 8 = 0) (h1 : ¬t.val % 8 = 7) (y : S1x1024.Idx) :
    (outsAt0 m c t.val t.isLt).2.2.2.1 y = grow ((outsAt0 m c (t.val - 1) (lt_of_le_of_lt (Nat.sub_le _ _) t.isLt)).2.2.2.1 y) (gvAt (iblk m c 0 t) (iblk m c 1 t) (iblk m c 4 t) (iblk m c 8 t) (y 1)) := by
  rw [outsAt0_B m c t h0 h1]
  frame_out
  simp (disch := decide) only [↓ View.readCov_skip, ↓ View.readCov_cons_toLoadRect, ↓ View.readCov_fill]
  generalize (outsAt0 m c (t.val - 1) _).2.2.2.1 = P
  simp only [canon_mk, overlay_over]; simp only [← canon_mk]
  refine (canon_front 8 y _ (View.cover_of_tiledBy _ ![1, 128] (by sl_kernel_rfl) y)).trans ?_
  simp only [List.take_succ_cons, List.take_zero]
  canon_tiles x h
  all_goals
    unfold_payloads
    dsimp only
    skip
    simp only [gelu_vec, dmx_vec, row_cast, shapeCast_self]
    refine grow_congr (congrArg P (funext fun b => ?_)) (gv_chunk _ _ _ _ _ _ _ _ _ _ _ _ _ _ _ _ _ _ 0 (y 1) rfl (by omega) (by omega)) (gv_chunk _ _ _ _ _ _ _ _ _ _ _ _ _ _ _ _ _ _ 1 (y 1) rfl (by omega) (by omega)) (gv_chunk _ _ _ _ _ _ _ _ _ _ _ _ _ _ _ _ _ _ 2 (y 1) rfl (by omega) (by omega)) (gv_chunk _ _ _ _ _ _ _ _ _ _ _ _ _ _ _ _ _ _ 3 (y 1) rfl (by omega) (by omega))
    fin_cases b <;> apply Fin.ext <;> simp <;> omega

/-- At the last point the gradient of the gain grows by the block's four chunks. -/
theorem gv_C (c : Dev nD) (t : Fin cfg0.N) (h0 : ¬t.val % 8 = 0) (h1 : t.val % 8 = 7) (y : S1x1024.Idx) :
    (outsAt0 m c t.val t.isLt).2.2.2.1 y = grow ((outsAt0 m c (t.val - 1) (lt_of_le_of_lt (Nat.sub_le _ _) t.isLt)).2.2.2.1 y) (gvAt (iblk m c 0 t) (iblk m c 1 t) (iblk m c 4 t) (iblk m c 8 t) (y 1)) := by
  rw [outsAt0_C m c t h0 h1]
  frame_out
  simp (disch := decide) only [↓ View.readCov_skip, ↓ View.readCov_cons_toLoadRect, ↓ View.readCov_fill]
  generalize (outsAt0 m c (t.val - 1) _).2.2.2.1 = P
  simp only [canon_mk, overlay_over]; simp only [← canon_mk]
  refine (canon_front 8 y _ (View.cover_of_tiledBy _ ![1, 128] (by sl_kernel_rfl) y)).trans ?_
  simp only [List.take_succ_cons, List.take_zero]
  canon_tiles x h
  all_goals
    unfold_payloads
    dsimp only
    skip
    simp only [gelu_vec, dmx_vec, row_cast, shapeCast_self]
    refine grow_congr (congrArg P (funext fun b => ?_)) (gv_chunk _ _ _ _ _ _ _ _ _ _ _ _ _ _ _ _ _ _ 0 (y 1) rfl (by omega) (by omega)) (gv_chunk _ _ _ _ _ _ _ _ _ _ _ _ _ _ _ _ _ _ 1 (y 1) rfl (by omega) (by omega)) (gv_chunk _ _ _ _ _ _ _ _ _ _ _ _ _ _ _ _ _ _ 2 (y 1) rfl (by omega) (by omega)) (gv_chunk _ _ _ _ _ _ _ _ _ _ _ _ _ _ _ _ _ _ 3 (y 1) rfl (by omega) (by omega))
    fin_cases b <;> apply Fin.ext <;> simp <;> omega

end Cert.MixerIdeal.Sound
end
-- ==== Proof.MixerWs.lean ====
module

public import proofs.«01_k».proof.Proof.MixerVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the gradient of the mixing weights grows by the block's four chunks. -/
theorem ws_A (c : Dev nD) (t : Fin cfg0.N) (h0 : t.val % 8 = 0) (h1 : ¬t.val % 8 = 7) (y : S8x128x128.Idx) :
    (outsAt0 m c t.val t.isLt).2.1 y = grow 0 (wsAt (iblk m c 0 t) (iblk m c 1 t) (iblk m c 4 t) (iblk m c 10 t) (y 0) (y 1) (y 2)) := by
  rw [outsAt0_A m c t h0 h1]
  frame_out
  simp (disch := decide) only [↓ View.readCov_skip, ↓ View.readCov_cons_toLoadRect, ↓ View.readCov_fill]
  simp only [canon_mk, overlay_over]; simp only [← canon_mk]
  refine (canon_front 8 y _ (View.cover_of_tiledBy _ ![1, 128, 128] (by sl_kernel_rfl) y)).trans ?_
  simp only [List.take_succ_cons, List.take_zero]
  canon_tiles x h
  all_goals
    unfold_payloads
    dsimp only
    skip
    simp only [gelu_vec, dmx_vec, keep_head, shapeCast_self]
    exact grow_congr (ld_zero _ _) (ws_chunk _ _ _ _ _ _ _ _ _ _ _ _ _ _ _ 0 (y 0) (y 1) (y 2) rfl (by omega) h1 h2) (ws_chunk _ _ _ _ _ _ _ _ _ _ _ _ _ _ _ 1 (y 0) (y 1) (y 2) rfl (by omega) h1 h2) (ws_chunk _ _ _ _ _ _ _ _ _ _ _ _ _ _ _ 2 (y 0) (y 1) (y 2) rfl (by omega) h1 h2) (ws_chunk _ _ _ _ _ _ _ _ _ _ _ _ _ _ _ 3 (y 0) (y 1) (y 2) rfl (by omega) h1 h2)

/-- At a point between the gradient of the mixing weights grows by the block's four chunks. -/
theorem ws_B (c : Dev nD) (t : Fin cfg0.N) (h0 : ¬t.val % 8 = 0) (h1 : ¬t.val % 8 = 7) (y : S8x128x128.Idx) :
    (outsAt0 m c t.val t.isLt).2.1 y = grow ((outsAt0 m c (t.val - 1) (lt_of_le_of_lt (Nat.sub_le _ _) t.isLt)).2.1 y) (wsAt (iblk m c 0 t) (iblk m c 1 t) (iblk m c 4 t) (iblk m c 10 t) (y 0) (y 1) (y 2)) := by
  rw [outsAt0_B m c t h0 h1]
  frame_out
  simp (disch := decide) only [↓ View.readCov_skip, ↓ View.readCov_cons_toLoadRect, ↓ View.readCov_fill]
  generalize (outsAt0 m c (t.val - 1) _).2.1 = P
  simp only [canon_mk, overlay_over]; simp only [← canon_mk]
  refine (canon_front 8 y _ (View.cover_of_tiledBy _ ![1, 128, 128] (by sl_kernel_rfl) y)).trans ?_
  simp only [List.take_succ_cons, List.take_zero]
  canon_tiles x h
  all_goals
    unfold_payloads
    dsimp only
    skip
    simp only [gelu_vec, dmx_vec, keep_head]
    refine grow_congr (congrArg P (funext fun b => ?_)) (ws_chunk _ _ _ _ _ _ _ _ _ _ _ _ _ _ _ 0 (y 0) (y 1) (y 2) rfl (by omega) h1 h2) (ws_chunk _ _ _ _ _ _ _ _ _ _ _ _ _ _ _ 1 (y 0) (y 1) (y 2) rfl (by omega) h1 h2) (ws_chunk _ _ _ _ _ _ _ _ _ _ _ _ _ _ _ 2 (y 0) (y 1) (y 2) rfl (by omega) h1 h2) (ws_chunk _ _ _ _ _ _ _ _ _ _ _ _ _ _ _ 3 (y 0) (y 1) (y 2) rfl (by omega) h1 h2)
    fin_cases b <;> apply Fin.ext <;> simp <;> omega

/-- At the last point the gradient of the mixing weights grows by the block's four chunks. -/
theorem ws_C (c : Dev nD) (t : Fin cfg0.N) (h0 : ¬t.val % 8 = 0) (h1 : t.val % 8 = 7) (y : S8x128x128.Idx) :
    (outsAt0 m c t.val t.isLt).2.1 y = lower (y 1) (y 2) (grow ((outsAt0 m c (t.val - 1) (lt_of_le_of_lt (Nat.sub_le _ _) t.isLt)).2.1 y) (wsAt (iblk m c 0 t) (iblk m c 1 t) (iblk m c 4 t) (iblk m c 10 t) (y 0) (y 1) (y 2))) := by
  rw [outsAt0_C m c t h0 h1]
  frame_out
  simp (disch := decide) only [↓ View.readCov_skip, ↓ View.readCov_cons_toLoadRect, ↓ View.readCov_fill]
  generalize (outsAt0 m c (t.val - 1) _).2.1 = P

  refine (canon_front 8 y _ (View.cover_of_tiledBy _ ![1, 128, 128] (by sl_kernel_rfl) y)).trans ?_
  simp only [List.take_succ_cons, List.take_zero]
  canon_tiles x h
  all_goals
    unfold_payloads
    dsimp only
    skip
    simp only [gelu_vec, dmx_vec, keep_head, mask_head]
    refine (congrFun (mask_head _ _ _ _ _) x).trans (lower_congr h1 h2 ?_)
    refine grow_congr (congrArg P (funext fun b => ?_)) (ws_chunk _ _ _ _ _ _ _ _ _ _ _ _ _ _ _ 0 (y 0) (y 1) (y 2) rfl (by omega) h1 h2) (ws_chunk _ _ _ _ _ _ _ _ _ _ _ _ _ _ _ 1 (y 0) (y 1) (y 2) rfl (by omega) h1 h2) (ws_chunk _ _ _ _ _ _ _ _ _ _ _ _ _ _ _ 2 (y 0) (y 1) (y 2) rfl (by omega) h1 h2) (ws_chunk _ _ _ _ _ _ _ _ _ _ _ _ _ _ _ 3 (y 0) (y 1) (y 2) rfl (by omega) h1 h2)
    fin_cases b <;> apply Fin.ext <;> simp <;> omega

end Cert.MixerIdeal.Sound
end
-- ==== Proof.MixerWp.lean ====
module

public import proofs.«01_k».proof.Proof.MixerPoolVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the gradient of the pooling weights grows by the block's part. -/
theorem wp_A (c : Dev nD) (t : Fin cfg0.N) (h0 : t.val % 8 = 0) (h1 : ¬t.val % 8 = 7) (y : S4x256x256.Idx) :
    (outsAt0 m c t.val t.isLt).2.2.2.2.1 y = 0 + wpAt (grid0.coords t 0).val (iblk m c 2 t) (iblk m c 3 t) (iblk m c 5 t) (iblk m c 12 t) (y 0) (y 1) (y 2) := by
  rw [outsAt0_A m c t h0 h1]
  frame_out
  try simp (disch := decide) only [↓ View.readCov_skip, ↓ View.readCov_cons_toLoadRect, ↓ View.readCov_fill]
  refine (canon_front 4 y _ (View.cover_of_tiledBy _ ![1, 256, 256] (by sl_kernel_rfl) y)).trans ?_
  simp only [List.take_succ_cons, List.take_zero]
  canon_tiles x h
  on_goal 1 =>
    unfold_payloads
    try dsimp only
    try simp only [shapeCast_self]
    refine (keep_group _ _ _ _ x).trans (congrArg₂ (· + ·) (ld_zero _ _) (wp_chunk16 _ _ _ _ (Memref.IsWhole.read_unread _ _) (Memref.IsWhole.read_unread _ _) _ _ _ _ _ _ _ _ (grid0.coords t 0).isLt _ _ _ _ _ _ (y 0) (y 1) (y 2) (by omega) h1 h2))
  on_goal 1 =>
    unfold_payloads
    try dsimp only
    try simp only [shapeCast_self]
    refine (keep_group _ _ _ _ x).trans (congrArg₂ (· + ·) (ld_zero _ _) (wp_chunk8 _ _ _ _ (Memref.IsWhole.read_unread _ _) (Memref.IsWhole.read_unread _ _) _ _ _ _ _ _ _ _ (grid0.coords t 0).isLt _ _ _ _ _ _ (y 0) (y 1) (y 2) (by omega) h1 h2))
  on_goal 1 =>
    unfold_payloads
    try dsimp only
    try simp only [shapeCast_self]
    refine (keep_group _ _ _ _ x).trans (congrArg₂ (· + ·) (ld_zero _ _) (wp_chunk4 _ _ _ _ (Memref.IsWhole.read_unread _ _) (Memref.IsWhole.read_unread _ _) _ _ _ _ _ _ _ _ (grid0.coords t 0).isLt _ _ _ _ _ _ (y 0) (y 1) (y 2) (by omega) h1 h2))
  on_goal 1 =>
    unfold_payloads
    try dsimp only
    try simp only [shapeCast_self]
    refine (keep_group _ _ _ _ x).trans (congrArg₂ (· + ·) (ld_zero _ _) (wp_chunk2 _ _ _ _ (Memref.IsWhole.read_unread _ _) (Memref.IsWhole.read_unread _ _) _ _ _ _ _ _ _ _ (grid0.coords t 0).isLt _ _ _ _ _ _ (y 0) (y 1) (y 2) (by omega) h1 h2))

/-- At a point between the gradient of the pooling weights grows by the block's part. -/
theorem wp_B (c : Dev nD) (t : Fin cfg0.N) (h0 : ¬t.val % 8 = 0) (h1 : ¬t.val % 8 = 7) (y : S4x256x256.Idx) :
    (outsAt0 m c t.val t.isLt).2.2.2.2.1 y = ((outsAt0 m c (t.val - 1) (lt_of_le_of_lt (Nat.sub_le _ _) t.isLt)).2.2.2.2.1 y) + wpAt (grid0.coords t 0).val (iblk m c 2 t) (iblk m c 3 t) (iblk m c 5 t) (iblk m c 12 t) (y 0) (y 1) (y 2) := by
  rw [outsAt0_B m c t h0 h1]
  frame_out
  try simp (disch := decide) only [↓ View.readCov_skip, ↓ View.readCov_cons_toLoadRect, ↓ View.readCov_fill]
  generalize (outsAt0 m c (t.val - 1) _).2.2.2.2.1 = P
  refine (canon_front 4 y _ (View.cover_of_tiledBy _ ![1, 256, 256] (by sl_kernel_rfl) y)).trans ?_
  simp only [List.take_succ_cons, List.take_zero]
  canon_tiles x h
  on_goal 1 =>
    unfold_payloads
    try dsimp only
    skip
    refine (keep_group _ _ _ _ x).trans (congrArg₂ (· + ·) (congrArg P (funext fun b => ?_)) (wp_chunk16 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk8 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk4 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk2 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega

/-- At the last point the gradient of the pooling weights grows by the block's part. -/
theorem wp_C (c : Dev nD) (t : Fin cfg0.N) (h0 : ¬t.val % 8 = 0) (h1 : t.val % 8 = 7) (y : S4x256x256.Idx) :
    (outsAt0 m c t.val t.isLt).2.2.2.2.1 y = ((outsAt0 m c (t.val - 1) (lt_of_le_of_lt (Nat.sub_le _ _) t.isLt)).2.2.2.2.1 y) + wpAt (grid0.coords t 0).val (iblk m c 2 t) (iblk m c 3 t) (iblk m c 5 t) (iblk m c 12 t) (y 0) (y 1) (y 2) := by
  rw [outsAt0_C m c t h0 h1]
  frame_out
  try simp (disch := decide) only [↓ View.readCov_skip, ↓ View.readCov_cons_toLoadRect, ↓ View.readCov_fill]
  generalize (outsAt0 m c (t.val - 1) _).2.2.2.2.1 = P
  refine (canon_front 4 y _ (View.cover_of_tiledBy _ ![1, 256, 256] (by sl_kernel_rfl) y)).trans ?_
  simp only [List.take_succ_cons, List.take_zero]
  canon_tiles x h
  on_goal 1 =>
    unfold_payloads
    try dsimp only
    skip
    refine (keep_group _ _ _ _ x).trans (congrArg₂ (· + ·) (congrArg P (funext fun b => ?_)) (wp_chunk16 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk8 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk4 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega
  on_goal 1 =>
    unfold_payloads
    try dsimp only
    skip
    refine (keep_group _ _ _ _ x).trans (congrArg₂ (· + ·) (congrArg P (funext fun b => ?_)) (wp_chunk2 _ _ _ _ (Memref.IsWhole.read_unread _ _) (Memref.IsWhole.read_unread _ _) _ _ _ _ _ _ _ _ (grid0.coords t 0).isLt _ _ _ _ _ _ (y 0) (y 1) (y 2) (by omega) h1 h2))
    · fin_cases b <;> apply Fin.ext <;> simp <;> omega

end Cert.MixerIdeal.Sound
end
-- ==== Proof.MixerScale.lean ====
module

public import proofs.«01_k».proof.Proof.MixerPoolVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the gradient of the pooling scales grows by the block's part. -/
theorem scale_A (c : Dev nD) (t : Fin cfg0.N) (h0 : t.val % 8 = 0) (h1 : ¬t.val % 8 = 7) (y : S1x1024.Idx) :
    (outsAt0 m c t.val t.isLt).2.2.2.2.2.1 y = 0 + scAt (grid0.coords t 0).val (iblk m c 2 t) (iblk m c 3 t) (iblk m c 5 t) (iblk m c 11 t) (⟨(y 1).val / 256, by have h : (y 1).val < 1024 := (y 1).isLt; omega⟩ : Fin 4) (⟨(y 1).val % 256, Nat.mod_lt _ (by omega)⟩ : Fin 256) := by
  rw [outsAt0_A m c t h0 h1]
  frame_out
  try simp (disch := decide) only [↓ View.readCov_skip, ↓ View.readCov_cons_toLoadRect, ↓ View.readCov_fill]
  refine (canon_front 4 y _ (View.cover_of_tiledBy _ ![1, 256] (by sl_kernel_rfl) y)).trans ?_
  simp only [List.take_succ_cons, List.take_zero]
  canon_tiles x h
  on_goal 1 =>
    unfold_payloads
    try dsimp only
    skip
    refine (keep_row _ _ _ _ x).trans (congrArg₂ (· + ·) (ld_zero _ _) (sc_chunk16 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · show (y 1).val / 256 = 3
      omega
    · show (y 1).val % 256 = (x 1).val
      omega
  on_goal 1 =>
    unfold_payloads
    try dsimp only
    skip
    refine (keep_row _ _ _ _ x).trans (congrArg₂ (· + ·) (ld_zero _ _) (sc_chunk8 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · show (y 1).val / 256 = 2
      omega
    · show (y 1).val % 256 = (x 1).val
      omega
  on_goal 1 =>
    unfold_payloads
    try dsimp only
    skip
    refine (keep_row _ _ _ _ x).trans (congrArg₂ (· + ·) (ld_zero _ _) (sc_chunk4 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · show (y 1).val / 256 = 1
      omega
    · show (y 1).val % 256 = (x 1).val
      omega
  on_goal 1 =>
    unfold_payloads
    try dsimp only
    skip
    refine (keep_row _ _ _ _ x).trans (congrArg₂ (· + ·) (ld_zero _ _) (sc_chunk2 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · show (y 1).val / 256 = 0
      omega
    · show (y 1).val % 256 = (x 1).val
      omega

/-- At a point between the gradient of the pooling scales grows by the block's part. -/
theorem scale_B (c : Dev nD) (t : Fin cfg0.N) (h0 : ¬t.val % 8 = 0) (h1 : ¬t.val % 8 = 7) (y : S1x1024.Idx) :
    (outsAt0 m c t.val t.isLt).2.2.2.2.2.1 y = ((outsAt0 m c (t.val - 1) (lt_of_le_of_lt (Nat.sub_le _ _) t.isLt)).2.2.2.2.2.1 y) + scAt (grid0.coords t 0).val (iblk m c 2 t) (iblk m c 3 t) (iblk m c 5 t) (iblk m c 11 t) (⟨(y 1).val / 256, by have h : (y 1).val < 1024 := (y 1).isLt; omega⟩ : Fin 4) (⟨(y 1).val % 256, Nat.mod_lt _ (by omega)⟩ : Fin 256) := by
  rw [outsAt0_B m c t h0 h1]
  frame_out
  try simp (disch := decide) only [↓ View.readCov_skip, ↓ View.readCov_cons_toLoadRect, ↓ View.readCov_fill]
  generalize (outsAt0 m c (t.val - 1) _).2.2.2.2.2.1 = P
  refine (canon_front 4 y _ (View.cover_of_tiledBy _ ![1, 256] (by sl_kernel_rfl) y)).trans ?_
  simp only [List.take_succ_cons, List.take_zero]
  canon_tiles x h
  on_goal 1 =>
    unfold_payloads
    try dsimp only
    skip
    refine (keep_row _ _ _ _ x).trans (congrArg₂ (· + ·) (congrArg P (funext fun b => ?_)) (sc_chunk16 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 3
      omega
    · show (y 1).val % 256 = (x 1).val
      omega
  on_goal 1 =>
    unfold_payloads
    try dsimp only
    skip
    refine (keep_row _ _ _ _ x).trans (congrArg₂ (· + ·) (congrArg P (funext fun b => ?_)) (sc_chunk8 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 2
      omega
    · show (y 1).val % 256 = (x 1).val
      omega
  on_goal 1 =>
    unfold_payloads
    try dsimp only
    skip
    refine (keep_row _ _ _ _ x).trans (congrArg₂ (· + ·) (congrArg P (funext fun b => ?_)) (sc_chunk4 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 1
      omega
    · show (y 1).val % 256 = (x 1).val
      omega
  on_goal 1 =>
    unfold_payloads
    try dsimp only
    skip
    refine (keep_row _ _ _ _ x).trans (congrArg₂ (· + ·) (congrArg P (funext fun b => ?_)) (sc_chunk2 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 0
      omega
    · show (y 1).val % 256 = (x 1).val
      omega

/-- At the last point the gradient of the pooling scales grows by the block's part. -/
theorem scale_C (c : Dev nD) (t : Fin cfg0.N) (h0 : ¬t.val % 8 = 0) (h1 : t.val % 8 = 7) (y : S1x1024.Idx) :
    (outsAt0 m c t.val t.isLt).2.2.2.2.2.1 y = ((outsAt0 m c (t.val - 1) (lt_of_le_of_lt (Nat.sub_le _ _) t.isLt)).2.2.2.2.2.1 y) + scAt (grid0.coords t 0).val (iblk m c 2 t) (iblk m c 3 t) (iblk m c 5 t) (iblk m c 11 t) (⟨(y 1).val / 256, by have h : (y 1).val < 1024 := (y 1).isLt; omega⟩ : Fin 4) (⟨(y 1).val % 256, Nat.mod_lt _ (by omega)⟩ : Fin 256) := by
  rw [outsAt0_C m c t h0 h1]
  frame_out
  try simp (disch := decide) only [↓ View.readCov_skip, ↓ View.readCov_cons_toLoadRect, ↓ View.readCov_fill]
  generalize (outsAt0 m c (t.val - 1) _).2.2.2.2.2.1 = P
  refine (canon_front 4 y _ (View.cover_of_tiledBy _ ![1, 256] (by sl_kernel_rfl) y)).trans ?_
  simp only [List.take_succ_cons, List.take_zero]
  canon_tiles x h
  on_goal 1 =>
    unfold_payloads
    try dsimp only
    skip
    refine (keep_row _ _ _ _ x).trans (congrArg₂ (· + ·) (congrArg P (funext fun b => ?_)) (sc_chunk16 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 3
      omega
    · show (y 1).val % 256 = (x 1).val
      omega
  on_goal 1 =>
    unfold_payloads
    try dsimp only
    skip
    refine (keep_row _ _ _ _ x).trans (congrArg₂ (· + ·) (congrArg P (funext fun b => ?_)) (sc_chunk8 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 2
      omega
    · show (y 1).val % 256 = (x 1).val
      omega
  on_goal 1 =>
    unfold_payloads
    try dsimp only
    skip
    refine (keep_row _ _ _ _ x).trans (congrArg₂ (· + ·) (congrArg P (funext fun b => ?_)) (sc_chunk4 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 1
      omega
    · show (y 1).val % 256 = (x 1).val
      omega
  on_goal 1 =>
    unfold_payloads
    try dsimp only
    skip
    refine (keep_row _ _ _ _ x).trans (congrArg₂ (· + ·) (congrArg P (funext fun b => ?_)) (sc_chunk2 _ _ _ _ (by first | exact Memref.IsWhole.read_unread _ _ | rfl) (by first | exact Memref.IsWhole.read_unread _ _ | rfl) _ _ _ _ _ _ _ _ (grid0.coords t 0).isLt _ _ _ _ _ _ _ _ _ _ _ ?_ ?_))
    · fin_cases b <;> apply Fin.ext <;> simp <;> omega
    · show (y 1).val / 256 = 0
      omega
    · show (y 1).val % 256 = (x 1).val
      omega

end Cert.MixerIdeal.Sound
end
-- ==== Proof.MixerBs.lean ====
module

public import proofs.«01_k».proof.Proof.MixerVec
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- At the first point the summed cotangent of the mixed rows grows by the block's four chunks. -/
theorem bs_A (c : Dev nD) (t : Fin cfg0.N) (h0 : t.val % 8 = 0) (h1 : ¬t.val % 8 = 7) (y : S8x128x128.Idx) :
    (outsAt0 m c t.val t.isLt).2.2.2.2.2.2 y = grow 0 (bsAt (iblk m c 0 t) (iblk m c 4 t) (y 0) (y 1) (y 2)) := by
  rw [outsAt0_A m c t h0 h1]
  frame_out
  simp (disch := decide) only [↓ View.readCov_skip, ↓ View.readCov_cons_toLoadRect, ↓ View.readCov_fill]
  simp only [canon_mk, overlay_over]; simp only [← canon_mk]
  refine (canon_front 8 y _ (View.cover_of_tiledBy _ ![1, 128, 128] (by sl_kernel_rfl) y)).trans ?_
  simp only [List.take_succ_cons, List.take_zero]
  canon_tiles x h
  all_goals
    unfold_payloads
    dsimp only
    skip
    simp only [gelu_vec, dmx_vec, keep_head, shapeCast_self]
    exact grow_congr (ld_zero _ _) (bs_chunk _ _ _ _ 0 (y 0) (y 1) (y 2) rfl (by omega) h1 h2) (bs_chunk _ _ _ _ 1 (y 0) (y 1) (y 2) rfl (by omega) h1 h2) (bs_chunk _ _ _ _ 2 (y 0) (y 1) (y 2) rfl (by omega) h1 h2) (bs_chunk _ _ _ _ 3 (y 0) (y 1) (y 2) rfl (by omega) h1 h2)

/-- At a point between the summed cotangent of the mixed rows grows by the block's four chunks. -/
theorem bs_B (c : Dev nD) (t : Fin cfg0.N) (h0 : ¬t.val % 8 = 0) (h1 : ¬t.val % 8 = 7) (y : S8x128x128.Idx) :
    (outsAt0 m c t.val t.isLt).2.2.2.2.2.2 y = grow ((outsAt0 m c (t.val - 1) (lt_of_le_of_lt (Nat.sub_le _ _) t.isLt)).2.2.2.2.2.2 y) (bsAt (iblk m c 0 t) (iblk m c 4 t) (y 0) (y 1) (y 2)) := by
  rw [outsAt0_B m c t h0 h1]
  frame_out
  simp (disch := decide) only [↓ View.readCov_skip, ↓ View.readCov_cons_toLoadRect, ↓ View.readCov_fill]
  generalize (outsAt0 m c (t.val - 1) _).2.2.2.2.2.2 = P
  simp only [canon_mk, overlay_over]; simp only [← canon_mk]
  refine (canon_front 8 y _ (View.cover_of_tiledBy _ ![1, 128, 128] (by sl_kernel_rfl) y)).trans ?_
  simp only [List.take_succ_cons, List.take_zero]
  canon_tiles x h
  all_goals
    unfold_payloads
    dsimp only
    simp only [read_unread_whole]
    simp only [gelu_vec, dmx_vec, keep_head]
    refine grow_congr (congrArg P (funext fun b => ?_)) (bs_chunk _ _ _ _ 0 (y 0) (y 1) (y 2) rfl (by omega) h1 h2) (bs_chunk _ _ _ _ 1 (y 0) (y 1) (y 2) rfl (by omega) h1 h2) (bs_chunk _ _ _ _ 2 (y 0) (y 1) (y 2) rfl (by omega) h1 h2) (bs_chunk _ _ _ _ 3 (y 0) (y 1) (y 2) rfl (by omega) h1 h2)
    fin_cases b <;> apply Fin.ext <;> simp <;> omega

/-- At the last point the summed cotangent of the mixed rows grows by the block's four chunks. -/
theorem bs_C (c : Dev nD) (t : Fin cfg0.N) (h0 : ¬t.val % 8 = 0) (h1 : t.val % 8 = 7) (y : S8x128x128.Idx) :
    (outsAt0 m c t.val t.isLt).2.2.2.2.2.2 y = grow ((outsAt0 m c (t.val - 1) (lt_of_le_of_lt (Nat.sub_le _ _) t.isLt)).2.2.2.2.2.2 y) (bsAt (iblk m c 0 t) (iblk m c 4 t) (y 0) (y 1) (y 2)) := by
  rw [outsAt0_C m c t h0 h1]
  frame_out
  simp (disch := decide) only [↓ View.readCov_skip, ↓ View.readCov_cons_toLoadRect, ↓ View.readCov_fill]
  generalize (outsAt0 m c (t.val - 1) _).2.2.2.2.2.2 = P
  simp only [canon_mk, overlay_over]; simp only [← canon_mk]
  refine (canon_front 8 y _ (View.cover_of_tiledBy _ ![1, 128, 128] (by sl_kernel_rfl) y)).trans ?_
  simp only [List.take_succ_cons, List.take_zero]
  canon_tiles x h
  all_goals
    unfold_payloads
    dsimp only
    simp only [read_unread_whole]
    simp only [gelu_vec, dmx_vec, keep_head]
    refine grow_congr (congrArg P (funext fun b => ?_)) (bs_chunk _ _ _ _ 0 (y 0) (y 1) (y 2) rfl (by omega) h1 h2) (bs_chunk _ _ _ _ 1 (y 0) (y 1) (y 2) rfl (by omega) h1 h2) (bs_chunk _ _ _ _ 2 (y 0) (y 1) (y 2) rfl (by omega) h1 h2) (bs_chunk _ _ _ _ 3 (y 0) (y 1) (y 2) rfl (by omega) h1 h2)
    fin_cases b <;> apply Fin.ext <;> simp <;> omega

end Cert.MixerIdeal.Sound
end
-- ==== Proof.MixerDbs.lean ====
module

public import proofs.«01_k».proof.Proof.MixerBs
public import Idealize.ShloMosaic.Lib.Pipeline.ReadBack

@[expose] public section

set_option maxRecDepth 16384
set_option maxHeartbeats 40000000

noncomputable section

namespace Cert.MixerIdeal.Sound

open Cert.Mixer Cert.MixerIdeal Cert.MixerIdeal.Gen Idealize.ShloMosaic Idealize.ShloMosaic.TcCoe Idealize.SL.Sem

variable (m : (ℓ : Loc nD τ sig) → Buf (Elt Ideal) ℓ)

/-- Summing the rows of one head's tile. -/
theorem row_sum (V : FVec Ideal S1x128x128 .f32) (h1 : S1x128x128.ShapeCasts S128x128) (h2 : S128x128.Reduces [1] S128) (h3) (h4)
    (h5 : S128.ShapeCasts S128x1) (h6 : S128x1.ShapeCasts S1x128x1) (x : S1x128x1.Idx) :
    shapeCast S1x128x1 (shapeCast S128x1 (multiReduction (F := Ideal) (φ := .f32) FKind.add [1] S128 (shapeCast S128x128 V h1) 0#32 h2 h3 h4) h5) h6 x = ∑ d : Fin 128, V (ix3 0 (x 1) d) := by
  pointwise

/-- At the last point the gradient of the biases is the row sum of the summed cotangent of the mixed rows. -/
theorem dbs_C (c : Dev nD) (t : Fin cfg0.N) (h0 : ¬t.val % 8 = 0) (h1 : t.val % 8 = 7) (y : S8x128x1.Idx) :
    (outsAt0 m c t.val t.isLt).2.2.1 y = ∑ d : Fin 128, (outsAt0 m c t.val t.isLt).2.2.2.2.2.2 (ix3 (y 0) (y 1) d) := by
  refine Eq.trans ?_ (Finset.sum_congr rfl fun d _ => (bs_C m c t h0 h1 (ix3 (y 0) (y 1) d)).symm)
  rw [outsAt0_C m c t h0 h1]
  frame_out
  simp (disch := decide) only [↓ View.readCov_skip, ↓ View.readCov_cons_toLoadRect, ↓ View.readCov_fill]
  generalize (outsAt0 m c (t.val - 1) _).2.2.2.2.2.2 = P
  canon_tiles x h
  all_goals
    unfold_payloads
    dsimp only
    simp only [read_unread_whole]
    simp only [gelu_vec, dmx_vec]
    refine (row_sum _ _ _ _ _ _ _ x).trans (Finset.sum_congr rfl fun d _ => ?_)
    simp only [keep_head]
    refine grow_congr (congrArg P (funext fun b => ?_)) (bs_chunk _ _ _ _ 0 (y 0) (y 1) d rfl ?_ h1 rfl) (bs_chunk _ _ _ _ 1 (y 0) (y 1) d rfl ?_ h1 rfl) (bs_chunk _ _ _ _ 2 (y 0) (y 1) d rfl ?_ h1 rfl) (bs_chunk _ _ _ _ 3 (y 0) (y 1) d rfl ?_ h1 rfl)
    · fin_cases b <;> apply Fin.ext <;> simp <;> omega
    all_goals omega

end Cert.MixerIdeal.Sound
end
-- ==== Proof.MixerArrays.lean ====
module

public import proofs.«01_k».proof.Proof.MixerTies
public import proofs.«01_k».proof.Proof.MixerGateU
public import proofs.«01_k».proof.Proof.MixerGateV
public import proofs.«01_k».proof.Proof.MixerGateZ
public import proofs.«01_k».proof.Proof.MixerGv
public import proofs.«01_k».proof.Proof.MixerWs
public import proofs.«01_k».proof.Proof.MixerWp
public import proofs.«01_k».proof.Proof.MixerScale
public import proofs.«01_k».proof.Proof.MixerDbs

@[expose] public section

set_option maxRecDepth 16384
set_option maxHeartbeats 40000000

noncomputable section

namespace Cert.MixerIdeal.Sound

open Cert.NormGrad Cert.Mixer Cert.MixerIdeal Cert.MixerIdeal.Gen Idealize.ShloMosaic Idealize.ShloMosaic.TcCoe Idealize.SL.Sem

variable (m : (ℓ : Loc nD τ sig) → Buf (Elt Ideal) ℓ)

/-- Point `n` of the grid. -/
def pt (n : ℕ) (h : n < 8) : Fin cfg0.N := ⟨n, lt_of_lt_of_eq h N_0.symm⟩

/-- A sum over chunks, taken point by point. -/
theorem chunks_sum (f : Fin 32 → EReal) : ∑ t : Fin 8, ∑ q : Fin 4, f ⟨t.val * 4 + q.val, by omega⟩ = ∑ n, f n :=
  Fin.sum_mul_add_fin 8 4 f

/-- A sum over tokens, taken point by point. -/
theorem tokens_sum (f : Fin 4096 → EReal) : ∑ t : Fin 8, ∑ r : Fin 512, f ⟨t.val * 512 + r.val, by omega⟩ = ∑ T, f T :=
  Fin.sum_mul_add_fin 8 512 f

/-- After the last point the scratch holds the summed cotangent of the mixed rows. -/
theorem bs_last (c : Dev nD) (y : S8x128x128.Idx) : (outsAt0 m c 7 (lt_of_lt_of_eq (by omega) N_0.symm)).2.2.2.2.2.2 y = ∑ t : Fin 8, ∑ q : Fin 4, bsPart (V m c main_arg0) (V m c main_arg6) (y 0) (y 1) (y 2) ⟨t.val * 4 + q.val, by omega⟩ := by
  refine eight_steps (fun n h => (outsAt0 m c n (lt_of_lt_of_eq h N_0.symm)).2.2.2.2.2.2 y) (fun t : Fin 8 => ∑ q : Fin 4, bsPart (V m c main_arg0) (V m c main_arg6) (y 0) (y 1) (y 2) ⟨t.val * 4 + q.val, by omega⟩) ?_ fun n h => ?_
  · exact (bs_A m c (pt 0 (by omega)) (by simp [pt]) (by simp [pt]) y).trans ((grow_eq _ _).trans <| congrArg (_ + ·) <| Finset.sum_congr rfl fun q _ => bs_eq m c (pt 0 (by omega)) (y 0) (y 1) (y 2) q)
  · by_cases h7 : n + 1 = 7
    · exact (bs_C m c (pt (n + 1) h) (by simp only [pt]; omega) (by simp only [pt]; omega) y).trans ((grow_eq _ _).trans <| congrArg (_ + ·) <| Finset.sum_congr rfl fun q _ => bs_eq m c (pt (n + 1) (by omega)) (y 0) (y 1) (y 2) q)
    · exact (bs_B m c (pt (n + 1) h) (by simp only [pt]; omega) (by simp only [pt]; omega) y).trans ((grow_eq _ _).trans <| congrArg (_ + ·) <| Finset.sum_congr rfl fun q _ => bs_eq m c (pt (n + 1) (by omega)) (y 0) (y 1) (y 2) q)

/-- After the last point the gain's gradient is the sum over all chunks. -/
theorem gv_last (c : Dev nD) (y : S1x1024.Idx) : (outsAt0 m c 7 (lt_of_lt_of_eq (by omega) N_0.symm)).2.2.2.1 y = ∑ t : Fin 8, ∑ q : Fin 4, gvPart (V m c main_arg0) (V m c main_arg6) (V m c main_v6) (y 1) ⟨t.val * 4 + q.val, by omega⟩ := by
  refine eight_steps (fun n h => (outsAt0 m c n (lt_of_lt_of_eq h N_0.symm)).2.2.2.1 y) (fun t : Fin 8 => ∑ q : Fin 4, gvPart (V m c main_arg0) (V m c main_arg6) (V m c main_v6) (y 1) ⟨t.val * 4 + q.val, by omega⟩) ?_ fun n h => ?_
  · exact (gv_A m c (pt 0 (by omega)) (by simp [pt]) (by simp [pt]) y).trans ((grow_eq _ _).trans <| congrArg (_ + ·) <| Finset.sum_congr rfl fun q _ => gv_eq m c (pt 0 (by omega)) (y 1) q)
  · by_cases h7 : n + 1 = 7
    · exact (gv_C m c (pt (n + 1) h) (by simp only [pt]; omega) (by simp only [pt]; omega) y).trans ((grow_eq _ _).trans <| congrArg (_ + ·) <| Finset.sum_congr rfl fun q _ => gv_eq m c (pt (n + 1) (by omega)) (y 1) q)
    · exact (gv_B m c (pt (n + 1) h) (by simp only [pt]; omega) (by simp only [pt]; omega) y).trans ((grow_eq _ _).trans <| congrArg (_ + ·) <| Finset.sum_congr rfl fun q _ => gv_eq m c (pt (n + 1) (by omega)) (y 1) q)

/-- After the last point the pooling weights' gradient is the sum over all tokens. -/
theorem wp_last (c : Dev nD) (y : S4x256x256.Idx) : (outsAt0 m c 7 (lt_of_lt_of_eq (by omega) N_0.symm)).2.2.2.2.1 y = ∑ t : Fin 8, ∑ r : Fin 512, wpPart (third (V m c main_arg0) 2) (half (V m c main_arg6) 1) (V m c main_arg5) (y 0) (y 1) (y 2) ⟨t.val * 512 + r.val, by omega⟩ := by
  refine eight_steps (fun n h => (outsAt0 m c n (lt_of_lt_of_eq h N_0.symm)).2.2.2.2.1 y) (fun t : Fin 8 => ∑ r : Fin 512, wpPart (third (V m c main_arg0) 2) (half (V m c main_arg6) 1) (V m c main_arg5) (y 0) (y 1) (y 2) ⟨t.val * 512 + r.val, by omega⟩) ?_ fun n h => ?_
  · exact (wp_A m c (pt 0 (by omega)) (by simp [pt]) (by simp [pt]) y).trans (congrArg (_ + ·) <| wp_eq m c (pt 0 (by omega)) (y 0) (y 1) (y 2))
  · by_cases h7 : n + 1 = 7
    · exact (wp_C m c (pt (n + 1) h) (by simp only [pt]; omega) (by simp only [pt]; omega) y).trans (congrArg (_ + ·) <| wp_eq m c (pt (n + 1) (by omega)) (y 0) (y 1) (y 2))
    · exact (wp_B m c (pt (n + 1) h) (by simp only [pt]; omega) (by simp only [pt]; omega) y).trans (congrArg (_ + ·) <| wp_eq m c (pt (n + 1) (by omega)) (y 0) (y 1) (y 2))

/-- After the last point the pooling scales' gradient is the sum over all tokens. -/
theorem sc_last (c : Dev nD) (y : S1x1024.Idx) : (outsAt0 m c 7 (lt_of_lt_of_eq (by omega) N_0.symm)).2.2.2.2.2.1 y = ∑ t : Fin 8, ∑ r : Fin 512, scPart (third (V m c main_arg0) 2) (half (V m c main_arg6) 1) (V m c main_v11) (groupOf (y 1)) (inGroup (y 1)) ⟨t.val * 512 + r.val, by omega⟩ := by
  refine eight_steps (fun n h => (outsAt0 m c n (lt_of_lt_of_eq h N_0.symm)).2.2.2.2.2.1 y) (fun t : Fin 8 => ∑ r : Fin 512, scPart (third (V m c main_arg0) 2) (half (V m c main_arg6) 1) (V m c main_v11) (groupOf (y 1)) (inGroup (y 1)) ⟨t.val * 512 + r.val, by omega⟩) ?_ fun n h => ?_
  · exact (scale_A m c (pt 0 (by omega)) (by simp [pt]) (by simp [pt]) y).trans (congrArg (_ + ·) <| sc_eq m c (pt 0 (by omega)) (groupOf (y 1)) (inGroup (y 1)))
  · by_cases h7 : n + 1 = 7
    · exact (scale_C m c (pt (n + 1) h) (by simp only [pt]; omega) (by simp only [pt]; omega) y).trans (congrArg (_ + ·) <| sc_eq m c (pt (n + 1) (by omega)) (groupOf (y 1)) (inGroup (y 1)))
    · exact (scale_B m c (pt (n + 1) h) (by simp only [pt]; omega) (by simp only [pt]; omega) y).trans (congrArg (_ + ·) <| sc_eq m c (pt (n + 1) (by omega)) (groupOf (y 1)) (inGroup (y 1)))

/-- The gradient of the mixing weights before the mask: at the last point, what the point adds to what the one before left. -/
def unmasked (c : Dev nD) (y : S8x128x128.Idx) (n : ℕ) (h : n < 8) : EReal :=
  if n = 7 then (outsAt0 m c (n - 1) (lt_of_lt_of_eq (by omega) N_0.symm)).2.1 y + ∑ q : Fin 4, wsPart (V m c main_arg0) (V m c main_arg6) (V m c main_arg3) (y 0) (y 1) (y 2) ⟨n * 4 + q.val, by omega⟩
  else (outsAt0 m c n (lt_of_lt_of_eq h N_0.symm)).2.1 y

/-- After the last point the mixing weights' gradient is the masked sum over all chunks. -/
theorem ws_last (c : Dev nD) (y : S8x128x128.Idx) : (outsAt0 m c 7 (lt_of_lt_of_eq (by omega) N_0.symm)).2.1 y
    = lower (y 1) (y 2) (∑ t : Fin 8, ∑ q : Fin 4, wsPart (V m c main_arg0) (V m c main_arg6) (V m c main_arg3) (y 0) (y 1) (y 2) ⟨t.val * 4 + q.val, by omega⟩) := by
  refine (ws_C m c (pt 7 (by omega)) (by simp [pt]) (by simp [pt]) y).trans (congrArg (lower _ _) ?_)
  refine ((grow_eq _ _).trans (congrArg (_ + ·) (Finset.sum_congr rfl fun q _ => ws_eq m c (pt 7 (by omega)) (y 0) (y 1) (y 2) q))).trans ?_
  refine Eq.trans (if_pos rfl).symm (eight_steps (unmasked m c y) (fun t : Fin 8 => ∑ q : Fin 4, wsPart (V m c main_arg0) (V m c main_arg6) (V m c main_arg3) (y 0) (y 1) (y 2) ⟨t.val * 4 + q.val, by omega⟩) ?_ fun n h => ?_)
  · exact (if_neg (by omega)).trans <| (ws_A m c (pt 0 (by omega)) (by simp [pt]) (by simp [pt]) y).trans ((grow_eq _ _).trans (congrArg (_ + ·) (Finset.sum_congr rfl fun q _ => ws_eq m c (pt 0 (by omega)) (y 0) (y 1) (y 2) q)))
  · by_cases h7 : n + 1 = 7
    · exact (if_pos h7).trans (congrArg (· + _) (if_neg (by omega)).symm)
    · unfold unmasked
      rw [if_neg h7, if_neg (by omega)]
      exact (ws_B m c (pt (n + 1) h) (by simp only [pt]; omega) (by simp only [pt]; omega) y).trans ((grow_eq _ _).trans (congrArg (_ + ·) (Finset.sum_congr rfl fun q _ => ws_eq m c (pt (n + 1) (by omega)) (y 0) (y 1) (y 2) q)))

/-- The call leaves the gradient of the mixing weights in its second result. -/
theorem ws_array (c : Dev nD) : out m c 14 = wsArr (V m c main_arg0) (V m c main_arg6) (V m c main_arg3) := by
  refine (dats m 0 c).arrAt_eq_of_after_last 14 (pt 7 (by omega)) (by decide +kernel) _ fun y => ?_
  blk_simp
  rw [after0_14]
  exact (ws_last m c y).trans (congrArg (lower _ _) (chunks_sum (wsPart (V m c main_arg0) (V m c main_arg6) (V m c main_arg3) (y 0) (y 1) (y 2))))

/-- The call leaves the gradient of the biases in its third result. -/
theorem dbs_array (c : Dev nD) : out m c 15 = bsArr (V m c main_arg0) (V m c main_arg6) := by
  refine (dats m 0 c).arrAt_eq_of_after_last 15 (pt 7 (by omega)) (by decide +kernel) _ fun y => ?_
  blk_simp
  rw [after0_15]
  exact (dbs_C m c (pt 7 (by omega)) (by simp [pt]) (by simp [pt]) y).trans (Finset.sum_congr rfl fun d _ => (bs_last m c (ix3 (y 0) (y 1) d)).trans (chunks_sum (bsPart (V m c main_arg0) (V m c main_arg6) (y 0) (y 1) d)))

/-- The call leaves the gradient of the gain in its fourth result. -/
theorem gv_array (c : Dev nD) : out m c 16 = gvArr (V m c main_arg0) (V m c main_arg6) (V m c main_v6) := by
  refine (dats m 0 c).arrAt_eq_of_after_last 16 (pt 7 (by omega)) (by decide +kernel) _ fun y => ?_
  blk_simp
  rw [after0_16]
  exact (gv_last m c y).trans (chunks_sum (gvPart (V m c main_arg0) (V m c main_arg6) (V m c main_v6) (y 1)))

/-- The call leaves the gradient of the pooling weights in its fifth result. -/
theorem wp_array (c : Dev nD) : out m c 17 = wpArr (V m c main_arg0) (V m c main_arg6) (V m c main_arg5) := by
  refine (dats m 0 c).arrAt_eq_of_after_last 17 (pt 7 (by omega)) (by decide +kernel) _ fun y => ?_
  blk_simp
  rw [after0_17]
  exact (wp_last m c y).trans (tokens_sum (wpPart (third (V m c main_arg0) 2) (half (V m c main_arg6) 1) (V m c main_arg5) (y 0) (y 1) (y 2)))

/-- The call leaves the gradient of the pooling scales in its sixth result. -/
theorem sc_array (c : Dev nD) : out m c 18 = scArr (V m c main_arg0) (V m c main_arg6) (V m c main_v11) := by
  refine (dats m 0 c).arrAt_eq_of_after_last 18 (pt 7 (by omega)) (by decide +kernel) _ fun y => ?_
  blk_simp
  rw [after0_18]
  exact (sc_last m c y).trans (tokens_sum (scPart (third (V m c main_arg0) 2) (half (V m c main_arg6) 1) (V m c main_v11) (groupOf (y 1)) (inGroup (y 1))))

/-- Tiles of a block at a place of the array. -/
theorem chunk_at {f : Rows} {A : Fin 4 → Fin 1024 → Tile} {t : Fin cfg0.N}
    (hA : ∀ q j, A q j = chunk f ⟨t.val * 4 + q.val, by have := lt_8 t; omega⟩ (headOf j)) (r : Fin 512) (j : Fin 1024) (T : Fin 4096)
    (hT : T.val = t.val * 512 + r.val) : A ⟨r.val / 128, by omega⟩ j = chunk f (chunkOf T) (headOf j) := by
  rw [hA]
  refine congrArg (chunk f · _) (Fin.ext ?_)
  simp only [chunkOf]
  omega

/-- The call leaves the gradient of the projected rows in its first result. -/
theorem proj_array (c : Dev nD) : out m c 13
    = projArr (V m c main_arg0) (V m c main_arg6) (V m c main_v5) (V m c main_v6) (V m c main_v9) (V m c main_arg3) (V m c main_arg5) (V m c main_v11) := by
  refine (dats m 0 c).arrAt_eq_of_covers 13 _ (by decide +kernel) fun t hf y => ?_
  have hN := lt_8 t
  obtain ⟨e0, e1, e2, e3, e4, e5, e6, e7, e8, e9, e10, e11, e12, e13, e14⟩ := idx t
  have hy0 : (y 0).val < 512 := (y 0).isLt
  have hy1 : (y 1).val < 3072 := (y 1).isLt
  blk_simp
  rw [after0_13]
  have hi : (win0_13.blk t).view.emb y = ix2 (⟨t.val * 512 + (y 0).val, by omega⟩ : Fin 4096) (y 1) := by blk_point [e13]
  refine Eq.trans ?_ (congrArg (projArr (V m c main_arg0) (V m c main_arg6) (V m c main_v5) (V m c main_v6) (V m c main_v9) (V m c main_arg3) (V m c main_arg5) (V m c main_v11)) hi).symm
  generalize hT : (⟨t.val * 512 + (y 0).val, by omega⟩ : Fin 4096) = T
  have hT' : T.val = t.val * 512 + (y 0).val := by rw [← hT]
  have hrow : (⟨(y 0).val % 128, Nat.mod_lt _ (by omega)⟩ : Fin 128) = rowOf T := Fin.ext (by simp only [rowOf]; omega)
  by_cases hu : (y 1).val < 1024
  · refine (gate_u m c t y hu).trans (Eq.trans ?_ (dif_pos hu).symm)
    unfold upAt duA
    rw [chunk_at (A := tile (iblk m c 0 t)) (tile_u m c t) (y 0) _ T hT', chunk_at (A := tile (iblk m c 1 t)) (tile_v m c t) (y 0) _ T hT',
      chunk_at (A := tile (iblk m c 4 t)) (tile_d m c t) (y 0) _ T hT', whole_w, whole_b, whole_g]
    exact congrArg (dup _ _ _ _ _ _ · _) hrow
  by_cases hv : (y 1).val < 2048
  · refine (gate_v m c t y (by omega) hv).trans (Eq.trans ?_ ((dif_neg hu).trans (dif_pos hv)).symm)
    unfold vpAt dvA
    rw [chunk_at (A := tile (iblk m c 0 t)) (tile_u m c t) (y 0) _ T hT', chunk_at (A := tile (iblk m c 1 t)) (tile_v m c t) (y 0) _ T hT',
      chunk_at (A := tile (iblk m c 4 t)) (tile_d m c t) (y 0) _ T hT', whole_wT, whole_g]
    exact congrArg (dvp _ _ _ _ _ · _) hrow
  · refine Eq.trans ?_ ((dif_neg hu).trans (dif_neg hv)).symm
    have hg : (⟨(y 1).val % 256, Nat.mod_lt _ (by omega)⟩ : Fin 256) = inGroup ⟨(y 1).val - 2048, by omega⟩ := Fin.ext (by simp only [inGroup]; omega)
    have hz := dz_eq m c t (groupOf ⟨(y 1).val - 2048, by omega⟩) (y 0) (inGroup ⟨(y 1).val - 2048, by omega⟩) T hT'
    rw [← hg] at hz
    refine Eq.trans ?_ (hz.trans (congrArg (dzA _ _ _ _ T ·) hg))
    by_cases h0 : t.val % 8 = 0
    · exact z_A m c t h0 (by omega) y (by omega)
    by_cases h1 : t.val % 8 = 7
    · exact z_C m c t h0 h1 y (by omega)
    · exact z_B m c t h0 h1 y (by omega)

end Cert.MixerIdeal.Sound
end
-- ==== Proof.MixerRefRows.lean ====
module

public import proofs.«01_k».proof.Proof.MixerSpec
public import proofs.«01_k».proof.Proof.Gen.MixerRefIdeal
public import proofs.«01_k».proof.Proof.Gen.MixerRefIdeal.Read

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- The constant of the cube in the activation, over a million. -/
theorem lit_cube : Ideal.ofBits .f32 0x472EAB00#32 = ((44715 : ℝ) : EReal) := by
  simp [Ideal.ofBits, Ideal.ieee]
  rw [← EReal.coe_mul]
  norm_num

/-- A million. -/
theorem lit_million : Ideal.ofBits .f32 0x49742400#32 = ((1000000 : ℝ) : EReal) := by
  simp [Ideal.ofBits, Ideal.ieee]
  rw [← EReal.coe_mul]
  norm_num

/-- The named constant of the cube. -/
theorem named_cube : Named.named (F := Ideal) Cert.MixerIdeal.κ "cube" (φ := .f32) 0x3D372713#32 = ((8943 / 200000 : ℝ) : EReal) :=
  IdealRules.named_const.ideal_named_scalar _ _ _ _ rfl

/-- The cube's term, as the reference and as the kernel write it. -/
theorem cube_eq (x : EReal) : Ideal.div (Ideal.ofBits .f32 0x472EAB00#32 * ((x * x) * x)) (Ideal.ofBits .f32 0x49742400#32)
    = (Named.named (F := Ideal) Cert.MixerIdeal.κ "cube" (φ := .f32) 0x3D372713#32 * x) * (x * x) := by
  rw [lit_cube, lit_million, named_cube, Ideal.div_coe (by norm_num)]
  have h : ((8943 / 200000 : ℝ) : EReal) = ((44715 : ℝ) : EReal) * ((1 / 1000000 : ℝ) : EReal) := by
    rw [← EReal.coe_mul]
    congr 1
    norm_num
  rw [h]
  ac_rfl

/-- The activation's tangent, as the reference writes it. -/
theorem tanh_ref (x : EReal) : Ideal.tanh (Ideal.ofBits .f32 0x3F4C422A#32 * (x + Ideal.div (Ideal.ofBits .f32 0x472EAB00#32 * ((x * x) * x))
    (Ideal.ofBits .f32 0x49742400#32))) = gtanh x := by
  rw [cube_eq]
  rfl

/-- The activation, as the reference writes it. -/
theorem gelu_ref (x : EReal) : x * (Ideal.ofBits .f32 0x3F000000#32 * (Ideal.ofBits .f32 0x3F800000#32 + gtanh x)) = gelu x := by
  unfold gelu
  ac_rfl

section
variable (p : S4096x3072.Idx → EReal) (ws : S1x8x128x128.Idx → EReal) (bs : S1x8x128.Idx → EReal) (g : S1x1024.Idx → EReal) (dm : S4096x2048.Idx → EReal)

/-- The gate third. -/
theorem at_u (T : Fin 4096) (j : Fin 1024) (y : S1x4096x1024.Idx) (hy : y = ix3 0 T j) : val_main_v3 (F := Ideal) p y = third p 0 T j := by
  subst hy
  simp only [val_main_v3_apply, val_main_v0_apply]
  refine congrArg p ?_
  funext a; fin_cases a <;> apply Fin.ext <;> simp <;> omega

/-- Its tangent. -/
theorem tanh_u (T : Fin 4096) (j : Fin 1024) (y : S1x4096x1024.Idx) (hy : y = ix3 0 T j) : val_main_v16 (F := Ideal) p y = gtanh (third p 0 T j) := by
  simp only [val_main_v16_apply, val_main_v15_apply, val_main_v14_apply, val_main_cst_2_apply, val_main_v13_apply, val_main_v12_apply, val_main_v10_apply, val_main_v9_apply, val_main_cst_0_apply, val_main_v5_apply, val_main_v4_apply, val_main_v11_apply, val_main_cst_1_apply, at_u p T j y hy]
  exact tanh_ref _

/-- Its activation. -/
theorem gelu_u (T : Fin 4096) (j : Fin 1024) (y : S1x4096x1024.Idx) (hy : y = ix3 0 T j) : val_main_v26 (F := Ideal) p y = gelu (third p 0 T j) := by
  simp only [val_main_v26_apply, val_main_v25_apply, val_main_v24_apply, val_main_cst_6_apply, val_main_v23_apply, val_main_v22_apply, val_main_cst_5_apply, at_u p T j y hy, tanh_u p T j y hy]
  exact gelu_ref _

/-- The mixed third. -/
theorem at_v (T : Fin 4096) (j : Fin 1024) (y : S1x4096x1024.Idx) (hy : y = ix3 0 T j) : val_main_v27 (F := Ideal) p y = third p 1 T j := by
  subst hy
  simp only [val_main_v27_apply, val_main_v0_apply]
  refine congrArg p ?_
  funext a; fin_cases a <;> apply Fin.ext <;> simp <;> omega

/-- Its tangent. -/
theorem tanh_v (T : Fin 4096) (j : Fin 1024) (y : S1x4096x1024.Idx) (hy : y = ix3 0 T j) : val_main_v40 (F := Ideal) p y = gtanh (third p 1 T j) := by
  simp only [val_main_v40_apply, val_main_v39_apply, val_main_v38_apply, val_main_cst_10_apply, val_main_v37_apply, val_main_v36_apply, val_main_v34_apply, val_main_v33_apply, val_main_cst_8_apply, val_main_v29_apply, val_main_v28_apply, val_main_v35_apply, val_main_cst_9_apply, at_v p T j y hy]
  exact tanh_ref _

/-- Its activation. -/
theorem gelu_v (T : Fin 4096) (j : Fin 1024) (y : S1x4096x1024.Idx) (hy : y = ix3 0 T j) : val_main_v50 (F := Ideal) p y = gelu (third p 1 T j) := by
  simp only [val_main_v50_apply, val_main_v49_apply, val_main_v48_apply, val_main_cst_14_apply, val_main_v47_apply, val_main_v46_apply, val_main_cst_13_apply, at_v p T j y hy, tanh_v p T j y hy]
  exact gelu_ref _

/-- A half of the cotangent. -/
theorem at_da (T : Fin 4096) (j : Fin 1024) (y : S1x4096x1024.Idx) (hy : y = ix3 0 T j) : val_main_v184 (F := Ideal) dm y = half dm 0 T j := by
  subst hy
  simp only [val_main_v184_apply, val_main_v2_apply, val_main_v1_apply]
  refine congrArg dm ?_
  funext a; fin_cases a <;> apply Fin.ext <;> simp <;> omega

/-- A half of the cotangent. -/
theorem at_db (T : Fin 4096) (j : Fin 1024) (y : S1x4096x1024.Idx) (hy : y = ix3 0 T j) : val_main_v185 (F := Ideal) dm y = half dm 1 T j := by
  subst hy
  simp only [val_main_v185_apply, val_main_v2_apply, val_main_v1_apply]
  refine congrArg dm ?_
  funext a; fin_cases a <;> apply Fin.ext <;> simp <;> omega

/-- The mixed third by heads. -/
theorem heads_v (T : Fin 4096) (h : Fin 8) (d : Fin 128) (y : S1x4096x8x128.Idx) (hy : y = ix4 0 T h d) :
    val_main_v55 (F := Ideal) p y = gelu (third p 1 T ⟨128 * h.val + d.val, by omega⟩) := by
  subst hy
  rw [val_main_v55_apply]
  refine gelu_v p T _ _ ?_
  funext a; fin_cases a <;> apply Fin.ext <;> simp <;> omega

/-- The mean square of a head's row, with the constant added. -/
theorem ms_v (T : Fin 4096) (h : Fin 8) (y : S1x4096x8x1.Idx) (hy : y = ix4 0 T h 0) :
    val_main_v63 (F := Ideal) p y = Ideal.div (∑ k : Fin 128, gelu (third p 1 T ⟨128 * h.val + k.val, by omega⟩) * gelu (third p 1 T ⟨128 * h.val + k.val, by omega⟩))
      (Ideal.ofBits .f32 0x43000000#32) + Ideal.ofBits .f32 0x358637BD#32 := by
  subst hy
  have e : ∀ k, idx_main_v58 (idx_main_v59 (ix4 (0 : Fin 1) T h (0 : Fin 1))) k = ix4 (0 : Fin 1) T h k := fun k => by
    funext a; fin_cases a <;> rfl
  simp only [val_main_v63_apply, val_main_v62_apply, val_main_v61_apply, val_main_v60_apply, val_main_v59_apply, val_main_v58_apply, val_main_v57_apply,
    val_main_cst_15_apply, val_main_cst_16_apply, val_main_cst_17_apply, e]
  simp only [heads_v p T h _ _ rfl]
  pointwise

/-- A head's row as a row of a tile. -/
theorem tile_row (f : Rows) (n : Fin 32) (r : Fin 128) (h : Fin 8) (d : Fin 128) (T : Fin 4096) (hT : T.val = n.val * 128 + r.val) :
    f T ⟨128 * h.val + d.val, by omega⟩ = chunk f n h r d := by
  unfold chunk
  exact congrArg (f · _) (Fin.ext hT)

/-- The root factor of a head's row. -/
theorem rv_v (n : Fin 32) (r : Fin 128) (h : Fin 8) (T : Fin 4096) (hT : T.val = n.val * 128 + r.val) (y : S1x4096x8x1.Idx) (hy : y = ix4 0 T h 0) :
    val_main_v64 (F := Ideal) p y = rv (chunk (third p 1) n h) r := by
  rw [val_main_v64_apply, ms_v p T h y hy]
  unfold rv
  simp only [tile_row (third p 1) n r h _ T hT]
  rfl

/-- The normalised rows. -/
theorem vn_v (n : Fin 32) (r : Fin 128) (h : Fin 8) (d : Fin 128) (T : Fin 4096) (hT : T.val = n.val * 128 + r.val) (y : S1x4096x8x128.Idx) (hy : y = ix4 0 T h d) :
    val_main_v69 (F := Ideal) p y = vn (chunk (third p 1) n h) r d := by
  rw [val_main_v69_apply, val_main_v68_apply, rv_v p n r h T hT _ (by subst hy; funext a; fin_cases a <;> rfl), heads_v p T h d y hy, tile_row (third p 1) n r h d T hT]
  rfl

/-- The gains by heads. -/
theorem gain_at (h : Fin 8) (d : Fin 128) (y : S8x128.Idx) (hy : y = ix2 h d) : val_main_v56 (F := Ideal) g y = gains g h d := by
  subst hy
  simp only [val_main_v56_apply, val_main_v54_apply]
  unfold gains
  refine congrArg g ?_
  funext a; fin_cases a <;> apply Fin.ext <;> simp <;> omega

/-- The normalised rows times the gain, by chunks. -/
theorem vh_v (n : Fin 32) (r : Fin 128) (h : Fin 8) (d : Fin 128) (y : S1x32x128x8x128.Idx) (hy : y = ix5 0 n r h d) :
    val_main_v73 (F := Ideal) p g y = vh (chunk (third p 1) n h) (gains g h) r d := by
  subst hy
  rw [val_main_v73_apply, val_main_v72_apply, val_main_v71_apply, val_main_v70_apply,
    vn_v p n r h d ⟨n.val * 128 + r.val, by omega⟩ rfl _ (by funext a; fin_cases a <;> apply Fin.ext <;> simp <;> omega), gain_at g h d _ (by funext a; fin_cases a <;> apply Fin.ext <;> simp <;> omega)]
  rfl

/-- The mixing weights below the diagonal. -/
def tril (i : S8x128x128.Idx) : EReal := lower (i 1) (i 2) (ws (ix4 (n0 := 1) (n1 := 8) (n2 := 128) (n3 := 128) 0 (i 0) (i 1) (i 2)))

/-- The mixing weights below the diagonal, transposed. -/
def trilT (i : S8x128x128.Idx) : EReal := tril ws (ix3 (n0 := 8) (n1 := 128) (n2 := 128) (i 0) (i 2) (i 1))

/-- A row's bias, for each column. -/
def biases (i : S8x128x128.Idx) : EReal := bs (ix3 (n0 := 1) (n1 := 8) (n2 := 128) 0 (i 0) (i 1))

/-- The reference's comparison of a row with a column. -/
theorem mask_test (a b : Fin 128) : Scalar.select (IntOp.cmpi .sge (IntOp.addi (BitVec.ofNat 32 a.val) 0#32) (BitVec.ofNat 32 b.val)) 1#1 0#1
    = if b.val ≤ a.val then 1#1 else 0#1 := by
  revert a b
  decide +kernel

/-- The reference's mask. -/
theorem mask_at (t s : Fin 128) (y : S128x128.Idx) (hy : y = ix2 t s) : val_main_v75 (F := Ideal) y = if s.val ≤ t.val then 1#1 else 0#1 := by
  subst hy
  simp only [val_main_v75_apply, val_main_call0_v4_apply, val_main_call0_v2_apply, val_main_call0_v0_apply, val_main_call0_v1_apply, val_main_call0_c_apply, val_main_call0_v3_apply, val_main_v74_apply, val_main_c_apply, val_main_call0_v5_apply, val_main_call0_c_0_apply]
  exact mask_test t s

/-- The reference's masked weights. -/
theorem w_at (h : Fin 8) (t s : Fin 128) (y : S8x128x128.Idx) (hy : y = ix3 h t s) : val_main_v78_0 (F := Ideal) ws y = slab (tril ws) h t s := by
  subst hy
  rw [val_main_v78_0_apply, val_main_v78_1_apply, val_main_v76_apply, mask_at t s _ (by funext a; fin_cases a <;> rfl), val_main_v52_apply, val_main_v77_apply, val_main_cst_19_apply]
  have e : idx_main_v52 (ix3 h t s) = ix4 (0 : Fin 1) h t s := by funext a; fin_cases a <;> apply Fin.ext <;> simp <;> omega
  rw [e]
  unfold slab tril lower
  by_cases hh : s.val ≤ t.val
  · rw [if_pos hh]
    exact (if_pos hh).symm
  · rw [if_neg hh]
    refine Eq.trans ?_ (if_neg hh).symm
    show Ideal.ofBits .f32 0#32 = 0
    simp [Ideal.ofBits, Ideal.ieee]

end

end Cert.Mixer.Ref
end
-- ==== Proof.MixerRefMix.lean ====
module

public import proofs.«01_k».proof.Proof.MixerRefRows

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- A reduction on the host sums the elements that drop to the place, here listed by `e`. -/
theorem reduce_listed {s t : Shape} {axes : List (Fin s.rank)} {ι : Type} [Fintype ι] (h : s.ReducesTo axes t) (x : s.Idx → EReal) (init : EReal) (j : t.Idx)
    (e : ι → s.Idx) (he : Function.Injective e) (hi : ∀ k, h.drop (e k) = j) (hu : ∀ i', h.drop i' = j → ∃ k, e k = i') :
    Ideal.hostReduceAdd h x init j = init + ∑ k, x (e k) :=
  (congrArg (init + ·) (Finset.sum_filter _ _)).trans <| congrArg (init + ·) <| by
    rw [← Finset.sum_filter]
    exact (Finset.sum_bij (fun k _ => e k) (fun k _ => by simp [hi k]) (fun a _ b _ hab => he hab)
      (fun i' h' => by obtain ⟨k, hk⟩ := hu i' (by simpa using h'); exact ⟨k, Finset.mem_univ _, hk⟩) (fun _ _ => rfl)).symm

section
variable (p : S4096x3072.Idx → EReal) (ws : S1x8x128x128.Idx → EReal) (bs : S1x8x128.Idx → EReal) (g : S1x1024.Idx → EReal) (dm : S4096x2048.Idx → EReal)

/-- The mixed rows. -/
theorem mixed_v (n : Fin 32) (r : Fin 128) (h : Fin 8) (d : Fin 128) (y : S1x32x128x8x128.Idx) (hy : y = ix5 0 n r h d) :
    val_main_v84 (F := Ideal) p ws bs g y = mixed (chunk (third p 1) n h) (slab (tril ws) h) (slab (biases bs) h) (gains g h) r d := by
  subst hy
  rw [val_main_v84_apply, val_main_v80_apply, val_main_v79_apply]
  unfold mixed
  refine congrArg₂ (· + ·) (Finset.sum_congr rfl fun s _ => ?_) ?_
  · rw [vh_v p g n s h d _ (by funext a; fin_cases a <;> rfl), w_at ws h r s _ (by funext a; fin_cases a <;> rfl)]
    exact mul_comm _ _
  · simp only [val_main_v83_apply, val_main_v82_apply, val_main_v81_apply, val_main_v53_apply]
    refine congrArg bs ?_
    funext a; fin_cases a <;> apply Fin.ext <;> simp <;> omega

/-- The cotangent of the mixed rows. -/
theorem dmx_v (n : Fin 32) (r : Fin 128) (h : Fin 8) (d : Fin 128) (y : S1x32x128x8x128.Idx) (hy : y = ix5 0 n r h d) :
    val_main_v273 (F := Ideal) p dm y = dmx (chunk (third p 0) n h) (chunk (half dm 0) n h) r d := by
  subst hy
  have e : idx_main_v273 (ix5 (0 : Fin 1) n r h d) = ix3 (0 : Fin 1) (⟨n.val * 128 + r.val, by omega⟩ : Fin 4096) (⟨128 * h.val + d.val, by omega⟩ : Fin 1024) := by funext a; fin_cases a <;> apply Fin.ext <;> simp <;> omega
  rw [val_main_v273_apply, val_main_v271_apply, gelu_u p _ _ _ e, at_da dm _ _ _ e]
  exact mul_comm _ _

/-- The places a row's bias is added to. -/
def biasAt (r : Fin 128) (h : Fin 8) (k : Fin 128 × Fin 32) : S1x32x128x8x128.Idx := ix5 (0 : Fin 1) k.2 r h k.1

/-- The gradient of the biases, summed. -/
theorem dbs_sum (r : Fin 128) (h : Fin 8) (y : S1x128x8.Idx) (hy : y = ix3 0 r h) : val_main_v274 (F := Ideal) p dm y = ∑ d, ∑ n, bsPart p dm h r d n := by
  subst hy
  unfold val_main_v274
  refine (reduce_listed _ _ _ _ (biasAt r h) ?_ ?_ ?_).trans ?_
  · intro a b hab
    exact Prod.ext (congrFun hab 4) (congrFun hab 1)
  · intro k
    funext b; fin_cases b <;> rfl
  · intro i' hi
    idx_vars i'
    have h1 := congrArg Fin.val (congrFun hi 1)
    have h2 := congrArg Fin.val (congrFun hi 2)
    refine ⟨(i'4, i'1), ?_⟩
    funext b; fin_cases b
    · exact Subsingleton.elim (α := Fin 1) _ _
    · rfl
    · exact Fin.ext h1.symm
    · exact Fin.ext h2.symm
    · rfl
  · rw [val_main_cst_56_apply]
    refine (congrArg (· + _) (by simp [Ideal.ofBits, Ideal.ieee] : Ideal.ofBits .f32 0#32 = 0)).trans ((zero_add _).trans ?_)
    rw [Fintype.sum_prod_type]
    exact Finset.sum_congr rfl fun d _ => Finset.sum_congr rfl fun n _ => dmx_v p dm n r h d _ rfl

/-- The gradient of the biases. -/
theorem dbs_ref (h : Fin 8) (r : Fin 128) (y : S8x128x1.Idx) (hy : y = ix3 h r 0) : val_main_v347 (F := Ideal) p dm y = bsArr p dm y := by
  subst hy
  have e : idx_main_v275 (ix5 (0 : Fin 1) (0 : Fin 1) r h (0 : Fin 1)) = ix3 (0 : Fin 1) r h := by funext a; fin_cases a <;> apply Fin.ext <;> simp <;> omega
  have e2 : idx_main_v277 (idx_main_v308 (idx_main_v346 (idx_main_v347 (ix3 h r (0 : Fin 1))))) = ix2 r h := by funext a; fin_cases a <;> apply Fin.ext <;> simp <;> omega
  simp only [val_main_v347_apply, val_main_v346_apply, val_main_v308_apply, val_main_v277_apply, e2]
  unfold val_main_v276
  refine (reduce_unit _ _ _ _ (ix5 (0 : Fin 1) (0 : Fin 1) r h (0 : Fin 1)) ?_ ?_).trans ?_
  · funext b; fin_cases b <;> rfl
  · intro i' hi
    idx_vars i'
    have h1 := congrArg Fin.val (congrFun hi 0)
    have h2 := congrArg Fin.val (congrFun hi 1)
    funext b; fin_cases b
    · exact Subsingleton.elim (α := Fin 1) _ _
    · exact Subsingleton.elim (α := Fin 1) _ _
    · exact Fin.ext h1
    · exact Fin.ext h2
    · exact Subsingleton.elim (α := Fin 1) _ _
  · rw [val_main_v275_apply, e, dbs_sum p dm r h _ rfl, val_main_cst_57_apply]
    exact (congrArg (· + _) (by simp [Ideal.ofBits, Ideal.ieee] : Ideal.ofBits .f32 0#32 = 0)).trans (zero_add _)

/-- The pairs of a chunk and a token of it, as places of the contraction. -/
def pairs : Fin 32 × Fin 128 ≃ dot_S8x1x32x128x128_S1x32x128x8x128_S8x128x128_123_014_4_2_0_3.contr.Idx where
  toFun k := fun a => match a with
    | ⟨0, _⟩ => (0 : Fin 1)
    | ⟨1, _⟩ => k.1
    | ⟨2, _⟩ => k.2
  invFun q := (q ⟨1, by decide⟩, q ⟨2, by decide⟩)
  left_inv _ := rfl
  right_inv q := funext fun a => match a with
    | ⟨0, _⟩ => Subsingleton.elim (α := Fin 1) _ _
    | ⟨1, _⟩ => rfl
    | ⟨2, _⟩ => rfl

/-- The gradient of the mixing weights before the mask. -/
theorem dws_sum (h : Fin 8) (t s : Fin 128) (y : S8x128x128.Idx) (hy : y = ix3 h t s) : val_main_v279 (F := Ideal) p g dm y = ∑ n, wsPart p dm g h t s n := by
  subst hy
  unfold val_main_v279
  simp only [Host.dotGeneral]
  rw [Ideal.dotGeneral_apply, ← Equiv.sum_comp pairs, Fintype.sum_prod_type]
  unfold wsPart dws
  refine Finset.sum_congr rfl fun n _ => Finset.sum_congr rfl fun d _ => ?_
  have el : dot_S8x1x32x128x128_S1x32x128x8x128_S8x128x128_123_014_4_2_0_3.lhsIdx (ix3 h t s) (pairs (n, d)) = ix5 h (0 : Fin 1) n d t := by funext a; fin_cases a <;> rfl
  have er : dot_S8x1x32x128x128_S1x32x128x8x128_S8x128x128_123_014_4_2_0_3.rhsIdx (ix3 h t s) (pairs (n, d)) = ix5 (0 : Fin 1) n s h d := by funext a; fin_cases a <;> rfl
  rw [el, er, val_main_v278_apply, dmx_v p dm n t h d _ (by funext a; fin_cases a <;> rfl), vh_v p g n s h d _ rfl]

/-- The gradient of the mixing weights. -/
theorem dws_ref (h : Fin 8) (t s : Fin 128) (y : S8x128x128.Idx) (hy : y = ix3 h t s) : val_main_v345 (F := Ideal) p g dm y = wsArr p dm g y := by
  subst hy
  have e : idx_main_v309 (idx_main_v345 (ix3 h t s)) = ix3 h t s := by funext a; fin_cases a <;> apply Fin.ext <;> simp <;> omega
  rw [val_main_v345_apply, val_main_v309_apply, e, val_main_v282_apply, dws_sum p g dm h t s _ rfl, val_main_v78_1_apply, val_main_v76_apply,
    mask_at t s _ (by funext a; fin_cases a <;> rfl), val_main_call4_v0_apply]
  unfold wsArr lower
  by_cases hh : s.val ≤ t.val
  · rw [if_pos hh]
    exact (if_pos hh).symm
  · rw [if_neg hh]
    exact Eq.trans (by simp [Scalar.select, Ideal.ofBits, Ideal.ieee, val_main_call4_cst_apply]) (if_neg hh).symm

/-- The cotangent of the normalised rows. -/
theorem dvh_v (n : Fin 32) (r : Fin 128) (h : Fin 8) (d : Fin 128) (T : Fin 4096) (hT : T.val = n.val * 128 + r.val) (y : S1x4096x8x128.Idx) (hy : y = ix4 0 T h d) :
    val_main_v283 (F := Ideal) p ws dm y = dvh (chunk (third p 0) n h) (chunk (half dm 0) n h) (slab (trilT ws) h) r d := by
  subst hy
  have e : idx_main_v281 (idx_main_v283 (ix4 (0 : Fin 1) T h d)) = ix5 h (0 : Fin 1) n d r := by funext a; fin_cases a <;> apply Fin.ext <;> simp <;> omega
  rw [val_main_v283_apply, val_main_v281_apply, e, val_main_v280_apply]
  unfold dvh
  refine Finset.sum_congr rfl fun t _ => ?_
  rw [val_main_v278_apply, dmx_v p dm n t h d _ (by funext a; fin_cases a <;> rfl), w_at ws h t r _ (by funext a; fin_cases a <;> rfl)]
  exact mul_comm _ _

/-- The gradient of the gain at a head's lane. -/
theorem gv_at (wT : S8x128x128.Idx → EReal) (h : Fin 8) (d : Fin 128) : gvArr p dm wT (ix2 (0 : Fin 1) (⟨128 * h.val + d.val, by omega⟩ : Fin 1024))
    = ∑ n, dgv (chunk (third p 0) n h) (chunk (third p 1) n h) (chunk (half dm 0) n h) (slab wT h) d := by
  have hh : headOf (⟨128 * h.val + d.val, by omega⟩ : Fin 1024) = h := Fin.ext (by simp only [headOf]; omega)
  have hd : laneOf (⟨128 * h.val + d.val, by omega⟩ : Fin 1024) = d := Fin.ext (by simp only [laneOf]; omega)
  unfold gvArr gvPart
  exact congrArg₂ (fun h d => ∑ n, dgv (chunk (third p 0) n h) (chunk (third p 1) n h) (chunk (half dm 0) n h) (slab wT h) d) hh hd

/-- The gradient of the gain. -/
theorem dgv_ref (h : Fin 8) (d : Fin 128) (y : S1x1024.Idx) (hy : y = ix2 0 ⟨128 * h.val + d.val, by omega⟩) : val_main_v307 (F := Ideal) p ws dm y = gvArr p dm (trilT ws) y := by
  subst hy
  have e : idx_main_v305 (idx_main_v307 (ix2 (0 : Fin 1) (⟨128 * h.val + d.val, by omega⟩ : Fin 1024))) = ix2 h d := by funext a; fin_cases a <;> apply Fin.ext <;> simp <;> omega
  have e' : idx_main_v286 (ix4 (0 : Fin 1) (0 : Fin 1) h d) = ix3 (0 : Fin 1) h d := by funext a; fin_cases a <;> apply Fin.ext <;> simp <;> omega
  have ek : ∀ k, idx_main_v285 (ix3 (0 : Fin 1) h d) k = ix4 (0 : Fin 1) k h d := fun k => by funext a; fin_cases a <;> rfl
  have z : Ideal.ofBits .f32 0#32 = 0 := by simp [Ideal.ofBits, Ideal.ieee]
  rw [val_main_v307_apply, val_main_v305_apply, e]
  unfold val_main_v289
  refine (reduce_unit _ _ _ _ (ix4 (0 : Fin 1) (0 : Fin 1) h d) ?_ ?_).trans ?_
  · funext b; fin_cases b <;> rfl
  · intro i' hi
    idx_vars i'
    have h1 := congrArg Fin.val (congrFun hi 0)
    have h2 := congrArg Fin.val (congrFun hi 1)
    funext b; fin_cases b
    · exact Subsingleton.elim (α := Fin 1) _ _
    · exact Subsingleton.elim (α := Fin 1) _ _
    · exact Fin.ext h1
    · exact Fin.ext h2
  rw [val_main_cst_59_apply, val_main_v286_apply, e', val_main_v285_apply, val_main_cst_58_apply]
  refine ((congrArg (· + _) z).trans (zero_add _)).trans (((congrArg (· + _) z).trans (zero_add _)).trans ?_)
  refine (Finset.sum_congr rfl fun k _ => congrArg _ (ek k)).trans ?_
  refine (Fin.sum_mul_add_fin 32 128 (fun k => val_main_v284 (F := Ideal) p ws dm (ix4 (0 : Fin 1) k h d))).symm.trans ?_
  refine Eq.trans ?_ (gv_at p dm (trilT ws) h d).symm
  unfold dgv
  refine Finset.sum_congr rfl fun n _ => Finset.sum_congr rfl fun r _ => ?_
  rw [val_main_v284_apply, vn_v p n r h d _ rfl _ rfl, dvh_v p ws dm n r h d _ rfl _ rfl]
  exact mul_comm _ _

end

end Cert.Mixer.Ref
end
-- ==== Proof.MixerRefGrad.lean ====
module

public import proofs.«01_k».proof.Proof.MixerRefMix

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- An extended real that is a real. -/
def IsReal (x : EReal) : Prop := ∃ r : ℝ, x = (r : EReal)

/-- Sums of two reals. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- Differences of reals. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- Products of reals. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- Quotients of a real by a real that is not zero. -/
theorem IsReal.div {x : EReal} (hx : IsReal x) {b : ℝ} (hb : b ≠ 0) : IsReal (Ideal.div x (b : EReal)) := by
  rw [Ideal.div_coe hb]
  exact hx.mul ⟨_, rfl⟩

/-- Finite sums of reals. -/
theorem IsReal.sum {ι : Type} [Fintype ι] {f : ι → EReal} (hf : ∀ i, IsReal (f i)) : IsReal (∑ i, f i) := by
  choose r hr using hf
  refine ⟨∑ i, r i, ?_⟩
  rw [coe_sum]
  exact Finset.sum_congr rfl fun i _ => hr i

/-- A finite literal of an operation is a real: the ones of this module. -/
theorem lit_C : IsReal (Ideal.ofBits .f32 0x3F4C422A#32) := by
  simp only [Ideal.ofBits, Ideal.ieee]
  norm_num
  exact ⟨_, (EReal.coe_mul _ _).symm⟩

/-- One half. -/
theorem lit_half : Ideal.ofBits .f32 0x3F000000#32 = ((1 / 2 : ℝ) : EReal) := by
  simp [Ideal.ofBits, Ideal.ieee]
  rw [← EReal.coe_mul]
  norm_num

/-- One. -/
theorem lit_one : Ideal.ofBits .f32 0x3F800000#32 = ((1 : ℝ) : EReal) := by
  simp [Ideal.ofBits, Ideal.ieee]
  rw [← EReal.coe_mul]
  norm_num

/-- Three. -/
theorem lit_three : Ideal.ofBits .f32 0x40400000#32 = ((3 : ℝ) : EReal) := by
  simp [Ideal.ofBits, Ideal.ieee]
  rw [← EReal.coe_mul]
  norm_num

/-- The length of a head's row. -/
theorem lit_128 : Ideal.ofBits .f32 0x43000000#32 = ((128 : ℝ) : EReal) := by
  simp [Ideal.ofBits, Ideal.ieee]
  rw [← EReal.coe_mul]
  norm_num

/-- Minus one half. -/
theorem lit_mhalf : Ideal.ofBits .f32 0xBF000000#32 = ((-(1 / 2) : ℝ) : EReal) := by
  simp [Ideal.ofBits, Ideal.ieee]
  rw [← EReal.coe_mul]
  norm_num

/-- The constant added to the mean square is positive. -/
theorem lit_eps : ∃ e : ℝ, 0 < e ∧ Ideal.ofBits .f32 0x358637BD#32 = (e : EReal) := by
  simp only [Ideal.ofBits, Ideal.ieee]
  norm_num
  exact ⟨_, by positivity, (EReal.coe_mul _ _).symm⟩

/-- Zero. -/
theorem lit_zero : Ideal.ofBits .f32 0#32 = 0 := by simp [Ideal.ofBits, Ideal.ieee]

/-- The named constant of the slope. -/
theorem named_slope : Named.named (F := Ideal) Cert.MixerIdeal.κ "slope" (φ := .f32) 0x3E095D4F#32 = ((26829 / 200000 : ℝ) : EReal) :=
  IdealRules.named_const.ideal_named_scalar _ _ _ _ rfl

/-- The activation's tangent of a real. -/
theorem gtanh_real {x : EReal} (hx : IsReal x) : IsReal (gtanh x) := by
  obtain ⟨c, hc⟩ := lit_C
  obtain ⟨a, rfl⟩ := hx
  unfold gtanh
  rw [hc, named_cube]
  simp only [← EReal.coe_mul, ← EReal.coe_add]
  exact ⟨_, rfl⟩

/-- The activation of a real. -/
theorem gelu_real {x : EReal} (hx : IsReal x) : IsReal (gelu x) := by
  unfold gelu
  rw [lit_half, lit_one]
  exact (IsReal.mul ⟨_, rfl⟩ hx).mul (IsReal.add ⟨_, rfl⟩ (gtanh_real hx))

/-- The gradient through the activation, as the reference writes it: the cotangent times the slope. -/
theorem gelu_grad {x ct : EReal} (hx : IsReal x) (hct : IsReal ct) :
    (ct * (Ideal.ofBits .f32 0x3F000000#32 * (Ideal.ofBits .f32 0x3F800000#32 + gtanh x))
      + Ideal.ofBits .f32 0x3F4C422A#32 * ((Ideal.ofBits .f32 0x3F000000#32 * (x * ct)) * ((Ideal.ofBits .f32 0x3F800000#32 + gtanh x) * (Ideal.ofBits .f32 0x3F800000#32 - gtanh x))))
    + (Ideal.ofBits .f32 0x472EAB00#32 * Ideal.div (Ideal.ofBits .f32 0x3F4C422A#32 * ((Ideal.ofBits .f32 0x3F000000#32 * (x * ct)) * ((Ideal.ofBits .f32 0x3F800000#32 + gtanh x) * (Ideal.ofBits .f32 0x3F800000#32 - gtanh x))))
      (Ideal.ofBits .f32 0x49742400#32)) * (Ideal.ofBits .f32 0x40400000#32 * (x * x))
    = ct * dgelu x := by
  obtain ⟨c, hc⟩ := lit_C
  obtain ⟨t, ht⟩ := gtanh_real hx
  obtain ⟨a, rfl⟩ := hx
  obtain ⟨b, rfl⟩ := hct
  unfold dgelu
  rw [hc, ht, lit_half, lit_one, lit_three, lit_cube, lit_million, named_slope, Ideal.div_coe (by norm_num)]
  simp only [← EReal.coe_mul, ← EReal.coe_add, ← EReal.coe_sub]
  congr 1
  ring

/-- The reciprocal root of a row of reals. -/
theorem rv_real {A : Tile} (hA : ∀ r d, IsReal (A r d)) (s : Fin 128) : IsReal (rv A s) := by
  obtain ⟨e, he, h⟩ := lit_eps
  choose y hy using fun k => gelu_real (hA s k)
  unfold rv
  rw [h, lit_128, Ideal.div_coe (by norm_num)]
  have hs : (∑ k, gelu (A s k) * gelu (A s k)) = ((∑ k, y k * y k : ℝ) : EReal) := by
    rw [coe_sum]
    exact Finset.sum_congr rfl fun k _ => by rw [hy k, EReal.coe_mul]
  rw [hs, ← EReal.coe_mul, ← EReal.coe_add, Ideal.rsqrt_coe]
  have : 0 < (∑ k, y k * y k) * (1 / 128) + e := by
    have := Finset.sum_nonneg (s := Finset.univ) fun k _ => mul_self_nonneg (y k)
    positivity
  rw [if_neg (not_lt.mpr this.le), if_neg this.ne']
  exact ⟨_, rfl⟩

section
variable (p : S4096x3072.Idx → EReal) (ws : S1x8x128x128.Idx → EReal) (bs : S1x8x128.Idx → EReal) (g : S1x1024.Idx → EReal) (dm : S4096x2048.Idx → EReal)

/-- A token is its chunk's row. -/
theorem token (T : Fin 4096) : T.val = (chunkOf T).val * 128 + (rowOf T).val := by
  simp only [chunkOf, rowOf]
  omega

/-- A column is its head's lane. -/
theorem column (j : Fin 1024) : (⟨128 * (headOf j).val + (laneOf j).val, by omega⟩ : Fin 1024) = j := by
  apply Fin.ext
  simp only [headOf, laneOf]
  omega

/-- A tile's entry by token and column. -/
theorem chunk_entry (f : Rows) (T : Fin 4096) (j : Fin 1024) : chunk f (chunkOf T) (headOf j) (rowOf T) (laneOf j) = f T j := by
  rw [← tile_row f (chunkOf T) (rowOf T) (headOf j) (laneOf j) T (token T), column]

/-- The gradient through the normalisation. -/
theorem norm_ref (n : Fin 32) (r : Fin 128) (h : Fin 8) (d : Fin 128) (T : Fin 4096) (hT : T.val = n.val * 128 + r.val) (y : S1x4096x8x128.Idx) (hy : y = ix4 0 T h d) :
    val_main_v304 (F := Ideal) p ws g dm y = rv (chunk (third p 1) n h) r * (dvh (chunk (third p 0) n h) (chunk (half dm 0) n h) (slab (trilT ws) h) r d * gains g h d
      - vn (chunk (third p 1) n h) r d * Ideal.div (∑ k : Fin 128, dvh (chunk (third p 0) n h) (chunk (half dm 0) n h) (slab (trilT ws) h) r k * gains g h k
        * vn (chunk (third p 1) n h) r k) (Ideal.ofBits .f32 0x43000000#32)) := by
  subst hy
  have hd : ∀ k, val_main_v288 (F := Ideal) p ws g dm (ix4 (0 : Fin 1) T h k) = dvh (chunk (third p 0) n h) (chunk (half dm 0) n h) (slab (trilT ws) h) r k * gains g h k := fun k => by
    rw [val_main_v288_apply, dvh_v p ws dm n r h k T hT _ rfl]
    refine congrArg (_ * ·) ?_
    simp only [val_main_v287_apply, val_main_v70_apply, val_main_v56_apply, val_main_v54_apply]
    unfold gains
    refine congrArg g ?_
    funext a; fin_cases a <;> apply Fin.ext <;> simp <;> omega
  have hx : ∀ k, val_main_v55 (F := Ideal) p (ix4 (0 : Fin 1) T h k) = gelu (chunk (third p 1) n h r k) := fun k => by
    rw [heads_v p T h k _ rfl, tile_row (third p 1) n r h k T hT]
  have e4 : idx_main_v299 (idx_main_v300 (ix4 (0 : Fin 1) T h d)) = ix2 T h := by funext a; fin_cases a <;> rfl
  have e5 : idx_main_v292 (ix4 (0 : Fin 1) T h (0 : Fin 1)) = ix3 (0 : Fin 1) T h := by funext a; fin_cases a <;> apply Fin.ext <;> simp <;> omega
  have e6 : ∀ k, idx_main_v291 (ix3 (0 : Fin 1) T h) k = ix4 (0 : Fin 1) T h k := fun k => by funext a; fin_cases a <;> rfl
  have hs : val_main_v300 (F := Ideal) p ws g dm (ix4 (0 : Fin 1) T h d) = Ideal.div ((∑ k, gelu (chunk (third p 1) n h r k) * (dvh (chunk (third p 0) n h) (chunk (half dm 0) n h) (slab (trilT ws) h) r k * gains g h k))
      * (((-(1 / 2) : ℝ) : EReal) * Ideal.div (rv (chunk (third p 1) n h) r) (val_main_v63 (F := Ideal) p (ix4 (0 : Fin 1) T h (0 : Fin 1))))) ((128 : ℝ) : EReal) := by
    rw [val_main_v300_apply, val_main_v299_apply, e4]
    unfold val_main_v298
    refine (reduce_unit _ _ _ _ (ix4 (0 : Fin 1) T h (0 : Fin 1)) ?_ ?_).trans ?_
    · funext b; fin_cases b <;> rfl
    · intro i' hi
      idx_vars i'
      have h1 := congrArg Fin.val (congrFun hi 0)
      have h2 := congrArg Fin.val (congrFun hi 1)
      funext b; fin_cases b
      · exact Subsingleton.elim (α := Fin 1) _ _
      · exact Fin.ext h1
      · exact Fin.ext h2
      · exact Subsingleton.elim (α := Fin 1) _ _
    refine (congrArg (· + _) lit_zero).trans ((zero_add _).trans ?_)
    rw [val_main_v297_apply, val_main_v295_apply, val_main_v292_apply, e5, val_main_v291_apply, val_main_v296_apply, val_main_cst_61_apply]
    simp only [val_main_v67_apply, val_main_v66_apply, val_main_cst_18_apply, val_main_v65_apply, rv_v p n r h T hT _ rfl, e6, val_main_v290_apply, hx, hd]
    refine congrArg₂ Ideal.div (congrArg₂ (· * ·) ((congrArg (· + _) lit_zero).trans (zero_add _)) (congrArg (· * _) lit_mhalf)) lit_128
  have key := norm_grad (N := 128) (fun k => gelu (chunk (third p 1) n h r k))
    (fun k => dvh (chunk (third p 0) n h) (chunk (half dm 0) n h) (slab (trilT ws) h) r k * gains g h k) 0 d _ lit_eps
    (val_main_v63 (F := Ideal) p (ix4 (0 : Fin 1) T h (0 : Fin 1))) (rv (chunk (third p 1) n h) r) _
    (by rw [ms_v p T h _ rfl, lit_128]; simp only [tile_row (third p 1) n r h _ T hT])
    ((rv_v p n r h T hT _ rfl).symm.trans (val_main_v64_apply _ _)) hs
  rw [zero_add, zero_add] at key
  rw [val_main_v304_apply, val_main_v302_apply, val_main_v303_apply, val_main_v301_apply, val_main_v294_apply, val_main_v293_apply,
    rv_v p n r h T hT _ (by funext a; fin_cases a <;> rfl), hd, hx]
  refine key.symm.trans ?_
  rw [lit_128]
  rfl

/-- The normalised rows are reals. -/
theorem vn_real (hp : ∀ i, IsReal (p i)) (n : Fin 32) (h : Fin 8) (r d : Fin 128) : IsReal (vn (chunk (third p 1) n h) r d) :=
  (gelu_real (hp _)).mul (rv_real (fun _ _ => hp _) _)

/-- The cotangent of the normalised rows is real. -/
theorem dvh_real (hp : ∀ i, IsReal (p i)) (hws : ∀ i, IsReal (ws i)) (hdm : ∀ i, IsReal (dm i)) (n : Fin 32) (h : Fin 8) (r d : Fin 128) :
    IsReal (dvh (chunk (third p 0) n h) (chunk (half dm 0) n h) (slab (trilT ws) h) r d) := by
  refine IsReal.sum fun t => IsReal.mul ?_ (IsReal.mul (hdm _) (gelu_real (hp _)))
  unfold slab trilT tril lower
  split
  · exact hws _
  · exact ⟨0, rfl⟩

/-- The mixed rows are reals. -/
theorem mixed_real (hp : ∀ i, IsReal (p i)) (hws : ∀ i, IsReal (ws i)) (hbs : ∀ i, IsReal (bs i)) (hg : ∀ i, IsReal (g i)) (n : Fin 32) (h : Fin 8) (r d : Fin 128) :
    IsReal (mixed (chunk (third p 1) n h) (slab (tril ws) h) (slab (biases bs) h) (gains g h) r d) := by
  refine IsReal.add (IsReal.sum fun t => IsReal.mul ?_ ((vn_real p hp n h t d).mul (hg _))) (hbs _)
  unfold slab tril lower
  split
  · exact hws _
  · exact ⟨0, rfl⟩

/-- The gradient of the mixed argument. -/
theorem dv_ref (hp : ∀ i, IsReal (p i)) (hws : ∀ i, IsReal (ws i)) (hg : ∀ i, IsReal (g i)) (hdm : ∀ i, IsReal (dm i)) (T : Fin 4096) (j : Fin 1024)
    (y : S1x4096x1024.Idx) (hy : y = ix3 0 T j) : val_main_v324 (F := Ideal) p ws g dm y = dvA p dm (trilT ws) g T j := by
  subst hy
  have e : idx_main_v306 (ix3 (0 : Fin 1) T j) = ix4 (0 : Fin 1) T (headOf j) (laneOf j) := by funext a; fin_cases a <;> apply Fin.ext <;> simp [chunkOf, rowOf, headOf, laneOf] <;> omega
  have hct : val_main_v306 (F := Ideal) p ws g dm (ix3 (0 : Fin 1) T j) = _ := (val_main_v306_apply _ _ _ _ _).trans (norm_ref p ws g dm (chunkOf T) (rowOf T) (headOf j) (laneOf j) T (token T) _ e)
  simp only [val_main_v324_apply, val_main_v318_apply, val_main_v312_apply, val_main_v49_apply, val_main_v48_apply, val_main_cst_14_apply, val_main_v47_apply, val_main_v46_apply, val_main_cst_13_apply, val_main_v317_apply, val_main_v316_apply, val_main_cst_65_apply, val_main_v315_apply, val_main_v314_apply, val_main_v313_apply, val_main_cst_64_apply, val_main_v311_apply, val_main_v45_apply, val_main_v42_apply, val_main_v41_apply, val_main_cst_11_apply, val_main_v44_apply, val_main_v43_apply, val_main_cst_12_apply, val_main_v323_apply, val_main_v322_apply, val_main_v321_apply, val_main_cst_67_apply, val_main_v320_apply, val_main_v319_apply, val_main_cst_66_apply, val_main_v32_apply, val_main_v31_apply, val_main_cst_7_apply, val_main_v30_apply, at_v p T j _ rfl, tanh_v p T j _ rfl]
  refine (gelu_grad (hp _) ?_).trans ?_
  · rw [hct, lit_128]
    exact (rv_real (fun _ _ => hp _) _).mul (((dvh_real p ws dm hp hws hdm _ _ _ _).mul (hg _)).sub ((vn_real p hp _ _ _ _).mul
      (IsReal.div (IsReal.sum fun k => ((dvh_real p ws dm hp hws hdm _ _ _ _).mul (hg _)).mul (vn_real p hp _ _ _ _)) (by norm_num))))
  · unfold dvA dvp
    rw [hct, chunk_entry (third p 1) T j]
    rfl

/-- The gradient of the gate's argument. -/
theorem du_ref (hp : ∀ i, IsReal (p i)) (hws : ∀ i, IsReal (ws i)) (hbs : ∀ i, IsReal (bs i)) (hg : ∀ i, IsReal (g i)) (hdm : ∀ i, IsReal (dm i))
    (T : Fin 4096) (j : Fin 1024) (y : S1x4096x1024.Idx) (hy : y = ix3 0 T j) : val_main_v340 (F := Ideal) p ws bs g dm y = duA p dm (tril ws) (biases bs) g T j := by
  subst hy
  have e : idx_main_v85 (ix3 (0 : Fin 1) T j) = ix5 (0 : Fin 1) (chunkOf T) (rowOf T) (headOf j) (laneOf j) := by funext a; fin_cases a <;> apply Fin.ext <;> simp [chunkOf, rowOf, headOf, laneOf] <;> omega
  have hct : val_main_v272 (F := Ideal) p ws bs g dm (ix3 (0 : Fin 1) T j) = half dm 0 T j * mixed (chunk (third p 1) (chunkOf T) (headOf j)) (slab (tril ws) (headOf j)) (slab (biases bs) (headOf j)) (gains g (headOf j)) (rowOf T) (laneOf j) := by
    rw [val_main_v272_apply, val_main_v85_apply, at_da dm T j _ rfl, mixed_v p ws bs g (chunkOf T) (rowOf T) (headOf j) (laneOf j) _ e]
    rfl
  simp only [val_main_v340_apply, val_main_v334_apply, val_main_v328_apply, val_main_v25_apply, val_main_v24_apply, val_main_cst_6_apply, val_main_v23_apply, val_main_v22_apply, val_main_cst_5_apply, val_main_v333_apply, val_main_v332_apply, val_main_cst_70_apply, val_main_v331_apply, val_main_v330_apply, val_main_v329_apply, val_main_cst_69_apply, val_main_v327_apply, val_main_v21_apply, val_main_v18_apply, val_main_v17_apply, val_main_cst_3_apply, val_main_v20_apply, val_main_v19_apply, val_main_cst_4_apply, val_main_v339_apply, val_main_v338_apply, val_main_v337_apply, val_main_cst_72_apply, val_main_v336_apply, val_main_v335_apply, val_main_cst_71_apply, val_main_v8_apply, val_main_v7_apply, val_main_cst_apply, val_main_v6_apply, at_u p T j _ rfl, tanh_u p T j _ rfl]
  refine (gelu_grad (hp _) ?_).trans ?_
  · rw [hct]
    exact (hdm _).mul (mixed_real p ws bs g hp hws hbs hg _ _ _ _)
  · unfold duA dup
    rw [hct, chunk_entry (third p 0) T j, chunk_entry (half dm 0) T j]
    rfl

end

end Cert.Mixer.Ref
end
-- ==== Proof.MixerRefSums.lean ====
module

public import proofs.«01_k».proof.Proof.MixerRefGrad

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- Adding along a list is adding the list's sum. -/
theorem foldl_sum {n : ℕ} (f : Fin n → EReal) (v : EReal) : (List.finRange n).foldl (fun r i => r + f i) v = v + ∑ i, f i := by
  rw [Fin.sum_univ_def]
  generalize List.finRange n = l
  induction l generalizing v with
  | nil => simp
  | cons a l ih => rw [List.foldl_cons, ih, List.map_cons, List.sum_cons, add_assoc]

/-- The window of a running sum over the tokens. -/
abbrev Win : Shape := ⟨4, ![1, 4096, 1, 1]⟩

/-- It has as many places as tokens. -/
theorem win_numel : Win.numel = 4096 := by
  show ∏ a : Fin 4, (![1, 4096, 1, 1] : Fin 4 → ℕ) a = 4096
  simp [Fin.prod_univ_succ]

/-- The place of number `n` is token `n`. -/
theorem win_symm (n : Fin Win.numel) : Win.rowMajor.symm n = ix4 (0 : Fin 1) (n.cast win_numel) (0 : Fin 1) (0 : Fin 1) :=
  (Win.rowMajor.symm_apply_eq).2 (Fin.ext (by
    rw [rowMajor_val4 _ 4096 1 1 rfl rfl rfl]
    show n.val = 0 * 4096 + n.val * 1 + 0 * 1 + 0
    omega))

/-- The host's running sum over the tokens, from before or from behind: the sum of the tokens its window holds. -/
theorem window_sum (L H : ℕ) (h : S1x4096x4x256.ReduceWindows ![1, 4096, 1, 1] ![1, 1, 1, 1] ![0, L, 0, 0] ![0, H, 0, 0] S1x4096x4x256) (x : S1x4096x4x256.Idx → EReal)
    (T : Fin 4096) (g : Fin 4) (a : Fin 256) :
    Ideal.hostReduceWindowAdd ![1, 4096, 1, 1] ![1, 1, 1, 1] ![0, L, 0, 0] ![0, H, 0, 0] h x 0 (ix4 (0 : Fin 1) T g a)
    = ∑ n : Fin 4096, if hin : L ≤ T.val + n.val ∧ T.val + n.val - L < 4096 then x (ix4 (0 : Fin 1) (⟨T.val + n.val - L, hin.2⟩ : Fin 4096) g a) else 0 := by
  unfold Ideal.hostReduceWindowAdd Host.reduceWindow
  refine (foldl_sum _ _).trans ((zero_add _).trans ?_)
  refine (Equiv.sum_comp (finCongr win_numel.symm) _).symm.trans (Finset.sum_congr rfl fun n _ => ?_)
  have hv : ∀ b, (Win.rowMajor.symm (finCongr win_numel.symm n) b).val = (ix4 (0 : Fin 1) n (0 : Fin 1) (0 : Fin 1) b).val := fun b => by
    rw [win_symm]
    fin_cases b <;> rfl
  have h0 := hv 0
  have h1 := hv 1
  have h2 := hv 2
  have h3 := hv 3
  change _ = 0 at h0
  change _ = n.val at h1
  change _ = 0 at h2
  change _ = 0 at h3
  have hg := g.isLt
  have ha := a.isLt
  by_cases hc : L ≤ T.val + n.val ∧ T.val + n.val - L < 4096
  · rw [dif_pos hc]
    refine (dif_pos ?_).trans ?_
    · intro b
      match b with
      | ⟨0, _⟩ =>
        show 0 ≤ 0 * 1 + (Win.rowMajor.symm (finCongr win_numel.symm n) 0).val ∧ 0 * 1 + (Win.rowMajor.symm (finCongr win_numel.symm n) 0).val - 0 < 1
        omega
      | ⟨1, _⟩ =>
        show L ≤ T.val * 1 + (Win.rowMajor.symm (finCongr win_numel.symm n) 1).val ∧ T.val * 1 + (Win.rowMajor.symm (finCongr win_numel.symm n) 1).val - L < 4096
        omega
      | ⟨2, _⟩ =>
        show 0 ≤ g.val * 1 + (Win.rowMajor.symm (finCongr win_numel.symm n) 2).val ∧ g.val * 1 + (Win.rowMajor.symm (finCongr win_numel.symm n) 2).val - 0 < 4
        omega
      | ⟨3, _⟩ =>
        show 0 ≤ a.val * 1 + (Win.rowMajor.symm (finCongr win_numel.symm n) 3).val ∧ a.val * 1 + (Win.rowMajor.symm (finCongr win_numel.symm n) 3).val - 0 < 256
        omega
    · refine congrArg x (funext fun b => ?_)
      match b with
      | ⟨0, _⟩ => exact Subsingleton.elim (α := Fin 1) _ _
      | ⟨1, _⟩ =>
        refine Fin.ext ?_
        show T.val * 1 + (Win.rowMajor.symm (finCongr win_numel.symm n) 1).val - L = T.val + n.val - L
        omega
      | ⟨2, _⟩ =>
        refine Fin.ext ?_
        show g.val * 1 + (Win.rowMajor.symm (finCongr win_numel.symm n) 2).val - 0 = g.val
        omega
      | ⟨3, _⟩ =>
        refine Fin.ext ?_
        show a.val * 1 + (Win.rowMajor.symm (finCongr win_numel.symm n) 3).val - 0 = a.val
        omega
  · rw [dif_neg hc]
    refine dif_neg fun hin => hc ?_
    have h := hin 1
    change L ≤ T.val * 1 + (Win.rowMajor.symm (finCongr win_numel.symm n) 1).val ∧ T.val * 1 + (Win.rowMajor.symm (finCongr win_numel.symm n) 1).val - L < 4096 at h
    omega

/-- The sum of the first `k` numbers. -/
def pre (r : ℕ → ℝ) (k : ℕ) : ℝ := ∑ t ∈ Finset.range k, r t

/-- The last `w` numbers up to `T` sum to the difference of two running sums. -/
theorem pre_window (r : ℕ → ℝ) (T w : ℕ) : (∑ k ∈ Finset.range w, if k ≤ T then r (T - k) else 0) = pre r (T + 1) - pre r (T + 1 - w) := by
  induction w with
  | zero => simp
  | succ w ih =>
    rw [Finset.sum_range_succ, ih]
    by_cases h : w ≤ T
    · rw [if_pos h]
      have : T + 1 - w = (T + 1 - (w + 1)) + 1 := by omega
      rw [this]
      unfold pre
      rw [Finset.sum_range_succ _ (T + 1 - (w + 1))]
      have : T + 1 - (w + 1) = T - w := by omega
      rw [this]
      ring
    · rw [if_neg h]
      have h1 : T + 1 - w = 0 := by omega
      have h2 : T + 1 - (w + 1) = 0 := by omega
      rw [h1, h2, add_zero]

/-- A sum of reals over the tokens, as a sum over numbers. -/
theorem sum_coe (N : ℕ) (f : Fin N → EReal) (r : ℕ → ℝ) (h : ∀ n : Fin N, f n = (r n.val : EReal)) : ∑ n, f n = ((∑ n ∈ Finset.range N, r n : ℝ) : EReal) := by
  rw [← Fin.sum_univ_eq_sum_range, coe_sum]
  exact Finset.sum_congr rfl fun n _ => h n

/-- The running sum from before, at a token. -/
theorem cum_eq (f : Fin 4096 → EReal) (r : ℕ → ℝ) (h : ∀ t : Fin 4096, f t = (r t.val : EReal)) (T : Fin 4096) :
    (∑ n : Fin 4096, if hin : 4095 ≤ T.val + n.val ∧ T.val + n.val - 4095 < 4096 then f ⟨T.val + n.val - 4095, hin.2⟩ else 0) = (pre r (T.val + 1) : EReal) := by
  refine (sum_coe 4096 _ (fun n => if 4095 - n ≤ T.val then r (T.val - (4095 - n)) else 0) fun n => ?_).trans ?_
  · by_cases hc : 4095 ≤ T.val + n.val
    · have hc' : 4095 ≤ T.val + n.val ∧ T.val + n.val - 4095 < 4096 := ⟨hc, by omega⟩
      have he : T.val - (4095 - n.val) = T.val + n.val - 4095 := by omega
      rw [dif_pos hc', if_pos (by omega), h, he]
    · rw [dif_neg (fun h => hc h.1), if_neg (by omega)]
      rfl
  · refine congrArg _ ?_
    rw [← Finset.sum_range_reflect]
    have := pre_window r T.val 4096
    rw [show T.val + 1 - 4096 = 0 by omega] at this
    rw [show pre r 0 = 0 from rfl, sub_zero] at this
    rw [← this]
    refine Finset.sum_congr rfl fun k hk => ?_
    have := Finset.mem_range.mp hk
    rw [show 4095 - (4096 - 1 - k) = k by omega]

/-- The running sum from behind, at a token. -/
theorem rev_eq (f : Fin 4096 → EReal) (r : ℕ → ℝ) (h : ∀ t : Fin 4096, f t = (r t.val : EReal)) (h0 : ∀ t, 4096 ≤ t → r t = 0) (T : Fin 4096) :
    (∑ n : Fin 4096, if hin : 0 ≤ T.val + n.val ∧ T.val + n.val - 0 < 4096 then f ⟨T.val + n.val - 0, hin.2⟩ else 0)
    = ((∑ n ∈ Finset.range 4096, r (T.val + n) : ℝ) : EReal) := by
  refine sum_coe 4096 _ (fun n => r (T.val + n)) fun n => ?_
  by_cases hc : T.val + n.val < 4096
  · rw [dif_pos ⟨by omega, by omega⟩, h]
    rfl
  · rw [dif_neg (by omega), h0 _ (by omega)]
    rfl

/-- Differences at a distance sum to the first ones. -/
theorem tele (r : ℕ → ℝ) (N w T : ℕ) (h : ∀ t, T + N ≤ t → r t = 0) : ∑ n ∈ Finset.range N, (r (T + n) - r (T + n + w)) = ∑ k ∈ Finset.range w, r (T + k) := by
  have hF : ∀ n, r (T + n) - r (T + n + w) = (∑ k ∈ Finset.range w, r (T + n + k)) - ∑ k ∈ Finset.range w, r (T + (n + 1) + k) := fun n => by
    have h1 := Finset.sum_range_succ (fun k => r (T + n + k)) w
    have h2 := Finset.sum_range_succ' (fun k => r (T + n + k)) w
    have h3 : ∑ k ∈ Finset.range w, r (T + n + (k + 1)) = ∑ k ∈ Finset.range w, r (T + (n + 1) + k) := Finset.sum_congr rfl fun k _ => by congr 1; omega
    rw [h3, add_zero] at h2
    linarith
  rw [Finset.sum_congr rfl fun n _ => hF n, Finset.sum_range_sub' (fun n => ∑ k ∈ Finset.range w, r (T + n + k)), add_zero]
  rw [Finset.sum_eq_zero fun k _ => h (T + N + k) (by omega), sub_zero]

/-- The mean over a window, as the reference's running sums give it. -/
theorem mean_eq (f : Fin 4096 → EReal) (hf : ∀ t, IsReal (f t)) (C : ℕ → EReal) (hC : ∀ r : ℕ → ℝ, (∀ t : Fin 4096, f t = (r t.val : EReal)) → ∀ k ≤ 4096, C k = (pre r k : EReal))
    (w : ℕ) (hw : 0 < w) (T : Fin 4096) :
    Ideal.div (C (T.val + 1) - C (T.val + 1 - w)) (((min (T.val + 1) w : ℕ) : ℝ) : EReal)
    = (∑ k : Fin w, if k.val ≤ T.val then f ⟨T.val - k.val, by omega⟩ else 0) * invc T.val w := by
  choose r hr using hf
  have hr' : ∀ t : Fin 4096, f t = ((fun n => if h : n < 4096 then r ⟨n, h⟩ else 0) t.val : ℝ) := fun t => by
    rw [hr t]
    simp only [dif_pos t.isLt]
  generalize hq : (fun n => if h : n < 4096 then r ⟨n, h⟩ else 0 : ℕ → ℝ) = q at hr'
  have hm : ((min (T.val + 1) w : ℕ) : ℝ) ≠ 0 := by
    have : min (T.val + 1) w ≠ 0 := by omega
    exact_mod_cast this
  rw [hC q hr' _ (by omega), hC q hr' _ (by omega), ← EReal.coe_sub, ← pre_window]
  unfold invc
  rw [Ideal.div_coe hm, Ideal.div_coe hm, one_mul]
  refine congrArg (· * _) (sum_coe w _ _ fun k => ?_).symm
  by_cases h : k.val ≤ T.val
  · rw [if_pos h, if_pos h, hr']
  · rw [if_neg h, if_neg h]
    rfl

/-- The sum of what a window's means pass back, as the reference's running sum gives it. -/
theorem back_eq (d : Fin 4096 → EReal) (hd : ∀ t, IsReal (d t)) (w : ℕ) (hw : 0 < w) (f : Fin 4096 → EReal)
    (hf : ∀ t : Fin 4096, f t = Ideal.div (d t) (((min (t.val + 1) w : ℕ) : ℝ) : EReal)
      + if h : t.val + w < 4096 then -Ideal.div (d ⟨t.val + w, h⟩) (((min (t.val + w + 1) w : ℕ) : ℝ) : EReal) else 0) (T : Fin 4096) :
    (∑ n : Fin 4096, if hin : 0 ≤ T.val + n.val ∧ T.val + n.val - 0 < 4096 then f ⟨T.val + n.val - 0, hin.2⟩ else 0)
    = ∑ k : Fin w, if h : T.val + k.val < 4096 then d ⟨T.val + k.val, h⟩ * invc (T.val + k.val) w else 0 := by
  choose r hr using hd
  have hm : ∀ t : ℕ, ((min (t + 1) w : ℕ) : ℝ) ≠ 0 := fun t => by
    have : min (t + 1) w ≠ 0 := by omega
    exact_mod_cast this
  obtain ⟨q, hq⟩ : ∃ q : ℕ → ℝ, q = fun n => if h : n < 4096 then r ⟨n, h⟩ * (1 / ((min (n + 1) w : ℕ) : ℝ)) else 0 := ⟨_, rfl⟩
  have hq1 : ∀ n (h : n < 4096), q n = r ⟨n, h⟩ * (1 / ((min (n + 1) w : ℕ) : ℝ)) := fun n h => by rw [hq]; exact dif_pos h
  have hq0 : ∀ n, 4096 ≤ n → q n = 0 := fun n h => by rw [hq]; exact dif_neg (by omega)
  refine (rev_eq f (fun n => q n - q (n + w)) (fun t => ?_) (fun t h => by rw [hq0 _ h, hq0 _ (by omega), sub_zero]) T).trans ?_
  · rw [hf t, hr t, Ideal.div_coe (hm t.val), ← EReal.coe_mul, hq1 t.val t.isLt]
    by_cases h : t.val + w < 4096
    · rw [dif_pos h, hr, Ideal.div_coe (hm _), ← EReal.coe_mul, ← EReal.coe_neg, ← EReal.coe_add, hq1 _ h, sub_eq_add_neg]
    · rw [dif_neg h, hq0 _ (by omega), sub_zero, add_zero]
  · rw [tele q 4096 w T.val fun t h => hq0 t (by omega)]
    refine (sum_coe w _ (fun k => q (T.val + k)) fun k => ?_).symm
    by_cases h : T.val + k.val < 4096
    · rw [dif_pos h, hr, hq1 _ h]
      unfold invc
      rw [Ideal.div_coe (hm _), one_mul, EReal.coe_mul]
    · rw [dif_neg h, hq0 _ (by omega)]
      rfl

end Cert.Mixer.Ref
end
-- ==== Proof.MixerRefPool.lean ====
module

public import proofs.«01_k».proof.Proof.MixerRefSums

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- The pooled third, by token, group and lane. -/
theorem z_at (p : S4096x3072.Idx → EReal) (T : Fin 4096) (g : Fin 4) (a : Fin 256) (y : S1x4096x4x256.Idx) (hy : y = ix4 (0 : Fin 1) T g a) :
    val_main_v89 (F := Ideal) p y = third p 2 T (lane g a) := by
  subst hy
  simp only [val_main_v89_apply, val_main_v51_apply, val_main_v0_apply]
  exact congrArg p (by funext b; fin_cases b <;> apply Fin.ext <;> simp [lane] <;> omega)

/-- Its running sums. -/
theorem cum_at (p : S4096x3072.Idx → EReal) (g : Fin 4) (a : Fin 256) (r : ℕ → ℝ) (hr : ∀ t : Fin 4096, third p 2 t (lane g a) = (r t.val : EReal)) (T : Fin 4096) (y : S1x4096x4x256.Idx)
    (hy : y = ix4 (0 : Fin 1) T g a) : val_main_v90 (F := Ideal) p y = (pre r (T.val + 1) : EReal) := by
  subst hy
  have h0 : ∀ i, val_main_call2_call0_v0 (F := Ideal) i = 0 := fun i => by
    simp only [val_main_call2_call0_v0_apply, val_main_call2_call0_cst_apply]
    exact lit_zero
  unfold val_main_v90 Host.reduceWindowAdd
  rw [h0]
  change Ideal.hostReduceWindowAdd ![1, 4096, 1, 1] ![1, 1, 1, 1] ![0, 4095, 0, 0] ![0, 0, 0, 0] _ (val_main_v89 (F := Ideal) p) 0 (ix4 (0 : Fin 1) T g a) = _
  refine (window_sum 4095 0 _ _ T g a).trans (Eq.trans ?_ (cum_eq (fun t => third p 2 t (lane g a)) r hr T))
  refine Finset.sum_congr rfl fun n _ => ?_
  by_cases h : 4095 ≤ T.val + n.val ∧ T.val + n.val - 4095 < 4096
  · refine (dif_pos h).trans ((z_at p _ g a _ rfl).trans ?_)
    rw [dif_pos h]
  · refine (dif_neg h).trans ?_
    rw [dif_neg h]

/-- The running sums with a zero before them. -/
theorem sums_at (p : S4096x3072.Idx → EReal) (g : Fin 4) (a : Fin 256) (r : ℕ → ℝ) (hr : ∀ t : Fin 4096, third p 2 t (lane g a) = (r t.val : EReal)) (k : Fin 4097) (y : S1x4097x4x256.Idx)
    (hy : y = ix4 (0 : Fin 1) k g a) : val_main_v93 (F := Ideal) p y = (pre r k.val : EReal) := by
  subst hy
  unfold val_main_v93
  rw [concatenate_pair_apply]
  by_cases h : k.val < 1
  · refine (dif_pos h).trans ?_
    simp only [val_main_v92_apply, val_main_cst_20_apply]
    rw [show k.val = 0 by omega]
    exact lit_zero
  · refine (dif_neg h).trans ?_
    refine (cum_at p g a r hr ⟨k.val - 1, by omega⟩ _ ?_).trans ?_
    · funext a; fin_cases a <;> rfl
    · rw [show (k.val - 1) + 1 = k.val by omega]

/-- The running sums by number. -/
def sumsAt (p : S4096x3072.Idx → EReal) (g : Fin 4) (a : Fin 256) (k : ℕ) : EReal := if h : k < 4097 then val_main_v93 (F := Ideal) p (ix4 (0 : Fin 1) (⟨k, h⟩ : Fin 4097) g a) else 0

/-- They are the running sums. -/
theorem sumsAt_eq (p : S4096x3072.Idx → EReal) (g : Fin 4) (a : Fin 256) (r : ℕ → ℝ) (hr : ∀ t : Fin 4096, third p 2 t (lane g a) = (r t.val : EReal)) (k : ℕ) (hk : k ≤ 4096) :
    sumsAt p g a k = (pre r k : EReal) := (dif_pos (by omega : k < 4097)).trans (sums_at p g a r hr ⟨k, by omega⟩ _ rfl)

/-- They begin at zero. -/
theorem sumsAt_zero (p : S4096x3072.Idx → EReal) (g : Fin 4) (a : Fin 256) : sumsAt p g a 0 = 0 := by
  refine (dif_pos (by omega : 0 < 4097)).trans ?_
  unfold val_main_v93
  rw [concatenate_pair_apply]
  refine (dif_pos (show 0 < 1 by omega)).trans ?_
  simp only [val_main_v92_apply, val_main_cst_20_apply]
  exact lit_zero

/-- The slice of the running sums that the window of 2 takes before it. -/
theorem slice0 (p : S4096x3072.Idx → EReal) (k : Fin 4095) (a : Fin 256) (y : S1x4095x256.Idx) (hy : y = ix3 (0 : Fin 1) k a) : val_main_v99 (F := Ideal) p y = sumsAt p 0 a k.val := by
  subst hy
  refine Eq.trans ?_ (dif_pos (by omega : k.val < 4097)).symm
  simp only [val_main_v99_apply, val_main_v97_apply, val_main_v96_apply]
  exact congrArg (val_main_v93 (F := Ideal) p) (by funext a; fin_cases a <;> apply Fin.ext <;> simp <;> omega)

/-- The number of tokens in a window of 2. -/
theorem count0_int : ∀ T : Fin 4096, (IntOp.minsi (IntOp.addi (BitVec.ofNat 32 T.val) 1#32) 2#32).toInt = ((min (T.val + 1) 2 : ℕ) : ℤ) := by decide +kernel

/-- The reference's count of them. -/
theorem count0 (T : Fin 4096) (y : S4096.Idx) (hy : y = ix1 T) : val_main_v106 (F := Ideal) y = ((min (T.val + 1) 2 : ℕ) : ℝ) := by
  subst hy
  simp only [val_main_v106_apply, val_main_v105_apply, val_main_v103_apply, val_main_v95_apply, val_main_v102_apply, val_main_c_24_apply, val_main_v104_apply, val_main_c_25_apply]
  refine congrArg (fun b : ℤ => ((b : ℝ) : EReal)) (count0_int T) |>.trans ?_
  simp

/-- The running sum before the window of 2. -/
theorem before0 (p : S4096x3072.Idx → EReal) (T : Fin 4096) (a : Fin 256) (y : S1x4096x256.Idx) (hy : y = ix3 (0 : Fin 1) T a) :
    val_main_v100 (F := Ideal) p y = sumsAt p 0 a (T.val + 1 - 2) := by
  subst hy
  unfold val_main_v100
  rw [concatenate_pair_apply]
  by_cases h : T.val < 1
  · refine (dif_pos h).trans ?_
    rw [show T.val + 1 - 2 = 0 by omega, sumsAt_zero]
    simp only [val_main_v98_apply, val_main_cst_22_apply]
    exact lit_zero
  · refine (dif_neg h).trans ((slice0 p ⟨T.val - 1, by omega⟩ a _ ?_).trans ?_)
    · funext a; fin_cases a <;> rfl
    · exact congrArg (sumsAt p 0 a) (show T.val - 1 = T.val + 1 - 2 by omega)

/-- The running sum at the end of the window of 2. -/
theorem upto0 (p : S4096x3072.Idx → EReal) (T : Fin 4096) (a : Fin 256) (y : S1x4096x256.Idx) (hy : y = ix3 (0 : Fin 1) T a) :
    val_main_v108 (F := Ideal) p y = sumsAt p 0 a (T.val + 1) := by
  subst hy
  refine Eq.trans ?_ (dif_pos (by omega : T.val + 1 < 4097)).symm
  simp only [val_main_v108_apply, val_main_v97_apply, val_main_v96_apply]
  exact congrArg (val_main_v93 (F := Ideal) p) (by funext b; fin_cases b <;> apply Fin.ext <;> simp <;> omega)

/-- The pooled rows of group 0. -/
theorem pooled0 (p : S4096x3072.Idx → EReal) (hp : ∀ i, IsReal (p i)) (T : Fin 4096) (a : Fin 256) (y : S1x4096x256.Idx) (hy : y = ix3 (0 : Fin 1) T a) :
    val_main_v114 (F := Ideal) p y = pooledA (third p 2) 0 T a := by
  subst hy
  simp only [val_main_v114_apply, val_main_v111_apply, val_main_v109_apply, val_main_v110_apply, val_main_v107_apply, val_main_v113_apply, val_main_v112_apply]
  rw [upto0 p T a _ rfl, before0 p T a _ rfl, count0 T _ (by funext a; fin_cases a <;> rfl), z_at p T 0 a _ (by funext a; fin_cases a <;> apply Fin.ext <;> simp <;> omega)]
  exact congrArg (· - third p 2 T (lane 0 a)) (mean_eq (fun t => third p 2 t (lane 0 a)) (fun t => hp _) (sumsAt p 0 a) (sumsAt_eq p 0 a) 2 (by omega) T)

/-- The slice of the running sums that the window of 4 takes before it. -/
theorem slice1 (p : S4096x3072.Idx → EReal) (k : Fin 4093) (a : Fin 256) (y : S1x4093x256.Idx) (hy : y = ix3 (0 : Fin 1) k a) : val_main_v118 (F := Ideal) p y = sumsAt p 1 a k.val := by
  subst hy
  refine Eq.trans ?_ (dif_pos (by omega : k.val < 4097)).symm
  simp only [val_main_v118_apply, val_main_v116_apply, val_main_v115_apply]
  exact congrArg (val_main_v93 (F := Ideal) p) (by funext a; fin_cases a <;> apply Fin.ext <;> simp <;> omega)

/-- The number of tokens in a window of 4. -/
theorem count1_int : ∀ T : Fin 4096, (IntOp.minsi (IntOp.addi (BitVec.ofNat 32 T.val) 1#32) 4#32).toInt = ((min (T.val + 1) 4 : ℕ) : ℤ) := by decide +kernel

/-- The reference's count of them. -/
theorem count1 (T : Fin 4096) (y : S4096.Idx) (hy : y = ix1 T) : val_main_v125 (F := Ideal) y = ((min (T.val + 1) 4 : ℕ) : ℝ) := by
  subst hy
  simp only [val_main_v125_apply, val_main_v124_apply, val_main_v122_apply, val_main_v95_apply, val_main_v121_apply, val_main_c_28_apply, val_main_v123_apply, val_main_c_29_apply]
  refine congrArg (fun b : ℤ => ((b : ℝ) : EReal)) (count1_int T) |>.trans ?_
  simp

/-- The running sum before the window of 4. -/
theorem before1 (p : S4096x3072.Idx → EReal) (T : Fin 4096) (a : Fin 256) (y : S1x4096x256.Idx) (hy : y = ix3 (0 : Fin 1) T a) :
    val_main_v119 (F := Ideal) p y = sumsAt p 1 a (T.val + 1 - 4) := by
  subst hy
  unfold val_main_v119
  rw [concatenate_pair_apply]
  by_cases h : T.val < 3
  · refine (dif_pos h).trans ?_
    rw [show T.val + 1 - 4 = 0 by omega, sumsAt_zero]
    simp only [val_main_v117_apply, val_main_cst_26_apply]
    exact lit_zero
  · refine (dif_neg h).trans ((slice1 p ⟨T.val - 3, by omega⟩ a _ ?_).trans ?_)
    · funext a; fin_cases a <;> rfl
    · exact congrArg (sumsAt p 1 a) (show T.val - 3 = T.val + 1 - 4 by omega)

/-- The running sum at the end of the window of 4. -/
theorem upto1 (p : S4096x3072.Idx → EReal) (T : Fin 4096) (a : Fin 256) (y : S1x4096x256.Idx) (hy : y = ix3 (0 : Fin 1) T a) :
    val_main_v127 (F := Ideal) p y = sumsAt p 1 a (T.val + 1) := by
  subst hy
  refine Eq.trans ?_ (dif_pos (by omega : T.val + 1 < 4097)).symm
  simp only [val_main_v127_apply, val_main_v116_apply, val_main_v115_apply]
  exact congrArg (val_main_v93 (F := Ideal) p) (by funext b; fin_cases b <;> apply Fin.ext <;> simp <;> omega)

/-- The pooled rows of group 1. -/
theorem pooled1 (p : S4096x3072.Idx → EReal) (hp : ∀ i, IsReal (p i)) (T : Fin 4096) (a : Fin 256) (y : S1x4096x256.Idx) (hy : y = ix3 (0 : Fin 1) T a) :
    val_main_v133 (F := Ideal) p y = pooledA (third p 2) 1 T a := by
  subst hy
  simp only [val_main_v133_apply, val_main_v130_apply, val_main_v128_apply, val_main_v129_apply, val_main_v126_apply, val_main_v132_apply, val_main_v131_apply]
  rw [upto1 p T a _ rfl, before1 p T a _ rfl, count1 T _ (by funext a; fin_cases a <;> rfl), z_at p T 1 a _ (by funext a; fin_cases a <;> apply Fin.ext <;> simp <;> omega)]
  exact congrArg (· - third p 2 T (lane 1 a)) (mean_eq (fun t => third p 2 t (lane 1 a)) (fun t => hp _) (sumsAt p 1 a) (sumsAt_eq p 1 a) 4 (by omega) T)

/-- The slice of the running sums that the window of 8 takes before it. -/
theorem slice2 (p : S4096x3072.Idx → EReal) (k : Fin 4089) (a : Fin 256) (y : S1x4089x256.Idx) (hy : y = ix3 (0 : Fin 1) k a) : val_main_v137 (F := Ideal) p y = sumsAt p 2 a k.val := by
  subst hy
  refine Eq.trans ?_ (dif_pos (by omega : k.val < 4097)).symm
  simp only [val_main_v137_apply, val_main_v135_apply, val_main_v134_apply]
  exact congrArg (val_main_v93 (F := Ideal) p) (by funext a; fin_cases a <;> apply Fin.ext <;> simp <;> omega)

/-- The number of tokens in a window of 8. -/
theorem count2_int : ∀ T : Fin 4096, (IntOp.minsi (IntOp.addi (BitVec.ofNat 32 T.val) 1#32) 8#32).toInt = ((min (T.val + 1) 8 : ℕ) : ℤ) := by decide +kernel

/-- The reference's count of them. -/
theorem count2 (T : Fin 4096) (y : S4096.Idx) (hy : y = ix1 T) : val_main_v144 (F := Ideal) y = ((min (T.val + 1) 8 : ℕ) : ℝ) := by
  subst hy
  simp only [val_main_v144_apply, val_main_v143_apply, val_main_v141_apply, val_main_v95_apply, val_main_v140_apply, val_main_c_32_apply, val_main_v142_apply, val_main_c_33_apply]
  refine congrArg (fun b : ℤ => ((b : ℝ) : EReal)) (count2_int T) |>.trans ?_
  simp

/-- The running sum before the window of 8. -/
theorem before2 (p : S4096x3072.Idx → EReal) (T : Fin 4096) (a : Fin 256) (y : S1x4096x256.Idx) (hy : y = ix3 (0 : Fin 1) T a) :
    val_main_v138 (F := Ideal) p y = sumsAt p 2 a (T.val + 1 - 8) := by
  subst hy
  unfold val_main_v138
  rw [concatenate_pair_apply]
  by_cases h : T.val < 7
  · refine (dif_pos h).trans ?_
    rw [show T.val + 1 - 8 = 0 by omega, sumsAt_zero]
    simp only [val_main_v136_apply, val_main_cst_30_apply]
    exact lit_zero
  · refine (dif_neg h).trans ((slice2 p ⟨T.val - 7, by omega⟩ a _ ?_).trans ?_)
    · funext a; fin_cases a <;> rfl
    · exact congrArg (sumsAt p 2 a) (show T.val - 7 = T.val + 1 - 8 by omega)

/-- The running sum at the end of the window of 8. -/
theorem upto2 (p : S4096x3072.Idx → EReal) (T : Fin 4096) (a : Fin 256) (y : S1x4096x256.Idx) (hy : y = ix3 (0 : Fin 1) T a) :
    val_main_v146 (F := Ideal) p y = sumsAt p 2 a (T.val + 1) := by
  subst hy
  refine Eq.trans ?_ (dif_pos (by omega : T.val + 1 < 4097)).symm
  simp only [val_main_v146_apply, val_main_v135_apply, val_main_v134_apply]
  exact congrArg (val_main_v93 (F := Ideal) p) (by funext b; fin_cases b <;> apply Fin.ext <;> simp <;> omega)

/-- The pooled rows of group 2. -/
theorem pooled2 (p : S4096x3072.Idx → EReal) (hp : ∀ i, IsReal (p i)) (T : Fin 4096) (a : Fin 256) (y : S1x4096x256.Idx) (hy : y = ix3 (0 : Fin 1) T a) :
    val_main_v152 (F := Ideal) p y = pooledA (third p 2) 2 T a := by
  subst hy
  simp only [val_main_v152_apply, val_main_v149_apply, val_main_v147_apply, val_main_v148_apply, val_main_v145_apply, val_main_v151_apply, val_main_v150_apply]
  rw [upto2 p T a _ rfl, before2 p T a _ rfl, count2 T _ (by funext a; fin_cases a <;> rfl), z_at p T 2 a _ (by funext a; fin_cases a <;> apply Fin.ext <;> simp <;> omega)]
  exact congrArg (· - third p 2 T (lane 2 a)) (mean_eq (fun t => third p 2 t (lane 2 a)) (fun t => hp _) (sumsAt p 2 a) (sumsAt_eq p 2 a) 8 (by omega) T)

/-- The slice of the running sums that the window of 16 takes before it. -/
theorem slice3 (p : S4096x3072.Idx → EReal) (k : Fin 4081) (a : Fin 256) (y : S1x4081x256.Idx) (hy : y = ix3 (0 : Fin 1) k a) : val_main_v156 (F := Ideal) p y = sumsAt p 3 a k.val := by
  subst hy
  refine Eq.trans ?_ (dif_pos (by omega : k.val < 4097)).symm
  simp only [val_main_v156_apply, val_main_v154_apply, val_main_v153_apply]
  exact congrArg (val_main_v93 (F := Ideal) p) (by funext a; fin_cases a <;> apply Fin.ext <;> simp <;> omega)

/-- The number of tokens in a window of 16. -/
theorem count3_int : ∀ T : Fin 4096, (IntOp.minsi (IntOp.addi (BitVec.ofNat 32 T.val) 1#32) 16#32).toInt = ((min (T.val + 1) 16 : ℕ) : ℤ) := by decide +kernel

/-- The reference's count of them. -/
theorem count3 (T : Fin 4096) (y : S4096.Idx) (hy : y = ix1 T) : val_main_v163 (F := Ideal) y = ((min (T.val + 1) 16 : ℕ) : ℝ) := by
  subst hy
  simp only [val_main_v163_apply, val_main_v162_apply, val_main_v160_apply, val_main_v95_apply, val_main_v159_apply, val_main_c_36_apply, val_main_v161_apply, val_main_c_37_apply]
  refine congrArg (fun b : ℤ => ((b : ℝ) : EReal)) (count3_int T) |>.trans ?_
  simp

/-- The running sum before the window of 16. -/
theorem before3 (p : S4096x3072.Idx → EReal) (T : Fin 4096) (a : Fin 256) (y : S1x4096x256.Idx) (hy : y = ix3 (0 : Fin 1) T a) :
    val_main_v157 (F := Ideal) p y = sumsAt p 3 a (T.val + 1 - 16) := by
  subst hy
  unfold val_main_v157
  rw [concatenate_pair_apply]
  by_cases h : T.val < 15
  · refine (dif_pos h).trans ?_
    rw [show T.val + 1 - 16 = 0 by omega, sumsAt_zero]
    simp only [val_main_v155_apply, val_main_cst_34_apply]
    exact lit_zero
  · refine (dif_neg h).trans ((slice3 p ⟨T.val - 15, by omega⟩ a _ ?_).trans ?_)
    · funext a; fin_cases a <;> rfl
    · exact congrArg (sumsAt p 3 a) (show T.val - 15 = T.val + 1 - 16 by omega)

/-- The running sum at the end of the window of 16. -/
theorem upto3 (p : S4096x3072.Idx → EReal) (T : Fin 4096) (a : Fin 256) (y : S1x4096x256.Idx) (hy : y = ix3 (0 : Fin 1) T a) :
    val_main_v165 (F := Ideal) p y = sumsAt p 3 a (T.val + 1) := by
  subst hy
  refine Eq.trans ?_ (dif_pos (by omega : T.val + 1 < 4097)).symm
  simp only [val_main_v165_apply, val_main_v154_apply, val_main_v153_apply]
  exact congrArg (val_main_v93 (F := Ideal) p) (by funext b; fin_cases b <;> apply Fin.ext <;> simp <;> omega)

/-- The pooled rows of group 3. -/
theorem pooled3 (p : S4096x3072.Idx → EReal) (hp : ∀ i, IsReal (p i)) (T : Fin 4096) (a : Fin 256) (y : S1x4096x256.Idx) (hy : y = ix3 (0 : Fin 1) T a) :
    val_main_v171 (F := Ideal) p y = pooledA (third p 2) 3 T a := by
  subst hy
  simp only [val_main_v171_apply, val_main_v168_apply, val_main_v166_apply, val_main_v167_apply, val_main_v164_apply, val_main_v170_apply, val_main_v169_apply]
  rw [upto3 p T a _ rfl, before3 p T a _ rfl, count3 T _ (by funext a; fin_cases a <;> rfl), z_at p T 3 a _ (by funext a; fin_cases a <;> apply Fin.ext <;> simp <;> omega)]
  exact congrArg (· - third p 2 T (lane 3 a)) (mean_eq (fun t => third p 2 t (lane 3 a)) (fun t => hp _) (sumsAt p 3 a) (sumsAt_eq p 3 a) 16 (by omega) T)

/-- The pooled rows of every group. -/
theorem pooled_at (p : S4096x3072.Idx → EReal) (hp : ∀ i, IsReal (p i)) (T : Fin 4096) (g : Fin 4) (a : Fin 256) (y : S1x4096x4x256.Idx) (hy : y = ix4 (0 : Fin 1) T g a) :
    val_main_v176 (F := Ideal) p y = pooledA (third p 2) g T a := by
  subst hy
  unfold val_main_v176
  refine (concatenate_cons_apply _ _ _ _ _ _ _).trans ?_
  fin_cases g
  · refine (concatenateAt_cons _ _ _ _ _ _ _ _).trans ((dif_pos (show 0 < 1 by omega)).trans ?_)
    rw [val_main_v172_apply]
    exact pooled0 p hp T a _ (by funext a; fin_cases a <;> rfl)
  · refine (concatenateAt_cons _ _ _ _ _ _ _ _).trans ((dif_neg (show ¬1 < 1 by omega)).trans ((concatenateAt_cons _ _ _ _ _ _ _ _).trans ((dif_pos (show 1 - 1 < 1 by omega)).trans ?_)))
    rw [val_main_v173_apply]
    exact pooled1 p hp T a _ (by funext a; fin_cases a <;> rfl)
  · refine (concatenateAt_cons _ _ _ _ _ _ _ _).trans ((dif_neg (show ¬2 < 1 by omega)).trans ((concatenateAt_cons _ _ _ _ _ _ _ _).trans ((dif_neg (show ¬2 - 1 < 1 by omega)).trans ((concatenateAt_cons _ _ _ _ _ _ _ _).trans ((dif_pos (show 2 - 1 - 1 < 1 by omega)).trans ?_)))))
    rw [val_main_v174_apply]
    exact pooled2 p hp T a _ (by funext a; fin_cases a <;> rfl)
  · refine (concatenateAt_cons _ _ _ _ _ _ _ _).trans ((dif_neg (show ¬3 < 1 by omega)).trans ((concatenateAt_cons _ _ _ _ _ _ _ _).trans ((dif_neg (show ¬3 - 1 < 1 by omega)).trans ((concatenateAt_cons _ _ _ _ _ _ _ _).trans ((dif_neg (show ¬3 - 1 - 1 < 1 by omega)).trans ((concatenateAt_singleton _ _ _ _ _ _).trans ?_))))))
    rw [val_main_v175_apply]
    exact pooled3 p hp T a _ (by funext a; fin_cases a <;> rfl)

end Cert.Mixer.Ref
end
-- ==== Proof.MixerRefScale.lean ====
module

public import proofs.«01_k».proof.Proof.MixerRefPool

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- The pooling weights without their leading axis. -/
def weights (wp : S1x4x256x256.Idx → EReal) : S4x256x256.Idx → EReal := fun i => wp (ix4 (0 : Fin 1) (i 0) (i 1) (i 2))

/-- The reference's reshaped weights. -/
theorem weights_at (wp : S1x4x256x256.Idx → EReal) (g : Fin 4) (a b : Fin 256) (y : S4x256x256.Idx) (hy : y = ix3 g a b) :
    val_main_v87 (F := Ideal) wp y = weights wp (ix3 g a b) := by
  subst hy
  rw [val_main_v87_apply]
  exact congrArg wp (by funext a; fin_cases a <;> apply Fin.ext <;> simp <;> omega)

/-- The scaled cotangent of the pooled rows. -/
theorem scaled_at (sc : S1x1024.Idx → EReal) (dm : S4096x2048.Idx → EReal) (T : Fin 4096) (g : Fin 4) (b : Fin 256) (y : S4x256x1x4096.Idx) (hy : y = ix4 g b (0 : Fin 1) T) :
    val_main_v193 (F := Ideal) sc dm y = half dm 1 T (lane g b) * scaleOf sc g b := by
  subst hy
  simp only [val_main_v193_apply, val_main_v192_apply, val_main_v190_apply, val_main_v189_apply, val_main_v180_apply, val_main_v88_apply]
  rw [at_db dm T (lane g b) _ (by funext b; fin_cases b <;> apply Fin.ext <;> simp [lane] <;> omega)]
  exact congrArg (half dm 1 T (lane g b) * sc ·) (by funext b; fin_cases b <;> apply Fin.ext <;> simp <;> omega)

/-- The gradient of the pooled rows. -/
theorem dpo_at (wp : S1x4x256x256.Idx → EReal) (sc : S1x1024.Idx → EReal) (dm : S4096x2048.Idx → EReal) (T : Fin 4096) (g : Fin 4) (a : Fin 256) (y : S1x4096x4x256.Idx) (hy : y = ix4 (0 : Fin 1) T g a) :
    val_main_v195 (F := Ideal) wp sc dm y = dpoA (half dm 1) sc (weights wp) g T a := by
  subst hy
  rw [val_main_v195_apply, val_main_v194_apply]
  unfold dpoA
  refine Finset.sum_congr rfl fun b _ => ?_
  rw [scaled_at sc dm T g b _ (by funext a; fin_cases a <;> rfl), weights_at wp g a b _ (by funext a; fin_cases a <;> rfl)]

/-- The gradient of the pooled rows is real. -/
theorem dpo_real (wp : S1x4x256x256.Idx → EReal) (sc : S1x1024.Idx → EReal) (dm : S4096x2048.Idx → EReal) (hwp : ∀ i, IsReal (wp i)) (hsc : ∀ i, IsReal (sc i)) (hdm : ∀ i, IsReal (dm i)) (g : Fin 4) (T : Fin 4096) (a : Fin 256) : IsReal (dpoA (half dm 1) sc (weights wp) g T a) :=
  IsReal.sum fun _ => ((hdm _).mul (hsc _)).mul (hwp _)

/-- The gradient of the pooling scales. -/
theorem dsc_ref (p : S4096x3072.Idx → EReal) (wp : S1x4x256x256.Idx → EReal) (dm : S4096x2048.Idx → EReal) (hp : ∀ i, IsReal (p i)) (j : Fin 1024) (y : S1x1024.Idx) (hy : y = ix2 (0 : Fin 1) j) :
    val_main_v269 (F := Ideal) p wp dm y = scArr p dm (weights wp) y := by
  subst hy
  have e : idx_main_v269 (ix2 (0 : Fin 1) j) = ix1 j := by funext a; fin_cases a <;> rfl
  rw [val_main_v269_apply, e]
  unfold val_main_v191
  refine (reduce_unit _ _ _ _ (ix3 (0 : Fin 1) (0 : Fin 1) j) ?_ ?_).trans ?_
  · funext b; fin_cases b <;> rfl
  · intro i' hi
    idx_vars i'
    have h1 := congrArg Fin.val (congrFun hi 0)
    funext b; fin_cases b
    · exact Subsingleton.elim (α := Fin 1) _ _
    · exact Subsingleton.elim (α := Fin 1) _ _
    · exact Fin.ext h1
  rw [val_main_cst_39_apply, val_main_v188_apply, val_main_v187_apply, val_main_cst_38_apply]
  refine ((congrArg (· + _) lit_zero).trans (zero_add _)).trans (((congrArg (· + _) lit_zero).trans (zero_add _)).trans ?_)
  unfold scArr
  refine Finset.sum_congr rfl fun T _ => ?_
  have hj : lane (groupOf j) (inGroup j) = j := Fin.ext (by simp only [lane, groupOf, inGroup]; omega)
  have e3 : idx_main_v187 (idx_main_v188 (ix3 (0 : Fin 1) (0 : Fin 1) j)) T = ix3 (0 : Fin 1) T j := by funext a; fin_cases a <;> apply Fin.ext <;> simp <;> omega
  have e4 : idx_main_v178 (idx_main_v179 (ix3 (0 : Fin 1) T j)) = ix4 (groupOf j) (inGroup j) (0 : Fin 1) T := by
    funext a; fin_cases a <;> apply Fin.ext <;> simp [groupOf, inGroup] <;> omega
  rw [e3, val_main_v186_apply, at_db dm T j _ rfl, val_main_v179_apply, val_main_v178_apply, e4, val_main_v177_apply]
  refine (mul_comm _ _).trans ?_
  unfold scPart
  show half dm 1 T j * _ = half dm 1 T (lane (groupOf j) (inGroup j)) * _
  rw [hj]
  refine congrArg (half dm 1 T j * ·) (Finset.sum_congr rfl fun a _ => ?_)
  rw [weights_at wp (groupOf j) a (inGroup j) _ (by funext a; fin_cases a <;> rfl), pooled_at p hp T (groupOf j) a _ (by funext a; fin_cases a <;> rfl)]
  exact mul_comm _ _

/-- The tokens a gradient of the pooling weights sums over. -/
def tokens : Fin 4096 ≃ dot_S4x256x1x4096_S1x4096x4x256_S4x256x256_23_01_1_3_0_2.contr.Idx where
  toFun k := fun a => match a with
    | ⟨0, _⟩ => (0 : Fin 1)
    | ⟨1, _⟩ => k
  invFun q := q ⟨1, by decide⟩
  left_inv _ := rfl
  right_inv q := funext fun a => match a with
    | ⟨0, _⟩ => Subsingleton.elim (α := Fin 1) _ _
    | ⟨1, _⟩ => rfl

/-- The gradient of the pooling weights. -/
theorem dwp_ref (p : S4096x3072.Idx → EReal) (sc : S1x1024.Idx → EReal) (dm : S4096x2048.Idx → EReal) (hp : ∀ i, IsReal (p i)) (g : Fin 4) (a b : Fin 256) (y : S4x256x256.Idx) (hy : y = ix3 g a b) :
    val_main_v348 (F := Ideal) p sc dm y = wpArr p dm sc y := by
  subst hy
  have e : idx_main_v197 (idx_main_v270 (idx_main_v348 (ix3 g a b))) = ix3 g b a := by funext a; fin_cases a <;> apply Fin.ext <;> simp <;> omega
  rw [val_main_v348_apply, val_main_v270_apply, val_main_v197_apply, e]
  unfold val_main_v196
  simp only [Host.dotGeneral]
  rw [Ideal.dotGeneral_apply, ← Equiv.sum_comp tokens]
  unfold wpArr
  refine Finset.sum_congr rfl fun T _ => ?_
  have el : dot_S4x256x1x4096_S1x4096x4x256_S4x256x256_23_01_1_3_0_2.lhsIdx (ix3 g b a) (tokens T) = ix4 g b (0 : Fin 1) T := by funext a; fin_cases a <;> rfl
  have er : dot_S4x256x1x4096_S1x4096x4x256_S4x256x256_23_01_1_3_0_2.rhsIdx (ix3 g b a) (tokens T) = ix4 (0 : Fin 1) T g a := by funext a; fin_cases a <;> rfl
  rw [el, er, scaled_at sc dm T g b _ rfl, pooled_at p hp T g a _ rfl]
  exact mul_comm _ _

/-- A slab padded to four groups, read in its group. -/
theorem slab_in (N n : ℕ) (hi : Fin 4 → ℕ) (x : (⟨4, ![1, N, 1, 256]⟩ : Shape).Idx → EReal) (v : S_.Idx → EReal)
    (h : (⟨4, ![1, N, 1, 256]⟩ : Shape).Pads ![0, 0, n, 0] hi ![0, 0, 0, 0] ⟨4, ![1, N, 4, 256]⟩) (hu : 0 < S_.numel) (T : Fin N) (g : Fin 4) (a : Fin 256) (hg : g.val = n) :
    pad ⟨4, ![1, N, 4, 256]⟩ ![0, 0, n, 0] hi ![0, 0, 0, 0] x v h hu (ix4 (0 : Fin 1) T g a) = x (ix4 (0 : Fin 1) T (0 : Fin 1) a) :=
  pad_apply_of_inside _ _ _ x v h hu _ _ fun b => match b with
    | ⟨0, _⟩ => rfl
    | ⟨1, _⟩ => by show T.val = 0 + T.val * (0 + 1); omega
    | ⟨2, _⟩ => by show g.val = n + 0 * (0 + 1); omega
    | ⟨3, _⟩ => by show a.val = 0 + a.val * (0 + 1); omega

/-- A slab padded to four groups, read in another group. -/
theorem slab_out (N n : ℕ) (hi : Fin 4 → ℕ) (x : (⟨4, ![1, N, 1, 256]⟩ : Shape).Idx → EReal) (v : S_.Idx → EReal) (hv : ∀ i, v i = 0)
    (h : (⟨4, ![1, N, 1, 256]⟩ : Shape).Pads ![0, 0, n, 0] hi ![0, 0, 0, 0] ⟨4, ![1, N, 4, 256]⟩) (hu : 0 < S_.numel) (T : Fin N) (g : Fin 4) (a : Fin 256) (hg : g.val ≠ n) :
    pad ⟨4, ![1, N, 4, 256]⟩ ![0, 0, n, 0] hi ![0, 0, 0, 0] x v h hu (ix4 (0 : Fin 1) T g a) = 0 :=
  (pad_apply_of_not_inside _ _ _ x v h hu _ 2 (by
    show ¬(n ≤ g.val ∧ (g.val - n) % 1 = 0 ∧ (g.val - n) / 1 < 1)
    omega)).trans (hv _)

/-- Rows padded by one row before them. -/
theorem later (x : S1x4096x256.Idx → EReal) (v : S_.Idx → EReal) (h : S1x4096x256.Pads ![0, 1, 0] ![0, 0, 0] ![0, 0, 0] S1x4097x256) (hu : 0 < S_.numel)
    (T : Fin 4096) (a : Fin 256) (y : S1x4097x256.Idx) (hy : y = ix3 (0 : Fin 1) (⟨T.val + 1, by omega⟩ : Fin 4097) a) :
    pad S1x4097x256 ![0, 1, 0] ![0, 0, 0] ![0, 0, 0] x v h hu y = x (ix3 (0 : Fin 1) T a) := by
  subst hy
  exact pad_apply_of_inside _ _ _ x v h hu _ _ fun b => match b with
    | ⟨0, _⟩ => rfl
    | ⟨1, _⟩ => by show T.val + 1 = 1 + T.val * (0 + 1); omega
    | ⟨2, _⟩ => by show a.val = 0 + a.val * (0 + 1); omega

/-- Rows padded by rows behind them. -/
theorem longer (N w : ℕ) (x : (⟨3, ![1, N, 256]⟩ : Shape).Idx → EReal) (v : S_.Idx → EReal) (hv : ∀ i, v i = 0)
    (h : (⟨3, ![1, N, 256]⟩ : Shape).Pads ![0, 0, 0] ![0, w, 0] ![0, 0, 0] S1x4097x256) (hu : 0 < S_.numel)
    (k : Fin 4097) (a : Fin 256) (y : S1x4097x256.Idx) (hy : y = ix3 (0 : Fin 1) k a) :
    pad S1x4097x256 ![0, 0, 0] ![0, w, 0] ![0, 0, 0] x v h hu y = if hk : k.val < N then x (ix3 (0 : Fin 1) (⟨k.val, hk⟩ : Fin N) a) else 0 := by
  subst hy
  by_cases hk : k.val < N
  · rw [dif_pos hk]
    exact pad_apply_of_inside _ _ _ x v h hu _ _ fun b => match b with
      | ⟨0, _⟩ => rfl
      | ⟨1, _⟩ => by show k.val = 0 + k.val * (0 + 1); omega
      | ⟨2, _⟩ => by show a.val = 0 + a.val * (0 + 1); omega
  · rw [dif_neg hk]
    refine (pad_apply_of_not_inside _ _ _ x v h hu _ 1 ?_).trans (hv _)
    show ¬(0 ≤ k.val ∧ (k.val - 0) % 1 = 0 ∧ (k.val - 0) / 1 < N)
    omega

variable (wp : S1x4x256x256.Idx → EReal) (sc : S1x1024.Idx → EReal) (dm : S4096x2048.Idx → EReal)

/-- What the mean over 2 tokens passes back at its last token. -/
theorem share0 (T : Fin 4096) (a : Fin 256) (y : S1x4096x256.Idx) (hy : y = ix3 (0 : Fin 1) T a) :
    val_main_v254 (F := Ideal) wp sc dm y = Ideal.div (dpoA (half dm 1) sc (weights wp) 0 T a) (((min (T.val + 1) 2 : ℕ) : ℝ) : EReal) := by
  subst hy
  simp only [val_main_v254_apply, val_main_v199_apply, val_main_v198_apply, val_main_v253_apply, val_main_v107_apply]
  rw [dpo_at wp sc dm T 0 a _ (by funext a; fin_cases a <;> apply Fin.ext <;> simp <;> omega), count0 T _ (by funext a; fin_cases a <;> rfl)]
  rfl

/-- The running difference of what is passed back, for windows of 2. -/
theorem step0 (T : Fin 4096) (a : Fin 256) (y : S1x4097x1x256.Idx) (hy : y = ix4 (0 : Fin 1) (⟨T.val + 1, by omega⟩ : Fin 4097) (0 : Fin 1) a) :
    val_main_v261 (F := Ideal) wp sc dm y = Ideal.div (dpoA (half dm 1) sc (weights wp) 0 T a) (((min (T.val + 1) 2 : ℕ) : ℝ) : EReal)
      + if h : T.val + 2 < 4096 then -Ideal.div (dpoA (half dm 1) sc (weights wp) 0 ⟨T.val + 2, h⟩ a) (((min (T.val + 2 + 1) 2 : ℕ) : ℝ) : EReal) else 0 := by
  subst hy
  have e : idx_main_v261 (ix4 (0 : Fin 1) (⟨T.val + 1, by omega⟩ : Fin 4097) (0 : Fin 1) a) = ix3 (0 : Fin 1) (⟨T.val + 1, by omega⟩ : Fin 4097) a := by funext a; fin_cases a <;> apply Fin.ext <;> simp <;> omega
  rw [val_main_v261_apply, e, val_main_v260_apply]
  refine congrArg₂ (· + ·) ((later _ _ _ _ T a _ rfl).trans (share0 wp sc dm T a _ rfl)) ((longer 4095 2 _ _ (fun i => (val_main_cst_54_apply i).trans lit_zero) _ _ _ a _ rfl).trans ?_)
  by_cases h : T.val + 2 < 4096
  · rw [dif_pos h]
    refine (dif_pos (show T.val + 1 < 4095 by omega)).trans ?_
    simp only [val_main_v258_apply, val_main_v255_apply]
    rw [share0 wp sc dm ⟨T.val + 2, h⟩ a _ (by funext b; fin_cases b <;> apply Fin.ext <;> simp <;> omega)]
    rfl
  · rw [dif_neg h]
    exact dif_neg (show ¬T.val + 1 < 4095 by omega)

/-- Minus the gradient of the pooled rows of group 0, padded to four groups. -/
theorem minus0 (T : Fin 4096) (g : Fin 4) (a : Fin 256) : val_main_v251 (F := Ideal) wp sc dm (ix4 (0 : Fin 1) T g a) = if g.val = 0 then -dpoA (half dm 1) sc (weights wp) 0 T a else 0 := by
  by_cases h : g.val = 0
  · rw [if_pos h]
    refine (slab_in 4096 0 _ _ _ _ _ T g a h).trans ?_
    simp only [val_main_v250_apply, val_main_v249_apply, val_main_v199_apply, val_main_v198_apply]
    rw [dpo_at wp sc dm T 0 a _ (by funext a; fin_cases a <;> apply Fin.ext <;> simp <;> omega)]
    rfl
  · rw [if_neg h]
    exact slab_out 4096 0 _ _ _ (fun i => (val_main_cst_52_apply i).trans lit_zero) _ _ T g a h

/-- The running differences of group 0, padded to four groups. -/
theorem placed0 (k : Fin 4097) (g : Fin 4) (a : Fin 256) :
    val_main_v262 (F := Ideal) wp sc dm (ix4 (0 : Fin 1) k g a) = if g.val = 0 then val_main_v261 (F := Ideal) wp sc dm (ix4 (0 : Fin 1) k (0 : Fin 1) a) else 0 := by
  by_cases h : g.val = 0
  · rw [if_pos h]
    exact slab_in 4097 0 _ _ _ _ _ k g a h
  · rw [if_neg h]
    exact slab_out 4097 0 _ _ _ (fun i => (val_main_cst_55_apply i).trans lit_zero) _ _ k g a h

/-- What the mean over 4 tokens passes back at its last token. -/
theorem share1 (T : Fin 4096) (a : Fin 256) (y : S1x4096x256.Idx) (hy : y = ix3 (0 : Fin 1) T a) :
    val_main_v239 (F := Ideal) wp sc dm y = Ideal.div (dpoA (half dm 1) sc (weights wp) 1 T a) (((min (T.val + 1) 4 : ℕ) : ℝ) : EReal) := by
  subst hy
  simp only [val_main_v239_apply, val_main_v201_apply, val_main_v200_apply, val_main_v238_apply, val_main_v126_apply]
  rw [dpo_at wp sc dm T 1 a _ (by funext a; fin_cases a <;> apply Fin.ext <;> simp <;> omega), count1 T _ (by funext a; fin_cases a <;> rfl)]
  rfl

/-- The running difference of what is passed back, for windows of 4. -/
theorem step1 (T : Fin 4096) (a : Fin 256) (y : S1x4097x1x256.Idx) (hy : y = ix4 (0 : Fin 1) (⟨T.val + 1, by omega⟩ : Fin 4097) (0 : Fin 1) a) :
    val_main_v246 (F := Ideal) wp sc dm y = Ideal.div (dpoA (half dm 1) sc (weights wp) 1 T a) (((min (T.val + 1) 4 : ℕ) : ℝ) : EReal)
      + if h : T.val + 4 < 4096 then -Ideal.div (dpoA (half dm 1) sc (weights wp) 1 ⟨T.val + 4, h⟩ a) (((min (T.val + 4 + 1) 4 : ℕ) : ℝ) : EReal) else 0 := by
  subst hy
  have e : idx_main_v246 (ix4 (0 : Fin 1) (⟨T.val + 1, by omega⟩ : Fin 4097) (0 : Fin 1) a) = ix3 (0 : Fin 1) (⟨T.val + 1, by omega⟩ : Fin 4097) a := by funext a; fin_cases a <;> apply Fin.ext <;> simp <;> omega
  rw [val_main_v246_apply, e, val_main_v245_apply]
  refine congrArg₂ (· + ·) ((later _ _ _ _ T a _ rfl).trans (share1 wp sc dm T a _ rfl)) ((longer 4093 4 _ _ (fun i => (val_main_cst_50_apply i).trans lit_zero) _ _ _ a _ rfl).trans ?_)
  by_cases h : T.val + 4 < 4096
  · rw [dif_pos h]
    refine (dif_pos (show T.val + 1 < 4093 by omega)).trans ?_
    simp only [val_main_v243_apply, val_main_v240_apply]
    rw [share1 wp sc dm ⟨T.val + 4, h⟩ a _ (by funext b; fin_cases b <;> apply Fin.ext <;> simp <;> omega)]
    rfl
  · rw [dif_neg h]
    exact dif_neg (show ¬T.val + 1 < 4093 by omega)

/-- Minus the gradient of the pooled rows of group 1, padded to four groups. -/
theorem minus1 (T : Fin 4096) (g : Fin 4) (a : Fin 256) : val_main_v236 (F := Ideal) wp sc dm (ix4 (0 : Fin 1) T g a) = if g.val = 1 then -dpoA (half dm 1) sc (weights wp) 1 T a else 0 := by
  by_cases h : g.val = 1
  · rw [if_pos h]
    refine (slab_in 4096 1 _ _ _ _ _ T g a h).trans ?_
    simp only [val_main_v235_apply, val_main_v234_apply, val_main_v201_apply, val_main_v200_apply]
    rw [dpo_at wp sc dm T 1 a _ (by funext a; fin_cases a <;> apply Fin.ext <;> simp <;> omega)]
    rfl
  · rw [if_neg h]
    exact slab_out 4096 1 _ _ _ (fun i => (val_main_cst_48_apply i).trans lit_zero) _ _ T g a h

/-- The running differences of group 1, padded to four groups. -/
theorem placed1 (k : Fin 4097) (g : Fin 4) (a : Fin 256) :
    val_main_v247 (F := Ideal) wp sc dm (ix4 (0 : Fin 1) k g a) = if g.val = 1 then val_main_v246 (F := Ideal) wp sc dm (ix4 (0 : Fin 1) k (0 : Fin 1) a) else 0 := by
  by_cases h : g.val = 1
  · rw [if_pos h]
    exact slab_in 4097 1 _ _ _ _ _ k g a h
  · rw [if_neg h]
    exact slab_out 4097 1 _ _ _ (fun i => (val_main_cst_51_apply i).trans lit_zero) _ _ k g a h

/-- What the mean over 8 tokens passes back at its last token. -/
theorem share2 (T : Fin 4096) (a : Fin 256) (y : S1x4096x256.Idx) (hy : y = ix3 (0 : Fin 1) T a) :
    val_main_v224 (F := Ideal) wp sc dm y = Ideal.div (dpoA (half dm 1) sc (weights wp) 2 T a) (((min (T.val + 1) 8 : ℕ) : ℝ) : EReal) := by
  subst hy
  simp only [val_main_v224_apply, val_main_v203_apply, val_main_v202_apply, val_main_v223_apply, val_main_v145_apply]
  rw [dpo_at wp sc dm T 2 a _ (by funext a; fin_cases a <;> apply Fin.ext <;> simp <;> omega), count2 T _ (by funext a; fin_cases a <;> rfl)]
  rfl

/-- The running difference of what is passed back, for windows of 8. -/
theorem step2 (T : Fin 4096) (a : Fin 256) (y : S1x4097x1x256.Idx) (hy : y = ix4 (0 : Fin 1) (⟨T.val + 1, by omega⟩ : Fin 4097) (0 : Fin 1) a) :
    val_main_v231 (F := Ideal) wp sc dm y = Ideal.div (dpoA (half dm 1) sc (weights wp) 2 T a) (((min (T.val + 1) 8 : ℕ) : ℝ) : EReal)
      + if h : T.val + 8 < 4096 then -Ideal.div (dpoA (half dm 1) sc (weights wp) 2 ⟨T.val + 8, h⟩ a) (((min (T.val + 8 + 1) 8 : ℕ) : ℝ) : EReal) else 0 := by
  subst hy
  have e : idx_main_v231 (ix4 (0 : Fin 1) (⟨T.val + 1, by omega⟩ : Fin 4097) (0 : Fin 1) a) = ix3 (0 : Fin 1) (⟨T.val + 1, by omega⟩ : Fin 4097) a := by funext a; fin_cases a <;> apply Fin.ext <;> simp <;> omega
  rw [val_main_v231_apply, e, val_main_v230_apply]
  refine congrArg₂ (· + ·) ((later _ _ _ _ T a _ rfl).trans (share2 wp sc dm T a _ rfl)) ((longer 4089 8 _ _ (fun i => (val_main_cst_46_apply i).trans lit_zero) _ _ _ a _ rfl).trans ?_)
  by_cases h : T.val + 8 < 4096
  · rw [dif_pos h]
    refine (dif_pos (show T.val + 1 < 4089 by omega)).trans ?_
    simp only [val_main_v228_apply, val_main_v225_apply]
    rw [share2 wp sc dm ⟨T.val + 8, h⟩ a _ (by funext b; fin_cases b <;> apply Fin.ext <;> simp <;> omega)]
    rfl
  · rw [dif_neg h]
    exact dif_neg (show ¬T.val + 1 < 4089 by omega)

/-- Minus the gradient of the pooled rows of group 2, padded to four groups. -/
theorem minus2 (T : Fin 4096) (g : Fin 4) (a : Fin 256) : val_main_v221 (F := Ideal) wp sc dm (ix4 (0 : Fin 1) T g a) = if g.val = 2 then -dpoA (half dm 1) sc (weights wp) 2 T a else 0 := by
  by_cases h : g.val = 2
  · rw [if_pos h]
    refine (slab_in 4096 2 _ _ _ _ _ T g a h).trans ?_
    simp only [val_main_v220_apply, val_main_v219_apply, val_main_v203_apply, val_main_v202_apply]
    rw [dpo_at wp sc dm T 2 a _ (by funext a; fin_cases a <;> apply Fin.ext <;> simp <;> omega)]
    rfl
  · rw [if_neg h]
    exact slab_out 4096 2 _ _ _ (fun i => (val_main_cst_44_apply i).trans lit_zero) _ _ T g a h

/-- The running differences of group 2, padded to four groups. -/
theorem placed2 (k : Fin 4097) (g : Fin 4) (a : Fin 256) :
    val_main_v232 (F := Ideal) wp sc dm (ix4 (0 : Fin 1) k g a) = if g.val = 2 then val_main_v231 (F := Ideal) wp sc dm (ix4 (0 : Fin 1) k (0 : Fin 1) a) else 0 := by
  by_cases h : g.val = 2
  · rw [if_pos h]
    exact slab_in 4097 2 _ _ _ _ _ k g a h
  · rw [if_neg h]
    exact slab_out 4097 2 _ _ _ (fun i => (val_main_cst_47_apply i).trans lit_zero) _ _ k g a h

/-- What the mean over 16 tokens passes back at its last token. -/
theorem share3 (T : Fin 4096) (a : Fin 256) (y : S1x4096x256.Idx) (hy : y = ix3 (0 : Fin 1) T a) :
    val_main_v210 (F := Ideal) wp sc dm y = Ideal.div (dpoA (half dm 1) sc (weights wp) 3 T a) (((min (T.val + 1) 16 : ℕ) : ℝ) : EReal) := by
  subst hy
  simp only [val_main_v210_apply, val_main_v205_apply, val_main_v204_apply, val_main_v209_apply, val_main_v164_apply]
  rw [dpo_at wp sc dm T 3 a _ (by funext a; fin_cases a <;> apply Fin.ext <;> simp <;> omega), count3 T _ (by funext a; fin_cases a <;> rfl)]
  rfl

/-- The running difference of what is passed back, for windows of 16. -/
theorem step3 (T : Fin 4096) (a : Fin 256) (y : S1x4097x1x256.Idx) (hy : y = ix4 (0 : Fin 1) (⟨T.val + 1, by omega⟩ : Fin 4097) (0 : Fin 1) a) :
    val_main_v217 (F := Ideal) wp sc dm y = Ideal.div (dpoA (half dm 1) sc (weights wp) 3 T a) (((min (T.val + 1) 16 : ℕ) : ℝ) : EReal)
      + if h : T.val + 16 < 4096 then -Ideal.div (dpoA (half dm 1) sc (weights wp) 3 ⟨T.val + 16, h⟩ a) (((min (T.val + 16 + 1) 16 : ℕ) : ℝ) : EReal) else 0 := by
  subst hy
  have e : idx_main_v217 (ix4 (0 : Fin 1) (⟨T.val + 1, by omega⟩ : Fin 4097) (0 : Fin 1) a) = ix3 (0 : Fin 1) (⟨T.val + 1, by omega⟩ : Fin 4097) a := by funext a; fin_cases a <;> apply Fin.ext <;> simp <;> omega
  rw [val_main_v217_apply, e, val_main_v216_apply]
  refine congrArg₂ (· + ·) ((later _ _ _ _ T a _ rfl).trans (share3 wp sc dm T a _ rfl)) ((longer 4081 16 _ _ (fun i => (val_main_cst_42_apply i).trans lit_zero) _ _ _ a _ rfl).trans ?_)
  by_cases h : T.val + 16 < 4096
  · rw [dif_pos h]
    refine (dif_pos (show T.val + 1 < 4081 by omega)).trans ?_
    simp only [val_main_v214_apply, val_main_v211_apply]
    rw [share3 wp sc dm ⟨T.val + 16, h⟩ a _ (by funext b; fin_cases b <;> apply Fin.ext <;> simp <;> omega)]
    rfl
  · rw [dif_neg h]
    exact dif_neg (show ¬T.val + 1 < 4081 by omega)

/-- Minus the gradient of the pooled rows of group 3, padded to four groups. -/
theorem minus3 (T : Fin 4096) (g : Fin 4) (a : Fin 256) : val_main_v208 (F := Ideal) wp sc dm (ix4 (0 : Fin 1) T g a) = if g.val = 3 then -dpoA (half dm 1) sc (weights wp) 3 T a else 0 := by
  by_cases h : g.val = 3
  · rw [if_pos h]
    refine (slab_in 4096 3 _ _ _ _ _ T g a h).trans ?_
    simp only [val_main_v207_apply, val_main_v206_apply, val_main_v205_apply, val_main_v204_apply]
    rw [dpo_at wp sc dm T 3 a _ (by funext a; fin_cases a <;> apply Fin.ext <;> simp <;> omega)]
    rfl
  · rw [if_neg h]
    exact slab_out 4096 3 _ _ _ (fun i => (val_main_cst_40_apply i).trans lit_zero) _ _ T g a h

/-- The running differences of group 3, padded to four groups. -/
theorem placed3 (k : Fin 4097) (g : Fin 4) (a : Fin 256) :
    val_main_v218 (F := Ideal) wp sc dm (ix4 (0 : Fin 1) k g a) = if g.val = 3 then val_main_v217 (F := Ideal) wp sc dm (ix4 (0 : Fin 1) k (0 : Fin 1) a) else 0 := by
  by_cases h : g.val = 3
  · rw [if_pos h]
    exact slab_in 4097 3 _ _ _ _ _ k g a h
  · rw [if_neg h]
    exact slab_out 4097 3 _ _ _ (fun i => (val_main_cst_43_apply i).trans lit_zero) _ _ k g a h

/-- Minus the gradient of the pooled rows. -/
theorem minus_at (T : Fin 4096) (g : Fin 4) (a : Fin 256) (y : S1x4096x4x256.Idx) (hy : y = ix4 (0 : Fin 1) T g a) :
    val_main_v252 (F := Ideal) wp sc dm y = -dpoA (half dm 1) sc (weights wp) g T a := by
  subst hy
  rw [val_main_v252_apply, val_main_v237_apply, val_main_v222_apply, minus0, minus1, minus2, minus3]
  fin_cases g <;> simp [FloatOps.addf]

/-- The running differences. -/
theorem step_at (T : Fin 4096) (g : Fin 4) (a : Fin 256) (y : S1x4096x4x256.Idx) (hy : y = ix4 (0 : Fin 1) T g a) :
    val_main_v265 (F := Ideal) wp sc dm y = Ideal.div (dpoA (half dm 1) sc (weights wp) g T a) (((min (T.val + 1) (win g) : ℕ) : ℝ) : EReal)
      + if h : T.val + win g < 4096 then -Ideal.div (dpoA (half dm 1) sc (weights wp) g ⟨T.val + win g, h⟩ a) (((min (T.val + win g + 1) (win g) : ℕ) : ℝ) : EReal) else 0 := by
  subst hy
  have e : idx_main_v265 (ix4 (0 : Fin 1) T g a) = ix4 (0 : Fin 1) (⟨T.val + 1, by omega⟩ : Fin 4097) g a := by
    funext b; fin_cases b <;> apply Fin.ext <;> simp <;> omega
  rw [val_main_v265_apply, e, val_main_v263_apply, val_main_v248_apply, val_main_v233_apply, placed0, placed1, placed2, placed3]
  have a0 : ∀ x : EReal, FloatOps.addf (F := Ideal) (φ := .f32) 0 x = x := zero_add
  have a1 : ∀ x : EReal, FloatOps.addf (F := Ideal) (φ := .f32) x 0 = x := add_zero
  fin_cases g
  · refine Eq.trans ?_ (step0 wp sc dm T a _ rfl)
    simp [a0, a1]
  · refine Eq.trans ?_ (step1 wp sc dm T a _ rfl)
    simp [a0, a1]
  · refine Eq.trans ?_ (step2 wp sc dm T a _ rfl)
    simp [a0, a1]
  · refine Eq.trans ?_ (step3 wp sc dm T a _ rfl)
    simp [a0, a1]

/-- Their sums from behind. -/
theorem back_at (hwp : ∀ i, IsReal (wp i)) (hsc : ∀ i, IsReal (sc i)) (hdm : ∀ i, IsReal (dm i)) (T : Fin 4096) (g : Fin 4) (a : Fin 256) (y : S1x4096x4x256.Idx) (hy : y = ix4 (0 : Fin 1) T g a) :
    val_main_v266 (F := Ideal) wp sc dm y
    = ∑ k : Fin (win g), if h : T.val + k.val < 4096 then dpoA (half dm 1) sc (weights wp) g ⟨T.val + k.val, h⟩ a * invc (T.val + k.val) (win g) else 0 := by
  subst hy
  have h0 : ∀ i, val_main_call3_call0_v0 (F := Ideal) i = 0 := fun i => by
    simp only [val_main_call3_call0_v0_apply, val_main_call3_call0_cst_apply]
    exact lit_zero
  unfold val_main_v266 Host.reduceWindowAdd
  rw [h0]
  change Ideal.hostReduceWindowAdd ![1, 4096, 1, 1] ![1, 1, 1, 1] ![0, 0, 0, 0] ![0, 4095, 0, 0] _ (val_main_v265 (F := Ideal) wp sc dm) 0 (ix4 (0 : Fin 1) T g a) = _
  exact (window_sum 0 4095 _ _ T g a).trans (back_eq (fun t => dpoA (half dm 1) sc (weights wp) g t a) (fun t => dpo_real wp sc dm hwp hsc hdm g t a) (win g) (Nat.pos_of_ne_zero (by unfold win; positivity))
    (fun t => val_main_v265 (F := Ideal) wp sc dm (ix4 (0 : Fin 1) t g a)) (fun t => step_at wp sc dm t g a _ rfl) T)

/-- The gradient of the pooled third. -/
theorem dz_ref (hwp : ∀ i, IsReal (wp i)) (hsc : ∀ i, IsReal (sc i)) (hdm : ∀ i, IsReal (dm i)) (T : Fin 4096) (j : Fin 1024) (y : S1x4096x1024.Idx) (hy : y = ix3 (0 : Fin 1) T j) :
    val_main_v268 (F := Ideal) wp sc dm y = dzA (half dm 1) sc (weights wp) (groupOf j) T (inGroup j) := by
  subst hy
  have e : idx_main_v268 (ix3 (0 : Fin 1) T j) = ix4 (0 : Fin 1) T (groupOf j) (inGroup j) := by
    funext b; fin_cases b <;> apply Fin.ext <;> simp [groupOf, inGroup] <;> omega
  rw [val_main_v268_apply, e, val_main_v267_apply, minus_at wp sc dm T _ _ _ rfl, back_at wp sc dm hwp hsc hdm T _ _ _ rfl]
  unfold dzA
  exact (add_comm _ _).trans (sub_eq_add_neg _ _).symm

end Cert.Mixer.Ref
end
-- ==== Proof.MixerRefProj.lean ====
module

public import proofs.«01_k».proof.Proof.MixerRefScale

@[expose] public section

set_option maxRecDepth 16384

noncomputable section

namespace Cert.Mixer.Ref

open Cert.NormGrad Cert.Mixer Cert.MixerRefIdeal Cert.MixerRefIdeal.Read Idealize.ShloMosaic Idealize.ShloMosaic.TcCoe

/-- Columns padded to three thirds, read in their third. -/
theorem third_in (n : ℕ) (hi : Fin 3 → ℕ) (x : S1x4096x1024.Idx → EReal) (v : S_.Idx → EReal) (h : S1x4096x1024.Pads ![0, 0, n] hi ![0, 0, 0] S1x4096x3072) (hu : 0 < S_.numel)
    (T : Fin 4096) (j : Fin 1024) (q : Fin 3072) (hq : q.val = n + j.val) : pad S1x4096x3072 ![0, 0, n] hi ![0, 0, 0] x v h hu (ix3 (0 : Fin 1) T q) = x (ix3 (0 : Fin 1) T j) :=
  pad_apply_of_inside _ _ _ x v h hu _ _ fun b => match b with
    | ⟨0, _⟩ => rfl
    | ⟨1, _⟩ => by show T.val = 0 + T.val * (0 + 1); omega
    | ⟨2, _⟩ => by show q.val = n + j.val * (0 + 1); omega

/-- Columns padded to three thirds, read in another third. -/
theorem third_out (n : ℕ) (hi : Fin 3 → ℕ) (x : S1x4096x1024.Idx → EReal) (v : S_.Idx → EReal) (hv : ∀ i, v i = 0) (h : S1x4096x1024.Pads ![0, 0, n] hi ![0, 0, 0] S1x4096x3072)
    (hu : 0 < S_.numel) (T : Fin 4096) (q : Fin 3072) (hq : q.val < n ∨ n + 1024 ≤ q.val) : pad S1x4096x3072 ![0, 0, n] hi ![0, 0, 0] x v h hu (ix3 (0 : Fin 1) T q) = 0 :=
  (pad_apply_of_not_inside _ _ _ x v h hu _ 2 (by
    show ¬(n ≤ q.val ∧ (q.val - n) % 1 = 0 ∧ (q.val - n) / 1 < 1024)
    omega)).trans (hv _)

/-- The gradient of the projected rows. -/
theorem dproj_ref (p : S4096x3072.Idx → EReal) (ws : S1x8x128x128.Idx → EReal) (bs : S1x8x128.Idx → EReal) (g : S1x1024.Idx → EReal) (wp : S1x4x256x256.Idx → EReal) (sc : S1x1024.Idx → EReal) (dm : S4096x2048.Idx → EReal)
    (hp : ∀ i, IsReal (p i)) (hws : ∀ i, IsReal (ws i)) (hbs : ∀ i, IsReal (bs i)) (hg : ∀ i, IsReal (g i)) (hwp : ∀ i, IsReal (wp i)) (hsc : ∀ i, IsReal (sc i)) (hdm : ∀ i, IsReal (dm i))
    (T : Fin 4096) (q : Fin 3072) (y : S4096x3072.Idx) (hy : y = ix2 T q) :
    val_main_v344 (F := Ideal) p ws bs g wp sc dm y = projArr p dm (tril ws) (trilT ws) (biases bs) g sc (weights wp) y := by
  subst hy
  have e : idx_main_v343 (ix2 T q) = ix3 (0 : Fin 1) T q := by funext b; fin_cases b <;> apply Fin.ext <;> simp <;> omega
  have a0 : ∀ x : EReal, FloatOps.addf (F := Ideal) (φ := .f32) 0 x = x := zero_add
  have a1 : ∀ x : EReal, FloatOps.addf (F := Ideal) (φ := .f32) x 0 = x := add_zero
  refine (val_main_v344_apply _ _ _ _ _ _ _ _).trans ?_
  show val_main_v343 (F := Ideal) _ _ _ _ _ _ _ _ = _
  rw [val_main_v343_apply, e, val_main_v342_apply, val_main_v326_apply]
  unfold projArr
  by_cases hu : q.val < 1024
  · rw [show val_main_v310 (F := Ideal) wp sc dm (ix3 (0 : Fin 1) T q) = 0 from third_out 2048 _ _ _ (fun i => (val_main_cst_63_apply i).trans lit_zero) _ _ T q (by omega),
      show val_main_v325 (F := Ideal) p ws g dm (ix3 (0 : Fin 1) T q) = 0 from third_out 1024 _ _ _ (fun i => (val_main_cst_68_apply i).trans lit_zero) _ _ T q (by omega),
      show val_main_v341 (F := Ideal) p ws bs g dm (ix3 (0 : Fin 1) T q) = val_main_v340 (F := Ideal) p ws bs g dm (ix3 (0 : Fin 1) T ⟨q.val, hu⟩) from third_in 0 _ _ _ _ _ T ⟨q.val, hu⟩ q (by simp), a0, a0,
      du_ref p ws bs g dm hp hws hbs hg hdm T ⟨q.val, hu⟩ _ rfl]
    exact Eq.symm (dif_pos (show ((ix2 T q : S4096x3072.Idx) 1).val < 1024 from hu))
  · by_cases hv : q.val < 2048
    · rw [show val_main_v310 (F := Ideal) wp sc dm (ix3 (0 : Fin 1) T q) = 0 from third_out 2048 _ _ _ (fun i => (val_main_cst_63_apply i).trans lit_zero) _ _ T q (by omega),
        show val_main_v325 (F := Ideal) p ws g dm (ix3 (0 : Fin 1) T q) = val_main_v324 (F := Ideal) p ws g dm (ix3 (0 : Fin 1) T ⟨q.val - 1024, by omega⟩) from third_in 1024 _ _ _ _ _ T ⟨q.val - 1024, by omega⟩ q (by simp; omega),
        show val_main_v341 (F := Ideal) p ws bs g dm (ix3 (0 : Fin 1) T q) = 0 from third_out 0 _ _ _ (fun i => (val_main_cst_73_apply i).trans lit_zero) _ _ T q (by omega), a0, a1,
        dv_ref p ws g dm hp hws hg hdm T ⟨q.val - 1024, by omega⟩ _ rfl]
      exact Eq.symm ((dif_neg (show ¬((ix2 T q : S4096x3072.Idx) 1).val < 1024 from hu)).trans (dif_pos (show ((ix2 T q : S4096x3072.Idx) 1).val < 2048 from hv)))
    · rw [show val_main_v310 (F := Ideal) wp sc dm (ix3 (0 : Fin 1) T q) = val_main_v268 (F := Ideal) wp sc dm (ix3 (0 : Fin 1) T ⟨q.val - 2048, by omega⟩) from third_in 2048 _ _ _ _ _ T ⟨q.val - 2048, by omega⟩ q (by simp; omega),
        show val_main_v325 (F := Ideal) p ws g dm (ix3 (0 : Fin 1) T q) = 0 from third_out 1024 _ _ _ (fun i => (val_main_cst_68_apply i).trans lit_zero) _ _ T q (by omega),
        show val_main_v341 (F := Ideal) p ws bs g dm (ix3 (0 : Fin 1) T q) = 0 from third_out 0 _ _ _ (fun i => (val_main_cst_73_apply i).trans lit_zero) _ _ T q (by omega), a1, a1,
        dz_ref wp sc dm hwp hsc hdm T ⟨q.val - 2048, by omega⟩ _ rfl]
      exact Eq.symm ((dif_neg (show ¬((ix2 T q : S4096x3072.Idx) 1).val < 1024 from hu)).trans (dif_neg (show ¬((ix2 T q : S4096x3072.Idx) 1).val < 2048 from hv)))

end Cert.Mixer.Ref
end
-- ==== Proof.MixerEnd.lean ====
module

public import proofs.«01_k».proof.Proof.MixerArrays
public import proofs.«01_k».proof.Proof.MixerRefProj
public import proofs.«01_k».proof.Proof.MixerRun
public import Idealize.ShloMosaic.Lib.StableHlo.ReadAt

@[expose] public section

set_option maxRecDepth 16384

noncomputable section

namespace Cert.MixerIdeal.Sound

open Cert.Mixer Cert.Mixer.Ref Cert.MixerIdeal Cert.MixerIdeal.Gen Idealize.ShloMosaic Idealize.ShloMosaic.TcCoe Idealize.SL.Sem

variable (m : (ℓ : Loc nD τ sig) → Buf (Elt Ideal) ℓ)

/-! ## What the host prepares -/

/-- The pooling weights as the kernel takes them. -/
theorem weights_read (c : Dev nD) : V m c main_v11 = weights (m ((c : Thread nD τ).loc main_arg4)) := by
  funext i
  idx_vars i
  show V m c main_v11 (ix3 i0 i1 i2) = _
  unfold V
  after_reads_at
  rfl

/-- The biases as the kernel takes them: one copy for each column. -/
theorem bias_read (c : Dev nD) : V m c main_v9 = biases (m ((c : Thread nD τ).loc main_arg2)) := by
  funext i
  idx_vars i
  show V m c main_v9 (ix3 i0 i1 i2) = _
  unfold V
  after_reads_at
  rfl

/-- The mixing weights as the kernel takes them, at one place. -/
theorem mix_at (c : Dev nD) (h : Fin 8) (t d : Fin 128) : V m c main_v5 (ix3 h t d) = tril (m ((c : Thread nD τ).loc main_arg1)) (ix3 h t d) := by
  unfold V
  after_reads_at
  rw [mask_test]
  show _ = lower t d _
  unfold lower
  by_cases hh : d.val ≤ t.val
  · rw [if_pos hh, if_pos hh]
    rfl
  · rw [if_neg hh, if_neg hh]
    exact lit_zero

/-- The mixing weights as the kernel takes them. -/
theorem mix_read (c : Dev nD) : V m c main_v5 = tril (m ((c : Thread nD τ).loc main_arg1)) := by
  funext i
  idx_vars i
  exact mix_at m c i0 i1 i2

/-- The transposed mixing weights as the kernel takes them, at one place. -/
theorem mixT_at (c : Dev nD) (h : Fin 8) (t d : Fin 128) : V m c main_v6 (ix3 h t d) = V m c main_v5 (ix3 h d t) := by
  unfold V
  after_reads_at

/-- The transposed mixing weights as the kernel takes them. -/
theorem mixT_read (c : Dev nD) : V m c main_v6 = trilT (m ((c : Thread nD τ).loc main_arg1)) := by
  funext i
  idx_vars i
  exact (mixT_at m c i0 i1 i2).trans (mix_at m c i0 i2 i1)

/-! ## The results -/

/-- The kernel's gradient of the mixing weights is the reference's. -/
theorem ws_end (c : Dev nD) :
    out m c 14 = Cert.MixerRefIdeal.Read.val_main_v345 (F := Ideal) (m ((c : Thread nD τ).loc main_arg0)) (m ((c : Thread nD τ).loc main_arg3)) (m ((c : Thread nD τ).loc main_arg6)) := by
  refine (ws_array m c).trans ?_
  rw [V_main_arg0 m c, V_main_arg6 m c, V_main_arg3 m c]
  funext i
  idx_vars i
  exact (dws_ref _ _ _ i0 i1 i2 _ rfl).symm

/-- The kernel's gradient of the biases is the reference's. -/
theorem bs_end (c : Dev nD) :
    out m c 15 = Cert.MixerRefIdeal.Read.val_main_v347 (F := Ideal) (m ((c : Thread nD τ).loc main_arg0)) (m ((c : Thread nD τ).loc main_arg6)) := by
  refine (dbs_array m c).trans ?_
  rw [V_main_arg0 m c, V_main_arg6 m c]
  funext i
  idx_vars i
  exact (dbs_ref _ _ i0 i1 _ (congrArg (ix3 i0 i1) (Subsingleton.elim (α := Fin 1) _ _))).symm

/-- The kernel's gradient of the gains is the reference's. -/
theorem gv_end (c : Dev nD) :
    out m c 16 = Cert.MixerRefIdeal.Read.val_main_v307 (F := Ideal) (m ((c : Thread nD τ).loc main_arg0)) (m ((c : Thread nD τ).loc main_arg1)) (m ((c : Thread nD τ).loc main_arg6)) := by
  refine (gv_array m c).trans ?_
  rw [V_main_arg0 m c, V_main_arg6 m c, mixT_read m c]
  funext i
  idx_vars i
  exact (dgv_ref _ _ _ (headOf i1) (laneOf i1) _ (congrArg₂ ix2 (Subsingleton.elim (α := Fin 1) _ _) (Fin.ext (by simp only [headOf, laneOf]; omega)))).symm

/-- The kernel's gradient of the pooling weights is the reference's. -/
theorem wp_end (c : Dev nD) (hp : ∀ i, IsReal (m ((c : Thread nD τ).loc main_arg0) i)):
    out m c 17 = Cert.MixerRefIdeal.Read.val_main_v348 (F := Ideal) (m ((c : Thread nD τ).loc main_arg0)) (m ((c : Thread nD τ).loc main_arg5)) (m ((c : Thread nD τ).loc main_arg6)) := by
  refine (wp_array m c).trans ?_
  rw [V_main_arg0 m c, V_main_arg6 m c, V_main_arg5 m c]
  funext i
  idx_vars i
  exact (dwp_ref _ _ _ hp i0 i1 i2 _ rfl).symm

/-- The kernel's gradient of the pooling scales is the reference's. -/
theorem sc_end (c : Dev nD) (hp : ∀ i, IsReal (m ((c : Thread nD τ).loc main_arg0) i)):
    out m c 18 = Cert.MixerRefIdeal.Read.val_main_v269 (F := Ideal) (m ((c : Thread nD τ).loc main_arg0)) (m ((c : Thread nD τ).loc main_arg4)) (m ((c : Thread nD τ).loc main_arg6)) := by
  refine (sc_array m c).trans ?_
  rw [V_main_arg0 m c, V_main_arg6 m c, weights_read m c]
  funext i
  idx_vars i
  exact (dsc_ref _ _ _ hp i1 _ (congrArg (ix2 · i1) (Subsingleton.elim (α := Fin 1) _ _))).symm

/-- The kernel's gradient of the projected rows is the reference's. -/
theorem proj_end (c : Dev nD) (hp : ∀ i, IsReal (m ((c : Thread nD τ).loc main_arg0) i)) (hws : ∀ i, IsReal (m ((c : Thread nD τ).loc main_arg1) i)) (hbs : ∀ i, IsReal (m ((c : Thread nD τ).loc main_arg2) i)) (hg : ∀ i, IsReal (m ((c : Thread nD τ).loc main_arg3) i)) (hwp : ∀ i, IsReal (m ((c : Thread nD τ).loc main_arg4) i)) (hsc : ∀ i, IsReal (m ((c : Thread nD τ).loc main_arg5) i)) (hdm : ∀ i, IsReal (m ((c : Thread nD τ).loc main_arg6) i)):
    out m c 13 = Cert.MixerRefIdeal.Read.val_main_v344 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (proj_array m c).trans ?_
  rw [V_main_arg0 m c, V_main_arg6 m c, V_main_arg3 m c, V_main_arg5 m c, mix_read m c, mixT_read m c, bias_read m c, weights_read m c]
  funext i
  idx_vars i
  exact (dproj_ref _ _ _ _ _ _ _ hp hws hbs hg hwp hsc hdm i0 i1 _ rfl).symm

end Cert.MixerIdeal.Sound
end
-- ==== Proof.Mixer.lean ====
module

public import proofs.«01_k».proof.Defs
public import proofs.«01_k».proof.Proof.MixerEnd
public import Idealize.ShloMosaic.Lib.ReduceAll

@[expose] public section

set_option maxRecDepth 16384

noncomputable section

namespace Cert.MixerIdeal.Sound

open Cert.Mixer Cert.Mixer.Ref Cert.MixerIdeal Cert.MixerIdeal.Gen Idealize.ShloMosaic Idealize.ShloMosaic.TcCoe Idealize.SL.Sem

/-! ## The precondition -/

/-- The shape relations the precondition's operations take. -/
theorem finite_facts : Cert.Pre_mixer_finite.Facts where
  bcast_S_S4096x3072 := by decide
  reducesTo_S4096x3072_S_d0_1 := by decide
  h_S_ := by decide
  bcast_S_S1x8x128x128 := by decide
  reducesTo_S1x8x128x128_S_d0_1_2_3 := by decide
  bcast_S_S1x8x128 := by decide
  reducesTo_S1x8x128_S_d0_1_2 := by decide
  bcast_S_S1x1024 := by decide
  reducesTo_S1x1024_S_d0_1 := by decide
  bcast_S_S1x4x256x256 := by decide
  reducesTo_S1x4x256x256_S_d0_1_2_3 := by decide
  bcast_S_S4096x2048 := by decide
  reducesTo_S4096x2048_S_d0_1 := by decide

/-- What lies below infinity with its absolute value is a real. -/
theorem real_of (x : EReal) (h : Ideal.cmp .olt (max x (-x)) ⊤ = 1#1) : IsReal x := by
  induction x with
  | bot => simp [Ideal.cmp] at h
  | top => simp [Ideal.cmp] at h
  | coe r => exact ⟨r, rfl⟩

/-- The word of infinity, at single precision. -/
theorem lit_top : Ideal.ofBits .f32 0x7F800000#32 = ⊤ := by
  simp [Ideal.ofBits, Ideal.ieee]

/-- The word of infinity, at half the width. -/
theorem lit_top_half : Ideal.ofBits .bf16 0x7F80#16 = ⊤ := by
  simp [Ideal.ofBits, Ideal.ieee]

/-- The conjunction of two bits is one when both are. -/
theorem and_one (a b : BitVec 1) (h : IntOp.andi a b = 1#1) : a = 1#1 ∧ b = 1#1 := by
  revert a b
  decide

/-- Under the precondition every entry of every argument is a real. -/
theorem all_real (p : S4096x3072.Idx → EReal) (ws : S1x8x128x128.Idx → EReal) (bs : S1x8x128.Idx → EReal) (g : S1x1024.Idx → EReal) (wp : S1x4x256x256.Idx → EReal) (sc : S1x1024.Idx → EReal)
    (dm : S4096x2048.Idx → EReal) (h : (haveI := finite_facts; Cert.Pre_mixer_finite.fn (F := Ideal) p ws bs g wp sc dm) = fun _ => 1#1) :
    (∀ i, IsReal (p i)) ∧ (∀ i, IsReal (ws i)) ∧ (∀ i, IsReal (bs i)) ∧ (∀ i, IsReal (g i)) ∧ (∀ i, IsReal (wp i)) ∧ (∀ i, IsReal (sc i)) ∧ ∀ i, IsReal (dm i) := by
  haveI := finite_facts
  haveI : Subsingleton Cert.Pre_mixer_finite.S_.Idx := ⟨fun _ _ => funext fun a => a.elim0⟩
  have h := congrFun h ix0
  unfold Cert.Pre_mixer_finite.fn Cert.Pre_mixer_finite.fn_part1 at h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h0, h1⟩ := and_one _ _ h
  have key : ∀ x : EReal, Ideal.cmp .olt (max x (-x)) (Ideal.ofBits .f32 0x7F800000#32) = 1#1 → IsReal x := fun x h => real_of x (lit_top ▸ h)
  have keyh : ∀ x : EReal, Ideal.cmp .olt (max x (-x)) (Ideal.ofBits .bf16 0x7F80#16) = 1#1 → IsReal x := fun x h => real_of x (lit_top_half ▸ h)
  exact ⟨fun i => key _ (Host.reduce_andi_all _ _ _ _ _ h0 i), fun i => key _ (Host.reduce_andi_all _ _ _ _ _ h1 i), fun i => key _ (Host.reduce_andi_all _ _ _ _ _ h2 i),
    fun i => key _ (Host.reduce_andi_all _ _ _ _ _ h3 i), fun i => key _ (Host.reduce_andi_all _ _ _ _ _ h4 i), fun i => key _ (Host.reduce_andi_all _ _ _ _ _ h5 i),
    fun i => keyh _ (Host.reduce_andi_all _ _ _ _ _ h6 i)⟩

/-! ## The claims -/

/-- The named constants are the ones the kernel's words round. -/
theorem preserves : Cert.preserves_Mixer_MixerIdeal := ⟨IdealRules.named_const.statement Cert.MixerIdeal.κ "cube" .f32 0x3D372713#32 ((8943 / 200000 : ℝ) : EReal) rfl,
  IdealRules.named_const.statement Cert.MixerIdeal.κ "slope" .f32 0x3E095D4F#32 ((26829 / 200000 : ℝ) : EReal) rfl⟩

/-- The reference runs to its end, leaves its arguments as they were and has no counter that could stand above zero. -/
theorem reference_frame : Cert.quiescent_MixerRefIdeal (hMixerRefIdeal := Cert.MixerRefIdeal.Gen.facts) := fun m ρ _ =>
  (θ_run Cert.MixerRefIdeal.defs _ _).mono
    (fun r h => ⟨fun c => (h c).2.2.2.2.2.2, Idealize.ShloMosaic.sem_eq_zero_of_no_sems (by decide) r.2⟩)
    (Cert.MixerRefIdeal.Value.run (F := Ideal) m ρ)

/-- The call and the reference's gradients end with equal results when the arguments are finite. -/
theorem algebraic : Cert.algebraic_MixerIdeal_MixerRefIdeal_pre_mixer_finite (hMixerIdeal := Cert.MixerIdeal.Gen.facts)
    (hMixerRefIdeal := Cert.MixerRefIdeal.Gen.facts) (hPre_mixer_finite := finite_facts) := by
  intro m ρ m' ρ' hpre hagree
  refine ⟨fun c => out m c 13, fun c => out m c 14, fun c => out m c 15, fun c => out m c 16, fun c => out m c 17, fun c => out m c 18, run m ρ, ?_⟩
  refine (θ_run Cert.MixerRefIdeal.defs _ _).mono (fun r h c => ?_) (Cert.MixerRefIdeal.Value.run (F := Ideal) m' ρ')
  obtain ⟨a0, a1, a2, a3, a4, a5, a6⟩ := hagree c
  obtain ⟨hp, hws, hbs, hg, hwp, hsc, hdm⟩ := all_real _ _ _ _ _ _ _ (hpre c)
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · rw [Cert.MixerRefIdeal.Read.val_main_v344_eq]
    show Cert.MixerRefIdeal.Read.val_main_v344 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg1)) (m' ((c : Thread Cert.MixerRefIdeal.nD Cert.MixerRefIdeal.τ).loc Cert.MixerRefIdeal.main_arg2)) (m' ((c : Thread Cert.MixerRefIdeal.nD Cert.MixerRefIdeal.τ).loc Cert.MixerRefIdeal.main_arg3)) (m' ((c : Thread Cert.MixerRefIdeal.nD Cert.MixerRefIdeal.τ).loc Cert.MixerRefIdeal.main_arg4)) (m' ((c : Thread Cert.MixerRefIdeal.nD Cert.MixerRefIdeal.τ).loc Cert.MixerRefIdeal.main_arg5)) (m' ((c : Thread Cert.MixerRefIdeal.nD Cert.MixerRefIdeal.τ).loc Cert.MixerRefIdeal.main_arg6)) = out m c 13
    rw [a0, a1, a2, a3, a4, a5, a6]
    exact (proj_end m c hp hws hbs hg hwp hsc hdm).symm
  · rw [Cert.MixerRefIdeal.Read.val_main_v345_eq]
    show Cert.MixerRefIdeal.Read.val_main_v345 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg3)) (m' ((c : Thread Cert.MixerRefIdeal.nD Cert.MixerRefIdeal.τ).loc Cert.MixerRefIdeal.main_arg6)) = out m c 14
    rw [a0, a3, a6]
    exact (ws_end m c).symm
  · rw [Cert.MixerRefIdeal.Read.val_main_v347_eq]
    show Cert.MixerRefIdeal.Read.val_main_v347 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg6)) = out m c 15
    rw [a0, a6]
    exact (bs_end m c).symm
  · rw [Cert.MixerRefIdeal.Read.val_main_v307_eq]
    show Cert.MixerRefIdeal.Read.val_main_v307 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg1)) (m' ((c : Thread Cert.MixerRefIdeal.nD Cert.MixerRefIdeal.τ).loc Cert.MixerRefIdeal.main_arg6)) = out m c 16
    rw [a0, a1, a6]
    exact (gv_end m c).symm
  · rw [Cert.MixerRefIdeal.Read.val_main_v348_eq]
    show Cert.MixerRefIdeal.Read.val_main_v348 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg5)) (m' ((c : Thread Cert.MixerRefIdeal.nD Cert.MixerRefIdeal.τ).loc Cert.MixerRefIdeal.main_arg6)) = out m c 17
    rw [a0, a5, a6]
    exact (wp_end m c hp).symm
  · rw [Cert.MixerRefIdeal.Read.val_main_v269_eq]
    show Cert.MixerRefIdeal.Read.val_main_v269 (F := Ideal) (m' ((c : Thread Cert.MixerRefIdeal.nD Cert.MixerRefIdeal.τ).loc Cert.MixerRefIdeal.main_arg0)) (m' ((c : Thread Cert.MixerRefIdeal.nD Cert.MixerRefIdeal.τ).loc Cert.MixerRefIdeal.main_arg4)) (m' ((c : Thread Cert.MixerRefIdeal.nD Cert.MixerRefIdeal.τ).loc Cert.MixerRefIdeal.main_arg6)) = out m c 18
    rw [a0, a4, a6]
    exact (sc_end m c hp).symm

end Cert.MixerIdeal.Sound
end
-- ==== Proof.Norm.lean ====
module

public import proofs.«01_k».proof.Defs
public import proofs.«01_k».proof.Proof.NormGrad
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import Idealize.ShloMosaic.Lib.Pipeline.ValueKit
public import Idealize.ShloMosaic.Lib.StableHlo.ReadAt

/-! The mixer's norm in the forward pass: the call's blocks of rows together are the norm of the whole array. -/

@[expose] public section

set_option maxRecDepth 16384

noncomputable section

namespace Cert.NormIdeal.Sound

open Cert.NormGrad Cert.NormIdeal Cert.NormIdeal.Gen Cert.NormIdeal.Value Idealize.ShloMosaic Idealize.ShloMosaic.TcCoe Idealize.SL.Sem

variable (m : (ℓ : Loc nD τ sig) → Buf (Elt Ideal) ℓ)

/-- The norm of a row at one place: the entry over the row's root mean square, times the gain. -/
def normAt (x : S4096x2048.Idx → EReal) (g : S1x2048.Idx → EReal) (i : S4096x2048.Idx) : EReal :=
  x i * rms (fun k => x (ix2 (i 0) k)) * g (ix2 (0 : Fin 1) (i 1))

/-- Where the windows stand at a grid point. -/
theorem idx : ∀ t : Fin cfg0.N, win0_0.index t = ![t.val, 0] ∧ win0_1.index t = ![0, 0] ∧ win0_2.index t = ![t.val, 0] :=
  (by decide +kernel : ∀ t : Fin grid0.N, _)

/-- The call leaves the norm of the rows in its result. -/
theorem norm_array (c : Dev nD) : (dats m 0 c).arrAt 2 cfg0.N = normAt (V m c main_v0) (V m c main_arg1) := by
  refine (dats m 0 c).arrAt_eq_of_covers 2 _ (by decide +kernel) fun t hf y => ?_
  obtain ⟨e0, e1, e2⟩ := idx t
  blk_simp
  rw [after0_2]
  unfold out0_2
  canon_tiles x h
  all_goals unfold_payloads
  all_goals pointwise [normAt, rms]
  all_goals blk_point [iblk, e0, e1, e2]

/-- The rows as the kernel takes them. -/
theorem x_read (c : Dev nD) (i : Fin 4096) (j : Fin 2048) : V m c main_v0 (ix2 i j)
    = m ((c : Thread nD τ).loc main_arg0) (ix3 (0 : Fin 1) i j) := by
  unfold V
  after_reads_at

open Cert.NormRefIdeal.Read in
/-- The reference's norm at one place. -/
theorem norm_tie (x : S1x4096x2048.Idx → EReal) (g : S1x2048.Idx → EReal) (i : Fin 4096) (j : Fin 2048) :
    val_main_v15 (F := Ideal) x g (ix2 i j)
    = x (ix3 (0 : Fin 1) i j) * rms (fun k => x (ix3 (0 : Fin 1) i k)) * g (ix2 (0 : Fin 1) j) := by
  have hy : idx_main_v14 (ix2 i j) = ix3 (0 : Fin 1) i j := by funext a; fin_cases a <;> apply Fin.ext <;> simp <;> omega
  simp only [val_main_v15_apply, val_main_v14_apply, hy, val_main_v13_apply, val_main_v12_apply, val_main_v11_apply, val_main_v10_apply,
    val_main_v9_apply, val_main_v8_apply, val_main_v7_apply, val_main_v6_apply, val_main_cst_1_apply, val_main_v5_apply, val_main_v4_apply,
    val_main_cst_0_apply, val_main_v3_apply, val_main_v2_apply, val_main_cst_apply, val_main_v1_apply, val_main_v0_apply]
  pointwise [rms]
  refine Ideal.mul_congr (Ideal.mul_congr rfl ?_) ?_
  · refine congrArg (fun s => Ideal.rsqrt (Ideal.div s _ + _)) (Finset.sum_congr rfl fun k _ => ?_)
    refine Ideal.mul_congr ?_ ?_ <;> congr 1 <;> funext a <;> fin_cases a <;> apply Fin.ext <;> simp
  · congr 1; funext a; fin_cases a <;> apply Fin.ext <;> simp

/-- The reference runs to its end, leaves its arguments as they were and has no counter that could stand above zero. -/
theorem reference_frame : Cert.quiescent_NormRefIdeal (hNormRefIdeal := Cert.NormRefIdeal.Gen.facts) := fun m ρ _ =>
  (θ_run Cert.NormRefIdeal.defs _ _).mono
    (fun r h => ⟨fun c => (h c).2, Idealize.ShloMosaic.sem_eq_zero_of_no_sems (by decide) r.2⟩)
    (Cert.NormRefIdeal.Value.run (F := Ideal) m ρ)

/-- The call's result is the reference's norm. -/
theorem norm_end (c : Dev nD) : (dats m 0 c).arrAt 2 cfg0.N = Cert.NormRefIdeal.Read.val_main_v15 (F := Ideal)
    (m ((c : Thread nD τ).loc main_arg0)) (m ((c : Thread nD τ).loc main_arg1)) := by
  refine (norm_array m c).trans ?_
  funext i
  idx_vars i
  refine Eq.trans ?_ (norm_tie _ _ i0 i1).symm
  exact Ideal.mul_congr (Ideal.mul_congr (x_read m c i0 i1) (congrArg rms (funext fun k => x_read m c i0 k))) rfl

/-- The call and the reference's lines end with equal results, whatever the arguments. -/
theorem algebraic : Cert.algebraic_NormIdeal_NormRefIdeal (hNormIdeal := Cert.NormIdeal.Gen.facts)
    (hNormRefIdeal := Cert.NormRefIdeal.Gen.facts) := by
  intro m ρ m' ρ' _ hagree
  refine ⟨fun c => (dats m 0 c).arrAt 2 cfg0.N, run_blocks m ρ, ?_⟩
  refine (θ_run Cert.NormRefIdeal.defs _ _).mono (fun r h c => ?_) (Cert.NormRefIdeal.Value.run (F := Ideal) m' ρ')
  obtain ⟨h0, h1⟩ := hagree c
  refine ⟨(h c).1.trans ?_, (h c).2⟩
  rw [Cert.NormRefIdeal.Read.val_main_v15_eq, h0, h1]
  exact (norm_end m c).symm

end Cert.NormIdeal.Sound
end
-- ==== Proof.OutArrays.lean ====
module

public import proofs.«01_k».proof.Proof.NormGrad
public import proofs.«01_k».proof.Proof.Pieces
public import proofs.«01_k».proof.Proof.Gen.OutIdeal.Value
public import Idealize.ShloMosaic.Lib.Pipeline.ValueKit
public import Idealize.ShloMosaic.Lib.Pipeline.ReadBack

/-! The mixer's output projection with its residual and the norm of the result: what the call leaves in its two results. -/

@[expose] public section

set_option maxRecDepth 16384

noncomputable section

namespace Cert.OutIdeal.Sound

open Cert.NormGrad Cert.OutIdeal Cert.OutIdeal.Gen Cert.OutIdeal.Value Idealize.ShloMosaic Idealize.ShloMosaic.TcCoe Idealize.SL.Sem

variable (m : (ℓ : Loc nD τ sig) → Buf (Elt Ideal) ℓ)

/-- The residual and the product at one place of a block. -/
def rowAt (a : S256x2048.Idx → EReal) (w : S2048x2048.Idx → EReal) (x : S256x2048.Idx → EReal) (y : S256x2048.Idx) : EReal :=
  x y + ∑ k : Fin 2048, a (ix2 (y 0) k) * w (ix2 k (y 1))

/-- The residual and the product at one place of the array. -/
def sumAt (a : S4096x2048.Idx → EReal) (w : S2048x2048.Idx → EReal) (x : S4096x2048.Idx → EReal) (i : S4096x2048.Idx) : EReal :=
  x i + ∑ k : Fin 2048, a (ix2 (i 0) k) * w (ix2 k (i 1))

/-- The norm of a row of an array at one place, times the gain. -/
def normAt (x : S4096x2048.Idx → EReal) (g : S1x2048.Idx → EReal) (i : S4096x2048.Idx) : EReal :=
  x i * rms (fun k => x (ix2 (i 0) k)) * g (ix2 (0 : Fin 1) (i 1))

/-- Where the windows stand at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- Each point stores its block's sums. -/
theorem sum_block (c : Dev nD) (t : Fin cfg0.N) (y : S256x2048.Idx) :
    (outsAt0 m c t).1 y = rowAt (iblk m c 0 t) (iblk m c 1 t) (iblk m c 2 t) y := by
  unfold outsAt0
  frame_out
  canon_tiles x h
  all_goals unfold_payloads
  all_goals pointwise [rowAt]
  all_goals blk_point [iblk]

/-- What the four stores of a point leave for a load of the whole block. -/
theorem readCov_row (a : S256x2048.Idx → EReal) (w : S2048x2048.Idx → EReal) (x : S256x2048.Idx → EReal)
    (v : View sig Kind.tc Space.vmem S256x2048 EltTy.f32) (L) (r : Rect S256x2048) (h : View.PiecesOf (Val := Elt Ideal) (rowAt a w x) L)
    (hc : LoadRect.covChk (L.map Sigma.fst) r.toLoadRect
      (.split 1 1024 (.split 1 512 (.leaf 3) (.leaf 2)) (.split 1 512 (.leaf 1) (.leaf 0))) = true) :
    v.readCov L r.toLoadRect = View.ld (rowAt a w x) r :=
  Pieces.readCov_of_pieces (Val := Elt Ideal) (rowAt a w x) _ v L r h hc

/-- Each point stores the norm of its block's sums. -/
theorem norm_block (c : Dev nD) (t : Fin cfg0.N) (y : S256x2048.Idx) :
    (outsAt0 m c t).2 y = rowAt (iblk m c 0 t) (iblk m c 1 t) (iblk m c 2 t) y
      * rms (fun k => rowAt (iblk m c 0 t) (iblk m c 1 t) (iblk m c 2 t) (ix2 (y 0) k)) * iblk m c 3 t (ix2 (0 : Fin 1) (y 1)) := by
  unfold outsAt0
  frame_open
  frame_out
  rw [readCov_row (iblk m c 0 t) (iblk m c 1 t) (iblk m c 2 t) _ _ (Rect.unit ![0, 0] ![256, 2048] inb_S256x2048_S256x2048_0_0) ?_ rfl]
  · generalize rowAt (iblk m c 0 t) (iblk m c 1 t) (iblk m c 2 t) = d
    unfold_payloads
    pointwise [rms]
  · refine ⟨fun x => ?_, fun x => ?_, fun x => ?_, fun x => ?_, trivial⟩ <;> unfold_payloads <;>
      pointwise [rowAt] <;> blk_point [iblk]

/-- The first result's array is the residual and the product. -/
theorem sum_array (c : Dev nD) : (dats m 0 c).arrAt 4 cfg0.N
    = sumAt (V m c main_arg0) (V m c main_v1) (V m c main_v2) := by
  refine (dats m 0 c).arrAt_eq_of_covers 4 _ (by decide +kernel) fun t hf y => ?_
  obtain ⟨e0, e1, e2, e3, e4, e5⟩ := idx t
  blk_simp
  rw [after0_4, sum_block]
  pointwise [rowAt, sumAt]
  blk_point [iblk, e0, e1, e2, e4]

/-- The second result's array is the norm of the first's rows. -/
theorem norm_array (c : Dev nD) : (dats m 0 c).arrAt 5 cfg0.N
    = normAt (sumAt (V m c main_arg0) (V m c main_v1) (V m c main_v2))
      (V m c main_arg3) := by
  refine (dats m 0 c).arrAt_eq_of_covers 5 _ (by decide +kernel) fun t hf y => ?_
  obtain ⟨e0, e1, e2, e3, e4, e5⟩ := idx t
  blk_simp
  rw [after0_5, norm_block]
  pointwise [rowAt, sumAt, normAt, rms]
  blk_point [iblk, e0, e1, e2, e3, e5]

end Cert.OutIdeal.Sound
end
-- ==== Proof.Out.lean ====
module

public import proofs.«01_k».proof.Defs
public import proofs.«01_k».proof.Proof.OutArrays
public import proofs.«01_k».proof.Proof.Gen.OutRefIdeal
public import proofs.«01_k».proof.Proof.Gen.OutRefIdeal.Run
public import proofs.«01_k».proof.Proof.Gen.OutRefIdeal.Read
public import Idealize.ShloMosaic.Lib.StableHlo.ReadAt

/-! The mixer's output projection, its residual and the norm after it: the call's two results are the reference's. -/

@[expose] public section

set_option maxRecDepth 16384

noncomputable section

namespace Cert.OutIdeal.Sound

open Cert.NormGrad Cert.OutIdeal Cert.OutIdeal.Gen Cert.OutIdeal.Value Idealize.ShloMosaic Idealize.ShloMosaic.TcCoe Idealize.SL.Sem

variable (m : (ℓ : Loc nD τ sig) → Buf (Elt Ideal) ℓ)

/-- The residual as the kernel takes it. -/
theorem x_read (c : Dev nD) (i : Fin 4096) (j : Fin 2048) : V m c main_v2 (ix2 i j)
    = m ((c : Thread nD τ).loc main_arg2) (ix3 (0 : Fin 1) i j) := by
  unfold V
  after_reads_at

/-- The weights as the kernel takes them. -/
theorem w_read (c : Dev nD) (i : Fin 2048) (j : Fin 2048) : V m c main_v1 (ix2 i j)
    = m ((c : Thread nD τ).loc main_arg1) (ix3 (0 : Fin 1) i j) := by
  unfold V
  after_reads_at

/-- The reference's residual and product at one place. -/
def refSum (a : S4096x2048.Idx → EReal) (w : S1x2048x2048.Idx → EReal) (x : S1x4096x2048.Idx → EReal) (i : Fin 4096) (j : Fin 2048) : EReal :=
  x (ix3 (0 : Fin 1) i j) + ∑ k : Fin 2048, a (ix2 i k) * w (ix3 (0 : Fin 1) k j)

open Cert.OutRefIdeal.Read in
/-- The reference's sums with the leading axis of one. -/
theorem sum_tie (a : S4096x2048.Idx → EReal) (w : S1x2048x2048.Idx → EReal) (x : S1x4096x2048.Idx → EReal) (i : Fin 4096) (j : Fin 2048)
    (q : S1x4096x2048.Idx) (hq : q = ix3 (0 : Fin 1) i j) : val_main_v4 (F := Ideal) a w x q = refSum a w x i j := by
  subst hq
  simp only [val_main_v4_apply, val_main_v3_apply, val_main_v2_apply, val_main_v1_apply, val_main_v0_apply]
  pointwise [refSum]
  refine congrArg (_ + ·) (Finset.sum_congr rfl fun k _ => Ideal.mul_congr ?_ ?_)
  · congr 1; funext a; fin_cases a <;> apply Fin.ext <;> simp <;> omega
  · congr 1; funext a; fin_cases a <;> apply Fin.ext <;> simp <;> omega

open Cert.OutRefIdeal.Read in
/-- The reference's first result at one place. -/
theorem out_tie (a : S4096x2048.Idx → EReal) (w : S1x2048x2048.Idx → EReal) (x : S1x4096x2048.Idx → EReal) (i : Fin 4096) (j : Fin 2048) :
    val_main_v19 (F := Ideal) a w x (ix2 i j) = refSum a w x i j := by
  rw [val_main_v19_apply]
  exact sum_tie a w x i j _ (by funext a; fin_cases a <;> apply Fin.ext <;> simp <;> omega)

open Cert.OutRefIdeal.Read in
/-- The reference's second result at one place. -/
theorem norm_tie (a : S4096x2048.Idx → EReal) (w : S1x2048x2048.Idx → EReal) (x : S1x4096x2048.Idx → EReal) (g : S1x2048.Idx → EReal)
    (i : Fin 4096) (j : Fin 2048) : val_main_v21 (F := Ideal) a w x g (ix2 i j)
    = refSum a w x i j * rms (refSum a w x i) * g (ix2 (0 : Fin 1) j) := by
  have hy : idx_main_v20 (ix2 i j) = ix3 (0 : Fin 1) i j := by funext a; fin_cases a <;> apply Fin.ext <;> simp <;> omega
  simp only [val_main_v21_apply, val_main_v20_apply, hy, val_main_v18_apply, val_main_v17_apply, val_main_v16_apply, val_main_v15_apply,
    val_main_v14_apply, val_main_v13_apply, val_main_v12_apply, val_main_v11_apply, val_main_cst_1_apply, val_main_v10_apply, val_main_v9_apply,
    val_main_cst_0_apply, val_main_v8_apply, val_main_v7_apply, val_main_cst_apply, val_main_v6_apply, val_main_v5_apply]
  pointwise [rms]
  rw [sum_tie a w x i j _ rfl]
  refine Ideal.mul_congr (Ideal.mul_congr rfl ?_) ?_
  · refine congrArg (fun s => Ideal.rsqrt (Ideal.div s _ + _)) (Finset.sum_congr rfl fun k _ => ?_)
    rw [sum_tie a w x i k _ (by funext a; fin_cases a <;> apply Fin.ext <;> simp)]
  · congr 1; funext a; fin_cases a <;> apply Fin.ext <;> simp

/-- The reference runs to its end, leaves its arguments as they were and has no counter that could stand above zero. -/
theorem reference_frame : Cert.quiescent_OutRefIdeal (hOutRefIdeal := Cert.OutRefIdeal.Gen.facts) := fun m ρ _ =>
  (θ_run Cert.OutRefIdeal.defs _ _).mono
    (fun r h => ⟨fun c => (h c).2.2, Idealize.ShloMosaic.sem_eq_zero_of_no_sems (by decide) r.2⟩)
    (Cert.OutRefIdeal.Value.run (F := Ideal) m ρ)

/-- The kernel's sums from its arguments. -/
theorem sum_eq (c : Dev nD) (i : Fin 4096) (j : Fin 2048) : sumAt (V m c main_arg0) (V m c main_v1) (V m c main_v2) (ix2 i j)
    = refSum (m ((c : Thread nD τ).loc main_arg0)) (m ((c : Thread nD τ).loc main_arg1)) (m ((c : Thread nD τ).loc main_arg2)) i j :=
  congrArg₂ (· + ·) (x_read m c i j) (Finset.sum_congr rfl fun k _ => Ideal.mul_congr rfl (w_read m c k j))

/-- The call's first result is the reference's residual and product. -/
theorem sum_end (c : Dev nD) : (dats m 0 c).arrAt 4 cfg0.N = Cert.OutRefIdeal.Read.val_main_v19 (F := Ideal)
    (m ((c : Thread nD τ).loc main_arg0)) (m ((c : Thread nD τ).loc main_arg1)) (m ((c : Thread nD τ).loc main_arg2)) := by
  refine (sum_array m c).trans ?_
  funext i
  idx_vars i
  exact (sum_eq m c i0 i1).trans (out_tie _ _ _ i0 i1).symm

/-- The call's second result is the reference's norm. -/
theorem norm_end (c : Dev nD) : (dats m 0 c).arrAt 5 cfg0.N = Cert.OutRefIdeal.Read.val_main_v21 (F := Ideal)
    (m ((c : Thread nD τ).loc main_arg0)) (m ((c : Thread nD τ).loc main_arg1)) (m ((c : Thread nD τ).loc main_arg2))
    (m ((c : Thread nD τ).loc main_arg3)) := by
  refine (norm_array m c).trans ?_
  funext i
  idx_vars i
  refine Eq.trans ?_ (norm_tie _ _ _ _ i0 i1).symm
  exact Ideal.mul_congr (Ideal.mul_congr (sum_eq m c i0 i1) (congrArg rms (funext fun k => sum_eq m c i0 k))) rfl

/-- The call and the reference's lines end with equal results, whatever the arguments. -/
theorem algebraic : Cert.algebraic_OutIdeal_OutRefIdeal (hOutIdeal := Cert.OutIdeal.Gen.facts)
    (hOutRefIdeal := Cert.OutRefIdeal.Gen.facts) := by
  intro m ρ m' ρ' _ hagree
  refine ⟨fun c => (dats m 0 c).arrAt 4 cfg0.N, fun c => (dats m 0 c).arrAt 5 cfg0.N, run_blocks m ρ, ?_⟩
  refine (θ_run Cert.OutRefIdeal.defs _ _).mono (fun r h c => ?_) (Cert.OutRefIdeal.Value.run (F := Ideal) m' ρ')
  obtain ⟨h0, h1, h2, h3⟩ := hagree c
  refine ⟨(h c).1.trans ?_, (h c).2.1.trans ?_, (h c).2.2⟩
  · rw [Cert.OutRefIdeal.Read.val_main_v19_eq, h0, h1, h2]
    exact (sum_end m c).symm
  · rw [Cert.OutRefIdeal.Read.val_main_v21_eq, h0, h1, h2, h3]
    exact (norm_end m c).symm

end Cert.OutIdeal.Sound
end
-- ==== Proof.MixGate.lean ====
module

public import proofs.«01_k».proof.Proof.MixerSpec
public import proofs.«01_k».proof.Proof.Gen.MixIdeal.Value
public import Idealize.ShloMosaic.Lib.Pipeline.ReadBack

/-! The first half of a block of the mixer's forward call: the gate. -/

@[expose] public section

set_option maxRecDepth 16384
set_option maxHeartbeats 40000000

noncomputable section

namespace Cert.MixIdeal.Sound

open Cert.MixIdeal Cert.MixIdeal.Gen Idealize.ShloMosaic Idealize.ShloMosaic.TcCoe Idealize.SL.Sem

/-- The activation, with the cube multiplied in this kernel's order. -/
def act (x : EReal) : EReal :=
  (Ideal.ofBits .f32 0x3F000000#32 * x) * (Ideal.ofBits .f32 0x3F800000#32
    + Ideal.tanh (Ideal.ofBits .f32 0x3F4C422A#32 * (x + ((Named.named (F := Ideal) κ "cube" (φ := .f32) 0x3D372713#32 * x) * x) * x)))

/-- The named constant of the cube. -/
theorem named_cube : Named.named (F := Ideal) κ "cube" (φ := .f32) 0x3D372713#32 = ((8943 / 200000 : ℝ) : EReal) :=
  IdealRules.named_const.ideal_named_scalar _ _ _ _ rfl

/-- The backward call's. -/
theorem named_cube' : Named.named (F := Ideal) Cert.MixerIdeal.κ "cube" (φ := .f32) 0x3D372713#32 = ((8943 / 200000 : ℝ) : EReal) :=
  IdealRules.named_const.ideal_named_scalar _ _ _ _ rfl

/-- The order does not matter. -/
theorem act_eq : act = Cert.Mixer.gelu := by
  funext x
  unfold act Cert.Mixer.gelu Cert.Mixer.gtanh
  rw [named_cube, named_cube', mul_assoc (_ * x) x x]

/-- The reciprocal root mean square of a row of a tile. -/
def root (vp : S512x1024.Idx → EReal) (q : Fin 4) (j : Fin 1024) (s : Fin 128) : EReal :=
  Ideal.rsqrt (Ideal.div (∑ k : Fin 128, act (Cert.Mixer.tile vp q j s k) * act (Cert.Mixer.tile vp q j s k)) (Ideal.ofBits .f32 0x43000000#32)
    + Ideal.ofBits .f32 0x358637BD#32)

/-- The gated rows at a place of a block. -/
def gateAt (up vp : S512x1024.Idx → EReal) (w b : S8x128x128.Idx → EReal) (g : S1x1024.Idx → EReal) (r : Fin 512) (j : Fin 1024) : EReal :=
  act (Cert.Mixer.tile up ⟨r.val / 128, by omega⟩ j ⟨r.val % 128, by omega⟩ ⟨j.val % 128, by omega⟩)
  * ((∑ s : Fin 128, Cert.Mixer.head w j ⟨r.val % 128, by omega⟩ s * (act (Cert.Mixer.tile vp ⟨r.val / 128, by omega⟩ j s ⟨j.val % 128, by omega⟩)
      * root vp ⟨r.val / 128, by omega⟩ j s * Cert.Mixer.lanes g j ⟨j.val % 128, by omega⟩)) + Cert.Mixer.head b j ⟨r.val % 128, by omega⟩ ⟨j.val % 128, by omega⟩)

/-- The same in terms of the activation and the mixed rows of a tile. -/
theorem gateAt_eq (up vp : S512x1024.Idx → EReal) (w b : S8x128x128.Idx → EReal) (g : S1x1024.Idx → EReal) (r : Fin 512) (j : Fin 1024) :
    gateAt up vp w b g r j = Cert.Mixer.gelu (Cert.Mixer.tile up ⟨r.val / 128, by omega⟩ j ⟨r.val % 128, by omega⟩ ⟨j.val % 128, by omega⟩)
      * Cert.Mixer.mixed (Cert.Mixer.tile vp ⟨r.val / 128, by omega⟩ j) (Cert.Mixer.head w j) (Cert.Mixer.head b j) (Cert.Mixer.lanes g j)
        ⟨r.val % 128, by omega⟩ ⟨j.val % 128, by omega⟩ := by
  unfold gateAt root
  rw [act_eq]
  rfl

variable (m : (ℓ : Loc nD τ sig) → Buf (Elt Ideal) ℓ)

/-- Each point stores the gated rows in the first half of its block. -/
theorem gate (c : Dev nD) (t : Fin cfg0.N) (y : S512x2048.Idx) (hu : (y 1).val < 1024) :
    outsAt0 m c t y = gateAt (iblk m c 0 t) (iblk m c 1 t) (iblk m c 4 t) (iblk m c 5 t) (iblk m c 6 t) (y 0) ⟨(y 1).val, hu⟩ := by
  unfold outsAt0
  frame_out
  canon_tiles x h using (View.cover_of_tiledBy _ ![128, 128] (by sl_kernel_rfl) y)
  all_goals
    first
      | (exfalso; omega)
      | (unfold_payloads
         simp only [read_unread_whole]
         pointwise [gateAt, act, root, Cert.Mixer.tile, Cert.Mixer.head, Cert.Mixer.lanes]
         blk_point [iblk])

end Cert.MixIdeal.Sound
end
-- ==== Proof.MixPool.lean ====
module

public import proofs.«01_k».proof.Proof.MixerSpec
public import proofs.«01_k».proof.Proof.Gen.MixIdeal.Value
public import Idealize.ShloMosaic.Lib.Pipeline.ReadBack

/-! The second half of a block of the mixer's forward call: the pooled groups. -/

@[expose] public section

set_option maxRecDepth 16384
set_option maxHeartbeats 40000000

noncomputable section

namespace Cert.MixIdeal.Sound

open Cert.Mixer Cert.MixIdeal Cert.MixIdeal.Gen Idealize.ShloMosaic Idealize.ShloMosaic.TcCoe Idealize.SL.Sem

/-- A pooled group at a place of a block: its rows times the group's weights and scale. -/
def poolAt (i : ℕ) (z : S512x1024.Idx → EReal) (zh : S16x1024.Idx → EReal) (wp : S4x256x256.Idx → EReal) (sc : S1x1024.Idx → EReal)
    (g : Fin 4) (r : Fin 512) (b : Fin 256) : EReal :=
  (∑ a : Fin 256, pooledOf i g z zh r a * wp (ix3 g a b)) * scaleOf sc g b

/-- What is stored for a group, over its pooled rows. -/
theorem pool_store (Q : FVec Ideal S512x256 .f32) (W : FVec Ideal S256x256 .bf16) (S : FVec Ideal S1x256 .f32) (hb : FTy.bits .bf16 < FTy.bits .f32)
    (h5 : S1x256.Broadcasts S512x256) (h7 : S512x256.ShapeCasts S512x256) (x : S512x256.Idx) :
    shapeCast S512x256 (truncf (F := Ideal) (φ := .f32) FTy.bf16 (mulf (matmul (φ₁ := .bf16) (φ₂ := .bf16) dot_S512x256_S256x256_S512x256_1_0_0_1_n_n none
      (truncf (F := Ideal) (φ := .f32) FTy.bf16 Q hb) W (constant S512x256 FTy.f32 0#32)) (broadcastTo S512x256 S h5)) hb) h7 x
      = (∑ a : Fin 256, Q (ix2 (n0 := 512) (n1 := 256) (x 0) a) * W (ix2 (n0 := 256) (n1 := 256) a (x 1))) * S (ix2 (n0 := 1) (n1 := 256) (0 : Fin 1) (x 1)) := by
  pointwise

/-- The store of the group of window 2. -/
theorem pool_chunk2 (z z' : S512x1024.Idx → EReal) (zh zh' : S16x1024.Idx → EReal) (hz : z' = z) (hzh : zh' = zh) (wp wp' : S4x256x256.Idx → EReal)
    (hwp : wp' = wp) (sc sc' : S1x1024.Idx → EReal) (hsc : sc' = sc) (hr : S528x256.Rotates 0 none) (hi0 : S512x1.Iotas .tc 32 [0]) (hb1 : S512x1.Broadcasts S512x256) (hc : Shape.Concatenates [S16x256, S512x256] S528x256 0) (hs : S528x256.Slices ![16, 0] S512x256) (i : ℕ) (hi : i < 8)
    (inb inbh inbw inbs) (hb : FTy.bits .bf16 < FTy.bits .f32) (h5 : S1x256.Broadcasts S512x256) (h7 : S512x256.ShapeCasts S512x256)
    (h6 : S1x256x256.ShapeCasts S256x256) (x : S512x256.Idx) (g : Fin 4) (r : Fin 512) (b : Fin 256) (hg : g.val = 0) (h0 : r.val = (x 0).val) (hd : b.val = (x 1).val) :
    shapeCast S512x256 (truncf (F := Ideal) (φ := .f32) FTy.bf16 (mulf (matmul (φ₁ := .bf16) (φ₂ := .bf16) dot_S512x256_S256x256_S512x256_1_0_0_1_n_n none
      (truncf (F := Ideal) (φ := .f32) FTy.bf16 (subf (mulf (extractStridedSlice S512x256 ![16, 0]
        (roll 1#32 hr (concatenate S528x256 0 [⟨S16x256, Scalar.select (Scalar.cmpi CmpIPredicate.sgt (BitVec.ofNat 32 i) 0#32) (View.ld (Val := Elt Ideal) (e' := .f32) zh' (Rect.unit ![0, 0] ![16, 256] inbh)) (broadcast S16x256 (FloatOps.ofBits (F := Ideal) FTy.f32 0#32))⟩, ⟨S512x256, (View.ld (Val := Elt Ideal) (e' := .f32) z' (Rect.unit ![0, 0] ![512, 256] inb))⟩] hc : FVec Ideal S528x256 .f32)) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 2))))) hb1)) (View.ld (Val := Elt Ideal) (e' := .f32) z (Rect.unit ![0, 0] ![512, 256] inb))) hb)
      (shapeCast S256x256 (View.ld (Val := Elt Ideal) (e' := .bf16) wp' (Rect.unit ![0, 0, 0] ![1, 256, 256] inbw)) h6) (constant S512x256 FTy.f32 0#32))
      (broadcastTo S512x256 (View.ld (Val := Elt Ideal) (e' := .f32) sc' (Rect.unit ![0, 0] ![1, 256] inbs)) h5)) hb) h7 x = poolAt i z zh wp sc g r b := by
  subst hz hzh hwp hsc
  obtain rfl := Fin.ext h0
  obtain rfl := Fin.ext hd
  obtain rfl : g = 0 := Fin.ext hg
  refine (pool_store _ _ _ hb h5 h7 x).trans (congrArg₂ (· * ·) (Finset.sum_congr rfl fun a _ => congrArg₂ (· * ·) ?_ ?_) ?_)
  · rw [pool_window2 hr hi0 hb1 hc hs i hi, ld_cols z' inb 0 rfl, ld_cols16 zh' inbh 0 rfl]
    rfl
  · exact ld_group wp' inbw h6 0 rfl a _
  · exact ld_scale sc' inbs 0 rfl _

/-- The store of the group of window 4. -/
theorem pool_chunk4 (z z' : S512x1024.Idx → EReal) (zh zh' : S16x1024.Idx → EReal) (hz : z' = z) (hzh : zh' = zh) (wp wp' : S4x256x256.Idx → EReal)
    (hwp : wp' = wp) (sc sc' : S1x1024.Idx → EReal) (hsc : sc' = sc) (hr : S528x256.Rotates 0 none) (hi0 : S512x1.Iotas .tc 32 [0]) (hb1 : S512x1.Broadcasts S512x256) (hc : Shape.Concatenates [S16x256, S512x256] S528x256 0) (hs : S528x256.Slices ![16, 0] S512x256) (i : ℕ) (hi : i < 8)
    (inb inbh inbw inbs) (hb : FTy.bits .bf16 < FTy.bits .f32) (h5 : S1x256.Broadcasts S512x256) (h7 : S512x256.ShapeCasts S512x256)
    (h6 : S1x256x256.ShapeCasts S256x256) (x : S512x256.Idx) (g : Fin 4) (r : Fin 512) (b : Fin 256) (hg : g.val = 1) (h0 : r.val = (x 0).val) (hd : b.val = (x 1).val) :
    shapeCast S512x256 (truncf (F := Ideal) (φ := .f32) FTy.bf16 (mulf (matmul (φ₁ := .bf16) (φ₂ := .bf16) dot_S512x256_S256x256_S512x256_1_0_0_1_n_n none
      (truncf (F := Ideal) (φ := .f32) FTy.bf16 (subf (mulf (extractStridedSlice S512x256 ![16, 0]
        (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 256] ![16, 256] inbh)) (broadcast S16x256 (FloatOps.ofBits (F := Ideal) FTy.f32 0#32))⟩, ⟨S512x256, (View.ld (Val := Elt Ideal) (e' := .f32) z' (Rect.unit ![0, 256] ![512, 256] inb))⟩] hc : FVec Ideal S528x256 .f32))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 4))))) hb1)) (View.ld (Val := Elt Ideal) (e' := .f32) z (Rect.unit ![0, 256] ![512, 256] inb))) hb)
      (shapeCast S256x256 (View.ld (Val := Elt Ideal) (e' := .bf16) wp' (Rect.unit ![1, 0, 0] ![1, 256, 256] inbw)) h6) (constant S512x256 FTy.f32 0#32))
      (broadcastTo S512x256 (View.ld (Val := Elt Ideal) (e' := .f32) sc' (Rect.unit ![0, 256] ![1, 256] inbs)) h5)) hb) h7 x = poolAt i z zh wp sc g r b := by
  subst hz hzh hwp hsc
  obtain rfl := Fin.ext h0
  obtain rfl := Fin.ext hd
  obtain rfl : g = 1 := Fin.ext hg
  refine (pool_store _ _ _ hb h5 h7 x).trans (congrArg₂ (· * ·) (Finset.sum_congr rfl fun a _ => congrArg₂ (· * ·) ?_ ?_) ?_)
  · rw [pool_window4 hr hi0 hb1 hc hs i hi, ld_cols z' inb 1 rfl, ld_cols16 zh' inbh 1 rfl]
    rfl
  · exact ld_group wp' inbw h6 1 rfl a _
  · exact ld_scale sc' inbs 1 rfl _

/-- The store of the group of window 8. -/
theorem pool_chunk8 (z z' : S512x1024.Idx → EReal) (zh zh' : S16x1024.Idx → EReal) (hz : z' = z) (hzh : zh' = zh) (wp wp' : S4x256x256.Idx → EReal)
    (hwp : wp' = wp) (sc sc' : S1x1024.Idx → EReal) (hsc : sc' = sc) (hr : S528x256.Rotates 0 none) (hi0 : S512x1.Iotas .tc 32 [0]) (hb1 : S512x1.Broadcasts S512x256) (hc : Shape.Concatenates [S16x256, S512x256] S528x256 0) (hs : S528x256.Slices ![16, 0] S512x256) (i : ℕ) (hi : i < 8)
    (inb inbh inbw inbs) (hb : FTy.bits .bf16 < FTy.bits .f32) (h5 : S1x256.Broadcasts S512x256) (h7 : S512x256.ShapeCasts S512x256)
    (h6 : S1x256x256.ShapeCasts S256x256) (x : S512x256.Idx) (g : Fin 4) (r : Fin 512) (b : Fin 256) (hg : g.val = 2) (h0 : r.val = (x 0).val) (hd : b.val = (x 1).val) :
    shapeCast S512x256 (truncf (F := Ideal) (φ := .f32) FTy.bf16 (mulf (matmul (φ₁ := .bf16) (φ₂ := .bf16) dot_S512x256_S256x256_S512x256_1_0_0_1_n_n none
      (truncf (F := Ideal) (φ := .f32) FTy.bf16 (subf (mulf (extractStridedSlice S512x256 ![16, 0]
        (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 512] ![16, 256] inbh)) (broadcast S16x256 (FloatOps.ofBits (F := Ideal) FTy.f32 0#32))⟩, ⟨S512x256, (View.ld (Val := Elt Ideal) (e' := .f32) z' (Rect.unit ![0, 512] ![512, 256] inb))⟩] hc : FVec Ideal S528x256 .f32)))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 8))))) hb1)) (View.ld (Val := Elt Ideal) (e' := .f32) z (Rect.unit ![0, 512] ![512, 256] inb))) hb)
      (shapeCast S256x256 (View.ld (Val := Elt Ideal) (e' := .bf16) wp' (Rect.unit ![2, 0, 0] ![1, 256, 256] inbw)) h6) (constant S512x256 FTy.f32 0#32))
      (broadcastTo S512x256 (View.ld (Val := Elt Ideal) (e' := .f32) sc' (Rect.unit ![0, 512] ![1, 256] inbs)) h5)) hb) h7 x = poolAt i z zh wp sc g r b := by
  subst hz hzh hwp hsc
  obtain rfl := Fin.ext h0
  obtain rfl := Fin.ext hd
  obtain rfl : g = 2 := Fin.ext hg
  refine (pool_store _ _ _ hb h5 h7 x).trans (congrArg₂ (· * ·) (Finset.sum_congr rfl fun a _ => congrArg₂ (· * ·) ?_ ?_) ?_)
  · rw [pool_window8 hr hi0 hb1 hc hs i hi, ld_cols z' inb 2 rfl, ld_cols16 zh' inbh 2 rfl]
    rfl
  · exact ld_group wp' inbw h6 2 rfl a _
  · exact ld_scale sc' inbs 2 rfl _

/-- The store of the group of window 16. -/
theorem pool_chunk16 (z z' : S512x1024.Idx → EReal) (zh zh' : S16x1024.Idx → EReal) (hz : z' = z) (hzh : zh' = zh) (wp wp' : S4x256x256.Idx → EReal)
    (hwp : wp' = wp) (sc sc' : S1x1024.Idx → EReal) (hsc : sc' = sc) (hr : S528x256.Rotates 0 none) (hi0 : S512x1.Iotas .tc 32 [0]) (hb1 : S512x1.Broadcasts S512x256) (hc : Shape.Concatenates [S16x256, S512x256] S528x256 0) (hs : S528x256.Slices ![16, 0] S512x256) (i : ℕ) (hi : i < 8)
    (inb inbh inbw inbs) (hb : FTy.bits .bf16 < FTy.bits .f32) (h5 : S1x256.Broadcasts S512x256) (h7 : S512x256.ShapeCasts S512x256)
    (h6 : S1x256x256.ShapeCasts S256x256) (x : S512x256.Idx) (g : Fin 4) (r : Fin 512) (b : Fin 256) (hg : g.val = 3) (h0 : r.val = (x 0).val) (hd : b.val = (x 1).val) :
    shapeCast S512x256 (truncf (F := Ideal) (φ := .f32) FTy.bf16 (mulf (matmul (φ₁ := .bf16) (φ₂ := .bf16) dot_S512x256_S256x256_S512x256_1_0_0_1_n_n none
      (truncf (F := Ideal) (φ := .f32) FTy.bf16 (subf (mulf (extractStridedSlice S512x256 ![16, 0]
        (roll 8#32 hr (roll 4#32 hr (roll 2#32 hr (roll 1#32 hr (concatenate S528x256 0 [⟨S16x256, Scalar.select (Scalar.cmpi CmpIPredicate.sgt (BitVec.ofNat 32 i) 0#32) (View.ld (Val := Elt Ideal) (e' := .f32) zh' (Rect.unit ![0, 768] ![16, 256] inbh)) (broadcast S16x256 (FloatOps.ofBits (F := Ideal) FTy.f32 0#32))⟩, ⟨S512x256, (View.ld (Val := Elt Ideal) (e' := .f32) z' (Rect.unit ![0, 768] ![512, 256] inb))⟩] hc : FVec Ideal S528x256 .f32))))) hs) (broadcastTo S512x256 (divf (broadcast S512x1 (FloatOps.ofBits (F := Ideal) FTy.f32 1065353216#32)) (sitofp (F := Ideal) FTy.f32 (minsi (addi (addi (broadcast S512x1 (Scalar.muli (BitVec.ofNat 32 i) 512#32)) (iota Kind.tc S512x1 32 [0] hi0)) (broadcast S512x1 1#32)) (broadcast S512x1 (BitVec.ofNat 32 16))))) hb1)) (View.ld (Val := Elt Ideal) (e' := .f32) z (Rect.unit ![0, 768] ![512, 256] inb))) hb)
      (shapeCast S256x256 (View.ld (Val := Elt Ideal) (e' := .bf16) wp' (Rect.unit ![3, 0, 0] ![1, 256, 256] inbw)) h6) (constant S512x256 FTy.f32 0#32))
      (broadcastTo S512x256 (View.ld (Val := Elt Ideal) (e' := .f32) sc' (Rect.unit ![0, 768] ![1, 256] inbs)) h5)) hb) h7 x = poolAt i z zh wp sc g r b := by
  subst hz hzh hwp hsc
  obtain rfl := Fin.ext h0
  obtain rfl := Fin.ext hd
  obtain rfl : g = 3 := Fin.ext hg
  refine (pool_store _ _ _ hb h5 h7 x).trans (congrArg₂ (· * ·) (Finset.sum_congr rfl fun a _ => congrArg₂ (· * ·) ?_ ?_) ?_)
  · rw [pool_window16 hr hi0 hb1 hc hs i hi, ld_cols z' inb 3 rfl, ld_cols16 zh' inbh 3 rfl]
    rfl
  · exact ld_group wp' inbw h6 3 rfl a _
  · exact ld_scale sc' inbs 3 rfl _

variable (m : (ℓ : Loc nD τ sig) → Buf (Elt Ideal) ℓ)

/-- Each point stores the pooled groups in the second half of its block. -/
theorem pools (c : Dev nD) (t : Fin cfg0.N) (y : S512x2048.Idx) (hl : 1024 ≤ (y 1).val) :
    outsAt0 m c t y = poolAt (grid0.coords t 0).val (iblk m c 2 t) (iblk m c 3 t) (iblk m c 7 t) (iblk m c 8 t)
      (⟨((y 1).val - 1024) / 256, by have h : (y 1).val < 2048 := (y 1).isLt; omega⟩ : Fin 4) (y 0) (⟨(y 1).val % 256, Nat.mod_lt _ (by omega)⟩ : Fin 256) := by
  unfold outsAt0
  frame_out
  canon_tiles x h using (View.cover_of_tiledBy _ ![128, 128] (by sl_kernel_rfl) y)
  on_goal 1 =>
    unfold_payloads
    try dsimp only
    refine pool_chunk16 _ _ _ _ (by first | exact Memref.IsWhole.read_unread _ _ | rfl) (by first | exact Memref.IsWhole.read_unread _ _ | rfl) _ _ (by first | exact Memref.IsWhole.read_unread _ _ | rfl) _ _ (by first | exact Memref.IsWhole.read_unread _ _ | rfl) _ _ _ _ _ _ (grid0.coords t 0).isLt _ _ _ _ _ _ _ _ x _ _ _ ?_ ?_ ?_
    · show ((y 1).val - 1024) / 256 = 3
      omega
    · omega
    · show (y 1).val % 256 = (x 1).val
      omega
  on_goal 1 =>
    unfold_payloads
    try dsimp only
    refine pool_chunk8 _ _ _ _ (by first | exact Memref.IsWhole.read_unread _ _ | rfl) (by first | exact Memref.IsWhole.read_unread _ _ | rfl) _ _ (by first | exact Memref.IsWhole.read_unread _ _ | rfl) _ _ (by first | exact Memref.IsWhole.read_unread _ _ | rfl) _ _ _ _ _ _ (grid0.coords t 0).isLt _ _ _ _ _ _ _ _ x _ _ _ ?_ ?_ ?_
    · show ((y 1).val - 1024) / 256 = 2
      omega
    · omega
    · show (y 1).val % 256 = (x 1).val
      omega
  on_goal 1 =>
    unfold_payloads
    try dsimp only
    refine pool_chunk4 _ _ _ _ (by first | exact Memref.IsWhole.read_unread _ _ | rfl) (by first | exact Memref.IsWhole.read_unread _ _ | rfl) _ _ (by first | exact Memref.IsWhole.read_unread _ _ | rfl) _ _ (by first | exact Memref.IsWhole.read_unread _ _ | rfl) _ _ _ _ _ _ (grid0.coords t 0).isLt _ _ _ _ _ _ _ _ x _ _ _ ?_ ?_ ?_
    · show ((y 1).val - 1024) / 256 = 1
      omega
    · omega
    · show (y 1).val % 256 = (x 1).val
      omega
  on_goal 1 =>
    unfold_payloads
    try dsimp only
    refine pool_chunk2 _ _ _ _ (by first | exact Memref.IsWhole.read_unread _ _ | rfl) (by first | exact Memref.IsWhole.read_unread _ _ | rfl) _ _ (by first | exact Memref.IsWhole.read_unread _ _ | rfl) _ _ (by first | exact Memref.IsWhole.read_unread _ _ | rfl) _ _ _ _ _ _ (grid0.coords t 0).isLt _ _ _ _ _ _ _ _ x _ _ _ ?_ ?_ ?_
    · show ((y 1).val - 1024) / 256 = 0
      omega
    · omega
    · show (y 1).val % 256 = (x 1).val
      omega
  all_goals
    exfalso
    omega

end Cert.MixIdeal.Sound
end
-- ==== Proof.MixRef.lean ====
module

public import proofs.«01_k».proof.Proof.MixerRefScale
public import proofs.«01_k».proof.Proof.MixerRefMix
public import proofs.«01_k».proof.Proof.Gen.MixRefIdeal
public import proofs.«01_k».proof.Proof.Gen.MixRefIdeal.Read

/-! The reference of the mixer's forward call, at a place. Its lines are the forward lines of the reference of the backward
call, which that call's modules have read. -/

@[expose] public section

set_option maxRecDepth 16384

noncomputable section

namespace Cert.Mix

open Cert.Mixer Cert.Mixer.Ref Cert.MixRefIdeal Cert.MixRefIdeal.Read Idealize.ShloMosaic Idealize.ShloMosaic.TcCoe

/-- What the call computes, over whole arrays: the gated rows, then the pooled groups. -/
def mixArr (p : S4096x3072.Idx → EReal) (w b : S8x128x128.Idx → EReal) (g : S1x1024.Idx → EReal) (wp : S4x256x256.Idx → EReal) (sc : S1x1024.Idx → EReal)
    (i : S4096x2048.Idx) : EReal :=
  if h : (i 1).val < 1024 then
    gelu (third p 0 (i 0) ⟨(i 1).val, h⟩) * mixed (chunk (third p 1) (chunkOf (i 0)) (headOf ⟨(i 1).val, h⟩)) (slab w (headOf ⟨(i 1).val, h⟩))
      (slab b (headOf ⟨(i 1).val, h⟩)) (gains g (headOf ⟨(i 1).val, h⟩)) (rowOf (i 0)) (laneOf ⟨(i 1).val, h⟩)
  else (fun j : Fin 1024 => (∑ a : Fin 256, pooledA (third p 2) (groupOf j) (i 0) a * wp (ix3 (groupOf j) a (inGroup j))) * scaleOf sc (groupOf j) (inGroup j))
    ⟨(i 1).val - 1024, by have h : (i 1).val < 2048 := (i 1).isLt; omega⟩

section
variable (p : S4096x3072.Idx → EReal) (ws : S1x8x128x128.Idx → EReal) (bs : S1x8x128.Idx → EReal) (g : S1x1024.Idx → EReal)

/-- The activated gate is the backward reference's. -/
theorem same_act : val_main_v16 (F := Ideal) p = Cert.MixerRefIdeal.Read.val_main_v26 (F := Ideal) p := rfl

/-- The normalised rows are the backward reference's, -/
theorem same_rows : val_main_v52 (F := Ideal) p g = Cert.MixerRefIdeal.Read.val_main_v73 (F := Ideal) p g := rfl

/-- and so are the masked weights, -/
theorem same_weights : val_main_v57 (F := Ideal) ws = Cert.MixerRefIdeal.Read.val_main_v78_0 (F := Ideal) ws := rfl

/-- the mixed rows, -/
theorem same_mixed : val_main_v63 (F := Ideal) p ws bs g = Cert.MixerRefIdeal.Read.val_main_v84 (F := Ideal) p ws bs g := by
  unfold val_main_v63 Cert.MixerRefIdeal.Read.val_main_v84 val_main_v59 Cert.MixerRefIdeal.Read.val_main_v80 val_main_v58 Cert.MixerRefIdeal.Read.val_main_v79
  rw [same_rows, same_weights]
  rfl

/-- and the pooled rows. -/
theorem same_pooled : val_main_v150 (F := Ideal) p = Cert.MixerRefIdeal.Read.val_main_v176 (F := Ideal) p := rfl

/-- The reference's gated rows. -/
theorem gate_ref (T : Fin 4096) (j : Fin 1024) (y : S1x4096x1024.Idx) (hy : y = ix3 0 T j) : val_main_v65 (F := Ideal) p ws bs g y
    = gelu (third p 0 T j) * mixed (chunk (third p 1) (chunkOf T) (headOf j)) (slab (tril ws) (headOf j)) (slab (biases bs) (headOf j)) (gains g (headOf j)) (rowOf T) (laneOf j) := by
  rw [val_main_v65_apply, same_act, gelu_u p T j y hy, val_main_v64_apply, same_mixed]
  refine congrArg (_ * ·) (mixed_v p ws bs g (chunkOf T) (rowOf T) (headOf j) (laneOf j) _ ?_)
  subst hy
  funext a; fin_cases a <;> apply Fin.ext <;> simp [chunkOf, rowOf, headOf, laneOf] <;> omega

/-- The reference's pooled groups. -/
theorem pool_ref (wp : S1x4x256x256.Idx → EReal) (sc : S1x1024.Idx → EReal) (hp : ∀ i, IsReal (p i)) (T : Fin 4096) (j : Fin 1024) (y : S1x4096x1024.Idx)
    (hy : y = ix3 0 T j) : val_main_v156 (F := Ideal) p wp sc y
    = (∑ a : Fin 256, pooledA (third p 2) (groupOf j) T a * weights wp (ix3 (groupOf j) a (inGroup j))) * scaleOf sc (groupOf j) (inGroup j) := by
  subst hy
  have e4 : idx_main_v152 (idx_main_v153 (ix3 (0 : Fin 1) T j)) = ix4 (groupOf j) (inGroup j) (0 : Fin 1) T := by
    funext a; fin_cases a <;> apply Fin.ext <;> simp [groupOf, inGroup] <;> omega
  rw [val_main_v156_apply, val_main_v153_apply, val_main_v152_apply, e4, val_main_v151_apply, val_main_v155_apply, val_main_v154_apply, val_main_v67_apply]
  refine congrArg₂ (· * ·) (Finset.sum_congr rfl fun a _ => ?_) ?_
  · rw [same_pooled, pooled_at p hp T (groupOf j) a _ (by funext a; fin_cases a <;> rfl)]
    refine (congrArg (· * _) (weights_at wp (groupOf j) a (inGroup j) _ (by funext a; fin_cases a <;> rfl))).trans ?_
    exact mul_comm _ _
  · unfold scaleOf
    exact congrArg sc (by funext b; fin_cases b <;> apply Fin.ext <;> simp [groupOf, inGroup] <;> omega)

/-- The reference. -/
theorem mix_ref (wp : S1x4x256x256.Idx → EReal) (sc : S1x1024.Idx → EReal) (hp : ∀ i, IsReal (p i)) :
    val_main_v159 (F := Ideal) p ws bs g wp sc = mixArr p (tril ws) (biases bs) g (weights wp) sc := by
  funext y
  have h0 : (y 0).val < 4096 := (y 0).isLt
  have h1 : (y 1).val < 2048 := (y 1).isLt
  refine (val_main_v158_apply (F := Ideal) p ws bs g wp sc y).trans ?_
  unfold val_main_v157 mixArr
  rw [concatenate_pair_apply]
  by_cases h : (y 1).val < 1024
  · rw [dif_pos h]
    refine (dif_pos (by show ((y 0).val * 2048 + (y 1).val) % 2048 < 1024; omega)).trans ?_
    refine gate_ref p ws bs g (y 0) ⟨(y 1).val, h⟩ _ ?_
    funext a; fin_cases a
    · exact Subsingleton.elim (α := Fin 1) _ _
    · exact Fin.ext (by show ((y 0).val * 2048 + (y 1).val) / 2048 % 4096 = (y 0).val; omega)
    · exact Fin.ext (by show ((y 0).val * 2048 + (y 1).val) % 2048 = (y 1).val; omega)
  · rw [dif_neg h]
    refine (dif_neg (by show ¬((y 0).val * 2048 + (y 1).val) % 2048 < 1024; omega)).trans ?_
    refine pool_ref p wp sc hp (y 0) ⟨(y 1).val - 1024, by omega⟩ _ ?_
    funext a; fin_cases a
    · exact Subsingleton.elim (α := Fin 1) _ _
    · exact Fin.ext (by show ((y 0).val * 2048 + (y 1).val) / 2048 % 4096 = (y 0).val; omega)
    · exact Fin.ext (by show ((y 0).val * 2048 + (y 1).val) % 2048 - 1024 = (y 1).val - 1024; omega)

end

end Cert.Mix
end
-- ==== Proof.MixArrays.lean ====
module

public import proofs.«01_k».proof.Proof.MixGate
public import proofs.«01_k».proof.Proof.MixPool
public import proofs.«01_k».proof.Proof.MixRef
public import Idealize.ShloMosaic.Lib.StableHlo.ReadAt

/-! The result of the mixer's forward call, over whole arrays. -/

@[expose] public section

set_option maxRecDepth 16384
set_option maxHeartbeats 40000000

noncomputable section

namespace Cert.MixIdeal.Sound

open Cert.Mixer Cert.Mixer.Ref Cert.Mix Cert.MixIdeal Cert.MixIdeal.Gen Idealize.ShloMosaic Idealize.ShloMosaic.TcCoe Idealize.SL.Sem

variable (m : (ℓ : Loc nD τ sig) → Buf (Elt Ideal) ℓ)

/-- Where the windows stand at a grid point. -/
theorem idx : ∀ t : Fin cfg0.N, win0_0.index t = ![t.val, 0] ∧ win0_1.index t = ![t.val, 1] ∧ win0_2.index t = ![t.val, 2]
    ∧ win0_3.index t = ![32 * t.val - 1, 2] ∧ win0_4.index t = ![0, 0, 0] ∧ win0_5.index t = ![0, 0, 0]
    ∧ win0_6.index t = ![0, 0] ∧ win0_7.index t = ![0, 0, 0] ∧ win0_8.index t = ![0, 0]
    ∧ win0_9.index t = ![t.val, 0] ∧ (grid0.coords t 0).val = t.val :=
  (by decide +kernel : ∀ t : Fin grid0.N, _)

/-- The grid has 8 points. -/
theorem lt_8 (t : Fin cfg0.N) : t.val < 8 := lt_of_lt_of_eq t.isLt N_0

/-- A chunk of the block's gates. -/
theorem tile_u (c : Dev nD) (t : Fin cfg0.N) (q : Fin 4) (j : Fin 1024) :
    tile (iblk m c 0 t) q j = chunk (third (V m c main_arg0) 0) ⟨t.val * 4 + q.val, by have := lt_8 t; omega⟩ (headOf j) := by
  have hN := lt_8 t
  obtain ⟨e0, e1, e2, e3, e4, e5, e6, e7, e8, e9, e10⟩ := idx t
  funext r d
  simp only [tile, chunk, third, headOf]
  blk_point [iblk, e0]

/-- A chunk of the block's mixed rows. -/
theorem tile_v (c : Dev nD) (t : Fin cfg0.N) (q : Fin 4) (j : Fin 1024) :
    tile (iblk m c 1 t) q j = chunk (third (V m c main_arg0) 1) ⟨t.val * 4 + q.val, by have := lt_8 t; omega⟩ (headOf j) := by
  have hN := lt_8 t
  obtain ⟨e0, e1, e2, e3, e4, e5, e6, e7, e8, e9, e10⟩ := idx t
  funext r d
  simp only [tile, chunk, third, headOf]
  blk_point [iblk, e1]

/-- The arrays staged whole: the weights, -/
theorem whole_w (c : Dev nD) (t : Fin cfg0.N) : iblk m c 4 t = V m c main_v5 := by
  obtain ⟨e0, e1, e2, e3, e4, e5, e6, e7, e8, e9, e10⟩ := idx t
  funext y
  blk_point [iblk, e4]

/-- the biases, -/
theorem whole_b (c : Dev nD) (t : Fin cfg0.N) : iblk m c 5 t = V m c main_v8 := by
  obtain ⟨e0, e1, e2, e3, e4, e5, e6, e7, e8, e9, e10⟩ := idx t
  funext y
  blk_point [iblk, e5]

/-- the gains, -/
theorem whole_g (c : Dev nD) (t : Fin cfg0.N) : iblk m c 6 t = V m c main_arg3 := by
  obtain ⟨e0, e1, e2, e3, e4, e5, e6, e7, e8, e9, e10⟩ := idx t
  funext y
  blk_point [iblk, e6]

/-- the pooling weights, -/
theorem whole_wp (c : Dev nD) (t : Fin cfg0.N) : iblk m c 7 t = V m c main_v10 := by
  obtain ⟨e0, e1, e2, e3, e4, e5, e6, e7, e8, e9, e10⟩ := idx t
  funext y
  blk_point [iblk, e7]

/-- and the pooling scales. -/
theorem whole_sc (c : Dev nD) (t : Fin cfg0.N) : iblk m c 8 t = V m c main_arg5 := by
  obtain ⟨e0, e1, e2, e3, e4, e5, e6, e7, e8, e9, e10⟩ := idx t
  funext y
  blk_point [iblk, e8]

/-- A place of the block's pooled argument. -/
theorem at_z (c : Dev nD) (t : Fin cfg0.N) (r : Fin 512) (j : Fin 1024) (T : Fin 4096) (hT : T.val = t.val * 512 + r.val) :
    iblk m c 2 t (ix2 r j) = third (V m c main_arg0) 2 T j := by
  obtain ⟨e0, e1, e2, e3, e4, e5, e6, e7, e8, e9, e10⟩ := idx t
  unfold third
  blk_point [iblk, e2]

/-- A place of the sixteen rows before the block. -/
theorem at_zh (c : Dev nD) (t : Fin cfg0.N) (ht : 0 < t.val) (r : Fin 16) (j : Fin 1024) (T : Fin 4096) (hT : T.val + 16 = t.val * 512 + r.val) :
    iblk m c 3 t (ix2 r j) = third (V m c main_arg0) 2 T j := by
  obtain ⟨e0, e1, e2, e3, e4, e5, e6, e7, e8, e9, e10⟩ := idx t
  unfold third
  blk_point [iblk, e3]

/-- A block's pooled rows are the array's. -/
theorem pooled_eq (c : Dev nD) (t : Fin cfg0.N) (g : Fin 4) (r : Fin 512) (a : Fin 256) (T : Fin 4096) (hT : T.val = t.val * 512 + r.val) :
    pooledOf (grid0.coords t 0).val g (iblk m c 2 t) (iblk m c 3 t) r a = pooledA (third (V m c main_arg0) 2) g T a := by
  have hN := lt_8 t
  have hw : win g ≤ 16 := by unfold win; fin_cases g <;> simp
  have hi : (grid0.coords t 0).val = t.val := (idx t).2.2.2.2.2.2.2.2.2.2
  rw [hi]
  unfold pooledOf poolOf pooledA
  refine congrArg₂ (· - ·) (congrArg₂ (· * ·) (Finset.sum_congr rfl fun k _ => ?_) (congrArg (invc · _) (by omega))) (at_z m c t r (lane g a) T hT)
  have hk := k.isLt
  by_cases h : k.val ≤ r.val
  · rw [if_pos h, if_pos (by omega)]
    exact at_z m c t ⟨r.val - k.val, by omega⟩ (lane g a) ⟨T.val - k.val, by omega⟩ (by simp only; omega)
  · rw [if_neg h]
    by_cases ht : 0 < t.val
    · rw [if_pos ht, if_pos (by omega)]
      refine at_zh m c t ht ⟨(16 + r.val - k.val) % 16, Nat.mod_lt _ (by omega)⟩ (lane g a) ⟨T.val - k.val, by omega⟩ ?_
      simp only
      omega
    · rw [if_neg ht, if_neg (by omega)]

/-- A block's gated rows are the array's. -/
theorem gate_eq (c : Dev nD) (t : Fin cfg0.N) (r : Fin 512) (j : Fin 1024) (T : Fin 4096) (hT : T.val = t.val * 512 + r.val) :
    gateAt (iblk m c 0 t) (iblk m c 1 t) (iblk m c 4 t) (iblk m c 5 t) (iblk m c 6 t) r j
    = gelu (third (V m c main_arg0) 0 T j) * mixed (chunk (third (V m c main_arg0) 1) (chunkOf T) (headOf j)) (slab (V m c main_v5) (headOf j))
      (slab (V m c main_v8) (headOf j)) (gains (V m c main_arg3) (headOf j)) (rowOf T) (laneOf j) := by
  have hN := lt_8 t
  have hc : (⟨t.val * 4 + r.val / 128, by omega⟩ : Fin 32) = chunkOf T := Fin.ext (by simp only [chunkOf]; omega)
  have hr : (⟨r.val % 128, by omega⟩ : Fin 128) = rowOf T := Fin.ext (by simp only [rowOf]; omega)
  rw [gateAt_eq, tile_u, tile_v, whole_w, whole_b, whole_g]
  refine congrArg₂ (· * ·) (congrArg gelu ?_) ?_
  · unfold chunk
    exact congrArg₂ (third (V m c main_arg0) 0) (Fin.ext (by simp only; omega)) (Fin.ext (by simp only [headOf]; omega))
  · rw [hr]
    exact congrArg (fun n => mixed (chunk (third (V m c main_arg0) 1) n (headOf j)) _ _ _ (rowOf T) (laneOf j)) hc

/-- A block's pooled groups are the array's. -/
theorem pools_eq (c : Dev nD) (t : Fin cfg0.N) (g : Fin 4) (r : Fin 512) (b : Fin 256) (T : Fin 4096) (hT : T.val = t.val * 512 + r.val) :
    poolAt (grid0.coords t 0).val (iblk m c 2 t) (iblk m c 3 t) (iblk m c 7 t) (iblk m c 8 t) g r b
    = (∑ a : Fin 256, pooledA (third (V m c main_arg0) 2) g T a * V m c main_v10 (ix3 g a b)) * scaleOf (V m c main_arg5) g b := by
  rw [whole_wp, whole_sc]
  unfold poolAt
  exact congrArg (· * _) (Finset.sum_congr rfl fun a _ => congrArg (· * _) (pooled_eq m c t g r a T hT))

/-- The result's array. -/
theorem mix_array (c : Dev nD) : (dats m 0 c).arrAt 9 cfg0.N
    = mixArr (V m c main_arg0) (V m c main_v5) (V m c main_v8) (V m c main_arg3) (V m c main_v10) (V m c main_arg5) := by
  refine (dats m 0 c).arrAt_eq_of_covers 9 _ (by decide +kernel) fun t hf y => ?_
  have hN := lt_8 t
  obtain ⟨e0, e1, e2, e3, e4, e5, e6, e7, e8, e9, e10⟩ := idx t
  have hy0 : (y 0).val < 512 := (y 0).isLt
  have hy1 : (y 1).val < 2048 := (y 1).isLt
  blk_simp
  rw [after0_9]
  have hi : (win0_9.blk t).view.emb y = ix2 (⟨t.val * 512 + (y 0).val, by omega⟩ : Fin 4096) (y 1) := by blk_point [e9]
  refine Eq.trans ?_ (congrArg (mixArr (V m c main_arg0) (V m c main_v5) (V m c main_v8) (V m c main_arg3) (V m c main_v10) (V m c main_arg5)) hi).symm
  generalize hT : (⟨t.val * 512 + (y 0).val, by omega⟩ : Fin 4096) = T
  have hT' : T.val = t.val * 512 + (y 0).val := by rw [← hT]
  by_cases hu : (y 1).val < 1024
  · refine (gate m c t y hu).trans ((gate_eq m c t (y 0) ⟨(y 1).val, hu⟩ T hT').trans (Eq.trans ?_ (dif_pos hu).symm))
    rfl
  · have hg : (⟨(y 1).val % 256, Nat.mod_lt _ (by omega)⟩ : Fin 256) = inGroup ⟨(y 1).val - 1024, by omega⟩ := Fin.ext (by simp only [inGroup]; omega)
    have hz := pools_eq m c t (groupOf ⟨(y 1).val - 1024, by omega⟩) (y 0) (inGroup ⟨(y 1).val - 1024, by omega⟩) T hT'
    rw [← hg] at hz
    refine (pools m c t y (by omega)).trans (hz.trans (Eq.trans ?_ (dif_neg hu).symm))
    rw [hg]
    rfl

/-! ## What the host prepares -/

/-- The pooling weights as the kernel takes them. -/
theorem weights_read (c : Dev nD) : V m c main_v10 = weights (m ((c : Thread nD τ).loc main_arg4)) := by
  funext i
  idx_vars i
  show V m c main_v10 (ix3 i0 i1 i2) = _
  unfold V
  after_reads_at
  rfl

/-- The biases as the kernel takes them: one copy for each column. -/
theorem bias_read (c : Dev nD) : V m c main_v8 = biases (m ((c : Thread nD τ).loc main_arg2)) := by
  funext i
  idx_vars i
  show V m c main_v8 (ix3 i0 i1 i2) = _
  unfold V
  after_reads_at
  rfl

/-- The mixing weights as the kernel takes them, at one place. -/
theorem mix_at (c : Dev nD) (h : Fin 8) (t d : Fin 128) : V m c main_v5 (ix3 h t d) = tril (m ((c : Thread nD τ).loc main_arg1)) (ix3 h t d) := by
  unfold V
  after_reads_at
  rw [mask_test]
  show _ = lower t d _
  unfold lower
  by_cases hh : d.val ≤ t.val
  · rw [if_pos hh, if_pos hh]
    rfl
  · rw [if_neg hh, if_neg hh]
    exact lit_zero

/-- The mixing weights as the kernel takes them. -/
theorem mix_read (c : Dev nD) : V m c main_v5 = tril (m ((c : Thread nD τ).loc main_arg1)) := by
  funext i
  idx_vars i
  exact mix_at m c i0 i1 i2

end Cert.MixIdeal.Sound
end
-- ==== Proof.Mix.lean ====
module

public import proofs.«01_k».proof.Defs
public import proofs.«01_k».proof.Proof.Mixer
public import proofs.«01_k».proof.Proof.MixArrays

@[expose] public section

set_option maxRecDepth 16384

noncomputable section

namespace Cert.MixIdeal.Sound

open Cert.Mixer Cert.Mixer.Ref Cert.Mix Cert.MixIdeal Cert.MixIdeal.Gen Idealize.ShloMosaic Idealize.ShloMosaic.TcCoe Idealize.SL.Sem
open Cert.MixerIdeal.Sound (real_of lit_top)

/-! ## The precondition -/

/-- The shape relations the precondition's operations take. -/
theorem finite_facts : Cert.Pre_mix_finite.Facts where
  bcast_S_S4096x3072 := by decide
  reducesTo_S4096x3072_S_d0_1 := by decide
  h_S_ := by decide

/-- Under the precondition every entry of the projected rows is a real. -/
theorem all_real (p : S4096x3072.Idx → EReal) (ws : S1x8x128x128.Idx → EReal) (bs : S1x8x128.Idx → EReal) (g : S1x1024.Idx → EReal) (wp : S1x4x256x256.Idx → EReal) (sc : S1x1024.Idx → EReal)
    (h : (haveI := finite_facts; Cert.Pre_mix_finite.fn (F := Ideal) p ws bs g wp sc) = fun _ => 1#1) : ∀ i, IsReal (p i) := by
  haveI := finite_facts
  haveI : Subsingleton Cert.Pre_mix_finite.S_.Idx := ⟨fun _ _ => funext fun a => a.elim0⟩
  have h := congrFun h ix0
  unfold Cert.Pre_mix_finite.fn at h
  exact fun i => real_of _ (lit_top ▸ Host.reduce_andi_all _ _ _ _ _ h i)

/-! ## The claims -/

/-- The named constant is the one the kernel's word rounds. -/
theorem preserves : Cert.preserves_Mix_MixIdeal :=
  IdealRules.named_const.statement Cert.MixIdeal.κ "cube" .f32 0x3D372713#32 ((8943 / 200000 : ℝ) : EReal) rfl

/-- The reference runs to its end, leaves its arguments as they were and has no counter that could stand above zero. -/
theorem reference_frame : Cert.quiescent_MixRefIdeal (hMixRefIdeal := Cert.MixRefIdeal.Gen.facts) := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

/-- The call's result is the reference's. -/
theorem mix_end (m : (ℓ : Loc nD τ sig) → Buf (Elt Ideal) ℓ) (c : Dev nD) (hp : ∀ i, IsReal (m ((c : Thread nD τ).loc main_arg0) i)) :
    (dats m 0 c).arrAt 9 cfg0.N = Cert.MixRefIdeal.Read.val_main_v159 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (mix_array m c).trans ?_
  rw [V_main_arg0 m c, V_main_arg3 m c, V_main_arg5 m c, mix_read m c, bias_read m c, weights_read m c]
  exact (mix_ref _ _ _ _ _ _ hp).symm

/-- The call and the reference end with equal results when the projected rows are finite. -/
theorem algebraic : Cert.algebraic_MixIdeal_MixRefIdeal_pre_mix_finite (hMixIdeal := Cert.MixIdeal.Gen.facts)
    (hMixRefIdeal := Cert.MixRefIdeal.Gen.facts) (hPre_mix_finite := finite_facts) := by
  intro m ρ m' ρ' hpre hagree
  refine ⟨fun c => (dats m 0 c).arrAt 9 cfg0.N, Cert.MixIdeal.Value.run_blocks m ρ, ?_⟩
  refine (θ_run Cert.MixRefIdeal.defs _ _).mono (fun r h c => ?_) (Cert.MixRefIdeal.Value.run (F := Ideal) m' ρ')
  obtain ⟨a0, a1, a2, a3, a4, a5⟩ := hagree c
  refine ⟨(h c).1.trans ?_, (h c).2⟩
  rw [Cert.MixRefIdeal.Read.val_main_v159_eq]
  show Cert.MixRefIdeal.Read.val_main_v159 (F := Ideal) (m' ((c : Thread Cert.MixRefIdeal.nD Cert.MixRefIdeal.τ).loc Cert.MixRefIdeal.main_arg0)) (m' ((c : Thread Cert.MixRefIdeal.nD Cert.MixRefIdeal.τ).loc Cert.MixRefIdeal.main_arg1)) (m' ((c : Thread Cert.MixRefIdeal.nD Cert.MixRefIdeal.τ).loc Cert.MixRefIdeal.main_arg2)) (m' ((c : Thread Cert.MixRefIdeal.nD Cert.MixRefIdeal.τ).loc Cert.MixRefIdeal.main_arg3)) (m' ((c : Thread Cert.MixRefIdeal.nD Cert.MixRefIdeal.τ).loc Cert.MixRefIdeal.main_arg4)) (m' ((c : Thread Cert.MixRefIdeal.nD Cert.MixRefIdeal.τ).loc Cert.MixRefIdeal.main_arg5)) = _
  rw [a0, a1, a2, a3, a4, a5]
  exact (mix_end m c (all_real _ _ _ _ _ _ (hpre c))).symm

end Cert.MixIdeal.Sound
end
-- ==== Proof.Proj.lean ====
module

public import proofs.«01_k».proof.Defs
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import Idealize.ShloMosaic.Lib.Pipeline.ValueKit
public import Idealize.ShloMosaic.Lib.StableHlo.ReadAt

/-! The mixer's input product in the forward pass: the call's result is the reference's. -/

@[expose] public section

set_option maxRecDepth 16384

noncomputable section

namespace Cert.ProjIdeal.Sound

open Cert.ProjIdeal Cert.ProjIdeal.Gen Cert.ProjIdeal.Value Idealize.ShloMosaic Idealize.ShloMosaic.TcCoe Idealize.SL.Sem

variable (m : (ℓ : Loc nD τ sig) → Buf (Elt Ideal) ℓ)

/-- Where the windows stand at a grid point. -/
theorem idx : ∀ t : Fin cfg0.N, win0_0.index t = ![t.val % 8, 0] ∧ win0_1.index t = ![t.val / 8, 0, 0]
    ∧ win0_2.index t = ![t.val % 8, t.val / 8] :=
  (by decide +kernel : ∀ t : Fin grid0.N, _)

/-- A row of the input times a column of the weights, the weights' columns standing in four groups. -/
def projAt (a : S4096x2048.Idx → EReal) (w : S4x2048x768.Idx → EReal) (i : S4096x3072.Idx) : EReal :=
  ∑ k : Fin 2048, a (ix2 (i 0) k) * w (ix3 ⟨(i 1).val / 768, by have := (i 1).isLt; simp at this; omega⟩ k ⟨(i 1).val % 768, by omega⟩)

/-- The call leaves the product in its result. -/
theorem projAt_array (c : Dev nD) : (dats m 0 c).arrAt 2 cfg0.N = projAt (V m c main_arg0) (V m c main_v3) := by
  refine (dats m 0 c).arrAt_eq_of_covers 2 _ (by decide +kernel) fun t hf y => ?_
  obtain ⟨e0, e1, e2⟩ := idx t
  blk_simp
  rw [after0_2]
  unfold out0_2
  canon_tiles x h
  all_goals unfold_payloads
  all_goals pointwise [projAt]
  all_goals blk_point [iblk, e0, e1, e2]

/-- The weights as the kernel takes them: group `g` holds columns `768 g` up to `768 g + 767`. -/
theorem w_read (c : Dev nD) (g : Fin 4) (k : Fin 2048) (j : Fin 768) : V m c main_v3 (ix3 g k j)
    = m ((c : Thread nD τ).loc main_arg1) (ix3 (0 : Fin 1) k (⟨g.val * 768 + j.val, by omega⟩ : Fin 3072)) := by
  unfold V
  after_reads_at

/-- The reference runs to its end, leaves its arguments as they were and has no counter that could stand above zero. -/
theorem reference_frame : Cert.quiescent_ProjRefIdeal (hProjRefIdeal := Cert.ProjRefIdeal.Gen.facts) := fun m ρ _ =>
  (θ_run Cert.ProjRefIdeal.defs _ _).mono
    (fun r h => ⟨fun c => (h c).2, Idealize.ShloMosaic.sem_eq_zero_of_no_sems (by decide) r.2⟩)
    (Cert.ProjRefIdeal.Value.run (F := Ideal) m ρ)

open Cert.ProjRefIdeal.Read in
/-- The call's result is the reference's product. -/
theorem product_end (c : Dev nD) : (dats m 0 c).arrAt 2 cfg0.N = val_main_v2 (F := Ideal)
    (m ((c : Thread nD τ).loc main_arg0)) (m ((c : Thread nD τ).loc main_arg1)) := by
  refine (projAt_array m c).trans ?_
  funext i
  idx_vars i
  rw [val_main_v2_apply]
  simp only [val_main_v0_apply, val_main_v1_apply]
  refine Finset.sum_congr rfl fun k _ => Ideal.mul_congr ?_ ((w_read m c _ k _).trans ?_)
  · rw [V_main_arg0]
    exact congrArg _ (by funext a; fin_cases a <;> apply Fin.ext <;> simp)
  · exact congrArg _ (by funext a; fin_cases a <;> apply Fin.ext <;> simp <;> omega)

/-- The call and the reference's line end with equal results, whatever the arguments. -/
theorem algebraic : Cert.algebraic_ProjIdeal_ProjRefIdeal (hProjIdeal := Cert.ProjIdeal.Gen.facts)
    (hProjRefIdeal := Cert.ProjRefIdeal.Gen.facts) := by
  intro m ρ m' ρ' _ hagree
  refine ⟨fun c => (dats m 0 c).arrAt 2 cfg0.N, run_blocks m ρ, ?_⟩
  refine (θ_run Cert.ProjRefIdeal.defs _ _).mono (fun r h c => ?_) (Cert.ProjRefIdeal.Value.run (F := Ideal) m' ρ')
  obtain ⟨h0, h1⟩ := hagree c
  refine ⟨(h c).1.trans ?_, (h c).2⟩
  rw [Cert.ProjRefIdeal.Read.val_main_v2_eq, h0, h1]
  exact (product_end m c).symm

end Cert.ProjIdeal.Sound
end
-- ==== Proof.Dmixed.lean ====
module

public import proofs.«01_k».proof.Defs
public import proofs.«01_k».proof.Proof.Gen.DmixedIdeal.Value
public import proofs.«01_k».proof.Proof.Gen.DmixedRefIdeal
public import proofs.«01_k».proof.Proof.Gen.DmixedRefIdeal.Run
public import proofs.«01_k».proof.Proof.Gen.DmixedRefIdeal.Read
public import Idealize.ShloMosaic.Lib.Pipeline.ValueKit
public import Idealize.ShloMosaic.Lib.StableHlo.ReadAt

/-! The cotangent of the mixer's output: the call's result is the reference's product. -/

@[expose] public section

set_option maxRecDepth 16384

noncomputable section

namespace Cert.DmixedIdeal.Sound

open Cert.DmixedIdeal Cert.DmixedIdeal.Gen Cert.DmixedIdeal.Value Idealize.ShloMosaic Idealize.ShloMosaic.TcCoe Idealize.SL.Sem

variable (m : (ℓ : Loc nD τ sig) → Buf (Elt Ideal) ℓ)

/-- Where the windows stand at a grid point. -/
theorem idx : ∀ t : Fin cfg0.N, win0_0.index t = ![t.val, 0] ∧ win0_1.index t = ![0, 0] ∧ win0_2.index t = ![t.val, 0] :=
  (by decide +kernel : ∀ t : Fin grid0.N, _)

/-- A row of the cotangent times a row of the weights. -/
def rowsAt (a : S4096x2048.Idx → EReal) (w : S2048x2048.Idx → EReal) (i : S4096x2048.Idx) : EReal :=
  ∑ k : Fin 2048, a (ix2 (i 0) k) * w (ix2 (i 1) k)

/-- The call leaves the product in its result. -/
theorem rowsAt_array (c : Dev nD) : (dats m 0 c).arrAt 2 cfg0.N = rowsAt (V m c main_arg0) (V m c main_v1) := by
  refine (dats m 0 c).arrAt_eq_of_covers 2 _ (by decide +kernel) fun t hf y => ?_
  obtain ⟨e0, e1, e2⟩ := idx t
  blk_simp
  rw [after0_2]
  unfold out0_2
  canon_tiles x h
  all_goals unfold_payloads
  all_goals pointwise [rowsAt]
  all_goals blk_point [iblk, e0, e1, e2]

/-- The weights as the kernel takes them. -/
theorem w_read (c : Dev nD) (i j : Fin 2048) : V m c main_v1 (ix2 i j)
    = m ((c : Thread nD τ).loc main_arg1) (ix3 (0 : Fin 1) i j) := by
  unfold V
  after_reads_at

/-- The reference runs to its end, leaves its arguments as they were and has no counter that could stand above zero. -/
theorem reference_frame : Cert.quiescent_DmixedRefIdeal (hDmixedRefIdeal := Cert.DmixedRefIdeal.Gen.facts) := fun m ρ _ =>
  (θ_run Cert.DmixedRefIdeal.defs _ _).mono
    (fun r h => ⟨fun c => (h c).2, Idealize.ShloMosaic.sem_eq_zero_of_no_sems (by decide) r.2⟩)
    (Cert.DmixedRefIdeal.Value.run (F := Ideal) m ρ)

open Cert.DmixedRefIdeal.Read in
/-- The call's result is the reference's product. -/
theorem product_end (c : Dev nD) : (dats m 0 c).arrAt 2 cfg0.N = val_main_v5 (F := Ideal)
    (m ((c : Thread nD τ).loc main_arg0)) (m ((c : Thread nD τ).loc main_arg1)) := by
  refine (rowsAt_array m c).trans ?_
  funext i
  idx_vars i
  rw [val_main_v5_apply, val_main_v4_apply]
  simp only [val_main_v3_apply, val_main_v1_apply]
  refine Finset.sum_congr rfl fun k _ => Ideal.mul_congr ?_ ((w_read m c _ k).trans ?_)
  · rw [V_main_arg0]
    exact congrArg _ (by funext a; fin_cases a <;> apply Fin.ext <;> simp)
  · exact congrArg _ (by funext a; fin_cases a <;> apply Fin.ext <;> simp <;> omega)

/-- The call and the reference's line end with equal results, whatever the arguments. -/
theorem algebraic : Cert.algebraic_DmixedIdeal_DmixedRefIdeal (hDmixedIdeal := Cert.DmixedIdeal.Gen.facts)
    (hDmixedRefIdeal := Cert.DmixedRefIdeal.Gen.facts) := by
  intro m ρ m' ρ' _ hagree
  refine ⟨fun c => (dats m 0 c).arrAt 2 cfg0.N, run_blocks m ρ, ?_⟩
  refine (θ_run Cert.DmixedRefIdeal.defs _ _).mono (fun r h c => ?_) (Cert.DmixedRefIdeal.Value.run (F := Ideal) m' ρ')
  obtain ⟨h0, h1⟩ := hagree c
  refine ⟨(h c).1.trans ?_, (h c).2⟩
  rw [Cert.DmixedRefIdeal.Read.val_main_v5_eq, h0, h1]
  exact (product_end m c).symm

end Cert.DmixedIdeal.Sound
end
-- ==== Proof.Dw.lean ====
module

public import proofs.«01_k».proof.Defs
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import Idealize.ShloMosaic.Lib.Pipeline.ValueKit
public import Idealize.ShloMosaic.Lib.StableHlo.ReadAt

/-! The gradient of the up projection on one device, in four groups of columns: the call's result is the reference's. -/

@[expose] public section

set_option maxRecDepth 16384

noncomputable section

namespace Cert.DwIdeal.Sound

open Cert.DwIdeal Cert.DwIdeal.Gen Cert.DwIdeal.Value Idealize.ShloMosaic Idealize.ShloMosaic.TcCoe Idealize.SL.Sem

variable (m : (ℓ : Loc nD τ sig) → Buf (Elt Ideal) ℓ)

/-- Where the windows stand at a grid point. -/
theorem idx : ∀ t : Fin cfg0.N, win0_0.index t = ![0, t.val % 4] ∧ win0_1.index t = ![0, t.val / 4]
    ∧ win0_2.index t = ![t.val / 4, t.val % 4, 0] :=
  (by decide +kernel : ∀ t : Fin grid0.N, _)

/-- A column of the input times a column of the cotangent, the cotangent's columns in four groups: the sum over the rows. -/
def colsAt (a : S4096x2048.Idx → EReal) (w : S4096x8192.Idx → EReal) (i : S4x2048x2048.Idx) : EReal :=
  ∑ k : Fin 4096, a (ix2 k (i 1)) * w (ix2 k (⟨(i 0).val * 2048 + (i 2).val, by have := (i 0).isLt; have := (i 2).isLt; simp at *; omega⟩ : Fin 8192))

/-- The call leaves the product in its result. -/
theorem colsAt_array (c : Dev nD) : (dats m 0 c).arrAt 2 cfg0.N = colsAt (V m c main_arg0) (V m c main_arg1) := by
  refine (dats m 0 c).arrAt_eq_of_covers 2 _ (by decide +kernel) fun t hf y => ?_
  obtain ⟨e0, e1, e2⟩ := idx t
  blk_simp
  rw [after0_2]
  unfold out0_2
  canon_tiles x h
  all_goals unfold_payloads
  all_goals pointwise [colsAt]
  all_goals blk_point [iblk, e0, e1, e2]

/-- The reference runs to its end, leaves its arguments as they were and has no counter that could stand above zero. -/
theorem reference_frame : Cert.quiescent_DwRefIdeal (hDwRefIdeal := Cert.DwRefIdeal.Gen.facts) := fun m ρ _ =>
  (θ_run Cert.DwRefIdeal.defs _ _).mono
    (fun r h => ⟨fun c => (h c).2, Idealize.ShloMosaic.sem_eq_zero_of_no_sems (by decide) r.2⟩)
    (Cert.DwRefIdeal.Value.run (F := Ideal) m ρ)

open Cert.DwRefIdeal.Read in
/-- The call's result is the reference's product. -/
theorem product_end (c : Dev nD) : (dats m 0 c).arrAt 2 cfg0.N = val_main_v8 (F := Ideal)
    (m ((c : Thread nD τ).loc main_arg0)) (m ((c : Thread nD τ).loc main_arg1)) := by
  refine (colsAt_array m c).trans ?_
  funext i
  idx_vars i
  rw [val_main_v8_apply, val_main_v7_apply, val_main_v6_apply, val_main_v5_apply]
  show _ = val_main_v4 (F := Ideal) _ _ _
  rw [val_main_v4_apply]
  simp only [val_main_v1_apply, val_main_v3_apply]
  refine Finset.sum_congr rfl fun k _ => (mul_comm _ _).trans (Ideal.mul_congr ?_ ?_)
  · rw [V_main_arg1]
    exact congrArg _ (by funext a; fin_cases a <;> apply Fin.ext <;> simp <;> omega)
  · rw [V_main_arg0]
    exact congrArg _ (by funext a; fin_cases a <;> apply Fin.ext <;> simp <;> omega)

/-- The call and the reference's line end with equal results, whatever the arguments. -/
theorem algebraic : Cert.algebraic_DwIdeal_DwRefIdeal (hDwIdeal := Cert.DwIdeal.Gen.facts)
    (hDwRefIdeal := Cert.DwRefIdeal.Gen.facts) := by
  intro m ρ m' ρ' _ hagree
  refine ⟨fun c => (dats m 0 c).arrAt 2 cfg0.N, run_blocks m ρ, ?_⟩
  refine (θ_run Cert.DwRefIdeal.defs _ _).mono (fun r h c => ?_) (Cert.DwRefIdeal.Value.run (F := Ideal) m' ρ')
  obtain ⟨h0, h1⟩ := hagree c
  refine ⟨(h c).1.trans ?_, (h c).2⟩
  rw [Cert.DwRefIdeal.Read.val_main_v8_eq, h0, h1]
  exact (product_end m c).symm

end Cert.DwIdeal.Sound
end
-- ==== Proof.Adam.lean ====
module

public import proofs.«01_k».proof.Defs
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import Idealize.ShloMosaic.Lib.Pipeline.ValueKit
public import Idealize.ShloMosaic.Lib.StableHlo.ReadAt

/-! The optimiser's step for one weight: the call's four results are the gradient, the change of the weight and the two new moments. -/

@[expose] public section

set_option maxRecDepth 16384

noncomputable section

namespace Cert.AdamIdeal.Sound

open Cert.AdamIdeal Cert.AdamIdeal.Gen Cert.AdamIdeal.Value Idealize.ShloMosaic Idealize.ShloMosaic.TcCoe Idealize.SL.Sem

variable (m : (ℓ : Loc nD τ sig) → Buf (Elt Ideal) ℓ)

/-- The first moment after the step: nine tenths of the old one and a tenth of the gradient. -/
def first (g p : EReal) : EReal := Ideal.ofBits .f32 0x3F666666#32 * p + Ideal.ofBits .f32 0x3DCCCCCD#32 * g

/-- The second moment after the step: the old one and the gradient's square, weighted by 0.999 and 0.001. -/
def second (g p : EReal) : EReal := Ideal.ofBits .f32 0x3F7FBE77#32 * p + Ideal.ofBits .f32 0x3A83126F#32 * (g * g)

/-- The change of the weight: the corrected first moment over the root of the corrected second, with the decay, times minus the rate. -/
def change (w g p q : EReal) : EReal :=
  Ideal.ofBits .f32 0xBA83126F#32 * (Ideal.div (Ideal.div (first g p) (Ideal.ofBits .f32 0x3F26BD02#32))
    (Ideal.sqrt (Ideal.div (second g q) (Ideal.ofBits .f32 0x3C231ACC#32)) + Ideal.ofBits .f32 0x322BCC77#32)
    + Ideal.ofBits .f32 0x3C23D70A#32 * w)

/-- Where the windows stand at a grid point: all of them at the point's block of rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The first result is the gradient, as it came. -/
theorem grad_array (c : Dev nD) : (dats m 0 c).arrAt 4 cfg0.N = V m c main_arg1 := by
  refine (dats m 0 c).arrAt_eq_of_covers 4 _ (by decide +kernel) fun t hf y => ?_
  obtain ⟨e0, e1, e2, e3, e4, e5, e6, e7⟩ := idx t
  blk_simp
  rw [after0_4]
  unfold out0_4
  canon_tiles x h
  all_goals unfold_payloads
  all_goals pointwise
  all_goals blk_point [iblk, e1, e4]

/-- The second result is the change of the weight. -/
theorem change_array (c : Dev nD) : (dats m 0 c).arrAt 5 cfg0.N
    = fun i => change (V m c main_v0 i) (V m c main_arg1 i) (V m c main_v1 i) (V m c main_v2 i) := by
  refine (dats m 0 c).arrAt_eq_of_covers 5 _ (by decide +kernel) fun t hf y => ?_
  obtain ⟨e0, e1, e2, e3, e4, e5, e6, e7⟩ := idx t
  blk_simp
  rw [after0_5]
  unfold out0_5
  canon_tiles x h
  all_goals unfold_payloads
  all_goals pointwise [change, first, second]
  all_goals blk_point [iblk, e0, e1, e2, e3, e5]

/-- The third result is the new first moment. -/
theorem first_array (c : Dev nD) : (dats m 0 c).arrAt 6 cfg0.N = fun i => first (V m c main_arg1 i) (V m c main_v1 i) := by
  refine (dats m 0 c).arrAt_eq_of_covers 6 _ (by decide +kernel) fun t hf y => ?_
  obtain ⟨e0, e1, e2, e3, e4, e5, e6, e7⟩ := idx t
  blk_simp
  rw [after0_6]
  unfold out0_6
  canon_tiles x h
  all_goals unfold_payloads
  all_goals pointwise [first]
  all_goals blk_point [iblk, e1, e2, e6]

/-- The fourth result is the new second moment. -/
theorem second_array (c : Dev nD) : (dats m 0 c).arrAt 7 cfg0.N = fun i => second (V m c main_arg1 i) (V m c main_v2 i) := by
  refine (dats m 0 c).arrAt_eq_of_covers 7 _ (by decide +kernel) fun t hf y => ?_
  obtain ⟨e0, e1, e2, e3, e4, e5, e6, e7⟩ := idx t
  blk_simp
  rw [after0_7]
  unfold out0_7
  canon_tiles x h
  all_goals unfold_payloads
  all_goals pointwise [second]
  all_goals blk_point [iblk, e1, e3, e7]

/-- The weight as the kernel takes it. -/
theorem w_read (c : Dev nD) (i j : Fin 2048) : V m c main_v0 (ix2 i j) = m ((c : Thread nD τ).loc main_arg0) (ix3 (0 : Fin 1) i j) := by
  unfold V
  after_reads_at

/-- The first moment as the kernel takes it. -/
theorem first_read (c : Dev nD) (i j : Fin 2048) : V m c main_v1 (ix2 i j) = m ((c : Thread nD τ).loc main_arg2) (ix3 (0 : Fin 1) i j) := by
  unfold V
  after_reads_at

/-- The second moment as the kernel takes it. -/
theorem second_read (c : Dev nD) (i j : Fin 2048) : V m c main_v2 (ix2 i j) = m ((c : Thread nD τ).loc main_arg3) (ix3 (0 : Fin 1) i j) := by
  unfold V
  after_reads_at

open Cert.AdamRefIdeal.Read in
/-- The reference's new first moment at one place. -/
theorem first_tie (g : S2048x2048.Idx → EReal) (p : S1x2048x2048.Idx → EReal) (i j : Fin 2048) :
    val_main_v5 (F := Ideal) g p (ix3 (0 : Fin 1) i j) = first (g (ix2 i j)) (p (ix3 (0 : Fin 1) i j)) := by
  have hg : idx_main_v0 (ix3 (0 : Fin 1) i j) = ix2 i j := by funext a; fin_cases a <;> apply Fin.ext <;> simp
  simp only [val_main_v5_apply, val_main_v4_apply, val_main_v3_apply, val_main_cst_0_apply, val_main_v2_apply, val_main_v1_apply,
    val_main_cst_apply, val_main_v0_apply, hg]
  rfl

open Cert.AdamRefIdeal.Read in
/-- The reference's new second moment at one place. -/
theorem second_tie (g : S2048x2048.Idx → EReal) (q : S1x2048x2048.Idx → EReal) (i j : Fin 2048) :
    val_main_v11 (F := Ideal) g q (ix3 (0 : Fin 1) i j) = second (g (ix2 i j)) (q (ix3 (0 : Fin 1) i j)) := by
  have hg : idx_main_v0 (ix3 (0 : Fin 1) i j) = ix2 i j := by funext a; fin_cases a <;> apply Fin.ext <;> simp
  simp only [val_main_v11_apply, val_main_v10_apply, val_main_v9_apply, val_main_cst_2_apply, val_main_v8_apply, val_main_v7_apply,
    val_main_v6_apply, val_main_cst_1_apply, val_main_v0_apply, hg]
  rfl

open Cert.AdamRefIdeal.Read in
/-- The reference's change of the weight at one place. -/
theorem change_tie (w : S1x2048x2048.Idx → EReal) (g : S2048x2048.Idx → EReal) (p q : S1x2048x2048.Idx → EReal) (i j : Fin 2048) :
    val_main_v24 (F := Ideal) w g p q (ix3 (0 : Fin 1) i j)
    = change (w (ix3 (0 : Fin 1) i j)) (g (ix2 i j)) (p (ix3 (0 : Fin 1) i j)) (q (ix3 (0 : Fin 1) i j)) := by
  simp only [val_main_v24_apply, val_main_v23_apply, val_main_cst_7_apply, val_main_v22_apply, val_main_v21_apply, val_main_v20_apply,
    val_main_cst_6_apply, val_main_v19_apply, val_main_v18_apply, val_main_v17_apply, val_main_cst_5_apply, val_main_v16_apply,
    val_main_v15_apply, val_main_v14_apply, val_main_cst_4_apply, val_main_v13_apply, val_main_v12_apply, val_main_cst_3_apply,
    first_tie, second_tie]
  rfl

/-- The reference runs to its end, leaves its arguments as they were and has no counter that could stand above zero. -/
theorem reference_frame : Cert.quiescent_AdamRefIdeal (hAdamRefIdeal := Cert.AdamRefIdeal.Gen.facts) := fun m ρ _ =>
  (θ_run Cert.AdamRefIdeal.defs _ _).mono
    (fun r h => ⟨fun c => (h c).2.2.2.2, Idealize.ShloMosaic.sem_eq_zero_of_no_sems (by decide) r.2⟩)
    (Cert.AdamRefIdeal.Value.run (F := Ideal) m ρ)

open Cert.AdamRefIdeal.Read in
/-- The call's second result is the reference's change of the weight. -/
theorem change_end (c : Dev nD) : (dats m 0 c).arrAt 5 cfg0.N = val_main_v25 (F := Ideal) (m ((c : Thread nD τ).loc main_arg0))
    (m ((c : Thread nD τ).loc main_arg1)) (m ((c : Thread nD τ).loc main_arg2)) (m ((c : Thread nD τ).loc main_arg3)) := by
  refine (change_array m c).trans ?_
  funext i
  idx_vars i
  rw [val_main_v25_apply, show idx_main_v25 (ix2 i0 i1) = ix3 (0 : Fin 1) i0 i1 by funext a; fin_cases a <;> apply Fin.ext <;> simp <;> omega,
    change_tie, w_read, first_read, second_read, V_main_arg1]

open Cert.AdamRefIdeal.Read in
/-- The call's third result is the reference's new first moment. -/
theorem first_end (c : Dev nD) : (dats m 0 c).arrAt 6 cfg0.N = val_main_v26 (F := Ideal)
    (m ((c : Thread nD τ).loc main_arg1)) (m ((c : Thread nD τ).loc main_arg2)) := by
  refine (first_array m c).trans ?_
  funext i
  idx_vars i
  rw [val_main_v26_apply, show idx_main_v26 (ix2 i0 i1) = ix3 (0 : Fin 1) i0 i1 by funext a; fin_cases a <;> apply Fin.ext <;> simp <;> omega,
    first_tie, first_read, V_main_arg1]

open Cert.AdamRefIdeal.Read in
/-- The call's fourth result is the reference's new second moment. -/
theorem second_end (c : Dev nD) : (dats m 0 c).arrAt 7 cfg0.N = val_main_v27 (F := Ideal)
    (m ((c : Thread nD τ).loc main_arg1)) (m ((c : Thread nD τ).loc main_arg3)) := by
  refine (second_array m c).trans ?_
  funext i
  idx_vars i
  rw [val_main_v27_apply, show idx_main_v27 (ix2 i0 i1) = ix3 (0 : Fin 1) i0 i1 by funext a; fin_cases a <;> apply Fin.ext <;> simp <;> omega,
    second_tie, second_read, V_main_arg1]

/-- The call and the reference's lines end with equal results, whatever the arguments. -/
theorem algebraic : Cert.algebraic_AdamIdeal_AdamRefIdeal (hAdamIdeal := Cert.AdamIdeal.Gen.facts)
    (hAdamRefIdeal := Cert.AdamRefIdeal.Gen.facts) := by
  intro m ρ m' ρ' _ hagree
  refine ⟨fun c => (dats m 0 c).arrAt 4 cfg0.N, fun c => (dats m 0 c).arrAt 5 cfg0.N, fun c => (dats m 0 c).arrAt 6 cfg0.N,
    fun c => (dats m 0 c).arrAt 7 cfg0.N, run_blocks m ρ, ?_⟩
  refine (θ_run Cert.AdamRefIdeal.defs _ _).mono (fun r h c => ?_) (Cert.AdamRefIdeal.Value.run (F := Ideal) m' ρ')
  obtain ⟨h0, h1, h2, h3⟩ := hagree c
  refine ⟨(h c).1.trans ?_, (h c).2.1.trans ?_, (h c).2.2.1.trans ?_, (h c).2.2.2.1.trans ?_, (h c).2.2.2.2⟩
  · rw [h1]
    exact ((grad_array m c).trans (V_main_arg1 m c)).symm
  · rw [Cert.AdamRefIdeal.Read.val_main_v25_eq, h0, h1, h2, h3]
    exact (change_end m c).symm
  · rw [Cert.AdamRefIdeal.Read.val_main_v26_eq, h1, h2]
    exact (first_end m c).symm
  · rw [Cert.AdamRefIdeal.Read.val_main_v27_eq, h1, h3]
    exact (second_end m c).symm

end Cert.AdamIdeal.Sound
end
-- ==== Proof.Sib.lean ====
module

public import proofs.«01_k».proof.Defs
public import proofs.«01_k».proof.Proof.Gen.SibIdeal.Frame
public import proofs.«01_k».proof.Proof.Gen.SibRefIdeal
public import proofs.«01_k».proof.Proof.Gen.SibRefIdeal.Run
public import proofs.«01_k».proof.Proof.Gen.SibRefIdeal.Read
public import Idealize.ShloMosaic.Lib.Pipeline.ValueKit
public import Idealize.ShloMosaic.Lib.StableHlo.ReadAt

/-! The sum of a core's half of a weight gradient with its sibling's, for the three blocks that belong to other chips. -/

@[expose] public section

set_option maxRecDepth 16384

noncomputable section

namespace Cert.SibIdeal.Sound

open Cert.SibIdeal Cert.SibIdeal.Gen Idealize.ShloMosaic Idealize.ShloMosaic.TcCoe Idealize.SL.Sem

variable (m : (ℓ : Loc nD τ sig) → Buf (Elt Ideal) ℓ)

/-- Where the windows stand at a grid point: at one of the three later blocks, and a quarter of its rows. -/
theorem idx : ∀ t : Fin cfg0.N, win0_0.index t = ![1 + t.val / 4, 0, t.val % 4, 0] ∧ win0_1.index t = ![1 + t.val / 4, t.val % 4, 0]
    ∧ win0_2.index t = ![1 + t.val / 4, t.val % 4, 0] :=
  (by decide +kernel : ∀ t : Fin grid0.N, _)

/-- The two halves' sum: this core's half of the gradient and the sibling's, place by place. -/
def both (a : S4x2x1024x2048.Idx → EReal) (b : S4x1024x2048.Idx → EReal) (i : S4x1024x2048.Idx) : EReal :=
  a (ix4 (i 0) (0 : Fin 2) (i 1) (i 2)) + b i

/-- The call's array: the two halves' sum in the three later blocks, what stood there in the first. -/
theorem sum_array (c : Dev nD) : (dats m 0 c).arrAt 2 cfg0.N
    = fun i : S4x1024x2048.Idx => if 1 ≤ (i 0 : ℕ) then both (V m c main_arg0) (V m c main_arg1) i else (dats m 0 c).A 2 i := by
  refine (dats m 0 c).arrAt_eq_of_coversWhere 2 (both (V m c main_arg0) (V m c main_arg1))
    (P := fun i : S4x1024x2048.Idx => 1 ≤ (i 0 : ℕ)) (fun β => 1 ≤ β (0 : Fin 3)) (by decide +kernel) (fun t hf y => ?_)
    (fun j => by blk_simp [Pipeline.Window.cell_apply, Nat.div_one])
  obtain ⟨e0, e1, e2⟩ := idx t
  blk_simp
  rw [after0_2]
  unfold out0_2
  canon_tiles x h
  all_goals unfold_payloads
  all_goals pointwise [both]
  all_goals blk_point [iblk, e0, e1, e2]

/-- The call's result, read off its array: the three later blocks. -/
theorem result_read (c : Dev nD) (j : Fin 3) (p : Fin 1024) (q : Fin 2048) :
    Pipeline.afterTail₀ cfgs (dats m) 0 (V0 m) [hostOps1] c main_v1 (ix3 j p q)
    = (dats m 0 c).arrAt 2 cfg0.N (ix3 (⟨j.val + 1, by omega⟩ : Fin 4) p q) := by
  unfold Pipeline.afterTail₀
  have h := Pipeline.withArrays_arr spec0 launch0.win.arr_inj c (V0 m c) (fun w => (dats m 0 c).arrAt w cfg0.N) 2
  after_reads_at
  rw [show (⟨1 + j.val, by omega⟩ : Fin 4) = ⟨j.val + 1, by omega⟩ from Fin.ext (Nat.add_comm _ _)]
  exact congrFun h _

open Cert.SibRefIdeal.Read in
/-- The reference's result at one place. -/
theorem reference_tie (a : S4x2x1024x2048.Idx → EReal) (b : S4x1024x2048.Idx → EReal) (j : Fin 3) (p : Fin 1024) (q : Fin 2048) :
    val_main_v6 (F := Ideal) a b (ix3 j p q) = both a b (ix3 (⟨j.val + 1, by omega⟩ : Fin 4) p q) := by
  simp only [val_main_v6_apply, val_main_v5_apply, val_main_v4_apply, val_main_v3_apply, val_main_v2_apply, val_main_v1_apply,
    val_main_v0_apply,
    show idx_main_v0 (idx_main_v1 (ix3 j p q)) = ix4 (⟨j.val + 1, by omega⟩ : Fin 4) (0 : Fin 2) p q by
      funext x; fin_cases x <;> apply Fin.ext <;> simp <;> omega,
    show idx_main_v3 (ix3 j p q) = ix3 (⟨j.val + 1, by omega⟩ : Fin 4) p q by
      funext x; fin_cases x <;> apply Fin.ext <;> simp <;> omega]
  rfl

open Cert.SibRefIdeal.Read in
/-- The call's result is the reference's. -/
theorem result_end (c : Dev nD) : Pipeline.afterTail₀ cfgs (dats m) 0 (V0 m) [hostOps1] c main_v1
    = val_main_v6 (F := Ideal) (m ((c : Thread nD τ).loc main_arg0)) (m ((c : Thread nD τ).loc main_arg1)) := by
  funext i
  idx_vars i
  rw [result_read, sum_array, reference_tie, V_main_arg0, V_main_arg1]
  exact if_pos (Nat.le_add_left 1 _)

/-- The reference runs to its end, leaves its arguments as they were and has no counter that could stand above zero. -/
theorem reference_frame : Cert.quiescent_SibRefIdeal (hSibRefIdeal := Cert.SibRefIdeal.Gen.facts) := fun m ρ _ =>
  (θ_run Cert.SibRefIdeal.defs _ _).mono
    (fun r h => ⟨fun c => (h c).2, Idealize.ShloMosaic.sem_eq_zero_of_no_sems (by decide) r.2⟩)
    (Cert.SibRefIdeal.Value.run (F := Ideal) m ρ)

/-- The call and the reference's lines end with equal results, whatever the arguments. -/
theorem algebraic : Cert.algebraic_SibIdeal_SibRefIdeal (hSibIdeal := Cert.SibIdeal.Gen.facts)
    (hSibRefIdeal := Cert.SibRefIdeal.Gen.facts) := by
  intro m ρ m' ρ' _ hagree
  refine ⟨fun c => Pipeline.afterTail₀ cfgs (dats m) 0 (V0 m) [hostOps1] c main_v1, ?_, ?_⟩
  · exact (θ_run defs _ _).mono (fun r h c =>
      ⟨(h c).2 main_v1 (Pipeline.mem_restRefs_of main_v1 (by decide) (by decide)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩) (run_main m ρ)
  · refine (θ_run Cert.SibRefIdeal.defs _ _).mono (fun r h c => ?_) (Cert.SibRefIdeal.Value.run (F := Ideal) m' ρ')
    obtain ⟨h0, h1⟩ := hagree c
    refine ⟨(h c).1.trans ?_, (h c).2⟩
    rw [Cert.SibRefIdeal.Read.val_main_v6_eq, h0, h1]
    exact (result_end m c).symm

end Cert.SibIdeal.Sound
end
-- ==== Proof.Chips.lean ====
module

public import proofs.«01_k».proof.Defs
public import proofs.«01_k».proof.Proof.Gen.ChipsIdeal.Frame
public import proofs.«01_k».proof.Proof.Gen.ChipsRefIdeal
public import proofs.«01_k».proof.Proof.Gen.ChipsRefIdeal.Run
public import proofs.«01_k».proof.Proof.Gen.ChipsRefIdeal.Read
public import Idealize.ShloMosaic.Lib.Pipeline.ValueKit
public import Idealize.ShloMosaic.Lib.StableHlo.ReadAt

/-! The sum of a chip's own block of a weight gradient, the sibling's half of it and the three that come from the other chips. -/

@[expose] public section

set_option maxRecDepth 16384

noncomputable section

namespace Cert.ChipsIdeal.Sound

open Cert.ChipsIdeal Cert.ChipsIdeal.Gen Idealize.ShloMosaic Idealize.ShloMosaic.TcCoe Idealize.SL.Sem

variable (m : (ℓ : Loc nD τ sig) → Buf (Elt Ideal) ℓ)

/-- Where the windows stand at a grid point: each at its first block, and a quarter of its rows. -/
theorem idx : ∀ t : Fin cfg0.N, win0_0.index t = ![0, 0, t.val, 0] ∧ win0_1.index t = ![0, t.val, 0]
    ∧ win0_2.index t = ![0, t.val, 0] ∧ win0_3.index t = ![0, t.val, 0] :=
  (by decide +kernel : ∀ t : Fin grid0.N, _)

/-- The five terms' sum at one place, in the order the kernel takes them. -/
def five (a : S4x2x1024x2048.Idx → EReal) (b : S4x1024x2048.Idx → EReal) (g : S3x1024x2048.Idx → EReal) (p : Fin 1024) (q : Fin 2048) :
    EReal :=
  a (ix4 (0 : Fin 4) (0 : Fin 2) p q) + b (ix3 (0 : Fin 4) p q) + g (ix3 (0 : Fin 3) p q) + g (ix3 (1 : Fin 3) p q)
    + g (ix3 (2 : Fin 3) p q)

/-- The call's array: the sum in its first half, what stood there in the second. -/
theorem sum_array (c : Dev nD) : (dats m 0 c).arrAt 3 cfg0.N
    = fun i : S2x1024x2048.Idx => if (i 0 : ℕ) = 0 then five (V m c main_arg0) (V m c main_arg1) (V m c main_arg2) (i 1) (i 2)
      else (dats m 0 c).A 3 i := by
  refine (dats m 0 c).arrAt_eq_of_coversWhere 3
    (fun i : S2x1024x2048.Idx => five (V m c main_arg0) (V m c main_arg1) (V m c main_arg2) (i 1) (i 2))
    (P := fun i : S2x1024x2048.Idx => (i 0 : ℕ) = 0) (fun β => β (0 : Fin 3) = 0) (by decide +kernel) (fun t hf y => ?_)
    (fun j => by blk_simp [Pipeline.Window.cell_apply, Nat.div_one])
  obtain ⟨e0, e1, e2, e3⟩ := idx t
  blk_simp
  rw [after0_3]
  unfold out0_3
  canon_tiles x h
  all_goals unfold_payloads
  all_goals pointwise [five]
  all_goals blk_point [iblk, e0, e1, e2, e3]

/-- The call's result, read off its array: the first half. -/
theorem result_read (c : Dev nD) (p : Fin 1024) (q : Fin 2048) :
    Pipeline.afterTail₀ cfgs (dats m) 0 (V0 m) [hostOps1] c main_v2 (ix2 p q)
    = (dats m 0 c).arrAt 3 cfg0.N (ix3 (0 : Fin 2) p q) := by
  unfold Pipeline.afterTail₀
  have h := Pipeline.withArrays_arr spec0 launch0.win.arr_inj c (V0 m c) (fun w => (dats m 0 c).arrAt w cfg0.N) 3
  after_reads_at
  exact congrFun h _

open Cert.ChipsRefIdeal.Read in
/-- The reference's result at one place: the same five terms, its zero dropped and the last three taken together. -/
theorem reference_tie (a : S4x2x1024x2048.Idx → EReal) (b : S4x1024x2048.Idx → EReal) (g : S3x1024x2048.Idx → EReal)
    (p : Fin 1024) (q : Fin 2048) : val_main_v9 (F := Ideal) a b g (ix2 p q) = five a b g p q := by
  have ha : idx_main_v0 (idx_main_v1 (ix2 p q)) = ix4 (0 : Fin 4) (0 : Fin 2) p q := by
    funext x; fin_cases x <;> apply Fin.ext <;> simp <;> omega
  have hb : idx_main_v3 (idx_main_v4 (ix2 p q)) = ix3 (0 : Fin 4) p q := by
    funext x; fin_cases x <;> apply Fin.ext <;> simp <;> omega
  have hg (k : Fin 3) : idx_main_v8 (ix2 p q) k = ix3 k p q := by
    funext x; fin_cases x <;> rfl
  simp only [val_main_v9_apply, val_main_v8_apply, val_main_v7_apply, val_main_v6_apply, val_main_v5_apply, val_main_v4_apply,
    val_main_v3_apply, val_main_v2_apply, val_main_v1_apply, val_main_v0_apply, val_main_cst_apply, ha, hb, hg]
  rw [Fin.sum_univ_three]
  show a _ + b _ + (Ideal.ofBits .f32 0x00000000#32 + (g _ + g _ + g _)) = _
  rw [Ideal.ofBits_zero, zero_add]
  unfold five
  simp only [add_assoc]

open Cert.ChipsRefIdeal.Read in
/-- The call's result is the reference's. -/
theorem result_end (c : Dev nD) : Pipeline.afterTail₀ cfgs (dats m) 0 (V0 m) [hostOps1] c main_v2
    = val_main_v9 (F := Ideal) (m ((c : Thread nD τ).loc main_arg0)) (m ((c : Thread nD τ).loc main_arg1))
      (m ((c : Thread nD τ).loc main_arg2)) := by
  funext i
  idx_vars i
  rw [result_read, sum_array, reference_tie, V_main_arg0, V_main_arg1, V_main_arg2]
  exact if_pos rfl

/-- The reference runs to its end, leaves its arguments as they were and has no counter that could stand above zero. -/
theorem reference_frame : Cert.quiescent_ChipsRefIdeal (hChipsRefIdeal := Cert.ChipsRefIdeal.Gen.facts) := fun m ρ _ =>
  (θ_run Cert.ChipsRefIdeal.defs _ _).mono
    (fun r h => ⟨fun c => (h c).2, Idealize.ShloMosaic.sem_eq_zero_of_no_sems (by decide) r.2⟩)
    (Cert.ChipsRefIdeal.Value.run (F := Ideal) m ρ)

/-- The call and the reference's lines end with equal results, whatever the arguments. -/
theorem algebraic : Cert.algebraic_ChipsIdeal_ChipsRefIdeal (hChipsIdeal := Cert.ChipsIdeal.Gen.facts)
    (hChipsRefIdeal := Cert.ChipsRefIdeal.Gen.facts) := by
  intro m ρ m' ρ' _ hagree
  refine ⟨fun c => Pipeline.afterTail₀ cfgs (dats m) 0 (V0 m) [hostOps1] c main_v2, ?_, ?_⟩
  · exact (θ_run defs _ _).mono (fun r h c =>
      ⟨(h c).2 main_v2 (Pipeline.mem_restRefs_of main_v2 (by decide) (by decide)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩) (run_main m ρ)
  · refine (θ_run Cert.ChipsRefIdeal.defs _ _).mono (fun r h c => ?_) (Cert.ChipsRefIdeal.Value.run (F := Ideal) m' ρ')
    obtain ⟨h0, h1, h2⟩ := hagree c
    refine ⟨(h c).1.trans ?_, (h c).2⟩
    rw [Cert.ChipsRefIdeal.Read.val_main_v9_eq, h0, h1, h2]
    exact (result_end m c).symm

end Cert.ChipsIdeal.Sound
end
-- ==== Proof.Pack.lean ====
module

public import proofs.«01_k».proof.Defs
public import proofs.«01_k».proof.Proof.Gen.PackIdeal.Frame
public import proofs.«01_k».proof.Proof.Gen.PackRefIdeal
public import proofs.«01_k».proof.Proof.Gen.PackRefIdeal.Run
public import proofs.«01_k».proof.Proof.Gen.PackRefIdeal.Read
public import Idealize.ShloMosaic.Lib.Pipeline.ValueKit
public import Idealize.ShloMosaic.Lib.StableHlo.ReadAt

/-! The packing of one weight: cast to the short format and laid in the device's own place of the gathered array. -/

@[expose] public section

set_option maxRecDepth 16384

noncomputable section

namespace Cert.PackIdeal.Sound

open Cert.PackIdeal Cert.PackIdeal.Gen Idealize.ShloMosaic Idealize.ShloMosaic.TcCoe Idealize.SL.Sem

variable (m : (ℓ : Loc nD τ sig) → Buf (Elt Ideal) ℓ)

/-- Where the windows stand at a grid point: at an eighth of the rows, the result's in its first place. -/
theorem idx : ∀ t : Fin cfg0.N, win0_0.index t = ![t.val, 0] ∧ win0_1.index t = ![0, t.val, 0] :=
  (by decide +kernel : ∀ t : Fin grid0.N, _)

/-- The weight at the place that an index of the gathered array names. -/
def laid (w : S2048x2048.Idx → EReal) (i : S4x2048x2048.Idx) : EReal := w (ix2 (i 1) (i 2))

/-- The call's array: the weight in the first place, what stood there in the others. -/
theorem pack_array (c : Dev nD) : (dats m 0 c).arrAt 1 cfg0.N
    = fun i : S4x2048x2048.Idx => if (i 0 : ℕ) = 0 then laid (V m c main_v0) i else (dats m 0 c).A 1 i := by
  refine (dats m 0 c).arrAt_eq_of_coversWhere 1 (laid (V m c main_v0))
    (P := fun i : S4x2048x2048.Idx => (i 0 : ℕ) = 0) (fun β => β (0 : Fin 3) = 0) (by decide +kernel) (fun t hf y => ?_)
    (fun j => by blk_simp [Pipeline.Window.cell_apply, Nat.div_one])
  obtain ⟨e0, e1⟩ := idx t
  blk_simp
  rw [after0_1]
  unfold out0_1
  canon_tiles x h
  all_goals unfold_payloads
  all_goals pointwise [laid]
  all_goals blk_point [iblk, e0, e1]

/-- The weight as the kernel takes it. -/
theorem w_read (c : Dev nD) (p q : Fin 2048) : V m c main_v0 (ix2 p q) = m ((c : Thread nD τ).loc main_arg0) (ix3 (0 : Fin 1) p q) := by
  unfold V
  after_reads_at

/-- The call's result, read off its array: the first place. -/
theorem result_read (c : Dev nD) (p q : Fin 2048) :
    Pipeline.afterTail₀ cfgs (dats m) 0 (V0 m) [hostOps1] c main_v3 (ix2 p q)
    = (dats m 0 c).arrAt 1 cfg0.N (ix3 (0 : Fin 4) p q) := by
  unfold Pipeline.afterTail₀
  have h := Pipeline.withArrays_arr spec0 launch0.win.arr_inj c (V0 m c) (fun w => (dats m 0 c).arrAt w cfg0.N) 1
  after_reads_at
  exact congrFun h _

open Cert.PackRefIdeal.Read in
/-- The call's result is the reference's. -/
theorem result_end (c : Dev nD) : Pipeline.afterTail₀ cfgs (dats m) 0 (V0 m) [hostOps1] c main_v3
    = val_main_v1 (F := Ideal) (m ((c : Thread nD τ).loc main_arg0)) := by
  funext i
  idx_vars i
  rw [result_read, pack_array, val_main_v1_apply, val_main_v0_apply,
    show idx_main_v0 (ix2 i0 i1) = ix3 (0 : Fin 1) i0 i1 by funext a; fin_cases a <;> apply Fin.ext <;> simp <;> omega]
  exact (if_pos rfl).trans (w_read m c i0 i1)

/-- The reference runs to its end, leaves its argument as it was and has no counter that could stand above zero. -/
theorem reference_frame : Cert.quiescent_PackRefIdeal (hPackRefIdeal := Cert.PackRefIdeal.Gen.facts) := fun m ρ _ =>
  (θ_run Cert.PackRefIdeal.defs _ _).mono
    (fun r h => ⟨fun c => (h c).2, Idealize.ShloMosaic.sem_eq_zero_of_no_sems (by decide) r.2⟩)
    (Cert.PackRefIdeal.Value.run (F := Ideal) m ρ)

/-- The call and the reference's line end with equal results, whatever the argument. -/
theorem algebraic : Cert.algebraic_PackIdeal_PackRefIdeal (hPackIdeal := Cert.PackIdeal.Gen.facts)
    (hPackRefIdeal := Cert.PackRefIdeal.Gen.facts) := by
  intro m ρ m' ρ' _ hagree
  refine ⟨fun c => Pipeline.afterTail₀ cfgs (dats m) 0 (V0 m) [hostOps1] c main_v3, ?_, ?_⟩
  · exact (θ_run defs _ _).mono (fun r h c =>
      ⟨(h.1 c).2 main_v3 (Pipeline.mem_restRefs_of main_v3 (by decide) (by decide)), h.2 c⟩)
      (θ_run_and (run_main m ρ) (unchanged m ρ))
  · refine (θ_run Cert.PackRefIdeal.defs _ _).mono (fun r h c => ?_) (Cert.PackRefIdeal.Value.run (F := Ideal) m' ρ')
    refine ⟨(h c).1.trans ?_, (h c).2⟩
    rw [Cert.PackRefIdeal.Read.val_main_v1_eq, hagree c]
    exact (result_end m c).symm

end Cert.PackIdeal.Sound
end
-- ==== Proof.lean ====
module

public import proofs.«01_k».proof.Defs
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.DactRefIdeal.Run
public import proofs.«01_k».proof.Proof.Gen.DactRefIdeal.Read
public import proofs.«01_k».proof.Proof.UpDact
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Down
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2Ideal.Value
public import proofs.«01_k».proof.Proof.Gen.Dh2RefIdeal
public import proofs.«01_k».proof.Proof.Gen.Dh2RefIdeal.Run
public import proofs.«01_k».proof.Proof.Gen.Dh2RefIdeal.Read
public import proofs.«01_k».proof.Proof.Dh2
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1Ideal.Value
public import proofs.«01_k».proof.Proof.Gen.Dh1RefIdeal
public import proofs.«01_k».proof.Proof.Gen.Dh1RefIdeal.Run
public import proofs.«01_k».proof.Proof.Gen.Dh1RefIdeal.Read
public import proofs.«01_k».proof.Proof.Dh1
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerRefIdeal
public import proofs.«01_k».proof.Proof.Gen.MixerRefIdeal.Run
public import proofs.«01_k».proof.Proof.Gen.MixerRefIdeal.Read
public import proofs.«01_k».proof.Proof.Mixer
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Norm
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Out
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Mix
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Proj
public import proofs.«01_k».proof.Proof.Gen.Dmixed
public import proofs.«01_k».proof.Proof.Gen.Dmixed.Skeleton
public import proofs.«01_k».proof.Proof.Gen.Dmixed.Launch
public import proofs.«01_k».proof.Proof.Gen.Dmixed.Points
public import proofs.«01_k».proof.Proof.Gen.Dmixed.Frame
public import proofs.«01_k».proof.Proof.Gen.DmixedIdeal
public import proofs.«01_k».proof.Proof.Gen.DmixedIdeal.Skeleton
public import proofs.«01_k».proof.Proof.Gen.DmixedIdeal.Launch
public import proofs.«01_k».proof.Proof.Gen.DmixedIdeal.Points
public import proofs.«01_k».proof.Proof.Gen.DmixedIdeal.Frame
public import proofs.«01_k».proof.Proof.Gen.DmixedIdeal.Value
public import proofs.«01_k».proof.Proof.Gen.DmixedRefIdeal
public import proofs.«01_k».proof.Proof.Gen.DmixedRefIdeal.Run
public import proofs.«01_k».proof.Proof.Gen.DmixedRefIdeal.Read
public import proofs.«01_k».proof.Proof.Dmixed
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Dw
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Adam
public import proofs.«01_k».proof.Proof.Gen.Sib
public import proofs.«01_k».proof.Proof.Gen.Sib.Skeleton
public import proofs.«01_k».proof.Proof.Gen.Sib.Launch
public import proofs.«01_k».proof.Proof.Gen.Sib.Points
public import proofs.«01_k».proof.Proof.Gen.Sib.Frame
public import proofs.«01_k».proof.Proof.Gen.SibIdeal
public import proofs.«01_k».proof.Proof.Gen.SibIdeal.Skeleton
public import proofs.«01_k».proof.Proof.Gen.SibIdeal.Launch
public import proofs.«01_k».proof.Proof.Gen.SibIdeal.Points
public import proofs.«01_k».proof.Proof.Gen.SibIdeal.Frame
public import proofs.«01_k».proof.Proof.Gen.SibRefIdeal
public import proofs.«01_k».proof.Proof.Gen.SibRefIdeal.Run
public import proofs.«01_k».proof.Proof.Gen.SibRefIdeal.Read
public import proofs.«01_k».proof.Proof.Sib
public import proofs.«01_k».proof.Proof.Gen.Chips
public import proofs.«01_k».proof.Proof.Gen.Chips.Skeleton
public import proofs.«01_k».proof.Proof.Gen.Chips.Launch
public import proofs.«01_k».proof.Proof.Gen.Chips.Points
public import proofs.«01_k».proof.Proof.Gen.Chips.Frame
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Points
public import proofs.«01_k».proof.Proof.Gen.ChipsIdeal.Frame
public import proofs.«01_k».proof.Proof.Gen.ChipsRefIdeal
public import proofs.«01_k».proof.Proof.Gen.ChipsRefIdeal.Run
public import proofs.«01_k».proof.Proof.Gen.ChipsRefIdeal.Read
public import proofs.«01_k».proof.Proof.Chips
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackRefIdeal
public import proofs.«01_k».proof.Proof.Gen.PackRefIdeal.Run
public import proofs.«01_k».proof.Proof.Gen.PackRefIdeal.Read
public import proofs.«01_k».proof.Proof.Pack
public import Idealize.ShloMosaic.Adequacy
public import Idealize.ShloMosaic.Init

@[expose] public section

noncomputable section

namespace Cert.Proof

open Idealize.ShloMosaic Idealize.SL.Sem

/-- Everything stated in Defs.lean. -/
theorem claim : Cert.Claim := ⟨Cert.Dact.Gen.facts,
  Cert.DactIdeal.Gen.facts,
  Cert.DactRefIdeal.Gen.facts,
  Cert.Down.Gen.facts,
  Cert.DownIdeal.Gen.facts,
  Cert.DownRefIdeal.Gen.facts,
  Cert.Dh2.Gen.facts,
  Cert.Dh2Ideal.Gen.facts,
  Cert.Dh2RefIdeal.Gen.facts,
  Cert.Dh1.Gen.facts,
  Cert.Dh1Ideal.Gen.facts,
  Cert.Dh1RefIdeal.Gen.facts,
  Cert.Mixer.Gen.facts,
  Cert.MixerIdeal.Gen.facts,
  Cert.MixerRefIdeal.Gen.facts,
  Cert.Norm.Gen.facts,
  Cert.NormIdeal.Gen.facts,
  Cert.NormRefIdeal.Gen.facts,
  Cert.Out.Gen.facts,
  Cert.OutIdeal.Gen.facts,
  Cert.OutRefIdeal.Gen.facts,
  Cert.Mix.Gen.facts,
  Cert.MixIdeal.Gen.facts,
  Cert.MixRefIdeal.Gen.facts,
  Cert.Proj.Gen.facts,
  Cert.ProjIdeal.Gen.facts,
  Cert.ProjRefIdeal.Gen.facts,
  Cert.Dmixed.Gen.facts,
  Cert.DmixedIdeal.Gen.facts,
  Cert.DmixedRefIdeal.Gen.facts,
  Cert.Dw.Gen.facts,
  Cert.DwIdeal.Gen.facts,
  Cert.DwRefIdeal.Gen.facts,
  Cert.Adam.Gen.facts,
  Cert.AdamIdeal.Gen.facts,
  Cert.AdamRefIdeal.Gen.facts,
  Cert.Sib.Gen.facts,
  Cert.SibIdeal.Gen.facts,
  Cert.SibRefIdeal.Gen.facts,
  Cert.Chips.Gen.facts,
  Cert.ChipsIdeal.Gen.facts,
  Cert.ChipsRefIdeal.Gen.facts,
  Cert.Pack.Gen.facts,
  Cert.PackIdeal.Gen.facts,
  Cert.PackRefIdeal.Gen.facts,
  Cert.MixerIdeal.Sound.finite_facts,
  Cert.MixIdeal.Sound.finite_facts,
  fun m ρ _ => Cert.Dact.Gen.frame m ρ,
  fun m ρ _ => Cert.DactIdeal.Gen.frame m ρ,
  Cert.DactIdeal.Sound.reference_frame,
  fun m ρ _ => Cert.Down.Gen.frame m ρ,
  fun m ρ _ => Cert.DownIdeal.Gen.frame m ρ,
  Cert.DownIdeal.Sound.reference_frame,
  fun m ρ _ => Cert.Dh2.Gen.frame m ρ,
  fun m ρ _ => Cert.Dh2Ideal.Gen.frame m ρ,
  Cert.Dh2Ideal.Sound.reference_frame,
  fun m ρ _ => Cert.Dh1.Gen.frame m ρ,
  fun m ρ _ => Cert.Dh1Ideal.Gen.frame m ρ,
  Cert.Dh1Ideal.Sound.reference_frame,
  fun m ρ _ => Cert.Mixer.Gen.frame m ρ,
  fun m ρ _ => Cert.MixerIdeal.Gen.frame m ρ,
  fun m ρ _ => Cert.MixerIdeal.Gen.frame m ρ,
  Cert.MixerIdeal.Sound.reference_frame,
  fun m ρ _ => Cert.MixerIdeal.Sound.reference_frame m ρ trivial,
  fun m ρ _ => Cert.Norm.Gen.frame m ρ,
  fun m ρ _ => Cert.NormIdeal.Gen.frame m ρ,
  Cert.NormIdeal.Sound.reference_frame,
  fun m ρ _ => Cert.Out.Gen.frame m ρ,
  fun m ρ _ => Cert.OutIdeal.Gen.frame m ρ,
  Cert.OutIdeal.Sound.reference_frame,
  fun m ρ _ => Cert.Mix.Gen.frame m ρ,
  fun m ρ _ => Cert.MixIdeal.Gen.frame m ρ,
  fun m ρ _ => Cert.MixIdeal.Gen.frame m ρ,
  Cert.MixIdeal.Sound.reference_frame,
  fun m ρ _ => Cert.MixIdeal.Sound.reference_frame m ρ trivial,
  fun m ρ _ => Cert.Proj.Gen.frame m ρ,
  fun m ρ _ => Cert.ProjIdeal.Gen.frame m ρ,
  Cert.ProjIdeal.Sound.reference_frame,
  fun m ρ _ => Cert.Dmixed.Gen.frame m ρ,
  fun m ρ _ => Cert.DmixedIdeal.Gen.frame m ρ,
  Cert.DmixedIdeal.Sound.reference_frame,
  fun m ρ _ => Cert.Dw.Gen.frame m ρ,
  fun m ρ _ => Cert.DwIdeal.Gen.frame m ρ,
  Cert.DwIdeal.Sound.reference_frame,
  fun m ρ _ => Cert.Adam.Gen.frame m ρ,
  fun m ρ _ => Cert.AdamIdeal.Gen.frame m ρ,
  Cert.AdamIdeal.Sound.reference_frame,
  fun m ρ _ => Cert.Sib.Gen.frame m ρ,
  fun m ρ _ => Cert.SibIdeal.Gen.frame m ρ,
  Cert.SibIdeal.Sound.reference_frame,
  fun m ρ _ => Cert.Chips.Gen.frame m ρ,
  fun m ρ _ => Cert.ChipsIdeal.Gen.frame m ρ,
  Cert.ChipsIdeal.Sound.reference_frame,
  fun m ρ _ => Cert.Pack.Gen.frame m ρ,
  fun m ρ _ => Cert.PackIdeal.Gen.frame m ρ,
  Cert.PackIdeal.Sound.reference_frame,
  trivial,
  Cert.DactIdeal.Sound.algebraic,
  trivial,
  Cert.DownIdeal.Sound.algebraic,
  trivial,
  Cert.Dh2Ideal.Sound.algebraic,
  trivial,
  Cert.Dh1Ideal.Sound.algebraic,
  Cert.MixerIdeal.Sound.preserves,
  Cert.MixerIdeal.Sound.algebraic,
  trivial,
  Cert.NormIdeal.Sound.algebraic,
  trivial,
  Cert.OutIdeal.Sound.algebraic,
  Cert.MixIdeal.Sound.preserves,
  Cert.MixIdeal.Sound.algebraic,
  trivial,
  Cert.ProjIdeal.Sound.algebraic,
  trivial,
  Cert.DmixedIdeal.Sound.algebraic,
  trivial,
  Cert.DwIdeal.Sound.algebraic,
  trivial,
  Cert.AdamIdeal.Sound.algebraic,
  trivial,
  Cert.SibIdeal.Sound.algebraic,
  trivial,
  Cert.ChipsIdeal.Sound.algebraic,
  trivial,
  Cert.PackIdeal.Sound.algebraic⟩

end Cert.Proof

end
